-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite2 [hPre_finite2 : Cert.Pre_finite2.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.1 = (fun _ => 1#1)
    ∧ (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.1 = (fun _ => 1#1)
    ∧ (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.1 = (fun _ => 1#1)
    ∧ (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.1 = (fun _ => 1#1)
    ∧ (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite2 [hPre_finite2 : Cert.Pre_finite2.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite4 [hPre_finite4 : Cert.Pre_finite4.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite4.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7))).1 = (fun _ => 1#1)
    ∧ (Cert.Pre_finite4.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7))).2.1 = (fun _ => 1#1)
    ∧ (Cert.Pre_finite4.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7))).2.2.1 = (fun _ => 1#1)
    ∧ (Cert.Pre_finite4.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7))).2.2.2.1 = (fun _ => 1#1)
    ∧ (Cert.Pre_finite4.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7))).2.2.2.2.1 = (fun _ => 1#1)
    ∧ (Cert.Pre_finite4.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7))).2.2.2.2.2.1 = (fun _ => 1#1)
    ∧ (Cert.Pre_finite4.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7))).2.2.2.2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite4 [hPre_finite4 : Cert.Pre_finite4.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite4.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7))).1 = (fun _ => 1#1)
    ∧ (Cert.Pre_finite4.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7))).2.1 = (fun _ => 1#1)
    ∧ (Cert.Pre_finite4.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7))).2.2.1 = (fun _ => 1#1)
    ∧ (Cert.Pre_finite4.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7))).2.2.2.1 = (fun _ => 1#1)
    ∧ (Cert.Pre_finite4.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7))).2.2.2.2.1 = (fun _ => 1#1)
    ∧ (Cert.Pre_finite4.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7))).2.2.2.2.2.1 = (fun _ => 1#1)
    ∧ (Cert.Pre_finite4.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7))).2.2.2.2.2.2 = (fun _ => 1#1)

def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_finite2 [hFfnKernelIdeal : Cert.FfnKernelIdeal.Facts] [hPre_finite2 : Cert.Pre_finite2.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite2 m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite2 [hFfnReferenceIdeal : Cert.FfnReferenceIdeal.Facts] [hPre_finite2 : Cert.Pre_finite2.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite2 m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11)
      ∧ r.2.mem ((c.tc : Thread Cert.MixKernel.nD Cert.MixKernel.τ).loc Cert.MixKernel.main_arg12) = m ((c.tc : Thread Cert.MixKernel.nD Cert.MixKernel.τ).loc Cert.MixKernel.main_arg12)
      ∧ r.2.mem ((c.tc : Thread Cert.MixKernel.nD Cert.MixKernel.τ).loc Cert.MixKernel.main_arg13) = m ((c.tc : Thread Cert.MixKernel.nD Cert.MixKernel.τ).loc Cert.MixKernel.main_arg13))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ r.2.sem = fun _ => 0)

def quiescent_InKernelIdeal_pre_finite4 [hInKernelIdeal : Cert.InKernelIdeal.Facts] [hPre_finite4 : Cert.Pre_finite4.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite4 m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def quiescent_InReferenceIdeal_pre_finite4 [hInReferenceIdeal : Cert.InReferenceIdeal.Facts] [hPre_finite4 : Cert.Pre_finite4.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite4 m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3)
      ∧ r.2.mem ((c.tc : Thread Cert.StepKernel.nD Cert.StepKernel.τ).loc Cert.StepKernel.main_arg4) = m ((c.tc : Thread Cert.StepKernel.nD Cert.StepKernel.τ).loc Cert.StepKernel.main_arg4)
      ∧ r.2.mem ((c.tc : Thread Cert.StepKernel.nD Cert.StepKernel.τ).loc Cert.StepKernel.main_arg5) = m ((c.tc : Thread Cert.StepKernel.nD Cert.StepKernel.τ).loc Cert.StepKernel.main_arg5)
      ∧ r.2.mem ((c.tc : Thread Cert.StepKernel.nD Cert.StepKernel.τ).loc Cert.StepKernel.main_arg6) = m ((c.tc : Thread Cert.StepKernel.nD Cert.StepKernel.τ).loc Cert.StepKernel.main_arg6)
      ∧ r.2.mem ((c.tc : Thread Cert.StepKernel.nD Cert.StepKernel.τ).loc Cert.StepKernel.main_arg7) = m ((c.tc : Thread Cert.StepKernel.nD Cert.StepKernel.τ).loc Cert.StepKernel.main_arg7)
      ∧ r.2.mem ((c.tc : Thread Cert.StepKernel.nD Cert.StepKernel.τ).loc Cert.StepKernel.main_arg8) = m ((c.tc : Thread Cert.StepKernel.nD Cert.StepKernel.τ).loc Cert.StepKernel.main_arg8)
      ∧ r.2.mem ((c.tc : Thread Cert.StepKernel.nD Cert.StepKernel.τ).loc Cert.StepKernel.main_arg9) = m ((c.tc : Thread Cert.StepKernel.nD Cert.StepKernel.τ).loc Cert.StepKernel.main_arg9)
      ∧ r.2.mem ((c.tc : Thread Cert.StepKernel.nD Cert.StepKernel.τ).loc Cert.StepKernel.main_arg10) = m ((c.tc : Thread Cert.StepKernel.nD Cert.StepKernel.τ).loc Cert.StepKernel.main_arg10)
      ∧ r.2.mem ((c.tc : Thread Cert.StepKernel.nD Cert.StepKernel.τ).loc Cert.StepKernel.main_arg11) = m ((c.tc : Thread Cert.StepKernel.nD Cert.StepKernel.τ).loc Cert.StepKernel.main_arg11)
      ∧ r.2.mem ((c.tc : Thread Cert.StepKernel.nD Cert.StepKernel.τ).loc Cert.StepKernel.main_arg12) = m ((c.tc : Thread Cert.StepKernel.nD Cert.StepKernel.τ).loc Cert.StepKernel.main_arg12)
      ∧ r.2.mem ((c.tc : Thread Cert.StepKernel.nD Cert.StepKernel.τ).loc Cert.StepKernel.main_arg13) = m ((c.tc : Thread Cert.StepKernel.nD Cert.StepKernel.τ).loc Cert.StepKernel.main_arg13)
      ∧ r.2.mem ((c.tc : Thread Cert.StepKernel.nD Cert.StepKernel.τ).loc Cert.StepKernel.main_arg14) = m ((c.tc : Thread Cert.StepKernel.nD Cert.StepKernel.τ).loc Cert.StepKernel.main_arg14)
      ∧ r.2.mem ((c.tc : Thread Cert.StepKernel.nD Cert.StepKernel.τ).loc Cert.StepKernel.main_arg15) = m ((c.tc : Thread Cert.StepKernel.nD Cert.StepKernel.τ).loc Cert.StepKernel.main_arg15)
      ∧ r.2.mem ((c.tc : Thread Cert.StepKernel.nD Cert.StepKernel.τ).loc Cert.StepKernel.main_arg16) = m ((c.tc : Thread Cert.StepKernel.nD Cert.StepKernel.τ).loc Cert.StepKernel.main_arg16)
      ∧ r.2.mem ((c.tc : Thread Cert.StepKernel.nD Cert.StepKernel.τ).loc Cert.StepKernel.main_arg17) = m ((c.tc : Thread Cert.StepKernel.nD Cert.StepKernel.τ).loc Cert.StepKernel.main_arg17)
      ∧ r.2.mem ((c.tc : Thread Cert.StepKernel.nD Cert.StepKernel.τ).loc Cert.StepKernel.main_arg18) = m ((c.tc : Thread Cert.StepKernel.nD Cert.StepKernel.τ).loc Cert.StepKernel.main_arg18)
      ∧ r.2.mem ((c.tc : Thread Cert.StepKernel.nD Cert.StepKernel.τ).loc Cert.StepKernel.main_arg19) = m ((c.tc : Thread Cert.StepKernel.nD Cert.StepKernel.τ).loc Cert.StepKernel.main_arg19)
      ∧ r.2.mem ((c.tc : Thread Cert.StepKernel.nD Cert.StepKernel.τ).loc Cert.StepKernel.main_arg20) = m ((c.tc : Thread Cert.StepKernel.nD Cert.StepKernel.τ).loc Cert.StepKernel.main_arg20)
      ∧ r.2.mem ((c.tc : Thread Cert.StepKernel.nD Cert.StepKernel.τ).loc Cert.StepKernel.main_arg21) = m ((c.tc : Thread Cert.StepKernel.nD Cert.StepKernel.τ).loc Cert.StepKernel.main_arg21)
      ∧ r.2.mem ((c.tc : Thread Cert.StepKernel.nD Cert.StepKernel.τ).loc Cert.StepKernel.main_arg22) = m ((c.tc : Thread Cert.StepKernel.nD Cert.StepKernel.τ).loc Cert.StepKernel.main_arg22)
      ∧ r.2.mem ((c.tc : Thread Cert.StepKernel.nD Cert.StepKernel.τ).loc Cert.StepKernel.main_arg23) = m ((c.tc : Thread Cert.StepKernel.nD Cert.StepKernel.τ).loc Cert.StepKernel.main_arg23)
      ∧ r.2.mem ((c.tc : Thread Cert.StepKernel.nD Cert.StepKernel.τ).loc Cert.StepKernel.main_arg24) = m ((c.tc : Thread Cert.StepKernel.nD Cert.StepKernel.τ).loc Cert.StepKernel.main_arg24)
      ∧ r.2.mem ((c.tc : Thread Cert.StepKernel.nD Cert.StepKernel.τ).loc Cert.StepKernel.main_arg25) = m ((c.tc : Thread Cert.StepKernel.nD Cert.StepKernel.τ).loc Cert.StepKernel.main_arg25)
      ∧ r.2.mem ((c.tc : Thread Cert.StepKernel.nD Cert.StepKernel.τ).loc Cert.StepKernel.main_arg26) = m ((c.tc : Thread Cert.StepKernel.nD Cert.StepKernel.τ).loc Cert.StepKernel.main_arg26)
      ∧ r.2.mem ((c.tc : Thread Cert.StepKernel.nD Cert.StepKernel.τ).loc Cert.StepKernel.main_arg27) = m ((c.tc : Thread Cert.StepKernel.nD Cert.StepKernel.τ).loc Cert.StepKernel.main_arg27)
      ∧ r.2.mem ((c.tc : Thread Cert.StepKernel.nD Cert.StepKernel.τ).loc Cert.StepKernel.main_arg28) = m ((c.tc : Thread Cert.StepKernel.nD Cert.StepKernel.τ).loc Cert.StepKernel.main_arg28)
      ∧ r.2.mem ((c.tc : Thread Cert.StepKernel.nD Cert.StepKernel.τ).loc Cert.StepKernel.main_arg29) = m ((c.tc : Thread Cert.StepKernel.nD Cert.StepKernel.τ).loc Cert.StepKernel.main_arg29)
      ∧ r.2.mem ((c.tc : Thread Cert.StepKernel.nD Cert.StepKernel.τ).loc Cert.StepKernel.main_arg30) = m ((c.tc : Thread Cert.StepKernel.nD Cert.StepKernel.τ).loc Cert.StepKernel.main_arg30))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
      ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
      ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
      ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6)
      ∧ r.2.mem ((c.tc : Thread Cert.StepKernelIdeal.nD Cert.StepKernelIdeal.τ).loc Cert.StepKernelIdeal.main_arg7) = m ((c.tc : Thread Cert.StepKernelIdeal.nD Cert.StepKernelIdeal.τ).loc Cert.StepKernelIdeal.main_arg7)
      ∧ r.2.mem ((c.tc : Thread Cert.StepKernelIdeal.nD Cert.StepKernelIdeal.τ).loc Cert.StepKernelIdeal.main_arg8) = m ((c.tc : Thread Cert.StepKernelIdeal.nD Cert.StepKernelIdeal.τ).loc Cert.StepKernelIdeal.main_arg8)
      ∧ r.2.mem ((c.tc : Thread Cert.StepKernelIdeal.nD Cert.StepKernelIdeal.τ).loc Cert.StepKernelIdeal.main_arg9) = m ((c.tc : Thread Cert.StepKernelIdeal.nD Cert.StepKernelIdeal.τ).loc Cert.StepKernelIdeal.main_arg9)
      ∧ r.2.mem ((c.tc : Thread Cert.StepKernelIdeal.nD Cert.StepKernelIdeal.τ).loc Cert.StepKernelIdeal.main_arg10) = m ((c.tc : Thread Cert.StepKernelIdeal.nD Cert.StepKernelIdeal.τ).loc Cert.StepKernelIdeal.main_arg10)
      ∧ r.2.mem ((c.tc : Thread Cert.StepKernelIdeal.nD Cert.StepKernelIdeal.τ).loc Cert.StepKernelIdeal.main_arg11) = m ((c.tc : Thread Cert.StepKernelIdeal.nD Cert.StepKernelIdeal.τ).loc Cert.StepKernelIdeal.main_arg11)
      ∧ r.2.mem ((c.tc : Thread Cert.StepKernelIdeal.nD Cert.StepKernelIdeal.τ).loc Cert.StepKernelIdeal.main_arg12) = m ((c.tc : Thread Cert.StepKernelIdeal.nD Cert.StepKernelIdeal.τ).loc Cert.StepKernelIdeal.main_arg12)
      ∧ r.2.mem ((c.tc : Thread Cert.StepKernelIdeal.nD Cert.StepKernelIdeal.τ).loc Cert.StepKernelIdeal.main_arg13) = m ((c.tc : Thread Cert.StepKernelIdeal.nD Cert.StepKernelIdeal.τ).loc Cert.StepKernelIdeal.main_arg13)
      ∧ r.2.mem ((c.tc : Thread Cert.StepKernelIdeal.nD Cert.StepKernelIdeal.τ).loc Cert.StepKernelIdeal.main_arg14) = m ((c.tc : Thread Cert.StepKernelIdeal.nD Cert.StepKernelIdeal.τ).loc Cert.StepKernelIdeal.main_arg14)
      ∧ r.2.mem ((c.tc : Thread Cert.StepKernelIdeal.nD Cert.StepKernelIdeal.τ).loc Cert.StepKernelIdeal.main_arg15) = m ((c.tc : Thread Cert.StepKernelIdeal.nD Cert.StepKernelIdeal.τ).loc Cert.StepKernelIdeal.main_arg15)
      ∧ r.2.mem ((c.tc : Thread Cert.StepKernelIdeal.nD Cert.StepKernelIdeal.τ).loc Cert.StepKernelIdeal.main_arg16) = m ((c.tc : Thread Cert.StepKernelIdeal.nD Cert.StepKernelIdeal.τ).loc Cert.StepKernelIdeal.main_arg16)
      ∧ r.2.mem ((c.tc : Thread Cert.StepKernelIdeal.nD Cert.StepKernelIdeal.τ).loc Cert.StepKernelIdeal.main_arg17) = m ((c.tc : Thread Cert.StepKernelIdeal.nD Cert.StepKernelIdeal.τ).loc Cert.StepKernelIdeal.main_arg17)
      ∧ r.2.mem ((c.tc : Thread Cert.StepKernelIdeal.nD Cert.StepKernelIdeal.τ).loc Cert.StepKernelIdeal.main_arg18) = m ((c.tc : Thread Cert.StepKernelIdeal.nD Cert.StepKernelIdeal.τ).loc Cert.StepKernelIdeal.main_arg18)
      ∧ r.2.mem ((c.tc : Thread Cert.StepKernelIdeal.nD Cert.StepKernelIdeal.τ).loc Cert.StepKernelIdeal.main_arg19) = m ((c.tc : Thread Cert.StepKernelIdeal.nD Cert.StepKernelIdeal.τ).loc Cert.StepKernelIdeal.main_arg19)
      ∧ r.2.mem ((c.tc : Thread Cert.StepKernelIdeal.nD Cert.StepKernelIdeal.τ).loc Cert.StepKernelIdeal.main_arg20) = m ((c.tc : Thread Cert.StepKernelIdeal.nD Cert.StepKernelIdeal.τ).loc Cert.StepKernelIdeal.main_arg20)
      ∧ r.2.mem ((c.tc : Thread Cert.StepKernelIdeal.nD Cert.StepKernelIdeal.τ).loc Cert.StepKernelIdeal.main_arg21) = m ((c.tc : Thread Cert.StepKernelIdeal.nD Cert.StepKernelIdeal.τ).loc Cert.StepKernelIdeal.main_arg21)
      ∧ r.2.mem ((c.tc : Thread Cert.StepKernelIdeal.nD Cert.StepKernelIdeal.τ).loc Cert.StepKernelIdeal.main_arg22) = m ((c.tc : Thread Cert.StepKernelIdeal.nD Cert.StepKernelIdeal.τ).loc Cert.StepKernelIdeal.main_arg22)
      ∧ r.2.mem ((c.tc : Thread Cert.StepKernelIdeal.nD Cert.StepKernelIdeal.τ).loc Cert.StepKernelIdeal.main_arg23) = m ((c.tc : Thread Cert.StepKernelIdeal.nD Cert.StepKernelIdeal.τ).loc Cert.StepKernelIdeal.main_arg23)
      ∧ r.2.mem ((c.tc : Thread Cert.StepKernelIdeal.nD Cert.StepKernelIdeal.τ).loc Cert.StepKernelIdeal.main_arg24) = m ((c.tc : Thread Cert.StepKernelIdeal.nD Cert.StepKernelIdeal.τ).loc Cert.StepKernelIdeal.main_arg24)
      ∧ r.2.mem ((c.tc : Thread Cert.StepKernelIdeal.nD Cert.StepKernelIdeal.τ).loc Cert.StepKernelIdeal.main_arg25) = m ((c.tc : Thread Cert.StepKernelIdeal.nD Cert.StepKernelIdeal.τ).loc Cert.StepKernelIdeal.main_arg25)
      ∧ r.2.mem ((c.tc : Thread Cert.StepKernelIdeal.nD Cert.StepKernelIdeal.τ).loc Cert.StepKernelIdeal.main_arg26) = m ((c.tc : Thread Cert.StepKernelIdeal.nD Cert.StepKernelIdeal.τ).loc Cert.StepKernelIdeal.main_arg26)
      ∧ r.2.mem ((c.tc : Thread Cert.StepKernelIdeal.nD Cert.StepKernelIdeal.τ).loc Cert.StepKernelIdeal.main_arg27) = m ((c.tc : Thread Cert.StepKernelIdeal.nD Cert.StepKernelIdeal.τ).loc Cert.StepKernelIdeal.main_arg27)
      ∧ r.2.mem ((c.tc : Thread Cert.StepKernelIdeal.nD Cert.StepKernelIdeal.τ).loc Cert.StepKernelIdeal.main_arg28) = m ((c.tc : Thread Cert.StepKernelIdeal.nD Cert.StepKernelIdeal.τ).loc Cert.StepKernelIdeal.main_arg28)
      ∧ r.2.mem ((c.tc : Thread Cert.StepKernelIdeal.nD Cert.StepKernelIdeal.τ).loc Cert.StepKernelIdeal.main_arg29) = m ((c.tc : Thread Cert.StepKernelIdeal.nD Cert.StepKernelIdeal.τ).loc Cert.StepKernelIdeal.main_arg29)
      ∧ r.2.mem ((c.tc : Thread Cert.StepKernelIdeal.nD Cert.StepKernelIdeal.τ).loc Cert.StepKernelIdeal.main_arg30) = m ((c.tc : Thread Cert.StepKernelIdeal.nD Cert.StepKernelIdeal.τ).loc Cert.StepKernelIdeal.main_arg30))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7)
      ∧ r.2.mem ((c.tc : Thread Cert.StepReferenceIdeal.nD Cert.StepReferenceIdeal.τ).loc Cert.StepReferenceIdeal.main_arg8) = m ((c.tc : Thread Cert.StepReferenceIdeal.nD Cert.StepReferenceIdeal.τ).loc Cert.StepReferenceIdeal.main_arg8)
      ∧ r.2.mem ((c.tc : Thread Cert.StepReferenceIdeal.nD Cert.StepReferenceIdeal.τ).loc Cert.StepReferenceIdeal.main_arg9) = m ((c.tc : Thread Cert.StepReferenceIdeal.nD Cert.StepReferenceIdeal.τ).loc Cert.StepReferenceIdeal.main_arg9)
      ∧ r.2.mem ((c.tc : Thread Cert.StepReferenceIdeal.nD Cert.StepReferenceIdeal.τ).loc Cert.StepReferenceIdeal.main_arg10) = m ((c.tc : Thread Cert.StepReferenceIdeal.nD Cert.StepReferenceIdeal.τ).loc Cert.StepReferenceIdeal.main_arg10)
      ∧ r.2.mem ((c.tc : Thread Cert.StepReferenceIdeal.nD Cert.StepReferenceIdeal.τ).loc Cert.StepReferenceIdeal.main_arg11) = m ((c.tc : Thread Cert.StepReferenceIdeal.nD Cert.StepReferenceIdeal.τ).loc Cert.StepReferenceIdeal.main_arg11)
      ∧ r.2.mem ((c.tc : Thread Cert.StepReferenceIdeal.nD Cert.StepReferenceIdeal.τ).loc Cert.StepReferenceIdeal.main_arg12) = m ((c.tc : Thread Cert.StepReferenceIdeal.nD Cert.StepReferenceIdeal.τ).loc Cert.StepReferenceIdeal.main_arg12)
      ∧ r.2.mem ((c.tc : Thread Cert.StepReferenceIdeal.nD Cert.StepReferenceIdeal.τ).loc Cert.StepReferenceIdeal.main_arg13) = m ((c.tc : Thread Cert.StepReferenceIdeal.nD Cert.StepReferenceIdeal.τ).loc Cert.StepReferenceIdeal.main_arg13)
      ∧ r.2.mem ((c.tc : Thread Cert.StepReferenceIdeal.nD Cert.StepReferenceIdeal.τ).loc Cert.StepReferenceIdeal.main_arg14) = m ((c.tc : Thread Cert.StepReferenceIdeal.nD Cert.StepReferenceIdeal.τ).loc Cert.StepReferenceIdeal.main_arg14)
      ∧ r.2.mem ((c.tc : Thread Cert.StepReferenceIdeal.nD Cert.StepReferenceIdeal.τ).loc Cert.StepReferenceIdeal.main_arg15) = m ((c.tc : Thread Cert.StepReferenceIdeal.nD Cert.StepReferenceIdeal.τ).loc Cert.StepReferenceIdeal.main_arg15)
      ∧ r.2.mem ((c.tc : Thread Cert.StepReferenceIdeal.nD Cert.StepReferenceIdeal.τ).loc Cert.StepReferenceIdeal.main_arg16) = m ((c.tc : Thread Cert.StepReferenceIdeal.nD Cert.StepReferenceIdeal.τ).loc Cert.StepReferenceIdeal.main_arg16)
      ∧ r.2.mem ((c.tc : Thread Cert.StepReferenceIdeal.nD Cert.StepReferenceIdeal.τ).loc Cert.StepReferenceIdeal.main_arg17) = m ((c.tc : Thread Cert.StepReferenceIdeal.nD Cert.StepReferenceIdeal.τ).loc Cert.StepReferenceIdeal.main_arg17)
      ∧ r.2.mem ((c.tc : Thread Cert.StepReferenceIdeal.nD Cert.StepReferenceIdeal.τ).loc Cert.StepReferenceIdeal.main_arg18) = m ((c.tc : Thread Cert.StepReferenceIdeal.nD Cert.StepReferenceIdeal.τ).loc Cert.StepReferenceIdeal.main_arg18)
      ∧ r.2.mem ((c.tc : Thread Cert.StepReferenceIdeal.nD Cert.StepReferenceIdeal.τ).loc Cert.StepReferenceIdeal.main_arg19) = m ((c.tc : Thread Cert.StepReferenceIdeal.nD Cert.StepReferenceIdeal.τ).loc Cert.StepReferenceIdeal.main_arg19)
      ∧ r.2.mem ((c.tc : Thread Cert.StepReferenceIdeal.nD Cert.StepReferenceIdeal.τ).loc Cert.StepReferenceIdeal.main_arg20) = m ((c.tc : Thread Cert.StepReferenceIdeal.nD Cert.StepReferenceIdeal.τ).loc Cert.StepReferenceIdeal.main_arg20)
      ∧ r.2.mem ((c.tc : Thread Cert.StepReferenceIdeal.nD Cert.StepReferenceIdeal.τ).loc Cert.StepReferenceIdeal.main_arg21) = m ((c.tc : Thread Cert.StepReferenceIdeal.nD Cert.StepReferenceIdeal.τ).loc Cert.StepReferenceIdeal.main_arg21)
      ∧ r.2.mem ((c.tc : Thread Cert.StepReferenceIdeal.nD Cert.StepReferenceIdeal.τ).loc Cert.StepReferenceIdeal.main_arg22) = m ((c.tc : Thread Cert.StepReferenceIdeal.nD Cert.StepReferenceIdeal.τ).loc Cert.StepReferenceIdeal.main_arg22)
      ∧ r.2.mem ((c.tc : Thread Cert.StepReferenceIdeal.nD Cert.StepReferenceIdeal.τ).loc Cert.StepReferenceIdeal.main_arg23) = m ((c.tc : Thread Cert.StepReferenceIdeal.nD Cert.StepReferenceIdeal.τ).loc Cert.StepReferenceIdeal.main_arg23)
      ∧ r.2.mem ((c.tc : Thread Cert.StepReferenceIdeal.nD Cert.StepReferenceIdeal.τ).loc Cert.StepReferenceIdeal.main_arg24) = m ((c.tc : Thread Cert.StepReferenceIdeal.nD Cert.StepReferenceIdeal.τ).loc Cert.StepReferenceIdeal.main_arg24)
      ∧ r.2.mem ((c.tc : Thread Cert.StepReferenceIdeal.nD Cert.StepReferenceIdeal.τ).loc Cert.StepReferenceIdeal.main_arg25) = m ((c.tc : Thread Cert.StepReferenceIdeal.nD Cert.StepReferenceIdeal.τ).loc Cert.StepReferenceIdeal.main_arg25)
      ∧ r.2.mem ((c.tc : Thread Cert.StepReferenceIdeal.nD Cert.StepReferenceIdeal.τ).loc Cert.StepReferenceIdeal.main_arg26) = m ((c.tc : Thread Cert.StepReferenceIdeal.nD Cert.StepReferenceIdeal.τ).loc Cert.StepReferenceIdeal.main_arg26)
      ∧ r.2.mem ((c.tc : Thread Cert.StepReferenceIdeal.nD Cert.StepReferenceIdeal.τ).loc Cert.StepReferenceIdeal.main_arg27) = m ((c.tc : Thread Cert.StepReferenceIdeal.nD Cert.StepReferenceIdeal.τ).loc Cert.StepReferenceIdeal.main_arg27)
      ∧ r.2.mem ((c.tc : Thread Cert.StepReferenceIdeal.nD Cert.StepReferenceIdeal.τ).loc Cert.StepReferenceIdeal.main_arg28) = m ((c.tc : Thread Cert.StepReferenceIdeal.nD Cert.StepReferenceIdeal.τ).loc Cert.StepReferenceIdeal.main_arg28)
      ∧ r.2.mem ((c.tc : Thread Cert.StepReferenceIdeal.nD Cert.StepReferenceIdeal.τ).loc Cert.StepReferenceIdeal.main_arg29) = m ((c.tc : Thread Cert.StepReferenceIdeal.nD Cert.StepReferenceIdeal.τ).loc Cert.StepReferenceIdeal.main_arg29)
      ∧ r.2.mem ((c.tc : Thread Cert.StepReferenceIdeal.nD Cert.StepReferenceIdeal.τ).loc Cert.StepReferenceIdeal.main_arg30) = m ((c.tc : Thread Cert.StepReferenceIdeal.nD Cert.StepReferenceIdeal.τ).loc Cert.StepReferenceIdeal.main_arg30))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnKernel_FfnKernelIdeal : Prop :=
  True

def algebraic_FfnKernelIdeal_FfnReferenceIdeal_pre_finite2 [hFfnKernelIdeal : Cert.FfnKernelIdeal.Facts] [hFfnReferenceIdeal : Cert.FfnReferenceIdeal.Facts] [hPre_finite2 : Cert.Pre_finite2.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite2 m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v2)) (v1 : (c : Dev Cert.FfnKernelIdeal.nD) → Buf (Elt Ideal) ((c.tc : Thread Cert.FfnKernelIdeal.nD Cert.FfnKernelIdeal.τ).loc Cert.FfnKernelIdeal.main_v6)) (v2 : (c : Dev Cert.FfnKernelIdeal.nD) → Buf (Elt Ideal) ((c.tc : Thread Cert.FfnKernelIdeal.nD Cert.FfnKernelIdeal.τ).loc Cert.FfnKernelIdeal.main_v7)) (v3 : (c : Dev Cert.FfnKernelIdeal.nD) → Buf (Elt Ideal) ((c.tc : Thread Cert.FfnKernelIdeal.nD Cert.FfnKernelIdeal.τ).loc Cert.FfnKernelIdeal.main_v5_1)) (v4 : (c : Dev Cert.FfnKernelIdeal.nD) → Buf (Elt Ideal) ((c.tc : Thread Cert.FfnKernelIdeal.nD Cert.FfnKernelIdeal.τ).loc Cert.FfnKernelIdeal.main_v5_2)) (v5 : (c : Dev Cert.FfnKernelIdeal.nD) → Buf (Elt Ideal) ((c.tc : Thread Cert.FfnKernelIdeal.nD Cert.FfnKernelIdeal.τ).loc Cert.FfnKernelIdeal.main_v4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2) = v0 c
          ∧ r.2.mem ((c.tc : Thread Cert.FfnKernelIdeal.nD Cert.FfnKernelIdeal.τ).loc Cert.FfnKernelIdeal.main_v6) = v1 c
          ∧ r.2.mem ((c.tc : Thread Cert.FfnKernelIdeal.nD Cert.FfnKernelIdeal.τ).loc Cert.FfnKernelIdeal.main_v7) = v2 c
          ∧ r.2.mem ((c.tc : Thread Cert.FfnKernelIdeal.nD Cert.FfnKernelIdeal.τ).loc Cert.FfnKernelIdeal.main_v5_1) = v3 c
          ∧ r.2.mem ((c.tc : Thread Cert.FfnKernelIdeal.nD Cert.FfnKernelIdeal.τ).loc Cert.FfnKernelIdeal.main_v5_2) = v4 c
          ∧ r.2.mem ((c.tc : Thread Cert.FfnKernelIdeal.nD Cert.FfnKernelIdeal.τ).loc Cert.FfnKernelIdeal.main_v4) = v5 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v35) = v0 c
          ∧ r.2.mem ((c.tc : Thread Cert.FfnReferenceIdeal.nD Cert.FfnReferenceIdeal.τ).loc Cert.FfnReferenceIdeal.main_v83) = v1 c
          ∧ r.2.mem ((c.tc : Thread Cert.FfnReferenceIdeal.nD Cert.FfnReferenceIdeal.τ).loc Cert.FfnReferenceIdeal.main_v86) = v2 c
          ∧ r.2.mem ((c.tc : Thread Cert.FfnReferenceIdeal.nD Cert.FfnReferenceIdeal.τ).loc Cert.FfnReferenceIdeal.main_v91) = v3 c
          ∧ r.2.mem ((c.tc : Thread Cert.FfnReferenceIdeal.nD Cert.FfnReferenceIdeal.τ).loc Cert.FfnReferenceIdeal.main_v96) = v4 c
          ∧ r.2.mem ((c.tc : Thread Cert.FfnReferenceIdeal.nD Cert.FfnReferenceIdeal.τ).loc Cert.FfnReferenceIdeal.main_v97) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)
      ∧ m' ((c.tc : Thread Cert.MixReferenceIdeal.nD Cert.MixReferenceIdeal.τ).loc Cert.MixReferenceIdeal.main_arg12) = m ((c.tc : Thread Cert.MixKernelIdeal.nD Cert.MixKernelIdeal.τ).loc Cert.MixKernelIdeal.main_arg12)
      ∧ m' ((c.tc : Thread Cert.MixReferenceIdeal.nD Cert.MixReferenceIdeal.τ).loc Cert.MixReferenceIdeal.main_arg13) = m ((c.tc : Thread Cert.MixKernelIdeal.nD Cert.MixKernelIdeal.τ).loc Cert.MixKernelIdeal.main_arg13)) →
    ∃ (v0 : (c : Dev Cert.MixKernelIdeal.nD) → Buf (Elt Ideal) ((c.tc : Thread Cert.MixKernelIdeal.nD Cert.MixKernelIdeal.τ).loc Cert.MixKernelIdeal.main_v1)) (v1 : (c : Dev Cert.MixKernelIdeal.nD) → Buf (Elt Ideal) ((c.tc : Thread Cert.MixKernelIdeal.nD Cert.MixKernelIdeal.τ).loc Cert.MixKernelIdeal.main_v2)) (v2 : (c : Dev Cert.MixKernelIdeal.nD) → Buf (Elt Ideal) ((c.tc : Thread Cert.MixKernelIdeal.nD Cert.MixKernelIdeal.τ).loc Cert.MixKernelIdeal.main_v3)) (v3 : (c : Dev Cert.MixKernelIdeal.nD) → Buf (Elt Ideal) ((c.tc : Thread Cert.MixKernelIdeal.nD Cert.MixKernelIdeal.τ).loc Cert.MixKernelIdeal.main_v4)) (v4 : (c : Dev Cert.MixKernelIdeal.nD) → Buf (Elt Ideal) ((c.tc : Thread Cert.MixKernelIdeal.nD Cert.MixKernelIdeal.τ).loc Cert.MixKernelIdeal.main_v5)) (v5 : (c : Dev Cert.MixKernelIdeal.nD) → Buf (Elt Ideal) ((c.tc : Thread Cert.MixKernelIdeal.nD Cert.MixKernelIdeal.τ).loc Cert.MixKernelIdeal.main_v6)) (v6 : (c : Dev Cert.MixKernelIdeal.nD) → Buf (Elt Ideal) ((c.tc : Thread Cert.MixKernelIdeal.nD Cert.MixKernelIdeal.τ).loc Cert.MixKernelIdeal.main_v7)) (v7 : (c : Dev Cert.MixKernelIdeal.nD) → Buf (Elt Ideal) ((c.tc : Thread Cert.MixKernelIdeal.nD Cert.MixKernelIdeal.τ).loc Cert.MixKernelIdeal.main_v8)) (v8 : (c : Dev Cert.MixKernelIdeal.nD) → Buf (Elt Ideal) ((c.tc : Thread Cert.MixKernelIdeal.nD Cert.MixKernelIdeal.τ).loc Cert.MixKernelIdeal.main_v9)) (v9 : (c : Dev Cert.MixKernelIdeal.nD) → Buf (Elt Ideal) ((c.tc : Thread Cert.MixKernelIdeal.nD Cert.MixKernelIdeal.τ).loc Cert.MixKernelIdeal.main_v10)) (v10 : (c : Dev Cert.MixKernelIdeal.nD) → Buf (Elt Ideal) ((c.tc : Thread Cert.MixKernelIdeal.nD Cert.MixKernelIdeal.τ).loc Cert.MixKernelIdeal.main_v11)) (v11 : (c : Dev Cert.MixKernelIdeal.nD) → Buf (Elt Ideal) ((c.tc : Thread Cert.MixKernelIdeal.nD Cert.MixKernelIdeal.τ).loc Cert.MixKernelIdeal.main_v12)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v1) = v0 c
          ∧ r.2.mem ((c.tc : Thread Cert.MixKernelIdeal.nD Cert.MixKernelIdeal.τ).loc Cert.MixKernelIdeal.main_v2) = v1 c
          ∧ r.2.mem ((c.tc : Thread Cert.MixKernelIdeal.nD Cert.MixKernelIdeal.τ).loc Cert.MixKernelIdeal.main_v3) = v2 c
          ∧ r.2.mem ((c.tc : Thread Cert.MixKernelIdeal.nD Cert.MixKernelIdeal.τ).loc Cert.MixKernelIdeal.main_v4) = v3 c
          ∧ r.2.mem ((c.tc : Thread Cert.MixKernelIdeal.nD Cert.MixKernelIdeal.τ).loc Cert.MixKernelIdeal.main_v5) = v4 c
          ∧ r.2.mem ((c.tc : Thread Cert.MixKernelIdeal.nD Cert.MixKernelIdeal.τ).loc Cert.MixKernelIdeal.main_v6) = v5 c
          ∧ r.2.mem ((c.tc : Thread Cert.MixKernelIdeal.nD Cert.MixKernelIdeal.τ).loc Cert.MixKernelIdeal.main_v7) = v6 c
          ∧ r.2.mem ((c.tc : Thread Cert.MixKernelIdeal.nD Cert.MixKernelIdeal.τ).loc Cert.MixKernelIdeal.main_v8) = v7 c
          ∧ r.2.mem ((c.tc : Thread Cert.MixKernelIdeal.nD Cert.MixKernelIdeal.τ).loc Cert.MixKernelIdeal.main_v9) = v8 c
          ∧ r.2.mem ((c.tc : Thread Cert.MixKernelIdeal.nD Cert.MixKernelIdeal.τ).loc Cert.MixKernelIdeal.main_v10) = v9 c
          ∧ r.2.mem ((c.tc : Thread Cert.MixKernelIdeal.nD Cert.MixKernelIdeal.τ).loc Cert.MixKernelIdeal.main_v11) = v10 c
          ∧ r.2.mem ((c.tc : Thread Cert.MixKernelIdeal.nD Cert.MixKernelIdeal.τ).loc Cert.MixKernelIdeal.main_v12) = v11 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
          ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
          ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v15) = v0 c
          ∧ r.2.mem ((c.tc : Thread Cert.MixReferenceIdeal.nD Cert.MixReferenceIdeal.τ).loc Cert.MixReferenceIdeal.main_v19) = v1 c
          ∧ r.2.mem ((c.tc : Thread Cert.MixReferenceIdeal.nD Cert.MixReferenceIdeal.τ).loc Cert.MixReferenceIdeal.main_v20) = v2 c
          ∧ r.2.mem ((c.tc : Thread Cert.MixReferenceIdeal.nD Cert.MixReferenceIdeal.τ).loc Cert.MixReferenceIdeal.main_v23) = v3 c
          ∧ r.2.mem ((c.tc : Thread Cert.MixReferenceIdeal.nD Cert.MixReferenceIdeal.τ).loc Cert.MixReferenceIdeal.main_v31) = v4 c
          ∧ r.2.mem ((c.tc : Thread Cert.MixReferenceIdeal.nD Cert.MixReferenceIdeal.τ).loc Cert.MixReferenceIdeal.main_v39) = v5 c
          ∧ r.2.mem ((c.tc : Thread Cert.MixReferenceIdeal.nD Cert.MixReferenceIdeal.τ).loc Cert.MixReferenceIdeal.main_v43) = v6 c
          ∧ r.2.mem ((c.tc : Thread Cert.MixReferenceIdeal.nD Cert.MixReferenceIdeal.τ).loc Cert.MixReferenceIdeal.main_v44) = v7 c
          ∧ r.2.mem ((c.tc : Thread Cert.MixReferenceIdeal.nD Cert.MixReferenceIdeal.τ).loc Cert.MixReferenceIdeal.main_v35) = v8 c
          ∧ r.2.mem ((c.tc : Thread Cert.MixReferenceIdeal.nD Cert.MixReferenceIdeal.τ).loc Cert.MixReferenceIdeal.main_v36) = v9 c
          ∧ r.2.mem ((c.tc : Thread Cert.MixReferenceIdeal.nD Cert.MixReferenceIdeal.τ).loc Cert.MixReferenceIdeal.main_v27) = v10 c
          ∧ r.2.mem ((c.tc : Thread Cert.MixReferenceIdeal.nD Cert.MixReferenceIdeal.τ).loc Cert.MixReferenceIdeal.main_v28) = v11 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def preserves_InKernel_InKernelIdeal : Prop :=
  True

def algebraic_InKernelIdeal_InReferenceIdeal_pre_finite4 [hInKernelIdeal : Cert.InKernelIdeal.Facts] [hInReferenceIdeal : Cert.InReferenceIdeal.Facts] [hPre_finite4 : Cert.Pre_finite4.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite4 m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)) →
    ∃ (v0 : (c : Dev Cert.InKernelIdeal.nD) → Buf (Elt Ideal) ((c.tc : Thread Cert.InKernelIdeal.nD Cert.InKernelIdeal.τ).loc Cert.InKernelIdeal.main_v0)) (v1 : (c : Dev Cert.InKernelIdeal.nD) → Buf (Elt Ideal) ((c.tc : Thread Cert.InKernelIdeal.nD Cert.InKernelIdeal.τ).loc Cert.InKernelIdeal.main_v1)) (v2 : (c : Dev Cert.InKernelIdeal.nD) → Buf (Elt Ideal) ((c.tc : Thread Cert.InKernelIdeal.nD Cert.InKernelIdeal.τ).loc Cert.InKernelIdeal.main_v4)) (v3 : (c : Dev Cert.InKernelIdeal.nD) → Buf (Elt Ideal) ((c.tc : Thread Cert.InKernelIdeal.nD Cert.InKernelIdeal.τ).loc Cert.InKernelIdeal.main_v3)) (v4 : (c : Dev Cert.InKernelIdeal.nD) → Buf (Elt Ideal) ((c.tc : Thread Cert.InKernelIdeal.nD Cert.InKernelIdeal.τ).loc Cert.InKernelIdeal.main_v2_1)) (v5 : (c : Dev Cert.InKernelIdeal.nD) → Buf (Elt Ideal) ((c.tc : Thread Cert.InKernelIdeal.nD Cert.InKernelIdeal.τ).loc Cert.InKernelIdeal.main_v2_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_v1) = v1 c
          ∧ r.2.mem ((c.tc : Thread Cert.InKernelIdeal.nD Cert.InKernelIdeal.τ).loc Cert.InKernelIdeal.main_v4) = v2 c
          ∧ r.2.mem ((c.tc : Thread Cert.InKernelIdeal.nD Cert.InKernelIdeal.τ).loc Cert.InKernelIdeal.main_v3) = v3 c
          ∧ r.2.mem ((c.tc : Thread Cert.InKernelIdeal.nD Cert.InKernelIdeal.τ).loc Cert.InKernelIdeal.main_v2_1) = v4 c
          ∧ r.2.mem ((c.tc : Thread Cert.InKernelIdeal.nD Cert.InKernelIdeal.τ).loc Cert.InKernelIdeal.main_v2_2) = v5 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_v39_0) = v1 c
          ∧ r.2.mem ((c.tc : Thread Cert.InReferenceIdeal.nD Cert.InReferenceIdeal.τ).loc Cert.InReferenceIdeal.main_v100) = v2 c
          ∧ r.2.mem ((c.tc : Thread Cert.InReferenceIdeal.nD Cert.InReferenceIdeal.τ).loc Cert.InReferenceIdeal.main_v101) = v3 c
          ∧ r.2.mem ((c.tc : Thread Cert.InReferenceIdeal.nD Cert.InReferenceIdeal.τ).loc Cert.InReferenceIdeal.main_v89) = v4 c
          ∧ r.2.mem ((c.tc : Thread Cert.InReferenceIdeal.nD Cert.InReferenceIdeal.τ).loc Cert.InReferenceIdeal.main_v49) = v5 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7))

def preserves_StepKernel_StepKernelIdeal : Prop :=
  True

def algebraic_StepKernelIdeal_StepReferenceIdeal [hStepKernelIdeal : Cert.StepKernelIdeal.Facts] [hStepReferenceIdeal : Cert.StepReferenceIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)
      ∧ m' ((c.tc : Thread Cert.StepReferenceIdeal.nD Cert.StepReferenceIdeal.τ).loc Cert.StepReferenceIdeal.main_arg4) = m ((c.tc : Thread Cert.StepKernelIdeal.nD Cert.StepKernelIdeal.τ).loc Cert.StepKernelIdeal.main_arg4)
      ∧ m' ((c.tc : Thread Cert.StepReferenceIdeal.nD Cert.StepReferenceIdeal.τ).loc Cert.StepReferenceIdeal.main_arg5) = m ((c.tc : Thread Cert.StepKernelIdeal.nD Cert.StepKernelIdeal.τ).loc Cert.StepKernelIdeal.main_arg5)
      ∧ m' ((c.tc : Thread Cert.StepReferenceIdeal.nD Cert.StepReferenceIdeal.τ).loc Cert.StepReferenceIdeal.main_arg6) = m ((c.tc : Thread Cert.StepKernelIdeal.nD Cert.StepKernelIdeal.τ).loc Cert.StepKernelIdeal.main_arg6)
      ∧ m' ((c.tc : Thread Cert.StepReferenceIdeal.nD Cert.StepReferenceIdeal.τ).loc Cert.StepReferenceIdeal.main_arg7) = m ((c.tc : Thread Cert.StepKernelIdeal.nD Cert.StepKernelIdeal.τ).loc Cert.StepKernelIdeal.main_arg7)
      ∧ m' ((c.tc : Thread Cert.StepReferenceIdeal.nD Cert.StepReferenceIdeal.τ).loc Cert.StepReferenceIdeal.main_arg8) = m ((c.tc : Thread Cert.StepKernelIdeal.nD Cert.StepKernelIdeal.τ).loc Cert.StepKernelIdeal.main_arg8)
      ∧ m' ((c.tc : Thread Cert.StepReferenceIdeal.nD Cert.StepReferenceIdeal.τ).loc Cert.StepReferenceIdeal.main_arg9) = m ((c.tc : Thread Cert.StepKernelIdeal.nD Cert.StepKernelIdeal.τ).loc Cert.StepKernelIdeal.main_arg9)
      ∧ m' ((c.tc : Thread Cert.StepReferenceIdeal.nD Cert.StepReferenceIdeal.τ).loc Cert.StepReferenceIdeal.main_arg10) = m ((c.tc : Thread Cert.StepKernelIdeal.nD Cert.StepKernelIdeal.τ).loc Cert.StepKernelIdeal.main_arg10)
      ∧ m' ((c.tc : Thread Cert.StepReferenceIdeal.nD Cert.StepReferenceIdeal.τ).loc Cert.StepReferenceIdeal.main_arg11) = m ((c.tc : Thread Cert.StepKernelIdeal.nD Cert.StepKernelIdeal.τ).loc Cert.StepKernelIdeal.main_arg11)
      ∧ m' ((c.tc : Thread Cert.StepReferenceIdeal.nD Cert.StepReferenceIdeal.τ).loc Cert.StepReferenceIdeal.main_arg12) = m ((c.tc : Thread Cert.StepKernelIdeal.nD Cert.StepKernelIdeal.τ).loc Cert.StepKernelIdeal.main_arg12)
      ∧ m' ((c.tc : Thread Cert.StepReferenceIdeal.nD Cert.StepReferenceIdeal.τ).loc Cert.StepReferenceIdeal.main_arg13) = m ((c.tc : Thread Cert.StepKernelIdeal.nD Cert.StepKernelIdeal.τ).loc Cert.StepKernelIdeal.main_arg13)
      ∧ m' ((c.tc : Thread Cert.StepReferenceIdeal.nD Cert.StepReferenceIdeal.τ).loc Cert.StepReferenceIdeal.main_arg14) = m ((c.tc : Thread Cert.StepKernelIdeal.nD Cert.StepKernelIdeal.τ).loc Cert.StepKernelIdeal.main_arg14)
      ∧ m' ((c.tc : Thread Cert.StepReferenceIdeal.nD Cert.StepReferenceIdeal.τ).loc Cert.StepReferenceIdeal.main_arg15) = m ((c.tc : Thread Cert.StepKernelIdeal.nD Cert.StepKernelIdeal.τ).loc Cert.StepKernelIdeal.main_arg15)
      ∧ m' ((c.tc : Thread Cert.StepReferenceIdeal.nD Cert.StepReferenceIdeal.τ).loc Cert.StepReferenceIdeal.main_arg16) = m ((c.tc : Thread Cert.StepKernelIdeal.nD Cert.StepKernelIdeal.τ).loc Cert.StepKernelIdeal.main_arg16)
      ∧ m' ((c.tc : Thread Cert.StepReferenceIdeal.nD Cert.StepReferenceIdeal.τ).loc Cert.StepReferenceIdeal.main_arg17) = m ((c.tc : Thread Cert.StepKernelIdeal.nD Cert.StepKernelIdeal.τ).loc Cert.StepKernelIdeal.main_arg17)
      ∧ m' ((c.tc : Thread Cert.StepReferenceIdeal.nD Cert.StepReferenceIdeal.τ).loc Cert.StepReferenceIdeal.main_arg18) = m ((c.tc : Thread Cert.StepKernelIdeal.nD Cert.StepKernelIdeal.τ).loc Cert.StepKernelIdeal.main_arg18)
      ∧ m' ((c.tc : Thread Cert.StepReferenceIdeal.nD Cert.StepReferenceIdeal.τ).loc Cert.StepReferenceIdeal.main_arg19) = m ((c.tc : Thread Cert.StepKernelIdeal.nD Cert.StepKernelIdeal.τ).loc Cert.StepKernelIdeal.main_arg19)
      ∧ m' ((c.tc : Thread Cert.StepReferenceIdeal.nD Cert.StepReferenceIdeal.τ).loc Cert.StepReferenceIdeal.main_arg20) = m ((c.tc : Thread Cert.StepKernelIdeal.nD Cert.StepKernelIdeal.τ).loc Cert.StepKernelIdeal.main_arg20)
      ∧ m' ((c.tc : Thread Cert.StepReferenceIdeal.nD Cert.StepReferenceIdeal.τ).loc Cert.StepReferenceIdeal.main_arg21) = m ((c.tc : Thread Cert.StepKernelIdeal.nD Cert.StepKernelIdeal.τ).loc Cert.StepKernelIdeal.main_arg21)
      ∧ m' ((c.tc : Thread Cert.StepReferenceIdeal.nD Cert.StepReferenceIdeal.τ).loc Cert.StepReferenceIdeal.main_arg22) = m ((c.tc : Thread Cert.StepKernelIdeal.nD Cert.StepKernelIdeal.τ).loc Cert.StepKernelIdeal.main_arg22)
      ∧ m' ((c.tc : Thread Cert.StepReferenceIdeal.nD Cert.StepReferenceIdeal.τ).loc Cert.StepReferenceIdeal.main_arg23) = m ((c.tc : Thread Cert.StepKernelIdeal.nD Cert.StepKernelIdeal.τ).loc Cert.StepKernelIdeal.main_arg23)
      ∧ m' ((c.tc : Thread Cert.StepReferenceIdeal.nD Cert.StepReferenceIdeal.τ).loc Cert.StepReferenceIdeal.main_arg24) = m ((c.tc : Thread Cert.StepKernelIdeal.nD Cert.StepKernelIdeal.τ).loc Cert.StepKernelIdeal.main_arg24)
      ∧ m' ((c.tc : Thread Cert.StepReferenceIdeal.nD Cert.StepReferenceIdeal.τ).loc Cert.StepReferenceIdeal.main_arg25) = m ((c.tc : Thread Cert.StepKernelIdeal.nD Cert.StepKernelIdeal.τ).loc Cert.StepKernelIdeal.main_arg25)
      ∧ m' ((c.tc : Thread Cert.StepReferenceIdeal.nD Cert.StepReferenceIdeal.τ).loc Cert.StepReferenceIdeal.main_arg26) = m ((c.tc : Thread Cert.StepKernelIdeal.nD Cert.StepKernelIdeal.τ).loc Cert.StepKernelIdeal.main_arg26)
      ∧ m' ((c.tc : Thread Cert.StepReferenceIdeal.nD Cert.StepReferenceIdeal.τ).loc Cert.StepReferenceIdeal.main_arg27) = m ((c.tc : Thread Cert.StepKernelIdeal.nD Cert.StepKernelIdeal.τ).loc Cert.StepKernelIdeal.main_arg27)
      ∧ m' ((c.tc : Thread Cert.StepReferenceIdeal.nD Cert.StepReferenceIdeal.τ).loc Cert.StepReferenceIdeal.main_arg28) = m ((c.tc : Thread Cert.StepKernelIdeal.nD Cert.StepKernelIdeal.τ).loc Cert.StepKernelIdeal.main_arg28)
      ∧ m' ((c.tc : Thread Cert.StepReferenceIdeal.nD Cert.StepReferenceIdeal.τ).loc Cert.StepReferenceIdeal.main_arg29) = m ((c.tc : Thread Cert.StepKernelIdeal.nD Cert.StepKernelIdeal.τ).loc Cert.StepKernelIdeal.main_arg29)
      ∧ m' ((c.tc : Thread Cert.StepReferenceIdeal.nD Cert.StepReferenceIdeal.τ).loc Cert.StepReferenceIdeal.main_arg30) = m ((c.tc : Thread Cert.StepKernelIdeal.nD Cert.StepKernelIdeal.τ).loc Cert.StepKernelIdeal.main_arg30)) →
    ∃ (v0 : (c : Dev Cert.StepKernelIdeal.nD) → Buf (Elt Ideal) ((c.tc : Thread Cert.StepKernelIdeal.nD Cert.StepKernelIdeal.τ).loc Cert.StepKernelIdeal.main_v32)) (v1 : (c : Dev Cert.StepKernelIdeal.nD) → Buf (Elt Ideal) ((c.tc : Thread Cert.StepKernelIdeal.nD Cert.StepKernelIdeal.τ).loc Cert.StepKernelIdeal.main_v33)) (v2 : (c : Dev Cert.StepKernelIdeal.nD) → Buf (Elt Ideal) ((c.tc : Thread Cert.StepKernelIdeal.nD Cert.StepKernelIdeal.τ).loc Cert.StepKernelIdeal.main_v34)) (v3 : (c : Dev Cert.StepKernelIdeal.nD) → Buf (Elt Ideal) ((c.tc : Thread Cert.StepKernelIdeal.nD Cert.StepKernelIdeal.τ).loc Cert.StepKernelIdeal.main_v35)) (v4 : (c : Dev Cert.StepKernelIdeal.nD) → Buf (Elt Ideal) ((c.tc : Thread Cert.StepKernelIdeal.nD Cert.StepKernelIdeal.τ).loc Cert.StepKernelIdeal.main_v13_0)) (v5 : (c : Dev Cert.StepKernelIdeal.nD) → Buf (Elt Ideal) ((c.tc : Thread Cert.StepKernelIdeal.nD Cert.StepKernelIdeal.τ).loc Cert.StepKernelIdeal.main_v13_1)) (v6 : (c : Dev Cert.StepKernelIdeal.nD) → Buf (Elt Ideal) ((c.tc : Thread Cert.StepKernelIdeal.nD Cert.StepKernelIdeal.τ).loc Cert.StepKernelIdeal.main_v13_2)) (v7 : (c : Dev Cert.StepKernelIdeal.nD) → Buf (Elt Ideal) ((c.tc : Thread Cert.StepKernelIdeal.nD Cert.StepKernelIdeal.τ).loc Cert.StepKernelIdeal.main_v13_3)) (v8 : (c : Dev Cert.StepKernelIdeal.nD) → Buf (Elt Ideal) ((c.tc : Thread Cert.StepKernelIdeal.nD Cert.StepKernelIdeal.τ).loc Cert.StepKernelIdeal.main_v18)) (v9 : (c : Dev Cert.StepKernelIdeal.nD) → Buf (Elt Ideal) ((c.tc : Thread Cert.StepKernelIdeal.nD Cert.StepKernelIdeal.τ).loc Cert.StepKernelIdeal.main_v19)) (v10 : (c : Dev Cert.StepKernelIdeal.nD) → Buf (Elt Ideal) ((c.tc : Thread Cert.StepKernelIdeal.nD Cert.StepKernelIdeal.τ).loc Cert.StepKernelIdeal.main_v20)) (v11 : (c : Dev Cert.StepKernelIdeal.nD) → Buf (Elt Ideal) ((c.tc : Thread Cert.StepKernelIdeal.nD Cert.StepKernelIdeal.τ).loc Cert.StepKernelIdeal.main_v21)) (v12 : (c : Dev Cert.StepKernelIdeal.nD) → Buf (Elt Ideal) ((c.tc : Thread Cert.StepKernelIdeal.nD Cert.StepKernelIdeal.τ).loc Cert.StepKernelIdeal.main_v22_0)) (v13 : (c : Dev Cert.StepKernelIdeal.nD) → Buf (Elt Ideal) ((c.tc : Thread Cert.StepKernelIdeal.nD Cert.StepKernelIdeal.τ).loc Cert.StepKernelIdeal.main_v22_1)) (v14 : (c : Dev Cert.StepKernelIdeal.nD) → Buf (Elt Ideal) ((c.tc : Thread Cert.StepKernelIdeal.nD Cert.StepKernelIdeal.τ).loc Cert.StepKernelIdeal.main_v22_2)) (v15 : (c : Dev Cert.StepKernelIdeal.nD) → Buf (Elt Ideal) ((c.tc : Thread Cert.StepKernelIdeal.nD Cert.StepKernelIdeal.τ).loc Cert.StepKernelIdeal.main_v22_3)) (v16 : (c : Dev Cert.StepKernelIdeal.nD) → Buf (Elt Ideal) ((c.tc : Thread Cert.StepKernelIdeal.nD Cert.StepKernelIdeal.τ).loc Cert.StepKernelIdeal.main_v23_0)) (v17 : (c : Dev Cert.StepKernelIdeal.nD) → Buf (Elt Ideal) ((c.tc : Thread Cert.StepKernelIdeal.nD Cert.StepKernelIdeal.τ).loc Cert.StepKernelIdeal.main_v23_1)) (v18 : (c : Dev Cert.StepKernelIdeal.nD) → Buf (Elt Ideal) ((c.tc : Thread Cert.StepKernelIdeal.nD Cert.StepKernelIdeal.τ).loc Cert.StepKernelIdeal.main_v23_2)) (v19 : (c : Dev Cert.StepKernelIdeal.nD) → Buf (Elt Ideal) ((c.tc : Thread Cert.StepKernelIdeal.nD Cert.StepKernelIdeal.τ).loc Cert.StepKernelIdeal.main_v23_3)) (v20 : (c : Dev Cert.StepKernelIdeal.nD) → Buf (Elt Ideal) ((c.tc : Thread Cert.StepKernelIdeal.nD Cert.StepKernelIdeal.τ).loc Cert.StepKernelIdeal.main_v9)) (v21 : (c : Dev Cert.StepKernelIdeal.nD) → Buf (Elt Ideal) ((c.tc : Thread Cert.StepKernelIdeal.nD Cert.StepKernelIdeal.τ).loc Cert.StepKernelIdeal.main_v10)) (v22 : (c : Dev Cert.StepKernelIdeal.nD) → Buf (Elt Ideal) ((c.tc : Thread Cert.StepKernelIdeal.nD Cert.StepKernelIdeal.τ).loc Cert.StepKernelIdeal.main_v11)) (v23 : (c : Dev Cert.StepKernelIdeal.nD) → Buf (Elt Ideal) ((c.tc : Thread Cert.StepKernelIdeal.nD Cert.StepKernelIdeal.τ).loc Cert.StepKernelIdeal.main_v12)) (v24 : (c : Dev Cert.StepKernelIdeal.nD) → Buf (Elt Ideal) ((c.tc : Thread Cert.StepKernelIdeal.nD Cert.StepKernelIdeal.τ).loc Cert.StepKernelIdeal.main_v24_0)) (v25 : (c : Dev Cert.StepKernelIdeal.nD) → Buf (Elt Ideal) ((c.tc : Thread Cert.StepKernelIdeal.nD Cert.StepKernelIdeal.τ).loc Cert.StepKernelIdeal.main_v24_1)) (v26 : (c : Dev Cert.StepKernelIdeal.nD) → Buf (Elt Ideal) ((c.tc : Thread Cert.StepKernelIdeal.nD Cert.StepKernelIdeal.τ).loc Cert.StepKernelIdeal.main_v24_2)) (v27 : (c : Dev Cert.StepKernelIdeal.nD) → Buf (Elt Ideal) ((c.tc : Thread Cert.StepKernelIdeal.nD Cert.StepKernelIdeal.τ).loc Cert.StepKernelIdeal.main_v24_3)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v32) = v0 c
          ∧ r.2.mem ((c.tc : Thread Cert.StepKernelIdeal.nD Cert.StepKernelIdeal.τ).loc Cert.StepKernelIdeal.main_v33) = v1 c
          ∧ r.2.mem ((c.tc : Thread Cert.StepKernelIdeal.nD Cert.StepKernelIdeal.τ).loc Cert.StepKernelIdeal.main_v34) = v2 c
          ∧ r.2.mem ((c.tc : Thread Cert.StepKernelIdeal.nD Cert.StepKernelIdeal.τ).loc Cert.StepKernelIdeal.main_v35) = v3 c
          ∧ r.2.mem ((c.tc : Thread Cert.StepKernelIdeal.nD Cert.StepKernelIdeal.τ).loc Cert.StepKernelIdeal.main_v13_0) = v4 c
          ∧ r.2.mem ((c.tc : Thread Cert.StepKernelIdeal.nD Cert.StepKernelIdeal.τ).loc Cert.StepKernelIdeal.main_v13_1) = v5 c
          ∧ r.2.mem ((c.tc : Thread Cert.StepKernelIdeal.nD Cert.StepKernelIdeal.τ).loc Cert.StepKernelIdeal.main_v13_2) = v6 c
          ∧ r.2.mem ((c.tc : Thread Cert.StepKernelIdeal.nD Cert.StepKernelIdeal.τ).loc Cert.StepKernelIdeal.main_v13_3) = v7 c
          ∧ r.2.mem ((c.tc : Thread Cert.StepKernelIdeal.nD Cert.StepKernelIdeal.τ).loc Cert.StepKernelIdeal.main_v18) = v8 c
          ∧ r.2.mem ((c.tc : Thread Cert.StepKernelIdeal.nD Cert.StepKernelIdeal.τ).loc Cert.StepKernelIdeal.main_v19) = v9 c
          ∧ r.2.mem ((c.tc : Thread Cert.StepKernelIdeal.nD Cert.StepKernelIdeal.τ).loc Cert.StepKernelIdeal.main_v20) = v10 c
          ∧ r.2.mem ((c.tc : Thread Cert.StepKernelIdeal.nD Cert.StepKernelIdeal.τ).loc Cert.StepKernelIdeal.main_v21) = v11 c
          ∧ r.2.mem ((c.tc : Thread Cert.StepKernelIdeal.nD Cert.StepKernelIdeal.τ).loc Cert.StepKernelIdeal.main_v22_0) = v12 c
          ∧ r.2.mem ((c.tc : Thread Cert.StepKernelIdeal.nD Cert.StepKernelIdeal.τ).loc Cert.StepKernelIdeal.main_v22_1) = v13 c
          ∧ r.2.mem ((c.tc : Thread Cert.StepKernelIdeal.nD Cert.StepKernelIdeal.τ).loc Cert.StepKernelIdeal.main_v22_2) = v14 c
          ∧ r.2.mem ((c.tc : Thread Cert.StepKernelIdeal.nD Cert.StepKernelIdeal.τ).loc Cert.StepKernelIdeal.main_v22_3) = v15 c
          ∧ r.2.mem ((c.tc : Thread Cert.StepKernelIdeal.nD Cert.StepKernelIdeal.τ).loc Cert.StepKernelIdeal.main_v23_0) = v16 c
          ∧ r.2.mem ((c.tc : Thread Cert.StepKernelIdeal.nD Cert.StepKernelIdeal.τ).loc Cert.StepKernelIdeal.main_v23_1) = v17 c
          ∧ r.2.mem ((c.tc : Thread Cert.StepKernelIdeal.nD Cert.StepKernelIdeal.τ).loc Cert.StepKernelIdeal.main_v23_2) = v18 c
          ∧ r.2.mem ((c.tc : Thread Cert.StepKernelIdeal.nD Cert.StepKernelIdeal.τ).loc Cert.StepKernelIdeal.main_v23_3) = v19 c
          ∧ r.2.mem ((c.tc : Thread Cert.StepKernelIdeal.nD Cert.StepKernelIdeal.τ).loc Cert.StepKernelIdeal.main_v9) = v20 c
          ∧ r.2.mem ((c.tc : Thread Cert.StepKernelIdeal.nD Cert.StepKernelIdeal.τ).loc Cert.StepKernelIdeal.main_v10) = v21 c
          ∧ r.2.mem ((c.tc : Thread Cert.StepKernelIdeal.nD Cert.StepKernelIdeal.τ).loc Cert.StepKernelIdeal.main_v11) = v22 c
          ∧ r.2.mem ((c.tc : Thread Cert.StepKernelIdeal.nD Cert.StepKernelIdeal.τ).loc Cert.StepKernelIdeal.main_v12) = v23 c
          ∧ r.2.mem ((c.tc : Thread Cert.StepKernelIdeal.nD Cert.StepKernelIdeal.τ).loc Cert.StepKernelIdeal.main_v24_0) = v24 c
          ∧ r.2.mem ((c.tc : Thread Cert.StepKernelIdeal.nD Cert.StepKernelIdeal.τ).loc Cert.StepKernelIdeal.main_v24_1) = v25 c
          ∧ r.2.mem ((c.tc : Thread Cert.StepKernelIdeal.nD Cert.StepKernelIdeal.τ).loc Cert.StepKernelIdeal.main_v24_2) = v26 c
          ∧ r.2.mem ((c.tc : Thread Cert.StepKernelIdeal.nD Cert.StepKernelIdeal.τ).loc Cert.StepKernelIdeal.main_v24_3) = v27 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
          ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
          ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
          ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6)
          ∧ r.2.mem ((c.tc : Thread Cert.StepKernelIdeal.nD Cert.StepKernelIdeal.τ).loc Cert.StepKernelIdeal.main_arg7) = m ((c.tc : Thread Cert.StepKernelIdeal.nD Cert.StepKernelIdeal.τ).loc Cert.StepKernelIdeal.main_arg7)
          ∧ r.2.mem ((c.tc : Thread Cert.StepKernelIdeal.nD Cert.StepKernelIdeal.τ).loc Cert.StepKernelIdeal.main_arg8) = m ((c.tc : Thread Cert.StepKernelIdeal.nD Cert.StepKernelIdeal.τ).loc Cert.StepKernelIdeal.main_arg8)
          ∧ r.2.mem ((c.tc : Thread Cert.StepKernelIdeal.nD Cert.StepKernelIdeal.τ).loc Cert.StepKernelIdeal.main_arg9) = m ((c.tc : Thread Cert.StepKernelIdeal.nD Cert.StepKernelIdeal.τ).loc Cert.StepKernelIdeal.main_arg9)
          ∧ r.2.mem ((c.tc : Thread Cert.StepKernelIdeal.nD Cert.StepKernelIdeal.τ).loc Cert.StepKernelIdeal.main_arg10) = m ((c.tc : Thread Cert.StepKernelIdeal.nD Cert.StepKernelIdeal.τ).loc Cert.StepKernelIdeal.main_arg10)
          ∧ r.2.mem ((c.tc : Thread Cert.StepKernelIdeal.nD Cert.StepKernelIdeal.τ).loc Cert.StepKernelIdeal.main_arg11) = m ((c.tc : Thread Cert.StepKernelIdeal.nD Cert.StepKernelIdeal.τ).loc Cert.StepKernelIdeal.main_arg11)
          ∧ r.2.mem ((c.tc : Thread Cert.StepKernelIdeal.nD Cert.StepKernelIdeal.τ).loc Cert.StepKernelIdeal.main_arg12) = m ((c.tc : Thread Cert.StepKernelIdeal.nD Cert.StepKernelIdeal.τ).loc Cert.StepKernelIdeal.main_arg12)
          ∧ r.2.mem ((c.tc : Thread Cert.StepKernelIdeal.nD Cert.StepKernelIdeal.τ).loc Cert.StepKernelIdeal.main_arg13) = m ((c.tc : Thread Cert.StepKernelIdeal.nD Cert.StepKernelIdeal.τ).loc Cert.StepKernelIdeal.main_arg13)
          ∧ r.2.mem ((c.tc : Thread Cert.StepKernelIdeal.nD Cert.StepKernelIdeal.τ).loc Cert.StepKernelIdeal.main_arg14) = m ((c.tc : Thread Cert.StepKernelIdeal.nD Cert.StepKernelIdeal.τ).loc Cert.StepKernelIdeal.main_arg14)
          ∧ r.2.mem ((c.tc : Thread Cert.StepKernelIdeal.nD Cert.StepKernelIdeal.τ).loc Cert.StepKernelIdeal.main_arg15) = m ((c.tc : Thread Cert.StepKernelIdeal.nD Cert.StepKernelIdeal.τ).loc Cert.StepKernelIdeal.main_arg15)
          ∧ r.2.mem ((c.tc : Thread Cert.StepKernelIdeal.nD Cert.StepKernelIdeal.τ).loc Cert.StepKernelIdeal.main_arg16) = m ((c.tc : Thread Cert.StepKernelIdeal.nD Cert.StepKernelIdeal.τ).loc Cert.StepKernelIdeal.main_arg16)
          ∧ r.2.mem ((c.tc : Thread Cert.StepKernelIdeal.nD Cert.StepKernelIdeal.τ).loc Cert.StepKernelIdeal.main_arg17) = m ((c.tc : Thread Cert.StepKernelIdeal.nD Cert.StepKernelIdeal.τ).loc Cert.StepKernelIdeal.main_arg17)
          ∧ r.2.mem ((c.tc : Thread Cert.StepKernelIdeal.nD Cert.StepKernelIdeal.τ).loc Cert.StepKernelIdeal.main_arg18) = m ((c.tc : Thread Cert.StepKernelIdeal.nD Cert.StepKernelIdeal.τ).loc Cert.StepKernelIdeal.main_arg18)
          ∧ r.2.mem ((c.tc : Thread Cert.StepKernelIdeal.nD Cert.StepKernelIdeal.τ).loc Cert.StepKernelIdeal.main_arg19) = m ((c.tc : Thread Cert.StepKernelIdeal.nD Cert.StepKernelIdeal.τ).loc Cert.StepKernelIdeal.main_arg19)
          ∧ r.2.mem ((c.tc : Thread Cert.StepKernelIdeal.nD Cert.StepKernelIdeal.τ).loc Cert.StepKernelIdeal.main_arg20) = m ((c.tc : Thread Cert.StepKernelIdeal.nD Cert.StepKernelIdeal.τ).loc Cert.StepKernelIdeal.main_arg20)
          ∧ r.2.mem ((c.tc : Thread Cert.StepKernelIdeal.nD Cert.StepKernelIdeal.τ).loc Cert.StepKernelIdeal.main_arg21) = m ((c.tc : Thread Cert.StepKernelIdeal.nD Cert.StepKernelIdeal.τ).loc Cert.StepKernelIdeal.main_arg21)
          ∧ r.2.mem ((c.tc : Thread Cert.StepKernelIdeal.nD Cert.StepKernelIdeal.τ).loc Cert.StepKernelIdeal.main_arg22) = m ((c.tc : Thread Cert.StepKernelIdeal.nD Cert.StepKernelIdeal.τ).loc Cert.StepKernelIdeal.main_arg22)
          ∧ r.2.mem ((c.tc : Thread Cert.StepKernelIdeal.nD Cert.StepKernelIdeal.τ).loc Cert.StepKernelIdeal.main_arg23) = m ((c.tc : Thread Cert.StepKernelIdeal.nD Cert.StepKernelIdeal.τ).loc Cert.StepKernelIdeal.main_arg23)
          ∧ r.2.mem ((c.tc : Thread Cert.StepKernelIdeal.nD Cert.StepKernelIdeal.τ).loc Cert.StepKernelIdeal.main_arg24) = m ((c.tc : Thread Cert.StepKernelIdeal.nD Cert.StepKernelIdeal.τ).loc Cert.StepKernelIdeal.main_arg24)
          ∧ r.2.mem ((c.tc : Thread Cert.StepKernelIdeal.nD Cert.StepKernelIdeal.τ).loc Cert.StepKernelIdeal.main_arg25) = m ((c.tc : Thread Cert.StepKernelIdeal.nD Cert.StepKernelIdeal.τ).loc Cert.StepKernelIdeal.main_arg25)
          ∧ r.2.mem ((c.tc : Thread Cert.StepKernelIdeal.nD Cert.StepKernelIdeal.τ).loc Cert.StepKernelIdeal.main_arg26) = m ((c.tc : Thread Cert.StepKernelIdeal.nD Cert.StepKernelIdeal.τ).loc Cert.StepKernelIdeal.main_arg26)
          ∧ r.2.mem ((c.tc : Thread Cert.StepKernelIdeal.nD Cert.StepKernelIdeal.τ).loc Cert.StepKernelIdeal.main_arg27) = m ((c.tc : Thread Cert.StepKernelIdeal.nD Cert.StepKernelIdeal.τ).loc Cert.StepKernelIdeal.main_arg27)
          ∧ r.2.mem ((c.tc : Thread Cert.StepKernelIdeal.nD Cert.StepKernelIdeal.τ).loc Cert.StepKernelIdeal.main_arg28) = m ((c.tc : Thread Cert.StepKernelIdeal.nD Cert.StepKernelIdeal.τ).loc Cert.StepKernelIdeal.main_arg28)
          ∧ r.2.mem ((c.tc : Thread Cert.StepKernelIdeal.nD Cert.StepKernelIdeal.τ).loc Cert.StepKernelIdeal.main_arg29) = m ((c.tc : Thread Cert.StepKernelIdeal.nD Cert.StepKernelIdeal.τ).loc Cert.StepKernelIdeal.main_arg29)
          ∧ r.2.mem ((c.tc : Thread Cert.StepKernelIdeal.nD Cert.StepKernelIdeal.τ).loc Cert.StepKernelIdeal.main_arg30) = m ((c.tc : Thread Cert.StepKernelIdeal.nD Cert.StepKernelIdeal.τ).loc Cert.StepKernelIdeal.main_arg30))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v5) = v0 c
          ∧ r.2.mem ((c.tc : Thread Cert.StepReferenceIdeal.nD Cert.StepReferenceIdeal.τ).loc Cert.StepReferenceIdeal.main_v29) = v1 c
          ∧ r.2.mem ((c.tc : Thread Cert.StepReferenceIdeal.nD Cert.StepReferenceIdeal.τ).loc Cert.StepReferenceIdeal.main_v10) = v2 c
          ∧ r.2.mem ((c.tc : Thread Cert.StepReferenceIdeal.nD Cert.StepReferenceIdeal.τ).loc Cert.StepReferenceIdeal.main_v16) = v3 c
          ∧ r.2.mem ((c.tc : Thread Cert.StepReferenceIdeal.nD Cert.StepReferenceIdeal.τ).loc Cert.StepReferenceIdeal.main_v32) = v4 c
          ∧ r.2.mem ((c.tc : Thread Cert.StepReferenceIdeal.nD Cert.StepReferenceIdeal.τ).loc Cert.StepReferenceIdeal.main_v56) = v5 c
          ∧ r.2.mem ((c.tc : Thread Cert.StepReferenceIdeal.nD Cert.StepReferenceIdeal.τ).loc Cert.StepReferenceIdeal.main_v37) = v6 c
          ∧ r.2.mem ((c.tc : Thread Cert.StepReferenceIdeal.nD Cert.StepReferenceIdeal.τ).loc Cert.StepReferenceIdeal.main_v43) = v7 c
          ∧ r.2.mem ((c.tc : Thread Cert.StepReferenceIdeal.nD Cert.StepReferenceIdeal.τ).loc Cert.StepReferenceIdeal.main_v58) = v8 c
          ∧ r.2.mem ((c.tc : Thread Cert.StepReferenceIdeal.nD Cert.StepReferenceIdeal.τ).loc Cert.StepReferenceIdeal.main_v82) = v9 c
          ∧ r.2.mem ((c.tc : Thread Cert.StepReferenceIdeal.nD Cert.StepReferenceIdeal.τ).loc Cert.StepReferenceIdeal.main_v63) = v10 c
          ∧ r.2.mem ((c.tc : Thread Cert.StepReferenceIdeal.nD Cert.StepReferenceIdeal.τ).loc Cert.StepReferenceIdeal.main_v69) = v11 c
          ∧ r.2.mem ((c.tc : Thread Cert.StepReferenceIdeal.nD Cert.StepReferenceIdeal.τ).loc Cert.StepReferenceIdeal.main_v85) = v12 c
          ∧ r.2.mem ((c.tc : Thread Cert.StepReferenceIdeal.nD Cert.StepReferenceIdeal.τ).loc Cert.StepReferenceIdeal.main_v109) = v13 c
          ∧ r.2.mem ((c.tc : Thread Cert.StepReferenceIdeal.nD Cert.StepReferenceIdeal.τ).loc Cert.StepReferenceIdeal.main_v90) = v14 c
          ∧ r.2.mem ((c.tc : Thread Cert.StepReferenceIdeal.nD Cert.StepReferenceIdeal.τ).loc Cert.StepReferenceIdeal.main_v96) = v15 c
          ∧ r.2.mem ((c.tc : Thread Cert.StepReferenceIdeal.nD Cert.StepReferenceIdeal.τ).loc Cert.StepReferenceIdeal.main_v112) = v16 c
          ∧ r.2.mem ((c.tc : Thread Cert.StepReferenceIdeal.nD Cert.StepReferenceIdeal.τ).loc Cert.StepReferenceIdeal.main_v136) = v17 c
          ∧ r.2.mem ((c.tc : Thread Cert.StepReferenceIdeal.nD Cert.StepReferenceIdeal.τ).loc Cert.StepReferenceIdeal.main_v117) = v18 c
          ∧ r.2.mem ((c.tc : Thread Cert.StepReferenceIdeal.nD Cert.StepReferenceIdeal.τ).loc Cert.StepReferenceIdeal.main_v123) = v19 c
          ∧ r.2.mem ((c.tc : Thread Cert.StepReferenceIdeal.nD Cert.StepReferenceIdeal.τ).loc Cert.StepReferenceIdeal.main_v142) = v20 c
          ∧ r.2.mem ((c.tc : Thread Cert.StepReferenceIdeal.nD Cert.StepReferenceIdeal.τ).loc Cert.StepReferenceIdeal.main_v166) = v21 c
          ∧ r.2.mem ((c.tc : Thread Cert.StepReferenceIdeal.nD Cert.StepReferenceIdeal.τ).loc Cert.StepReferenceIdeal.main_v147) = v22 c
          ∧ r.2.mem ((c.tc : Thread Cert.StepReferenceIdeal.nD Cert.StepReferenceIdeal.τ).loc Cert.StepReferenceIdeal.main_v153) = v23 c
          ∧ r.2.mem ((c.tc : Thread Cert.StepReferenceIdeal.nD Cert.StepReferenceIdeal.τ).loc Cert.StepReferenceIdeal.main_v172) = v24 c
          ∧ r.2.mem ((c.tc : Thread Cert.StepReferenceIdeal.nD Cert.StepReferenceIdeal.τ).loc Cert.StepReferenceIdeal.main_v196) = v25 c
          ∧ r.2.mem ((c.tc : Thread Cert.StepReferenceIdeal.nD Cert.StepReferenceIdeal.τ).loc Cert.StepReferenceIdeal.main_v177) = v26 c
          ∧ r.2.mem ((c.tc : Thread Cert.StepReferenceIdeal.nD Cert.StepReferenceIdeal.τ).loc Cert.StepReferenceIdeal.main_v183) = v27 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6)
          ∧ r.2.mem ((c.tc : Thread Cert.StepReferenceIdeal.nD Cert.StepReferenceIdeal.τ).loc Cert.StepReferenceIdeal.main_arg7) = m' ((c.tc : Thread Cert.StepReferenceIdeal.nD Cert.StepReferenceIdeal.τ).loc Cert.StepReferenceIdeal.main_arg7)
          ∧ r.2.mem ((c.tc : Thread Cert.StepReferenceIdeal.nD Cert.StepReferenceIdeal.τ).loc Cert.StepReferenceIdeal.main_arg8) = m' ((c.tc : Thread Cert.StepReferenceIdeal.nD Cert.StepReferenceIdeal.τ).loc Cert.StepReferenceIdeal.main_arg8)
          ∧ r.2.mem ((c.tc : Thread Cert.StepReferenceIdeal.nD Cert.StepReferenceIdeal.τ).loc Cert.StepReferenceIdeal.main_arg9) = m' ((c.tc : Thread Cert.StepReferenceIdeal.nD Cert.StepReferenceIdeal.τ).loc Cert.StepReferenceIdeal.main_arg9)
          ∧ r.2.mem ((c.tc : Thread Cert.StepReferenceIdeal.nD Cert.StepReferenceIdeal.τ).loc Cert.StepReferenceIdeal.main_arg10) = m' ((c.tc : Thread Cert.StepReferenceIdeal.nD Cert.StepReferenceIdeal.τ).loc Cert.StepReferenceIdeal.main_arg10)
          ∧ r.2.mem ((c.tc : Thread Cert.StepReferenceIdeal.nD Cert.StepReferenceIdeal.τ).loc Cert.StepReferenceIdeal.main_arg11) = m' ((c.tc : Thread Cert.StepReferenceIdeal.nD Cert.StepReferenceIdeal.τ).loc Cert.StepReferenceIdeal.main_arg11)
          ∧ r.2.mem ((c.tc : Thread Cert.StepReferenceIdeal.nD Cert.StepReferenceIdeal.τ).loc Cert.StepReferenceIdeal.main_arg12) = m' ((c.tc : Thread Cert.StepReferenceIdeal.nD Cert.StepReferenceIdeal.τ).loc Cert.StepReferenceIdeal.main_arg12)
          ∧ r.2.mem ((c.tc : Thread Cert.StepReferenceIdeal.nD Cert.StepReferenceIdeal.τ).loc Cert.StepReferenceIdeal.main_arg13) = m' ((c.tc : Thread Cert.StepReferenceIdeal.nD Cert.StepReferenceIdeal.τ).loc Cert.StepReferenceIdeal.main_arg13)
          ∧ r.2.mem ((c.tc : Thread Cert.StepReferenceIdeal.nD Cert.StepReferenceIdeal.τ).loc Cert.StepReferenceIdeal.main_arg14) = m' ((c.tc : Thread Cert.StepReferenceIdeal.nD Cert.StepReferenceIdeal.τ).loc Cert.StepReferenceIdeal.main_arg14)
          ∧ r.2.mem ((c.tc : Thread Cert.StepReferenceIdeal.nD Cert.StepReferenceIdeal.τ).loc Cert.StepReferenceIdeal.main_arg15) = m' ((c.tc : Thread Cert.StepReferenceIdeal.nD Cert.StepReferenceIdeal.τ).loc Cert.StepReferenceIdeal.main_arg15)
          ∧ r.2.mem ((c.tc : Thread Cert.StepReferenceIdeal.nD Cert.StepReferenceIdeal.τ).loc Cert.StepReferenceIdeal.main_arg16) = m' ((c.tc : Thread Cert.StepReferenceIdeal.nD Cert.StepReferenceIdeal.τ).loc Cert.StepReferenceIdeal.main_arg16)
          ∧ r.2.mem ((c.tc : Thread Cert.StepReferenceIdeal.nD Cert.StepReferenceIdeal.τ).loc Cert.StepReferenceIdeal.main_arg17) = m' ((c.tc : Thread Cert.StepReferenceIdeal.nD Cert.StepReferenceIdeal.τ).loc Cert.StepReferenceIdeal.main_arg17)
          ∧ r.2.mem ((c.tc : Thread Cert.StepReferenceIdeal.nD Cert.StepReferenceIdeal.τ).loc Cert.StepReferenceIdeal.main_arg18) = m' ((c.tc : Thread Cert.StepReferenceIdeal.nD Cert.StepReferenceIdeal.τ).loc Cert.StepReferenceIdeal.main_arg18)
          ∧ r.2.mem ((c.tc : Thread Cert.StepReferenceIdeal.nD Cert.StepReferenceIdeal.τ).loc Cert.StepReferenceIdeal.main_arg19) = m' ((c.tc : Thread Cert.StepReferenceIdeal.nD Cert.StepReferenceIdeal.τ).loc Cert.StepReferenceIdeal.main_arg19)
          ∧ r.2.mem ((c.tc : Thread Cert.StepReferenceIdeal.nD Cert.StepReferenceIdeal.τ).loc Cert.StepReferenceIdeal.main_arg20) = m' ((c.tc : Thread Cert.StepReferenceIdeal.nD Cert.StepReferenceIdeal.τ).loc Cert.StepReferenceIdeal.main_arg20)
          ∧ r.2.mem ((c.tc : Thread Cert.StepReferenceIdeal.nD Cert.StepReferenceIdeal.τ).loc Cert.StepReferenceIdeal.main_arg21) = m' ((c.tc : Thread Cert.StepReferenceIdeal.nD Cert.StepReferenceIdeal.τ).loc Cert.StepReferenceIdeal.main_arg21)
          ∧ r.2.mem ((c.tc : Thread Cert.StepReferenceIdeal.nD Cert.StepReferenceIdeal.τ).loc Cert.StepReferenceIdeal.main_arg22) = m' ((c.tc : Thread Cert.StepReferenceIdeal.nD Cert.StepReferenceIdeal.τ).loc Cert.StepReferenceIdeal.main_arg22)
          ∧ r.2.mem ((c.tc : Thread Cert.StepReferenceIdeal.nD Cert.StepReferenceIdeal.τ).loc Cert.StepReferenceIdeal.main_arg23) = m' ((c.tc : Thread Cert.StepReferenceIdeal.nD Cert.StepReferenceIdeal.τ).loc Cert.StepReferenceIdeal.main_arg23)
          ∧ r.2.mem ((c.tc : Thread Cert.StepReferenceIdeal.nD Cert.StepReferenceIdeal.τ).loc Cert.StepReferenceIdeal.main_arg24) = m' ((c.tc : Thread Cert.StepReferenceIdeal.nD Cert.StepReferenceIdeal.τ).loc Cert.StepReferenceIdeal.main_arg24)
          ∧ r.2.mem ((c.tc : Thread Cert.StepReferenceIdeal.nD Cert.StepReferenceIdeal.τ).loc Cert.StepReferenceIdeal.main_arg25) = m' ((c.tc : Thread Cert.StepReferenceIdeal.nD Cert.StepReferenceIdeal.τ).loc Cert.StepReferenceIdeal.main_arg25)
          ∧ r.2.mem ((c.tc : Thread Cert.StepReferenceIdeal.nD Cert.StepReferenceIdeal.τ).loc Cert.StepReferenceIdeal.main_arg26) = m' ((c.tc : Thread Cert.StepReferenceIdeal.nD Cert.StepReferenceIdeal.τ).loc Cert.StepReferenceIdeal.main_arg26)
          ∧ r.2.mem ((c.tc : Thread Cert.StepReferenceIdeal.nD Cert.StepReferenceIdeal.τ).loc Cert.StepReferenceIdeal.main_arg27) = m' ((c.tc : Thread Cert.StepReferenceIdeal.nD Cert.StepReferenceIdeal.τ).loc Cert.StepReferenceIdeal.main_arg27)
          ∧ r.2.mem ((c.tc : Thread Cert.StepReferenceIdeal.nD Cert.StepReferenceIdeal.τ).loc Cert.StepReferenceIdeal.main_arg28) = m' ((c.tc : Thread Cert.StepReferenceIdeal.nD Cert.StepReferenceIdeal.τ).loc Cert.StepReferenceIdeal.main_arg28)
          ∧ r.2.mem ((c.tc : Thread Cert.StepReferenceIdeal.nD Cert.StepReferenceIdeal.τ).loc Cert.StepReferenceIdeal.main_arg29) = m' ((c.tc : Thread Cert.StepReferenceIdeal.nD Cert.StepReferenceIdeal.τ).loc Cert.StepReferenceIdeal.main_arg29)
          ∧ r.2.mem ((c.tc : Thread Cert.StepReferenceIdeal.nD Cert.StepReferenceIdeal.τ).loc Cert.StepReferenceIdeal.main_arg30) = m' ((c.tc : Thread Cert.StepReferenceIdeal.nD Cert.StepReferenceIdeal.τ).loc Cert.StepReferenceIdeal.main_arg30))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hInKernel : Cert.InKernel.Facts) (hInKernelIdeal : Cert.InKernelIdeal.Facts) (hInReferenceIdeal : Cert.InReferenceIdeal.Facts) (hStepKernel : Cert.StepKernel.Facts) (hStepKernelIdeal : Cert.StepKernelIdeal.Facts) (hStepReferenceIdeal : Cert.StepReferenceIdeal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_finite2 (hFfnKernelIdeal := hFfnKernelIdeal) (hPre_finite2 := hPre_finite2)
    ∧ quiescent_FfnReferenceIdeal (hFfnReferenceIdeal := hFfnReferenceIdeal)
    ∧ quiescent_FfnReferenceIdeal_pre_finite2 (hFfnReferenceIdeal := hFfnReferenceIdeal) (hPre_finite2 := hPre_finite2)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_InKernel (hInKernel := hInKernel)
    ∧ quiescent_InKernelIdeal (hInKernelIdeal := hInKernelIdeal)
    ∧ quiescent_InKernelIdeal_pre_finite4 (hInKernelIdeal := hInKernelIdeal) (hPre_finite4 := hPre_finite4)
    ∧ quiescent_InReferenceIdeal (hInReferenceIdeal := hInReferenceIdeal)
    ∧ quiescent_InReferenceIdeal_pre_finite4 (hInReferenceIdeal := hInReferenceIdeal) (hPre_finite4 := hPre_finite4)
    ∧ quiescent_StepKernel (hStepKernel := hStepKernel)
    ∧ quiescent_StepKernelIdeal (hStepKernelIdeal := hStepKernelIdeal)
    ∧ quiescent_StepReferenceIdeal (hStepReferenceIdeal := hStepReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_finite2 (hFfnKernelIdeal := hFfnKernelIdeal) (hFfnReferenceIdeal := hFfnReferenceIdeal) (hPre_finite2 := hPre_finite2)
    ∧ preserves_MixKernel_MixKernelIdeal
    ∧ algebraic_MixKernelIdeal_MixReferenceIdeal (hMixKernelIdeal := hMixKernelIdeal) (hMixReferenceIdeal := hMixReferenceIdeal)
    ∧ preserves_InKernel_InKernelIdeal
    ∧ algebraic_InKernelIdeal_InReferenceIdeal_pre_finite4 (hInKernelIdeal := hInKernelIdeal) (hInReferenceIdeal := hInReferenceIdeal) (hPre_finite4 := hPre_finite4)
    ∧ preserves_StepKernel_StepKernelIdeal
    ∧ algebraic_StepKernelIdeal_StepReferenceIdeal (hStepKernelIdeal := hStepKernelIdeal) (hStepReferenceIdeal := hStepReferenceIdeal)
-- ==== Pre_finite.lean ====
abbrev S2176x5632 : Shape := ⟨2, ![2176, 5632]⟩
abbrev S2176x2816 : Shape := ⟨2, ![2176, 2816]⟩
abbrev S3x5632 : Shape := ⟨2, ![3, 5632]⟩
abbrev S1x5632 : Shape := ⟨2, ![1, 5632]⟩
abbrev S_ : Shape := ⟨0, ![]⟩

class Facts : Prop where
  bcast_S_S2176x5632 : S_.BroadcastsInDim S2176x5632 (![] : Fin 0 → Fin S2176x5632.rank)
  bcast_S_S2176x2816 : S_.BroadcastsInDim S2176x2816 (![] : Fin 0 → Fin S2176x2816.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S2176x5632 .f32) (main_arg1 : FVec F S2176x2816 .f32) (main_arg2 : FVec F S3x5632 .f32) (main_arg3 : FVec F S1x5632 .f32) : IVec S2176x5632 1 × IVec S2176x2816 1 × IVec S3x5632 1 × IVec S1x5632 1 :=
  let main_v0 : FVec F S2176x5632 .f32 := Host.absf main_arg0
  let main_cst : FVec F S_ .f32 := constant S_ .f32 0x7F800000#32
  let main_v1 : FVec F S2176x5632 .f32 := broadcastInDim S2176x5632 ![] bcast_S_S2176x5632 main_cst
  let main_v2 : IVec S2176x5632 1 := cmpf .olt main_v0 main_v1
  let main_v3 : FVec F S2176x2816 .f32 := Host.absf main_arg1
  let main_cst_0 : FVec F S_ .f32 := constant S_ .f32 0x7F800000#32
  let main_v4 : FVec F S2176x2816 .f32 := broadcastInDim S2176x2816 ![] bcast_S_S2176x2816 main_cst_0
  let main_v5 : IVec S2176x2816 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  (main_v2, main_v5, main_v8, main_v11)
-- ==== Pre_finite2.lean ====
abbrev S2176x1024 : Shape := ⟨2, ![2176, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn_part1 {F : FTy → Type} [FloatOps F] (main_v3 : IVec S2176x1024 1) (main_v7 : IVec S1024x5632 1) (main_v10 : IVec S3x5632 1) (main_v13 : IVec S1x5632 1) (main_v17 : IVec S2816x1024 1) (main_v18 : FVec F S2176x1024 .f32) : IVec S2176x1024 1 × IVec S1024x5632 1 × IVec S3x5632 1 × IVec S1x5632 1 × IVec S2816x1024 1 × IVec S2176x1024 1 :=
  let main_v19 : FVec F S2176x1024 .f32 := Host.absf main_v18
  let main_cst_4 : FVec F S_ .f32 := constant S_ .f32 0x7F800000#32
  let main_v20 : FVec F S2176x1024 .f32 := broadcastInDim S2176x1024 ![] bcast_S_S2176x1024 main_cst_4
  let main_v21 : IVec S2176x1024 1 := cmpf .olt main_v19 main_v20
  (main_v3, main_v7, main_v10, main_v13, main_v17, main_v21)

def fn {F : FTy → Type} [FloatOps F] (main_arg0 : FVec F S2176x1024 .bf16) (main_arg1 : FVec F S1024x5632 .bf16) (main_arg2 : FVec F S3x5632 .f32) (main_arg3 : FVec F S1x5632 .f32) (main_arg4 : FVec F S2816x1024 .bf16) (main_arg5 : FVec F S2176x1024 .bf16) : IVec S2176x1024 1 × IVec S1024x5632 1 × IVec S3x5632 1 × IVec S1x5632 1 × IVec S2816x1024 1 × IVec S2176x1024 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S3x5632 .f32 := Host.absf main_arg2
  let main_cst_1 : FVec F S_ .f32 := constant S_ .f32 0x7F800000#32
  let main_v9 : FVec F S3x5632 .f32 := broadcastInDim S3x5632 ![] bcast_S_S3x5632 main_cst_1
  let main_v10 : IVec S3x5632 1 := cmpf .olt main_v8 main_v9
  let main_v11 : FVec F S1x5632 .f32 := Host.absf main_arg3
  let main_cst_2 : FVec F S_ .f32 := constant S_ .f32 0x7F800000#32
  let main_v12 : FVec F S1x5632 .f32 := broadcastInDim S1x5632 ![] bcast_S_S1x5632 main_cst_2
  let main_v13 : IVec S1x5632 1 := cmpf .olt main_v11 main_v12
  let main_v14 : FVec F S2816x1024 .f32 := (extf .f32 · bitsLt_bf16_f32) main_arg4
  let main_v15 : FVec F S2816x1024 .f32 := Host.absf main_v14
  let main_cst_3 : FVec F S_ .f32 := constant S_ .f32 0x7F800000#32
  let main_v16 : FVec F S2816x1024 .f32 := broadcastInDim S2816x1024 ![] bcast_S_S2816x1024 main_cst_3
  let main_v17 : IVec S2816x1024 1 := cmpf .olt main_v15 main_v16
  let main_v18 : FVec F S2176x1024 .f32 := (extf .f32 · bitsLt_bf16_f32) main_arg5
  fn_part1 (F := F) main_v3 main_v7 main_v10 main_v13 main_v17 main_v18
-- ==== Pre_finite4.lean ====
abbrev S2176x1024 : Shape := ⟨2, ![2176, 1024]⟩
abbrev S1024x5632 : Shape := ⟨2, ![1024, 5632]⟩
abbrev S4x3072 : Shape := ⟨2, ![4, 3072]⟩
abbrev S1x3072 : Shape := ⟨2, ![1, 3072]⟩
abbrev S2176x2048 : Shape := ⟨2, ![2176, 2048]⟩
abbrev S2176x512 : Shape := ⟨2, ![2176, 512]⟩
abbrev S2176x5632 : Shape := ⟨2, ![2176, 5632]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  bcast_S_S1024x5632 : S_.BroadcastsInDim S1024x5632 (![] : Fin 0 → Fin S1024x5632.rank)
  bcast_S_S4x3072 : S_.BroadcastsInDim S4x3072 (![] : Fin 0 → Fin S4x3072.rank)
  bcast_S_S1x3072 : S_.BroadcastsInDim S1x3072 (![] : Fin 0 → Fin S1x3072.rank)
  bcast_S_S2176x2048 : S_.BroadcastsInDim S2176x2048 (![] : Fin 0 → Fin S2176x2048.rank)
  bcast_S_S2176x512 : S_.BroadcastsInDim S2176x512 (![] : Fin 0 → Fin S2176x512.rank)

variable [Facts]

def fn_part1 {F : FTy → Type} [FloatOps F] (main_arg6 : FVec F S2176x512 .f32) (main_v3 : IVec S2176x1024 1) (main_v7 : IVec S1024x5632 1) (main_v10 : IVec S4x3072 1) (main_v13 : IVec S1x3072 1) (main_v16 : IVec S2176x2048 1) (main_v17 : FVec F S2176x512 .f32) (main_cst_4 : FVec F S_ .f32) : IVec S2176x1024 1 × IVec S1024x5632 1 × IVec S4x3072 1 × IVec S1x3072 1 × IVec S2176x2048 1 × IVec S2176x512 1 × IVec S2176x512 1 :=
  let main_v18 : FVec F S2176x512 .f32 := broadcastInDim S2176x512 ![] bcast_S_S2176x512 main_cst_4
  let main_v19 : IVec S2176x512 1 := cmpf .olt main_v17 main_v18
  let main_v20 : FVec F S2176x512 .f32 := Host.absf main_arg6
  let main_cst_5 : FVec F S_ .f32 := constant S_ .f32 0x7F800000#32
  let main_v21 : FVec F S2176x512 .f32 := broadcastInDim S2176x512 ![] bcast_S_S2176x512 main_cst_5
  let main_v22 : IVec S2176x512 1 := cmpf .olt main_v20 main_v21
  (main_v3, main_v7, main_v10, main_v13, main_v16, main_v19, main_v22)

def fn {F : FTy → Type} [FloatOps F] (main_arg0 : FVec F S2176x1024 .bf16) (main_arg1 : FVec F S1024x5632 .bf16) (main_arg2 : FVec F S4x3072 .f32) (main_arg3 : FVec F S1x3072 .f32) (main_arg4 : FVec F S2176x2048 .f32) (main_arg5 : FVec F S2176x512 .f32) (main_arg6 : FVec F S2176x512 .f32) (main_arg7 : FVec F S2176x5632 .bf16) : IVec S2176x1024 1 × IVec S1024x5632 1 × IVec S4x3072 1 × IVec S1x3072 1 × IVec S2176x2048 1 × IVec S2176x512 1 × IVec S2176x512 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S4x3072 .f32 := Host.absf main_arg2
  let main_cst_1 : FVec F S_ .f32 := constant S_ .f32 0x7F800000#32
  let main_v9 : FVec F S4x3072 .f32 := broadcastInDim S4x3072 ![] bcast_S_S4x3072 main_cst_1
  let main_v10 : IVec S4x3072 1 := cmpf .olt main_v8 main_v9
  let main_v11 : FVec F S1x3072 .f32 := Host.absf main_arg3
  let main_cst_2 : FVec F S_ .f32 := constant S_ .f32 0x7F800000#32
  let main_v12 : FVec F S1x3072 .f32 := broadcastInDim S1x3072 ![] bcast_S_S1x3072 main_cst_2
  let main_v13 : IVec S1x3072 1 := cmpf .olt main_v11 main_v12
  let main_v14 : FVec F S2176x2048 .f32 := Host.absf main_arg4
  let main_cst_3 : FVec F S_ .f32 := constant S_ .f32 0x7F800000#32
  let main_v15 : FVec F S2176x2048 .f32 := broadcastInDim S2176x2048 ![] bcast_S_S2176x2048 main_cst_3
  let main_v16 : IVec S2176x2048 1 := cmpf .olt main_v14 main_v15
  let main_v17 : FVec F S2176x512 .f32 := Host.absf main_arg5
  let main_cst_4 : FVec F S_ .f32 := constant S_ .f32 0x7F800000#32
  fn_part1 (F := F) main_arg6 main_v3 main_v7 main_v10 main_v13 main_v16 main_v17 main_cst_4
-- ==== Kernel.lean ====
abbrev S2176x5632 : Shape := ⟨2, ![2176, 5632]⟩
abbrev S2176x2816 : Shape := ⟨2, ![2176, 2816]⟩
abbrev S3x5632 : Shape := ⟨2, ![3, 5632]⟩
abbrev S1x5632 : Shape := ⟨2, ![1, 5632]⟩
abbrev S2x2176x2816 : Shape := ⟨3, ![2, 2176, 2816]⟩
abbrev S2x3x2816 : Shape := ⟨3, ![2, 3, 2816]⟩
abbrev S2x1x2816 : Shape := ⟨3, ![2, 1, 2816]⟩
abbrev S2176x256 : Shape := ⟨2, ![2176, 256]⟩
abbrev S3x256 : Shape := ⟨2, ![3, 256]⟩
abbrev S1x256 : Shape := ⟨2, ![1, 256]⟩
abbrev S2x2176x256 : Shape := ⟨3, ![2, 2176, 256]⟩
abbrev S2x3x256 : Shape := ⟨3, ![2, 3, 256]⟩
abbrev S2x1x256 : Shape := ⟨3, ![2, 1, 256]⟩
abbrev S2176x1 : Shape := ⟨2, ![2176, 1]⟩
abbrev S256 : Shape := ⟨1, ![256]⟩
abbrev S1x1x256 : Shape := ⟨3, ![1, 1, 256]⟩
abbrev S1x3x256 : Shape := ⟨3, ![1, 3, 256]⟩
abbrev S1x2176x256 : Shape := ⟨3, ![1, 2176, 256]⟩

abbrev nBuf : Space → Nat
  | .hbm => 7
  | .vmem => 20
  | .smem => 0
  | _ => 0

abbrev bufTy : (tb : Table) → Fin (tcTables nBuf tb) → BufTy
  | .hbm, ⟨0, _⟩ => ⟨S2176x5632, .f32⟩
  | .hbm, ⟨1, _⟩ => ⟨S2176x2816, .f32⟩
  | .hbm, ⟨2, _⟩ => ⟨S3x5632, .f32⟩
  | .hbm, ⟨3, _⟩ => ⟨S1x5632, .f32⟩
  | .hbm, ⟨4, _⟩ => ⟨S2x2176x2816, .bf16⟩
  | .hbm, ⟨5, _⟩ => ⟨S2x3x2816, .f32⟩
  | .hbm, ⟨6, _⟩ => ⟨S2x1x2816, .f32⟩
  | .local _ .vmem, ⟨0, _⟩ => ⟨S2176x256, .f32⟩
  | .local _ .vmem, ⟨1, _⟩ => ⟨S2176x256, .f32⟩
  | .local _ .vmem, ⟨2, _⟩ => ⟨S2176x256, .f32⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x2176x256, .bf16⟩
  | .local _ .vmem, ⟨15, _⟩ => ⟨S2x2176x256, .bf16⟩
  | .local _ .vmem, ⟨16, _⟩ => ⟨S2x3x256, .f32⟩
  | .local _ .vmem, ⟨17, _⟩ => ⟨S2x3x256, .f32⟩
  | .local _ .vmem, ⟨18, _⟩ => ⟨S2x1x256, .f32⟩
  | .local _ .vmem, ⟨19, _⟩ => ⟨S2x1x256, .f32⟩
  | _, _ => ⟨S2176x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2176x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2176x5632 : Shape := ⟨2, ![2176, 5632]⟩
abbrev S2176x2816 : Shape := ⟨2, ![2176, 2816]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S2178x5632 : Shape := ⟨2, ![2178, 5632]⟩
abbrev S5632 : Shape := ⟨1, ![5632]⟩
abbrev S1x2176x2816 : Shape := ⟨3, ![1, 2176, 2816]⟩
abbrev S2x2176x2816 : Shape := ⟨3, ![2, 2176, 2816]⟩
abbrev S3x2816 : Shape := ⟨2, ![3, 2816]⟩
abbrev S1x3x2816 : Shape := ⟨3, ![1, 3, 2816]⟩
abbrev S2x3x2816 : Shape := ⟨3, ![2, 3, 2816]⟩
abbrev S1x2816 : Shape := ⟨2, ![1, 2816]⟩
abbrev S1x1x2816 : Shape := ⟨3, ![1, 1, 2816]⟩
abbrev S2x1x2816 : Shape := ⟨3, ![2, 1, 2816]⟩

abbrev nBuf : Space → Nat
  | .hbm => 125
  | .vmem => 0
  | .smem => 0
  | _ => 0

abbrev bufTy : (tb : Table) → Fin (tcTables nBuf tb) → BufTy
  | .hbm, ⟨0, _⟩ => ⟨S2176x5632, .f32⟩
  | .hbm, ⟨1, _⟩ => ⟨S2176x2816, .f32⟩
  | .hbm, ⟨2, _⟩ => ⟨S3x5632, .f32⟩
  | .hbm, ⟨3, _⟩ => ⟨S1x5632, .f32⟩
  | .hbm, ⟨4, _⟩ => ⟨S_, .f32⟩
  | .hbm, ⟨5, _⟩ => ⟨S2x5632, .f32⟩
  | .hbm, ⟨6, _⟩ => ⟨S2178x5632, .f32⟩
  | .hbm, ⟨7, _⟩ => ⟨S_, .f32⟩
  | .hbm, ⟨8, _⟩ => ⟨S2x5632, .f32⟩
  | .hbm, ⟨9, _⟩ => ⟨S2176x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S2176x5632, .f32⟩
  | .hbm, ⟨14, _⟩ => ⟨S2176x5632, .f32⟩
  | .hbm, ⟨15, _⟩ => ⟨S_, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S2176x5632, .f32⟩
  | .hbm, ⟨23, _⟩ => ⟨S2176x5632, .f32⟩
  | .hbm, ⟨24, _⟩ => ⟨S2176x5632, .f32⟩
  | .hbm, ⟨25, _⟩ => ⟨S2176x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S2176x5632, .f32⟩
  | .hbm, ⟨30, _⟩ => ⟨S2176x5632, .f32⟩
  | .hbm, ⟨31, _⟩ => ⟨S2176x5632, .f32⟩
  | .hbm, ⟨32, _⟩ => ⟨S2176x5632, .f32⟩
  | .hbm, ⟨33, _⟩ => ⟨S2176x5632, .f32⟩
  | .hbm, ⟨34, _⟩ => ⟨S2176x2816, .f32⟩
  | .hbm, ⟨35, _⟩ => ⟨S2176x2816, .f32⟩
  | .hbm, ⟨36, _⟩ => ⟨S2176x2816, .f32⟩
  | .hbm, ⟨37, _⟩ => ⟨S2176x2816, .f32⟩
  | .hbm, ⟨38, _⟩ => ⟨S_, .f32⟩
  | .hbm, ⟨39, _⟩ => ⟨S2176x2816, .f32⟩
  | .hbm, ⟨40, _⟩ => ⟨S2176x2816, .f32⟩
  | .hbm, ⟨41, _⟩ => ⟨S_, .f32⟩
  | .hbm, ⟨42, _⟩ => ⟨S2176x2816, .f32⟩
  | .hbm, ⟨43, _⟩ => ⟨S2176x2816, .f32⟩
  | .hbm, ⟨44, _⟩ => ⟨S_, .f32⟩
  | .hbm, ⟨45, _⟩ => ⟨S2176x2816, .f32⟩
  | .hbm, ⟨46, _⟩ => ⟨S2176x2816, .f32⟩
  | .hbm, ⟨47, _⟩ => ⟨S2176x2816, .f32⟩
  | .hbm, ⟨48, _⟩ => ⟨S2176x2816, .f32⟩
  | .hbm, ⟨49, _⟩ => ⟨S2176x2816, .f32⟩
  | .hbm, ⟨50, _⟩ => ⟨S2176x2816, .f32⟩
  | .hbm, ⟨51, _⟩ => ⟨S2176x2816, .f32⟩
  | .hbm, ⟨52, _⟩ => ⟨S2176x2816, .f32⟩
  | .hbm, ⟨53, _⟩ => ⟨S2176x2816, .f32⟩
  | .hbm, ⟨54, _⟩ => ⟨S2176x2816, .f32⟩
  | .hbm, ⟨55, _⟩ => ⟨S2176x2816, .f32⟩
  | .hbm, ⟨56, _⟩ => ⟨S_, .f32⟩
  | .hbm, ⟨57, _⟩ => ⟨S2176x5632, .f32⟩
  | .hbm, ⟨58, _⟩ => ⟨S_, .f32⟩
  | .hbm, ⟨59, _⟩ => ⟨S2176x5632, .f32⟩
  | .hbm, ⟨60, _⟩ => ⟨S2176x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S2176x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S2176x5632, .f32⟩
  | .hbm, ⟨69, _⟩ => ⟨S2176x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S3x5632, .f32⟩
  | .hbm, ⟨75, _⟩ => ⟨S_, .f32⟩
  | .hbm, ⟨76, _⟩ => ⟨S2178x5632, .f32⟩
  | .hbm, ⟨77, _⟩ => ⟨S2176x5632, .f32⟩
  | .hbm, ⟨78, _⟩ => ⟨S_, .f32⟩
  | .hbm, ⟨79, _⟩ => ⟨S5632, .f32⟩
  | .hbm, ⟨80, _⟩ => ⟨S1x5632, .f32⟩
  | .hbm, ⟨81, _⟩ => ⟨S2176x5632, .f32⟩
  | .hbm, ⟨82, _⟩ => ⟨S2176x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S_, .f32⟩
  | .hbm, ⟨90, _⟩ => ⟨S2178x5632, .f32⟩
  | .hbm, ⟨91, _⟩ => ⟨S2178x5632, .f32⟩
  | .hbm, ⟨92, _⟩ => ⟨S2176x5632, .f32⟩
  | .hbm, ⟨93, _⟩ => ⟨S_, .f32⟩
  | .hbm, ⟨94, _⟩ => ⟨S5632, .f32⟩
  | .hbm, ⟨95, _⟩ => ⟨S1x5632, .f32⟩
  | .hbm, ⟨96, _⟩ => ⟨S2176x5632, .f32⟩
  | .hbm, ⟨97, _⟩ => ⟨S2176x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S_, .f32⟩
  | .hbm, ⟨105, _⟩ => ⟨S2178x5632, .f32⟩
  | .hbm, ⟨106, _⟩ => ⟨S2178x5632, .f32⟩
  | .hbm, ⟨107, _⟩ => ⟨S2x5632, .f32⟩
  | .hbm, ⟨108, _⟩ => ⟨S2176x5632, .f32⟩
  | .hbm, ⟨109, _⟩ => ⟨S2176x2816, .f32⟩
  | .hbm, ⟨110, _⟩ => ⟨S2176x2816, .f32⟩
  | .hbm, ⟨111, _⟩ => ⟨S1x2176x2816, .f32⟩
  | .hbm, ⟨112, _⟩ => ⟨S1x2176x2816, .f32⟩
  | .hbm, ⟨113, _⟩ => ⟨S2x2176x2816, .f32⟩
  | .hbm, ⟨114, _⟩ => ⟨S2x2176x2816, .bf16⟩
  | .hbm, ⟨115, _⟩ => ⟨S3x2816, .f32⟩
  | .hbm, ⟨116, _⟩ => ⟨S3x2816, .f32⟩
  | .hbm, ⟨117, _⟩ => ⟨S1x3x2816, .f32⟩
  | .hbm, ⟨118, _⟩ => ⟨S1x3x2816, .f32⟩
  | .hbm, ⟨119, _⟩ => ⟨S2x3x2816, .f32⟩
  | .hbm, ⟨120, _⟩ => ⟨S1x2816, .f32⟩
  | .hbm, ⟨121, _⟩ => ⟨S1x2816, .f32⟩
  | .hbm, ⟨122, _⟩ => ⟨S1x1x2816, .f32⟩
  | .hbm, ⟨123, _⟩ => ⟨S1x1x2816, .f32⟩
  | .hbm, ⟨124, _⟩ => ⟨S2x1x2816, .f32⟩
  | _, _ => ⟨S2176x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]
-- ==== FfnKernel.lean ====
abbrev S2176x1024 : Shape := ⟨2, ![2176, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S2176x5632 : Shape := ⟨2, ![2176, 5632]⟩
abbrev S1024x512 : Shape := ⟨2, ![1024, 512]⟩
abbrev S2176x512 : Shape := ⟨2, ![2176, 512]⟩
abbrev S2176x2816 : Shape := ⟨2, ![2176, 2816]⟩
abbrev S2176x256 : Shape := ⟨2, ![2176, 256]⟩
abbrev S3x256 : Shape := ⟨2, ![3, 256]⟩
abbrev S1x256 : Shape := ⟨2, ![1, 256]⟩
abbrev S2176x1 : Shape := ⟨2, ![2176, 1]⟩
abbrev S544x2816 : Shape := ⟨2, ![544, 2816]⟩
abbrev S544x1024 : Shape := ⟨2, ![544, 1024]⟩
abbrev S256x1024 : Shape := ⟨2, ![256, 1024]⟩
abbrev S2x2176x2816 : Shape := ⟨3, ![2, 2176, 2816]⟩
abbrev S2x3x2816 : Shape := ⟨3, ![2, 3, 2816]⟩
abbrev S2x1x2816 : Shape := ⟨3, ![2, 1, 2816]⟩
abbrev S2x2176x256 : Shape := ⟨3, ![2, 2176, 256]⟩
abbrev S2x3x256 : Shape := ⟨3, ![2, 3, 256]⟩
abbrev S2x1x256 : Shape := ⟨3, ![2, 1, 256]⟩
abbrev S256 : Shape := ⟨1, ![256]⟩
abbrev S1x1x256 : Shape := ⟨3, ![1, 1, 256]⟩
abbrev S1x3x256 : Shape := ⟨3, ![1, 3, 256]⟩
abbrev S1x2176x256 : Shape := ⟨3, ![1, 2176, 256]⟩
abbrev S2x544x2816 : Shape := ⟨3, ![2, 544, 2816]⟩
abbrev S1024x2816 : Shape := ⟨2, ![1024, 2816]⟩
abbrev S1x544x2816 : Shape := ⟨3, ![1, 544, 2816]⟩
abbrev S8x1024x704 : Shape := ⟨3, ![8, 1024, 704]⟩
abbrev S1x2176x1408 : Shape := ⟨3, ![1, 2176, 1408]⟩
abbrev S2x512x704 : Shape := ⟨3, ![2, 512, 704]⟩
abbrev S2176x1408 : Shape := ⟨2, ![2176, 1408]⟩
abbrev S512x1408 : Shape := ⟨2, ![512, 1408]⟩
abbrev S512x704 : Shape := ⟨2, ![512, 704]⟩
abbrev S1x512x704 : Shape := ⟨3, ![1, 512, 704]⟩

abbrev nBuf : Space → Nat
  | .hbm => 16
  | .vmem => 65
  | .smem => 0
  | _ => 0

abbrev bufTy : (tb : Table) → Fin (tcTables nBuf tb) → BufTy
  | .hbm, ⟨0, _⟩ => ⟨S2176x1024, .bf16⟩
  | .hbm, ⟨1, _⟩ => ⟨S1024x5632, .bf16⟩
  | .hbm, ⟨2, _⟩ => ⟨S3x5632, .f32⟩
  | .hbm, ⟨3, _⟩ => ⟨S1x5632, .f32⟩
  | .hbm, ⟨4, _⟩ => ⟨S2816x1024, .bf16⟩
  | .hbm, ⟨5, _⟩ => ⟨S2176x1024, .bf16⟩
  | .hbm, ⟨6, _⟩ => ⟨S2176x5632, .f32⟩
  | .hbm, ⟨7, _⟩ => ⟨S2176x2816, .bf16⟩
  | .hbm, ⟨8, _⟩ => ⟨S2176x1024, .f32⟩
  | .hbm, ⟨9, _⟩ => ⟨S2176x2816, .f32⟩
  | .hbm, ⟨10, _⟩ => ⟨S2816x1024, .bf16⟩
  | .hbm, ⟨11, _⟩ => ⟨S2x2176x2816, .bf16⟩
  | .hbm, ⟨12, _⟩ => ⟨S2x3x2816, .f32⟩
  | .hbm, ⟨13, _⟩ => ⟨S2x1x2816, .f32⟩
  | .hbm, ⟨14, _⟩ => ⟨S2176x1024, .f32⟩
  | .hbm, ⟨15, _⟩ => ⟨S8x1024x704, .bf16⟩
  | .local _ .vmem, ⟨0, _⟩ => ⟨S2176x1024, .bf16⟩
  | .local _ .vmem, ⟨1, _⟩ => ⟨S1024x512, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S2176x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S2176x256, .bf16⟩
  | .local _ .vmem, ⟨18, _⟩ => ⟨S2176x256, .bf16⟩
  | .local _ .vmem, ⟨19, _⟩ => ⟨S544x2816, .bf16⟩
  | .local _ .vmem, ⟨20, _⟩ => ⟨S544x2816, .bf16⟩
  | .local _ .vmem, ⟨21, _⟩ => ⟨S2816x1024, .bf16⟩
  | .local _ .vmem, ⟨22, _⟩ => ⟨S544x1024, .f32⟩
  | .local _ .vmem, ⟨23, _⟩ => ⟨S544x1024, .f32⟩
  | .local _ .vmem, ⟨24, _⟩ => ⟨S2176x1024, .bf16⟩
  | .local _ .vmem, ⟨25, _⟩ => ⟨S256x1024, .bf16⟩
  | .local _ .vmem, ⟨26, _⟩ => ⟨S256x1024, .bf16⟩
  | .local _ .vmem, ⟨27, _⟩ => ⟨S2176x256, .f32⟩
  | .local _ .vmem, ⟨28, _⟩ => ⟨S2176x256, .f32⟩
  | .local _ .vmem, ⟨29, _⟩ => ⟨S2176x256, .bf16⟩
  | .local _ .vmem, ⟨30, _⟩ => ⟨S2176x256, .bf16⟩
  | .local _ .vmem, ⟨31, _⟩ => ⟨S2176x1024, .bf16⟩
  | .local _ .vmem, ⟨32, _⟩ => ⟨S256x1024, .bf16⟩
  | .local _ .vmem, ⟨33, _⟩ => ⟨S256x1024, .bf16⟩
  | .local _ .vmem, ⟨34, _⟩ => ⟨S2176x256, .f32⟩
  | .local _ .vmem, ⟨35, _⟩ => ⟨S2176x256, .f32⟩
  | .local _ .vmem, ⟨36, _⟩ => ⟨S2176x256, .f32⟩
  | .local _ .vmem, ⟨37, _⟩ => ⟨S2176x256, .f32⟩
  | .local _ .vmem, ⟨38, _⟩ => ⟨S2176x256, .f32⟩
  | .local _ .vmem, ⟨39, _⟩ => ⟨S2176x256, .f32⟩
  | .local _ .vmem, ⟨40, _⟩ => ⟨S3x256, .f32⟩
  | .local _ .vmem, ⟨41, _⟩ => ⟨S3x256, .f32⟩
  | .local _ .vmem, ⟨42, _⟩ => ⟨S3x256, .f32⟩
  | .local _ .vmem, ⟨43, _⟩ => ⟨S3x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S2x2176x256, .bf16⟩
  | .local _ .vmem, ⟨49, _⟩ => ⟨S2x2176x256, .bf16⟩
  | .local _ .vmem, ⟨50, _⟩ => ⟨S2x3x256, .f32⟩
  | .local _ .vmem, ⟨51, _⟩ => ⟨S2x3x256, .f32⟩
  | .local _ .vmem, ⟨52, _⟩ => ⟨S2x1x256, .f32⟩
  | .local _ .vmem, ⟨53, _⟩ => ⟨S2x1x256, .f32⟩
  | .local _ .vmem, ⟨54, _⟩ => ⟨S2x544x2816, .bf16⟩
  | .local _ .vmem, ⟨55, _⟩ => ⟨S2x544x2816, .bf16⟩
  | .local _ .vmem, ⟨56, _⟩ => ⟨S1024x5632, .bf16⟩
  | .local _ .vmem, ⟨57, _⟩ => ⟨S544x1024, .f32⟩
  | .local _ .vmem, ⟨58, _⟩ => ⟨S544x1024, .f32⟩
  | .local _ .vmem, ⟨59, _⟩ => ⟨S2176x512, .bf16⟩
  | .local _ .vmem, ⟨60, _⟩ => ⟨S2176x512, .bf16⟩
  | .local _ .vmem, ⟨61, _⟩ => ⟨S1x2176x1408, .bf16⟩
  | .local _ .vmem, ⟨62, _⟩ => ⟨S1x2176x1408, .bf16⟩
  | .local _ .vmem, ⟨63, _⟩ => ⟨S2x512x704, .bf16⟩
  | .local _ .vmem, ⟨64, _⟩ => ⟨S2x512x704, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc5_stg6_0 : Ref sig .tc := ⟨.vmem, 46, rfl⟩
abbrev cc5_stg6_1 : Ref sig .tc := ⟨.vmem, 47, rfl⟩
abbrev cc5_stg7_0 : Ref sig .tc := ⟨.vmem, 48, rfl⟩
abbrev cc5_stg7_1 : Ref sig .tc := ⟨.vmem, 49, rfl⟩
abbrev cc5_stg8_0 : Ref sig .tc := ⟨.vmem, 50, rfl⟩
abbrev cc5_stg8_1 : Ref sig .tc := ⟨.vmem, 51, rfl⟩
abbrev cc5_stg9_0 : Ref sig .tc := ⟨.vmem, 52, rfl⟩
abbrev cc5_stg9_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc5_sem4_0 : DmaSem sig := 42
abbrev cc5_sem4_1 : DmaSem sig := 43
abbrev cc5_sem5_0 : DmaSem sig := 44
abbrev cc5_sem5_1 : DmaSem sig := 45
abbrev cc5_sem6_0 : DmaSem sig := 46
abbrev cc5_sem6_1 : DmaSem sig := 47
abbrev cc5_sem7_0 : DmaSem sig := 48
abbrev cc5_sem7_1 : DmaSem sig := 49
abbrev cc5_sem8_0 : DmaSem sig := 50
abbrev cc5_sem8_1 : DmaSem sig := 51
abbrev cc5_sem9_0 : DmaSem sig := 52
abbrev cc5_sem9_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage1_0 : Fin 2 → Memref sig .tc .vmem S2176x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2176x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2176x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S544x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S544x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![11], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S2176x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2176x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![11, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2176x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2176x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![11], ![false]⟩

def cc5_transform_0 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc5_transform_1 (i : grid5.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc5_transform_3 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc5_transform_4 (i : grid5.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc5_transform_5 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc5_transform_6 (i : grid5.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage5_0 : Fin 2 → Memref sig .tc .vmem S2176x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2176x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2176x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S3x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S3x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2x2176x256 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S2x3x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S2x1x256 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2x544x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x5632 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S544x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![2, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage7_0 : Fin 2 → Memref sig .tc .vmem S2176x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1x2176x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2x512x704 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== FfnReferenceIdeal.lean ====
abbrev S2176x1024 : Shape := ⟨2, ![2176, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S2176x5632 : Shape := ⟨2, ![2176, 5632]⟩
abbrev S_ : Shape := ⟨0, ![]⟩
abbrev S2x5632 : Shape := ⟨2, ![2, 5632]⟩
abbrev S2178x5632 : Shape := ⟨2, ![2178, 5632]⟩
abbrev S5632 : Shape := ⟨1, ![5632]⟩
abbrev S2176x2816 : Shape := ⟨2, ![2176, 2816]⟩
abbrev S1024x2816 : Shape := ⟨2, ![1024, 2816]⟩
abbrev S5632x1024 : Shape := ⟨2, ![5632, 1024]⟩
abbrev S1024x8x704 : Shape := ⟨3, ![1024, 8, 704]⟩
abbrev S8x1024x704 : Shape := ⟨3, ![8, 1024, 704]⟩
abbrev S3x2816 : Shape := ⟨2, ![3, 2816]⟩
abbrev S1x3x2816 : Shape := ⟨3, ![1, 3, 2816]⟩
abbrev S2x3x2816 : Shape := ⟨3, ![2, 3, 2816]⟩
abbrev S1x2816 : Shape := ⟨2, ![1, 2816]⟩
abbrev S1x1x2816 : Shape := ⟨3, ![1, 1, 2816]⟩
abbrev S2x1x2816 : Shape := ⟨3, ![2, 1, 2816]⟩

abbrev nBuf : Space → Nat
  | .hbm => 137
  | .vmem => 0
  | .smem => 0
  | _ => 0

abbrev hbmTy0_0 (i : Nat) : BufTy := match i % 128 with
  | 0 => ⟨S2176x1024, .bf16⟩
  | 1 => ⟨S1024x5632, .bf16⟩
  | 2 => ⟨S3x5632, .f32⟩
  | 3 => ⟨S1x5632, .f32⟩
  | 4 => ⟨S2816x1024, .bf16⟩
  | 5 => ⟨S2176x1024, .bf16⟩
  | 6 => ⟨S2176x1024, .f32⟩
  | 7 => ⟨S1024x5632, .f32⟩
  | 8 => ⟨S2816x1024, .f32⟩
  | 9 => ⟨S2176x5632, .f32⟩
  | 10 => ⟨S_, .f32⟩
  | 11 => ⟨S2x5632, .f32⟩
  | 12 => ⟨S2178x5632, .f32⟩
  | 13 => ⟨S_, .f32⟩
  | 14 => ⟨S2x5632, .f32⟩
  | 15 => ⟨S2176x5632, .f32⟩
  | 16 => ⟨S1x5632, .f32⟩
  | 17 => ⟨S5632, .f32⟩
  | 18 => ⟨S1x5632, .f32⟩
  | 19 => ⟨S2176x5632, .f32⟩
  | 20 => ⟨S2176x5632, .f32⟩
  | 21 => ⟨S_, .f32⟩
  | 22 => ⟨S2176x5632, .f32⟩
  | 23 => ⟨S2176x5632, .f32⟩
  | 24 => ⟨S2176x5632, .f32⟩
  | 25 => ⟨S1x5632, .f32⟩
  | 26 => ⟨S5632, .f32⟩
  | 27 => ⟨S1x5632, .f32⟩
  | 28 => ⟨S2176x5632, .f32⟩
  | 29 => ⟨S2176x5632, .f32⟩
  | 30 => ⟨S2176x5632, .f32⟩
  | 31 => ⟨S2176x5632, .f32⟩
  | 32 => ⟨S1x5632, .f32⟩
  | 33 => ⟨S5632, .f32⟩
  | 34 => ⟨S1x5632, .f32⟩
  | 35 => ⟨S2176x5632, .f32⟩
  | 36 => ⟨S2176x5632, .f32⟩
  | 37 => ⟨S2176x5632, .f32⟩
  | 38 => ⟨S2176x5632, .f32⟩
  | 39 => ⟨S2176x5632, .f32⟩
  | 40 => ⟨S2176x2816, .f32⟩
  | 41 => ⟨S2176x2816, .f32⟩
  | 42 => ⟨S2176x2816, .f32⟩
  | 43 => ⟨S2176x2816, .f32⟩
  | 44 => ⟨S_, .f32⟩
  | 45 => ⟨S2176x2816, .f32⟩
  | 46 => ⟨S2176x2816, .f32⟩
  | 47 => ⟨S_, .f32⟩
  | 48 => ⟨S2176x2816, .f32⟩
  | 49 => ⟨S2176x2816, .f32⟩
  | 50 => ⟨S_, .f32⟩
  | 51 => ⟨S2176x2816, .f32⟩
  | 52 => ⟨S2176x2816, .f32⟩
  | 53 => ⟨S2176x2816, .f32⟩
  | 54 => ⟨S2176x2816, .f32⟩
  | 55 => ⟨S2176x2816, .f32⟩
  | 56 => ⟨S2176x1024, .f32⟩
  | 57 => ⟨S2176x1024, .f32⟩
  | 58 => ⟨S1024x2816, .f32⟩
  | 59 => ⟨S2816x1024, .f32⟩
  | 60 => ⟨S2176x2816, .f32⟩
  | 61 => ⟨S2176x2816, .f32⟩
  | 62 => ⟨S2176x2816, .f32⟩
  | 63 => ⟨S2176x2816, .f32⟩
  | 64 => ⟨S2176x2816, .f32⟩
  | 65 => ⟨S2176x2816, .f32⟩
  | 66 => ⟨S2176x2816, .f32⟩
  | 67 => ⟨S_, .f32⟩
  | 68 => ⟨S2176x5632, .f32⟩
  | 69 => ⟨S_, .f32⟩
  | 70 => ⟨S2176x5632, .f32⟩
  | 71 => ⟨S2176x5632, .f32⟩
  | 72 => ⟨S_, .f32⟩
  | 73 => ⟨S5632, .f32⟩
  | 74 => ⟨S1x5632, .f32⟩
  | 75 => ⟨S2176x5632, .f32⟩
  | 76 => ⟨S_, .f32⟩
  | 77 => ⟨S5632, .f32⟩
  | 78 => ⟨S1x5632, .f32⟩
  | 79 => ⟨S2176x5632, .f32⟩
  | 80 => ⟨S2176x5632, .f32⟩
  | 81 => ⟨S_, .f32⟩
  | 82 => ⟨S5632, .f32⟩
  | 83 => ⟨S1x5632, .f32⟩
  | 84 => ⟨S_, .f32⟩
  | 85 => ⟨S3x5632, .f32⟩
  | 86 => ⟨S_, .f32⟩
  | 87 => ⟨S2178x5632, .f32⟩
  | 88 => ⟨S2176x5632, .f32⟩
  | 89 => ⟨S_, .f32⟩
  | 90 => ⟨S5632, .f32⟩
  | 91 => ⟨S1x5632, .f32⟩
  | 92 => ⟨S2176x5632, .f32⟩
  | 93 => ⟨S2176x5632, .f32⟩
  | 94 => ⟨S_, .f32⟩
  | 95 => ⟨S5632, .f32⟩
  | 96 => ⟨S1x5632, .f32⟩
  | 97 => ⟨S_, .f32⟩
  | 98 => ⟨S3x5632, .f32⟩
  | 99 => ⟨S3x5632, .f32⟩
  | 100 => ⟨S_, .f32⟩
  | 101 => ⟨S2178x5632, .f32⟩
  | 102 => ⟨S2178x5632, .f32⟩
  | 103 => ⟨S2176x5632, .f32⟩
  | 104 => ⟨S_, .f32⟩
  | 105 => ⟨S5632, .f32⟩
  | 106 => ⟨S1x5632, .f32⟩
  | 107 => ⟨S2176x5632, .f32⟩
  | 108 => ⟨S2176x5632, .f32⟩
  | 109 => ⟨S_, .f32⟩
  | 110 => ⟨S5632, .f32⟩
  | 111 => ⟨S1x5632, .f32⟩
  | 112 => ⟨S_, .f32⟩
  | 113 => ⟨S3x5632, .f32⟩
  | 114 => ⟨S3x5632, .f32⟩
  | 115 => ⟨S_, .f32⟩
  | 116 => ⟨S2178x5632, .f32⟩
  | 117 => ⟨S2178x5632, .f32⟩
  | 118 => ⟨S2x5632, .f32⟩
  | 119 => ⟨S2176x5632, .f32⟩
  | 120 => ⟨S5632x1024, .f32⟩
  | 121 => ⟨S1024x5632, .f32⟩
  | 122 => ⟨S2176x1024, .f32⟩
  | 123 => ⟨S1024x8x704, .f32⟩
  | 124 => ⟨S8x1024x704, .f32⟩
  | 125 => ⟨S8x1024x704, .bf16⟩
  | 126 => ⟨S3x2816, .f32⟩
  | 127 => ⟨S3x2816, .f32⟩
  | _ => ⟨S2176x1024, .bf16⟩

abbrev hbmTy0_1 (i : Nat) : BufTy := match i % 128 with
  | 0 => ⟨S1x3x2816, .f32⟩
  | 1 => ⟨S1x3x2816, .f32⟩
  | 2 => ⟨S2x3x2816, .f32⟩
  | 3 => ⟨S1x2816, .f32⟩
  | 4 => ⟨S1x2816, .f32⟩
  | 5 => ⟨S1x1x2816, .f32⟩
  | 6 => ⟨S1x1x2816, .f32⟩
  | 7 => ⟨S2x1x2816, .f32⟩
  | 8 => ⟨S2816x1024, .bf16⟩
  | _ => ⟨S2176x1024, .bf16⟩

abbrev hbmTy (i : Nat) : BufTy := match i / 128 with
  | 0 => hbmTy0_0 i
  | 1 => hbmTy0_1 i
  | _ => ⟨S2176x1024, .bf16⟩

abbrev bufTy : (tb : Table) → Fin (tcTables nBuf tb) → BufTy
  | .hbm, ⟨i, _⟩ => hbmTy i
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v33_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v33_1 : Ref sig .tc := ⟨.hbm, 53, rfl⟩
abbrev main_v33_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_cst_4 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩

abbrev nD : Nat := 1
abbrev τ : Topo := Topo.v7x

variable {F : FTy → Type} [FloatOps F]
-- ==== MixKernel.lean ====
abbrev S2176x2048 : Shape := ⟨2, ![2176, 2048]⟩
abbrev S1x2048 : Shape := ⟨2, ![1, 2048]⟩
abbrev S2048x1024 : Shape := ⟨2, ![2048, 1024]⟩
abbrev S2176x1024 : Shape := ⟨2, ![2176, 1024]⟩
abbrev S1024x1024 : Shape := ⟨2, ![1024, 1024]⟩
abbrev S1024x512 : Shape := ⟨2, ![1024, 512]⟩
abbrev S2176x512 : Shape := ⟨2, ![2176, 512]⟩
abbrev S272x2048 : Shape := ⟨2, ![272, 2048]⟩
abbrev S272 : Shape := ⟨1, ![272]⟩
abbrev S272x1 : Shape := ⟨2, ![272, 1]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 27
  | .vmem => 65
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S1x2048, .f32⟩
  | .hbm, ⟨3, _⟩ => ⟨S2048x1024, .bf16⟩
  | .hbm, ⟨4, _⟩ => ⟨S2176x1024, .bf16⟩
  | .hbm, ⟨5, _⟩ => ⟨S2176x1024, .bf16⟩
  | .hbm, ⟨6, _⟩ => ⟨S1024x1024, .bf16⟩
  | .hbm, ⟨7, _⟩ => ⟨S2176x1024, .bf16⟩
  | .hbm, ⟨8, _⟩ => ⟨S1024x512, .bf16⟩
  | .hbm, ⟨9, _⟩ => ⟨S2176x1024, .bf16⟩
  | .hbm, ⟨10, _⟩ => ⟨S1024x1024, .bf16⟩
  | .hbm, ⟨11, _⟩ => ⟨S2176x1024, .bf16⟩
  | .hbm, ⟨12, _⟩ => ⟨S2176x1024, .bf16⟩
  | .hbm, ⟨13, _⟩ => ⟨S2176x512, .bf16⟩
  | .hbm, ⟨14, _⟩ => ⟨S2176x2048, .bf16⟩
  | .hbm, ⟨15, _⟩ => ⟨S2176x1024, .f32⟩
  | .hbm, ⟨16, _⟩ => ⟨S2176x2048, .f32⟩
  | .hbm, ⟨17, _⟩ => ⟨S2048x1024, .bf16⟩
  | .hbm, ⟨18, _⟩ => ⟨S2176x512, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S1024x1024, .bf16⟩
  | .hbm, ⟨23, _⟩ => ⟨S2176x1024, .f32⟩
  | .hbm, ⟨24, _⟩ => ⟨S1024x1024, .bf16⟩
  | .hbm, ⟨25, _⟩ => ⟨S2176x1024, .f32⟩
  | .hbm, ⟨26, _⟩ => ⟨S1024x512, .bf16⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S272x2048, .bf16⟩
  | .local _ .vmem, ⟨6, _⟩ => ⟨S272x2048, .bf16⟩
  | .local _ .vmem, ⟨7, _⟩ => ⟨S2176x2048, .bf16⟩
  | .local _ .vmem, ⟨8, _⟩ => ⟨S2048x512, .bf16⟩
  | .local _ .vmem, ⟨9, _⟩ => ⟨S2048x512, .bf16⟩
  | .local _ .vmem, ⟨10, _⟩ => ⟨S2176x512, .f32⟩
  | .local _ .vmem, ⟨11, _⟩ => ⟨S2176x512, .f32⟩
  | .local _ .vmem, ⟨12, _⟩ => ⟨S2176x1024, .bf16⟩
  | .local _ .vmem, ⟨13, _⟩ => ⟨S512x1024, .bf16⟩
  | .local _ .vmem, ⟨14, _⟩ => ⟨S512x1024, .bf16⟩
  | .local _ .vmem, ⟨15, _⟩ => ⟨S2176x512, .f32⟩
  | .local _ .vmem, ⟨16, _⟩ => ⟨S2176x512, .f32⟩
  | .local _ .vmem, ⟨17, _⟩ => ⟨S2176x512, .bf16⟩
  | .local _ .vmem, ⟨18, _⟩ => ⟨S2176x512, .bf16⟩
  | .local _ .vmem, ⟨19, _⟩ => ⟨S2176x1024, .bf16⟩
  | .local _ .vmem, ⟨20, _⟩ => ⟨S512x1024, .bf16⟩
  | .local _ .vmem, ⟨21, _⟩ => ⟨S512x1024, .bf16⟩
  | .local _ .vmem, ⟨22, _⟩ => ⟨S2176x1024, .bf16⟩
  | .local _ .vmem, ⟨23, _⟩ => ⟨S1024x512, .bf16⟩
  | .local _ .vmem, ⟨24, _⟩ => ⟨S2176x512, .f32⟩
  | .local _ .vmem, ⟨25, _⟩ => ⟨S2176x1024, .bf16⟩
  | .local _ .vmem, ⟨26, _⟩ => ⟨S1024x512, .bf16⟩
  | .local _ .vmem, ⟨27, _⟩ => ⟨S1024x512, .bf16⟩
  | .local _ .vmem, ⟨28, _⟩ => ⟨S2176x512, .f32⟩
  | .local _ .vmem, ⟨29, _⟩ => ⟨S2176x512, .f32⟩
  | .local _ .vmem, ⟨30, _⟩ => ⟨S2176x1024, .bf16⟩
  | .local _ .vmem, ⟨31, _⟩ => ⟨S1024x512, .bf16⟩
  | .local _ .vmem, ⟨32, _⟩ => ⟨S1024x512, .bf16⟩
  | .local _ .vmem, ⟨33, _⟩ => ⟨S2176x512, .f32⟩
  | .local _ .vmem, ⟨34, _⟩ => ⟨S2176x512, .f32⟩
  | .local _ .vmem, ⟨35, _⟩ => ⟨S2176x1024, .bf16⟩
  | .local _ .vmem, ⟨36, _⟩ => ⟨S512x1024, .bf16⟩
  | .local _ .vmem, ⟨37, _⟩ => ⟨S512x1024, .bf16⟩
  | .local _ .vmem, ⟨38, _⟩ => ⟨S2176x512, .f32⟩
  | .local _ .vmem, ⟨39, _⟩ => ⟨S2176x512, .f32⟩
  | .local _ .vmem, ⟨40, _⟩ => ⟨S2176x512, .bf16⟩
  | .local _ .vmem, ⟨41, _⟩ => ⟨S2176x512, .bf16⟩
  | .local _ .vmem, ⟨42, _⟩ => ⟨S2176x1024, .bf16⟩
  | .local _ .vmem, ⟨43, _⟩ => ⟨S512x1024, .bf16⟩
  | .local _ .vmem, ⟨44, _⟩ => ⟨S512x1024, .bf16⟩
  | .local _ .vmem, ⟨45, _⟩ => ⟨S2176x1024, .bf16⟩
  | .local _ .vmem, ⟨46, _⟩ => ⟨S512x1024, .bf16⟩
  | .local _ .vmem, ⟨47, _⟩ => ⟨S512x1024, .bf16⟩
  | .local _ .vmem, ⟨48, _⟩ => ⟨S2176x512, .f32⟩
  | .local _ .vmem, ⟨49, _⟩ => ⟨S2176x512, .f32⟩
  | .local _ .vmem, ⟨50, _⟩ => ⟨S2176x512, .bf16⟩
  | .local _ .vmem, ⟨51, _⟩ => ⟨S2176x512, .bf16⟩
  | .local _ .vmem, ⟨52, _⟩ => ⟨S2176x1024, .bf16⟩
  | .local _ .vmem, ⟨53, _⟩ => ⟨S512x1024, .bf16⟩
  | .local _ .vmem, ⟨54, _⟩ => ⟨S512x1024, .bf16⟩
  | .local _ .vmem, ⟨55, _⟩ => ⟨S2176x512, .bf16⟩
  | .local _ .vmem, ⟨56, _⟩ => ⟨S512x512, .bf16⟩
  | .local _ .vmem, ⟨57, _⟩ => ⟨S512x512, .bf16⟩
  | .local _ .vmem, ⟨58, _⟩ => ⟨S2176x512, .f32⟩
  | .local _ .vmem, ⟨59, _⟩ => ⟨S2176x512, .f32⟩
  | .local _ .vmem, ⟨60, _⟩ => ⟨S2176x512, .bf16⟩
  | .local _ .vmem, ⟨61, _⟩ => ⟨S2176x512, .bf16⟩
  | .local _ .vmem, ⟨62, _⟩ => ⟨S2176x512, .bf16⟩
  | .local _ .vmem, ⟨63, _⟩ => ⟨S512x512, .bf16⟩
  | .local _ .vmem, ⟨64, _⟩ => ⟨S512x512, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg1_1 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg1_0 : Ref sig .tc := ⟨.vmem, 46, rfl⟩
abbrev cc9_stg1_1 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg1_0 : Ref sig .tc := ⟨.vmem, 56, rfl⟩
abbrev cc11_stg1_1 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg2_0 : Ref sig .tc := ⟨.vmem, 63, rfl⟩
abbrev cc12_stg2_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem1_1 : DmaSem sig := 32
abbrev cc6_sem2_0 : DmaSem sig := 33
abbrev cc6_sem2_1 : DmaSem sig := 34
abbrev cc7_sem0_0 : DmaSem sig := 35
abbrev cc7_sem1_0 : DmaSem sig := 36
abbrev cc7_sem1_1 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem1_0 : DmaSem sig := 46
abbrev cc9_sem1_1 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem1_0 : DmaSem sig := 56
abbrev cc11_sem1_1 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2176x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2176x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2176x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2176x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2176x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S2176x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1024x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S2176x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S2176x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2176x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S2176x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S1024x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2176x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 1 → Memref sig .tc .vmem S2176x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2176x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨2, ![2, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S2176x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S2176x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 2 → Memref sig .tc .vmem S512x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage9_0 : Fin 1 → Memref sig .tc .vmem S2176x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S512x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2176x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![2, 1], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S2176x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 1 → Memref sig .tc .vmem S2176x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 2 → Memref sig .tc .vmem S512x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨1, ![2], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage11_0 : Fin 1 → Memref sig .tc .vmem S2176x512 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 2 → Memref sig .tc .vmem S512x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2176x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨2, ![2, 1], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 2 → Memref sig .tc .vmem S2176x512 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 1 → Memref sig .tc .vmem S2176x512 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 2 → Memref sig .tc .vmem S512x512 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]
-- ==== MixReferenceIdeal.lean ====
abbrev S2176x2048 : Shape := ⟨2, ![2176, 2048]⟩
abbrev S1x2048 : Shape := ⟨2, ![1, 2048]⟩
abbrev S2048x1024 : Shape := ⟨2, ![2048, 1024]⟩
abbrev S2176x1024 : Shape := ⟨2, ![2176, 1024]⟩
abbrev S1024x1024 : Shape := ⟨2, ![1024, 1024]⟩
abbrev S1024x512 : Shape := ⟨2, ![1024, 512]⟩
abbrev S2176x512 : Shape := ⟨2, ![2176, 512]⟩
abbrev S_ : Shape := ⟨0, ![]⟩
abbrev S2176 : Shape := ⟨1, ![2176]⟩
abbrev S2176x1 : Shape := ⟨2, ![2176, 1]⟩
abbrev S1024x2048 : Shape := ⟨2, ![1024, 2048]⟩
abbrev S512x1024 : Shape := ⟨2, ![512, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S1x2048, .f32⟩
  | .hbm, ⟨3, _⟩ => ⟨S2048x1024, .bf16⟩
  | .hbm, ⟨4, _⟩ => ⟨S2176x1024, .bf16⟩
  | .hbm, ⟨5, _⟩ => ⟨S2176x1024, .bf16⟩
  | .hbm, ⟨6, _⟩ => ⟨S1024x1024, .bf16⟩
  | .hbm, ⟨7, _⟩ => ⟨S2176x1024, .bf16⟩
  | .hbm, ⟨8, _⟩ => ⟨S1024x512, .bf16⟩
  | .hbm, ⟨9, _⟩ => ⟨S2176x1024, .bf16⟩
  | .hbm, ⟨10, _⟩ => ⟨S1024x1024, .bf16⟩
  | .hbm, ⟨11, _⟩ => ⟨S2176x1024, .bf16⟩
  | .hbm, ⟨12, _⟩ => ⟨S2176x1024, .bf16⟩
  | .hbm, ⟨13, _⟩ => ⟨S2176x512, .bf16⟩
  | .hbm, ⟨14, _⟩ => ⟨S2176x2048, .f32⟩
  | .hbm, ⟨15, _⟩ => ⟨S2176x2048, .f32⟩
  | .hbm, ⟨16, _⟩ => ⟨S_, .f32⟩
  | .hbm, ⟨17, _⟩ => ⟨S2176x2048, .f32⟩
  | .hbm, ⟨18, _⟩ => ⟨S2176x2048, .f32⟩
  | .hbm, ⟨19, _⟩ => ⟨S_, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S_, .f32⟩
  | .hbm, ⟨26, _⟩ => ⟨S2176, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S_, .f32⟩
  | .hbm, ⟨32, _⟩ => ⟨S2176x1, .f32⟩
  | .hbm, ⟨33, _⟩ => ⟨S2176x1, .f32⟩
  | .hbm, ⟨34, _⟩ => ⟨S2176x1, .f32⟩
  | .hbm, ⟨35, _⟩ => ⟨S2176x2048, .f32⟩
  | .hbm, ⟨36, _⟩ => ⟨S2176x2048, .f32⟩
  | .hbm, ⟨37, _⟩ => ⟨S2176x2048, .f32⟩
  | .hbm, ⟨38, _⟩ => ⟨S2176x2048, .f32⟩
  | .hbm, ⟨39, _⟩ => ⟨S2048x1024, .f32⟩
  | .hbm, ⟨40, _⟩ => ⟨S2176x1024, .f32⟩
  | .hbm, ⟨41, _⟩ => ⟨S2176x1024, .f32⟩
  | .hbm, ⟨42, _⟩ => ⟨S1024x2048, .f32⟩
  | .hbm, ⟨43, _⟩ => ⟨S2048x1024, .f32⟩
  | .hbm, ⟨44, _⟩ => ⟨S2176x2048, .f32⟩
  | .hbm, ⟨45, _⟩ => ⟨S2048x1024, .bf16⟩
  | .hbm, ⟨46, _⟩ => ⟨S2176x1024, .f32⟩
  | .hbm, ⟨47, _⟩ => ⟨S1024x512, .f32⟩
  | .hbm, ⟨48, _⟩ => ⟨S2176x512, .f32⟩
  | .hbm, ⟨49, _⟩ => ⟨S2176x512, .f32⟩
  | .hbm, ⟨50, _⟩ => ⟨S512x1024, .f32⟩
  | .hbm, ⟨51, _⟩ => ⟨S1024x512, .f32⟩
  | .hbm, ⟨52, _⟩ => ⟨S2176x1024, .f32⟩
  | .hbm, ⟨53, _⟩ => ⟨S1024x512, .bf16⟩
  | .hbm, ⟨54, _⟩ => ⟨S2176x1024, .f32⟩
  | .hbm, ⟨55, _⟩ => ⟨S1024x1024, .f32⟩
  | .hbm, ⟨56, _⟩ => ⟨S2176x1024, .f32⟩
  | .hbm, ⟨57, _⟩ => ⟨S2176x1024, .f32⟩
  | .hbm, ⟨58, _⟩ => ⟨S1024x1024, .f32⟩
  | .hbm, ⟨59, _⟩ => ⟨S1024x1024, .f32⟩
  | .hbm, ⟨60, _⟩ => ⟨S2176x1024, .f32⟩
  | .hbm, ⟨61, _⟩ => ⟨S1024x1024, .bf16⟩
  | .hbm, ⟨62, _⟩ => ⟨S2176x1024, .f32⟩
  | .hbm, ⟨63, _⟩ => ⟨S1024x1024, .f32⟩
  | .hbm, ⟨64, _⟩ => ⟨S2176x1024, .f32⟩
  | .hbm, ⟨65, _⟩ => ⟨S2176x1024, .f32⟩
  | .hbm, ⟨66, _⟩ => ⟨S1024x1024, .f32⟩
  | .hbm, ⟨67, _⟩ => ⟨S1024x1024, .f32⟩
  | .hbm, ⟨68, _⟩ => ⟨S2176x1024, .f32⟩
  | .hbm, ⟨69, _⟩ => ⟨S1024x1024, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== InKernel.lean ====
abbrev S2176x1024 : Shape := ⟨2, ![2176, 1024]⟩
abbrev S1024x5632 : Shape := ⟨2, ![1024, 5632]⟩
abbrev S4x3072 : Shape := ⟨2, ![4, 3072]⟩
abbrev S1x3072 : Shape := ⟨2, ![1, 3072]⟩
abbrev S2176x2048 : Shape := ⟨2, ![2176, 2048]⟩
abbrev S2176x512 : Shape := ⟨2, ![2176, 512]⟩
abbrev S2176x5632 : Shape := ⟨2, ![2176, 5632]⟩
abbrev S1024x512 : Shape := ⟨2, ![1024, 512]⟩
abbrev S2176x3072 : Shape := ⟨2, ![2176, 3072]⟩
abbrev S4x512 : Shape := ⟨2, ![4, 512]⟩
abbrev S1x512 : Shape := ⟨2, ![1, 512]⟩
abbrev S2176x1 : Shape := ⟨2, ![2176, 1]⟩
abbrev S2176x256 : Shape := ⟨2, ![2176, 256]⟩
abbrev S4x256 : Shape := ⟨2, ![4, 256]⟩
abbrev S1x256 : Shape := ⟨2, ![1, 256]⟩
abbrev S256 : Shape := ⟨1, ![256]⟩
abbrev S2176x1408 : Shape := ⟨2, ![2176, 1408]⟩
abbrev S512x1408 : Shape := ⟨2, ![512, 1408]⟩
abbrev S544x5632 : Shape := ⟨2, ![544, 5632]⟩
abbrev S544x1024 : Shape := ⟨2, ![544, 1024]⟩

abbrev nBuf : Space → Nat
  | .hbm => 15
  | .vmem => 43
  | .smem => 0
  | _ => 0

abbrev bufTy : (tb : Table) → Fin (tcTables nBuf tb) → BufTy
  | .hbm, ⟨0, _⟩ => ⟨S2176x1024, .bf16⟩
  | .hbm, ⟨1, _⟩ => ⟨S1024x5632, .bf16⟩
  | .hbm, ⟨2, _⟩ => ⟨S4x3072, .f32⟩
  | .hbm, ⟨3, _⟩ => ⟨S1x3072, .f32⟩
  | .hbm, ⟨4, _⟩ => ⟨S2176x2048, .f32⟩
  | .hbm, ⟨5, _⟩ => ⟨S2176x512, .f32⟩
  | .hbm, ⟨6, _⟩ => ⟨S2176x512, .f32⟩
  | .hbm, ⟨7, _⟩ => ⟨S2176x5632, .bf16⟩
  | .hbm, ⟨8, _⟩ => ⟨S2176x5632, .f32⟩
  | .hbm, ⟨9, _⟩ => ⟨S2176x3072, .f32⟩
  | .hbm, ⟨10, _⟩ => ⟨S2176x5632, .bf16⟩
  | .hbm, ⟨11, _⟩ => ⟨S4x3072, .f32⟩
  | .hbm, ⟨12, _⟩ => ⟨S1x3072, .f32⟩
  | .hbm, ⟨13, _⟩ => ⟨S1024x5632, .bf16⟩
  | .hbm, ⟨14, _⟩ => ⟨S2176x1024, .f32⟩
  | .local _ .vmem, ⟨0, _⟩ => ⟨S2176x1024, .bf16⟩
  | .local _ .vmem, ⟨1, _⟩ => ⟨S1024x512, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | .local _ .vmem, ⟨7, _⟩ => ⟨S4x512, .f32⟩
  | .local _ .vmem, ⟨8, _⟩ => ⟨S4x512, .f32⟩
  | .local _ .vmem, ⟨9, _⟩ => ⟨S1x512, .f32⟩
  | .local _ .vmem, ⟨10, _⟩ => ⟨S1x512, .f32⟩
  | .local _ .vmem, ⟨11, _⟩ => ⟨S2176x512, .f32⟩
  | .local _ .vmem, ⟨12, _⟩ => ⟨S2176x512, .f32⟩
  | .local _ .vmem, ⟨13, _⟩ => ⟨S2176x256, .f32⟩
  | .local _ .vmem, ⟨14, _⟩ => ⟨S2176x256, .f32⟩
  | .local _ .vmem, ⟨15, _⟩ => ⟨S2176x256, .f32⟩
  | .local _ .vmem, ⟨16, _⟩ => ⟨S2176x256, .f32⟩
  | .local _ .vmem, ⟨17, _⟩ => ⟨S2176x256, .f32⟩
  | .local _ .vmem, ⟨18, _⟩ => ⟨S2176x256, .f32⟩
  | .local _ .vmem, ⟨19, _⟩ => ⟨S2176x256, .f32⟩
  | .local _ .vmem, ⟨20, _⟩ => ⟨S2176x256, .f32⟩
  | .local _ .vmem, ⟨21, _⟩ => ⟨S4x256, .f32⟩
  | .local _ .vmem, ⟨22, _⟩ => ⟨S4x256, .f32⟩
  | .local _ .vmem, ⟨23, _⟩ => ⟨S1x256, .f32⟩
  | .local _ .vmem, ⟨24, _⟩ => ⟨S1x256, .f32⟩
  | .local _ .vmem, ⟨25, _⟩ => ⟨S2176x256, .bf16⟩
  | .local _ .vmem, ⟨26, _⟩ => ⟨S2176x256, .bf16⟩
  | .local _ .vmem, ⟨27, _⟩ => ⟨S4x256, .f32⟩
  | .local _ .vmem, ⟨28, _⟩ => ⟨S4x256, .f32⟩
  | .local _ .vmem, ⟨29, _⟩ => ⟨S1x256, .f32⟩
  | .local _ .vmem, ⟨30, _⟩ => ⟨S1x256, .f32⟩
  | .local _ .vmem, ⟨31, _⟩ => ⟨S2176x256, .f32⟩
  | .local _ .vmem, ⟨32, _⟩ => ⟨S2176x512, .bf16⟩
  | .local _ .vmem, ⟨33, _⟩ => ⟨S2176x512, .bf16⟩
  | .local _ .vmem, ⟨34, _⟩ => ⟨S2176x1408, .bf16⟩
  | .local _ .vmem, ⟨35, _⟩ => ⟨S2176x1408, .bf16⟩
  | .local _ .vmem, ⟨36, _⟩ => ⟨S512x1408, .bf16⟩
  | .local _ .vmem, ⟨37, _⟩ => ⟨S512x1408, .bf16⟩
  | .local _ .vmem, ⟨38, _⟩ => ⟨S544x5632, .bf16⟩
  | .local _ .vmem, ⟨39, _⟩ => ⟨S544x5632, .bf16⟩
  | .local _ .vmem, ⟨40, _⟩ => ⟨S1024x5632, .bf16⟩
  | .local _ .vmem, ⟨41, _⟩ => ⟨S544x1024, .f32⟩
  | .local _ .vmem, ⟨42, _⟩ => ⟨S544x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc2_scratch0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28
abbrev cc2_sem8_0 : DmaSem sig := 29
abbrev cc2_sem8_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2176x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2176x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc2_transform_2 (i : grid2.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc2_transform_3 (i : grid2.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2176x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2176x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2176x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2176x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2176x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2176x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2176x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S544x5632 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x5632 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S544x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== InReferenceIdeal.lean ====
abbrev S2176x1024 : Shape := ⟨2, ![2176, 1024]⟩
abbrev S1024x5632 : Shape := ⟨2, ![1024, 5632]⟩
abbrev S4x3072 : Shape := ⟨2, ![4, 3072]⟩
abbrev S1x3072 : Shape := ⟨2, ![1, 3072]⟩
abbrev S2176x2048 : Shape := ⟨2, ![2176, 2048]⟩
abbrev S2176x512 : Shape := ⟨2, ![2176, 512]⟩
abbrev S2176x5632 : Shape := ⟨2, ![2176, 5632]⟩
abbrev S2176x3072 : Shape := ⟨2, ![2176, 3072]⟩
abbrev S_ : Shape := ⟨0, ![]⟩
abbrev S3x3072 : Shape := ⟨2, ![3, 3072]⟩
abbrev S2179x3072 : Shape := ⟨2, ![2179, 3072]⟩
abbrev S3072 : Shape := ⟨1, ![3072]⟩
abbrev S5632x1024 : Shape := ⟨2, ![5632, 1024]⟩

abbrev nBuf : Space → Nat
  | .hbm => 148
  | .vmem => 0
  | .smem => 0
  | _ => 0

abbrev hbmTy0_0 (i : Nat) : BufTy := match i % 128 with
  | 0 => ⟨S2176x1024, .bf16⟩
  | 1 => ⟨S1024x5632, .bf16⟩
  | 2 => ⟨S4x3072, .f32⟩
  | 3 => ⟨S1x3072, .f32⟩
  | 4 => ⟨S2176x2048, .f32⟩
  | 5 => ⟨S2176x512, .f32⟩
  | 6 => ⟨S2176x512, .f32⟩
  | 7 => ⟨S2176x5632, .bf16⟩
  | 8 => ⟨S2176x1024, .f32⟩
  | 9 => ⟨S1024x5632, .f32⟩
  | 10 => ⟨S2176x5632, .f32⟩
  | 11 => ⟨S2176x3072, .f32⟩
  | 12 => ⟨S2176x2048, .f32⟩
  | 13 => ⟨S_, .f32⟩
  | 14 => ⟨S3x3072, .f32⟩
  | 15 => ⟨S2179x3072, .f32⟩
  | 16 => ⟨S_, .f32⟩
  | 17 => ⟨S3x3072, .f32⟩
  | 18 => ⟨S2176x3072, .f32⟩
  | 19 => ⟨S1x3072, .f32⟩
  | 20 => ⟨S3072, .f32⟩
  | 21 => ⟨S1x3072, .f32⟩
  | 22 => ⟨S2176x3072, .f32⟩
  | 23 => ⟨S2176x3072, .f32⟩
  | 24 => ⟨S_, .f32⟩
  | 25 => ⟨S2176x3072, .f32⟩
  | 26 => ⟨S2176x3072, .f32⟩
  | 27 => ⟨S2176x3072, .f32⟩
  | 28 => ⟨S1x3072, .f32⟩
  | 29 => ⟨S3072, .f32⟩
  | 30 => ⟨S1x3072, .f32⟩
  | 31 => ⟨S2176x3072, .f32⟩
  | 32 => ⟨S2176x3072, .f32⟩
  | 33 => ⟨S2176x3072, .f32⟩
  | 34 => ⟨S2176x3072, .f32⟩
  | 35 => ⟨S1x3072, .f32⟩
  | 36 => ⟨S3072, .f32⟩
  | 37 => ⟨S1x3072, .f32⟩
  | 38 => ⟨S2176x3072, .f32⟩
  | 39 => ⟨S2176x3072, .f32⟩
  | 40 => ⟨S2176x3072, .f32⟩
  | 41 => ⟨S2176x3072, .f32⟩
  | 42 => ⟨S1x3072, .f32⟩
  | 43 => ⟨S3072, .f32⟩
  | 44 => ⟨S1x3072, .f32⟩
  | 45 => ⟨S2176x3072, .f32⟩
  | 46 => ⟨S2176x3072, .f32⟩
  | 47 => ⟨S2176x3072, .f32⟩
  | 48 => ⟨S2176x3072, .f32⟩
  | 49 => ⟨S2176x3072, .f32⟩
  | 50 => ⟨S2176x3072, .f32⟩
  | 51 => ⟨S2176x3072, .f32⟩
  | 52 => ⟨S_, .f32⟩
  | 53 => ⟨S2176x3072, .f32⟩
  | 54 => ⟨S2176x3072, .f32⟩
  | 55 => ⟨S_, .f32⟩
  | 56 => ⟨S2176x3072, .f32⟩
  | 57 => ⟨S2176x3072, .f32⟩
  | 58 => ⟨S_, .f32⟩
  | 59 => ⟨S2176x3072, .f32⟩
  | 60 => ⟨S2176x3072, .f32⟩
  | 61 => ⟨S2176x3072, .f32⟩
  | 62 => ⟨S2176x3072, .f32⟩
  | 63 => ⟨S2176x512, .f32⟩
  | 64 => ⟨S2176x2048, .bf16⟩
  | 65 => ⟨S2176x2048, .f32⟩
  | 66 => ⟨S2176x512, .bf16⟩
  | 67 => ⟨S2176x512, .f32⟩
  | 68 => ⟨S2176x3072, .f32⟩
  | 69 => ⟨S_, .f32⟩
  | 70 => ⟨S2176x5632, .f32⟩
  | 71 => ⟨S2176x3072, .f32⟩
  | 72 => ⟨S2176x3072, .f32⟩
  | 73 => ⟨S2176x3072, .f32⟩
  | 74 => ⟨S2176x3072, .f32⟩
  | 75 => ⟨S_, .f32⟩
  | 76 => ⟨S3072, .f32⟩
  | 77 => ⟨S1x3072, .f32⟩
  | 78 => ⟨S2176x3072, .f32⟩
  | 79 => ⟨S_, .f32⟩
  | 80 => ⟨S3072, .f32⟩
  | 81 => ⟨S1x3072, .f32⟩
  | 82 => ⟨S2176x3072, .f32⟩
  | 83 => ⟨S2176x3072, .f32⟩
  | 84 => ⟨S_, .f32⟩
  | 85 => ⟨S3072, .f32⟩
  | 86 => ⟨S1x3072, .f32⟩
  | 87 => ⟨S_, .f32⟩
  | 88 => ⟨S4x3072, .f32⟩
  | 89 => ⟨S_, .f32⟩
  | 90 => ⟨S2179x3072, .f32⟩
  | 91 => ⟨S2176x3072, .f32⟩
  | 92 => ⟨S_, .f32⟩
  | 93 => ⟨S3072, .f32⟩
  | 94 => ⟨S1x3072, .f32⟩
  | 95 => ⟨S2176x3072, .f32⟩
  | 96 => ⟨S2176x3072, .f32⟩
  | 97 => ⟨S_, .f32⟩
  | 98 => ⟨S3072, .f32⟩
  | 99 => ⟨S1x3072, .f32⟩
  | 100 => ⟨S_, .f32⟩
  | 101 => ⟨S4x3072, .f32⟩
  | 102 => ⟨S4x3072, .f32⟩
  | 103 => ⟨S_, .f32⟩
  | 104 => ⟨S2179x3072, .f32⟩
  | 105 => ⟨S2179x3072, .f32⟩
  | 106 => ⟨S2176x3072, .f32⟩
  | 107 => ⟨S_, .f32⟩
  | 108 => ⟨S3072, .f32⟩
  | 109 => ⟨S1x3072, .f32⟩
  | 110 => ⟨S2176x3072, .f32⟩
  | 111 => ⟨S2176x3072, .f32⟩
  | 112 => ⟨S_, .f32⟩
  | 113 => ⟨S3072, .f32⟩
  | 114 => ⟨S1x3072, .f32⟩
  | 115 => ⟨S_, .f32⟩
  | 116 => ⟨S4x3072, .f32⟩
  | 117 => ⟨S4x3072, .f32⟩
  | 118 => ⟨S_, .f32⟩
  | 119 => ⟨S2179x3072, .f32⟩
  | 120 => ⟨S2179x3072, .f32⟩
  | 121 => ⟨S2176x3072, .f32⟩
  | 122 => ⟨S_, .f32⟩
  | 123 => ⟨S3072, .f32⟩
  | 124 => ⟨S1x3072, .f32⟩
  | 125 => ⟨S2176x3072, .f32⟩
  | 126 => ⟨S2176x3072, .f32⟩
  | 127 => ⟨S_, .f32⟩
  | _ => ⟨S2176x1024, .bf16⟩

abbrev hbmTy0_1 (i : Nat) : BufTy := match i % 128 with
  | 0 => ⟨S3072, .f32⟩
  | 1 => ⟨S1x3072, .f32⟩
  | 2 => ⟨S_, .f32⟩
  | 3 => ⟨S4x3072, .f32⟩
  | 4 => ⟨S4x3072, .f32⟩
  | 5 => ⟨S_, .f32⟩
  | 6 => ⟨S2179x3072, .f32⟩
  | 7 => ⟨S2179x3072, .f32⟩
  | 8 => ⟨S3x3072, .f32⟩
  | 9 => ⟨S2176x3072, .f32⟩
  | 10 => ⟨S_, .f32⟩
  | 11 => ⟨S2176x5632, .f32⟩
  | 12 => ⟨S2176x5632, .f32⟩
  | 13 => ⟨S_, .f32⟩
  | 14 => ⟨S2176x5632, .f32⟩
  | 15 => ⟨S2176x5632, .f32⟩
  | 16 => ⟨S5632x1024, .f32⟩
  | 17 => ⟨S1024x5632, .f32⟩
  | 18 => ⟨S2176x1024, .f32⟩
  | 19 => ⟨S1024x5632, .bf16⟩
  | _ => ⟨S2176x1024, .bf16⟩

abbrev hbmTy (i : Nat) : BufTy := match i / 128 with
  | 0 => hbmTy0_0 i
  | 1 => hbmTy0_1 i
  | _ => ⟨S2176x1024, .bf16⟩

abbrev bufTy : (tb : Table) → Fin (tcTables nBuf tb) → BufTy
  | .hbm, ⟨i, _⟩ => hbmTy i
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v39_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v39_1 : Ref sig .tc := ⟨.hbm, 61, rfl⟩
abbrev main_v39_0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_2 : Ref sig .tc := ⟨.hbm, 69, rfl⟩
abbrev main_v46 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v47 : Ref sig .tc := ⟨.hbm, 74, rfl⟩
abbrev main_cst_3 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_4 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_cst_10 : Ref sig .tc := ⟨.hbm, 100, rfl⟩
abbrev main_v66 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_13 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_17 : Ref sig .tc := ⟨.hbm, 127, rfl⟩
abbrev main_v86 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_cst_19 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_cst_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩

abbrev nD : Nat := 1
abbrev τ : Topo := Topo.v7x

variable {F : FTy → Type} [FloatOps F]
-- ==== StepKernel.lean ====
abbrev S4x256x1024 : Shape := ⟨3, ![4, 256, 1024]⟩
abbrev S4x128x512 : Shape := ⟨3, ![4, 128, 512]⟩
abbrev S4x128x1024 : Shape := ⟨3, ![4, 128, 1024]⟩
abbrev S4x352x1024 : Shape := ⟨3, ![4, 352, 1024]⟩
abbrev S4x1024x704 : Shape := ⟨3, ![4, 1024, 704]⟩
abbrev S4x512x644 : Shape := ⟨3, ![4, 512, 644]⟩
abbrev S1x256x1024 : Shape := ⟨3, ![1, 256, 1024]⟩
abbrev S128x512 : Shape := ⟨2, ![128, 512]⟩
abbrev S1x128x1024 : Shape := ⟨3, ![1, 128, 1024]⟩
abbrev S2x352x1024 : Shape := ⟨3, ![2, 352, 1024]⟩
abbrev S2x1024x704 : Shape := ⟨3, ![2, 1024, 704]⟩
abbrev S1x1024x644 : Shape := ⟨3, ![1, 1024, 644]⟩
abbrev S2048x704 : Shape := ⟨2, ![2048, 704]⟩
abbrev S4x512x704 : Shape := ⟨3, ![4, 512, 704]⟩
abbrev S512x704 : Shape := ⟨2, ![512, 704]⟩
abbrev S1x512x704 : Shape := ⟨3, ![1, 512, 704]⟩
abbrev S2x704x1024 : Shape := ⟨3, ![2, 704, 1024]⟩
abbrev S1x704x1024 : Shape := ⟨3, ![1, 704, 1024]⟩
abbrev S1x176x1024 : Shape := ⟨3, ![1, 176, 1024]⟩
abbrev S176x1024 : Shape := ⟨2, ![176, 1024]⟩
abbrev S256x1024 : Shape := ⟨2, ![256, 1024]⟩
abbrev S1x128x512 : Shape := ⟨3, ![1, 128, 512]⟩
abbrev S128x1024 : Shape := ⟨2, ![128, 1024]⟩
abbrev S4x176x1024 : Shape := ⟨3, ![4, 176, 1024]⟩
abbrev S1024x644 : Shape := ⟨2, ![1024, 644]⟩
abbrev S512x644 : Shape := ⟨2, ![512, 644]⟩
abbrev S1x512x644 : Shape := ⟨3, ![1, 512, 644]⟩
abbrev S644x1024 : Shape := ⟨2, ![644, 1024]⟩
abbrev S1x644x1024 : Shape := ⟨3, ![1, 644, 1024]⟩
abbrev S1x644x256 : Shape := ⟨3, ![1, 644, 256]⟩
abbrev S644x256 : Shape := ⟨2, ![644, 256]⟩

abbrev nBuf : Space → Nat
  | .hbm => 88
  | .vmem => 96
  | .smem => 0
  | _ => 0

abbrev bufTy : (tb : Table) → Fin (tcTables nBuf tb) → BufTy
  | .hbm, ⟨0, _⟩ => ⟨S4x256x1024, .bf16⟩
  | .hbm, ⟨1, _⟩ => ⟨S4x128x512, .bf16⟩
  | .hbm, ⟨2, _⟩ => ⟨S4x128x1024, .bf16⟩
  | .hbm, ⟨3, _⟩ => ⟨S4x128x1024, .bf16⟩
  | .hbm, ⟨4, _⟩ => ⟨S4x352x1024, .bf16⟩
  | .hbm, ⟨5, _⟩ => ⟨S4x352x1024, .bf16⟩
  | .hbm, ⟨6, _⟩ => ⟨S4x1024x704, .bf16⟩
  | .hbm, ⟨7, _⟩ => ⟨S4x1024x704, .bf16⟩
  | .hbm, ⟨8, _⟩ => ⟨S4x512x644, .bf16⟩
  | .hbm, ⟨9, _⟩ => ⟨S4x512x644, .bf16⟩
  | .hbm, ⟨10, _⟩ => ⟨S1x256x1024, .f32⟩
  | .hbm, ⟨11, _⟩ => ⟨S1x256x1024, .f32⟩
  | .hbm, ⟨12, _⟩ => ⟨S1x256x1024, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S2x1024x704, .f32⟩
  | .hbm, ⟨26, _⟩ => ⟨S2x1024x704, .f32⟩
  | .hbm, ⟨27, _⟩ => ⟨S2x1024x704, .f32⟩
  | .hbm, ⟨28, _⟩ => ⟨S1x1024x644, .f32⟩
  | .hbm, ⟨29, _⟩ => ⟨S1x1024x644, .f32⟩
  | .hbm, ⟨30, _⟩ => ⟨S1x1024x644, .f32⟩
  | .hbm, ⟨31, _⟩ => ⟨S2048x704, .f32⟩
  | .hbm, ⟨32, _⟩ => ⟨S2x1024x704, .f32⟩
  | .hbm, ⟨33, _⟩ => ⟨S2x704x1024, .f32⟩
  | .hbm, ⟨34, _⟩ => ⟨S1x704x1024, .f32⟩
  | .hbm, ⟨35, _⟩ => ⟨S1x704x1024, .f32⟩
  | .hbm, ⟨36, _⟩ => ⟨S2x704x1024, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S2x704x1024, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S2x1024x704, .f32⟩
  | .hbm, ⟨47, _⟩ => ⟨S1x256x1024, .f32⟩
  | .hbm, ⟨48, _⟩ => ⟨S1x256x1024, .f32⟩
  | .hbm, ⟨49, _⟩ => ⟨S1x256x1024, .f32⟩
  | .hbm, ⟨50, _⟩ => ⟨S1x256x1024, .f32⟩
  | .hbm, ⟨51, _⟩ => ⟨S1x128x512, .f32⟩
  | .hbm, ⟨52, _⟩ => ⟨S1x128x512, .f32⟩
  | .hbm, ⟨53, _⟩ => ⟨S1x128x512, .f32⟩
  | .hbm, ⟨54, _⟩ => ⟨S1x128x512, .f32⟩
  | .hbm, ⟨55, _⟩ => ⟨S1x128x512, .f32⟩
  | .hbm, ⟨56, _⟩ => ⟨S1x128x512, .f32⟩
  | .hbm, ⟨57, _⟩ => ⟨S1x128x512, .f32⟩
  | .hbm, ⟨58, _⟩ => ⟨S128x512, .f32⟩
  | .hbm, ⟨59, _⟩ => ⟨S128x512, .f32⟩
  | .hbm, ⟨60, _⟩ => ⟨S128x512, .f32⟩
  | .hbm, ⟨61, _⟩ => ⟨S128x512, .f32⟩
  | .hbm, ⟨62, _⟩ => ⟨S1x128x1024, .f32⟩
  | .hbm, ⟨63, _⟩ => ⟨S1x128x1024, .f32⟩
  | .hbm, ⟨64, _⟩ => ⟨S1x128x1024, .f32⟩
  | .hbm, ⟨65, _⟩ => ⟨S1x128x1024, .f32⟩
  | .hbm, ⟨66, _⟩ => ⟨S1x128x1024, .f32⟩
  | .hbm, ⟨67, _⟩ => ⟨S1x128x1024, .f32⟩
  | .hbm, ⟨68, _⟩ => ⟨S1x128x1024, .f32⟩
  | .hbm, ⟨69, _⟩ => ⟨S1x128x1024, .f32⟩
  | .hbm, ⟨70, _⟩ => ⟨S2x352x1024, .f32⟩
  | .hbm, ⟨71, _⟩ => ⟨S2x352x1024, .f32⟩
  | .hbm, ⟨72, _⟩ => ⟨S2x352x1024, .f32⟩
  | .hbm, ⟨73, _⟩ => ⟨S2x352x1024, .f32⟩
  | .hbm, ⟨74, _⟩ => ⟨S1024x644, .f32⟩
  | .hbm, ⟨75, _⟩ => ⟨S644x1024, .f32⟩
  | .hbm, ⟨76, _⟩ => ⟨S1x644x1024, .f32⟩
  | .hbm, ⟨77, _⟩ => ⟨S1x644x1024, .f32⟩
  | .hbm, ⟨78, _⟩ => ⟨S1x644x1024, .f32⟩
  | .hbm, ⟨79, _⟩ => ⟨S1x644x1024, .f32⟩
  | .hbm, ⟨80, _⟩ => ⟨S1x644x1024, .f32⟩
  | .hbm, ⟨81, _⟩ => ⟨S1x644x1024, .f32⟩
  | .hbm, ⟨82, _⟩ => ⟨S1x644x1024, .f32⟩
  | .hbm, ⟨83, _⟩ => ⟨S1x644x1024, .f32⟩
  | .hbm, ⟨84, _⟩ => ⟨S1x1024x644, .f32⟩
  | .hbm, ⟨85, _⟩ => ⟨S1x1024x644, .f32⟩
  | .hbm, ⟨86, _⟩ => ⟨S1x1024x644, .f32⟩
  | .hbm, ⟨87, _⟩ => ⟨S1x1024x644, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x704, .f32⟩
  | .local _ .vmem, ⟨5, _⟩ => ⟨S512x704, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S4x256x1024, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S4x128x512, .bf16⟩
  | .local _ .vmem, ⟨33, _⟩ => ⟨S1x128x512, .f32⟩
  | .local _ .vmem, ⟨34, _⟩ => ⟨S1x128x512, .f32⟩
  | .local _ .vmem, ⟨35, _⟩ => ⟨S1x128x512, .f32⟩
  | .local _ .vmem, ⟨36, _⟩ => ⟨S1x128x512, .f32⟩
  | .local _ .vmem, ⟨37, _⟩ => ⟨S1x128x512, .f32⟩
  | .local _ .vmem, ⟨38, _⟩ => ⟨S1x128x512, .f32⟩
  | .local _ .vmem, ⟨39, _⟩ => ⟨S1x128x512, .f32⟩
  | .local _ .vmem, ⟨40, _⟩ => ⟨S4x128x1024, .bf16⟩
  | .local _ .vmem, ⟨41, _⟩ => ⟨S1x128x1024, .f32⟩
  | .local _ .vmem, ⟨42, _⟩ => ⟨S1x128x1024, .f32⟩
  | .local _ .vmem, ⟨43, _⟩ => ⟨S1x128x1024, .f32⟩
  | .local _ .vmem, ⟨44, _⟩ => ⟨S1x128x1024, .f32⟩
  | .local _ .vmem, ⟨45, _⟩ => ⟨S1x128x1024, .f32⟩
  | .local _ .vmem, ⟨46, _⟩ => ⟨S1x128x1024, .f32⟩
  | .local _ .vmem, ⟨47, _⟩ => ⟨S1x128x1024, .f32⟩
  | .local _ .vmem, ⟨48, _⟩ => ⟨S4x128x1024, .bf16⟩
  | .local _ .vmem, ⟨49, _⟩ => ⟨S1x128x1024, .f32⟩
  | .local _ .vmem, ⟨50, _⟩ => ⟨S1x128x1024, .f32⟩
  | .local _ .vmem, ⟨51, _⟩ => ⟨S1x128x1024, .f32⟩
  | .local _ .vmem, ⟨52, _⟩ => ⟨S1x128x1024, .f32⟩
  | .local _ .vmem, ⟨53, _⟩ => ⟨S1x128x1024, .f32⟩
  | .local _ .vmem, ⟨54, _⟩ => ⟨S1x128x1024, .f32⟩
  | .local _ .vmem, ⟨55, _⟩ => ⟨S1x128x1024, .f32⟩
  | .local _ .vmem, ⟨56, _⟩ => ⟨S4x176x1024, .bf16⟩
  | .local _ .vmem, ⟨57, _⟩ => ⟨S4x176x1024, .bf16⟩
  | .local _ .vmem, ⟨58, _⟩ => ⟨S4x176x1024, .bf16⟩
  | .local _ .vmem, ⟨59, _⟩ => ⟨S4x176x1024, .bf16⟩
  | .local _ .vmem, ⟨60, _⟩ => ⟨S1x176x1024, .f32⟩
  | .local _ .vmem, ⟨61, _⟩ => ⟨S1x176x1024, .f32⟩
  | .local _ .vmem, ⟨62, _⟩ => ⟨S1x176x1024, .f32⟩
  | .local _ .vmem, ⟨63, _⟩ => ⟨S1x176x1024, .f32⟩
  | .local _ .vmem, ⟨64, _⟩ => ⟨S1x176x1024, .f32⟩
  | .local _ .vmem, ⟨65, _⟩ => ⟨S1x176x1024, .f32⟩
  | .local _ .vmem, ⟨66, _⟩ => ⟨S1x176x1024, .f32⟩
  | .local _ .vmem, ⟨67, _⟩ => ⟨S1x176x1024, .f32⟩
  | .local _ .vmem, ⟨68, _⟩ => ⟨S1x176x1024, .f32⟩
  | .local _ .vmem, ⟨69, _⟩ => ⟨S1x176x1024, .f32⟩
  | .local _ .vmem, ⟨70, _⟩ => ⟨S1x176x1024, .f32⟩
  | .local _ .vmem, ⟨71, _⟩ => ⟨S1x176x1024, .f32⟩
  | .local _ .vmem, ⟨72, _⟩ => ⟨S1x176x1024, .f32⟩
  | .local _ .vmem, ⟨73, _⟩ => ⟨S1x176x1024, .f32⟩
  | .local _ .vmem, ⟨74, _⟩ => ⟨S4x512x644, .bf16⟩
  | .local _ .vmem, ⟨75, _⟩ => ⟨S4x512x644, .bf16⟩
  | .local _ .vmem, ⟨76, _⟩ => ⟨S4x512x644, .bf16⟩
  | .local _ .vmem, ⟨77, _⟩ => ⟨S4x512x644, .bf16⟩
  | .local _ .vmem, ⟨78, _⟩ => ⟨S512x644, .f32⟩
  | .local _ .vmem, ⟨79, _⟩ => ⟨S512x644, .f32⟩
  | .local _ .vmem, ⟨80, _⟩ => ⟨S1x644x256, .f32⟩
  | .local _ .vmem, ⟨81, _⟩ => ⟨S1x644x256, .f32⟩
  | .local _ .vmem, ⟨82, _⟩ => ⟨S1x644x256, .f32⟩
  | .local _ .vmem, ⟨83, _⟩ => ⟨S1x644x256, .f32⟩
  | .local _ .vmem, ⟨84, _⟩ => ⟨S1x644x256, .f32⟩
  | .local _ .vmem, ⟨85, _⟩ => ⟨S1x644x256, .f32⟩
  | .local _ .vmem, ⟨86, _⟩ => ⟨S1x644x256, .f32⟩
  | .local _ .vmem, ⟨87, _⟩ => ⟨S1x644x256, .f32⟩
  | .local _ .vmem, ⟨88, _⟩ => ⟨S1x644x256, .f32⟩
  | .local _ .vmem, ⟨89, _⟩ => ⟨S1x644x256, .f32⟩
  | .local _ .vmem, ⟨90, _⟩ => ⟨S1x644x256, .f32⟩
  | .local _ .vmem, ⟨91, _⟩ => ⟨S1x644x256, .f32⟩
  | .local _ .vmem, ⟨92, _⟩ => ⟨S1x644x256, .f32⟩
  | .local _ .vmem, ⟨93, _⟩ => ⟨S1x644x256, .f32⟩
  | .local _ .vmem, ⟨94, _⟩ => ⟨S1x644x256, .f32⟩
  | .local _ .vmem, ⟨95, _⟩ => ⟨S1x644x256, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8_0 : Ref sig .tc := ⟨.hbm, 39, rfl⟩
abbrev main_v8_1 : Ref sig .tc := ⟨.hbm, 40, rfl⟩
abbrev main_v8_2 : Ref sig .tc := ⟨.hbm, 41, rfl⟩
abbrev main_v8_3 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13_0 : Ref sig .tc := ⟨.hbm, 47, rfl⟩
abbrev main_v13_1 : Ref sig .tc := ⟨.hbm, 48, rfl⟩
abbrev main_v13_2 : Ref sig .tc := ⟨.hbm, 49, rfl⟩
abbrev main_v13_3 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17_0 : Ref sig .tc := ⟨.hbm, 54, rfl⟩
abbrev main_v17_1 : Ref sig .tc := ⟨.hbm, 55, rfl⟩
abbrev main_v17_2 : Ref sig .tc := ⟨.hbm, 56, rfl⟩
abbrev main_v17_3 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22_0 : Ref sig .tc := ⟨.hbm, 62, rfl⟩
abbrev main_v22_1 : Ref sig .tc := ⟨.hbm, 63, rfl⟩
abbrev main_v22_2 : Ref sig .tc := ⟨.hbm, 64, rfl⟩
abbrev main_v22_3 : Ref sig .tc := ⟨.hbm, 65, rfl⟩
abbrev main_v23_0 : Ref sig .tc := ⟨.hbm, 66, rfl⟩
abbrev main_v23_1 : Ref sig .tc := ⟨.hbm, 67, rfl⟩
abbrev main_v23_2 : Ref sig .tc := ⟨.hbm, 68, rfl⟩
abbrev main_v23_3 : Ref sig .tc := ⟨.hbm, 69, rfl⟩
abbrev main_v24_0 : Ref sig .tc := ⟨.hbm, 70, rfl⟩
abbrev main_v24_1 : Ref sig .tc := ⟨.hbm, 71, rfl⟩
abbrev main_v24_2 : Ref sig .tc := ⟨.hbm, 72, rfl⟩
abbrev main_v24_3 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31_0 : Ref sig .tc := ⟨.hbm, 80, rfl⟩
abbrev main_v31_1 : Ref sig .tc := ⟨.hbm, 81, rfl⟩
abbrev main_v31_2 : Ref sig .tc := ⟨.hbm, 82, rfl⟩
abbrev main_v31_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc5_stg0_0 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg4_1 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg6_1 : Ref sig .tc := ⟨.vmem, 69, rfl⟩
abbrev cc6_stg7_0 : Ref sig .tc := ⟨.vmem, 70, rfl⟩
abbrev cc6_stg7_1 : Ref sig .tc := ⟨.vmem, 71, rfl⟩
abbrev cc6_stg8_0 : Ref sig .tc := ⟨.vmem, 72, rfl⟩
abbrev cc6_stg8_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg2_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg2_1 : Ref sig .tc := ⟨.vmem, 85, rfl⟩
abbrev cc8_stg3_0 : Ref sig .tc := ⟨.vmem, 86, rfl⟩
abbrev cc8_stg3_1 : Ref sig .tc := ⟨.vmem, 87, rfl⟩
abbrev cc8_stg4_0 : Ref sig .tc := ⟨.vmem, 88, rfl⟩
abbrev cc8_stg4_1 : Ref sig .tc := ⟨.vmem, 89, rfl⟩
abbrev cc8_stg5_0 : Ref sig .tc := ⟨.vmem, 90, rfl⟩
abbrev cc8_stg5_1 : Ref sig .tc := ⟨.vmem, 91, rfl⟩
abbrev cc8_stg6_0 : Ref sig .tc := ⟨.vmem, 92, rfl⟩
abbrev cc8_stg6_1 : Ref sig .tc := ⟨.vmem, 93, rfl⟩
abbrev cc8_stg7_0 : Ref sig .tc := ⟨.vmem, 94, rfl⟩
abbrev cc8_stg7_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc3_sem0_0 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc5_sem0_0 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem3_1 : DmaSem sig := 63
abbrev cc6_sem4_0 : DmaSem sig := 64
abbrev cc6_sem4_1 : DmaSem sig := 65
abbrev cc6_sem5_0 : DmaSem sig := 66
abbrev cc6_sem5_1 : DmaSem sig := 67
abbrev cc6_sem6_0 : DmaSem sig := 68
abbrev cc6_sem6_1 : DmaSem sig := 69
abbrev cc6_sem7_0 : DmaSem sig := 70
abbrev cc6_sem7_1 : DmaSem sig := 71
abbrev cc6_sem8_0 : DmaSem sig := 72
abbrev cc6_sem8_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem2_1 : DmaSem sig := 85
abbrev cc8_sem3_0 : DmaSem sig := 86
abbrev cc8_sem3_1 : DmaSem sig := 87
abbrev cc8_sem4_0 : DmaSem sig := 88
abbrev cc8_sem4_1 : DmaSem sig := 89
abbrev cc8_sem5_0 : DmaSem sig := 90
abbrev cc8_sem5_1 : DmaSem sig := 91
abbrev cc8_sem6_0 : DmaSem sig := 92
abbrev cc8_sem6_1 : DmaSem sig := 93
abbrev cc8_sem7_0 : DmaSem sig := 94
abbrev cc8_sem7_1 : DmaSem sig := 95

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 4, 1], ![false, false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![c0_i32_2.toNat, v1.toNat, v3.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x176x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x176x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev grid2 : Pipeline.Grid := ⟨3, ![1, 1, 1], ![false, false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 1 → Memref sig .tc .vmem S4x256x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true, true]

abbrev stage2_1 : Fin 1 → Memref sig .tc .vmem S1x256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true, true]

abbrev stage2_2 : Fin 1 → Memref sig .tc .vmem S1x256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, true]

abbrev stage2_3 : Fin 1 → Memref sig .tc .vmem S1x256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true, true]

abbrev stage2_4 : Fin 1 → Memref sig .tc .vmem S1x256x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true, true]

abbrev stage2_5 : Fin 1 → Memref sig .tc .vmem S1x256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true, true]

abbrev stage2_6 : Fin 1 → Memref sig .tc .vmem S1x256x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true, true]

abbrev stage2_7 : Fin 1 → Memref sig .tc .vmem S1x256x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true, true, true]

abbrev grid3 : Pipeline.Grid := ⟨3, ![1, 1, 1], ![false, false, false]⟩

def k3_cond1 (i : grid3.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_7 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 1 → Memref sig .tc .vmem S4x128x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true, true]

abbrev stage3_1 : Fin 1 → Memref sig .tc .vmem S1x128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true, true]

abbrev stage3_2 : Fin 1 → Memref sig .tc .vmem S1x128x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, true]

abbrev stage3_3 : Fin 1 → Memref sig .tc .vmem S1x128x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, true]

abbrev stage3_4 : Fin 1 → Memref sig .tc .vmem S1x128x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true, true]

abbrev stage3_5 : Fin 1 → Memref sig .tc .vmem S1x128x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true, true]

abbrev stage3_6 : Fin 1 → Memref sig .tc .vmem S1x128x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true, true]

abbrev stage3_7 : Fin 1 → Memref sig .tc .vmem S1x128x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true, true]

abbrev grid4 : Pipeline.Grid := ⟨3, ![1, 1, 1], ![false, false, false]⟩

def k4_cond1 (i : grid4.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_4 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_5 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_6 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_7 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage4_0 : Fin 1 → Memref sig .tc .vmem S4x128x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, true, true]

abbrev stage4_1 : Fin 1 → Memref sig .tc .vmem S1x128x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, true, true]

abbrev stage4_2 : Fin 1 → Memref sig .tc .vmem S1x128x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, true]

abbrev stage4_3 : Fin 1 → Memref sig .tc .vmem S1x128x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, true, true]

abbrev stage4_4 : Fin 1 → Memref sig .tc .vmem S1x128x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, true, true]

abbrev stage4_5 : Fin 1 → Memref sig .tc .vmem S1x128x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, true, true]

abbrev stage4_6 : Fin 1 → Memref sig .tc .vmem S1x128x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true, true, true]

abbrev stage4_7 : Fin 1 → Memref sig .tc .vmem S1x128x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true, true, true]

abbrev grid5 : Pipeline.Grid := ⟨3, ![1, 1, 1], ![false, false, false]⟩

def k5_cond1 (i : grid5.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_5 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_6 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_7 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage5_0 : Fin 1 → Memref sig .tc .vmem S4x128x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, true, true]

abbrev stage5_1 : Fin 1 → Memref sig .tc .vmem S1x128x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, true, true]

abbrev stage5_2 : Fin 1 → Memref sig .tc .vmem S1x128x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, true]

abbrev stage5_3 : Fin 1 → Memref sig .tc .vmem S1x128x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, true, true]

abbrev stage5_4 : Fin 1 → Memref sig .tc .vmem S1x128x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true, true, true]

abbrev stage5_5 : Fin 1 → Memref sig .tc .vmem S1x128x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true, true, true]

abbrev stage5_6 : Fin 1 → Memref sig .tc .vmem S1x128x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true, true, true]

abbrev stage5_7 : Fin 1 → Memref sig .tc .vmem S1x128x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true, true, true]

abbrev grid6 : Pipeline.Grid := ⟨3, ![2, 2, 1], ![false, false, false]⟩

def k6_cond1 (i : grid6.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k6_cond2 (i : grid6.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![c0_i32_2.toNat, v1.toNat, v3.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_5 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_6 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_7 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_8 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage6_0 : Fin 2 → Memref sig .tc .vmem S4x176x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, true]

abbrev stage6_1 : Fin 2 → Memref sig .tc .vmem S4x176x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true, true]

abbrev stage6_2 : Fin 2 → Memref sig .tc .vmem S1x176x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, true]

abbrev stage6_3 : Fin 2 → Memref sig .tc .vmem S1x176x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, true]

abbrev stage6_4 : Fin 2 → Memref sig .tc .vmem S1x176x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, true]

abbrev stage6_5 : Fin 2 → Memref sig .tc .vmem S1x176x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, true]

abbrev stage6_6 : Fin 2 → Memref sig .tc .vmem S1x176x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true, true]

abbrev stage6_7 : Fin 2 → Memref sig .tc .vmem S1x176x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true, true]

abbrev stage6_8 : Fin 2 → Memref sig .tc .vmem S1x176x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true, true]

abbrev grid7 : Pipeline.Grid := ⟨2, ![2, 1], ![false, false]⟩

def k7_cond1 (i : grid7.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k7_cond2 (i : grid7.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc7_transform_1 (i : grid7.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc7_transform_2 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage7_0 : Fin 2 → Memref sig .tc .vmem S4x512x644 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S4x512x644 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S512x644 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨3, ![1, 1, 4], ![false, false, false]⟩

def k8_cond1 (i : grid8.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc8_transform_3 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc8_transform_4 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc8_transform_5 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc8_transform_6 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc8_transform_7 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage8_0 : Fin 2 → Memref sig .tc .vmem S1x644x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true, true]

abbrev stage8_1 : Fin 2 → Memref sig .tc .vmem S1x644x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true, true]

abbrev stage8_2 : Fin 2 → Memref sig .tc .vmem S1x644x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, true]

abbrev stage8_3 : Fin 2 → Memref sig .tc .vmem S1x644x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, true]

abbrev stage8_4 : Fin 2 → Memref sig .tc .vmem S1x644x256 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true, true]

abbrev stage8_5 : Fin 2 → Memref sig .tc .vmem S1x644x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true, true]

abbrev stage8_6 : Fin 2 → Memref sig .tc .vmem S1x644x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true, true]

abbrev stage8_7 : Fin 2 → Memref sig .tc .vmem S1x644x256 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true, true, true]
-- ==== StepReferenceIdeal.lean ====
abbrev S4x256x1024 : Shape := ⟨3, ![4, 256, 1024]⟩
abbrev S4x128x512 : Shape := ⟨3, ![4, 128, 512]⟩
abbrev S4x128x1024 : Shape := ⟨3, ![4, 128, 1024]⟩
abbrev S4x352x1024 : Shape := ⟨3, ![4, 352, 1024]⟩
abbrev S4x1024x704 : Shape := ⟨3, ![4, 1024, 704]⟩
abbrev S4x512x644 : Shape := ⟨3, ![4, 512, 644]⟩
abbrev S1x256x1024 : Shape := ⟨3, ![1, 256, 1024]⟩
abbrev S128x512 : Shape := ⟨2, ![128, 512]⟩
abbrev S1x128x1024 : Shape := ⟨3, ![1, 128, 1024]⟩
abbrev S2x352x1024 : Shape := ⟨3, ![2, 352, 1024]⟩
abbrev S2x1024x704 : Shape := ⟨3, ![2, 1024, 704]⟩
abbrev S1x1024x644 : Shape := ⟨3, ![1, 1024, 644]⟩
abbrev S_ : Shape := ⟨0, ![]⟩
abbrev S512x644 : Shape := ⟨2, ![512, 644]⟩
abbrev S1024x644 : Shape := ⟨2, ![1024, 644]⟩
abbrev S256x1024 : Shape := ⟨2, ![256, 1024]⟩
abbrev S128x1024 : Shape := ⟨2, ![128, 1024]⟩
abbrev S1024x704 : Shape := ⟨2, ![1024, 704]⟩
abbrev S2048x704 : Shape := ⟨2, ![2048, 704]⟩
abbrev S352x1024 : Shape := ⟨2, ![352, 1024]⟩
abbrev S704x1024 : Shape := ⟨2, ![704, 1024]⟩

abbrev nBuf : Space → Nat
  | .hbm => 301
  | .vmem => 0
  | .smem => 0
  | _ => 0

abbrev hbmTy0_0 (i : Nat) : BufTy := match i % 128 with
  | 0 => ⟨S4x256x1024, .bf16⟩
  | 1 => ⟨S4x128x512, .bf16⟩
  | 2 => ⟨S4x128x1024, .bf16⟩
  | 3 => ⟨S4x128x1024, .bf16⟩
  | 4 => ⟨S4x352x1024, .bf16⟩
  | 5 => ⟨S4x352x1024, .bf16⟩
  | 6 => ⟨S4x1024x704, .bf16⟩
  | 7 => ⟨S4x1024x704, .bf16⟩
  | 8 => ⟨S4x512x644, .bf16⟩
  | 9 => ⟨S4x512x644, .bf16⟩
  | 10 => ⟨S1x256x1024, .f32⟩
  | 11 => ⟨S1x256x1024, .f32⟩
  | 12 => ⟨S1x256x1024, .f32⟩
  | 13 => ⟨S128x512, .f32⟩
  | 14 => ⟨S128x512, .f32⟩
  | 15 => ⟨S128x512, .f32⟩
  | 16 => ⟨S1x128x1024, .f32⟩
  | 17 => ⟨S1x128x1024, .f32⟩
  | 18 => ⟨S1x128x1024, .f32⟩
  | 19 => ⟨S1x128x1024, .f32⟩
  | 20 => ⟨S1x128x1024, .f32⟩
  | 21 => ⟨S1x128x1024, .f32⟩
  | 22 => ⟨S2x352x1024, .f32⟩
  | 23 => ⟨S2x352x1024, .f32⟩
  | 24 => ⟨S2x352x1024, .f32⟩
  | 25 => ⟨S2x1024x704, .f32⟩
  | 26 => ⟨S2x1024x704, .f32⟩
  | 27 => ⟨S2x1024x704, .f32⟩
  | 28 => ⟨S1x1024x644, .f32⟩
  | 29 => ⟨S1x1024x644, .f32⟩
  | 30 => ⟨S1x1024x644, .f32⟩
  | 31 => ⟨S4x512x644, .f32⟩
  | 32 => ⟨S_, .f32⟩
  | 33 => ⟨S512x644, .f32⟩
  | 34 => ⟨S4x512x644, .f32⟩
  | 35 => ⟨S_, .f32⟩
  | 36 => ⟨S512x644, .f32⟩
  | 37 => ⟨S1024x644, .f32⟩
  | 38 => ⟨S1x1024x644, .f32⟩
  | 39 => ⟨S_, .f32⟩
  | 40 => ⟨S1x1024x644, .f32⟩
  | 41 => ⟨S1x1024x644, .f32⟩
  | 42 => ⟨S_, .f32⟩
  | 43 => ⟨S1x1024x644, .f32⟩
  | 44 => ⟨S1x1024x644, .f32⟩
  | 45 => ⟨S1x1024x644, .f32⟩
  | 46 => ⟨S_, .f32⟩
  | 47 => ⟨S1x1024x644, .f32⟩
  | 48 => ⟨S1x1024x644, .f32⟩
  | 49 => ⟨S1x1024x644, .f32⟩
  | 50 => ⟨S_, .f32⟩
  | 51 => ⟨S1x1024x644, .f32⟩
  | 52 => ⟨S1x1024x644, .f32⟩
  | 53 => ⟨S1x1024x644, .f32⟩
  | 54 => ⟨S_, .f32⟩
  | 55 => ⟨S1x1024x644, .f32⟩
  | 56 => ⟨S1x1024x644, .f32⟩
  | 57 => ⟨S_, .f32⟩
  | 58 => ⟨S1x1024x644, .f32⟩
  | 59 => ⟨S1x1024x644, .f32⟩
  | 60 => ⟨S1x1024x644, .f32⟩
  | 61 => ⟨S_, .f32⟩
  | 62 => ⟨S1x1024x644, .f32⟩
  | 63 => ⟨S1x1024x644, .f32⟩
  | 64 => ⟨S1x1024x644, .f32⟩
  | 65 => ⟨S_, .f32⟩
  | 66 => ⟨S1x1024x644, .f32⟩
  | 67 => ⟨S1x1024x644, .f32⟩
  | 68 => ⟨S1x1024x644, .f32⟩
  | 69 => ⟨S_, .f32⟩
  | 70 => ⟨S1x1024x644, .f32⟩
  | 71 => ⟨S1x1024x644, .f32⟩
  | 72 => ⟨S4x256x1024, .f32⟩
  | 73 => ⟨S_, .f32⟩
  | 74 => ⟨S256x1024, .f32⟩
  | 75 => ⟨S1x256x1024, .f32⟩
  | 76 => ⟨S_, .f32⟩
  | 77 => ⟨S1x256x1024, .f32⟩
  | 78 => ⟨S1x256x1024, .f32⟩
  | 79 => ⟨S_, .f32⟩
  | 80 => ⟨S1x256x1024, .f32⟩
  | 81 => ⟨S1x256x1024, .f32⟩
  | 82 => ⟨S1x256x1024, .f32⟩
  | 83 => ⟨S_, .f32⟩
  | 84 => ⟨S1x256x1024, .f32⟩
  | 85 => ⟨S1x256x1024, .f32⟩
  | 86 => ⟨S1x256x1024, .f32⟩
  | 87 => ⟨S_, .f32⟩
  | 88 => ⟨S1x256x1024, .f32⟩
  | 89 => ⟨S1x256x1024, .f32⟩
  | 90 => ⟨S1x256x1024, .f32⟩
  | 91 => ⟨S_, .f32⟩
  | 92 => ⟨S1x256x1024, .f32⟩
  | 93 => ⟨S1x256x1024, .f32⟩
  | 94 => ⟨S_, .f32⟩
  | 95 => ⟨S1x256x1024, .f32⟩
  | 96 => ⟨S1x256x1024, .f32⟩
  | 97 => ⟨S1x256x1024, .f32⟩
  | 98 => ⟨S_, .f32⟩
  | 99 => ⟨S1x256x1024, .f32⟩
  | 100 => ⟨S1x256x1024, .f32⟩
  | 101 => ⟨S1x256x1024, .f32⟩
  | 102 => ⟨S_, .f32⟩
  | 103 => ⟨S1x256x1024, .f32⟩
  | 104 => ⟨S1x256x1024, .f32⟩
  | 105 => ⟨S1x256x1024, .f32⟩
  | 106 => ⟨S_, .f32⟩
  | 107 => ⟨S1x256x1024, .f32⟩
  | 108 => ⟨S1x256x1024, .f32⟩
  | 109 => ⟨S4x128x512, .f32⟩
  | 110 => ⟨S_, .f32⟩
  | 111 => ⟨S128x512, .f32⟩
  | 112 => ⟨S_, .f32⟩
  | 113 => ⟨S128x512, .f32⟩
  | 114 => ⟨S128x512, .f32⟩
  | 115 => ⟨S_, .f32⟩
  | 116 => ⟨S128x512, .f32⟩
  | 117 => ⟨S128x512, .f32⟩
  | 118 => ⟨S128x512, .f32⟩
  | 119 => ⟨S_, .f32⟩
  | 120 => ⟨S128x512, .f32⟩
  | 121 => ⟨S128x512, .f32⟩
  | 122 => ⟨S128x512, .f32⟩
  | 123 => ⟨S_, .f32⟩
  | 124 => ⟨S128x512, .f32⟩
  | 125 => ⟨S128x512, .f32⟩
  | 126 => ⟨S128x512, .f32⟩
  | 127 => ⟨S_, .f32⟩
  | _ => ⟨S4x256x1024, .bf16⟩

abbrev hbmTy0_1 (i : Nat) : BufTy := match i % 128 with
  | 0 => ⟨S128x512, .f32⟩
  | 1 => ⟨S128x512, .f32⟩
  | 2 => ⟨S_, .f32⟩
  | 3 => ⟨S128x512, .f32⟩
  | 4 => ⟨S128x512, .f32⟩
  | 5 => ⟨S128x512, .f32⟩
  | 6 => ⟨S_, .f32⟩
  | 7 => ⟨S128x512, .f32⟩
  | 8 => ⟨S128x512, .f32⟩
  | 9 => ⟨S128x512, .f32⟩
  | 10 => ⟨S_, .f32⟩
  | 11 => ⟨S128x512, .f32⟩
  | 12 => ⟨S128x512, .f32⟩
  | 13 => ⟨S128x512, .f32⟩
  | 14 => ⟨S_, .f32⟩
  | 15 => ⟨S128x512, .f32⟩
  | 16 => ⟨S128x512, .f32⟩
  | 17 => ⟨S4x128x1024, .f32⟩
  | 18 => ⟨S_, .f32⟩
  | 19 => ⟨S128x1024, .f32⟩
  | 20 => ⟨S1x128x1024, .f32⟩
  | 21 => ⟨S_, .f32⟩
  | 22 => ⟨S1x128x1024, .f32⟩
  | 23 => ⟨S1x128x1024, .f32⟩
  | 24 => ⟨S_, .f32⟩
  | 25 => ⟨S1x128x1024, .f32⟩
  | 26 => ⟨S1x128x1024, .f32⟩
  | 27 => ⟨S1x128x1024, .f32⟩
  | 28 => ⟨S_, .f32⟩
  | 29 => ⟨S1x128x1024, .f32⟩
  | 30 => ⟨S1x128x1024, .f32⟩
  | 31 => ⟨S1x128x1024, .f32⟩
  | 32 => ⟨S_, .f32⟩
  | 33 => ⟨S1x128x1024, .f32⟩
  | 34 => ⟨S1x128x1024, .f32⟩
  | 35 => ⟨S1x128x1024, .f32⟩
  | 36 => ⟨S_, .f32⟩
  | 37 => ⟨S1x128x1024, .f32⟩
  | 38 => ⟨S1x128x1024, .f32⟩
  | 39 => ⟨S_, .f32⟩
  | 40 => ⟨S1x128x1024, .f32⟩
  | 41 => ⟨S1x128x1024, .f32⟩
  | 42 => ⟨S1x128x1024, .f32⟩
  | 43 => ⟨S_, .f32⟩
  | 44 => ⟨S1x128x1024, .f32⟩
  | 45 => ⟨S1x128x1024, .f32⟩
  | 46 => ⟨S1x128x1024, .f32⟩
  | 47 => ⟨S_, .f32⟩
  | 48 => ⟨S1x128x1024, .f32⟩
  | 49 => ⟨S1x128x1024, .f32⟩
  | 50 => ⟨S1x128x1024, .f32⟩
  | 51 => ⟨S_, .f32⟩
  | 52 => ⟨S1x128x1024, .f32⟩
  | 53 => ⟨S1x128x1024, .f32⟩
  | 54 => ⟨S4x128x1024, .f32⟩
  | 55 => ⟨S_, .f32⟩
  | 56 => ⟨S128x1024, .f32⟩
  | 57 => ⟨S1x128x1024, .f32⟩
  | 58 => ⟨S_, .f32⟩
  | 59 => ⟨S1x128x1024, .f32⟩
  | 60 => ⟨S1x128x1024, .f32⟩
  | 61 => ⟨S_, .f32⟩
  | 62 => ⟨S1x128x1024, .f32⟩
  | 63 => ⟨S1x128x1024, .f32⟩
  | 64 => ⟨S1x128x1024, .f32⟩
  | 65 => ⟨S_, .f32⟩
  | 66 => ⟨S1x128x1024, .f32⟩
  | 67 => ⟨S1x128x1024, .f32⟩
  | 68 => ⟨S1x128x1024, .f32⟩
  | 69 => ⟨S_, .f32⟩
  | 70 => ⟨S1x128x1024, .f32⟩
  | 71 => ⟨S1x128x1024, .f32⟩
  | 72 => ⟨S1x128x1024, .f32⟩
  | 73 => ⟨S_, .f32⟩
  | 74 => ⟨S1x128x1024, .f32⟩
  | 75 => ⟨S1x128x1024, .f32⟩
  | 76 => ⟨S_, .f32⟩
  | 77 => ⟨S1x128x1024, .f32⟩
  | 78 => ⟨S1x128x1024, .f32⟩
  | 79 => ⟨S1x128x1024, .f32⟩
  | 80 => ⟨S_, .f32⟩
  | 81 => ⟨S1x128x1024, .f32⟩
  | 82 => ⟨S1x128x1024, .f32⟩
  | 83 => ⟨S1x128x1024, .f32⟩
  | 84 => ⟨S_, .f32⟩
  | 85 => ⟨S1x128x1024, .f32⟩
  | 86 => ⟨S1x128x1024, .f32⟩
  | 87 => ⟨S1x128x1024, .f32⟩
  | 88 => ⟨S_, .f32⟩
  | 89 => ⟨S1x128x1024, .f32⟩
  | 90 => ⟨S1x128x1024, .f32⟩
  | 91 => ⟨S4x1024x704, .f32⟩
  | 92 => ⟨S_, .f32⟩
  | 93 => ⟨S1024x704, .f32⟩
  | 94 => ⟨S4x1024x704, .f32⟩
  | 95 => ⟨S_, .f32⟩
  | 96 => ⟨S1024x704, .f32⟩
  | 97 => ⟨S2048x704, .f32⟩
  | 98 => ⟨S2x1024x704, .f32⟩
  | 99 => ⟨S_, .f32⟩
  | 100 => ⟨S2x1024x704, .f32⟩
  | 101 => ⟨S2x1024x704, .f32⟩
  | 102 => ⟨S_, .f32⟩
  | 103 => ⟨S2x1024x704, .f32⟩
  | 104 => ⟨S2x1024x704, .f32⟩
  | 105 => ⟨S2x1024x704, .f32⟩
  | 106 => ⟨S_, .f32⟩
  | 107 => ⟨S2x1024x704, .f32⟩
  | 108 => ⟨S2x1024x704, .f32⟩
  | 109 => ⟨S2x1024x704, .f32⟩
  | 110 => ⟨S_, .f32⟩
  | 111 => ⟨S2x1024x704, .f32⟩
  | 112 => ⟨S2x1024x704, .f32⟩
  | 113 => ⟨S2x1024x704, .f32⟩
  | 114 => ⟨S_, .f32⟩
  | 115 => ⟨S2x1024x704, .f32⟩
  | 116 => ⟨S2x1024x704, .f32⟩
  | 117 => ⟨S_, .f32⟩
  | 118 => ⟨S2x1024x704, .f32⟩
  | 119 => ⟨S2x1024x704, .f32⟩
  | 120 => ⟨S2x1024x704, .f32⟩
  | 121 => ⟨S_, .f32⟩
  | 122 => ⟨S2x1024x704, .f32⟩
  | 123 => ⟨S2x1024x704, .f32⟩
  | 124 => ⟨S2x1024x704, .f32⟩
  | 125 => ⟨S_, .f32⟩
  | 126 => ⟨S2x1024x704, .f32⟩
  | 127 => ⟨S2x1024x704, .f32⟩
  | _ => ⟨S4x256x1024, .bf16⟩

abbrev hbmTy0_2 (i : Nat) : BufTy := match i % 128 with
  | 0 => ⟨S2x1024x704, .f32⟩
  | 1 => ⟨S_, .f32⟩
  | 2 => ⟨S2x1024x704, .f32⟩
  | 3 => ⟨S2x1024x704, .f32⟩
  | 4 => ⟨S4x352x1024, .f32⟩
  | 5 => ⟨S_, .f32⟩
  | 6 => ⟨S352x1024, .f32⟩
  | 7 => ⟨S4x352x1024, .f32⟩
  | 8 => ⟨S_, .f32⟩
  | 9 => ⟨S352x1024, .f32⟩
  | 10 => ⟨S704x1024, .f32⟩
  | 11 => ⟨S2x352x1024, .f32⟩
  | 12 => ⟨S_, .f32⟩
  | 13 => ⟨S2x352x1024, .f32⟩
  | 14 => ⟨S2x352x1024, .f32⟩
  | 15 => ⟨S_, .f32⟩
  | 16 => ⟨S2x352x1024, .f32⟩
  | 17 => ⟨S2x352x1024, .f32⟩
  | 18 => ⟨S2x352x1024, .f32⟩
  | 19 => ⟨S_, .f32⟩
  | 20 => ⟨S2x352x1024, .f32⟩
  | 21 => ⟨S2x352x1024, .f32⟩
  | 22 => ⟨S2x352x1024, .f32⟩
  | 23 => ⟨S_, .f32⟩
  | 24 => ⟨S2x352x1024, .f32⟩
  | 25 => ⟨S2x352x1024, .f32⟩
  | 26 => ⟨S2x352x1024, .f32⟩
  | 27 => ⟨S_, .f32⟩
  | 28 => ⟨S2x352x1024, .f32⟩
  | 29 => ⟨S2x352x1024, .f32⟩
  | 30 => ⟨S_, .f32⟩
  | 31 => ⟨S2x352x1024, .f32⟩
  | 32 => ⟨S2x352x1024, .f32⟩
  | 33 => ⟨S2x352x1024, .f32⟩
  | 34 => ⟨S_, .f32⟩
  | 35 => ⟨S2x352x1024, .f32⟩
  | 36 => ⟨S2x352x1024, .f32⟩
  | 37 => ⟨S2x352x1024, .f32⟩
  | 38 => ⟨S_, .f32⟩
  | 39 => ⟨S2x352x1024, .f32⟩
  | 40 => ⟨S2x352x1024, .f32⟩
  | 41 => ⟨S2x352x1024, .f32⟩
  | 42 => ⟨S_, .f32⟩
  | 43 => ⟨S2x352x1024, .f32⟩
  | 44 => ⟨S2x352x1024, .f32⟩
  | _ => ⟨S4x256x1024, .bf16⟩

abbrev hbmTy (i : Nat) : BufTy := match i / 128 with
  | 0 => hbmTy0_0 i
  | 1 => hbmTy0_1 i
  | 2 => hbmTy0_2 i
  | _ => ⟨S4x256x1024, .bf16⟩

abbrev bufTy : (tb : Table) → Fin (tcTables nBuf tb) → BufTy
  | .hbm, ⟨i, _⟩ => hbmTy i
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_cst_0 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst_1 : Ref sig .tc := ⟨.hbm, 39, rfl⟩
abbrev main_v6 : Ref sig .tc := ⟨.hbm, 40, rfl⟩
abbrev main_v7 : Ref sig .tc := ⟨.hbm, 41, rfl⟩
abbrev main_cst_2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_3 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_4 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_5 : Ref sig .tc := ⟨.hbm, 54, rfl⟩
abbrev main_v17 : Ref sig .tc := ⟨.hbm, 55, rfl⟩
abbrev main_v18 : Ref sig .tc := ⟨.hbm, 56, rfl⟩
abbrev main_cst_6 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_7 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_8 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_9 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_10 : Ref sig .tc := ⟨.hbm, 73, rfl⟩
abbrev main_v31 : Ref sig .tc := ⟨.hbm, 74, rfl⟩
abbrev main_v32 : Ref sig .tc := ⟨.hbm, 75, rfl⟩
abbrev main_cst_11 : Ref sig .tc := ⟨.hbm, 76, rfl⟩
abbrev main_v33 : Ref sig .tc := ⟨.hbm, 77, rfl⟩
abbrev main_v34 : Ref sig .tc := ⟨.hbm, 78, rfl⟩
abbrev main_cst_12 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_13 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_14 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_15 : Ref sig .tc := ⟨.hbm, 91, rfl⟩
abbrev main_v44 : Ref sig .tc := ⟨.hbm, 92, rfl⟩
abbrev main_v45 : Ref sig .tc := ⟨.hbm, 93, rfl⟩
abbrev main_cst_16 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_17 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_18 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_19 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_20 : Ref sig .tc := ⟨.hbm, 110, rfl⟩
abbrev main_v58 : Ref sig .tc := ⟨.hbm, 111, rfl⟩
abbrev main_cst_21 : Ref sig .tc := ⟨.hbm, 112, rfl⟩
abbrev main_v59 : Ref sig .tc := ⟨.hbm, 113, rfl⟩
abbrev main_v60 : Ref sig .tc := ⟨.hbm, 114, rfl⟩
abbrev main_cst_22 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_cst_23 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_24 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_25 : Ref sig .tc := ⟨.hbm, 127, rfl⟩
abbrev main_v70 : Ref sig .tc := ⟨.hbm, 128, rfl⟩
abbrev main_v71 : Ref sig .tc := ⟨.hbm, 129, rfl⟩
abbrev main_cst_26 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_27 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_28 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_29 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_30 : Ref sig .tc := ⟨.hbm, 146, rfl⟩
abbrev main_v84 : Ref sig .tc := ⟨.hbm, 147, rfl⟩
abbrev main_v85 : Ref sig .tc := ⟨.hbm, 148, rfl⟩
abbrev main_cst_31 : Ref sig .tc := ⟨.hbm, 149, rfl⟩
abbrev main_v86 : Ref sig .tc := ⟨.hbm, 150, rfl⟩
abbrev main_v87 : Ref sig .tc := ⟨.hbm, 151, rfl⟩
abbrev main_cst_32 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_33 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_cst_34 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_cst_35 : Ref sig .tc := ⟨.hbm, 164, rfl⟩
abbrev main_v97 : Ref sig .tc := ⟨.hbm, 165, rfl⟩
abbrev main_v98 : Ref sig .tc := ⟨.hbm, 166, rfl⟩
abbrev main_cst_36 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_cst_37 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_cst_38 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_cst_39 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_cst_40 : Ref sig .tc := ⟨.hbm, 183, rfl⟩
abbrev main_v111 : Ref sig .tc := ⟨.hbm, 184, rfl⟩
abbrev main_v112 : Ref sig .tc := ⟨.hbm, 185, rfl⟩
abbrev main_cst_41 : Ref sig .tc := ⟨.hbm, 186, rfl⟩
abbrev main_v113 : Ref sig .tc := ⟨.hbm, 187, rfl⟩
abbrev main_v114 : Ref sig .tc := ⟨.hbm, 188, rfl⟩
abbrev main_cst_42 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_cst_43 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_cst_44 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_45 : Ref sig .tc := ⟨.hbm, 201, rfl⟩
abbrev main_v124 : Ref sig .tc := ⟨.hbm, 202, rfl⟩
abbrev main_v125 : Ref sig .tc := ⟨.hbm, 203, rfl⟩
abbrev main_cst_46 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_cst_47 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_cst_48 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_cst_49 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_50 : Ref sig .tc := ⟨.hbm, 220, rfl⟩
abbrev main_v138 : Ref sig .tc := ⟨.hbm, 221, rfl⟩
abbrev main_v139 : Ref sig .tc := ⟨.hbm, 222, rfl⟩
abbrev main_cst_51 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_cst_52 : Ref sig .tc := ⟨.hbm, 227, rfl⟩
abbrev main_v143 : Ref sig .tc := ⟨.hbm, 228, rfl⟩
abbrev main_v144 : Ref sig .tc := ⟨.hbm, 229, rfl⟩
abbrev main_cst_53 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_54 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_55 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_56 : Ref sig .tc := ⟨.hbm, 242, rfl⟩
abbrev main_v154 : Ref sig .tc := ⟨.hbm, 243, rfl⟩
abbrev main_v155 : Ref sig .tc := ⟨.hbm, 244, rfl⟩
abbrev main_cst_57 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_cst_58 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_cst_59 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_cst_60 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_cst_61 : Ref sig .tc := ⟨.hbm, 261, rfl⟩
abbrev main_v168 : Ref sig .tc := ⟨.hbm, 262, rfl⟩
abbrev main_v169 : Ref sig .tc := ⟨.hbm, 263, rfl⟩
abbrev main_cst_62 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_63 : Ref sig .tc := ⟨.hbm, 268, rfl⟩
abbrev main_v173 : Ref sig .tc := ⟨.hbm, 269, rfl⟩
abbrev main_v174 : Ref sig .tc := ⟨.hbm, 270, rfl⟩
abbrev main_cst_64 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_cst_65 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_cst_66 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_cst_67 : Ref sig .tc := ⟨.hbm, 283, rfl⟩
abbrev main_v184 : Ref sig .tc := ⟨.hbm, 284, rfl⟩
abbrev main_v185 : Ref sig .tc := ⟨.hbm, 285, rfl⟩
abbrev main_cst_68 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_cst_69 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_cst_70 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_cst_71 : Ref sig .tc := ⟨.hbm, 298, rfl⟩
abbrev main_v195 : Ref sig .tc := ⟨.hbm, 299, rfl⟩
abbrev main_v196 : Ref sig .tc := ⟨.hbm, 300, rfl⟩

abbrev nD : Nat := 1
abbrev τ : Topo := Topo.v7x

variable {F : FTy → Type} [FloatOps F]
-- ==== Proof.Ffn.Spec.lean ====
/- The gated convolution's gradient, one column at a time, over the extended reals. A column of an array with n rows is a
   function `Fin n → EReal`. `down s x` is the column moved s rows down with zeros above, `up s x` moved up with zeros
   below: the transposes of each other. The three-tap causal convolution of a column is the sum of its shifted products
   with the taps. Nothing here mentions a program. -/
module

public import Idealize.ShloMosaic.PureOps.Ideal

@[expose] public section

noncomputable section

namespace Cert.ConvGate

open Idealize.ShloMosaic

variable {n : ℕ}

/-- The column moved `s` rows down: row `r` holds row `r - s`, the first `s` rows hold zero. -/
def down (s : ℕ) (x : Fin n → EReal) (r : Fin n) : EReal :=
  if s ≤ r.val then x ⟨r.val - s, lt_of_le_of_lt (Nat.sub_le _ _) r.isLt⟩ else 0

/-- The column moved `s` rows up: row `r` holds row `r + s`, the last `s` rows hold zero. -/
def up (s : ℕ) (x : Fin n → EReal) (r : Fin n) : EReal :=
  if h : r.val + s < n then x ⟨r.val + s, h⟩ else 0

theorem down_zero (x : Fin n → EReal) (r : Fin n) : down 0 x r = x r := by simp [down]

/-- The causal convolution of a column with three taps, and a bias. -/
def conv (w : Fin 3 → EReal) (b : EReal) (x : Fin n → EReal) (r : Fin n) : EReal :=
  w 0 * down 2 x r + w 1 * down 1 x r + w 2 * x r + b

/-- The gradient of `silu g * v` in `g`, at the outer gradient `d`, factored. -/
def dgate (d v g : EReal) : EReal :=
  d * v * Ideal.logistic g * (1 + g * (1 - Ideal.logistic g))

/-- The same gradient by the product rule, not factored. -/
def dgateSum (d v g : EReal) : EReal :=
  d * v * Ideal.logistic g + g * (d * v) * (Ideal.logistic g * (1 - Ideal.logistic g))

/-- The gradient of `silu g * v` in `v`, at the outer gradient `d`. -/
def dval (d g : EReal) : EReal := d * g * Ideal.logistic g

/-- The gradient of the convolution in the column, at the gradient `y` of its result. -/
def back (w : Fin 3 → EReal) (y : Fin n → EReal) (r : Fin n) : EReal :=
  w 0 * up 2 y r + w 1 * up 1 y r + w 2 * y r

/-- The gradient of the convolution in tap `k`. -/
def tap (k : Fin 3) (x y : Fin n → EReal) : EReal := ∑ r, y r * down (2 - k.val) x r

/-- The logistic function by the hyperbolic tangent of half the argument, over all the extended reals. -/
theorem logistic_eq_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [show (1 : EReal) = ((1 : ℝ) : EReal) by simp, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (1 / 2 * r) ≠ 0 := (Real.exp_pos _).ne'
    have h2 : Real.exp (-r) = Real.exp (-(1 / 2 * r)) * Real.exp (-(1 / 2 * r)) := by
      rw [← Real.exp_add]; congr 1; ring
    rw [h2, Real.exp_neg]
    have h3 : Real.exp (1 / 2 * r) ^ 2 + 1 ≠ 0 := by positivity
    field_simp
    ring

/-- A column whose entries are real numbers. -/
def Real' (x : EReal) : Prop := ∃ a : ℝ, x = a

theorem Real'.mk (a : ℝ) : Real' (a : EReal) := ⟨a, rfl⟩
theorem Real'.zero : Real' 0 := ⟨0, by simp⟩
theorem Real'.add {x y : EReal} : Real' x → Real' y → Real' (x + y) := by
  rintro ⟨a, rfl⟩ ⟨b, rfl⟩; exact ⟨a + b, (EReal.coe_add a b).symm⟩
theorem Real'.mul {x y : EReal} : Real' x → Real' y → Real' (x * y) := by
  rintro ⟨a, rfl⟩ ⟨b, rfl⟩; exact ⟨a * b, (EReal.coe_mul a b).symm⟩

theorem real_down {s : ℕ} {x : Fin n → EReal} (h : ∀ r, Real' (x r)) (r : Fin n) : Real' (down s x r) := by
  unfold down; split
  · exact h _
  · exact Real'.zero

theorem real_conv {w : Fin 3 → EReal} {b : EReal} {x : Fin n → EReal} (hw : ∀ k, Real' (w k)) (hb : Real' b)
    (h : ∀ r, Real' (x r)) (r : Fin n) : Real' (conv w b x r) :=
  ((((hw 0).mul (real_down h r)).add ((hw 1).mul (real_down h r))).add ((hw 2).mul (h r))).add hb

/-- At real arguments the two forms of the gate's gradient agree. -/
theorem dgate_eq_sum {d v g : EReal} (hd : Real' d) (hv : Real' v) (hg : Real' g) : dgate d v g = dgateSum d v g := by
  obtain ⟨d, rfl⟩ := hd; obtain ⟨v, rfl⟩ := hv; obtain ⟨g, rfl⟩ := hg
  unfold dgate dgateSum
  rw [Ideal.logistic_coe]
  generalize ((1 + Real.exp (-g))⁻¹ : ℝ) = s
  rw [← EReal.coe_one]
  simp only [← EReal.coe_mul, ← EReal.coe_add, ← EReal.coe_sub]
  congr 1; ring

end Cert.ConvGate

end
-- ==== Proof.Ffn.Payloads.lean ====
/- The kernel's arithmetic on a block, one named value at a time, read at row r and lane l: the rounded shifts of a block
   are its columns moved down or up (the ideal rounding is the identity), the convolutions, the gate's and the value's
   gradients, the transposed convolutions and the sums over rows. -/
module

public import proofs.«01_k».proof.Proof.Gen.KernelIdeal.Skeleton
public import Idealize.ShloMosaic.Lib.Pipeline.ValueKit.Point
public import Idealize.ShloMosaic.Lib.WordCmp
public import proofs.«01_k».proof.Proof.Ffn.Spec

@[expose] public section

noncomputable section

namespace Cert.FfnBody

open Cert.KernelIdeal Cert.KernelIdeal.Gen Idealize.ShloMosaic Idealize.ShloMosaic.TcCoe Idealize.SL.Sem
open Idealize.ShloMosaic.Pointwise Cert.ConvGate

/-- The literal 0.5. -/
theorem half_bits : Ideal.ofBits .f32 0x3F000000#32 = ((1 / 2 : ℝ) : EReal) := by
  simp [Ideal.ofBits, Ideal.ieee, -EReal.coe_mul]; norm_num

/-- The mask "row at least s". -/
theorem mask_ge (s : ℕ) (hs : s < 2 ^ 31) (h1 h2) (r : Fin 2176) (l : Fin 256) :
    broadcastTo S2176x256 (shapeCast S2176x1 (cmpi .sge (iota .tc S2176x1 32 [0] iota_S2176x1_d0_w32)
      (broadcast S2176x1 (BitVec.ofNat 32 s))) h1) h2 (ix2 r l) = BitVec.ofBool (decide (s ≤ r.val)) := by
  pointwise
  have hr := r.isLt
  rw [WordCmp.cmpi_sge_ofNat (by omega) (by omega)]

/-- The mask "row less than s". -/
theorem mask_lt (s : ℕ) (hs : s < 2 ^ 31) (h1 h2) (r : Fin 2176) (l : Fin 256) :
    broadcastTo S2176x256 (shapeCast S2176x1 (cmpi .slt (iota .tc S2176x1 32 [0] iota_S2176x1_d0_w32)
      (broadcast S2176x1 (BitVec.ofNat 32 s))) h1) h2 (ix2 r l) = BitVec.ofBool (decide (r.val < s)) := by
  pointwise
  have hr := r.isLt
  rw [WordCmp.cmpi_slt_ofNat (by omega) (by omega)]

/-- A rotation of the rows read at an index. -/
theorem rot (x : FVec Ideal S2176x256 .f32) (n : BitVec 32) (h) (r : Fin 2176) (l : Fin 256) :
    dynamicRotate (s := S2176x256) 0 n none x h (ix2 r l)
      = x (ix2 ⟨(r.val + 2176 - n.toNat % 2176) % 2176, Nat.mod_lt _ (by norm_num)⟩ l) := by
  rw [Pointwise.dynamicRotate_apply]
  congr 1
  funext b
  match b with
  | ⟨0, _⟩ => rfl
  | ⟨1, _⟩ => rfl

/-- The rows rotated by s and masked below: the column moved down. -/
theorem select_down (s : ℕ) (hs : s < 2176) (x : FVec Ideal S2176x256 .f32) (m) (h) (r : Fin 2176) (l : Fin 256)
    (hm : m (ix2 r l) = BitVec.ofBool (decide (s ≤ r.val))) :
    select m (dynamicRotate (s := S2176x256) 0 (BitVec.ofNat 32 s) none x h)
      (broadcast S2176x256 (Scalar.ofBits (F := Ideal) .f32 0x00000000#32)) (ix2 r l)
      = down s (fun q => x (ix2 q l)) r := by
  show Scalar.select (m (ix2 r l)) (dynamicRotate (s := S2176x256) 0 (BitVec.ofNat 32 s) none x h (ix2 r l))
    (Ideal.ofBits .f32 0x00000000#32) = _
  rw [hm, WordCmp.select_ofBool, rot, Ideal.ofBits_zero_f32]
  unfold down
  have hr := r.isLt
  have hn : (BitVec.ofNat 32 s).toNat % 2176 = s := by
    rw [BitVec.toNat_ofNat, Nat.mod_eq_of_lt (show s < 2 ^ 32 by omega), Nat.mod_eq_of_lt hs]
  by_cases hc : s ≤ r.val
  · simp only [hc, decide_true, if_true]
    congr 2
    apply Fin.ext
    show (r.val + 2176 - (BitVec.ofNat 32 s).toNat % 2176) % 2176 = r.val - s
    rw [hn]; omega
  · simp only [hc, decide_false, if_false, Bool.false_eq_true]

/-- The rows rotated by 2176 - s and masked above: the column moved up. -/
theorem select_up (s : ℕ) (hs0 : 0 < s) (hs : s < 2176) (x : FVec Ideal S2176x256 .f32) (m) (h) (r : Fin 2176) (l : Fin 256)
    (hm : m (ix2 r l) = BitVec.ofBool (decide (r.val < 2176 - s))) :
    select m (dynamicRotate (s := S2176x256) 0 (BitVec.ofNat 32 (2176 - s)) none x h)
      (broadcast S2176x256 (Scalar.ofBits (F := Ideal) .f32 0x00000000#32)) (ix2 r l)
      = up s (fun q => x (ix2 q l)) r := by
  show Scalar.select (m (ix2 r l)) (dynamicRotate (s := S2176x256) 0 (BitVec.ofNat 32 (2176 - s)) none x h (ix2 r l))
    (Ideal.ofBits .f32 0x00000000#32) = _
  rw [hm, WordCmp.select_ofBool, rot, Ideal.ofBits_zero_f32]
  unfold up
  have hr := r.isLt
  have hn : (BitVec.ofNat 32 (2176 - s)).toNat % 2176 = 2176 - s := by
    rw [BitVec.toNat_ofNat, Nat.mod_eq_of_lt (by omega), Nat.mod_eq_of_lt (by omega)]
  by_cases hc : r.val < 2176 - s
  · have hc' : r.val + s < 2176 := by omega
    simp only [hc, decide_true, if_true, dif_pos hc']
    congr 2
    apply Fin.ext
    show (r.val + 2176 - (BitVec.ofNat 32 (2176 - s)).toNat % 2176) % 2176 = r.val + s
    rw [hn]; omega
  · have hc' : ¬ r.val + s < 2176 := by omega
    simp only [hc, decide_false, if_false, Bool.false_eq_true, dif_neg hc']

variable (r : Fin 2176) (l : Fin 256)

theorem pay4_apply (x : Vec Ideal S2176x256 .f32) : k0_pay4 x = x := rfl
theorem pay7_apply (x : Vec Ideal S2176x256 .f32) : k0_pay7 x = x := rfl
theorem pay28_apply (x : FVec Ideal S2176x256 .f32) : k0_pay28 x = x := rfl

theorem pay5_apply (x : Vec Ideal S2176x256 .f32) : k0_pay5 x (ix2 r l) = down 2 (fun q => x (ix2 q l)) r :=
  select_down 2 (by norm_num) (k0_pay4 x) _ _ r l (mask_ge 2 (by norm_num) _ _ r l)
theorem pay6_apply (x : Vec Ideal S2176x256 .f32) : k0_pay6 x (ix2 r l) = down 1 (fun q => x (ix2 q l)) r :=
  select_down 1 (by norm_num) (k0_pay4 x) _ _ r l (mask_ge 1 (by norm_num) _ _ r l)
theorem pay8_apply (x : Vec Ideal S2176x256 .f32) : k0_pay8 x (ix2 r l) = down 2 (fun q => x (ix2 q l)) r :=
  select_down 2 (by norm_num) (k0_pay7 x) _ _ r l (mask_ge 2 (by norm_num) _ _ r l)
theorem pay9_apply (x : Vec Ideal S2176x256 .f32) : k0_pay9 x (ix2 r l) = down 1 (fun q => x (ix2 q l)) r :=
  select_down 1 (by norm_num) (k0_pay7 x) _ _ r l (mask_ge 1 (by norm_num) _ _ r l)

theorem pay10_apply : k0_pay10 (F := Ideal) (ix2 r l) = 0 := by pointwise [k0_pay10]
theorem pay11_apply (w : Vec Ideal S1x256 .f32) : k0_pay11 w (ix2 r l) = w (ix2 0 l) := by pointwise [k0_pay11]
theorem pay15_apply : k0_pay15 (F := Ideal) (ix2 r l) = ((1 / 2 : ℝ) : EReal) := by pointwise [k0_pay15, half_bits]

theorem pay12_apply (x x2 x1 z w0 : FVec Ideal S2176x256 .f32) (w1 w2 b : Vec Ideal S1x256 .f32) :
    k0_pay12 x x2 x1 z w0 w1 w2 b (ix2 r l)
      = z (ix2 r l) + w0 (ix2 r l) * x2 (ix2 r l) + w1 (ix2 0 l) * x1 (ix2 r l) + w2 (ix2 0 l) * x (ix2 r l) + b (ix2 0 l) := by
  pointwise [k0_pay12]

theorem pay13_apply (x x2 x1 : FVec Ideal S2176x256 .f32) (w0 w1 w2 b : Vec Ideal S1x256 .f32) :
    k0_pay13 x x2 x1 w0 w1 w2 b (ix2 r l)
      = w0 (ix2 0 l) * x2 (ix2 r l) + w1 (ix2 0 l) * x1 (ix2 r l) + w2 (ix2 0 l) * x (ix2 r l) + b (ix2 0 l) := by
  pointwise [k0_pay13]

theorem pay14_apply (x x2 x1 z w0 : FVec Ideal S2176x256 .f32) (w1 w2 b : Vec Ideal S1x256 .f32) :
    k0_pay14 x x2 x1 z w0 w1 w2 b (ix2 r l)
      = Ideal.tanh (((1 / 2 : ℝ) : EReal) * k0_pay12 x x2 x1 z w0 w1 w2 b (ix2 r l)) := by
  pointwise [k0_pay14, half_bits]

theorem pay16_apply (t h : FVec Ideal S2176x256 .f32) :
    k0_pay16 t h (ix2 r l) = h (ix2 r l) * t (ix2 r l) + ((1 / 2 : ℝ) : EReal) := by
  pointwise [k0_pay16, half_bits]

theorem pay17_apply (g v t h : FVec Ideal S2176x256 .f32) (d : Vec Ideal S2176x256 .f32) :
    k0_pay17 g v t h d (ix2 r l)
      = d (ix2 r l) * v (ix2 r l) * k0_pay16 t h (ix2 r l) * (1 + g (ix2 r l) * (1 - k0_pay16 t h (ix2 r l))) := by
  pointwise [k0_pay17]

theorem pay18_apply (g t h : FVec Ideal S2176x256 .f32) (d : Vec Ideal S2176x256 .f32) :
    k0_pay18 g t h d (ix2 r l) = d (ix2 r l) * g (ix2 r l) * k0_pay16 t h (ix2 r l) := by
  pointwise [k0_pay18]

theorem pay20_apply (g v t h : FVec Ideal S2176x256 .f32) (d : Vec Ideal S2176x256 .f32) :
    k0_pay20 g v t h d = k0_pay17 g v t h d := rfl

theorem pay21_apply (g v t h : FVec Ideal S2176x256 .f32) (d : Vec Ideal S2176x256 .f32) (w : Vec Ideal S1x256 .f32) :
    k0_pay21 (iota .tc S2176x1 32 [0] iota_S2176x1_d0_w32) g v t h d w (ix2 r l)
      = w (ix2 0 l) * up 2 (fun q => k0_pay17 g v t h d (ix2 q l)) r := by
  rw [← pay20_apply, ← select_up 2 (by norm_num) (by norm_num) (k0_pay20 g v t h d) _ rotates_S2176x256_d0 r l
    (mask_lt 2174 (by norm_num) shapeCasts_S2176x1_S2176x1 broadcasts_S2176x1_S2176x256 r l)]
  unfold k0_pay21
  generalize select _ _ _ = z
  pointwise

theorem pay25_apply (y a : FVec Ideal S2176x256 .f32) (w1 w2 : Vec Ideal S1x256 .f32) :
    k0_pay25 (iota .tc S2176x1 32 [0] iota_S2176x1_d0_w32) y a w1 w2 (ix2 r l)
      = a (ix2 r l) + w1 (ix2 0 l) * up 1 (fun q => y (ix2 q l)) r + w2 (ix2 0 l) * y (ix2 r l) := by
  rw [← select_up 1 (by norm_num) (by norm_num) y _ rotates_S2176x256_d0 r l
    (mask_lt 2175 (by norm_num) shapeCasts_S2176x1_S2176x1 broadcasts_S2176x1_S2176x256 r l)]
  unfold k0_pay25
  generalize select _ _ _ = z
  pointwise

theorem pay29_apply (y : FVec Ideal S2176x256 .f32) (w : Vec Ideal S1x256 .f32) :
    k0_pay29 (iota .tc S2176x1 32 [0] iota_S2176x1_d0_w32) y w (ix2 r l)
      = w (ix2 0 l) * up 2 (fun q => y (ix2 q l)) r := by
  rw [← select_up 2 (by norm_num) (by norm_num) y _ rotates_S2176x256_d0 r l
    (mask_lt 2174 (by norm_num) shapeCasts_S2176x1_S2176x1 broadcasts_S2176x1_S2176x256 r l)]
  unfold k0_pay29
  rw [pay28_apply y]
  generalize select _ _ _ = z
  pointwise

theorem pay26_apply (x : FVec Ideal S2176x256 .bf16) (o : Fin 1) : k0_pay26 x (ix3 o r l) = x (ix2 r l) := by
  pointwise [k0_pay26]

theorem pay3_apply (y a : FVec Ideal S2176x256 .f32) (w1 w2 : Vec Ideal S1x256 .f32) (o : Fin 1) :
    k0_pay3 y a (k0_pay31 w1) (k0_pay32 (iota .tc S2176x1 32 [0] iota_S2176x1_d0_w32)) (k0_pay33 y)
        (FloatOps.ofBits .f32 0x00000000#32) w2 (ix3 o r l)
      = a (ix2 r l) + w1 (ix2 0 l) * up 1 (fun q => y (ix2 q l)) r + w2 (ix2 0 l) * y (ix2 r l) := by
  rw [show k0_pay3 y a (k0_pay31 w1) (k0_pay32 (iota .tc S2176x1 32 [0] iota_S2176x1_d0_w32)) (k0_pay33 y)
        (FloatOps.ofBits .f32 0x00000000#32) w2
      = k0_pay26 (k0_pay25 (iota .tc S2176x1 32 [0] iota_S2176x1_d0_w32) y a w1 w2) from rfl, pay26_apply, pay25_apply]

theorem pay1_apply (x y : FVec Ideal S2176x256 .f32) (o : Fin 1) : k0_pay1 x y (ix2 o l) = ∑ q, y (ix2 q l) * x (ix2 q l) := by
  pointwise [k0_pay1]
theorem pay2_apply (x y : FVec Ideal S2176x256 .f32) (o : Fin 1) : k0_pay2 x y (ix2 o l) = ∑ q, y (ix2 q l) * x (ix2 q l) := by
  pointwise [k0_pay2]
theorem pay23_apply (x y : FVec Ideal S2176x256 .f32) (o : Fin 1) : k0_pay23 x y (ix2 o l) = ∑ q, y (ix2 q l) * x (ix2 q l) := by
  pointwise [k0_pay23]
theorem pay24_apply (x y : FVec Ideal S2176x256 .f32) (o : Fin 1) : k0_pay24 x y (ix2 o l) = ∑ q, y (ix2 q l) * x (ix2 q l) := by
  pointwise [k0_pay24]
theorem pay30_apply (x y : FVec Ideal S2176x256 .f32) (o : Fin 1) : k0_pay30 x y (ix2 o l) = ∑ q, y (ix2 q l) * x (ix2 q l) := by
  rw [show k0_pay30 x y = k0_pay23 x y from rfl, pay23_apply]
theorem pay22_apply (x g v t h : FVec Ideal S2176x256 .f32) (d : Vec Ideal S2176x256 .f32) (o : Fin 1) :
    k0_pay22 x g v t h d (ix2 o l) = ∑ q, k0_pay17 g v t h d (ix2 q l) * x (ix2 q l) := by
  rw [show k0_pay22 x g v t h d = k0_pay23 x (k0_pay17 g v t h d) from rfl, pay23_apply]
theorem pay27_apply (y : FVec Ideal S2176x256 .f32) (o o' : Fin 1) : k0_pay27 y (ix3 o o' l) = ∑ q, y (ix2 q l) := by
  pointwise [k0_pay27]
theorem pay19_apply (g v t h : FVec Ideal S2176x256 .f32) (d : Vec Ideal S2176x256 .f32) (o o' : Fin 1) :
    k0_pay19 g v t h d (ix3 o o' l) = ∑ q, k0_pay17 g v t h d (ix2 q l) := by
  rw [show k0_pay19 g v t h d = k0_pay27 (k0_pay17 g v t h d) from rfl, pay27_apply]

end Cert.FfnBody

end
-- ==== Proof.Ffn.Body.lean ====
/- What one grid point of the kernel leaves in its three output blocks, as the column functions of Spec.lean over the
   point's input blocks: half 0 is the gate's, half 1 the value's. -/
module

public import proofs.«01_k».proof.Proof.Gen.KernelIdeal.Value
public import proofs.«01_k».proof.Proof.Ffn.Payloads

@[expose] public section

noncomputable section

namespace Cert.FfnBody

open Cert.KernelIdeal Cert.KernelIdeal.Gen Idealize.ShloMosaic Idealize.ShloMosaic.TcCoe Idealize.SL.Sem
open Idealize.ShloMosaic.Pointwise Cert.ConvGate

/-- A lane of a block, as a column. -/
abbrev col (x : Vec Ideal S2176x256 .f32) (l : Fin 256) : Fin 2176 → EReal := fun q => x (ix2 q l)
/-- A lane of a block of taps. -/
abbrev taps (w : Vec Ideal S3x256 .f32) (l : Fin 256) : Fin 3 → EReal := fun k => w (ix2 k l)

/-- The gate's gradient of a lane: from the gate half and the value half of the block. -/
def dg (xg xv d : Fin 2176 → EReal) (wg wv : Fin 3 → EReal) (bg bv : EReal) (q : Fin 2176) : EReal :=
  dgate (d q) (conv wv bv xv q) (conv wg bg xg q)
/-- The value's gradient of a lane. -/
def dv (xg d : Fin 2176 → EReal) (wg : Fin 3 → EReal) (bg : EReal) (q : Fin 2176) : EReal :=
  dval (d q) (conv wg bg xg q)

section Lanes
variable (x0 x1 x2 : Vec Ideal S2176x256 .f32) (x3 x4 : Vec Ideal S3x256 .f32) (x5 x6 : Vec Ideal S1x256 .f32)

/-- The gate's convolution as the body spells it. -/
abbrev gateV : FVec Ideal S2176x256 .f32 :=
  k0_pay12 (k0_pay4 x0) (k0_pay5 x0) (k0_pay6 x0) k0_pay10
    (k0_pay11 (View.ld x3 (Rect.unit (s := S3x256) ![0, 0] ![1, 256] inb_S3x256_S1x256_0_0)))
    (View.ld x3 (Rect.unit (s := S3x256) ![1, 0] ![1, 256] inb_S3x256_S1x256_1_0))
    (View.ld x3 (Rect.unit (s := S3x256) ![2, 0] ![1, 256] inb_S3x256_S1x256_2_0)) x5
/-- The hyperbolic tangent of half of it. -/
abbrev gateT : FVec Ideal S2176x256 .f32 :=
  k0_pay14 (k0_pay4 x0) (k0_pay5 x0) (k0_pay6 x0) k0_pay10
    (k0_pay11 (View.ld x3 (Rect.unit (s := S3x256) ![0, 0] ![1, 256] inb_S3x256_S1x256_0_0)))
    (View.ld x3 (Rect.unit (s := S3x256) ![1, 0] ![1, 256] inb_S3x256_S1x256_1_0))
    (View.ld x3 (Rect.unit (s := S3x256) ![2, 0] ![1, 256] inb_S3x256_S1x256_2_0)) x5
/-- The value's convolution as the body spells it. -/
abbrev valV : FVec Ideal S2176x256 .f32 :=
  k0_pay13 (k0_pay7 x1) (k0_pay8 x1) (k0_pay9 x1)
    (View.ld x4 (Rect.unit (s := S3x256) ![0, 0] ![1, 256] inb_S3x256_S1x256_0_0))
    (View.ld x4 (Rect.unit (s := S3x256) ![1, 0] ![1, 256] inb_S3x256_S1x256_1_0))
    (View.ld x4 (Rect.unit (s := S3x256) ![2, 0] ![1, 256] inb_S3x256_S1x256_2_0)) x6

theorem ld0 (w : Vec Ideal S3x256 .f32) (l : Fin 256) :
    View.ld w (Rect.unit (s := S3x256) ![0, 0] ![1, 256] inb_S3x256_S1x256_0_0) (ix2 0 l) = w (ix2 0 l) := by
  pointwise
theorem ld1 (w : Vec Ideal S3x256 .f32) (l : Fin 256) :
    View.ld w (Rect.unit (s := S3x256) ![1, 0] ![1, 256] inb_S3x256_S1x256_1_0) (ix2 0 l) = w (ix2 1 l) := by
  pointwise
theorem ld2 (w : Vec Ideal S3x256 .f32) (l : Fin 256) :
    View.ld w (Rect.unit (s := S3x256) ![2, 0] ![1, 256] inb_S3x256_S1x256_2_0) (ix2 0 l) = w (ix2 2 l) := by
  pointwise

theorem gateV_apply (r : Fin 2176) (l : Fin 256) :
    gateV x0 x3 x5 (ix2 r l) = conv (taps x3 l) (x5 (ix2 0 l)) (col x0 l) r := by
  rw [gateV, pay12_apply, pay10_apply, pay11_apply, pay5_apply, pay6_apply, pay4_apply, ld0, ld1, ld2, zero_add]
  rfl
theorem valV_apply (r : Fin 2176) (l : Fin 256) :
    valV x1 x4 x6 (ix2 r l) = conv (taps x4 l) (x6 (ix2 0 l)) (col x1 l) r := by
  rw [valV, pay13_apply, pay8_apply, pay9_apply, pay7_apply, ld0, ld1, ld2]
  rfl
theorem sig_apply (r : Fin 2176) (l : Fin 256) :
    k0_pay16 (gateT x0 x3 x5) k0_pay15 (ix2 r l) = Ideal.logistic (conv (taps x3 l) (x5 (ix2 0 l)) (col x0 l) r) := by
  rw [← gateV_apply, ← logistic_eq_tanh, pay16_apply, pay15_apply, gateT, pay14_apply]
theorem dg_apply (r : Fin 2176) (l : Fin 256) :
    k0_pay17 (gateV x0 x3 x5) (valV x1 x4 x6) (gateT x0 x3 x5) k0_pay15 x2 (ix2 r l)
      = dg (col x0 l) (col x1 l) (col x2 l) (taps x3 l) (taps x4 l) (x5 (ix2 0 l)) (x6 (ix2 0 l)) r := by
  rw [pay17_apply, sig_apply, gateV_apply, valV_apply]; rfl
theorem dv_apply (r : Fin 2176) (l : Fin 256) :
    k0_pay18 (gateV x0 x3 x5) (gateT x0 x3 x5) k0_pay15 x2 (ix2 r l)
      = dv (col x0 l) (col x2 l) (taps x3 l) (x5 (ix2 0 l)) r := by
  rw [pay18_apply, sig_apply, gateV_apply]; rfl
end Lanes

/-- A row of a block of taps without its leading coordinate. -/
theorem lanes (z0 z1 : Fin 1) (l : Fin 256) (i : Fin 2) :
    ((ix2 0 l : (⟨2, ![1, 256]⟩ : Shape).Idx) i).val = ((ix3 z0 z1 l : (⟨3, ![1, 1, 256]⟩ : Shape).Idx) i.succ).val :=
  match i with
  | ⟨0, _⟩ => (Nat.lt_one_iff.mp z1.isLt).symm
  | ⟨1, _⟩ => rfl

variable (c : Dev nD) (i : grid0.Coords) (arg1 : Memref sig .tc .vmem S2176x256 .f32) (harg1 : arg1.IsWhole) (arg2 : Memref sig .tc .vmem S2176x256 .f32) (harg2 : arg2.IsWhole) (arg3 : Memref sig .tc .vmem S2176x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2x2176x256 .bf16) (harg8 : arg8.IsWhole) (arg9 : Memref sig .tc .vmem S2x3x256 .f32) (harg9 : arg9.IsWhole) (arg10 : Memref sig .tc .vmem S2x1x256 .f32) (harg10 : arg10.IsWhole)
    (x0 : Vec Ideal S2176x256 .f32) (x1 : Vec Ideal S2176x256 .f32) (x2 : Vec Ideal S2176x256 .f32) (x3 : Vec Ideal S3x256 .f32) (x4 : Vec Ideal S3x256 .f32) (x5 : Vec Ideal S1x256 .f32) (x6 : Vec Ideal S1x256 .f32)

/-- The convolution results' gradient of a lane: half 0 the gate's, half 1 the value's. -/
def dc (h : Fin 2) (l : Fin 256) : Fin 2176 → EReal :=
  if h = 0 then dg (col x0 l) (col x1 l) (col x2 l) (taps x3 l) (taps x4 l) (x5 (ix2 0 l)) (x6 (ix2 0 l))
  else dv (col x0 l) (col x2 l) (taps x3 l) (x5 (ix2 0 l))

theorem out9 (h : Fin 2) (o : Fin 1) (l : Fin 256) :
    out0_A_9 c i arg1 harg1 arg2 harg2 arg3 harg3 arg4 harg4 arg5 harg5 arg6 harg6 arg7 harg7 arg8 harg8 arg9 harg9 arg10 harg10 x0 x1 x2 x3 x4 x5 x6 (ix3 h o l)
      = ∑ q, dc x0 x1 x2 x3 x4 x5 x6 h l q := by
  frame_out
  canon_tiles z e
  · idx_vars z
    obtain rfl : h = 1 := Fin.ext (by simpa [z0_lt] using e0)
    obtain rfl : l = z2 := Fin.ext e2
    rw [pay27_apply]
    exact Finset.sum_congr rfl fun q _ => dv_apply ..
  · idx_vars z
    obtain rfl : h = 0 := Fin.ext (by simpa [z0_lt] using e0)
    obtain rfl : l = z2 := Fin.ext e2
    rw [pay19_apply]
    exact Finset.sum_congr rfl fun q _ => dg_apply ..

theorem out8 (h : Fin 2) (k : Fin 3) (l : Fin 256) :
    out0_A_8 c i arg1 harg1 arg2 harg2 arg3 harg3 arg4 harg4 arg5 harg5 arg6 harg6 arg7 harg7 arg8 harg8 arg9 harg9 arg10 harg10 x0 x1 x2 x3 x4 x5 x6 (ix3 h k l)
      = tap k (if h = 0 then col x0 l else col x1 l) (dc x0 x1 x2 x3 x4 x5 x6 h l) := by
  frame_out
  canon_tiles z e <;> idx_vars z
  · have e0 : 1 + 0 + 1 * z0.val = h.val := congrArg (fun i : S2x3x256.Idx => (i 0).val) e
    have e1 : 0 + 2 + 1 * z1.val = k.val := congrArg (fun i : S2x3x256.Idx => (i 1).val) e
    have e2 : 0 + 0 + 1 * z2.val = l.val := congrArg (fun i : S2x3x256.Idx => (i 2).val) e
    obtain rfl : h = 1 := Fin.ext (by show h.val = 1; omega)
    obtain rfl : k = 2 := Fin.ext (by show k.val = 2; omega)
    obtain rfl : l = z2 := Fin.ext (by omega)
    refine (Rect.payAlong_consLift _ _ _ _ _ _ _ (ix2 0 l) (lanes z0 z1 l)).trans ?_
    rw [pay28_apply, pay2_apply]
    exact Finset.sum_congr rfl fun q _ => by rw [dv_apply, pay7_apply, ← down_zero (fun q => x1 (ix2 q l)) q]; rfl
  · have e0 : 1 + 0 + 1 * z0.val = h.val := congrArg (fun i : S2x3x256.Idx => (i 0).val) e
    have e1 : 0 + 1 + 1 * z1.val = k.val := congrArg (fun i : S2x3x256.Idx => (i 1).val) e
    have e2 : 0 + 0 + 1 * z2.val = l.val := congrArg (fun i : S2x3x256.Idx => (i 2).val) e
    obtain rfl : h = 1 := Fin.ext (by show h.val = 1; omega)
    obtain rfl : k = 1 := Fin.ext (by show k.val = 1; omega)
    obtain rfl : l = z2 := Fin.ext (by omega)
    refine (Rect.payAlong_consLift _ _ _ _ _ _ _ (ix2 0 l) (lanes z0 z1 l)).trans ?_
    rw [pay28_apply, pay1_apply]
    exact Finset.sum_congr rfl fun q _ => by rw [dv_apply, pay9_apply]; rfl
  · have e0 : 1 + 0 + 1 * z0.val = h.val := congrArg (fun i : S2x3x256.Idx => (i 0).val) e
    have e1 : 0 + 0 + 1 * z1.val = k.val := congrArg (fun i : S2x3x256.Idx => (i 1).val) e
    have e2 : 0 + 0 + 1 * z2.val = l.val := congrArg (fun i : S2x3x256.Idx => (i 2).val) e
    obtain rfl : h = 1 := Fin.ext (by show h.val = 1; omega)
    obtain rfl : k = 0 := Fin.ext (by show k.val = 0; omega)
    obtain rfl : l = z2 := Fin.ext (by omega)
    refine (Rect.payAlong_consLift _ _ _ _ _ _ _ (ix2 0 l) (lanes z0 z1 l)).trans ?_
    rw [pay30_apply]
    exact Finset.sum_congr rfl fun q _ => by rw [dv_apply, pay8_apply]; rfl
  · have e0 : 0 + 0 + 1 * z0.val = h.val := congrArg (fun i : S2x3x256.Idx => (i 0).val) e
    have e1 : 0 + 2 + 1 * z1.val = k.val := congrArg (fun i : S2x3x256.Idx => (i 1).val) e
    have e2 : 0 + 0 + 1 * z2.val = l.val := congrArg (fun i : S2x3x256.Idx => (i 2).val) e
    obtain rfl : h = 0 := Fin.ext (by show h.val = 0; omega)
    obtain rfl : k = 2 := Fin.ext (by show k.val = 2; omega)
    obtain rfl : l = z2 := Fin.ext (by omega)
    refine (Rect.payAlong_consLift _ _ _ _ _ _ _ (ix2 0 l) (lanes z0 z1 l)).trans ?_
    rw [pay20_apply, pay24_apply]
    exact Finset.sum_congr rfl fun q _ => by rw [dg_apply, pay4_apply, ← down_zero (fun q => x0 (ix2 q l)) q]; rfl
  · have e0 : 0 + 0 + 1 * z0.val = h.val := congrArg (fun i : S2x3x256.Idx => (i 0).val) e
    have e1 : 0 + 1 + 1 * z1.val = k.val := congrArg (fun i : S2x3x256.Idx => (i 1).val) e
    have e2 : 0 + 0 + 1 * z2.val = l.val := congrArg (fun i : S2x3x256.Idx => (i 2).val) e
    obtain rfl : h = 0 := Fin.ext (by show h.val = 0; omega)
    obtain rfl : k = 1 := Fin.ext (by show k.val = 1; omega)
    obtain rfl : l = z2 := Fin.ext (by omega)
    refine (Rect.payAlong_consLift _ _ _ _ _ _ _ (ix2 0 l) (lanes z0 z1 l)).trans ?_
    rw [pay20_apply, pay23_apply]
    exact Finset.sum_congr rfl fun q _ => by rw [dg_apply, pay6_apply]; rfl
  · have e0 : 0 + 0 + 1 * z0.val = h.val := congrArg (fun i : S2x3x256.Idx => (i 0).val) e
    have e1 : 0 + 0 + 1 * z1.val = k.val := congrArg (fun i : S2x3x256.Idx => (i 1).val) e
    have e2 : 0 + 0 + 1 * z2.val = l.val := congrArg (fun i : S2x3x256.Idx => (i 2).val) e
    obtain rfl : h = 0 := Fin.ext (by show h.val = 0; omega)
    obtain rfl : k = 0 := Fin.ext (by show k.val = 0; omega)
    obtain rfl : l = z2 := Fin.ext (by omega)
    refine (Rect.payAlong_consLift _ _ _ _ _ _ _ (ix2 0 l) (lanes z0 z1 l)).trans ?_
    rw [pay22_apply]
    exact Finset.sum_congr rfl fun q _ => by rw [dg_apply, pay5_apply]; rfl

theorem out7 (h : Fin 2) (r : Fin 2176) (l : Fin 256) :
    out0_A_7 c i arg1 harg1 arg2 harg2 arg3 harg3 arg4 harg4 arg5 harg5 arg6 harg6 arg7 harg7 arg8 harg8 arg9 harg9 arg10 harg10 x0 x1 x2 x3 x4 x5 x6 (ix3 h r l)
      = back (if h = 0 then taps x3 l else taps x4 l) (dc x0 x1 x2 x3 x4 x5 x6 h l) r := by
  frame_out
  canon_tiles z e <;> idx_vars z
  · obtain rfl : h = 1 := Fin.ext (by simpa [z0_lt] using e0)
    obtain rfl : r = z1 := Fin.ext e1
    obtain rfl : l = z2 := Fin.ext e2
    rw [pay28_apply, pay3_apply, pay29_apply, ld0, ld1, ld2, dv_apply, funext fun q => dv_apply x0 x2 x3 x5 q l]
    rfl
  · obtain rfl : h = 0 := Fin.ext (by simpa [z0_lt] using e0)
    obtain rfl : r = z1 := Fin.ext e1
    obtain rfl : l = z2 := Fin.ext e2
    rw [pay20_apply, pay26_apply, pay25_apply, pay21_apply, ld0, ld1, ld2, dg_apply,
      funext fun q => dg_apply x0 x1 x2 x3 x4 x5 x6 q l]
    rfl

end Cert.FfnBody

end
-- ==== Proof.Ffn.Array.lean ====
/- The kernel's three result arrays after the run, as column functions of the argument arrays. Column L of half h of the
   convolution's input is column h * 2816 + L of the argument; a grid point t owns the columns 256 t … 256 t + 255 of both
   halves. -/
module

public import proofs.«01_k».proof.Proof.Ffn.Body

@[expose] public section

noncomputable section

namespace Cert.FfnArray

open Cert.KernelIdeal Cert.KernelIdeal.Gen Idealize.ShloMosaic Idealize.ShloMosaic.TcCoe Idealize.SL.Sem
open Idealize.ShloMosaic.Pointwise Cert.ConvGate Cert.FfnBody
open Idealize.ShloMosaic.Pipeline (Dat)

/-- Column `L` of half `h`, among the 5632 columns. -/
def at2 (h : Fin 2) (L : Fin 2816) : Fin 5632 := ⟨h.val * 2816 + L.val, by have := h.isLt; have := L.isLt; omega⟩

section
variable (U : Vec Ideal S2176x5632 .f32) (D : Vec Ideal S2176x2816 .f32) (W : Vec Ideal S3x5632 .f32) (B : Vec Ideal S1x5632 .f32)

/-- The input's column. -/
def ucol (h : Fin 2) (L : Fin 2816) : Fin 2176 → EReal := fun q => U (ix2 q (at2 h L))
/-- The outer gradient's column. -/
def dcol (L : Fin 2816) : Fin 2176 → EReal := fun q => D (ix2 q L)
/-- The taps of a column. -/
def wcol (h : Fin 2) (L : Fin 2816) : Fin 3 → EReal := fun k => W (ix2 k (at2 h L))
/-- The bias of a column. -/
def bcol (h : Fin 2) (L : Fin 2816) : EReal := B (ix2 0 (at2 h L))

/-- The gradient at the convolution's result. -/
def DC (h : Fin 2) (L : Fin 2816) : Fin 2176 → EReal :=
  if h = 0 then dg (ucol U 0 L) (ucol U 1 L) (dcol D L) (wcol W 0 L) (wcol W 1 L) (bcol B 0 L) (bcol B 1 L)
  else dv (ucol U 0 L) (dcol D L) (wcol W 0 L) (bcol B 0 L)

/-- The gradient of the convolution's input, by halves. -/
def G7 : Vec Ideal S2x2176x2816 .bf16 := fun i => back (wcol W (i 0) (i 2)) (DC U D W B (i 0) (i 2)) (i 1)
/-- The gradient of the taps, by halves. -/
def G8 : Vec Ideal S2x3x2816 .f32 := fun i => tap (i 1) (ucol U (i 0) (i 2)) (DC U D W B (i 0) (i 2))
/-- The gradient of the bias, by halves. -/
def G9 : Vec Ideal S2x1x2816 .f32 := fun i => ∑ q, DC U D W B (i 0) (i 2) q
end

variable (m : (ℓ : Loc nD τ sig) → Buf (Elt Ideal) ℓ) (c : Dev nD)

theorem e0 : ∀ t : Fin cfg0.N, win0_0.index t = ![0, t.val] := (by decide +kernel : ∀ t : Fin grid0.N, win0_0.index t = ![0, t.val])
theorem e1 : ∀ t : Fin cfg0.N, win0_1.index t = ![0, 11 + t.val] := (by decide +kernel : ∀ t : Fin grid0.N, win0_1.index t = ![0, 11 + t.val])
theorem e2 : ∀ t : Fin cfg0.N, win0_2.index t = ![0, t.val] := (by decide +kernel : ∀ t : Fin grid0.N, win0_2.index t = ![0, t.val])
theorem e3 : ∀ t : Fin cfg0.N, win0_3.index t = ![0, t.val] := (by decide +kernel : ∀ t : Fin grid0.N, win0_3.index t = ![0, t.val])
theorem e4 : ∀ t : Fin cfg0.N, win0_4.index t = ![0, 11 + t.val] := (by decide +kernel : ∀ t : Fin grid0.N, win0_4.index t = ![0, 11 + t.val])
theorem e5 : ∀ t : Fin cfg0.N, win0_5.index t = ![0, t.val] := (by decide +kernel : ∀ t : Fin grid0.N, win0_5.index t = ![0, t.val])
theorem e6 : ∀ t : Fin cfg0.N, win0_6.index t = ![0, 11 + t.val] := (by decide +kernel : ∀ t : Fin grid0.N, win0_6.index t = ![0, 11 + t.val])
theorem e7 : ∀ t : Fin cfg0.N, win0_7.index t = ![0, 0, t.val] := (by decide +kernel : ∀ t : Fin grid0.N, win0_7.index t = ![0, 0, t.val])
theorem e8 : ∀ t : Fin cfg0.N, win0_8.index t = ![0, 0, t.val] := (by decide +kernel : ∀ t : Fin grid0.N, win0_8.index t = ![0, 0, t.val])
theorem e9 : ∀ t : Fin cfg0.N, win0_9.index t = ![0, 0, t.val] := (by decide +kernel : ∀ t : Fin grid0.N, win0_9.index t = ![0, 0, t.val])

/-- Lane `l` of point `t`, among the 2816 columns of a half. -/
def lane (t : Fin cfg0.N) (l : Fin 256) : Fin 2816 := ⟨t.val * 256 + l.val, by have h : t.val < 11 := t.isLt; have := l.isLt; omega⟩

theorem blk0 (t : Fin cfg0.N) (l : Fin 256) : col (iblk m c 0 t) l = ucol (m ((c : Thread nD τ).loc main_arg0)) 0 (lane t l) := by
  funext q
  unfold col ucol
  blk_ext! [iblk, V, e0 t, at2, lane]

theorem blk1 (t : Fin cfg0.N) (l : Fin 256) : col (iblk m c 1 t) l = ucol (m ((c : Thread nD τ).loc main_arg0)) 1 (lane t l) := by
  funext q
  unfold col ucol
  blk_ext! [iblk, V, e1 t, at2, lane]

theorem blk2 (t : Fin cfg0.N) (l : Fin 256) : col (iblk m c 2 t) l = dcol (m ((c : Thread nD τ).loc main_arg1)) (lane t l) := by
  funext q
  unfold col dcol
  blk_ext! [iblk, V, e2 t, at2, lane]

theorem blk3 (t : Fin cfg0.N) (l : Fin 256) : taps (iblk m c 3 t) l = wcol (m ((c : Thread nD τ).loc main_arg2)) 0 (lane t l) := by
  funext q
  unfold taps wcol
  blk_ext! [iblk, V, e3 t, at2, lane]

theorem blk4 (t : Fin cfg0.N) (l : Fin 256) : taps (iblk m c 4 t) l = wcol (m ((c : Thread nD τ).loc main_arg2)) 1 (lane t l) := by
  funext q
  unfold taps wcol
  blk_ext! [iblk, V, e4 t, at2, lane]

theorem blk5 (t : Fin cfg0.N) (l : Fin 256) : iblk m c 5 t (ix2 0 l : S1x256.Idx) = bcol (m ((c : Thread nD τ).loc main_arg3)) 0 (lane t l) := by
  unfold bcol
  blk_ext! [iblk, V, e5 t, at2, lane]

theorem blk6 (t : Fin cfg0.N) (l : Fin 256) : iblk m c 6 t (ix2 0 l : S1x256.Idx) = bcol (m ((c : Thread nD τ).loc main_arg3)) 1 (lane t l) := by
  unfold bcol
  blk_ext! [iblk, V, e6 t, at2, lane]

/-- The gradient at the convolution's result, read from the blocks of point `t`. -/
theorem dc_eq (t : Fin cfg0.N) (h : Fin 2) (l : Fin 256) :
    dc (iblk m c 0 t) (iblk m c 1 t) (iblk m c 2 t) (iblk m c 3 t) (iblk m c 4 t) (iblk m c 5 t) (iblk m c 6 t) h l
      = DC (m ((c : Thread nD τ).loc main_arg0)) (m ((c : Thread nD τ).loc main_arg1)) (m ((c : Thread nD τ).loc main_arg2))
          (m ((c : Thread nD τ).loc main_arg3)) h (lane t l) := by
  unfold dc DC
  rw [blk0, blk1, blk2, blk3, blk4, blk5, blk6]

theorem taps_eq (t : Fin cfg0.N) (h : Fin 2) (l : Fin 256) :
    (if h = 0 then taps (iblk m c 3 t) l else taps (iblk m c 4 t) l) = wcol (m ((c : Thread nD τ).loc main_arg2)) h (lane t l) := by
  rw [blk3, blk4]
  match h with
  | 0 => rfl
  | 1 => rfl

theorem col_eq (t : Fin cfg0.N) (h : Fin 2) (l : Fin 256) :
    (if h = 0 then col (iblk m c 0 t) l else col (iblk m c 1 t) l) = ucol (m ((c : Thread nD τ).loc main_arg0)) h (lane t l) := by
  rw [blk0, blk1]
  match h with
  | 0 => rfl
  | 1 => rfl

theorem at7 (t : Fin cfg0.N) (h : Fin 2) (r : Fin 2176) (l : Fin 256) :
    (outsAt0 m c t).1 (ix3 h r l : S2x2176x256.Idx)
      = back (wcol (m ((c : Thread nD τ).loc main_arg2)) h (lane t l)) (DC (m ((c : Thread nD τ).loc main_arg0)) (m ((c : Thread nD τ).loc main_arg1))
          (m ((c : Thread nD τ).loc main_arg2)) (m ((c : Thread nD τ).loc main_arg3)) h (lane t l)) r := by
  simp only [outsAt0]
  rw [out7, dc_eq, taps_eq]

theorem at8 (t : Fin cfg0.N) (h : Fin 2) (k : Fin 3) (l : Fin 256) :
    (outsAt0 m c t).2.1 (ix3 h k l : S2x3x256.Idx)
      = tap k (ucol (m ((c : Thread nD τ).loc main_arg0)) h (lane t l)) (DC (m ((c : Thread nD τ).loc main_arg0)) (m ((c : Thread nD τ).loc main_arg1))
          (m ((c : Thread nD τ).loc main_arg2)) (m ((c : Thread nD τ).loc main_arg3)) h (lane t l)) := by
  simp only [outsAt0]
  rw [out8, dc_eq, col_eq]

theorem at9 (t : Fin cfg0.N) (h : Fin 2) (o : Fin 1) (l : Fin 256) :
    (outsAt0 m c t).2.2 (ix3 h o l : S2x1x256.Idx)
      = ∑ q, DC (m ((c : Thread nD τ).loc main_arg0)) (m ((c : Thread nD τ).loc main_arg1))
          (m ((c : Thread nD τ).loc main_arg2)) (m ((c : Thread nD τ).loc main_arg3)) h (lane t l) q := by
  simp only [outsAt0]
  rw [out9, dc_eq]

/-- The gradient of the input, after the run. -/
theorem final7 : (Gen.dats m 0 c).arrAt 7 cfg0.N
    = G7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  obtain ⟨h, r, l, rfl⟩ : ∃ (h : Fin 2) (r : Fin 2176) (l : Fin 256), y = ix3 h r l := ⟨y 0, y 1, y 2, by funext a; fin_cases a <;> rfl⟩
  rw [at7]
  have hi : (win0_7.blk t).view.emb (ix3 h r l : S2x2176x256.Idx) = (ix3 h r (lane t l) : S2x2176x2816.Idx) := by
    blk_point [e7 t, lane]
  rw [hi]
  rfl

/-- The gradient of the taps, after the run. -/
theorem final8 : (Gen.dats m 0 c).arrAt 8 cfg0.N
    = G8 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  obtain ⟨h, r, l, rfl⟩ : ∃ (h : Fin 2) (r : Fin 3) (l : Fin 256), y = ix3 h r l := ⟨y 0, y 1, y 2, by funext a; fin_cases a <;> rfl⟩
  rw [at8]
  have hi : (win0_8.blk t).view.emb (ix3 h r l : S2x3x256.Idx) = (ix3 h r (lane t l) : S2x3x2816.Idx) := by
    blk_point [e8 t, lane]
  rw [hi]
  rfl

/-- The gradient of the bias, after the run. -/
theorem final9 : (Gen.dats m 0 c).arrAt 9 cfg0.N
    = G9 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  obtain ⟨h, r, l, rfl⟩ : ∃ (h : Fin 2) (r : Fin 1) (l : Fin 256), y = ix3 h r l := ⟨y 0, y 1, y 2, by funext a; fin_cases a <;> rfl⟩
  rw [at9]
  have hi : (win0_9.blk t).view.emb (ix3 h r l : S2x1x256.Idx) = (ix3 h r (lane t l) : S2x1x2816.Idx) := by
    blk_point [e9 t, lane]
  rw [hi]
  rfl

end Cert.FfnArray

end
-- ==== Proof.Ffn.Ref.lean ====
/- What the reference computes, column by column: the convolution of the padded input, the gradient of `silu gate * value`
   by the product rule, and the transposes of the shifted products. Every result is read at an index. -/
module

public import proofs.«01_k».proof.Proof.Gen.ReferenceIdeal.Read
public import proofs.«01_k».proof.Proof.Ffn.Spec
public import Idealize.ShloMosaic.Lib.Pointwise

@[expose] public section

noncomputable section

namespace Cert.FfnRef

open Cert.ReferenceIdeal Cert.ReferenceIdeal.Gen Cert.ReferenceIdeal.Read Idealize.ShloMosaic Idealize.ShloMosaic.TcCoe Idealize.SL.Sem
open Idealize.ShloMosaic.StableHlo Idealize.ShloMosaic.Pointwise Cert.ConvGate

variable (U : (⟨S2176x5632, .f32⟩ : BufTy).Contents (Elt Ideal)) (D : (⟨S2176x2816, .f32⟩ : BufTy).Contents (Elt Ideal))
  (W : (⟨S3x5632, .f32⟩ : BufTy).Contents (Elt Ideal)) (B : (⟨S1x5632, .f32⟩ : BufTy).Contents (Elt Ideal))

/-- Column `J` of the input. -/
def uc (J : Fin 5632) : Fin 2176 → EReal := fun q => U (ix2 q J)
/-- The taps of column `J`. -/
def wc (J : Fin 5632) : Fin 3 → EReal := fun k => W (ix2 k J)
/-- The convolution's column `J`. -/
def cc (J : Fin 5632) : Fin 2176 → EReal := conv (wc W J) (B (ix2 0 J)) (uc U J)
/-- A gate column, and the value column that goes with it. -/
def lo (L : Fin 2816) : Fin 5632 := ⟨L.val, by omega⟩
def hi (L : Fin 2816) : Fin 5632 := ⟨2816 + L.val, by omega⟩
/-- The gradient at the convolution's result, in a gate column and in a value column. -/
def gateGrad (L : Fin 2816) : Fin 2176 → EReal := fun q => dgateSum (D (ix2 q L)) (cc U W B (hi L) q) (cc U W B (lo L) q)
def valGrad (L : Fin 2816) : Fin 2176 → EReal := fun q => dval (D (ix2 q L)) (cc U W B (lo L) q)
/-- The gradient at the convolution's result. -/
def Y (J : Fin 5632) : Fin 2176 → EReal :=
  if h : J.val < 2816 then gateGrad U D W B ⟨J.val, h⟩ else valGrad U D W B ⟨J.val - 2816, by have := J.isLt; omega⟩

theorem padded (p : Fin 2178) (J : Fin 5632) :
    val_main_v1 (F := Ideal) U (ix2 p J) = if h : p.val < 2 then 0 else U (ix2 ⟨p.val - 2, by omega⟩ J) := by
  unfold val_main_v1
  pointwise [val_main_v0, val_main_cst]

theorem row0 (q : Fin 2176) (J : Fin 5632) : val_main_v3 (F := Ideal) U (ix2 q J) = down 2 (uc U J) q := by
  unfold val_main_v3
  pointwise [padded]
  unfold down uc
  by_cases h : q.val < 2
  · rw [dif_pos h, if_neg (by omega)]
  · rw [dif_neg h, if_pos (by omega)]

theorem row1 (q : Fin 2176) (J : Fin 5632) : val_main_v11 (F := Ideal) U (ix2 q J) = down 1 (uc U J) q := by
  unfold val_main_v11
  pointwise [padded]
  unfold down uc
  by_cases h : 1 + q.val < 2
  · rw [dif_pos h, if_neg (by omega)]
  · rw [dif_neg h, if_pos (by omega)]
    congr 2; apply Fin.ext; show 1 + q.val - 2 = q.val - 1; omega

theorem row2 (q : Fin 2176) (J : Fin 5632) : val_main_v18 (F := Ideal) U (ix2 q J) = uc U J q := by
  unfold val_main_v18
  pointwise [padded]
  rfl

theorem tap0 (q : Fin 1) (J : Fin 5632) : val_main_v6 (F := Ideal) W (ix2 q J) = wc W J 0 := by
  unfold val_main_v6 val_main_v5 val_main_v4
  pointwise
  rfl

theorem tap1 (q : Fin 1) (J : Fin 5632) : val_main_v14 (F := Ideal) W (ix2 q J) = wc W J 1 := by
  unfold val_main_v14 val_main_v13 val_main_v12
  pointwise
  rfl

theorem tap2 (q : Fin 1) (J : Fin 5632) : val_main_v21 (F := Ideal) W (ix2 q J) = wc W J 2 := by
  unfold val_main_v21 val_main_v20 val_main_v19
  pointwise
  rfl

theorem convolved (q : Fin 2176) (J : Fin 5632) : val_main_v26 (F := Ideal) U W B (ix2 q J) = cc U W B J q := by
  unfold val_main_v26 val_main_v25 val_main_v24 val_main_v23 val_main_v22 val_main_v17 val_main_v16 val_main_v15 val_main_v10 val_main_v8 val_main_v7
    val_main_v9 val_main_cst_1
  pointwise [tap0, tap1, tap2, row0, row1, row2]
  unfold cc conv
  rw [mul_comm (down 2 _ _), mul_comm (down 1 _ _), mul_comm (uc U J q)]
  try simp only [zero_add]

theorem gate (q : Fin 2176) (L : Fin 2816) : val_main_v27 (F := Ideal) U W B (ix2 q L) = cc U W B (lo L) q := by
  unfold val_main_v27
  pointwise [convolved]
  rfl

theorem value (q : Fin 2176) (L : Fin 2816) : val_main_v28 (F := Ideal) U W B (ix2 q L) = cc U W B (hi L) q := by
  unfold val_main_v28
  pointwise [convolved]
  rfl

theorem sig (q : Fin 2176) (L : Fin 2816) : val_main_v29_2 (F := Ideal) U W B (ix2 q L) = Ideal.logistic (cc U W B (lo L) q) := by
  unfold val_main_v29_2 val_main_call0_v4 val_main_call0_cst_0 val_main_call0_v3 val_main_call0_v2 val_main_call0_cst val_main_call0_v1 val_main_call0_v0
  pointwise [gate]
  try rfl

theorem dsig (q : Fin 2176) (L : Fin 2816) : val_main_v29_1 (F := Ideal) U W B (ix2 q L)
    = Ideal.logistic (cc U W B (lo L) q) * (1 - Ideal.logistic (cc U W B (lo L) q)) := by
  unfold val_main_v29_1 val_main_call0_v7 val_main_call0_v6 val_main_call0_cst_1
  pointwise [sig]

theorem valPart (q : Fin 2176) (L : Fin 2816) : val_main_v31 (F := Ideal) U D W B (ix2 q L) = valGrad U D W B L q := by
  unfold val_main_v31 val_main_v29_0
  pointwise [sig, gate]
  unfold valGrad dval
  rw [mul_comm, mul_assoc]

theorem gatePart (q : Fin 2176) (L : Fin 2816) : val_main_v33 (F := Ideal) U D W B (ix2 q L) = gateGrad U D W B L q := by
  unfold val_main_v33 val_main_call1_v2 val_main_call1_v1 val_main_call1_v0 val_main_v32
  pointwise [sig, gate, dsig, value]
  rfl

theorem grad (q : Fin 2176) (J : Fin 5632) : val_main_v36 (F := Ideal) U D W B (ix2 q J) = Y U D W B J q := by
  unfold val_main_v36 val_main_v35 val_main_v34 val_main_cst_2 val_main_cst_3
  pointwise [valPart, gatePart]
  unfold Y
  have hJ := J.isLt
  by_cases h : J.val < 2816
  · rw [dif_pos h, dif_pos h, dif_neg (by omega)]
    simp only [zero_add]
  · rw [dif_neg h, dif_neg h, dif_pos (by omega)]
    simp only [add_zero]

theorem biasGrad (o : Fin 1) (J : Fin 5632) : val_main_v38 (F := Ideal) U D W B (ix2 o J) = ∑ q, Y U D W B J q := by
  unfold val_main_v38 val_main_v37 val_main_cst_4
  pointwise [grad]
  try simp only [zero_add]

theorem tapGrad2 (o : Fin 1) (J : Fin 5632) : val_main_v45 (F := Ideal) U D W B (ix2 o J) = ∑ q, Y U D W B J q * down 0 (uc U J) q := by
  unfold val_main_v45 val_main_v44 val_main_v41 val_main_v40 val_main_v39 val_main_cst_5 val_main_cst_6
  pointwise [grad, row2]
  simp only [zero_add, down_zero, mul_comm, Finset.univ_unique, Finset.sum_singleton]

theorem tapGrad1 (o : Fin 1) (J : Fin 5632) : val_main_v54 (F := Ideal) U D W B (ix2 o J) = ∑ q, Y U D W B J q * down 1 (uc U J) q := by
  unfold val_main_v54 val_main_v53 val_main_v50 val_main_v49 val_main_v48 val_main_cst_9 val_main_cst_10
  pointwise [grad, row1]
  simp only [zero_add, mul_comm, Finset.univ_unique, Finset.sum_singleton]

theorem tapGrad0 (o : Fin 1) (J : Fin 5632) : val_main_v65 (F := Ideal) U D W B (ix2 o J) = ∑ q, Y U D W B J q * down 2 (uc U J) q := by
  unfold val_main_v65 val_main_v64 val_main_v61 val_main_v60 val_main_v59 val_main_cst_13 val_main_cst_14
  pointwise [grad, row0]
  simp only [zero_add, mul_comm, Finset.univ_unique, Finset.sum_singleton]

theorem tapGrad (k : Fin 3) (J : Fin 5632) : val_main_v67 (F := Ideal) U D W B (ix2 k J) = tap k (uc U J) (Y U D W B J) := by
  unfold val_main_v67 val_main_v66 val_main_v56 val_main_v55 val_main_v46 val_main_cst_7 val_main_cst_11 val_main_cst_15
  pointwise [tapGrad0, tapGrad1, tapGrad2]
  unfold tap
  match k with
  | 0 => simp
  | 1 => simp
  | 2 => simp

theorem inputGrad (q : Fin 2176) (J : Fin 5632) : val_main_v71 (F := Ideal) U D W B (ix2 q J) = back (wc W J) (Y U D W B J) q := by
  unfold val_main_v71 val_main_v69 val_main_v68 val_main_v63 val_main_v62 val_main_v58 val_main_v57 val_main_v52 val_main_v51 val_main_v47 val_main_v43 val_main_v42
    val_main_cst_8 val_main_cst_12 val_main_cst_16
  pointwise [grad, tap0, tap1, tap2]
  unfold back up
  have e1 : ∀ (h : q.val + 1 < 2176) (h' : 2 + q.val - 1 < 2176), (⟨2 + q.val - 1, h'⟩ : Fin 2176) = ⟨q.val + 1, h⟩ := fun h h' =>
    Fin.ext (by show 2 + q.val - 1 = q.val + 1; omega)
  have e2 : ∀ (h : q.val + 2 < 2176) (h' : 2 + q.val < 2176), (⟨2 + q.val, h'⟩ : Fin 2176) = ⟨q.val + 2, h⟩ := fun h h' =>
    Fin.ext (by show 2 + q.val = q.val + 2; omega)
  rw [mul_comm (Y U D W B J q)]
  have f1 : (if h : 1 ≤ 2 + q.val ∧ 2 + q.val - 1 < 2176 then Y U D W B J ⟨2 + q.val - 1, h.2⟩ * wc W J 1 else 0)
      = wc W J 1 * if h : q.val + 1 < 2176 then Y U D W B J ⟨q.val + 1, h⟩ else 0 := by
    by_cases h : q.val + 1 < 2176
    · rw [dif_pos h, dif_pos (by omega), e1 h, mul_comm]
    · rw [dif_neg h, dif_neg (by omega), mul_zero]
  have f2 : (if h : 2 + q.val < 2176 then Y U D W B J ⟨2 + q.val, h⟩ * wc W J 0 else 0)
      = wc W J 0 * if h : q.val + 2 < 2176 then Y U D W B J ⟨q.val + 2, h⟩ else 0 := by
    by_cases h : q.val + 2 < 2176
    · rw [dif_pos h, dif_pos (by omega), e2 h, mul_comm]
    · rw [dif_neg h, dif_neg (by omega), mul_zero]
  rw [f1, f2, add_comm, add_comm (wc W J 2 * _), add_assoc]

/-- Half `h` of the columns. -/
def half (h : Fin 2) (L : Fin 2816) : Fin 5632 := if h = 0 then lo L else hi L

theorem Y_half (h : Fin 2) (L : Fin 2816) :
    Y U D W B (half h L) = if h = 0 then gateGrad U D W B L else valGrad U D W B L := by
  unfold Y half
  match h with
  | 0 => rw [if_pos rfl, if_pos rfl]; exact dif_pos L.isLt
  | 1 =>
    rw [if_neg (by decide), if_neg (by decide), dif_neg (by show ¬ 2816 + L.val < 2816; omega)]
    exact congrArg (valGrad U D W B) (Fin.ext (Nat.add_sub_cancel_left 2816 L.val))

theorem result0 (h : Fin 2) (q : Fin 2176) (L : Fin 2816) :
    val_main_v77 (F := Ideal) U D W B (ix3 h q L) = back (wc W (half h L)) (Y U D W B (half h L)) q := by
  unfold val_main_v77 val_main_v76 val_main_v74 val_main_v75 val_main_v72 val_main_v73
  pointwise [inputGrad]
  match h with
  | 0 => rfl
  | 1 => rfl

theorem result1 (h : Fin 2) (k : Fin 3) (L : Fin 2816) :
    val_main_v82 (F := Ideal) U D W B (ix3 h k L) = tap k (uc U (half h L)) (Y U D W B (half h L)) := by
  unfold val_main_v82 val_main_v81 val_main_v80 val_main_v79 val_main_v78
  pointwise [tapGrad]
  match h with
  | 0 => rfl
  | 1 => rfl

theorem result2 (h : Fin 2) (o : Fin 1) (L : Fin 2816) :
    val_main_v87 (F := Ideal) U D W B (ix3 h o L) = ∑ q, Y U D W B (half h L) q := by
  unfold val_main_v87 val_main_v86 val_main_v85 val_main_v84 val_main_v83
  pointwise [biasGrad]
  match h with
  | 0 => rfl
  | 1 => rfl

end Cert.FfnRef

end
-- ==== Proof.Ffn.Equation.lean ====
/- At real argument entries, the kernel's arrays are the reference's values. -/
module

public import proofs.«01_k».proof.Proof.Ffn.Array
public import proofs.«01_k».proof.Proof.Ffn.Ref
public import proofs.«01_k».proof.Proof.Gen.Pre_finite

@[expose] public section

noncomputable section

namespace Cert.FfnEquation

open Cert.KernelIdeal Idealize.ShloMosaic Idealize.ShloMosaic.TcCoe Idealize.SL.Sem
open Idealize.ShloMosaic.Pointwise Cert.ConvGate Cert.FfnArray

/-- An extended real whose absolute value is less than infinity is a real number. -/
theorem real_of_abs {x : EReal} (h : max x (-x) < ⊤) : Real' x := by
  induction x with
  | bot => exact absurd h (by simp)
  | top => exact absurd h (by simp)
  | coe r => exact Real'.mk r

theorem real_of_cmp {x : EReal} (h : Ideal.cmp .olt (max x (-x)) ⊤ = 1#1) : Real' x := by
  apply real_of_abs
  by_contra hn
  rw [Ideal.cmp] at h
  simp [hn] at h

section
variable (U : Vec Ideal S2176x5632 .f32) (D : Vec Ideal S2176x2816 .f32) (W : Vec Ideal S3x5632 .f32) (B : Vec Ideal S1x5632 .f32)

/-- The precondition, read: every entry of the four arguments is a real number. -/
theorem reals (h : (Cert.Pre_finite.fn (F := Ideal) U D W B).1 = (fun _ => 1#1) ∧ (Cert.Pre_finite.fn (F := Ideal) U D W B).2.1 = (fun _ => 1#1)
      ∧ (Cert.Pre_finite.fn (F := Ideal) U D W B).2.2.1 = (fun _ => 1#1) ∧ (Cert.Pre_finite.fn (F := Ideal) U D W B).2.2.2 = (fun _ => 1#1)) :
    (∀ i, Real' (U i)) ∧ (∀ i, Real' (D i)) ∧ (∀ i, Real' (W i)) ∧ (∀ i, Real' (B i)) := by
  have top : Ideal.ofBits .f32 0x7F800000#32 = ⊤ := by
    simp [Ideal.ofBits, Ideal.ieee]
  simp only [Cert.Pre_finite.fn] at h
  obtain ⟨h0, h1, h2, h3⟩ := h
  refine ⟨fun i => real_of_cmp ?_, fun i => real_of_cmp ?_, fun i => real_of_cmp ?_, fun i => real_of_cmp ?_⟩
  · rw [← top]; exact congrFun h0 i
  · rw [← top]; exact congrFun h1 i
  · rw [← top]; exact congrFun h2 i
  · rw [← top]; exact congrFun h3 i

theorem at2_half (h : Fin 2) (L : Fin 2816) : at2 h L = FfnRef.half h L := by
  match h with
  | 0 => exact Fin.ext (by show 0 * 2816 + L.val = L.val; omega)
  | 1 => exact Fin.ext (by show 1 * 2816 + L.val = 2816 + L.val; omega)

variable (hU : ∀ i, Real' (U i)) (hD : ∀ i, Real' (D i)) (hW : ∀ i, Real' (W i)) (hB : ∀ i, Real' (B i))
include hU hD hW hB

theorem conv_real (h : Fin 2) (L : Fin 2816) (q : Fin 2176) :
    Real' (conv (wcol W h L) (bcol B h L) (ucol U h L) q) :=
  real_conv (fun _ => hW _) (hB _) (fun _ => hU _) q

theorem DC_eq (h : Fin 2) (L : Fin 2816) : DC U D W B h L = FfnRef.Y U D W B (FfnRef.half h L) := by
  rw [FfnRef.Y_half]
  unfold DC
  match h with
  | 0 =>
    rw [if_pos rfl, if_pos rfl]
    funext q
    unfold FfnBody.dg FfnRef.gateGrad
    have hd : Real' (dcol D L q) := hD _
    rw [dgate_eq_sum hd (conv_real U D W B hU hD hW hB 1 L q) (conv_real U D W B hU hD hW hB 0 L q)]
    unfold FfnRef.cc ucol wcol bcol dcol
    rw [at2_half, at2_half]
    rfl
  | 1 =>
    rw [if_neg (by decide), if_neg (by decide)]
    funext q
    unfold FfnBody.dv FfnRef.valGrad
    unfold FfnRef.cc ucol wcol bcol dcol
    rw [at2_half]
    rfl

theorem eq7 : G7 U D W B = Cert.ReferenceIdeal.Read.val_main_v77 (F := Ideal) U D W B := by
  funext i
  obtain ⟨h, r, l, rfl⟩ : ∃ (h : Fin 2) (r : Fin 2176) (l : Fin 2816), i = ix3 h r l := ⟨i 0, i 1, i 2, by funext a; fin_cases a <;> rfl⟩
  rw [FfnRef.result0, ← DC_eq U D W B hU hD hW hB, ← at2_half]
  rfl

theorem eq8 : G8 U D W B = Cert.ReferenceIdeal.Read.val_main_v82 (F := Ideal) U D W B := by
  funext i
  obtain ⟨h, r, l, rfl⟩ : ∃ (h : Fin 2) (r : Fin 3) (l : Fin 2816), i = ix3 h r l := ⟨i 0, i 1, i 2, by funext a; fin_cases a <;> rfl⟩
  rw [FfnRef.result1, ← DC_eq U D W B hU hD hW hB, ← at2_half]
  rfl

theorem eq9 : G9 U D W B = Cert.ReferenceIdeal.Read.val_main_v87 (F := Ideal) U D W B := by
  funext i
  obtain ⟨h, r, l, rfl⟩ : ∃ (h : Fin 2) (r : Fin 1) (l : Fin 2816), i = ix3 h r l := ⟨i 0, i 1, i 2, by funext a; fin_cases a <;> rfl⟩
  rw [FfnRef.result2, ← DC_eq U D W B hU hD hW hB]
  rfl
end

end Cert.FfnEquation

end
-- ==== Proof.Layer.Run.lean ====
/- The run of the layer's eight kernel calls: every buffer of the device that outlives a call ends at the contents of the
   last boundary, which is a fold of the calls from the launch memory. Stated over any numbers, so that the frame and the
   values both come from it. -/
module

public import proofs.«01_k».proof.Proof.Gen.FfnKernelIdeal.Frame

@[expose] public section

set_option maxRecDepth 16384

noncomputable section

namespace Cert.LayerRun

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one
set_option backward.isDefEq.respectTransparency.types false in
/-- Every execution ends, and every buffer holds what the last boundary says. -/
theorem run : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The six results and the six arguments, at the end of the run. -/
theorem results : θ_run defs (onTc (τ := τ) (main (F := F))) ⟨m, fun _ => 0, ρ⟩ (fun r => ∀ c : Dev nD,
      r.2.mem ((c.tc : Thread nD τ).loc main_v2) = W8 m ρ c (Proc.devRef .tc main_v2)
      ∧ r.2.mem ((c.tc : Thread nD τ).loc main_v6) = W8 m ρ c (Proc.devRef .tc main_v6)
      ∧ r.2.mem ((c.tc : Thread nD τ).loc main_v7) = W8 m ρ c (Proc.devRef .tc main_v7)
      ∧ r.2.mem ((c.tc : Thread nD τ).loc main_v5_1) = W8 m ρ c (Proc.devRef .tc main_v5_1)
      ∧ r.2.mem ((c.tc : Thread nD τ).loc main_v5_2) = W8 m ρ c (Proc.devRef .tc main_v5_2)
      ∧ r.2.mem ((c.tc : Thread nD τ).loc main_v4) = W8 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v2 (by decide)), h c _ (mem_uc main_v6 (by decide)), h c _ (mem_uc main_v7 (by decide)),
     h c _ (mem_uc main_v5_1 (by decide)), h c _ (mem_uc main_v5_2 (by decide)), h c _ (mem_uc main_v4 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run m ρ)

end Cert.LayerRun

end
-- ==== Proof.Layer.Products.lean ====
/- The six products of the layer, as whole arrays: each call's result array at the end of its grid is the product of the
   arrays it was handed, whatever they hold. -/
module

public import proofs.«01_k».proof.Proof.Gen.FfnKernelIdeal.Frame
public import Idealize.ShloMosaic.Lib.Pipeline.Value
public import Idealize.ShloMosaic.Lib.Pipeline.ValueKit.Point

@[expose] public section

noncomputable section

namespace Cert.LayerProducts

open Cert.FfnKernelIdeal Cert.FfnKernelIdeal.Gen Idealize.ShloMosaic Idealize.ShloMosaic.TcCoe Idealize.SL.Sem
open Idealize.ShloMosaic.Pointwise
open Idealize.ShloMosaic.Pipeline (Dat)

/-- Two sums of products whose factors agree. -/
theorem sum_pair {n : ℕ} {f f' g g' : Fin n → EReal} (hf : ∀ k, f k = f' k) (hg : ∀ k, g k = g' k) :
    ∑ k, f k * g k = ∑ k, f' k * g' k :=
  Finset.sum_congr rfl fun k _ => by rw [hf, hg]

/-! ## One block -/

theorem block0 (a : Vec Ideal S2176x1024 .bf16) (b : Vec Ideal S1024x512 .bf16) (p : Fin 2176) (q : Fin 512) :
    out0_2 a b (ix2 p q : S2176x512.Idx) = ∑ k : Fin 1024, a (ix2 p k : S2176x1024.Idx) * b (ix2 k q : S1024x512.Idx) := by
  frame_out
  pointwise [k0_pay1]

theorem block2 (a : Vec Ideal S544x2816 .bf16) (b : Vec Ideal S2816x1024 .bf16) (p : Fin 544) (q : Fin 1024) :
    out2_2 a b (ix2 p q : S544x1024.Idx) = ∑ k : Fin 2816, a (ix2 p k : S544x2816.Idx) * b (ix2 k q : S2816x1024.Idx) := by
  frame_out
  pointwise [k2_pay1]

theorem block3 (a : Vec Ideal S2176x1024 .bf16) (b : Vec Ideal S256x1024 .bf16) (p : Fin 2176) (q : Fin 256) :
    out3_2 a b (ix2 p q : S2176x256.Idx) = ∑ k : Fin 1024, a (ix2 p k : S2176x1024.Idx) * b (ix2 q k : S256x1024.Idx) := by
  frame_out
  pointwise [k3_pay1]

theorem block4 (a : Vec Ideal S2176x256 .bf16) (b : Vec Ideal S2176x1024 .bf16) (p : Fin 256) (q : Fin 1024) :
    out4_2 a b (ix2 p q : S256x1024.Idx) = ∑ k : Fin 2176, a (ix2 k p : S2176x256.Idx) * b (ix2 k q : S2176x1024.Idx) := by
  frame_out
  pointwise [k4_pay1]

theorem block6 (a : Vec Ideal S2x544x2816 .bf16) (b : Vec Ideal S1024x5632 .bf16) (p : Fin 544) (q : Fin 1024) :
    out6_2 a b (ix2 p q : S544x1024.Idx)
      = (∑ k : Fin 2816, a (ix3 0 p k : S2x544x2816.Idx) * b (ix2 q ⟨k.val, by omega⟩ : S1024x5632.Idx))
        + ∑ k : Fin 2816, a (ix3 1 p k : S2x544x2816.Idx) * b (ix2 q ⟨2816 + k.val, by omega⟩ : S1024x5632.Idx) := by
  frame_out
  pointwise [k6_pay1]

theorem block7 (a : Vec Ideal S2176x512 .bf16) (b : Vec Ideal S1x2176x1408 .bf16) (s : Fin 2) (p : Fin 512) (q : Fin 704) :
    out7_2 a b (ix3 s p q : S2x512x704.Idx)
      = ∑ k : Fin 2176, a (ix2 k p : S2176x512.Idx) * b (ix3 0 k ⟨s.val * 704 + q.val, by omega⟩ : S1x2176x1408.Idx) := by
  frame_out
  canon_tiles z e <;> idx_vars z
  · obtain rfl : s = 1 := Fin.ext (by simpa [z0_lt] using e0)
    obtain rfl : p = z1 := Fin.ext e1
    obtain rfl : q = z2 := Fin.ext e2
    pointwise [k7_pay3, k7_pay1]
  · obtain rfl : s = 0 := Fin.ext (by simpa [z0_lt] using e0)
    obtain rfl : p = z1 := Fin.ext e1
    obtain rfl : q = z2 := Fin.ext e2
    pointwise [k7_pay2, k7_pay1]

/-! ## The whole arrays -/

def P0 (A : Vec Ideal S2176x1024 .bf16) (B : Vec Ideal S1024x5632 .bf16) : Vec Ideal S2176x5632 .f32 :=
  fun i => ∑ k : Fin 1024, A (ix2 (i 0) k) * B (ix2 k (i 1))
def P2 (A : Vec Ideal S2176x2816 .bf16) (B : Vec Ideal S2816x1024 .bf16) : Vec Ideal S2176x1024 .f32 :=
  fun i => ∑ k : Fin 2816, A (ix2 (i 0) k) * B (ix2 k (i 1))
def P3 (A : Vec Ideal S2176x1024 .bf16) (B : Vec Ideal S2816x1024 .bf16) : Vec Ideal S2176x2816 .f32 :=
  fun i => ∑ k : Fin 1024, A (ix2 (i 0) k) * B (ix2 (i 1) k)
def P4 (A : Vec Ideal S2176x2816 .bf16) (B : Vec Ideal S2176x1024 .bf16) : Vec Ideal S2816x1024 .bf16 :=
  fun i => ∑ k : Fin 2176, A (ix2 k (i 0)) * B (ix2 k (i 1))
/-- A product whose left factor comes as two halves of its columns. -/
def P6 (A : Vec Ideal S2x2176x2816 .bf16) (B : Vec Ideal S1024x5632 .bf16) : Vec Ideal S2176x1024 .f32 :=
  fun i => (∑ k : Fin 2816, A (ix3 0 (i 0) k) * B (ix2 (i 1) ⟨k.val, by omega⟩))
    + ∑ k : Fin 2816, A (ix3 1 (i 0) k) * B (ix2 (i 1) ⟨2816 + k.val, by omega⟩)
/-- A product whose right factor comes as two halves and whose result leaves as eight groups of 704 columns. -/
def P7 (A : Vec Ideal S2176x1024 .bf16) (B : Vec Ideal S2x2176x2816 .bf16) : Vec Ideal S8x1024x704 .bf16 :=
  fun i => ∑ k : Fin 2176, A (ix2 k (i 1))
    * B (ix3 ⟨(i 0).val / 4, by have h : (i 0).val < 8 := (i 0).isLt; omega⟩ k
        ⟨((i 0).val % 4) * 704 + (i 2).val, by have h : (i 2).val < 704 := (i 2).isLt; omega⟩)

variable (V : (c : Dev nD) → (b : Ref sig .tc) → Buf (Elt Ideal) ((c : Thread nD τ).loc b)) (c : Dev nD)

theorem e0_0 : ∀ t : Fin cfg0.N, win0_0.index t = ![0, 0] := (by decide +kernel : ∀ t : Fin grid0.N, win0_0.index t = ![0, 0])
theorem e0_1 : ∀ t : Fin cfg0.N, win0_1.index t = ![0, t.val] := (by decide +kernel : ∀ t : Fin grid0.N, win0_1.index t = ![0, t.val])
theorem e0_2 : ∀ t : Fin cfg0.N, win0_2.index t = ![0, t.val] := (by decide +kernel : ∀ t : Fin grid0.N, win0_2.index t = ![0, t.val])
theorem e2_0 : ∀ t : Fin cfg2.N, win2_0.index t = ![t.val, 0] := (by decide +kernel : ∀ t : Fin grid2.N, win2_0.index t = ![t.val, 0])
theorem e2_1 : ∀ t : Fin cfg2.N, win2_1.index t = ![0, 0] := (by decide +kernel : ∀ t : Fin grid2.N, win2_1.index t = ![0, 0])
theorem e2_2 : ∀ t : Fin cfg2.N, win2_2.index t = ![t.val, 0] := (by decide +kernel : ∀ t : Fin grid2.N, win2_2.index t = ![t.val, 0])
theorem e3_0 : ∀ t : Fin cfg3.N, win3_0.index t = ![0, 0] := (by decide +kernel : ∀ t : Fin grid3.N, win3_0.index t = ![0, 0])
theorem e3_1 : ∀ t : Fin cfg3.N, win3_1.index t = ![t.val, 0] := (by decide +kernel : ∀ t : Fin grid3.N, win3_1.index t = ![t.val, 0])
theorem e3_2 : ∀ t : Fin cfg3.N, win3_2.index t = ![0, t.val] := (by decide +kernel : ∀ t : Fin grid3.N, win3_2.index t = ![0, t.val])
theorem e4_0 : ∀ t : Fin cfg4.N, win4_0.index t = ![0, t.val] := (by decide +kernel : ∀ t : Fin grid4.N, win4_0.index t = ![0, t.val])
theorem e4_1 : ∀ t : Fin cfg4.N, win4_1.index t = ![0, 0] := (by decide +kernel : ∀ t : Fin grid4.N, win4_1.index t = ![0, 0])
theorem e4_2 : ∀ t : Fin cfg4.N, win4_2.index t = ![t.val, 0] := (by decide +kernel : ∀ t : Fin grid4.N, win4_2.index t = ![t.val, 0])
theorem e6_0 : ∀ t : Fin cfg6.N, win6_0.index t = ![0, t.val, 0] := (by decide +kernel : ∀ t : Fin grid6.N, win6_0.index t = ![0, t.val, 0])
theorem e6_1 : ∀ t : Fin cfg6.N, win6_1.index t = ![0, 0] := (by decide +kernel : ∀ t : Fin grid6.N, win6_1.index t = ![0, 0])
theorem e6_2 : ∀ t : Fin cfg6.N, win6_2.index t = ![t.val, 0] := (by decide +kernel : ∀ t : Fin grid6.N, win6_2.index t = ![t.val, 0])
theorem e7_0 : ∀ t : Fin cfg7.N, win7_0.index t = ![0, t.val / 4] := (by decide +kernel : ∀ t : Fin grid7.N, win7_0.index t = ![0, t.val / 4])
theorem e7_1 : ∀ t : Fin cfg7.N, win7_1.index t = ![(t.val % 4) / 2, 0, t.val % 2] := (by decide +kernel : ∀ t : Fin grid7.N, win7_1.index t = ![(t.val % 4) / 2, 0, t.val % 2])
theorem e7_2 : ∀ t : Fin cfg7.N, win7_2.index t = ![t.val % 4, t.val / 4, 0] := (by decide +kernel : ∀ t : Fin grid7.N, win7_2.index t = ![t.val % 4, t.val / 4, 0])

theorem array0 : (dat0 V c).arrAt 2 cfg0.N = P0 (V c main_arg0) (V c main_arg1) := by
  refine (dat0 V c).arrAt_eq_of_covers 2 _ (by decide +kernel) fun t hf y => ?_
  blk_simp
  rw [after0_2]
  obtain ⟨p, q, rfl⟩ : ∃ (p : Fin 2176) (q : Fin 512), y = ix2 p q := ⟨y 0, y 1, by funext a; fin_cases a <;> rfl⟩
  rw [block0]
  unfold P0
  refine sum_pair (fun k => ?_) (fun k => ?_) <;> blk_ext [iblk0, e0_0 t, e0_1 t, e0_2 t]

theorem array2 : (dat2 V c).arrAt 2 cfg2.N = P2 (V c main_v1) (V c main_arg4) := by
  refine (dat2 V c).arrAt_eq_of_covers 2 _ (by decide +kernel) fun t hf y => ?_
  blk_simp
  rw [after2_2]
  obtain ⟨p, q, rfl⟩ : ∃ (p : Fin 544) (q : Fin 1024), y = ix2 p q := ⟨y 0, y 1, by funext a; fin_cases a <;> rfl⟩
  rw [block2]
  unfold P2
  refine sum_pair (fun k => ?_) (fun k => ?_) <;> blk_ext [iblk2, e2_0 t, e2_1 t, e2_2 t]

theorem array3 : (dat3 V c).arrAt 2 cfg3.N = P3 (V c main_arg5) (V c main_arg4) := by
  refine (dat3 V c).arrAt_eq_of_covers 2 _ (by decide +kernel) fun t hf y => ?_
  blk_simp
  rw [after3_2]
  obtain ⟨p, q, rfl⟩ : ∃ (p : Fin 2176) (q : Fin 256), y = ix2 p q := ⟨y 0, y 1, by funext a; fin_cases a <;> rfl⟩
  rw [block3]
  unfold P3
  refine sum_pair (fun k => ?_) (fun k => ?_) <;> blk_ext [iblk3, e3_0 t, e3_1 t, e3_2 t]

theorem array4 : (dat4 V c).arrAt 2 cfg4.N = P4 (V c main_v1) (V c main_arg5) := by
  refine (dat4 V c).arrAt_eq_of_covers 2 _ (by decide +kernel) fun t hf y => ?_
  blk_simp
  rw [after4_2]
  obtain ⟨p, q, rfl⟩ : ∃ (p : Fin 256) (q : Fin 1024), y = ix2 p q := ⟨y 0, y 1, by funext a; fin_cases a <;> rfl⟩
  rw [block4]
  unfold P4
  refine sum_pair (fun k => ?_) (fun k => ?_) <;> blk_ext [iblk4, e4_0 t, e4_1 t, e4_2 t]

theorem array6 : (dat6 V c).arrAt 2 cfg6.N = P6 (V c main_v5_0) (V c main_arg1) := by
  refine (dat6 V c).arrAt_eq_of_covers 2 _ (by decide +kernel) fun t hf y => ?_
  blk_simp
  rw [after6_2]
  obtain ⟨p, q, rfl⟩ : ∃ (p : Fin 544) (q : Fin 1024), y = ix2 p q := ⟨y 0, y 1, by funext a; fin_cases a <;> rfl⟩
  rw [block6]
  unfold P6
  refine congrArg₂ _ (Finset.sum_congr rfl fun k _ => ?_) (Finset.sum_congr rfl fun k _ => ?_)
  all_goals congr 1 <;> blk_ext [iblk6, e6_0 t, e6_1 t, e6_2 t]

theorem array7 : (dat7 V c).arrAt 2 cfg7.N = P7 (V c main_arg0) (V c main_v5_0) := by
  refine (dat7 V c).arrAt_eq_of_covers 2 _ (by decide +kernel) fun t hf y => ?_
  blk_simp
  rw [after7_2]
  obtain ⟨s, p, q, rfl⟩ : ∃ (s : Fin 2) (p : Fin 512) (q : Fin 704), y = ix3 s p q := ⟨y 0, y 1, y 2, by funext a; fin_cases a <;> rfl⟩
  have ht : t.val < 8 := t.isLt
  rw [block7]
  unfold P7
  refine sum_pair (fun k => ?_) (fun k => ?_) <;> blk_ext [iblk7, e7_0 t, e7_1 t, e7_2 t]

end Cert.LayerProducts

end
-- ==== Proof.Layer.Payloads.lean ====
/- The kernel's arithmetic on a block, one named value at a time, read at row r and lane l: the rounded shifts of a block
   are its columns moved down or up (the ideal rounding is the identity), the convolutions, the gate's and the value's
   gradients, the transposed convolutions and the sums over rows. -/
module

public import proofs.«01_k».proof.Proof.Gen.FfnKernelIdeal.Skeleton
public import Idealize.ShloMosaic.Lib.Pipeline.ValueKit.Point
public import Idealize.ShloMosaic.Lib.WordCmp
public import proofs.«01_k».proof.Proof.Ffn.Spec

@[expose] public section

noncomputable section

namespace Cert.LayerBody

open Cert.FfnKernelIdeal Cert.FfnKernelIdeal.Gen Idealize.ShloMosaic Idealize.ShloMosaic.TcCoe Idealize.SL.Sem
open Idealize.ShloMosaic.Pointwise Cert.ConvGate

/-- The literal 0.5. -/
theorem half_bits : Ideal.ofBits .f32 0x3F000000#32 = ((1 / 2 : ℝ) : EReal) := by
  simp [Ideal.ofBits, Ideal.ieee, -EReal.coe_mul]; norm_num

/-- The mask "row at least s". -/
theorem mask_ge (s : ℕ) (hs : s < 2 ^ 31) (h1 h2) (r : Fin 2176) (l : Fin 256) :
    broadcastTo S2176x256 (shapeCast S2176x1 (cmpi .sge (iota .tc S2176x1 32 [0] iota_S2176x1_d0_w32)
      (broadcast S2176x1 (BitVec.ofNat 32 s))) h1) h2 (ix2 r l) = BitVec.ofBool (decide (s ≤ r.val)) := by
  pointwise
  have hr := r.isLt
  rw [WordCmp.cmpi_sge_ofNat (by omega) (by omega)]

/-- The mask "row less than s". -/
theorem mask_lt (s : ℕ) (hs : s < 2 ^ 31) (h1 h2) (r : Fin 2176) (l : Fin 256) :
    broadcastTo S2176x256 (shapeCast S2176x1 (cmpi .slt (iota .tc S2176x1 32 [0] iota_S2176x1_d0_w32)
      (broadcast S2176x1 (BitVec.ofNat 32 s))) h1) h2 (ix2 r l) = BitVec.ofBool (decide (r.val < s)) := by
  pointwise
  have hr := r.isLt
  rw [WordCmp.cmpi_slt_ofNat (by omega) (by omega)]

/-- A rotation of the rows read at an index. -/
theorem rot (x : FVec Ideal S2176x256 .f32) (n : BitVec 32) (h) (r : Fin 2176) (l : Fin 256) :
    dynamicRotate (s := S2176x256) 0 n none x h (ix2 r l)
      = x (ix2 ⟨(r.val + 2176 - n.toNat % 2176) % 2176, Nat.mod_lt _ (by norm_num)⟩ l) := by
  rw [Pointwise.dynamicRotate_apply]
  congr 1
  funext b
  match b with
  | ⟨0, _⟩ => rfl
  | ⟨1, _⟩ => rfl

/-- The rows rotated by s and masked below: the column moved down. -/
theorem select_down (s : ℕ) (hs : s < 2176) (x : FVec Ideal S2176x256 .f32) (m) (h) (r : Fin 2176) (l : Fin 256)
    (hm : m (ix2 r l) = BitVec.ofBool (decide (s ≤ r.val))) :
    select m (dynamicRotate (s := S2176x256) 0 (BitVec.ofNat 32 s) none x h)
      (broadcast S2176x256 (Scalar.ofBits (F := Ideal) .f32 0x00000000#32)) (ix2 r l)
      = down s (fun q => x (ix2 q l)) r := by
  show Scalar.select (m (ix2 r l)) (dynamicRotate (s := S2176x256) 0 (BitVec.ofNat 32 s) none x h (ix2 r l))
    (Ideal.ofBits .f32 0x00000000#32) = _
  rw [hm, WordCmp.select_ofBool, rot, Ideal.ofBits_zero_f32]
  unfold down
  have hr := r.isLt
  have hn : (BitVec.ofNat 32 s).toNat % 2176 = s := by
    rw [BitVec.toNat_ofNat, Nat.mod_eq_of_lt (show s < 2 ^ 32 by omega), Nat.mod_eq_of_lt hs]
  by_cases hc : s ≤ r.val
  · simp only [hc, decide_true, if_true]
    congr 2
    apply Fin.ext
    show (r.val + 2176 - (BitVec.ofNat 32 s).toNat % 2176) % 2176 = r.val - s
    rw [hn]; omega
  · simp only [hc, decide_false, if_false, Bool.false_eq_true]

/-- The rows rotated by 2176 - s and masked above: the column moved up. -/
theorem select_up (s : ℕ) (hs0 : 0 < s) (hs : s < 2176) (x : FVec Ideal S2176x256 .f32) (m) (h) (r : Fin 2176) (l : Fin 256)
    (hm : m (ix2 r l) = BitVec.ofBool (decide (r.val < 2176 - s))) :
    select m (dynamicRotate (s := S2176x256) 0 (BitVec.ofNat 32 (2176 - s)) none x h)
      (broadcast S2176x256 (Scalar.ofBits (F := Ideal) .f32 0x00000000#32)) (ix2 r l)
      = up s (fun q => x (ix2 q l)) r := by
  show Scalar.select (m (ix2 r l)) (dynamicRotate (s := S2176x256) 0 (BitVec.ofNat 32 (2176 - s)) none x h (ix2 r l))
    (Ideal.ofBits .f32 0x00000000#32) = _
  rw [hm, WordCmp.select_ofBool, rot, Ideal.ofBits_zero_f32]
  unfold up
  have hr := r.isLt
  have hn : (BitVec.ofNat 32 (2176 - s)).toNat % 2176 = 2176 - s := by
    rw [BitVec.toNat_ofNat, Nat.mod_eq_of_lt (by omega), Nat.mod_eq_of_lt (by omega)]
  by_cases hc : r.val < 2176 - s
  · have hc' : r.val + s < 2176 := by omega
    simp only [hc, decide_true, if_true, dif_pos hc']
    congr 2
    apply Fin.ext
    show (r.val + 2176 - (BitVec.ofNat 32 (2176 - s)).toNat % 2176) % 2176 = r.val + s
    rw [hn]; omega
  · have hc' : ¬ r.val + s < 2176 := by omega
    simp only [hc, decide_false, if_false, Bool.false_eq_true, dif_neg hc']

variable (r : Fin 2176) (l : Fin 256)

theorem pay4_apply (x : Vec Ideal S2176x256 .f32) : k5_pay4 x = x := shapeCast_self x _
theorem pay7_apply (x : Vec Ideal S2176x256 .f32) : k5_pay7 x = x := shapeCast_self x _
theorem pay16_apply (x : Vec Ideal S2176x256 .f32) : k5_pay16 x = x := shapeCast_self x _
theorem pay28_apply (x : FVec Ideal S2176x256 .f32) : k5_pay28 x = x := rfl

theorem pay5_apply (x : Vec Ideal S2176x256 .f32) : k5_pay5 x (ix2 r l) = down 2 (fun q => x (ix2 q l)) r :=
  (select_down 2 (by norm_num) (k5_pay4 x) _ _ r l (mask_ge 2 (by norm_num) _ _ r l)).trans (by rw [pay4_apply])
theorem pay6_apply (x : Vec Ideal S2176x256 .f32) : k5_pay6 x (ix2 r l) = down 1 (fun q => x (ix2 q l)) r :=
  (select_down 1 (by norm_num) (k5_pay4 x) _ _ r l (mask_ge 1 (by norm_num) _ _ r l)).trans (by rw [pay4_apply])
theorem pay8_apply (x : Vec Ideal S2176x256 .f32) : k5_pay8 x (ix2 r l) = down 2 (fun q => x (ix2 q l)) r :=
  (select_down 2 (by norm_num) (k5_pay7 x) _ _ r l (mask_ge 2 (by norm_num) _ _ r l)).trans (by rw [pay7_apply])
theorem pay9_apply (x : Vec Ideal S2176x256 .f32) : k5_pay9 x (ix2 r l) = down 1 (fun q => x (ix2 q l)) r :=
  (select_down 1 (by norm_num) (k5_pay7 x) _ _ r l (mask_ge 1 (by norm_num) _ _ r l)).trans (by rw [pay7_apply])

theorem pay10_apply : k5_pay10 (F := Ideal) (ix2 r l) = 0 := by pointwise [k5_pay10]
theorem pay11_apply (w : Vec Ideal S1x256 .f32) : k5_pay11 w = w := rfl

theorem pay12_apply (x x2 x1 z : FVec Ideal S2176x256 .f32) (w0 : FVec Ideal S1x256 .bf16) (w1 w2 b : Vec Ideal S1x256 .f32) :
    k5_pay12 x x2 x1 z w0 w1 w2 b (ix2 r l)
      = z (ix2 r l) + w0 (ix2 0 l) * x2 (ix2 r l) + w1 (ix2 0 l) * x1 (ix2 r l) + w2 (ix2 0 l) * x (ix2 r l) + b (ix2 0 l) := by
  pointwise [k5_pay12]

theorem pay13_apply (x x2 x1 : FVec Ideal S2176x256 .f32) (w0 w1 w2 b : Vec Ideal S1x256 .f32) :
    k5_pay13 x x2 x1 w0 w1 w2 b (ix2 r l)
      = w0 (ix2 0 l) * x2 (ix2 r l) + w1 (ix2 0 l) * x1 (ix2 r l) + w2 (ix2 0 l) * x (ix2 r l) + b (ix2 0 l) := by
  pointwise [k5_pay13]

theorem pay14_apply (x x2 x1 z : FVec Ideal S2176x256 .f32) (w0 : FVec Ideal S1x256 .bf16) (w1 w2 b : Vec Ideal S1x256 .f32) :
    k5_pay14 x x2 x1 z w0 w1 w2 b (ix2 r l)
      = Ideal.tanh (((1 / 2 : ℝ) : EReal) * k5_pay12 x x2 x1 z w0 w1 w2 b (ix2 r l)) := by
  pointwise [k5_pay14, half_bits]

theorem pay15_apply (t : FVec Ideal S2176x256 .f32) :
    k5_pay15 t (ix2 r l) = ((1 / 2 : ℝ) : EReal) * t (ix2 r l) + ((1 / 2 : ℝ) : EReal) := by
  pointwise [k5_pay15, half_bits]

theorem pay17_apply (g v t : FVec Ideal S2176x256 .f32) (d : Vec Ideal S2176x256 .f32) :
    k5_pay17 g v t d (ix2 r l)
      = d (ix2 r l) * v (ix2 r l) * k5_pay15 t (ix2 r l) * (1 + g (ix2 r l) * (1 - k5_pay15 t (ix2 r l))) := by
  unfold k5_pay17
  rw [pay16_apply]
  pointwise

theorem pay18_apply (g t : FVec Ideal S2176x256 .f32) (d : Vec Ideal S2176x256 .f32) :
    k5_pay18 g t d (ix2 r l) = d (ix2 r l) * g (ix2 r l) * k5_pay15 t (ix2 r l) := by
  unfold k5_pay18
  rw [pay16_apply]
  pointwise

theorem pay20_apply (g v t : FVec Ideal S2176x256 .f32) (d : Vec Ideal S2176x256 .f32) :
    k5_pay20 g v t d = k5_pay17 g v t d := rfl

theorem pay21_apply (g v t : FVec Ideal S2176x256 .f32) (d : Vec Ideal S2176x256 .f32) (w : Vec Ideal S1x256 .f32) :
    k5_pay21 (iota .tc S2176x1 32 [0] iota_S2176x1_d0_w32) g v t d w (ix2 r l)
      = w (ix2 0 l) * up 2 (fun q => k5_pay17 g v t d (ix2 q l)) r := by
  rw [← pay20_apply, ← select_up 2 (by norm_num) (by norm_num) (k5_pay20 g v t d) _ rotates_S2176x256_d0 r l
    (mask_lt 2174 (by norm_num) shapeCasts_S2176x1_S2176x1 broadcasts_S2176x1_S2176x256 r l)]
  unfold k5_pay21
  generalize select _ _ _ = z
  pointwise

theorem pay25_apply (y a : FVec Ideal S2176x256 .f32) (w1 w2 : Vec Ideal S1x256 .f32) :
    k5_pay25 (iota .tc S2176x1 32 [0] iota_S2176x1_d0_w32) y a w1 w2 (ix2 r l)
      = a (ix2 r l) + w1 (ix2 0 l) * up 1 (fun q => y (ix2 q l)) r + w2 (ix2 0 l) * y (ix2 r l) := by
  rw [← select_up 1 (by norm_num) (by norm_num) y _ rotates_S2176x256_d0 r l
    (mask_lt 2175 (by norm_num) shapeCasts_S2176x1_S2176x1 broadcasts_S2176x1_S2176x256 r l)]
  unfold k5_pay25
  generalize select _ _ _ = z
  pointwise

theorem pay29_apply (y : FVec Ideal S2176x256 .f32) (w : Vec Ideal S1x256 .f32) :
    k5_pay29 (iota .tc S2176x1 32 [0] iota_S2176x1_d0_w32) y w (ix2 r l)
      = w (ix2 0 l) * up 2 (fun q => y (ix2 q l)) r := by
  rw [← select_up 2 (by norm_num) (by norm_num) y _ rotates_S2176x256_d0 r l
    (mask_lt 2174 (by norm_num) shapeCasts_S2176x1_S2176x1 broadcasts_S2176x1_S2176x256 r l)]
  unfold k5_pay29
  rw [pay28_apply y]
  generalize select _ _ _ = z
  pointwise

theorem pay26_apply (x : FVec Ideal S2176x256 .bf16) (o : Fin 1) : k5_pay26 x (ix3 o r l) = x (ix2 r l) := by
  pointwise [k5_pay26]

theorem pay3_apply (y a : FVec Ideal S2176x256 .f32) (w1 w2 : Vec Ideal S1x256 .f32) (o : Fin 1) :
    k5_pay3 y a (k5_pay31 w1) (k5_pay32 (iota .tc S2176x1 32 [0] iota_S2176x1_d0_w32)) w2 (ix3 o r l)
      = a (ix2 r l) + w1 (ix2 0 l) * up 1 (fun q => y (ix2 q l)) r + w2 (ix2 0 l) * y (ix2 r l) := by
  rw [show k5_pay3 y a (k5_pay31 w1) (k5_pay32 (iota .tc S2176x1 32 [0] iota_S2176x1_d0_w32)) w2
      = k5_pay26 (k5_pay25 (iota .tc S2176x1 32 [0] iota_S2176x1_d0_w32) y a w1 w2) from rfl, pay26_apply, pay25_apply]

theorem pay1_apply (x y : FVec Ideal S2176x256 .f32) (o : Fin 1) : k5_pay1 x y (ix2 o l) = ∑ q, y (ix2 q l) * x (ix2 q l) := by
  pointwise [k5_pay1]
theorem pay2_apply (x y : FVec Ideal S2176x256 .f32) (o : Fin 1) : k5_pay2 x y (ix2 o l) = ∑ q, y (ix2 q l) * x (ix2 q l) := by
  pointwise [k5_pay2]
theorem pay23_apply (x y : FVec Ideal S2176x256 .f32) (o : Fin 1) : k5_pay23 x y (ix2 o l) = ∑ q, y (ix2 q l) * x (ix2 q l) := by
  pointwise [k5_pay23]
theorem pay24_apply (x y : FVec Ideal S2176x256 .f32) (o : Fin 1) : k5_pay24 x y (ix2 o l) = ∑ q, y (ix2 q l) * x (ix2 q l) := by
  pointwise [k5_pay24]
theorem pay30_apply (x y : FVec Ideal S2176x256 .f32) (o : Fin 1) : k5_pay30 x y (ix2 o l) = ∑ q, y (ix2 q l) * x (ix2 q l) := by
  rw [show k5_pay30 x y = k5_pay23 x y from rfl, pay23_apply]
theorem pay22_apply (x g v t : FVec Ideal S2176x256 .f32) (d : Vec Ideal S2176x256 .f32) (o : Fin 1) :
    k5_pay22 x g v t d (ix2 o l) = ∑ q, k5_pay17 g v t d (ix2 q l) * x (ix2 q l) := by
  rw [show k5_pay22 x g v t d = k5_pay23 x (k5_pay17 g v t d) from rfl, pay23_apply]
theorem pay27_apply (y : FVec Ideal S2176x256 .f32) (o o' : Fin 1) : k5_pay27 y (ix3 o o' l) = ∑ q, y (ix2 q l) := by
  pointwise [k5_pay27]
theorem pay19_apply (g v t : FVec Ideal S2176x256 .f32) (d : Vec Ideal S2176x256 .f32) (o o' : Fin 1) :
    k5_pay19 g v t d (ix3 o o' l) = ∑ q, k5_pay17 g v t d (ix2 q l) := by
  rw [show k5_pay19 g v t d = k5_pay27 (k5_pay17 g v t d) from rfl, pay27_apply]

end Cert.LayerBody

end
-- ==== Proof.Layer.Body.lean ====
/- What one grid point of the kernel leaves in its three output blocks, as the column functions of Spec.lean over the
   point's input blocks: half 0 is the gate's, half 1 the value's. -/
module

public import proofs.«01_k».proof.Proof.Gen.FfnKernelIdeal.Frame
public import Idealize.ShloMosaic.Lib.Pipeline.Value
public import proofs.«01_k».proof.Proof.Layer.Payloads

@[expose] public section

noncomputable section

namespace Cert.LayerBody

open Cert.FfnKernelIdeal Cert.FfnKernelIdeal.Gen Idealize.ShloMosaic Idealize.ShloMosaic.TcCoe Idealize.SL.Sem
open Idealize.ShloMosaic.Pointwise Cert.ConvGate

/-- A lane of a block, as a column. -/
abbrev col (x : Vec Ideal S2176x256 .f32) (l : Fin 256) : Fin 2176 → EReal := fun q => x (ix2 q l)
/-- A lane of a block of taps. -/
abbrev taps (w : Vec Ideal S3x256 .f32) (l : Fin 256) : Fin 3 → EReal := fun k => w (ix2 k l)

/-- The gate's gradient of a lane: from the gate half and the value half of the block. -/
def dg (xg xv d : Fin 2176 → EReal) (wg wv : Fin 3 → EReal) (bg bv : EReal) (q : Fin 2176) : EReal :=
  dgate (d q) (conv wv bv xv q) (conv wg bg xg q)
/-- The value's gradient of a lane. -/
def dv (xg d : Fin 2176 → EReal) (wg : Fin 3 → EReal) (bg : EReal) (q : Fin 2176) : EReal :=
  dval (d q) (conv wg bg xg q)

section Lanes
variable (x0 x1 x2 : Vec Ideal S2176x256 .f32) (x3 x4 : Vec Ideal S3x256 .f32) (x5 x6 : Vec Ideal S1x256 .f32)

/-- The gate's convolution as the body spells it. -/
abbrev gateV : FVec Ideal S2176x256 .f32 :=
  k5_pay12 (k5_pay4 x0) (k5_pay5 x0) (k5_pay6 x0) k5_pay10
    (k5_pay11 (View.ld x3 (Rect.unit (s := S3x256) ![0, 0] ![1, 256] inb_S3x256_S1x256_0_0)))
    (View.ld x3 (Rect.unit (s := S3x256) ![1, 0] ![1, 256] inb_S3x256_S1x256_1_0))
    (View.ld x3 (Rect.unit (s := S3x256) ![2, 0] ![1, 256] inb_S3x256_S1x256_2_0)) x5
/-- The hyperbolic tangent of half of it. -/
abbrev gateT : FVec Ideal S2176x256 .f32 :=
  k5_pay14 (k5_pay4 x0) (k5_pay5 x0) (k5_pay6 x0) k5_pay10
    (k5_pay11 (View.ld x3 (Rect.unit (s := S3x256) ![0, 0] ![1, 256] inb_S3x256_S1x256_0_0)))
    (View.ld x3 (Rect.unit (s := S3x256) ![1, 0] ![1, 256] inb_S3x256_S1x256_1_0))
    (View.ld x3 (Rect.unit (s := S3x256) ![2, 0] ![1, 256] inb_S3x256_S1x256_2_0)) x5
/-- The value's convolution as the body spells it. -/
abbrev valV : FVec Ideal S2176x256 .f32 :=
  k5_pay13 (k5_pay7 x1) (k5_pay8 x1) (k5_pay9 x1)
    (View.ld x4 (Rect.unit (s := S3x256) ![0, 0] ![1, 256] inb_S3x256_S1x256_0_0))
    (View.ld x4 (Rect.unit (s := S3x256) ![1, 0] ![1, 256] inb_S3x256_S1x256_1_0))
    (View.ld x4 (Rect.unit (s := S3x256) ![2, 0] ![1, 256] inb_S3x256_S1x256_2_0)) x6

theorem ld0 (w : Vec Ideal S3x256 .f32) (l : Fin 256) :
    View.ld w (Rect.unit (s := S3x256) ![0, 0] ![1, 256] inb_S3x256_S1x256_0_0) (ix2 0 l) = w (ix2 0 l) := by
  pointwise
theorem ld1 (w : Vec Ideal S3x256 .f32) (l : Fin 256) :
    View.ld w (Rect.unit (s := S3x256) ![1, 0] ![1, 256] inb_S3x256_S1x256_1_0) (ix2 0 l) = w (ix2 1 l) := by
  pointwise
theorem ld2 (w : Vec Ideal S3x256 .f32) (l : Fin 256) :
    View.ld w (Rect.unit (s := S3x256) ![2, 0] ![1, 256] inb_S3x256_S1x256_2_0) (ix2 0 l) = w (ix2 2 l) := by
  pointwise

theorem gateV_apply (r : Fin 2176) (l : Fin 256) :
    gateV x0 x3 x5 (ix2 r l) = conv (taps x3 l) (x5 (ix2 0 l)) (col x0 l) r := by
  rw [gateV, pay12_apply, pay10_apply, pay11_apply, pay5_apply, pay6_apply, pay4_apply, ld0, ld1, ld2, zero_add]
  rfl
theorem valV_apply (r : Fin 2176) (l : Fin 256) :
    valV x1 x4 x6 (ix2 r l) = conv (taps x4 l) (x6 (ix2 0 l)) (col x1 l) r := by
  rw [valV, pay13_apply, pay8_apply, pay9_apply, pay7_apply, ld0, ld1, ld2]
  rfl
theorem sig_apply (r : Fin 2176) (l : Fin 256) :
    k5_pay15 (gateT x0 x3 x5) (ix2 r l) = Ideal.logistic (conv (taps x3 l) (x5 (ix2 0 l)) (col x0 l) r) := by
  rw [← gateV_apply, ← logistic_eq_tanh, pay15_apply, gateT, pay14_apply]
theorem dg_apply (r : Fin 2176) (l : Fin 256) :
    k5_pay17 (gateV x0 x3 x5) (valV x1 x4 x6) (gateT x0 x3 x5) x2 (ix2 r l)
      = dg (col x0 l) (col x1 l) (col x2 l) (taps x3 l) (taps x4 l) (x5 (ix2 0 l)) (x6 (ix2 0 l)) r := by
  rw [pay17_apply, sig_apply, gateV_apply, valV_apply]; rfl
theorem dv_apply (r : Fin 2176) (l : Fin 256) :
    k5_pay18 (gateV x0 x3 x5) (gateT x0 x3 x5) x2 (ix2 r l)
      = dv (col x0 l) (col x2 l) (taps x3 l) (x5 (ix2 0 l)) r := by
  rw [pay18_apply, sig_apply, gateV_apply]; rfl
end Lanes

/-- A row of a block of taps without its leading coordinate. -/
theorem lanes (z0 z1 : Fin 1) (l : Fin 256) (i : Fin 2) :
    ((ix2 0 l : (⟨2, ![1, 256]⟩ : Shape).Idx) i).val = ((ix3 z0 z1 l : (⟨3, ![1, 1, 256]⟩ : Shape).Idx) i.succ).val :=
  match i with
  | ⟨0, _⟩ => (Nat.lt_one_iff.mp z1.isLt).symm
  | ⟨1, _⟩ => rfl

variable (c : Dev nD) (i : grid5.Coords) (arg1 : Memref sig .tc .vmem S2176x256 .f32) (harg1 : arg1.IsWhole) (arg2 : Memref sig .tc .vmem S2176x256 .f32) (harg2 : arg2.IsWhole) (arg3 : Memref sig .tc .vmem S2176x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2x2176x256 .bf16) (harg8 : arg8.IsWhole) (arg9 : Memref sig .tc .vmem S2x3x256 .f32) (harg9 : arg9.IsWhole) (arg10 : Memref sig .tc .vmem S2x1x256 .f32) (harg10 : arg10.IsWhole)
    (x0 : Vec Ideal S2176x256 .f32) (x1 : Vec Ideal S2176x256 .f32) (x2 : Vec Ideal S2176x256 .f32) (x3 : Vec Ideal S3x256 .f32) (x4 : Vec Ideal S3x256 .f32) (x5 : Vec Ideal S1x256 .f32) (x6 : Vec Ideal S1x256 .f32)

/-- The convolution results' gradient of a lane: half 0 the gate's, half 1 the value's. -/
def dc (h : Fin 2) (l : Fin 256) : Fin 2176 → EReal :=
  if h = 0 then dg (col x0 l) (col x1 l) (col x2 l) (taps x3 l) (taps x4 l) (x5 (ix2 0 l)) (x6 (ix2 0 l))
  else dv (col x0 l) (col x2 l) (taps x3 l) (x5 (ix2 0 l))

theorem out9 (h : Fin 2) (o : Fin 1) (l : Fin 256) :
    out5_A_9 c i arg1 harg1 arg2 harg2 arg3 harg3 arg4 harg4 arg5 harg5 arg6 harg6 arg7 harg7 arg8 harg8 arg9 harg9 arg10 harg10 x0 x1 x2 x3 x4 x5 x6 (ix3 h o l)
      = ∑ q, dc x0 x1 x2 x3 x4 x5 x6 h l q := by
  frame_out
  canon_tiles z e
  · idx_vars z
    obtain rfl : h = 1 := Fin.ext (by simpa [z0_lt] using e0)
    obtain rfl : l = z2 := Fin.ext e2
    rw [pay27_apply]
    exact Finset.sum_congr rfl fun q _ => dv_apply ..
  · idx_vars z
    obtain rfl : h = 0 := Fin.ext (by simpa [z0_lt] using e0)
    obtain rfl : l = z2 := Fin.ext e2
    rw [pay19_apply]
    exact Finset.sum_congr rfl fun q _ => dg_apply ..

theorem out8 (h : Fin 2) (k : Fin 3) (l : Fin 256) :
    out5_A_8 c i arg1 harg1 arg2 harg2 arg3 harg3 arg4 harg4 arg5 harg5 arg6 harg6 arg7 harg7 arg8 harg8 arg9 harg9 arg10 harg10 x0 x1 x2 x3 x4 x5 x6 (ix3 h k l)
      = tap k (if h = 0 then col x0 l else col x1 l) (dc x0 x1 x2 x3 x4 x5 x6 h l) := by
  frame_out
  canon_tiles z e <;> idx_vars z
  · have e0 : 1 + 0 + 1 * z0.val = h.val := congrArg (fun i : S2x3x256.Idx => (i 0).val) e
    have e1 : 0 + 2 + 1 * z1.val = k.val := congrArg (fun i : S2x3x256.Idx => (i 1).val) e
    have e2 : 0 + 0 + 1 * z2.val = l.val := congrArg (fun i : S2x3x256.Idx => (i 2).val) e
    obtain rfl : h = 1 := Fin.ext (by show h.val = 1; omega)
    obtain rfl : k = 2 := Fin.ext (by show k.val = 2; omega)
    obtain rfl : l = z2 := Fin.ext (by omega)
    refine (Rect.payAlong_consLift _ _ _ _ _ _ _ (ix2 0 l) (lanes z0 z1 l)).trans ?_
    rw [pay28_apply, pay2_apply]
    exact Finset.sum_congr rfl fun q _ => by rw [dv_apply, pay7_apply, ← down_zero (fun q => x1 (ix2 q l)) q]; rfl
  · have e0 : 1 + 0 + 1 * z0.val = h.val := congrArg (fun i : S2x3x256.Idx => (i 0).val) e
    have e1 : 0 + 1 + 1 * z1.val = k.val := congrArg (fun i : S2x3x256.Idx => (i 1).val) e
    have e2 : 0 + 0 + 1 * z2.val = l.val := congrArg (fun i : S2x3x256.Idx => (i 2).val) e
    obtain rfl : h = 1 := Fin.ext (by show h.val = 1; omega)
    obtain rfl : k = 1 := Fin.ext (by show k.val = 1; omega)
    obtain rfl : l = z2 := Fin.ext (by omega)
    refine (Rect.payAlong_consLift _ _ _ _ _ _ _ (ix2 0 l) (lanes z0 z1 l)).trans ?_
    rw [pay28_apply, pay1_apply]
    exact Finset.sum_congr rfl fun q _ => by rw [dv_apply, pay9_apply]; rfl
  · have e0 : 1 + 0 + 1 * z0.val = h.val := congrArg (fun i : S2x3x256.Idx => (i 0).val) e
    have e1 : 0 + 0 + 1 * z1.val = k.val := congrArg (fun i : S2x3x256.Idx => (i 1).val) e
    have e2 : 0 + 0 + 1 * z2.val = l.val := congrArg (fun i : S2x3x256.Idx => (i 2).val) e
    obtain rfl : h = 1 := Fin.ext (by show h.val = 1; omega)
    obtain rfl : k = 0 := Fin.ext (by show k.val = 0; omega)
    obtain rfl : l = z2 := Fin.ext (by omega)
    refine (Rect.payAlong_consLift _ _ _ _ _ _ _ (ix2 0 l) (lanes z0 z1 l)).trans ?_
    rw [pay30_apply]
    exact Finset.sum_congr rfl fun q _ => by rw [dv_apply, pay8_apply]; rfl
  · have e0 : 0 + 0 + 1 * z0.val = h.val := congrArg (fun i : S2x3x256.Idx => (i 0).val) e
    have e1 : 0 + 2 + 1 * z1.val = k.val := congrArg (fun i : S2x3x256.Idx => (i 1).val) e
    have e2 : 0 + 0 + 1 * z2.val = l.val := congrArg (fun i : S2x3x256.Idx => (i 2).val) e
    obtain rfl : h = 0 := Fin.ext (by show h.val = 0; omega)
    obtain rfl : k = 2 := Fin.ext (by show k.val = 2; omega)
    obtain rfl : l = z2 := Fin.ext (by omega)
    refine (Rect.payAlong_consLift _ _ _ _ _ _ _ (ix2 0 l) (lanes z0 z1 l)).trans ?_
    rw [pay20_apply, pay24_apply]
    exact Finset.sum_congr rfl fun q _ => by rw [dg_apply, pay4_apply, ← down_zero (fun q => x0 (ix2 q l)) q]; rfl
  · have e0 : 0 + 0 + 1 * z0.val = h.val := congrArg (fun i : S2x3x256.Idx => (i 0).val) e
    have e1 : 0 + 1 + 1 * z1.val = k.val := congrArg (fun i : S2x3x256.Idx => (i 1).val) e
    have e2 : 0 + 0 + 1 * z2.val = l.val := congrArg (fun i : S2x3x256.Idx => (i 2).val) e
    obtain rfl : h = 0 := Fin.ext (by show h.val = 0; omega)
    obtain rfl : k = 1 := Fin.ext (by show k.val = 1; omega)
    obtain rfl : l = z2 := Fin.ext (by omega)
    refine (Rect.payAlong_consLift _ _ _ _ _ _ _ (ix2 0 l) (lanes z0 z1 l)).trans ?_
    rw [pay20_apply, pay23_apply]
    exact Finset.sum_congr rfl fun q _ => by rw [dg_apply, pay6_apply]; rfl
  · have e0 : 0 + 0 + 1 * z0.val = h.val := congrArg (fun i : S2x3x256.Idx => (i 0).val) e
    have e1 : 0 + 0 + 1 * z1.val = k.val := congrArg (fun i : S2x3x256.Idx => (i 1).val) e
    have e2 : 0 + 0 + 1 * z2.val = l.val := congrArg (fun i : S2x3x256.Idx => (i 2).val) e
    obtain rfl : h = 0 := Fin.ext (by show h.val = 0; omega)
    obtain rfl : k = 0 := Fin.ext (by show k.val = 0; omega)
    obtain rfl : l = z2 := Fin.ext (by omega)
    refine (Rect.payAlong_consLift _ _ _ _ _ _ _ (ix2 0 l) (lanes z0 z1 l)).trans ?_
    rw [pay22_apply]
    exact Finset.sum_congr rfl fun q _ => by rw [dg_apply, pay5_apply]; rfl

theorem out7 (h : Fin 2) (r : Fin 2176) (l : Fin 256) :
    out5_A_7 c i arg1 harg1 arg2 harg2 arg3 harg3 arg4 harg4 arg5 harg5 arg6 harg6 arg7 harg7 arg8 harg8 arg9 harg9 arg10 harg10 x0 x1 x2 x3 x4 x5 x6 (ix3 h r l)
      = back (if h = 0 then taps x3 l else taps x4 l) (dc x0 x1 x2 x3 x4 x5 x6 h l) r := by
  frame_out
  canon_tiles z e <;> idx_vars z
  · obtain rfl : h = 1 := Fin.ext (by simpa [z0_lt] using e0)
    obtain rfl : r = z1 := Fin.ext e1
    obtain rfl : l = z2 := Fin.ext e2
    rw [pay28_apply, pay3_apply, pay29_apply, ld0, ld1, ld2, dv_apply, funext fun q => dv_apply x0 x2 x3 x5 q l]
    rfl
  · obtain rfl : h = 0 := Fin.ext (by simpa [z0_lt] using e0)
    obtain rfl : r = z1 := Fin.ext e1
    obtain rfl : l = z2 := Fin.ext e2
    rw [pay20_apply, pay26_apply, pay25_apply, pay21_apply, ld0, ld1, ld2, dg_apply,
      funext fun q => dg_apply x0 x1 x2 x3 x4 x5 x6 q l]
    rfl

end Cert.LayerBody

end
-- ==== Proof.Layer.Array.lean ====
/- The kernel's three result arrays after the run, as column functions of the argument arrays. Column L of half h of the
   convolution's input is column h * 2816 + L of the argument; a grid point t owns the columns 256 t … 256 t + 255 of both
   halves. -/
module

public import proofs.«01_k».proof.Proof.Layer.Body

@[expose] public section

noncomputable section

namespace Cert.LayerArray

open Cert.FfnKernelIdeal Cert.FfnKernelIdeal.Gen Idealize.ShloMosaic Idealize.ShloMosaic.TcCoe Idealize.SL.Sem
open Idealize.ShloMosaic.Pointwise Cert.ConvGate Cert.LayerBody
open Idealize.ShloMosaic.Pipeline (Dat)

/-- Column `L` of half `h`, among the 5632 columns. -/
def at2 (h : Fin 2) (L : Fin 2816) : Fin 5632 := ⟨h.val * 2816 + L.val, by have := h.isLt; have := L.isLt; omega⟩

section
variable (U : Vec Ideal S2176x5632 .f32) (D : Vec Ideal S2176x2816 .f32) (W : Vec Ideal S3x5632 .f32) (B : Vec Ideal S1x5632 .f32)

/-- The input's column. -/
def ucol (h : Fin 2) (L : Fin 2816) : Fin 2176 → EReal := fun q => U (ix2 q (at2 h L))
/-- The outer gradient's column. -/
def dcol (L : Fin 2816) : Fin 2176 → EReal := fun q => D (ix2 q L)
/-- The taps of a column. -/
def wcol (h : Fin 2) (L : Fin 2816) : Fin 3 → EReal := fun k => W (ix2 k (at2 h L))
/-- The bias of a column. -/
def bcol (h : Fin 2) (L : Fin 2816) : EReal := B (ix2 0 (at2 h L))

/-- The gradient at the convolution's result. -/
def DC (h : Fin 2) (L : Fin 2816) : Fin 2176 → EReal :=
  if h = 0 then dg (ucol U 0 L) (ucol U 1 L) (dcol D L) (wcol W 0 L) (wcol W 1 L) (bcol B 0 L) (bcol B 1 L)
  else dv (ucol U 0 L) (dcol D L) (wcol W 0 L) (bcol B 0 L)

/-- The gradient of the convolution's input, by halves. -/
def G7 : Vec Ideal S2x2176x2816 .bf16 := fun i => back (wcol W (i 0) (i 2)) (DC U D W B (i 0) (i 2)) (i 1)
/-- The gradient of the taps, by halves. -/
def G8 : Vec Ideal S2x3x2816 .f32 := fun i => tap (i 1) (ucol U (i 0) (i 2)) (DC U D W B (i 0) (i 2))
/-- The gradient of the bias, by halves. -/
def G9 : Vec Ideal S2x1x2816 .f32 := fun i => ∑ q, DC U D W B (i 0) (i 2) q
end

variable (V : (c : Dev nD) → (b : Ref sig .tc) → Buf (Elt Ideal) ((c : Thread nD τ).loc b)) (c : Dev nD)

theorem e0 : ∀ t : Fin cfg5.N, win5_0.index t = ![0, t.val] := (by decide +kernel : ∀ t : Fin grid5.N, win5_0.index t = ![0, t.val])
theorem e1 : ∀ t : Fin cfg5.N, win5_1.index t = ![0, 11 + t.val] := (by decide +kernel : ∀ t : Fin grid5.N, win5_1.index t = ![0, 11 + t.val])
theorem e2 : ∀ t : Fin cfg5.N, win5_2.index t = ![0, t.val] := (by decide +kernel : ∀ t : Fin grid5.N, win5_2.index t = ![0, t.val])
theorem e3 : ∀ t : Fin cfg5.N, win5_3.index t = ![0, t.val] := (by decide +kernel : ∀ t : Fin grid5.N, win5_3.index t = ![0, t.val])
theorem e4 : ∀ t : Fin cfg5.N, win5_4.index t = ![0, 11 + t.val] := (by decide +kernel : ∀ t : Fin grid5.N, win5_4.index t = ![0, 11 + t.val])
theorem e5 : ∀ t : Fin cfg5.N, win5_5.index t = ![0, t.val] := (by decide +kernel : ∀ t : Fin grid5.N, win5_5.index t = ![0, t.val])
theorem e6 : ∀ t : Fin cfg5.N, win5_6.index t = ![0, 11 + t.val] := (by decide +kernel : ∀ t : Fin grid5.N, win5_6.index t = ![0, 11 + t.val])
theorem e7 : ∀ t : Fin cfg5.N, win5_7.index t = ![0, 0, t.val] := (by decide +kernel : ∀ t : Fin grid5.N, win5_7.index t = ![0, 0, t.val])
theorem e8 : ∀ t : Fin cfg5.N, win5_8.index t = ![0, 0, t.val] := (by decide +kernel : ∀ t : Fin grid5.N, win5_8.index t = ![0, 0, t.val])
theorem e9 : ∀ t : Fin cfg5.N, win5_9.index t = ![0, 0, t.val] := (by decide +kernel : ∀ t : Fin grid5.N, win5_9.index t = ![0, 0, t.val])

/-- Lane `l` of point `t`, among the 2816 columns of a half. -/
def lane (t : Fin cfg5.N) (l : Fin 256) : Fin 2816 := ⟨t.val * 256 + l.val, by have h : t.val < 11 := t.isLt; have := l.isLt; omega⟩

theorem blk0 (t : Fin cfg5.N) (l : Fin 256) : col (iblk5 V c 0 t) l = ucol (V c main_v0) 0 (lane t l) := by
  funext q
  unfold col ucol
  blk_ext [iblk5, e0 t, at2, lane]

theorem blk1 (t : Fin cfg5.N) (l : Fin 256) : col (iblk5 V c 1 t) l = ucol (V c main_v0) 1 (lane t l) := by
  funext q
  unfold col ucol
  blk_ext [iblk5, e1 t, at2, lane]

theorem blk2 (t : Fin cfg5.N) (l : Fin 256) : col (iblk5 V c 2 t) l = dcol (V c main_v3) (lane t l) := by
  funext q
  unfold col dcol
  blk_ext [iblk5, e2 t, at2, lane]

theorem blk3 (t : Fin cfg5.N) (l : Fin 256) : taps (iblk5 V c 3 t) l = wcol (V c main_arg2) 0 (lane t l) := by
  funext q
  unfold taps wcol
  blk_ext [iblk5, e3 t, at2, lane]

theorem blk4 (t : Fin cfg5.N) (l : Fin 256) : taps (iblk5 V c 4 t) l = wcol (V c main_arg2) 1 (lane t l) := by
  funext q
  unfold taps wcol
  blk_ext [iblk5, e4 t, at2, lane]

theorem blk5 (t : Fin cfg5.N) (l : Fin 256) : iblk5 V c 5 t (ix2 0 l : S1x256.Idx) = bcol (V c main_arg3) 0 (lane t l) := by
  unfold bcol
  blk_ext [iblk5, e5 t, at2, lane]

theorem blk6 (t : Fin cfg5.N) (l : Fin 256) : iblk5 V c 6 t (ix2 0 l : S1x256.Idx) = bcol (V c main_arg3) 1 (lane t l) := by
  unfold bcol
  blk_ext [iblk5, e6 t, at2, lane]

/-- The gradient at the convolution's result, read from the blocks of point `t`. -/
theorem dc_eq (t : Fin cfg5.N) (h : Fin 2) (l : Fin 256) :
    dc (iblk5 V c 0 t) (iblk5 V c 1 t) (iblk5 V c 2 t) (iblk5 V c 3 t) (iblk5 V c 4 t) (iblk5 V c 5 t) (iblk5 V c 6 t) h l
      = DC (V c main_v0) (V c main_v3) (V c main_arg2)
          (V c main_arg3) h (lane t l) := by
  unfold dc DC
  rw [blk0, blk1, blk2, blk3, blk4, blk5, blk6]

theorem taps_eq (t : Fin cfg5.N) (h : Fin 2) (l : Fin 256) :
    (if h = 0 then taps (iblk5 V c 3 t) l else taps (iblk5 V c 4 t) l) = wcol (V c main_arg2) h (lane t l) := by
  rw [blk3, blk4]
  match h with
  | 0 => rfl
  | 1 => rfl

theorem col_eq (t : Fin cfg5.N) (h : Fin 2) (l : Fin 256) :
    (if h = 0 then col (iblk5 V c 0 t) l else col (iblk5 V c 1 t) l) = ucol (V c main_v0) h (lane t l) := by
  rw [blk0, blk1]
  match h with
  | 0 => rfl
  | 1 => rfl

theorem at7 (t : Fin cfg5.N) (h : Fin 2) (r : Fin 2176) (l : Fin 256) :
    (outsAt5 V c t).1 (ix3 h r l : S2x2176x256.Idx)
      = back (wcol (V c main_arg2) h (lane t l)) (DC (V c main_v0) (V c main_v3)
          (V c main_arg2) (V c main_arg3) h (lane t l)) r := by
  simp only [outsAt5]
  rw [out7, dc_eq, taps_eq]

theorem at8 (t : Fin cfg5.N) (h : Fin 2) (k : Fin 3) (l : Fin 256) :
    (outsAt5 V c t).2.1 (ix3 h k l : S2x3x256.Idx)
      = tap k (ucol (V c main_v0) h (lane t l)) (DC (V c main_v0) (V c main_v3)
          (V c main_arg2) (V c main_arg3) h (lane t l)) := by
  simp only [outsAt5]
  rw [out8, dc_eq, col_eq]

theorem at9 (t : Fin cfg5.N) (h : Fin 2) (o : Fin 1) (l : Fin 256) :
    (outsAt5 V c t).2.2 (ix3 h o l : S2x1x256.Idx)
      = ∑ q, DC (V c main_v0) (V c main_v3)
          (V c main_arg2) (V c main_arg3) h (lane t l) q := by
  simp only [outsAt5]
  rw [out9, dc_eq]

/-- The gradient of the input, after the run. -/
theorem final7 : (dat5 V c).arrAt 7 cfg5.N
    = G7 (V c main_v0) (V c main_v3) (V c main_arg2) (V c main_arg3) := by
  refine (dat5 V c).arrAt_eq_of_covers 7 _ (by decide +kernel) fun t hf y => ?_
  blk_simp
  rw [after5_7]
  obtain ⟨h, r, l, rfl⟩ : ∃ (h : Fin 2) (r : Fin 2176) (l : Fin 256), y = ix3 h r l := ⟨y 0, y 1, y 2, by funext a; fin_cases a <;> rfl⟩
  rw [at7]
  have hi : (win5_7.blk t).view.emb (ix3 h r l : S2x2176x256.Idx) = (ix3 h r (lane t l) : S2x2176x2816.Idx) := by
    blk_point [e7 t, lane]
  rw [hi]
  rfl

/-- The gradient of the taps, after the run. -/
theorem final8 : (dat5 V c).arrAt 8 cfg5.N
    = G8 (V c main_v0) (V c main_v3) (V c main_arg2) (V c main_arg3) := by
  refine (dat5 V c).arrAt_eq_of_covers 8 _ (by decide +kernel) fun t hf y => ?_
  blk_simp
  rw [after5_8]
  obtain ⟨h, r, l, rfl⟩ : ∃ (h : Fin 2) (r : Fin 3) (l : Fin 256), y = ix3 h r l := ⟨y 0, y 1, y 2, by funext a; fin_cases a <;> rfl⟩
  rw [at8]
  have hi : (win5_8.blk t).view.emb (ix3 h r l : S2x3x256.Idx) = (ix3 h r (lane t l) : S2x3x2816.Idx) := by
    blk_point [e8 t, lane]
  rw [hi]
  rfl

/-- The gradient of the bias, after the run. -/
theorem final9 : (dat5 V c).arrAt 9 cfg5.N
    = G9 (V c main_v0) (V c main_v3) (V c main_arg2) (V c main_arg3) := by
  refine (dat5 V c).arrAt_eq_of_covers 9 _ (by decide +kernel) fun t hf y => ?_
  blk_simp
  rw [after5_9]
  obtain ⟨h, r, l, rfl⟩ : ∃ (h : Fin 2) (r : Fin 1) (l : Fin 256), y = ix3 h r l := ⟨y 0, y 1, y 2, by funext a; fin_cases a <;> rfl⟩
  rw [at9]
  have hi : (win5_9.blk t).view.emb (ix3 h r l : S2x1x256.Idx) = (ix3 h r (lane t l) : S2x1x2816.Idx) := by
    blk_point [e9 t, lane]
  rw [hi]
  rfl

end Cert.LayerArray

end
-- ==== Proof.Layer.Act.lean ====
/- The forward gated convolution: what one grid point leaves in its block, and the whole array. A result's column L is
   the gate's convolution times its logistic times the value's convolution, over the two halves' columns L. -/
module

public import proofs.«01_k».proof.Proof.Layer.Array

@[expose] public section

noncomputable section

namespace Cert.LayerAct

open Cert.FfnKernelIdeal Cert.FfnKernelIdeal.Gen Idealize.ShloMosaic Idealize.ShloMosaic.TcCoe Idealize.SL.Sem
open Idealize.ShloMosaic.Pointwise Cert.ConvGate Cert.LayerBody Cert.LayerArray
open Idealize.ShloMosaic.Pipeline (Dat)

/-- The gated value: the gate times its logistic times the value. -/
def gated (g v : EReal) : EReal := g * Ideal.logistic g * v

theorem gate_eq (x : Vec Ideal S2176x256 .f32) (w0 w1 w2 b : Vec Ideal S1x256 .f32) (r : Fin 2176) (l : Fin 256) :
    k1_pay2 x w0 w1 w2 b (ix2 r l)
      = w0 (ix2 0 l) * down 2 (col x l) r + w1 (ix2 0 l) * down 1 (col x l) r + w2 (ix2 0 l) * col x l r + b (ix2 0 l) := by
  rw [show k1_pay2 x w0 w1 w2 b = k5_pay12 (k5_pay4 x) (k5_pay5 x) (k5_pay6 x) k5_pay10 (k5_pay11 w0) w1 w2 b from rfl,
    pay12_apply, pay10_apply, pay11_apply, pay5_apply, pay6_apply, pay4_apply, zero_add]

theorem value_eq (x : Vec Ideal S2176x256 .f32) (w0 w1 w2 b : Vec Ideal S1x256 .f32) (r : Fin 2176) (l : Fin 256) :
    k1_pay3 (iota .tc S2176x1 32 [0] iota_S2176x1_d0_w32) x w0 w1 w2 b (ix2 r l)
      = w0 (ix2 0 l) * down 2 (col x l) r + w1 (ix2 0 l) * down 1 (col x l) r + w2 (ix2 0 l) * col x l r + b (ix2 0 l) := by
  rw [show k1_pay3 (iota .tc S2176x1 32 [0] iota_S2176x1_d0_w32) x w0 w1 w2 b
      = k5_pay13 (k5_pay7 x) (k5_pay8 x) (k5_pay9 x) w0 w1 w2 b from rfl, pay13_apply, pay8_apply, pay9_apply, pay7_apply]

theorem half_eq (g : FVec Ideal S2176x256 .f32) (r : Fin 2176) (l : Fin 256) :
    k1_pay4 g (ix2 r l) = Ideal.tanh (((1 / 2 : ℝ) : EReal) * g (ix2 r l)) := by
  pointwise [k1_pay4, half_bits]

theorem prod_eq (g v t : FVec Ideal S2176x256 .f32) (r : Fin 2176) (l : Fin 256) :
    k1_pay1 g v t (ix2 r l)
      = g (ix2 r l) * (((1 / 2 : ℝ) : EReal) * t (ix2 r l) + ((1 / 2 : ℝ) : EReal)) * v (ix2 r l) := by
  pointwise [k1_pay1, half_bits]

theorem ld_self (x : Vec Ideal S2176x256 .f32) (l : Fin 256) : col (View.ld x r1_0) l = col x l := by
  funext q
  unfold col
  pointwise

theorem ld_bias (x : Vec Ideal S1x256 .f32) (l : Fin 256) : View.ld x r1_4 (ix2 0 l) = x (ix2 0 l) := by
  pointwise

theorem block1 (x0 x1 : Vec Ideal S2176x256 .f32) (x2 x3 : Vec Ideal S3x256 .f32) (x4 x5 : Vec Ideal S1x256 .f32)
    (r : Fin 2176) (l : Fin 256) :
    out1_6 x0 x1 x2 x3 x4 x5 (ix2 r l : S2176x256.Idx)
      = gated (conv (taps x2 l) (x4 (ix2 0 l)) (col x0 l) r) (conv (taps x3 l) (x5 (ix2 0 l)) (col x1 l) r) := by
  frame_out
  rw [prod_eq, half_eq, value_eq]
  rw [logistic_eq_tanh]
  unfold k1_pay5
  rw [gate_eq, ld_self, ld_bias, ld0, ld1, ld2, ld0, ld1, ld2]
  rfl

/-- The forward result as one function of the arrays. -/
def G1 (U : Vec Ideal S2176x5632 .f32) (W : Vec Ideal S3x5632 .f32) (B : Vec Ideal S1x5632 .f32) : Vec Ideal S2176x2816 .bf16 :=
  fun i => gated (conv (wcol W 0 (i 1)) (bcol B 0 (i 1)) (ucol U 0 (i 1)) (i 0)) (conv (wcol W 1 (i 1)) (bcol B 1 (i 1)) (ucol U 1 (i 1)) (i 0))

variable (V : (c : Dev nD) → (b : Ref sig .tc) → Buf (Elt Ideal) ((c : Thread nD τ).loc b)) (c : Dev nD)

theorem f0 : ∀ t : Fin cfg1.N, win1_0.index t = ![0, t.val] := (by decide +kernel : ∀ t : Fin grid1.N, win1_0.index t = ![0, t.val])
theorem f1 : ∀ t : Fin cfg1.N, win1_1.index t = ![0, 11 + t.val] := (by decide +kernel : ∀ t : Fin grid1.N, win1_1.index t = ![0, 11 + t.val])
theorem f2 : ∀ t : Fin cfg1.N, win1_2.index t = ![0, t.val] := (by decide +kernel : ∀ t : Fin grid1.N, win1_2.index t = ![0, t.val])
theorem f3 : ∀ t : Fin cfg1.N, win1_3.index t = ![0, 11 + t.val] := (by decide +kernel : ∀ t : Fin grid1.N, win1_3.index t = ![0, 11 + t.val])
theorem f4 : ∀ t : Fin cfg1.N, win1_4.index t = ![0, t.val] := (by decide +kernel : ∀ t : Fin grid1.N, win1_4.index t = ![0, t.val])
theorem f5 : ∀ t : Fin cfg1.N, win1_5.index t = ![0, 11 + t.val] := (by decide +kernel : ∀ t : Fin grid1.N, win1_5.index t = ![0, 11 + t.val])
theorem f6 : ∀ t : Fin cfg1.N, win1_6.index t = ![0, t.val] := (by decide +kernel : ∀ t : Fin grid1.N, win1_6.index t = ![0, t.val])

theorem array1 : (dat1 V c).arrAt 6 cfg1.N = G1 (V c main_v0) (V c main_arg2) (V c main_arg3) := by
  refine (dat1 V c).arrAt_eq_of_covers 6 _ (by decide +kernel) fun t hf y => ?_
  blk_simp
  rw [after1_6]
  obtain ⟨r, l, rfl⟩ : ∃ (r : Fin 2176) (l : Fin 256), y = ix2 r l := ⟨y 0, y 1, by funext a; fin_cases a <;> rfl⟩
  rw [block1]
  have hi : (win1_6.blk t).view.emb (ix2 r l : S2176x256.Idx) = (ix2 r (lane t l) : S2176x2816.Idx) := by
    blk_point [f6 t, lane]
  rw [hi]
  have b0 : col (iblk1 V c 0 t) l = ucol (V c main_v0) 0 (lane t l) := by
    funext q; unfold col ucol; blk_ext [iblk1, f0 t, at2, lane]
  have b1 : col (iblk1 V c 1 t) l = ucol (V c main_v0) 1 (lane t l) := by
    funext q; unfold col ucol; blk_ext [iblk1, f1 t, at2, lane]
  have b2 : taps (iblk1 V c 2 t) l = wcol (V c main_arg2) 0 (lane t l) := by
    funext q; unfold taps wcol; blk_ext [iblk1, f2 t, at2, lane]
  have b3 : taps (iblk1 V c 3 t) l = wcol (V c main_arg2) 1 (lane t l) := by
    funext q; unfold taps wcol; blk_ext [iblk1, f3 t, at2, lane]
  have b4 : iblk1 V c 4 t (ix2 0 l : S1x256.Idx) = bcol (V c main_arg3) 0 (lane t l) := by
    unfold bcol; blk_ext [iblk1, f4 t, at2, lane]
  have b5 : iblk1 V c 5 t (ix2 0 l : S1x256.Idx) = bcol (V c main_arg3) 1 (lane t l) := by
    unfold bcol; blk_ext [iblk1, f5 t, at2, lane]
  rw [b0, b1, b2, b3, b4, b5]
  rfl

end Cert.LayerAct

end
-- ==== Proof.Layer.Fold.lean ====
/- The layer's run followed call by call: each result as one function of the six arguments. A call's array is read at the
   boundary after it, and no later call writes it. -/
module

public import proofs.«01_k».proof.Proof.Layer.Run
public import proofs.«01_k».proof.Proof.Layer.Products
public import proofs.«01_k».proof.Proof.Layer.Act

@[expose] public section

noncomputable section

namespace Cert.LayerFold

open Cert.FfnKernelIdeal Cert.FfnKernelIdeal.Gen Idealize.ShloMosaic Idealize.ShloMosaic.TcCoe Idealize.SL.Sem
open Cert.LayerProducts Cert.LayerArray Cert.LayerAct

section
variable (A0 : Vec Ideal S2176x1024 .bf16) (A1 : Vec Ideal S1024x5632 .bf16) (A2 : Vec Ideal S3x5632 .f32) (A3 : Vec Ideal S1x5632 .f32)
  (A4 : Vec Ideal S2816x1024 .bf16) (A5 : Vec Ideal S2176x1024 .bf16)

/-- The convolution's input. -/
def u : Vec Ideal S2176x5632 .f32 := P0 A0 A1
/-- The gated value. -/
def act : Vec Ideal S2176x2816 .bf16 := G1 (u A0 A1) A2 A3
/-- The layer's result. -/
def y : Vec Ideal S2176x1024 .f32 := P2 (act A0 A1 A2 A3) A4
/-- The gradient at the gated value. -/
def da : Vec Ideal S2176x2816 .f32 := P3 A5 A4
/-- The gradient of the second weight. -/
def dwd : Vec Ideal S2816x1024 .bf16 := P4 (act A0 A1 A2 A3) A5
/-- The gradients of the convolution's input, taps and bias, by halves. -/
def du : Vec Ideal S2x2176x2816 .bf16 := G7 (u A0 A1) (da A4 A5) A2 A3
def dcw : Vec Ideal S2x3x2816 .f32 := G8 (u A0 A1) (da A4 A5) A2 A3
def dcb : Vec Ideal S2x1x2816 .f32 := G9 (u A0 A1) (da A4 A5) A2 A3
/-- The gradient of the layer's input. -/
def dfn : Vec Ideal S2176x1024 .f32 := P6 (du A0 A1 A2 A3 A4 A5) A1
/-- The gradient of the first weight. -/
def dwu : Vec Ideal S8x1024x704 .bf16 := P7 A0 (du A0 A1 A2 A3 A4 A5)
end

variable (m : (ℓ : Loc nD τ sig) → Buf (Elt Ideal) ℓ) (ρ : Dev nD → PrngReg) (c : Dev nD)

theorem arg0_at0 : V0 m ρ c main_arg0 = m ((c : Thread nD τ).loc main_arg0) := W0_args m ρ c main_arg0 (by decide)
theorem arg1_at0 : V0 m ρ c main_arg1 = m ((c : Thread nD τ).loc main_arg1) := W0_args m ρ c main_arg1 (by decide)
theorem arg2_at1 : V1 m ρ c main_arg2 = m ((c : Thread nD τ).loc main_arg2) := W1_args m ρ c main_arg2 (by decide)
theorem arg3_at1 : V1 m ρ c main_arg3 = m ((c : Thread nD τ).loc main_arg3) := W1_args m ρ c main_arg3 (by decide)
theorem arg4_at2 : V2 m ρ c main_arg4 = m ((c : Thread nD τ).loc main_arg4) := W2_args m ρ c main_arg4 (by decide)
theorem arg4_at3 : V3 m ρ c main_arg4 = m ((c : Thread nD τ).loc main_arg4) := W3_args m ρ c main_arg4 (by decide)
theorem arg5_at3 : V3 m ρ c main_arg5 = m ((c : Thread nD τ).loc main_arg5) := W3_args m ρ c main_arg5 (by decide)
theorem arg5_at4 : V4 m ρ c main_arg5 = m ((c : Thread nD τ).loc main_arg5) := W4_args m ρ c main_arg5 (by decide)
theorem arg2_at5 : V5 m ρ c main_arg2 = m ((c : Thread nD τ).loc main_arg2) := W5_args m ρ c main_arg2 (by decide)
theorem arg3_at5 : V5 m ρ c main_arg3 = m ((c : Thread nD τ).loc main_arg3) := W5_args m ρ c main_arg3 (by decide)
theorem arg1_at6 : V6 m ρ c main_arg1 = m ((c : Thread nD τ).loc main_arg1) := W6_args m ρ c main_arg1 (by decide)
theorem arg0_at7 : V7 m ρ c main_arg0 = m ((c : Thread nD τ).loc main_arg0) := W7_args m ρ c main_arg0 (by decide)

theorem v0_at1 : V1 m ρ c main_v0 = u (m ((c : Thread nD τ).loc main_arg0)) (m ((c : Thread nD τ).loc main_arg1)) := by
  refine (W1_arr m ρ c 2).trans ((LayerProducts.array0 (V0 m ρ) c).trans ?_)
  rw [arg0_at0 m ρ c, arg1_at0 m ρ c]
  rfl

theorem v1_at2 : V2 m ρ c main_v1 = act (m ((c : Thread nD τ).loc main_arg0)) (m ((c : Thread nD τ).loc main_arg1)) (m ((c : Thread nD τ).loc main_arg2)) (m ((c : Thread nD τ).loc main_arg3)) := by
  refine (W2_arr m ρ c 6).trans ((LayerAct.array1 (V1 m ρ) c).trans ?_)
  rw [v0_at1 m ρ c, arg2_at1 m ρ c, arg3_at1 m ρ c]
  rfl
theorem v0_at2 : V2 m ρ c main_v0 = u (m ((c : Thread nD τ).loc main_arg0)) (m ((c : Thread nD τ).loc main_arg1)) := (W2_of m ρ c main_v0 (by decide)).trans (v0_at1 m ρ c)

theorem v2_at3 : V3 m ρ c main_v2 = y (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 2).trans ((LayerProducts.array2 (V2 m ρ) c).trans ?_)
  rw [v1_at2 m ρ c, arg4_at2 m ρ c]
  rfl
theorem v0_at3 : V3 m ρ c main_v0 = u (m ((c : Thread nD τ).loc main_arg0)) (m ((c : Thread nD τ).loc main_arg1)) := (W3_of m ρ c main_v0 (by decide)).trans (v0_at2 m ρ c)
theorem v1_at3 : V3 m ρ c main_v1 = act (m ((c : Thread nD τ).loc main_arg0)) (m ((c : Thread nD τ).loc main_arg1)) (m ((c : Thread nD τ).loc main_arg2)) (m ((c : Thread nD τ).loc main_arg3)) := (W3_of m ρ c main_v1 (by decide)).trans (v1_at2 m ρ c)

theorem v3_at4 : V4 m ρ c main_v3 = da (m ((c : Thread nD τ).loc main_arg4)) (m ((c : Thread nD τ).loc main_arg5)) := by
  refine (W4_arr m ρ c 2).trans ((LayerProducts.array3 (V3 m ρ) c).trans ?_)
  rw [arg5_at3 m ρ c, arg4_at3 m ρ c]
  rfl
theorem v0_at4 : V4 m ρ c main_v0 = u (m ((c : Thread nD τ).loc main_arg0)) (m ((c : Thread nD τ).loc main_arg1)) := (W4_of m ρ c main_v0 (by decide)).trans (v0_at3 m ρ c)
theorem v1_at4 : V4 m ρ c main_v1 = act (m ((c : Thread nD τ).loc main_arg0)) (m ((c : Thread nD τ).loc main_arg1)) (m ((c : Thread nD τ).loc main_arg2)) (m ((c : Thread nD τ).loc main_arg3)) := (W4_of m ρ c main_v1 (by decide)).trans (v1_at3 m ρ c)
theorem v2_at4 : V4 m ρ c main_v2 = y (m ((c : Thread nD τ).loc main_arg0)) (m ((c : Thread nD τ).loc main_arg1)) (m ((c : Thread nD τ).loc main_arg2)) (m ((c : Thread nD τ).loc main_arg3)) (m ((c : Thread nD τ).loc main_arg4)) := (W4_of m ρ c main_v2 (by decide)).trans (v2_at3 m ρ c)

theorem v4_at5 : V5 m ρ c main_v4 = dwd (m ((c : Thread nD τ).loc main_arg0)) (m ((c : Thread nD τ).loc main_arg1)) (m ((c : Thread nD τ).loc main_arg2)) (m ((c : Thread nD τ).loc main_arg3)) (m ((c : Thread nD τ).loc main_arg5)) := by
  refine (W5_arr m ρ c 2).trans ((LayerProducts.array4 (V4 m ρ) c).trans ?_)
  rw [v1_at4 m ρ c, arg5_at4 m ρ c]
  rfl
theorem v0_at5 : V5 m ρ c main_v0 = u (m ((c : Thread nD τ).loc main_arg0)) (m ((c : Thread nD τ).loc main_arg1)) := (W5_of m ρ c main_v0 (by decide)).trans (v0_at4 m ρ c)
theorem v2_at5 : V5 m ρ c main_v2 = y (m ((c : Thread nD τ).loc main_arg0)) (m ((c : Thread nD τ).loc main_arg1)) (m ((c : Thread nD τ).loc main_arg2)) (m ((c : Thread nD τ).loc main_arg3)) (m ((c : Thread nD τ).loc main_arg4)) := (W5_of m ρ c main_v2 (by decide)).trans (v2_at4 m ρ c)
theorem v3_at5 : V5 m ρ c main_v3 = da (m ((c : Thread nD τ).loc main_arg4)) (m ((c : Thread nD τ).loc main_arg5)) := (W5_of m ρ c main_v3 (by decide)).trans (v3_at4 m ρ c)

theorem v5_0_at6 : V6 m ρ c main_v5_0 = du (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 7).trans ((LayerArray.final7 (V5 m ρ) c).trans ?_)
  rw [v0_at5 m ρ c, v3_at5 m ρ c, arg2_at5 m ρ c, arg3_at5 m ρ c]
  rfl

theorem v5_1_at6 : V6 m ρ c main_v5_1 = dcw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 8).trans ((LayerArray.final8 (V5 m ρ) c).trans ?_)
  rw [v0_at5 m ρ c, v3_at5 m ρ c, arg2_at5 m ρ c, arg3_at5 m ρ c]
  rfl

theorem v5_2_at6 : V6 m ρ c main_v5_2 = dcb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 9).trans ((LayerArray.final9 (V5 m ρ) c).trans ?_)
  rw [v0_at5 m ρ c, v3_at5 m ρ c, arg2_at5 m ρ c, arg3_at5 m ρ c]
  rfl
theorem v2_at6 : V6 m ρ c main_v2 = y (m ((c : Thread nD τ).loc main_arg0)) (m ((c : Thread nD τ).loc main_arg1)) (m ((c : Thread nD τ).loc main_arg2)) (m ((c : Thread nD τ).loc main_arg3)) (m ((c : Thread nD τ).loc main_arg4)) := (W6_of m ρ c main_v2 (by decide)).trans (v2_at5 m ρ c)
theorem v4_at6 : V6 m ρ c main_v4 = dwd (m ((c : Thread nD τ).loc main_arg0)) (m ((c : Thread nD τ).loc main_arg1)) (m ((c : Thread nD τ).loc main_arg2)) (m ((c : Thread nD τ).loc main_arg3)) (m ((c : Thread nD τ).loc main_arg5)) := (W6_of m ρ c main_v4 (by decide)).trans (v4_at5 m ρ c)

theorem v6_at7 : V7 m ρ c main_v6 = dfn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((LayerProducts.array6 (V6 m ρ) c).trans ?_)
  rw [v5_0_at6 m ρ c, arg1_at6 m ρ c]
  rfl
theorem v2_at7 : V7 m ρ c main_v2 = y (m ((c : Thread nD τ).loc main_arg0)) (m ((c : Thread nD τ).loc main_arg1)) (m ((c : Thread nD τ).loc main_arg2)) (m ((c : Thread nD τ).loc main_arg3)) (m ((c : Thread nD τ).loc main_arg4)) := (W7_of m ρ c main_v2 (by decide)).trans (v2_at6 m ρ c)
theorem v4_at7 : V7 m ρ c main_v4 = dwd (m ((c : Thread nD τ).loc main_arg0)) (m ((c : Thread nD τ).loc main_arg1)) (m ((c : Thread nD τ).loc main_arg2)) (m ((c : Thread nD τ).loc main_arg3)) (m ((c : Thread nD τ).loc main_arg5)) := (W7_of m ρ c main_v4 (by decide)).trans (v4_at6 m ρ c)
theorem v5_0_at7 : V7 m ρ c main_v5_0 = du (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W7_of m ρ c main_v5_0 (by decide)).trans (v5_0_at6 m ρ c)
theorem v5_1_at7 : V7 m ρ c main_v5_1 = dcw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W7_of m ρ c main_v5_1 (by decide)).trans (v5_1_at6 m ρ c)
theorem v5_2_at7 : V7 m ρ c main_v5_2 = dcb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W7_of m ρ c main_v5_2 (by decide)).trans (v5_2_at6 m ρ c)

theorem v7_at8 : V8 m ρ c main_v7 = dwu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((LayerProducts.array7 (V7 m ρ) c).trans ?_)
  rw [arg0_at7 m ρ c, v5_0_at7 m ρ c]
  rfl
theorem v2_at8 : V8 m ρ c main_v2 = y (m ((c : Thread nD τ).loc main_arg0)) (m ((c : Thread nD τ).loc main_arg1)) (m ((c : Thread nD τ).loc main_arg2)) (m ((c : Thread nD τ).loc main_arg3)) (m ((c : Thread nD τ).loc main_arg4)) := (W8_of m ρ c main_v2 (by decide)).trans (v2_at7 m ρ c)
theorem v4_at8 : V8 m ρ c main_v4 = dwd (m ((c : Thread nD τ).loc main_arg0)) (m ((c : Thread nD τ).loc main_arg1)) (m ((c : Thread nD τ).loc main_arg2)) (m ((c : Thread nD τ).loc main_arg3)) (m ((c : Thread nD τ).loc main_arg5)) := (W8_of m ρ c main_v4 (by decide)).trans (v4_at7 m ρ c)
theorem v5_1_at8 : V8 m ρ c main_v5_1 = dcw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W8_of m ρ c main_v5_1 (by decide)).trans (v5_1_at7 m ρ c)
theorem v5_2_at8 : V8 m ρ c main_v5_2 = dcb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W8_of m ρ c main_v5_2 (by decide)).trans (v5_2_at7 m ρ c)
theorem v6_at8 : V8 m ρ c main_v6 = dfn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W8_of m ρ c main_v6 (by decide)).trans (v6_at7 m ρ c)

end Cert.LayerFold

end
-- ==== Proof.Layer.Ref.lean ====
/- What the layer's reference computes: the same column functions over the product that enters the convolution and the
   product that is the gradient at its result, and the products around them. Every result is read at an index. -/
module

public import proofs.«01_k».proof.Proof.Gen.FfnReferenceIdeal.Read
public import proofs.«01_k».proof.Proof.Ffn.Ref

@[expose] public section

noncomputable section

namespace Cert.LayerRef

open Cert.FfnReferenceIdeal Cert.FfnReferenceIdeal.Gen Cert.FfnReferenceIdeal.Read Idealize.ShloMosaic Idealize.ShloMosaic.TcCoe Idealize.SL.Sem
open Idealize.ShloMosaic.StableHlo Idealize.ShloMosaic.Pointwise Cert.ConvGate
open Cert.FfnRef (uc wc cc lo hi gateGrad valGrad Y half Y_half)

variable (X0 : (⟨S2176x1024, .bf16⟩ : BufTy).Contents (Elt Ideal)) (X1 : (⟨S1024x5632, .bf16⟩ : BufTy).Contents (Elt Ideal))
  (W : (⟨S3x5632, .f32⟩ : BufTy).Contents (Elt Ideal)) (B : (⟨S1x5632, .f32⟩ : BufTy).Contents (Elt Ideal))
  (X4 : (⟨S2816x1024, .bf16⟩ : BufTy).Contents (Elt Ideal)) (X5 : (⟨S2176x1024, .bf16⟩ : BufTy).Contents (Elt Ideal))

/-- The convolution's input. -/
abbrev U : (⟨S2176x5632, .f32⟩ : BufTy).Contents (Elt Ideal) := val_main_v3 (F := Ideal) X0 X1
/-- The gradient at the gated value. -/
abbrev D : (⟨S2176x2816, .f32⟩ : BufTy).Contents (Elt Ideal) := val_main_v39 (F := Ideal) X4 X5

theorem U_at (q : Fin 2176) (J : Fin 5632) : val_main_v3 (F := Ideal) X0 X1 (ix2 q J) = ∑ k : Fin 1024, X0 (ix2 q k) * X1 (ix2 k J) := by
  unfold val_main_v3 val_main_v0 val_main_v1
  pointwise

theorem D_at (q : Fin 2176) (L : Fin 2816) : val_main_v39 (F := Ideal) X4 X5 (ix2 q L) = ∑ k : Fin 1024, X5 (ix2 q k) * X4 (ix2 L k) := by
  unfold val_main_v39 val_main_v36 val_main_v2
  pointwise

theorem padded (p : Fin 2178) (J : Fin 5632) :
    val_main_v5 (F := Ideal) X0 X1 (ix2 p J) = if h : p.val < 2 then 0 else (U X0 X1) (ix2 ⟨p.val - 2, by omega⟩ J) := by
  unfold val_main_v5
  pointwise [val_main_v4, val_main_cst]

theorem row0 (q : Fin 2176) (J : Fin 5632) : val_main_v7 (F := Ideal) X0 X1 (ix2 q J) = down 2 (uc (U X0 X1) J) q := by
  unfold val_main_v7
  pointwise [padded]
  unfold down uc
  by_cases h : q.val < 2
  · rw [dif_pos h, if_neg (by omega)]
  · rw [dif_neg h, if_pos (by omega)]

theorem row1 (q : Fin 2176) (J : Fin 5632) : val_main_v15 (F := Ideal) X0 X1 (ix2 q J) = down 1 (uc (U X0 X1) J) q := by
  unfold val_main_v15
  pointwise [padded]
  unfold down uc
  by_cases h : 1 + q.val < 2
  · rw [dif_pos h, if_neg (by omega)]
  · rw [dif_neg h, if_pos (by omega)]
    congr 2; apply Fin.ext; show 1 + q.val - 2 = q.val - 1; omega

theorem row2 (q : Fin 2176) (J : Fin 5632) : val_main_v22 (F := Ideal) X0 X1 (ix2 q J) = uc (U X0 X1) J q := by
  unfold val_main_v22
  pointwise [padded]
  rfl

theorem tap0 (q : Fin 1) (J : Fin 5632) : val_main_v10 (F := Ideal) W (ix2 q J) = wc W J 0 := by
  unfold val_main_v10 val_main_v9 val_main_v8
  pointwise
  rfl

theorem tap1 (q : Fin 1) (J : Fin 5632) : val_main_v18 (F := Ideal) W (ix2 q J) = wc W J 1 := by
  unfold val_main_v18 val_main_v17 val_main_v16
  pointwise
  rfl

theorem tap2 (q : Fin 1) (J : Fin 5632) : val_main_v25 (F := Ideal) W (ix2 q J) = wc W J 2 := by
  unfold val_main_v25 val_main_v24 val_main_v23
  pointwise
  rfl

theorem convolved (q : Fin 2176) (J : Fin 5632) : val_main_v30 (F := Ideal) X0 X1 W B (ix2 q J) = cc (U X0 X1) W B J q := by
  unfold val_main_v30 val_main_v29 val_main_v28 val_main_v27 val_main_v26 val_main_v21 val_main_v20 val_main_v19 val_main_v14 val_main_v12 val_main_v11
    val_main_v13 val_main_cst_1
  pointwise [tap0, tap1, tap2, row0, row1, row2]
  unfold cc conv
  rw [mul_comm (down 2 _ _), mul_comm (down 1 _ _), mul_comm (uc (U X0 X1) J q)]
  try simp only [zero_add]

theorem gate (q : Fin 2176) (L : Fin 2816) : val_main_v31 (F := Ideal) X0 X1 W B (ix2 q L) = cc (U X0 X1) W B (lo L) q := by
  unfold val_main_v31
  pointwise [convolved]
  rfl

theorem value (q : Fin 2176) (L : Fin 2816) : val_main_v32 (F := Ideal) X0 X1 W B (ix2 q L) = cc (U X0 X1) W B (hi L) q := by
  unfold val_main_v32
  pointwise [convolved]
  rfl

theorem sig (q : Fin 2176) (L : Fin 2816) : val_main_v33_2 (F := Ideal) X0 X1 W B (ix2 q L) = Ideal.logistic (cc (U X0 X1) W B (lo L) q) := by
  unfold val_main_v33_2 val_main_call0_v4 val_main_call0_cst_0 val_main_call0_v3 val_main_call0_v2 val_main_call0_cst val_main_call0_v1 val_main_call0_v0
  pointwise [gate]
  try rfl

theorem dsig (q : Fin 2176) (L : Fin 2816) : val_main_v33_1 (F := Ideal) X0 X1 W B (ix2 q L)
    = Ideal.logistic (cc (U X0 X1) W B (lo L) q) * (1 - Ideal.logistic (cc (U X0 X1) W B (lo L) q)) := by
  unfold val_main_v33_1 val_main_call0_v7 val_main_call0_v6 val_main_call0_cst_1
  pointwise [sig]

theorem valPart (q : Fin 2176) (L : Fin 2816) : val_main_v40 (F := Ideal) X0 X1 W B X4 X5 (ix2 q L) = valGrad (U X0 X1) (D X4 X5) W B L q := by
  unfold val_main_v40 val_main_v33_0
  pointwise [sig, gate]
  unfold valGrad dval
  rw [mul_comm, mul_assoc]

theorem gatePart (q : Fin 2176) (L : Fin 2816) : val_main_v42 (F := Ideal) X0 X1 W B X4 X5 (ix2 q L) = gateGrad (U X0 X1) (D X4 X5) W B L q := by
  unfold val_main_v42 val_main_call1_v2 val_main_call1_v1 val_main_call1_v0 val_main_v41
  pointwise [sig, gate, dsig, value]
  rfl

theorem grad (q : Fin 2176) (J : Fin 5632) : val_main_v45 (F := Ideal) X0 X1 W B X4 X5 (ix2 q J) = Y (U X0 X1) (D X4 X5) W B J q := by
  unfold val_main_v45 val_main_v44 val_main_v43 val_main_cst_2 val_main_cst_3
  pointwise [valPart, gatePart]
  unfold Y
  have hJ := J.isLt
  by_cases h : J.val < 2816
  · rw [dif_pos h, dif_pos h, dif_neg (by omega)]
    simp only [zero_add]
  · rw [dif_neg h, dif_neg h, dif_pos (by omega)]
    simp only [add_zero]

theorem biasGrad (o : Fin 1) (J : Fin 5632) : val_main_v47 (F := Ideal) X0 X1 W B X4 X5 (ix2 o J) = ∑ q, Y (U X0 X1) (D X4 X5) W B J q := by
  unfold val_main_v47 val_main_v46 val_main_cst_4
  pointwise [grad]
  try simp only [zero_add]

theorem tapGrad2 (o : Fin 1) (J : Fin 5632) : val_main_v54 (F := Ideal) X0 X1 W B X4 X5 (ix2 o J) = ∑ q, Y (U X0 X1) (D X4 X5) W B J q * down 0 (uc (U X0 X1) J) q := by
  unfold val_main_v54 val_main_v53 val_main_v50 val_main_v49 val_main_v48 val_main_cst_5 val_main_cst_6
  pointwise [grad, row2]
  simp only [zero_add, down_zero, mul_comm, Finset.univ_unique, Finset.sum_singleton]

theorem tapGrad1 (o : Fin 1) (J : Fin 5632) : val_main_v63 (F := Ideal) X0 X1 W B X4 X5 (ix2 o J) = ∑ q, Y (U X0 X1) (D X4 X5) W B J q * down 1 (uc (U X0 X1) J) q := by
  unfold val_main_v63 val_main_v62 val_main_v59 val_main_v58 val_main_v57 val_main_cst_9 val_main_cst_10
  pointwise [grad, row1]
  simp only [zero_add, mul_comm, Finset.univ_unique, Finset.sum_singleton]

theorem tapGrad0 (o : Fin 1) (J : Fin 5632) : val_main_v74 (F := Ideal) X0 X1 W B X4 X5 (ix2 o J) = ∑ q, Y (U X0 X1) (D X4 X5) W B J q * down 2 (uc (U X0 X1) J) q := by
  unfold val_main_v74 val_main_v73 val_main_v70 val_main_v69 val_main_v68 val_main_cst_13 val_main_cst_14
  pointwise [grad, row0]
  simp only [zero_add, mul_comm, Finset.univ_unique, Finset.sum_singleton]

theorem tapGrad (k : Fin 3) (J : Fin 5632) : val_main_v76 (F := Ideal) X0 X1 W B X4 X5 (ix2 k J) = tap k (uc (U X0 X1) J) (Y (U X0 X1) (D X4 X5) W B J) := by
  unfold val_main_v76 val_main_v75 val_main_v65 val_main_v64 val_main_v55 val_main_cst_7 val_main_cst_11 val_main_cst_15
  pointwise [tapGrad0, tapGrad1, tapGrad2]
  unfold tap
  match k with
  | 0 => simp
  | 1 => simp
  | 2 => simp

theorem inputGrad (q : Fin 2176) (J : Fin 5632) : val_main_v80 (F := Ideal) X0 X1 W B X4 X5 (ix2 q J) = back (wc W J) (Y (U X0 X1) (D X4 X5) W B J) q := by
  unfold val_main_v80 val_main_v78 val_main_v77 val_main_v72 val_main_v71 val_main_v67 val_main_v66 val_main_v61 val_main_v60 val_main_v56 val_main_v52 val_main_v51
    val_main_cst_8 val_main_cst_12 val_main_cst_16
  pointwise [grad, tap0, tap1, tap2]
  unfold back up
  have e1 : ∀ (h : q.val + 1 < 2176) (h' : 2 + q.val - 1 < 2176), (⟨2 + q.val - 1, h'⟩ : Fin 2176) = ⟨q.val + 1, h⟩ := fun h h' =>
    Fin.ext (by show 2 + q.val - 1 = q.val + 1; omega)
  have e2 : ∀ (h : q.val + 2 < 2176) (h' : 2 + q.val < 2176), (⟨2 + q.val, h'⟩ : Fin 2176) = ⟨q.val + 2, h⟩ := fun h h' =>
    Fin.ext (by show 2 + q.val = q.val + 2; omega)
  rw [mul_comm (Y (U X0 X1) (D X4 X5) W B J q)]
  have f1 : (if h : 1 ≤ 2 + q.val ∧ 2 + q.val - 1 < 2176 then Y (U X0 X1) (D X4 X5) W B J ⟨2 + q.val - 1, h.2⟩ * wc W J 1 else 0)
      = wc W J 1 * if h : q.val + 1 < 2176 then Y (U X0 X1) (D X4 X5) W B J ⟨q.val + 1, h⟩ else 0 := by
    by_cases h : q.val + 1 < 2176
    · rw [dif_pos h, dif_pos (by omega), e1 h, mul_comm]
    · rw [dif_neg h, dif_neg (by omega), mul_zero]
  have f2 : (if h : 2 + q.val < 2176 then Y (U X0 X1) (D X4 X5) W B J ⟨2 + q.val, h⟩ * wc W J 0 else 0)
      = wc W J 0 * if h : q.val + 2 < 2176 then Y (U X0 X1) (D X4 X5) W B J ⟨q.val + 2, h⟩ else 0 := by
    by_cases h : q.val + 2 < 2176
    · rw [dif_pos h, dif_pos (by omega), e2 h, mul_comm]
    · rw [dif_neg h, dif_neg (by omega), mul_zero]
  rw [f1, f2, add_comm, add_comm (wc W J 2 * _), add_assoc]

theorem result1 (h : Fin 2) (k : Fin 3) (L : Fin 2816) :
    val_main_v91 (F := Ideal) X0 X1 W B X4 X5 (ix3 h k L) = tap k (uc (U X0 X1) (half h L)) (Y (U X0 X1) (D X4 X5) W B (half h L)) := by
  unfold val_main_v91 val_main_v90 val_main_v89 val_main_v88 val_main_v87
  pointwise [tapGrad]
  match h with
  | 0 => rfl
  | 1 => rfl

theorem result2 (h : Fin 2) (o : Fin 1) (L : Fin 2816) :
    val_main_v96 (F := Ideal) X0 X1 W B X4 X5 (ix3 h o L) = ∑ q, Y (U X0 X1) (D X4 X5) W B (half h L) q := by
  unfold val_main_v96 val_main_v95 val_main_v94 val_main_v93 val_main_v92
  pointwise [biasGrad]
  match h with
  | 0 => rfl
  | 1 => rfl

/-- The gated value. -/
theorem act (q : Fin 2176) (L : Fin 2816) : val_main_v34 (F := Ideal) X0 X1 W B (ix2 q L)
    = cc (U X0 X1) W B (lo L) q * Ideal.logistic (cc (U X0 X1) W B (lo L) q) * cc (U X0 X1) W B (hi L) q := by
  unfold val_main_v34 val_main_v33_0
  pointwise [sig, gate, value]

theorem output (q : Fin 2176) (p : Fin 1024) : val_main_v35 (F := Ideal) X0 X1 W B X4 (ix2 q p)
    = ∑ L : Fin 2816, val_main_v34 (F := Ideal) X0 X1 W B (ix2 q L) * X4 (ix2 L p) := by
  unfold val_main_v35 val_main_v2
  generalize val_main_v34 (F := Ideal) X0 X1 W B = a
  pointwise

theorem downGrad (L : Fin 2816) (p : Fin 1024) : val_main_v97 (F := Ideal) X0 X1 W B X5 (ix2 L p)
    = ∑ q : Fin 2176, X5 (ix2 q p) * val_main_v34 (F := Ideal) X0 X1 W B (ix2 q L) := by
  unfold val_main_v97 val_main_v38 val_main_v37 val_main_v36
  generalize val_main_v34 (F := Ideal) X0 X1 W B = a
  pointwise

theorem upGrad (s : Fin 8) (p : Fin 1024) (l : Fin 704) : val_main_v86 (F := Ideal) X0 X1 W B X4 X5 (ix3 s p l)
    = ∑ q : Fin 2176, val_main_v80 (F := Ideal) X0 X1 W B X4 X5 (ix2 q ⟨s.val * 704 + l.val, by omega⟩) * X0 (ix2 q p) := by
  unfold val_main_v86 val_main_v85 val_main_v84 val_main_v82 val_main_v81 val_main_v0
  generalize val_main_v80 (F := Ideal) X0 X1 W B X4 X5 = a
  pointwise

theorem entryGrad (q : Fin 2176) (p : Fin 1024) : val_main_v83 (F := Ideal) X0 X1 W B X4 X5 (ix2 q p)
    = ∑ J : Fin 5632, val_main_v80 (F := Ideal) X0 X1 W B X4 X5 (ix2 q J) * X1 (ix2 p J) := by
  unfold val_main_v83 val_main_v1
  generalize val_main_v80 (F := Ideal) X0 X1 W B X4 X5 = a
  pointwise

end Cert.LayerRef

end
-- ==== Proof.Layer.Equation.lean ====
/- At real arguments the layer's six results are the reference's. -/
module

public import proofs.«01_k».proof.Proof.Layer.Fold
public import proofs.«01_k».proof.Proof.Layer.Ref
public import proofs.«01_k».proof.Proof.Gen.Pre_finite2

@[expose] public section

noncomputable section

namespace Cert.LayerEquation

open Cert.FfnKernelIdeal Idealize.ShloMosaic Idealize.ShloMosaic.TcCoe Idealize.SL.Sem
open Idealize.ShloMosaic.Pointwise Cert.ConvGate Cert.LayerProducts Cert.LayerArray Cert.LayerAct Cert.LayerFold
open Cert.FfnReferenceIdeal.Read

/-- An extended real whose absolute value is less than infinity is a real number. -/
theorem real_of_bound {x : EReal} (h : Ideal.cmp .olt (max x (-x)) ⊤ = 1#1) : Real' x := by
  have hx : max x (-x) < ⊤ := by
    by_contra hn
    rw [Ideal.cmp] at h
    simp [hn] at h
  induction x with
  | bot => exact absurd hx (by simp)
  | top => exact absurd hx (by simp)
  | coe r => exact Real'.mk r

/-- A finite sum of products of real numbers is a real number. -/
theorem real_sum {n : ℕ} {f g : Fin n → EReal} (hf : ∀ k, Real' (f k)) (hg : ∀ k, Real' (g k)) : Real' (∑ k, f k * g k) :=
  Finset.sum_induction _ Real' (fun _ _ => Real'.add) Real'.zero fun k _ => (hf k).mul (hg k)

/-- A sum over the 5632 columns is the sum over the first half and the sum over the second. -/
theorem sum_halves (f : Fin 5632 → EReal) :
    ∑ J, f J = (∑ L : Fin 2816, f ⟨L.val, by omega⟩) + ∑ L : Fin 2816, f ⟨2816 + L.val, by omega⟩ :=
  Fin.sum_univ_add (a := 2816) (b := 2816) f

theorem at2_half (h : Fin 2) (L : Fin 2816) : at2 h L = FfnRef.half h L := by
  match h with
  | 0 => exact Fin.ext (by show 0 * 2816 + L.val = L.val; omega)
  | 1 => exact Fin.ext (by show 1 * 2816 + L.val = 2816 + L.val; omega)

section
variable (A0 : Vec Ideal S2176x1024 .bf16) (A1 : Vec Ideal S1024x5632 .bf16) (A2 : Vec Ideal S3x5632 .f32) (A3 : Vec Ideal S1x5632 .f32)
  (A4 : Vec Ideal S2816x1024 .bf16) (A5 : Vec Ideal S2176x1024 .bf16)

/-- The precondition, read: every entry of the arguments is a real number. -/
theorem reals (h : (Cert.Pre_finite2.fn (F := Ideal) A0 A1 A2 A3 A4 A5).1 = (fun _ => 1#1)
      ∧ (Cert.Pre_finite2.fn (F := Ideal) A0 A1 A2 A3 A4 A5).2.1 = (fun _ => 1#1)
      ∧ (Cert.Pre_finite2.fn (F := Ideal) A0 A1 A2 A3 A4 A5).2.2.1 = (fun _ => 1#1)
      ∧ (Cert.Pre_finite2.fn (F := Ideal) A0 A1 A2 A3 A4 A5).2.2.2.1 = (fun _ => 1#1)
      ∧ (Cert.Pre_finite2.fn (F := Ideal) A0 A1 A2 A3 A4 A5).2.2.2.2.1 = (fun _ => 1#1)
      ∧ (Cert.Pre_finite2.fn (F := Ideal) A0 A1 A2 A3 A4 A5).2.2.2.2.2 = (fun _ => 1#1)) :
    (∀ i, Real' (A0 i)) ∧ (∀ i, Real' (A1 i)) ∧ (∀ i, Real' (A2 i)) ∧ (∀ i, Real' (A3 i)) ∧ (∀ i, Real' (A4 i)) ∧ (∀ i, Real' (A5 i)) := by
  have top : Ideal.ofBits .f32 0x7F800000#32 = ⊤ := by
    simp [Ideal.ofBits, Ideal.ieee]
  simp only [Cert.Pre_finite2.fn, Cert.Pre_finite2.fn_part1] at h
  obtain ⟨h0, h1, h2, h3, h4, h5⟩ := h
  refine ⟨fun i => real_of_bound ?_, fun i => real_of_bound ?_, fun i => real_of_bound ?_, fun i => real_of_bound ?_,
    fun i => real_of_bound ?_, fun i => real_of_bound ?_⟩
  · rw [← top]; exact congrFun h0 i
  · rw [← top]; exact congrFun h1 i
  · rw [← top]; exact congrFun h2 i
  · rw [← top]; exact congrFun h3 i
  · rw [← top]; exact congrFun h4 i
  · rw [← top]; exact congrFun h5 i

/-- The convolution's input is the reference's. -/
theorem u_eq : u A0 A1 = val_main_v3 (F := Ideal) A0 A1 := by
  funext i
  obtain ⟨q, J, rfl⟩ : ∃ (q : Fin 2176) (J : Fin 5632), i = ix2 q J := ⟨i 0, i 1, by funext a; fin_cases a <;> rfl⟩
  rw [LayerRef.U_at]
  rfl

/-- The gradient at the gated value is the reference's. -/
theorem da_eq : da A4 A5 = val_main_v39 (F := Ideal) A4 A5 := by
  funext i
  obtain ⟨q, L, rfl⟩ : ∃ (q : Fin 2176) (L : Fin 2816), i = ix2 q L := ⟨i 0, i 1, by funext a; fin_cases a <;> rfl⟩
  rw [LayerRef.D_at]
  rfl

/-- The gated value is the reference's. -/
theorem act_eq : act A0 A1 A2 A3 = val_main_v34 (F := Ideal) A0 A1 A2 A3 := by
  funext i
  obtain ⟨q, L, rfl⟩ : ∃ (q : Fin 2176) (L : Fin 2816), i = ix2 q L := ⟨i 0, i 1, by funext a; fin_cases a <;> rfl⟩
  rw [LayerRef.act]
  unfold act
  rw [u_eq]
  show gated (conv (wcol A2 0 L) (bcol A3 0 L) (ucol (val_main_v3 (F := Ideal) A0 A1) 0 L) q)
    (conv (wcol A2 1 L) (bcol A3 1 L) (ucol (val_main_v3 (F := Ideal) A0 A1) 1 L) q) = _
  unfold gated FfnRef.cc ucol wcol bcol
  rw [at2_half, at2_half]
  rfl

theorem y_eq : y A0 A1 A2 A3 A4 = val_main_v35 (F := Ideal) A0 A1 A2 A3 A4 := by
  funext i
  obtain ⟨q, p, rfl⟩ : ∃ (q : Fin 2176) (p : Fin 1024), i = ix2 q p := ⟨i 0, i 1, by funext a; fin_cases a <;> rfl⟩
  rw [LayerRef.output, ← act_eq]
  rfl

theorem dwd_eq : dwd A0 A1 A2 A3 A5 = val_main_v97 (F := Ideal) A0 A1 A2 A3 A5 := by
  funext i
  obtain ⟨L, p, rfl⟩ : ∃ (L : Fin 2816) (p : Fin 1024), i = ix2 L p := ⟨i 0, i 1, by funext a; fin_cases a <;> rfl⟩
  rw [LayerRef.downGrad, ← act_eq]
  unfold dwd P4
  exact Finset.sum_congr rfl fun k _ => mul_comm (G := EReal) _ _

variable (h0 : ∀ i, Real' (A0 i)) (h1 : ∀ i, Real' (A1 i)) (h2 : ∀ i, Real' (A2 i)) (h3 : ∀ i, Real' (A3 i)) (h4 : ∀ i, Real' (A4 i)) (h5 : ∀ i, Real' (A5 i))
include h0 h1 in
theorem u_real (i : S2176x5632.Idx) : Real' (u A0 A1 i) := real_sum (fun _ => h0 _) fun _ => h1 _
include h4 h5 in
theorem da_real (i : S2176x2816.Idx) : Real' (da A4 A5 i) := real_sum (fun _ => h5 _) fun _ => h4 _

include h0 h1 h2 h3 in
theorem conv_real (h : Fin 2) (L : Fin 2816) (q : Fin 2176) :
    Real' (conv (wcol A2 h L) (bcol A3 h L) (ucol (u A0 A1) h L) q) :=
  real_conv (fun _ => h2 _) (h3 _) (fun _ => u_real A0 A1 h0 h1 _) q

include h0 h1 h2 h3 h4 h5

theorem DC_eq (h : Fin 2) (L : Fin 2816) : DC (u A0 A1) (da A4 A5) A2 A3 h L
    = FfnRef.Y (val_main_v3 (F := Ideal) A0 A1) (val_main_v39 (F := Ideal) A4 A5) A2 A3 (FfnRef.half h L) := by
  rw [FfnRef.Y_half, ← u_eq, ← da_eq]
  unfold DC
  match h with
  | 0 =>
    rw [if_pos rfl, if_pos rfl]
    funext q
    unfold LayerBody.dg FfnRef.gateGrad
    have hd : Real' (dcol (da A4 A5) L q) := da_real A4 A5 h4 h5 _
    rw [dgate_eq_sum hd (conv_real A0 A1 A2 A3 h0 h1 h2 h3 1 L q) (conv_real A0 A1 A2 A3 h0 h1 h2 h3 0 L q)]
    unfold FfnRef.cc ucol wcol bcol dcol
    rw [at2_half, at2_half]
    rfl
  | 1 =>
    rw [if_neg (by decide), if_neg (by decide)]
    funext q
    unfold LayerBody.dv FfnRef.valGrad
    unfold FfnRef.cc ucol wcol bcol dcol
    rw [at2_half]
    rfl

/-- The gradient of the convolution's input, at half `h` and column `L`, is the reference's at that column. -/
theorem du_at (h : Fin 2) (q : Fin 2176) (L : Fin 2816) : du A0 A1 A2 A3 A4 A5 (ix3 h q L)
    = val_main_v80 (F := Ideal) A0 A1 A2 A3 A4 A5 (ix2 q (FfnRef.half h L)) := by
  rw [LayerRef.inputGrad, ← DC_eq A0 A1 A2 A3 A4 A5 h0 h1 h2 h3 h4 h5, ← at2_half]
  rfl

theorem dcw_eq : dcw A0 A1 A2 A3 A4 A5 = val_main_v91 (F := Ideal) A0 A1 A2 A3 A4 A5 := by
  funext i
  obtain ⟨h, r, l, rfl⟩ : ∃ (h : Fin 2) (r : Fin 3) (l : Fin 2816), i = ix3 h r l := ⟨i 0, i 1, i 2, by funext a; fin_cases a <;> rfl⟩
  rw [LayerRef.result1, ← DC_eq A0 A1 A2 A3 A4 A5 h0 h1 h2 h3 h4 h5, ← at2_half, LayerRef.U, ← u_eq]
  rfl

theorem dcb_eq : dcb A0 A1 A2 A3 A4 A5 = val_main_v96 (F := Ideal) A0 A1 A2 A3 A4 A5 := by
  funext i
  obtain ⟨h, r, l, rfl⟩ : ∃ (h : Fin 2) (r : Fin 1) (l : Fin 2816), i = ix3 h r l := ⟨i 0, i 1, i 2, by funext a; fin_cases a <;> rfl⟩
  rw [LayerRef.result2, ← DC_eq A0 A1 A2 A3 A4 A5 h0 h1 h2 h3 h4 h5]
  rfl

theorem dfn_eq : dfn A0 A1 A2 A3 A4 A5 = val_main_v83 (F := Ideal) A0 A1 A2 A3 A4 A5 := by
  funext i
  obtain ⟨q, p, rfl⟩ : ∃ (q : Fin 2176) (p : Fin 1024), i = ix2 q p := ⟨i 0, i 1, by funext a; fin_cases a <;> rfl⟩
  rw [LayerRef.entryGrad, sum_halves]
  unfold dfn P6
  refine congrArg₂ (· + ·) (Finset.sum_congr rfl fun k _ => ?_) (Finset.sum_congr rfl fun k _ => ?_)
  · exact congrArg (· * _) (du_at A0 A1 A2 A3 A4 A5 h0 h1 h2 h3 h4 h5 0 q k)
  · exact congrArg (· * _) (du_at A0 A1 A2 A3 A4 A5 h0 h1 h2 h3 h4 h5 1 q k)

theorem dwu_eq : dwu A0 A1 A2 A3 A4 A5 = val_main_v86 (F := Ideal) A0 A1 A2 A3 A4 A5 := by
  funext i
  obtain ⟨s, p, l, rfl⟩ : ∃ (s : Fin 8) (p : Fin 1024) (l : Fin 704), i = ix3 s p l := ⟨i 0, i 1, i 2, by funext a; fin_cases a <;> rfl⟩
  rw [LayerRef.upGrad]
  unfold dwu P7
  refine Finset.sum_congr rfl fun k _ => ?_
  rw [du_at A0 A1 A2 A3 A4 A5 h0 h1 h2 h3 h4 h5, mul_comm, ← at2_half]
  refine congrArg (· * _) (congrArg (fun j => val_main_v80 (F := Ideal) A0 A1 A2 A3 A4 A5 (ix2 k j)) (Fin.ext ?_))
  show s.val / 4 * 2816 + (s.val % 4 * 704 + l.val) = s.val * 704 + l.val
  omega
end

end Cert.LayerEquation

end
-- ==== Proof.Mix.Run.lean ====
/- The run of the thirteen kernel calls of the projections: every buffer of the device that outlives a call ends at the
   contents of the last boundary, which is a fold of the calls from the launch memory. Stated over any numbers. -/
module

public import proofs.«01_k».proof.Proof.Gen.MixKernelIdeal.Frame

@[expose] public section

set_option maxRecDepth 16384

noncomputable section

namespace Cert.MixRun

open Cert.MixKernelIdeal Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one
set_option backward.isDefEq.respectTransparency.types false in
/-- Every execution ends, and every buffer holds what the last boundary says. -/
theorem run : θ_run defs (onTc (τ := τ) (main (F := F))) ⟨m, fun _ => 0, ρ⟩
    (fun r => ∀ c : Dev nD, ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

/-- The twelve results and the fourteen arguments, at the end of the run. -/
theorem results : θ_run defs (onTc (τ := τ) (main (F := F))) ⟨m, fun _ => 0, ρ⟩ (fun r => ∀ c : Dev nD,
      r.2.mem ((c.tc : Thread nD τ).loc main_v1) = W13 m ρ c (Proc.devRef .tc main_v1)
      ∧ r.2.mem ((c.tc : Thread nD τ).loc main_v2) = W13 m ρ c (Proc.devRef .tc main_v2)
      ∧ r.2.mem ((c.tc : Thread nD τ).loc main_v3) = W13 m ρ c (Proc.devRef .tc main_v3)
      ∧ r.2.mem ((c.tc : Thread nD τ).loc main_v4) = W13 m ρ c (Proc.devRef .tc main_v4)
      ∧ r.2.mem ((c.tc : Thread nD τ).loc main_v5) = W13 m ρ c (Proc.devRef .tc main_v5)
      ∧ r.2.mem ((c.tc : Thread nD τ).loc main_v6) = W13 m ρ c (Proc.devRef .tc main_v6)
      ∧ r.2.mem ((c.tc : Thread nD τ).loc main_v7) = W13 m ρ c (Proc.devRef .tc main_v7)
      ∧ r.2.mem ((c.tc : Thread nD τ).loc main_v8) = W13 m ρ c (Proc.devRef .tc main_v8)
      ∧ r.2.mem ((c.tc : Thread nD τ).loc main_v9) = W13 m ρ c (Proc.devRef .tc main_v9)
      ∧ r.2.mem ((c.tc : Thread nD τ).loc main_v10) = W13 m ρ c (Proc.devRef .tc main_v10)
      ∧ r.2.mem ((c.tc : Thread nD τ).loc main_v11) = W13 m ρ c (Proc.devRef .tc main_v11)
      ∧ r.2.mem ((c.tc : Thread nD τ).loc main_v12) = W13 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v1 (by decide)),
     h c _ (mem_uc main_v2 (by decide)),
     h c _ (mem_uc main_v3 (by decide)),
     h c _ (mem_uc main_v4 (by decide)),
     h c _ (mem_uc main_v5 (by decide)),
     h c _ (mem_uc main_v6 (by decide)),
     h c _ (mem_uc main_v7 (by decide)),
     h c _ (mem_uc main_v8 (by decide)),
     h c _ (mem_uc main_v9 (by decide)),
     h c _ (mem_uc main_v10 (by decide)),
     h c _ (mem_uc main_v11 (by decide)),
     h c _ (mem_uc main_v12 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c)⟩) (run m ρ)

end Cert.MixRun

end
-- ==== Proof.Mix.Products.lean ====
/- The twelve products of the projections, as whole arrays: each call's result array at the end of its grid is the
   product of the arrays it was handed, whatever they hold. -/
module

public import proofs.«01_k».proof.Proof.Gen.MixKernelIdeal.Frame
public import Idealize.ShloMosaic.Lib.Pipeline.Value
public import Idealize.ShloMosaic.Lib.Pipeline.ValueKit.Point

@[expose] public section

noncomputable section

namespace Cert.MixProducts

open Cert.MixKernelIdeal Cert.MixKernelIdeal.Gen Idealize.ShloMosaic Idealize.ShloMosaic.TcCoe Idealize.SL.Sem
open Idealize.ShloMosaic.Pointwise
open Idealize.ShloMosaic.Pipeline (Dat)

/-- Two sums of products whose factors agree. -/
theorem sum_pair {n : ℕ} {f f' g g' : Fin n → EReal} (hf : ∀ k, f k = f' k) (hg : ∀ k, g k = g' k) :
    ∑ k, f k * g k = ∑ k, f' k * g' k :=
  Finset.sum_congr rfl fun k _ => by rw [hf, hg]

/-! ## One block -/

theorem block1 (a : Vec Ideal S2176x2048 .bf16) (b : Vec Ideal S2048x512 .bf16) (p : Fin 2176) (q : Fin 512) :
    out1_2 a b (ix2 p q : S2176x512.Idx) = ∑ k : Fin 2048, a (ix2 p k : S2176x2048.Idx) * b (ix2 k q : S2048x512.Idx) := by
  frame_out
  pointwise [k1_pay1]

theorem block2 (a : Vec Ideal S2176x1024 .bf16) (b : Vec Ideal S512x1024 .bf16) (p : Fin 2176) (q : Fin 512) :
    out2_2 a b (ix2 p q : S2176x512.Idx) = ∑ k : Fin 1024, a (ix2 p k : S2176x1024.Idx) * b (ix2 q k : S512x1024.Idx) := by
  frame_out
  pointwise [k2_pay1]

theorem block3 (a : Vec Ideal S2176x512 .bf16) (b : Vec Ideal S2176x1024 .bf16) (p : Fin 512) (q : Fin 1024) :
    out3_2 a b (ix2 p q : S512x1024.Idx) = ∑ k : Fin 2176, a (ix2 k p : S2176x512.Idx) * b (ix2 k q : S2176x1024.Idx) := by
  frame_out
  pointwise [k3_pay1]

theorem block4 (a : Vec Ideal S2176x1024 .bf16) (b : Vec Ideal S1024x512 .bf16) (p : Fin 2176) (q : Fin 512) :
    out4_2 a b (ix2 p q : S2176x512.Idx) = ∑ k : Fin 1024, a (ix2 p k : S2176x1024.Idx) * b (ix2 k q : S1024x512.Idx) := by
  frame_out
  pointwise [k4_pay1]

theorem block5 (a : Vec Ideal S2176x1024 .bf16) (b : Vec Ideal S1024x512 .bf16) (p : Fin 2176) (q : Fin 512) :
    out5_2 a b (ix2 p q : S2176x512.Idx) = ∑ k : Fin 1024, a (ix2 p k : S2176x1024.Idx) * b (ix2 k q : S1024x512.Idx) := by
  frame_out
  pointwise [k5_pay1]

theorem block6 (a : Vec Ideal S2176x1024 .bf16) (b : Vec Ideal S1024x512 .bf16) (p : Fin 2176) (q : Fin 512) :
    out6_2 a b (ix2 p q : S2176x512.Idx) = ∑ k : Fin 1024, a (ix2 p k : S2176x1024.Idx) * b (ix2 k q : S1024x512.Idx) := by
  frame_out
  pointwise [k6_pay1]

theorem block7 (a : Vec Ideal S2176x1024 .bf16) (b : Vec Ideal S512x1024 .bf16) (p : Fin 2176) (q : Fin 512) :
    out7_2 a b (ix2 p q : S2176x512.Idx) = ∑ k : Fin 1024, a (ix2 p k : S2176x1024.Idx) * b (ix2 q k : S512x1024.Idx) := by
  frame_out
  pointwise [k7_pay1]

theorem block8 (a : Vec Ideal S2176x512 .bf16) (b : Vec Ideal S2176x1024 .bf16) (p : Fin 512) (q : Fin 1024) :
    out8_2 a b (ix2 p q : S512x1024.Idx) = ∑ k : Fin 2176, a (ix2 k p : S2176x512.Idx) * b (ix2 k q : S2176x1024.Idx) := by
  frame_out
  pointwise [k8_pay1]

theorem block9 (a : Vec Ideal S2176x1024 .bf16) (b : Vec Ideal S512x1024 .bf16) (p : Fin 2176) (q : Fin 512) :
    out9_2 a b (ix2 p q : S2176x512.Idx) = ∑ k : Fin 1024, a (ix2 p k : S2176x1024.Idx) * b (ix2 q k : S512x1024.Idx) := by
  frame_out
  pointwise [k9_pay1]

theorem block10 (a : Vec Ideal S2176x512 .bf16) (b : Vec Ideal S2176x1024 .bf16) (p : Fin 512) (q : Fin 1024) :
    out10_2 a b (ix2 p q : S512x1024.Idx) = ∑ k : Fin 2176, a (ix2 k p : S2176x512.Idx) * b (ix2 k q : S2176x1024.Idx) := by
  frame_out
  pointwise [k10_pay1]

theorem block11 (a : Vec Ideal S2176x512 .bf16) (b : Vec Ideal S512x512 .bf16) (p : Fin 2176) (q : Fin 512) :
    out11_2 a b (ix2 p q : S2176x512.Idx) = ∑ k : Fin 512, a (ix2 p k : S2176x512.Idx) * b (ix2 q k : S512x512.Idx) := by
  frame_out
  pointwise [k11_pay1]

theorem block12 (a : Vec Ideal S2176x512 .bf16) (b : Vec Ideal S2176x512 .bf16) (p : Fin 512) (q : Fin 512) :
    out12_2 a b (ix2 p q : S512x512.Idx) = ∑ k : Fin 2176, a (ix2 k p : S2176x512.Idx) * b (ix2 k q : S2176x512.Idx) := by
  frame_out
  pointwise [k12_pay1]

/-! ## The whole arrays -/

def nn_2048_2048_1024 (A : Vec Ideal S2176x2048 .bf16) (B : Vec Ideal S2048x1024 .bf16) : Vec Ideal S2176x1024 .f32 :=
  fun i => ∑ k : Fin 2048, A (ix2 (i 0) k) * B (ix2 k (i 1))
def nt_1024_2048_1024 (A : Vec Ideal S2176x1024 .bf16) (B : Vec Ideal S2048x1024 .bf16) : Vec Ideal S2176x2048 .f32 :=
  fun i => ∑ k : Fin 1024, A (ix2 (i 0) k) * B (ix2 (i 1) k)
def tn_2048_1024 (A : Vec Ideal S2176x2048 .bf16) (B : Vec Ideal S2176x1024 .bf16) : Vec Ideal S2048x1024 .bf16 :=
  fun i => ∑ k : Fin 2176, A (ix2 k (i 0)) * B (ix2 k (i 1))
def nn_1024_1024_512 (A : Vec Ideal S2176x1024 .bf16) (B : Vec Ideal S1024x512 .bf16) : Vec Ideal S2176x512 .f32 :=
  fun i => ∑ k : Fin 1024, A (ix2 (i 0) k) * B (ix2 k (i 1))
def nn_1024_1024_1024 (A : Vec Ideal S2176x1024 .bf16) (B : Vec Ideal S1024x1024 .bf16) : Vec Ideal S2176x1024 .f32 :=
  fun i => ∑ k : Fin 1024, A (ix2 (i 0) k) * B (ix2 k (i 1))
def nt_1024_1024_1024 (A : Vec Ideal S2176x1024 .bf16) (B : Vec Ideal S1024x1024 .bf16) : Vec Ideal S2176x1024 .f32 :=
  fun i => ∑ k : Fin 1024, A (ix2 (i 0) k) * B (ix2 (i 1) k)
def tn_1024_1024 (A : Vec Ideal S2176x1024 .bf16) (B : Vec Ideal S2176x1024 .bf16) : Vec Ideal S1024x1024 .bf16 :=
  fun i => ∑ k : Fin 2176, A (ix2 k (i 0)) * B (ix2 k (i 1))
def nt_512_1024_512 (A : Vec Ideal S2176x512 .bf16) (B : Vec Ideal S1024x512 .bf16) : Vec Ideal S2176x1024 .f32 :=
  fun i => ∑ k : Fin 512, A (ix2 (i 0) k) * B (ix2 (i 1) k)
def tn_1024_512 (A : Vec Ideal S2176x1024 .bf16) (B : Vec Ideal S2176x512 .bf16) : Vec Ideal S1024x512 .bf16 :=
  fun i => ∑ k : Fin 2176, A (ix2 k (i 0)) * B (ix2 k (i 1))

variable (V : (c : Dev nD) → (b : Ref sig .tc) → Buf (Elt Ideal) ((c : Thread nD τ).loc b)) (c : Dev nD)

theorem e1_0 : ∀ t : Fin cfg1.N, win1_0.index t = ![0, 0] := (by decide +kernel : ∀ t : Fin grid1.N, win1_0.index t = ![0, 0])
theorem e1_1 : ∀ t : Fin cfg1.N, win1_1.index t = ![0, t.val] := (by decide +kernel : ∀ t : Fin grid1.N, win1_1.index t = ![0, t.val])
theorem e1_2 : ∀ t : Fin cfg1.N, win1_2.index t = ![0, t.val] := (by decide +kernel : ∀ t : Fin grid1.N, win1_2.index t = ![0, t.val])
theorem e2_0 : ∀ t : Fin cfg2.N, win2_0.index t = ![0, 0] := (by decide +kernel : ∀ t : Fin grid2.N, win2_0.index t = ![0, 0])
theorem e2_1 : ∀ t : Fin cfg2.N, win2_1.index t = ![t.val, 0] := (by decide +kernel : ∀ t : Fin grid2.N, win2_1.index t = ![t.val, 0])
theorem e2_2 : ∀ t : Fin cfg2.N, win2_2.index t = ![0, t.val] := (by decide +kernel : ∀ t : Fin grid2.N, win2_2.index t = ![0, t.val])
theorem e3_0 : ∀ t : Fin cfg3.N, win3_0.index t = ![0, t.val] := (by decide +kernel : ∀ t : Fin grid3.N, win3_0.index t = ![0, t.val])
theorem e3_1 : ∀ t : Fin cfg3.N, win3_1.index t = ![0, 0] := (by decide +kernel : ∀ t : Fin grid3.N, win3_1.index t = ![0, 0])
theorem e3_2 : ∀ t : Fin cfg3.N, win3_2.index t = ![t.val, 0] := (by decide +kernel : ∀ t : Fin grid3.N, win3_2.index t = ![t.val, 0])
theorem e4_0 : ∀ t : Fin cfg4.N, win4_0.index t = ![0, 0] := (by decide +kernel : ∀ t : Fin grid4.N, win4_0.index t = ![0, 0])
theorem e4_1 : ∀ t : Fin cfg4.N, win4_1.index t = ![0, t.val] := (by decide +kernel : ∀ t : Fin grid4.N, win4_1.index t = ![0, t.val])
theorem e4_2 : ∀ t : Fin cfg4.N, win4_2.index t = ![0, t.val] := (by decide +kernel : ∀ t : Fin grid4.N, win4_2.index t = ![0, t.val])
theorem e5_0 : ∀ t : Fin cfg5.N, win5_0.index t = ![0, 0] := (by decide +kernel : ∀ t : Fin grid5.N, win5_0.index t = ![0, 0])
theorem e5_1 : ∀ t : Fin cfg5.N, win5_1.index t = ![0, t.val] := (by decide +kernel : ∀ t : Fin grid5.N, win5_1.index t = ![0, t.val])
theorem e5_2 : ∀ t : Fin cfg5.N, win5_2.index t = ![0, t.val] := (by decide +kernel : ∀ t : Fin grid5.N, win5_2.index t = ![0, t.val])
theorem e6_0 : ∀ t : Fin cfg6.N, win6_0.index t = ![0, 0] := (by decide +kernel : ∀ t : Fin grid6.N, win6_0.index t = ![0, 0])
theorem e6_1 : ∀ t : Fin cfg6.N, win6_1.index t = ![0, t.val] := (by decide +kernel : ∀ t : Fin grid6.N, win6_1.index t = ![0, t.val])
theorem e6_2 : ∀ t : Fin cfg6.N, win6_2.index t = ![0, t.val] := (by decide +kernel : ∀ t : Fin grid6.N, win6_2.index t = ![0, t.val])
theorem e7_0 : ∀ t : Fin cfg7.N, win7_0.index t = ![0, 0] := (by decide +kernel : ∀ t : Fin grid7.N, win7_0.index t = ![0, 0])
theorem e7_1 : ∀ t : Fin cfg7.N, win7_1.index t = ![t.val, 0] := (by decide +kernel : ∀ t : Fin grid7.N, win7_1.index t = ![t.val, 0])
theorem e7_2 : ∀ t : Fin cfg7.N, win7_2.index t = ![0, t.val] := (by decide +kernel : ∀ t : Fin grid7.N, win7_2.index t = ![0, t.val])
theorem e8_0 : ∀ t : Fin cfg8.N, win8_0.index t = ![0, t.val] := (by decide +kernel : ∀ t : Fin grid8.N, win8_0.index t = ![0, t.val])
theorem e8_1 : ∀ t : Fin cfg8.N, win8_1.index t = ![0, 0] := (by decide +kernel : ∀ t : Fin grid8.N, win8_1.index t = ![0, 0])
theorem e8_2 : ∀ t : Fin cfg8.N, win8_2.index t = ![t.val, 0] := (by decide +kernel : ∀ t : Fin grid8.N, win8_2.index t = ![t.val, 0])
theorem e9_0 : ∀ t : Fin cfg9.N, win9_0.index t = ![0, 0] := (by decide +kernel : ∀ t : Fin grid9.N, win9_0.index t = ![0, 0])
theorem e9_1 : ∀ t : Fin cfg9.N, win9_1.index t = ![t.val, 0] := (by decide +kernel : ∀ t : Fin grid9.N, win9_1.index t = ![t.val, 0])
theorem e9_2 : ∀ t : Fin cfg9.N, win9_2.index t = ![0, t.val] := (by decide +kernel : ∀ t : Fin grid9.N, win9_2.index t = ![0, t.val])
theorem e10_0 : ∀ t : Fin cfg10.N, win10_0.index t = ![0, t.val] := (by decide +kernel : ∀ t : Fin grid10.N, win10_0.index t = ![0, t.val])
theorem e10_1 : ∀ t : Fin cfg10.N, win10_1.index t = ![0, 0] := (by decide +kernel : ∀ t : Fin grid10.N, win10_1.index t = ![0, 0])
theorem e10_2 : ∀ t : Fin cfg10.N, win10_2.index t = ![t.val, 0] := (by decide +kernel : ∀ t : Fin grid10.N, win10_2.index t = ![t.val, 0])
theorem e11_0 : ∀ t : Fin cfg11.N, win11_0.index t = ![0, 0] := (by decide +kernel : ∀ t : Fin grid11.N, win11_0.index t = ![0, 0])
theorem e11_1 : ∀ t : Fin cfg11.N, win11_1.index t = ![t.val, 0] := (by decide +kernel : ∀ t : Fin grid11.N, win11_1.index t = ![t.val, 0])
theorem e11_2 : ∀ t : Fin cfg11.N, win11_2.index t = ![0, t.val] := (by decide +kernel : ∀ t : Fin grid11.N, win11_2.index t = ![0, t.val])
theorem e12_0 : ∀ t : Fin cfg12.N, win12_0.index t = ![0, t.val] := (by decide +kernel : ∀ t : Fin grid12.N, win12_0.index t = ![0, t.val])
theorem e12_1 : ∀ t : Fin cfg12.N, win12_1.index t = ![0, 0] := (by decide +kernel : ∀ t : Fin grid12.N, win12_1.index t = ![0, 0])
theorem e12_2 : ∀ t : Fin cfg12.N, win12_2.index t = ![t.val, 0] := (by decide +kernel : ∀ t : Fin grid12.N, win12_2.index t = ![t.val, 0])

theorem array1 : (dat1 V c).arrAt 2 cfg1.N = nn_2048_2048_1024 (V c main_v0) (V c main_arg3) := by
  refine (dat1 V c).arrAt_eq_of_covers 2 _ (by decide +kernel) fun t hf y => ?_
  blk_simp
  rw [after1_2]
  obtain ⟨p, q, rfl⟩ : ∃ (p : Fin 2176) (q : Fin 512), y = ix2 p q := ⟨y 0, y 1, by funext a; fin_cases a <;> rfl⟩
  rw [block1]
  unfold nn_2048_2048_1024
  refine sum_pair (fun k => ?_) (fun k => ?_) <;> blk_ext [iblk1, e1_0 t, e1_1 t, e1_2 t]

theorem array2 : (dat2 V c).arrAt 2 cfg2.N = nt_1024_2048_1024 (V c main_arg4) (V c main_arg3) := by
  refine (dat2 V c).arrAt_eq_of_covers 2 _ (by decide +kernel) fun t hf y => ?_
  blk_simp
  rw [after2_2]
  obtain ⟨p, q, rfl⟩ : ∃ (p : Fin 2176) (q : Fin 512), y = ix2 p q := ⟨y 0, y 1, by funext a; fin_cases a <;> rfl⟩
  rw [block2]
  unfold nt_1024_2048_1024
  refine sum_pair (fun k => ?_) (fun k => ?_) <;> blk_ext [iblk2, e2_0 t, e2_1 t, e2_2 t]

theorem array3 : (dat3 V c).arrAt 2 cfg3.N = tn_2048_1024 (V c main_v0) (V c main_arg4) := by
  refine (dat3 V c).arrAt_eq_of_covers 2 _ (by decide +kernel) fun t hf y => ?_
  blk_simp
  rw [after3_2]
  obtain ⟨p, q, rfl⟩ : ∃ (p : Fin 512) (q : Fin 1024), y = ix2 p q := ⟨y 0, y 1, by funext a; fin_cases a <;> rfl⟩
  rw [block3]
  unfold tn_2048_1024
  refine sum_pair (fun k => ?_) (fun k => ?_) <;> blk_ext [iblk3, e3_0 t, e3_1 t, e3_2 t]

theorem array4 : (dat4 V c).arrAt 2 cfg4.N = nn_1024_1024_512 (V c main_arg7) (V c main_arg8) := by
  refine (dat4 V c).arrAt_eq_of_covers 2 _ (by decide +kernel) fun t hf y => ?_
  blk_simp
  rw [after4_2]
  obtain ⟨p, q, rfl⟩ : ∃ (p : Fin 2176) (q : Fin 512), y = ix2 p q := ⟨y 0, y 1, by funext a; fin_cases a <;> rfl⟩
  rw [block4]
  unfold nn_1024_1024_512
  refine sum_pair (fun k => ?_) (fun k => ?_) <;> blk_ext [iblk4, e4_0 t, e4_1 t, e4_2 t]

theorem array5 : (dat5 V c).arrAt 2 cfg5.N = nn_1024_1024_1024 (V c main_arg5) (V c main_arg6) := by
  refine (dat5 V c).arrAt_eq_of_covers 2 _ (by decide +kernel) fun t hf y => ?_
  blk_simp
  rw [after5_2]
  obtain ⟨p, q, rfl⟩ : ∃ (p : Fin 2176) (q : Fin 512), y = ix2 p q := ⟨y 0, y 1, by funext a; fin_cases a <;> rfl⟩
  rw [block5]
  unfold nn_1024_1024_1024
  refine sum_pair (fun k => ?_) (fun k => ?_) <;> blk_ext [iblk5, e5_0 t, e5_1 t, e5_2 t]

theorem array6 : (dat6 V c).arrAt 2 cfg6.N = nn_1024_1024_1024 (V c main_arg9) (V c main_arg10) := by
  refine (dat6 V c).arrAt_eq_of_covers 2 _ (by decide +kernel) fun t hf y => ?_
  blk_simp
  rw [after6_2]
  obtain ⟨p, q, rfl⟩ : ∃ (p : Fin 2176) (q : Fin 512), y = ix2 p q := ⟨y 0, y 1, by funext a; fin_cases a <;> rfl⟩
  rw [block6]
  unfold nn_1024_1024_1024
  refine sum_pair (fun k => ?_) (fun k => ?_) <;> blk_ext [iblk6, e6_0 t, e6_1 t, e6_2 t]

theorem array7 : (dat7 V c).arrAt 2 cfg7.N = nt_1024_1024_1024 (V c main_arg11) (V c main_arg10) := by
  refine (dat7 V c).arrAt_eq_of_covers 2 _ (by decide +kernel) fun t hf y => ?_
  blk_simp
  rw [after7_2]
  obtain ⟨p, q, rfl⟩ : ∃ (p : Fin 2176) (q : Fin 512), y = ix2 p q := ⟨y 0, y 1, by funext a; fin_cases a <;> rfl⟩
  rw [block7]
  unfold nt_1024_1024_1024
  refine sum_pair (fun k => ?_) (fun k => ?_) <;> blk_ext [iblk7, e7_0 t, e7_1 t, e7_2 t]

theorem array8 : (dat8 V c).arrAt 2 cfg8.N = tn_1024_1024 (V c main_arg9) (V c main_arg11) := by
  refine (dat8 V c).arrAt_eq_of_covers 2 _ (by decide +kernel) fun t hf y => ?_
  blk_simp
  rw [after8_2]
  obtain ⟨p, q, rfl⟩ : ∃ (p : Fin 512) (q : Fin 1024), y = ix2 p q := ⟨y 0, y 1, by funext a; fin_cases a <;> rfl⟩
  rw [block8]
  unfold tn_1024_1024
  refine sum_pair (fun k => ?_) (fun k => ?_) <;> blk_ext [iblk8, e8_0 t, e8_1 t, e8_2 t]

theorem array9 : (dat9 V c).arrAt 2 cfg9.N = nt_1024_1024_1024 (V c main_arg12) (V c main_arg6) := by
  refine (dat9 V c).arrAt_eq_of_covers 2 _ (by decide +kernel) fun t hf y => ?_
  blk_simp
  rw [after9_2]
  obtain ⟨p, q, rfl⟩ : ∃ (p : Fin 2176) (q : Fin 512), y = ix2 p q := ⟨y 0, y 1, by funext a; fin_cases a <;> rfl⟩
  rw [block9]
  unfold nt_1024_1024_1024
  refine sum_pair (fun k => ?_) (fun k => ?_) <;> blk_ext [iblk9, e9_0 t, e9_1 t, e9_2 t]

theorem array10 : (dat10 V c).arrAt 2 cfg10.N = tn_1024_1024 (V c main_arg5) (V c main_arg12) := by
  refine (dat10 V c).arrAt_eq_of_covers 2 _ (by decide +kernel) fun t hf y => ?_
  blk_simp
  rw [after10_2]
  obtain ⟨p, q, rfl⟩ : ∃ (p : Fin 512) (q : Fin 1024), y = ix2 p q := ⟨y 0, y 1, by funext a; fin_cases a <;> rfl⟩
  rw [block10]
  unfold tn_1024_1024
  refine sum_pair (fun k => ?_) (fun k => ?_) <;> blk_ext [iblk10, e10_0 t, e10_1 t, e10_2 t]

theorem array11 : (dat11 V c).arrAt 2 cfg11.N = nt_512_1024_512 (V c main_arg13) (V c main_arg8) := by
  refine (dat11 V c).arrAt_eq_of_covers 2 _ (by decide +kernel) fun t hf y => ?_
  blk_simp
  rw [after11_2]
  obtain ⟨p, q, rfl⟩ : ∃ (p : Fin 2176) (q : Fin 512), y = ix2 p q := ⟨y 0, y 1, by funext a; fin_cases a <;> rfl⟩
  rw [block11]
  unfold nt_512_1024_512
  refine sum_pair (fun k => ?_) (fun k => ?_) <;> blk_ext [iblk11, e11_0 t, e11_1 t, e11_2 t]

theorem array12 : (dat12 V c).arrAt 2 cfg12.N = tn_1024_512 (V c main_arg7) (V c main_arg13) := by
  refine (dat12 V c).arrAt_eq_of_covers 2 _ (by decide +kernel) fun t hf y => ?_
  blk_simp
  rw [after12_2]
  obtain ⟨p, q, rfl⟩ : ∃ (p : Fin 512) (q : Fin 512), y = ix2 p q := ⟨y 0, y 1, by funext a; fin_cases a <;> rfl⟩
  rw [block12]
  unfold tn_1024_512
  refine sum_pair (fun k => ?_) (fun k => ?_) <;> blk_ext [iblk12, e12_0 t, e12_1 t, e12_2 t]

end Cert.MixProducts

end
-- ==== Proof.Mix.Gate.lean ====
/- The gated normalisation: what one block of rows computes, and the whole array. Each row of `y · silu z` is divided by
   the root of its mean square and multiplied by the weights. -/
module

public import proofs.«01_k».proof.Proof.Gen.MixKernelIdeal.Frame
public import proofs.«01_k».proof.Proof.Ffn.Spec
public import Idealize.ShloMosaic.Lib.Pipeline.Value
public import Idealize.ShloMosaic.Lib.Pipeline.ValueKit.Point

@[expose] public section

noncomputable section

namespace Cert.MixGate

open Cert.MixKernelIdeal Cert.MixKernelIdeal.Gen Idealize.ShloMosaic Idealize.ShloMosaic.TcCoe Idealize.SL.Sem
open Idealize.ShloMosaic.Pointwise Cert.ConvGate
open Idealize.ShloMosaic.Pipeline (Dat)

/-- One row of the gated array. -/
def gatedRow (y z : Fin 2048 → EReal) (k : Fin 2048) : EReal := y k * z k * Ideal.logistic (z k)
/-- One over the root of the row's mean square. -/
def scale (y z : Fin 2048 → EReal) : EReal :=
  Ideal.rsqrt (Ideal.div (∑ k, gatedRow y z k * gatedRow y z k) (Ideal.ofBits .f32 0x45000000#32) + Ideal.ofBits .f32 0x358637BD#32)
/-- One element of the normalised row. -/
def normed (y z w : Fin 2048 → EReal) (q : Fin 2048) : EReal := gatedRow y z q * scale y z * w q

/-- The literal 0.5. -/
theorem half_bits : Ideal.ofBits .f32 0x3F000000#32 = ((1 / 2 : ℝ) : EReal) := by
  simp [Ideal.ofBits, Ideal.ieee, -EReal.coe_mul]; norm_num

theorem block0 (y z : Vec Ideal S272x2048 .f32) (w : Vec Ideal S1x2048 .f32) (p : Fin 272) (q : Fin 2048) :
    out0_3 y z w (ix2 p q : S272x2048.Idx)
      = normed (fun k => y (ix2 p k : S272x2048.Idx)) (fun k => z (ix2 p k : S272x2048.Idx)) (fun k => w (ix2 0 k : S1x2048.Idx)) q := by
  frame_out
  pointwise [k0_pay1]
  unfold normed scale gatedRow
  simp only [half_bits, logistic_eq_tanh]

/-- The normalised array. -/
def N0 (y z : Vec Ideal S2176x2048 .f32) (w : Vec Ideal S1x2048 .f32) : Vec Ideal S2176x2048 .bf16 :=
  fun i => normed (fun k => y (ix2 (i 0) k)) (fun k => z (ix2 (i 0) k)) (fun k => w (ix2 0 k)) (i 1)

variable (V : (c : Dev nD) → (b : Ref sig .tc) → Buf (Elt Ideal) ((c : Thread nD τ).loc b)) (c : Dev nD)

theorem e0_0 : ∀ t : Fin cfg0.N, win0_0.index t = ![t.val, 0] := (by decide +kernel : ∀ t : Fin grid0.N, win0_0.index t = ![t.val, 0])
theorem e0_1 : ∀ t : Fin cfg0.N, win0_1.index t = ![t.val, 0] := (by decide +kernel : ∀ t : Fin grid0.N, win0_1.index t = ![t.val, 0])
theorem e0_2 : ∀ t : Fin cfg0.N, win0_2.index t = ![0, 0] := (by decide +kernel : ∀ t : Fin grid0.N, win0_2.index t = ![0, 0])
theorem e0_3 : ∀ t : Fin cfg0.N, win0_3.index t = ![t.val, 0] := (by decide +kernel : ∀ t : Fin grid0.N, win0_3.index t = ![t.val, 0])

theorem normed_congr {y y' z z' w w' : Fin 2048 → EReal} {q q' : Fin 2048} (hy : ∀ k, y k = y' k) (hz : ∀ k, z k = z' k) (hw : ∀ k, w k = w' k)
    (hq : q = q') : normed y z w q = normed y' z' w' q' := by
  rw [funext hy, funext hz, funext hw, hq]

theorem array0 : (dat0 V c).arrAt 3 cfg0.N = N0 (V c main_arg0) (V c main_arg1) (V c main_arg2) := by
  refine (dat0 V c).arrAt_eq_of_covers 3 _ (by decide +kernel) fun t hf y => ?_
  blk_simp
  rw [after0_3]
  obtain ⟨p, q, rfl⟩ : ∃ (p : Fin 272) (q : Fin 2048), y = ix2 p q := ⟨y 0, y 1, by funext a; fin_cases a <;> rfl⟩
  rw [block0]
  unfold N0
  refine normed_congr (fun k => ?_) (fun k => ?_) (fun k => ?_) ?_
  · blk_ext [iblk0, e0_0 t, e0_1 t, e0_2 t, e0_3 t]
  · blk_ext [iblk0, e0_0 t, e0_1 t, e0_2 t, e0_3 t]
  · blk_ext [iblk0, e0_0 t, e0_1 t, e0_2 t, e0_3 t]
  · apply Fin.ext
    simp [e0_3 t]

end Cert.MixGate

end
-- ==== Proof.Mix.Fold.lean ====
/- The run of the projections followed call by call: each result as a product of the arguments, or of the normalised
   array and an argument. A call's array is read at the boundary after it, and no later call writes it. -/
module

public import proofs.«01_k».proof.Proof.Mix.Run
public import proofs.«01_k».proof.Proof.Mix.Products
public import proofs.«01_k».proof.Proof.Mix.Gate

@[expose] public section

noncomputable section

namespace Cert.MixFold

open Cert.MixKernelIdeal Cert.MixKernelIdeal.Gen Idealize.ShloMosaic Idealize.ShloMosaic.TcCoe Idealize.SL.Sem
open Cert.MixProducts Cert.MixGate

variable (m : (ℓ : Loc nD τ sig) → Buf (Elt Ideal) ℓ) (ρ : Dev nD → PrngReg) (c : Dev nD)

/-- The normalised array, from the launch memory. -/
abbrev yn : Vec Ideal S2176x2048 .bf16 := N0 (m ((c : Thread nD τ).loc main_arg0)) (m ((c : Thread nD τ).loc main_arg1)) (m ((c : Thread nD τ).loc main_arg2))

theorem v0_at1 : V1 m ρ c main_v0 = yn m c := by
  refine (W1_arr m ρ c 3).trans ((MixGate.array0 (V0 m ρ) c).trans ?_)
  rw [show V0 m ρ c main_arg0 = _ from W0_args m ρ c main_arg0 (by decide), show V0 m ρ c main_arg1 = _ from W0_args m ρ c main_arg1 (by decide),
    show V0 m ρ c main_arg2 = _ from W0_args m ρ c main_arg2 (by decide)]
theorem v0_at2 : V2 m ρ c main_v0 = yn m c := (W2_of m ρ c main_v0 (by decide)).trans (v0_at1 m ρ c)
theorem v0_at3 : V3 m ρ c main_v0 = yn m c := (W3_of m ρ c main_v0 (by decide)).trans (v0_at2 m ρ c)

theorem v1_at2 : V2 m ρ c main_v1 = nn_2048_2048_1024 (yn m c) (m ((c : Thread nD τ).loc main_arg3)) := by
  refine (W2_arr m ρ c 2).trans ((array1 (V1 m ρ) c).trans ?_)
  rw [v0_at1 m ρ c,
    show V1 m ρ c main_arg3 = _ from W1_args m ρ c main_arg3 (by decide)]
theorem v1_end : V13 m ρ c main_v1 = nn_2048_2048_1024 (yn m c) (m ((c : Thread nD τ).loc main_arg3)) :=
  (W13_of m ρ c main_v1 (by decide)).trans ((W12_of m ρ c main_v1 (by decide)).trans ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (v1_at2 m ρ c)))))))))))

theorem v2_at3 : V3 m ρ c main_v2 = nt_1024_2048_1024 (m ((c : Thread nD τ).loc main_arg4)) (m ((c : Thread nD τ).loc main_arg3)) := by
  refine (W3_arr m ρ c 2).trans ((array2 (V2 m ρ) c).trans ?_)
  rw [show V2 m ρ c main_arg4 = _ from W2_args m ρ c main_arg4 (by decide),
    show V2 m ρ c main_arg3 = _ from W2_args m ρ c main_arg3 (by decide)]
theorem v2_end : V13 m ρ c main_v2 = nt_1024_2048_1024 (m ((c : Thread nD τ).loc main_arg4)) (m ((c : Thread nD τ).loc main_arg3)) :=
  (W13_of m ρ c main_v2 (by decide)).trans ((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans (v2_at3 m ρ c))))))))))

theorem v3_at4 : V4 m ρ c main_v3 = tn_2048_1024 (yn m c) (m ((c : Thread nD τ).loc main_arg4)) := by
  refine (W4_arr m ρ c 2).trans ((array3 (V3 m ρ) c).trans ?_)
  rw [v0_at3 m ρ c,
    show V3 m ρ c main_arg4 = _ from W3_args m ρ c main_arg4 (by decide)]
theorem v3_end : V13 m ρ c main_v3 = tn_2048_1024 (yn m c) (m ((c : Thread nD τ).loc main_arg4)) :=
  (W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans (v3_at4 m ρ c)))))))))

theorem v4_at5 : V5 m ρ c main_v4 = nn_1024_1024_512 (m ((c : Thread nD τ).loc main_arg7)) (m ((c : Thread nD τ).loc main_arg8)) := by
  refine (W5_arr m ρ c 2).trans ((array4 (V4 m ρ) c).trans ?_)
  rw [show V4 m ρ c main_arg7 = _ from W4_args m ρ c main_arg7 (by decide),
    show V4 m ρ c main_arg8 = _ from W4_args m ρ c main_arg8 (by decide)]
theorem v4_end : V13 m ρ c main_v4 = nn_1024_1024_512 (m ((c : Thread nD τ).loc main_arg7)) (m ((c : Thread nD τ).loc main_arg8)) :=
  (W13_of m ρ c main_v4 (by decide)).trans ((W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans (v4_at5 m ρ c))))))))

theorem v5_at6 : V6 m ρ c main_v5 = nn_1024_1024_1024 (m ((c : Thread nD τ).loc main_arg5)) (m ((c : Thread nD τ).loc main_arg6)) := by
  refine (W6_arr m ρ c 2).trans ((array5 (V5 m ρ) c).trans ?_)
  rw [show V5 m ρ c main_arg5 = _ from W5_args m ρ c main_arg5 (by decide),
    show V5 m ρ c main_arg6 = _ from W5_args m ρ c main_arg6 (by decide)]
theorem v5_end : V13 m ρ c main_v5 = nn_1024_1024_1024 (m ((c : Thread nD τ).loc main_arg5)) (m ((c : Thread nD τ).loc main_arg6)) :=
  (W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans (v5_at6 m ρ c)))))))

theorem v6_at7 : V7 m ρ c main_v6 = nn_1024_1024_1024 (m ((c : Thread nD τ).loc main_arg9)) (m ((c : Thread nD τ).loc main_arg10)) := by
  refine (W7_arr m ρ c 2).trans ((array6 (V6 m ρ) c).trans ?_)
  rw [show V6 m ρ c main_arg9 = _ from W6_args m ρ c main_arg9 (by decide),
    show V6 m ρ c main_arg10 = _ from W6_args m ρ c main_arg10 (by decide)]
theorem v6_end : V13 m ρ c main_v6 = nn_1024_1024_1024 (m ((c : Thread nD τ).loc main_arg9)) (m ((c : Thread nD τ).loc main_arg10)) :=
  (W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans (v6_at7 m ρ c))))))

theorem v7_at8 : V8 m ρ c main_v7 = nt_1024_1024_1024 (m ((c : Thread nD τ).loc main_arg11)) (m ((c : Thread nD τ).loc main_arg10)) := by
  refine (W8_arr m ρ c 2).trans ((array7 (V7 m ρ) c).trans ?_)
  rw [show V7 m ρ c main_arg11 = _ from W7_args m ρ c main_arg11 (by decide),
    show V7 m ρ c main_arg10 = _ from W7_args m ρ c main_arg10 (by decide)]
theorem v7_end : V13 m ρ c main_v7 = nt_1024_1024_1024 (m ((c : Thread nD τ).loc main_arg11)) (m ((c : Thread nD τ).loc main_arg10)) :=
  (W13_of m ρ c main_v7 (by decide)).trans ((W12_of m ρ c main_v7 (by decide)).trans ((W11_of m ρ c main_v7 (by decide)).trans ((W10_of m ρ c main_v7 (by decide)).trans ((W9_of m ρ c main_v7 (by decide)).trans (v7_at8 m ρ c)))))

theorem v8_at9 : V9 m ρ c main_v8 = tn_1024_1024 (m ((c : Thread nD τ).loc main_arg9)) (m ((c : Thread nD τ).loc main_arg11)) := by
  refine (W9_arr m ρ c 2).trans ((array8 (V8 m ρ) c).trans ?_)
  rw [show V8 m ρ c main_arg9 = _ from W8_args m ρ c main_arg9 (by decide),
    show V8 m ρ c main_arg11 = _ from W8_args m ρ c main_arg11 (by decide)]
theorem v8_end : V13 m ρ c main_v8 = tn_1024_1024 (m ((c : Thread nD τ).loc main_arg9)) (m ((c : Thread nD τ).loc main_arg11)) :=
  (W13_of m ρ c main_v8 (by decide)).trans ((W12_of m ρ c main_v8 (by decide)).trans ((W11_of m ρ c main_v8 (by decide)).trans ((W10_of m ρ c main_v8 (by decide)).trans (v8_at9 m ρ c))))

theorem v9_at10 : V10 m ρ c main_v9 = nt_1024_1024_1024 (m ((c : Thread nD τ).loc main_arg12)) (m ((c : Thread nD τ).loc main_arg6)) := by
  refine (W10_arr m ρ c 2).trans ((array9 (V9 m ρ) c).trans ?_)
  rw [show V9 m ρ c main_arg12 = _ from W9_args m ρ c main_arg12 (by decide),
    show V9 m ρ c main_arg6 = _ from W9_args m ρ c main_arg6 (by decide)]
theorem v9_end : V13 m ρ c main_v9 = nt_1024_1024_1024 (m ((c : Thread nD τ).loc main_arg12)) (m ((c : Thread nD τ).loc main_arg6)) :=
  (W13_of m ρ c main_v9 (by decide)).trans ((W12_of m ρ c main_v9 (by decide)).trans ((W11_of m ρ c main_v9 (by decide)).trans (v9_at10 m ρ c)))

theorem v10_at11 : V11 m ρ c main_v10 = tn_1024_1024 (m ((c : Thread nD τ).loc main_arg5)) (m ((c : Thread nD τ).loc main_arg12)) := by
  refine (W11_arr m ρ c 2).trans ((array10 (V10 m ρ) c).trans ?_)
  rw [show V10 m ρ c main_arg5 = _ from W10_args m ρ c main_arg5 (by decide),
    show V10 m ρ c main_arg12 = _ from W10_args m ρ c main_arg12 (by decide)]
theorem v10_end : V13 m ρ c main_v10 = tn_1024_1024 (m ((c : Thread nD τ).loc main_arg5)) (m ((c : Thread nD τ).loc main_arg12)) :=
  (W13_of m ρ c main_v10 (by decide)).trans ((W12_of m ρ c main_v10 (by decide)).trans (v10_at11 m ρ c))

theorem v11_at12 : V12 m ρ c main_v11 = nt_512_1024_512 (m ((c : Thread nD τ).loc main_arg13)) (m ((c : Thread nD τ).loc main_arg8)) := by
  refine (W12_arr m ρ c 2).trans ((array11 (V11 m ρ) c).trans ?_)
  rw [show V11 m ρ c main_arg13 = _ from W11_args m ρ c main_arg13 (by decide),
    show V11 m ρ c main_arg8 = _ from W11_args m ρ c main_arg8 (by decide)]
theorem v11_end : V13 m ρ c main_v11 = nt_512_1024_512 (m ((c : Thread nD τ).loc main_arg13)) (m ((c : Thread nD τ).loc main_arg8)) :=
  (W13_of m ρ c main_v11 (by decide)).trans (v11_at12 m ρ c)

theorem v12_at13 : V13 m ρ c main_v12 = tn_1024_512 (m ((c : Thread nD τ).loc main_arg7)) (m ((c : Thread nD τ).loc main_arg13)) := by
  refine (W13_arr m ρ c 2).trans ((array12 (V12 m ρ) c).trans ?_)
  rw [show V12 m ρ c main_arg7 = _ from W12_args m ρ c main_arg7 (by decide),
    show V12 m ρ c main_arg13 = _ from W12_args m ρ c main_arg13 (by decide)]
theorem v12_end : V13 m ρ c main_v12 = tn_1024_512 (m ((c : Thread nD τ).loc main_arg7)) (m ((c : Thread nD τ).loc main_arg13)) :=
  v12_at13 m ρ c

end Cert.MixFold

end
-- ==== Proof.Mix.Equation.lean ====
/- The twelve results are the reference's: the normalised array is the reference's, whatever the arguments hold, and
   each product is the reference's product or derivative of a product. -/
module

public import proofs.«01_k».proof.Proof.Mix.Products
public import proofs.«01_k».proof.Proof.Mix.Gate
public import proofs.«01_k».proof.Proof.Gen.MixReferenceIdeal.Read

@[expose] public section

noncomputable section

namespace Cert.MixEquation

open Cert.MixKernelIdeal Idealize.ShloMosaic Idealize.ShloMosaic.TcCoe Idealize.SL.Sem
open Idealize.ShloMosaic.Pointwise Cert.ConvGate Cert.MixProducts Cert.MixGate
open Cert.MixReferenceIdeal.Read

variable (A0 : (⟨S2176x2048, .f32⟩ : BufTy).Contents (Elt Ideal)) (A1 : (⟨S2176x2048, .f32⟩ : BufTy).Contents (Elt Ideal)) (A2 : (⟨S1x2048, .f32⟩ : BufTy).Contents (Elt Ideal)) (A3 : (⟨S2048x1024, .bf16⟩ : BufTy).Contents (Elt Ideal)) (A4 : (⟨S2176x1024, .bf16⟩ : BufTy).Contents (Elt Ideal)) (A5 : (⟨S2176x1024, .bf16⟩ : BufTy).Contents (Elt Ideal)) (A6 : (⟨S1024x1024, .bf16⟩ : BufTy).Contents (Elt Ideal)) (A7 : (⟨S2176x1024, .bf16⟩ : BufTy).Contents (Elt Ideal)) (A8 : (⟨S1024x512, .bf16⟩ : BufTy).Contents (Elt Ideal)) (A9 : (⟨S2176x1024, .bf16⟩ : BufTy).Contents (Elt Ideal)) (A10 : (⟨S1024x1024, .bf16⟩ : BufTy).Contents (Elt Ideal)) (A11 : (⟨S2176x1024, .bf16⟩ : BufTy).Contents (Elt Ideal)) (A12 : (⟨S2176x1024, .bf16⟩ : BufTy).Contents (Elt Ideal)) (A13 : (⟨S2176x512, .bf16⟩ : BufTy).Contents (Elt Ideal))

theorem sig (p : Fin 2176) (k : Fin 2048) : val_main_call0_v5 (F := Ideal) A1 (ix2 p k) = Ideal.logistic (A1 (ix2 p k)) := by
  unfold val_main_call0_v5 val_main_call0_v4 val_main_call0_cst_0 val_main_call0_v3 val_main_call0_v2 val_main_call0_cst val_main_call0_v1 val_main_call0_v0
  pointwise
  try rfl

theorem gated (p : Fin 2176) (k : Fin 2048) : val_main_v1 (F := Ideal) A0 A1 (ix2 p k)
    = gatedRow (fun k => A0 (ix2 p k)) (fun k => A1 (ix2 p k)) k := by
  unfold val_main_v1 val_main_v0
  pointwise [sig]
  unfold gatedRow
  rw [mul_assoc]

theorem rooted (p : Fin 2176) (o : Fin 1) : val_main_v9 (F := Ideal) A0 A1 (ix2 p o)
    = scale (fun k => A0 (ix2 p k)) (fun k => A1 (ix2 p k)) := by
  unfold val_main_v9 val_main_v8 val_main_v7 val_main_cst_1 val_main_v6 val_main_v5 val_main_cst_0 val_main_v4 val_main_v3 val_main_cst val_main_v2
  pointwise [gated]
  unfold scale
  simp only [zero_add]
  try rfl

theorem yn_eq : val_main_v13 (F := Ideal) A0 A1 A2 = N0 A0 A1 A2 := by
  funext i
  obtain ⟨p, q, rfl⟩ : ∃ (p : Fin 2176) (q : Fin 2048), i = ix2 p q := ⟨i 0, i 1, by funext a; fin_cases a <;> rfl⟩
  unfold val_main_v13 val_main_v12 val_main_v11 val_main_v10
  pointwise [gated, rooted]
  rfl

theorem eq1 : nn_2048_2048_1024 (N0 A0 A1 A2) A3 = val_main_v15 (F := Ideal) A0 A1 A2 A3 := by
  funext i
  obtain ⟨p, q, rfl⟩ : ∃ (p : Fin 2176) (q : Fin 1024), i = ix2 p q := ⟨i 0, i 1, by funext a; fin_cases a <;> rfl⟩
  symm
  unfold val_main_v15 val_main_v14 nn_2048_2048_1024
  rw [yn_eq]
  generalize N0 A0 A1 A2 = n
  pointwise
  try rfl

theorem eq2 : nt_1024_2048_1024 A4 A3 = val_main_v19 (F := Ideal) A3 A4 := by
  funext i
  obtain ⟨p, q, rfl⟩ : ∃ (p : Fin 2176) (q : Fin 2048), i = ix2 p q := ⟨i 0, i 1, by funext a; fin_cases a <;> rfl⟩
  symm
  unfold val_main_v19 val_main_v16 val_main_v14 nt_1024_2048_1024
  pointwise
  try rfl

theorem eq3 : tn_2048_1024 (N0 A0 A1 A2) A4 = val_main_v20 (F := Ideal) A0 A1 A2 A4 := by
  funext i
  obtain ⟨p, q, rfl⟩ : ∃ (p : Fin 2048) (q : Fin 1024), i = ix2 p q := ⟨i 0, i 1, by funext a; fin_cases a <;> rfl⟩
  symm
  unfold val_main_v20 val_main_v18 val_main_v17 val_main_v16 tn_2048_1024
  rw [yn_eq]
  generalize N0 A0 A1 A2 = n
  pointwise
  exact Finset.sum_congr rfl fun k _ => mul_comm (G := EReal) _ _

theorem eq4 : nn_1024_1024_512 A7 A8 = val_main_v23 (F := Ideal) A7 A8 := by
  funext i
  obtain ⟨p, q, rfl⟩ : ∃ (p : Fin 2176) (q : Fin 512), i = ix2 p q := ⟨i 0, i 1, by funext a; fin_cases a <;> rfl⟩
  symm
  unfold val_main_v23 val_main_v21 val_main_v22 nn_1024_1024_512
  pointwise
  try rfl

theorem eq5 : nn_1024_1024_1024 A5 A6 = val_main_v31 (F := Ideal) A5 A6 := by
  funext i
  obtain ⟨p, q, rfl⟩ : ∃ (p : Fin 2176) (q : Fin 1024), i = ix2 p q := ⟨i 0, i 1, by funext a; fin_cases a <;> rfl⟩
  symm
  unfold val_main_v31 val_main_v29 val_main_v30 nn_1024_1024_1024
  pointwise
  try rfl

theorem eq6 : nn_1024_1024_1024 A9 A10 = val_main_v39 (F := Ideal) A9 A10 := by
  funext i
  obtain ⟨p, q, rfl⟩ : ∃ (p : Fin 2176) (q : Fin 1024), i = ix2 p q := ⟨i 0, i 1, by funext a; fin_cases a <;> rfl⟩
  symm
  unfold val_main_v39 val_main_v37 val_main_v38 nn_1024_1024_1024
  pointwise
  try rfl

theorem eq7 : nt_1024_1024_1024 A11 A10 = val_main_v43 (F := Ideal) A10 A11 := by
  funext i
  obtain ⟨p, q, rfl⟩ : ∃ (p : Fin 2176) (q : Fin 1024), i = ix2 p q := ⟨i 0, i 1, by funext a; fin_cases a <;> rfl⟩
  symm
  unfold val_main_v43 val_main_v40 val_main_v38 nt_1024_1024_1024
  pointwise
  try rfl

theorem eq8 : tn_1024_1024 A9 A11 = val_main_v44 (F := Ideal) A9 A11 := by
  funext i
  obtain ⟨p, q, rfl⟩ : ∃ (p : Fin 1024) (q : Fin 1024), i = ix2 p q := ⟨i 0, i 1, by funext a; fin_cases a <;> rfl⟩
  symm
  unfold val_main_v44 val_main_v42 val_main_v41 val_main_v40 val_main_v37 tn_1024_1024
  pointwise
  exact Finset.sum_congr rfl fun k _ => mul_comm (G := EReal) _ _

theorem eq9 : nt_1024_1024_1024 A12 A6 = val_main_v35 (F := Ideal) A6 A12 := by
  funext i
  obtain ⟨p, q, rfl⟩ : ∃ (p : Fin 2176) (q : Fin 1024), i = ix2 p q := ⟨i 0, i 1, by funext a; fin_cases a <;> rfl⟩
  symm
  unfold val_main_v35 val_main_v32 val_main_v30 nt_1024_1024_1024
  pointwise
  try rfl

theorem eq10 : tn_1024_1024 A5 A12 = val_main_v36 (F := Ideal) A5 A12 := by
  funext i
  obtain ⟨p, q, rfl⟩ : ∃ (p : Fin 1024) (q : Fin 1024), i = ix2 p q := ⟨i 0, i 1, by funext a; fin_cases a <;> rfl⟩
  symm
  unfold val_main_v36 val_main_v34 val_main_v33 val_main_v32 val_main_v29 tn_1024_1024
  pointwise
  exact Finset.sum_congr rfl fun k _ => mul_comm (G := EReal) _ _

theorem eq11 : nt_512_1024_512 A13 A8 = val_main_v27 (F := Ideal) A8 A13 := by
  funext i
  obtain ⟨p, q, rfl⟩ : ∃ (p : Fin 2176) (q : Fin 1024), i = ix2 p q := ⟨i 0, i 1, by funext a; fin_cases a <;> rfl⟩
  symm
  unfold val_main_v27 val_main_v24 val_main_v22 nt_512_1024_512
  pointwise
  try rfl

theorem eq12 : tn_1024_512 A7 A13 = val_main_v28 (F := Ideal) A7 A13 := by
  funext i
  obtain ⟨p, q, rfl⟩ : ∃ (p : Fin 1024) (q : Fin 512), i = ix2 p q := ⟨i 0, i 1, by funext a; fin_cases a <;> rfl⟩
  symm
  unfold val_main_v28 val_main_v26 val_main_v25 val_main_v24 val_main_v21 tn_1024_512
  pointwise
  exact Finset.sum_congr rfl fun k _ => mul_comm (G := EReal) _ _

end Cert.MixEquation

end
-- ==== Proof.In.Run.lean ====
/- The run of the five kernel calls of the mixer's entry: every buffer of the device that outlives a call ends at the
   contents of the last boundary, which is a
   fold of the calls and of the one copy between them from the launch memory. Stated over any numbers. -/
module

public import proofs.«01_k».proof.Proof.Gen.InKernelIdeal.Frame

@[expose] public section

set_option maxRecDepth 16384

noncomputable section

namespace Cert.InRun

open Cert.InKernelIdeal Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one
set_option backward.isDefEq.respectTransparency.types false in
/-- Every execution ends, and every buffer holds what the last boundary says. -/
theorem run : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The six results and the eight arguments, at the end of the run. -/
theorem results : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_v1) = W6 m ρ c (Proc.devRef .tc main_v1)
      ∧ r.2.mem ((c.tc : Thread nD τ).loc main_v4) = W6 m ρ c (Proc.devRef .tc main_v4)
      ∧ r.2.mem ((c.tc : Thread nD τ).loc main_v3) = W6 m ρ c (Proc.devRef .tc main_v3)
      ∧ r.2.mem ((c.tc : Thread nD τ).loc main_v2_1) = W6 m ρ c (Proc.devRef .tc main_v2_1)
      ∧ r.2.mem ((c.tc : Thread nD τ).loc main_v2_2) = W6 m ρ c (Proc.devRef .tc main_v2_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v0 (by decide)),
     h c _ (mem_uc main_v1 (by decide)),
     h c _ (mem_uc main_v4 (by decide)),
     h c _ (mem_uc main_v3 (by decide)),
     h c _ (mem_uc main_v2_1 (by decide)),
     h c _ (mem_uc main_v2_2 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run m ρ)

end Cert.InRun

end
-- ==== Proof.In.Products.lean ====
/- The three products of the mixer's entry, as whole arrays: each call's result array at the end of its grid is the
   product of the arrays it was handed, whatever they hold. -/
module

public import proofs.«01_k».proof.Proof.Gen.InKernelIdeal.Frame
public import Idealize.ShloMosaic.Lib.Pipeline.Value
public import Idealize.ShloMosaic.Lib.Pipeline.ValueKit.Point

@[expose] public section

noncomputable section

namespace Cert.InProducts

open Cert.InKernelIdeal Cert.InKernelIdeal.Gen Idealize.ShloMosaic Idealize.ShloMosaic.TcCoe Idealize.SL.Sem
open Idealize.ShloMosaic.Pointwise
open Idealize.ShloMosaic.Pipeline (Dat)

/-- Two sums of products whose factors agree. -/
theorem sum_pair {n : ℕ} {f f' g g' : Fin n → EReal} (hf : ∀ k, f k = f' k) (hg : ∀ k, g k = g' k) :
    ∑ k, f k * g k = ∑ k, f' k * g' k :=
  Finset.sum_congr rfl fun k _ => by rw [hf, hg]

/-! ## One block -/

theorem block0 (a : Vec Ideal S2176x1024 .bf16) (b : Vec Ideal S1024x512 .bf16) (p : Fin 2176) (q : Fin 512) :
    out0_2 a b (ix2 p q : S2176x512.Idx) = ∑ k : Fin 1024, a (ix2 p k : S2176x1024.Idx) * b (ix2 k q : S1024x512.Idx) := by
  frame_out
  pointwise [k0_pay1]

theorem block3 (a : Vec Ideal S2176x512 .bf16) (b : Vec Ideal S2176x1408 .bf16) (p : Fin 512) (q : Fin 1408) :
    out3_2 a b (ix2 p q : S512x1408.Idx) = ∑ k : Fin 2176, a (ix2 k p : S2176x512.Idx) * b (ix2 k q : S2176x1408.Idx) := by
  frame_out
  pointwise [k3_pay1]

theorem block4 (a : Vec Ideal S544x5632 .bf16) (b : Vec Ideal S1024x5632 .bf16) (p : Fin 544) (q : Fin 1024) :
    out4_2 a b (ix2 p q : S544x1024.Idx) = ∑ k : Fin 5632, a (ix2 p k : S544x5632.Idx) * b (ix2 q k : S1024x5632.Idx) := by
  frame_out
  pointwise [k4_pay1]

/-! ## The products -/

/-- Rows by columns. -/
def nn (A : Vec Ideal S2176x1024 .bf16) (B : Vec Ideal S1024x5632 .bf16) : Vec Ideal S2176x5632 .f32 :=
  fun i => ∑ k : Fin 1024, A (ix2 (i 0) k : S2176x1024.Idx) * B (ix2 k (i 1) : S1024x5632.Idx)
/-- Columns by columns. -/
def tn (A : Vec Ideal S2176x1024 .bf16) (B : Vec Ideal S2176x5632 .bf16) : Vec Ideal S1024x5632 .bf16 :=
  fun i => ∑ k : Fin 2176, A (ix2 k (i 0) : S2176x1024.Idx) * B (ix2 k (i 1) : S2176x5632.Idx)
/-- Rows by rows. -/
def nt (A : Vec Ideal S2176x5632 .bf16) (B : Vec Ideal S1024x5632 .bf16) : Vec Ideal S2176x1024 .f32 :=
  fun i => ∑ k : Fin 5632, A (ix2 (i 0) k : S2176x5632.Idx) * B (ix2 (i 1) k : S1024x5632.Idx)

/-! ## The whole arrays -/

variable (V : (c : Dev nD) → (b : Ref sig .tc) → Buf (Elt Ideal) ((c : Thread nD τ).loc b)) (c : Dev nD)

theorem e0_0 : ∀ t : Fin cfg0.N, win0_0.index t = ![0, 0] := (by decide +kernel : ∀ t : Fin grid0.N, win0_0.index t = ![0, 0])
theorem e0_1 : ∀ t : Fin cfg0.N, win0_1.index t = ![0, t.val] := (by decide +kernel : ∀ t : Fin grid0.N, win0_1.index t = ![0, t.val])
theorem e0_2 : ∀ t : Fin cfg0.N, win0_2.index t = ![0, t.val] := (by decide +kernel : ∀ t : Fin grid0.N, win0_2.index t = ![0, t.val])
theorem e3_0 : ∀ t : Fin cfg3.N, win3_0.index t = ![0, t.val / 4] := (by decide +kernel : ∀ t : Fin grid3.N, win3_0.index t = ![0, t.val / 4])
theorem e3_1 : ∀ t : Fin cfg3.N, win3_1.index t = ![0, t.val % 4] := (by decide +kernel : ∀ t : Fin grid3.N, win3_1.index t = ![0, t.val % 4])
theorem e3_2 : ∀ t : Fin cfg3.N, win3_2.index t = ![t.val / 4, t.val % 4] := (by decide +kernel : ∀ t : Fin grid3.N, win3_2.index t = ![t.val / 4, t.val % 4])
theorem e4_0 : ∀ t : Fin cfg4.N, win4_0.index t = ![t.val, 0] := (by decide +kernel : ∀ t : Fin grid4.N, win4_0.index t = ![t.val, 0])
theorem e4_1 : ∀ t : Fin cfg4.N, win4_1.index t = ![0, 0] := (by decide +kernel : ∀ t : Fin grid4.N, win4_1.index t = ![0, 0])
theorem e4_2 : ∀ t : Fin cfg4.N, win4_2.index t = ![t.val, 0] := (by decide +kernel : ∀ t : Fin grid4.N, win4_2.index t = ![t.val, 0])

theorem array0 : (dat0 V c).arrAt 2 cfg0.N = nn (V c main_arg0) (V c main_arg1) := by
  refine (dat0 V c).arrAt_eq_of_covers 2 _ (by decide +kernel) fun t hf y => ?_
  blk_simp
  rw [after0_2]
  obtain ⟨p, q, rfl⟩ : ∃ (p : Fin 2176) (q : Fin 512), y = ix2 p q := ⟨y 0, y 1, by funext a; fin_cases a <;> rfl⟩
  rw [block0]
  unfold nn
  refine sum_pair (fun k => ?_) (fun k => ?_) <;> blk_ext [iblk0, e0_0 t, e0_1 t, e0_2 t]

theorem array3 : (dat3 V c).arrAt 2 cfg3.N = tn (V c main_arg0) (V c main_v2_0) := by
  refine (dat3 V c).arrAt_eq_of_covers 2 _ (by decide +kernel) fun t hf y => ?_
  have ht : t.val < 8 := t.isLt
  blk_simp
  rw [after3_2]
  obtain ⟨p, q, rfl⟩ : ∃ (p : Fin 512) (q : Fin 1408), y = ix2 p q := ⟨y 0, y 1, by funext a; fin_cases a <;> rfl⟩
  rw [block3]
  unfold tn
  refine sum_pair (fun k => ?_) (fun k => ?_) <;> blk_ext [iblk3, e3_0 t, e3_1 t, e3_2 t]

theorem array4 : (dat4 V c).arrAt 2 cfg4.N = nt (V c main_v2_0) (V c main_arg1) := by
  refine (dat4 V c).arrAt_eq_of_covers 2 _ (by decide +kernel) fun t hf y => ?_
  blk_simp
  rw [after4_2]
  obtain ⟨p, q, rfl⟩ : ∃ (p : Fin 544) (q : Fin 1024), y = ix2 p q := ⟨y 0, y 1, by funext a; fin_cases a <;> rfl⟩
  rw [block4]
  unfold nt
  refine sum_pair (fun k => ?_) (fun k => ?_) <;> blk_ext [iblk4, e4_0 t, e4_1 t, e4_2 t]

end Cert.InProducts

end
-- ==== Proof.In.Spec.lean ====
/- The four-tap causal convolution of a column and its gated value's gradient, over the extended reals: the column
   functions of Ffn/Spec.lean at four taps and without a value half. Nothing here mentions a program. -/
module

public import proofs.«01_k».proof.Proof.Ffn.Spec

@[expose] public section

noncomputable section

namespace Cert.ConvSilu

open Idealize.ShloMosaic Cert.ConvGate

variable {n : ℕ}

/-- The causal convolution of a column with four taps, and a bias. -/
def conv4 (w : Fin 4 → EReal) (b : EReal) (x : Fin n → EReal) (r : Fin n) : EReal :=
  w 0 * down 3 x r + w 1 * down 2 x r + w 2 * down 1 x r + w 3 * x r + b

/-- The gated value of one number. -/
def silu (u : EReal) : EReal := u * Ideal.logistic u

/-- The gradient of `silu u` at the outer gradient `d`, factored. -/
def dsilu (d u : EReal) : EReal := d * Ideal.logistic u * (1 + u * (1 - Ideal.logistic u))

/-- The same gradient by the product rule, not factored. -/
def dsiluSum (d u : EReal) : EReal := d * Ideal.logistic u + u * d * (Ideal.logistic u * (1 - Ideal.logistic u))

/-- The gradient of the convolution in the column, at the gradient `y` of its result. -/
def back4 (w : Fin 4 → EReal) (y : Fin n → EReal) (r : Fin n) : EReal :=
  w 0 * up 3 y r + w 1 * up 2 y r + w 2 * up 1 y r + w 3 * y r

/-- The gradient of the convolution in tap `k`. -/
def tap4 (k : Fin 4) (x y : Fin n → EReal) : EReal := ∑ r, y r * down (3 - k.val) x r

theorem real_conv4 {w : Fin 4 → EReal} {b : EReal} {x : Fin n → EReal} (hw : ∀ k, Real' (w k)) (hb : Real' b)
    (h : ∀ r, Real' (x r)) (r : Fin n) : Real' (conv4 w b x r) :=
  (((((hw 0).mul (real_down h r)).add ((hw 1).mul (real_down h r))).add ((hw 2).mul (real_down h r))).add
    ((hw 3).mul (h r))).add hb

/-- At real arguments the two forms of the gradient agree. -/
theorem dsilu_eq_sum {d u : EReal} (hd : Real' d) (hu : Real' u) : dsilu d u = dsiluSum d u := by
  obtain ⟨d, rfl⟩ := hd; obtain ⟨u, rfl⟩ := hu
  unfold dsilu dsiluSum
  rw [Ideal.logistic_coe]
  generalize ((1 + Real.exp (-u))⁻¹ : ℝ) = s
  rw [← EReal.coe_one]
  simp only [← EReal.coe_mul, ← EReal.coe_add, ← EReal.coe_sub]
  congr 1; ring

end Cert.ConvSilu

end
-- ==== Proof.In.Columns.lean ====
/- The mixer's entry by columns, as functions of whole arrays: the product Z (whose columns 2048 … 5119 are convolved), the
   taps W, the bias B, the outer gradients D1, D2, D3 (of the 2048, 512 and 512 columns of the gated convolution) and an
   array X whose other columns are kept. Nothing here mentions a program. -/
module

public import Idealize.ShloMosaic.Lib.Pipeline.ValueKit.Point
public import proofs.«01_k».proof.Proof.In.Spec

@[expose] public section

noncomputable section

namespace Cert.InColumns

open Idealize.ShloMosaic Idealize.ShloMosaic.Pointwise Cert.ConvGate Cert.ConvSilu

/-- Column `C` of the convolution, among the columns of the product. -/
def wide (C : Fin 3072) : Fin 5632 := ⟨2048 + C.val, by have := C.isLt; omega⟩

variable (Z : Vec Ideal (⟨2, ![2176, 5632]⟩ : Shape) .f32) (W : Vec Ideal (⟨2, ![4, 3072]⟩ : Shape) .f32)
  (B : Vec Ideal (⟨2, ![1, 3072]⟩ : Shape) .f32) (D1 : Vec Ideal (⟨2, ![2176, 2048]⟩ : Shape) .f32)
  (D2 D3 : Vec Ideal (⟨2, ![2176, 512]⟩ : Shape) .f32) (X : Vec Ideal (⟨2, ![2176, 5632]⟩ : Shape) .bf16)

/-- The input's column. -/
def ucol (C : Fin 3072) : Fin 2176 → EReal := fun q => Z (ix2 q (wide C))
/-- The taps of a column. -/
def wcol (C : Fin 3072) : Fin 4 → EReal := fun k => W (ix2 k C)
/-- The bias of a column. -/
def bcol (C : Fin 3072) : EReal := B (ix2 0 C)
/-- The convolution. -/
def U (C : Fin 3072) : Fin 2176 → EReal := conv4 (wcol W C) (bcol B C) (ucol Z C)
/-- The gated convolution as one array. -/
def gatedConv : Vec Ideal (⟨2, ![2176, 3072]⟩ : Shape) .f32 := fun i => silu (U Z W B (i 1) (i 0))

/-- The outer gradient's column, from the three arrays. -/
def dcol (C : Fin 3072) : Fin 2176 → EReal := fun q =>
  if h : C.val < 2048 then D1 (ix2 q ⟨C.val, h⟩)
  else if h' : C.val < 2560 then D2 (ix2 q ⟨C.val - 2048, by omega⟩)
  else D3 (ix2 q ⟨C.val - 2560, by have := C.isLt; omega⟩)

/-- The gradient at the convolution's result, where `f` is the gradient of the gated value. -/
def Y (f : EReal → EReal → EReal) (C : Fin 3072) : Fin 2176 → EReal := fun q => f (dcol D1 D2 D3 C q) (U Z W B C q)

/-- The gradient of the product: the convolved columns' by the convolution, the others from `X`. -/
def inputGrad (f : EReal → EReal → EReal) : Vec Ideal (⟨2, ![2176, 5632]⟩ : Shape) .bf16 := fun i =>
  if h : 2048 ≤ (i 1).val ∧ (i 1).val < 5120
  then back4 (wcol W ⟨(i 1).val - 2048, by omega⟩) (Y Z W B D1 D2 D3 f ⟨(i 1).val - 2048, by omega⟩) (i 0)
  else X i
theorem inputGrad_wide (f : EReal → EReal → EReal) (r : Fin 2176) (C : Fin 3072) :
    inputGrad Z W B D1 D2 D3 X f (ix2 r (wide C)) = back4 (wcol W C) (Y Z W B D1 D2 D3 f C) r := by
  have hC := C.isLt
  have he : (⟨2048 + C.val - 2048, by omega⟩ : Fin 3072) = C := Fin.ext (Nat.add_sub_cancel_left ..)
  refine (dif_pos (show 2048 ≤ 2048 + C.val ∧ 2048 + C.val < 5120 by omega)).trans ?_
  exact congrArg (fun K => back4 (wcol W K) (Y Z W B D1 D2 D3 f K) r) he
/-- The gradient of the taps. -/
def tapGrad (f : EReal → EReal → EReal) : Vec Ideal (⟨2, ![4, 3072]⟩ : Shape) .f32 := fun i =>
  tap4 (i 0) (ucol Z (i 1)) (Y Z W B D1 D2 D3 f (i 1))
/-- The gradient of the bias. -/
def biasGrad (f : EReal → EReal → EReal) : Vec Ideal (⟨2, ![1, 3072]⟩ : Shape) .f32 := fun i =>
  ∑ q, Y Z W B D1 D2 D3 f (i 1) q

end Cert.InColumns

end
-- ==== Proof.In.Conv.lean ====
/- The forward gated convolution of the mixer's entry: what one grid point leaves in its block of 512 columns, and the
   whole array. Column C of the result is the gated value of the four-tap convolution of column 2048 + C of the product. -/
module

public import proofs.«01_k».proof.Proof.Gen.InKernelIdeal.Frame
public import Idealize.ShloMosaic.Lib.Pipeline.Value
public import Idealize.ShloMosaic.Lib.Pipeline.ValueKit.Point
public import proofs.«01_k».proof.Proof.Layer.Payloads
public import proofs.«01_k».proof.Proof.In.Columns

@[expose] public section

noncomputable section

namespace Cert.InConv

open Cert.InKernelIdeal Cert.InKernelIdeal.Gen Idealize.ShloMosaic Idealize.ShloMosaic.TcCoe Idealize.SL.Sem
open Idealize.ShloMosaic.Pointwise Cert.ConvGate Cert.ConvSilu Cert.InColumns
open Idealize.ShloMosaic.Pipeline (Dat)
open Cert.LayerBody (half_bits)

/-- The mask "row at least s", for a block of 512 columns. -/
theorem mask (s : ℕ) (hs : s < 2 ^ 31) (h1 h2) (r : Fin 2176) (l : Fin 512) :
    broadcastTo S2176x512 (shapeCast S2176x1 (cmpi .sge (iota .tc S2176x1 32 [0] iota_S2176x1_d0_w32)
      (broadcast S2176x1 (BitVec.ofNat 32 s))) h1) h2 (ix2 r l) = BitVec.ofBool (decide (s ≤ r.val)) := by
  pointwise
  have hr := r.isLt
  rw [WordCmp.cmpi_sge_ofNat (by omega) (by omega)]

/-- The rows of a block of 512 columns rotated by s and masked below: the column moved down. -/
theorem moved (s : ℕ) (hs : s < 2176) (x : FVec Ideal S2176x512 .f32) (m) (h) (r : Fin 2176) (l : Fin 512)
    (hm : m (ix2 r l) = BitVec.ofBool (decide (s ≤ r.val))) :
    select m (dynamicRotate (s := S2176x512) 0 (BitVec.ofNat 32 s) none x h)
      (broadcast S2176x512 (Scalar.ofBits (F := Ideal) .f32 0x00000000#32)) (ix2 r l)
      = down s (fun q => x (ix2 q l)) r := by
  have hrot : dynamicRotate (s := S2176x512) 0 (BitVec.ofNat 32 s) none x h (ix2 r l)
      = x (ix2 ⟨(r.val + 2176 - (BitVec.ofNat 32 s).toNat % 2176) % 2176, Nat.mod_lt _ (by norm_num)⟩ l) := by
    rw [Pointwise.dynamicRotate_apply]
    congr 1
    funext b
    match b with
    | ⟨0, _⟩ => rfl
    | ⟨1, _⟩ => rfl
  show Scalar.select (m (ix2 r l)) (dynamicRotate (s := S2176x512) 0 (BitVec.ofNat 32 s) none x h (ix2 r l))
    (Ideal.ofBits .f32 0x00000000#32) = _
  rw [hm, WordCmp.select_ofBool, hrot, Ideal.ofBits_zero_f32]
  unfold down
  have hr := r.isLt
  have hn : (BitVec.ofNat 32 s).toNat % 2176 = s := by
    rw [BitVec.toNat_ofNat, Nat.mod_eq_of_lt (show s < 2 ^ 32 by omega), Nat.mod_eq_of_lt hs]
  by_cases hc : s ≤ r.val
  · simp only [hc, decide_true, if_true]
    congr 2
    apply Fin.ext
    show (r.val + 2176 - (BitVec.ofNat 32 s).toNat % 2176) % 2176 = r.val - s
    rw [hn]; omega
  · simp only [hc, decide_false, if_false, Bool.false_eq_true]

/-- A lane of a block, as a column. -/
abbrev col (x : Vec Ideal S2176x512 .f32) (l : Fin 512) : Fin 2176 → EReal := fun q => x (ix2 q l)
/-- A lane of a block of taps. -/
abbrev taps (w : Vec Ideal S4x512 .f32) (l : Fin 512) : Fin 4 → EReal := fun k => w (ix2 k l)

section
variable (x : Vec Ideal S2176x512 .f32) (r : Fin 2176) (l : Fin 512)

theorem pay2_apply : k1_pay2 x = x := shapeCast_self x _

theorem pay3_apply : k1_pay3 x (ix2 r l) = down 1 (col x l) r :=
  (moved 1 (by norm_num) (k1_pay2 x) _ _ r l (mask 1 (by norm_num) _ _ r l)).trans (by rw [pay2_apply])

theorem pay4_apply (w0 w1 : Vec Ideal S1x512 .f32) : k1_pay4 x w0 w1 (ix2 r l)
    = w0 (ix2 0 l) * down 3 (col x l) r + w1 (ix2 0 l) * down 2 (col x l) r := by
  have a3 := moved 3 (by norm_num) (k1_pay2 x) _ rotates_S2176x512_d0 r l
    (mask 3 (by norm_num) shapeCasts_S2176x1_S2176x1 broadcasts_S2176x1_S2176x512 r l)
  have a2 := moved 2 (by norm_num) (k1_pay2 x) _ rotates_S2176x512_d0 r l
    (mask 2 (by norm_num) shapeCasts_S2176x1_S2176x1 broadcasts_S2176x1_S2176x512 r l)
  rw [pay2_apply] at a3 a2
  rw [show down 3 (col x l) r = _ from a3.symm, show down 2 (col x l) r = _ from a2.symm]
  unfold k1_pay4
  rw [pay2_apply]
  generalize select _ _ _ = z3
  generalize select _ _ _ = z2
  pointwise
  try rw [zero_add]

theorem pay1_apply (x0 x1 x2 : FVec Ideal S2176x512 .f32) (w2 : FVec Ideal S1x512 .bf16) (w3 b : Vec Ideal S1x512 .f32) :
    k1_pay1 x0 x1 x2 w2 w3 b (ix2 r l)
      = silu (x2 (ix2 r l) + w2 (ix2 0 l) * x1 (ix2 r l) + w3 (ix2 0 l) * x0 (ix2 r l) + b (ix2 0 l)) := by
  unfold silu
  rw [← logistic_eq_tanh]
  pointwise [k1_pay1, half_bits]

theorem ld0 (w : Vec Ideal S4x512 .f32) :
    View.ld w (Rect.unit (s := S4x512) ![0, 0] ![1, 512] inb_S4x512_S1x512_0_0) (ix2 0 l) = w (ix2 0 l) := by
  pointwise
theorem ld1 (w : Vec Ideal S4x512 .f32) :
    View.ld w (Rect.unit (s := S4x512) ![1, 0] ![1, 512] inb_S4x512_S1x512_1_0) (ix2 0 l) = w (ix2 1 l) := by
  pointwise
theorem ld2 (w : Vec Ideal S4x512 .f32) :
    View.ld w (Rect.unit (s := S4x512) ![2, 0] ![1, 512] inb_S4x512_S1x512_2_0) (ix2 0 l) = w (ix2 2 l) := by
  pointwise
theorem ld3 (w : Vec Ideal S4x512 .f32) :
    View.ld w (Rect.unit (s := S4x512) ![3, 0] ![1, 512] inb_S4x512_S1x512_3_0) (ix2 0 l) = w (ix2 3 l) := by
  pointwise
theorem block1 (w : Vec Ideal S4x512 .f32) (b : Vec Ideal S1x512 .f32) :
    out1_3 x w b (ix2 r l : S2176x512.Idx) = silu (conv4 (taps w l) (b (ix2 0 l)) (col x l) r) := by
  frame_out
  rw [pay1_apply, pay4_apply, pay3_apply, pay2_apply]
  unfold k1_pay5
  refine congrArg silu ?_
  unfold conv4
  refine congrArg₂ (· + ·) (congrArg₂ (· + ·) (congrArg₂ (· + ·) (congrArg₂ (· + ·) ?_ ?_) ?_) ?_) rfl
  · exact congrArg (· * _) (ld0 l w)
  · exact congrArg (· * _) (ld1 l w)
  · exact congrArg (· * _) (ld2 l w)
  · exact congrArg (· * _) (ld3 l w)
end

variable (V : (c : Dev nD) → (b : Ref sig .tc) → Buf (Elt Ideal) ((c : Thread nD τ).loc b)) (c : Dev nD)

theorem f0 : ∀ t : Fin cfg1.N, win1_0.index t = ![0, 4 + t.val] := (by decide +kernel : ∀ t : Fin grid1.N, win1_0.index t = ![0, 4 + t.val])
theorem f1 : ∀ t : Fin cfg1.N, win1_1.index t = ![0, t.val] := (by decide +kernel : ∀ t : Fin grid1.N, win1_1.index t = ![0, t.val])
theorem f2 : ∀ t : Fin cfg1.N, win1_2.index t = ![0, t.val] := (by decide +kernel : ∀ t : Fin grid1.N, win1_2.index t = ![0, t.val])
theorem f3 : ∀ t : Fin cfg1.N, win1_3.index t = ![0, t.val] := (by decide +kernel : ∀ t : Fin grid1.N, win1_3.index t = ![0, t.val])

/-- Lane `l` of point `t`. -/
def lane (t : Fin cfg1.N) (l : Fin 512) : Fin 3072 := ⟨t.val * 512 + l.val, by have h : t.val < 6 := t.isLt; have := l.isLt; omega⟩

theorem array1 : (dat1 V c).arrAt 3 cfg1.N = gatedConv (V c main_v0) (V c main_arg2) (V c main_arg3) := by
  refine (dat1 V c).arrAt_eq_of_covers 3 _ (by decide +kernel) fun t hf y => ?_
  blk_simp
  rw [after1_3]
  obtain ⟨r, l, rfl⟩ : ∃ (r : Fin 2176) (l : Fin 512), y = ix2 r l := ⟨y 0, y 1, by funext a; fin_cases a <;> rfl⟩
  rw [block1]
  have hi : (win1_3.blk t).view.emb (ix2 r l : S2176x512.Idx) = (ix2 r (lane t l) : S2176x3072.Idx) := by
    blk_point [f3 t, lane]
  rw [hi]
  have b0 : col (iblk1 V c 0 t) l = ucol (V c main_v0) (lane t l) := by
    funext q; unfold col ucol; blk_ext [iblk1, f0 t, wide, lane]
  have b1 : taps (iblk1 V c 1 t) l = wcol (V c main_arg2) (lane t l) := by
    funext q; unfold taps wcol; blk_ext [iblk1, f1 t, lane]
  have b2 : iblk1 V c 2 t (ix2 0 l : S1x512.Idx) = bcol (V c main_arg3) (lane t l) := by
    unfold bcol; blk_ext [iblk1, f2 t, lane]
  rw [b0, b1, b2]
  rfl

end Cert.InConv

end
-- ==== Proof.In.Payloads.lean ====
/- The convolution's backward arithmetic on a block of 256 columns, one named value at a time, read at row r and lane l:
   the shifts of the block are its columns moved down, then the gated value's gradient at the convolution, its moves up
   weighted by the taps, and its sums over rows against the moved columns. -/
module

public import proofs.«01_k».proof.Proof.Gen.InKernelIdeal.Skeleton
public import Idealize.ShloMosaic.Lib.Pipeline.ValueKit.Point
public import proofs.«01_k».proof.Proof.Layer.Payloads
public import proofs.«01_k».proof.Proof.In.Spec

@[expose] public section

noncomputable section

namespace Cert.InBody

open Cert.InKernelIdeal Cert.InKernelIdeal.Gen Idealize.ShloMosaic Idealize.ShloMosaic.TcCoe Idealize.SL.Sem
open Idealize.ShloMosaic.Pointwise Cert.ConvGate Cert.ConvSilu
open Cert.LayerBody (half_bits mask_ge mask_lt select_down select_up)

/-- A lane of a block, as a column. -/
abbrev col (x : Vec Ideal S2176x256 .f32) (l : Fin 256) : Fin 2176 → EReal := fun q => x (ix2 q l)
/-- A lane of a block of taps. -/
abbrev taps (w : Vec Ideal S4x256 .f32) (l : Fin 256) : Fin 4 → EReal := fun k => w (ix2 k l)

variable (r : Fin 2176) (l : Fin 256)

theorem pay4_apply (x : Vec Ideal S2176x256 .f32) : k2_pay4 x = x := shapeCast_self x _
theorem pay5_apply (x : Vec Ideal S2176x256 .f32) : k2_pay5 x = x := shapeCast_self x _
theorem pay6_apply (x : Vec Ideal S2176x256 .f32) : k2_pay6 x = x := shapeCast_self x _
theorem pay7_apply (x : Vec Ideal S2176x256 .f32) : k2_pay7 x = x := shapeCast_self x _
theorem pay13_apply (x : FVec Ideal S2176x256 .f32) : k2_pay13 x = x := rfl

theorem pay8_apply (x : Vec Ideal S2176x256 .f32) : k2_pay8 x (ix2 r l) = down 3 (col x l) r :=
  (select_down 3 (by norm_num) (k2_pay7 x) _ _ r l (mask_ge 3 (by norm_num) _ _ r l)).trans (by rw [pay7_apply])
theorem pay9_apply (x : Vec Ideal S2176x256 .f32) : k2_pay9 x (ix2 r l) = down 2 (col x l) r :=
  (select_down 2 (by norm_num) (k2_pay7 x) _ _ r l (mask_ge 2 (by norm_num) _ _ r l)).trans (by rw [pay7_apply])
theorem pay10_apply (x : Vec Ideal S2176x256 .f32) : k2_pay10 x (ix2 r l) = down 1 (col x l) r :=
  (select_down 1 (by norm_num) (k2_pay7 x) _ _ r l (mask_ge 1 (by norm_num) _ _ r l)).trans (by rw [pay7_apply])

theorem pay11_apply (x x3 x2 x1 : FVec Ideal S2176x256 .f32) (w0 w1 w2 w3 b : Vec Ideal S1x256 .f32) (d : Vec Ideal S2176x256 .f32) :
    k2_pay11 x x3 x2 x1 (Scalar.ofBits (F := Ideal) .f32 0x00000000#32) w0 w1 w2 w3 b d (ix2 r l)
      = dsilu (d (ix2 r l)) (w0 (ix2 0 l) * x3 (ix2 r l) + w1 (ix2 0 l) * x2 (ix2 r l) + w2 (ix2 0 l) * x1 (ix2 r l)
          + w3 (ix2 0 l) * x (ix2 r l) + b (ix2 0 l)) := by
  unfold dsilu
  rw [← logistic_eq_tanh]
  pointwise [k2_pay11, half_bits]
  try simp only [zero_add]

theorem pay15_apply (y : FVec Ideal S2176x256 .f32) (w0 w1 : Vec Ideal S1x256 .f32) :
    k2_pay15 (iota .tc S2176x1 32 [0] iota_S2176x1_d0_w32) y w0 w1 (ix2 r l)
      = w0 (ix2 0 l) * up 3 (fun q => y (ix2 q l)) r + w1 (ix2 0 l) * up 2 (fun q => y (ix2 q l)) r := by
  rw [← select_up 3 (by norm_num) (by norm_num) y _ rotates_S2176x256_d0 r l
      (mask_lt 2173 (by norm_num) shapeCasts_S2176x1_S2176x1 broadcasts_S2176x1_S2176x256 r l),
    ← select_up 2 (by norm_num) (by norm_num) y _ rotates_S2176x256_d0 r l
      (mask_lt 2174 (by norm_num) shapeCasts_S2176x1_S2176x1 broadcasts_S2176x1_S2176x256 r l)]
  unfold k2_pay15
  rw [pay13_apply]
  generalize select _ _ _ = z3
  generalize select _ _ _ = z2
  pointwise
  try simp only [zero_add]

theorem pay3_apply (y a : FVec Ideal S2176x256 .f32) (w2 w3 : Vec Ideal S1x256 .f32) :
    k2_pay3 (iota .tc S2176x1 32 [0] iota_S2176x1_d0_w32) y a w2 w3 (ix2 r l)
      = a (ix2 r l) + w2 (ix2 0 l) * up 1 (fun q => y (ix2 q l)) r + w3 (ix2 0 l) * y (ix2 r l) := by
  rw [← select_up 1 (by norm_num) (by norm_num) y _ rotates_S2176x256_d0 r l
    (mask_lt 2175 (by norm_num) shapeCasts_S2176x1_S2176x1 broadcasts_S2176x1_S2176x256 r l)]
  unfold k2_pay3
  generalize select _ _ _ = z
  pointwise

theorem pay1_apply (x y : FVec Ideal S2176x256 .f32) (o : Fin 1) : k2_pay1 x y (ix2 o l) = ∑ q, y (ix2 q l) * x (ix2 q l) := by
  pointwise [k2_pay1]
theorem pay2_apply (x y : FVec Ideal S2176x256 .f32) (o : Fin 1) : k2_pay2 x y (ix2 o l) = ∑ q, y (ix2 q l) * x (ix2 q l) := by
  pointwise [k2_pay2]
theorem pay14_apply (x y : FVec Ideal S2176x256 .f32) (o : Fin 1) : k2_pay14 x y (ix2 o l) = ∑ q, y (ix2 q l) * x (ix2 q l) := by
  rw [show k2_pay14 x y = k2_pay1 x y from rfl, pay1_apply]
theorem pay16_apply (x y : FVec Ideal S2176x256 .f32) (o : Fin 1) : k2_pay16 x y (ix2 o l) = ∑ q, y (ix2 q l) * x (ix2 q l) := by
  rw [show k2_pay16 x y = k2_pay1 x y from rfl, pay1_apply]
theorem pay12_apply (y : FVec Ideal S2176x256 .f32) (o : Fin 1) : k2_pay12 y (ix2 o l) = ∑ q, y (ix2 q l) := by
  pointwise [k2_pay12]

end Cert.InBody

end
-- ==== Proof.In.Body.lean ====
/- What one grid point of the convolution's backward call leaves in its three output blocks, as column functions of
  the
   point's input blocks. The outer gradient is read from one of three arrays, by the point's place in the grid: the
     three
   cases differ in nothing else. -/
module

public import proofs.«01_k».proof.Proof.Gen.InKernelIdeal.Frame
public import Idealize.ShloMosaic.Lib.Pipeline.Value
public import proofs.«01_k».proof.Proof.In.Payloads

@[expose] public section

noncomputable section

namespace Cert.InBody

open Cert.InKernelIdeal Cert.InKernelIdeal.Gen Idealize.ShloMosaic Idealize.ShloMosaic.TcCoe Idealize.SL.Sem
open Idealize.ShloMosaic.Pointwise Cert.ConvGate Cert.ConvSilu

/-- The gradient at the convolution's result, of a lane. -/
def ys (x d : Fin 2176 → EReal) (w : Fin 4 → EReal) (b : EReal) (q : Fin 2176) : EReal := dsilu (d q) (conv4 w b x q)

section
variable (x0 d : Vec Ideal S2176x256 .f32) (x4 : Vec Ideal S4x256 .f32) (x5 : Vec Ideal S1x256 .f32) (l : Fin 256)

theorem ld0 : View.ld x4 (Rect.unit (s := S4x256) ![0, 0] ![1, 256] inb_S4x256_S1x256_0_0) (ix2 0 l) = x4 (ix2 0 l)
  := by
  pointwise
theorem ld1 : View.ld x4 (Rect.unit (s := S4x256) ![1, 0] ![1, 256] inb_S4x256_S1x256_1_0) (ix2 0 l) = x4 (ix2 1 l)
  := by
  pointwise
theorem ld2 : View.ld x4 (Rect.unit (s := S4x256) ![2, 0] ![1, 256] inb_S4x256_S1x256_2_0) (ix2 0 l) = x4 (ix2 2 l)
  := by
  pointwise
theorem ld3 : View.ld x4 (Rect.unit (s := S4x256) ![3, 0] ![1, 256] inb_S4x256_S1x256_3_0) (ix2 0 l) = x4 (ix2 3 l)
  := by
  pointwise

/-- That gradient as the body spells it. -/
abbrev gradV : FVec Ideal S2176x256 .f32 :=
  k2_pay11 (k2_pay7 x0) (k2_pay8 x0) (k2_pay9 x0) (k2_pay10 x0) (Scalar.ofBits (F := Ideal) .f32 0x00000000#32)
    (View.ld x4 (Rect.unit (s := S4x256) ![0, 0] ![1, 256] inb_S4x256_S1x256_0_0))
    (View.ld x4 (Rect.unit (s := S4x256) ![1, 0] ![1, 256] inb_S4x256_S1x256_1_0))
    (View.ld x4 (Rect.unit (s := S4x256) ![2, 0] ![1, 256] inb_S4x256_S1x256_2_0))
    (View.ld x4 (Rect.unit (s := S4x256) ![3, 0] ![1, 256] inb_S4x256_S1x256_3_0)) x5 d

theorem gradV_apply (r : Fin 2176) : gradV x0 d x4 x5 (ix2 r l) = ys (col x0 l) (col d l) (taps x4 l) (x5 (ix2 0 l))
  r := by
  rw [gradV, pay11_apply, pay8_apply, pay9_apply, pay10_apply, pay7_apply, ld0, ld1, ld2, ld3]
  rfl

theorem rows0 (o : Fin 1) : k2_pay14 (k2_pay8 x0) (gradV x0 d x4 x5) (ix2 o l)
    = tap4 0 (col x0 l) (ys (col x0 l) (col d l) (taps x4 l) (x5 (ix2 0 l))) := by
  rw [pay14_apply]
  exact Finset.sum_congr rfl fun q _ => by rw [gradV_apply, pay8_apply]; rfl
theorem rows1 (o : Fin 1) : k2_pay16 (k2_pay9 x0) (gradV x0 d x4 x5) (ix2 o l)
    = tap4 1 (col x0 l) (ys (col x0 l) (col d l) (taps x4 l) (x5 (ix2 0 l))) := by
  rw [pay16_apply]
  exact Finset.sum_congr rfl fun q _ => by rw [gradV_apply, pay9_apply]; rfl
theorem rows2 (o : Fin 1) : k2_pay1 (k2_pay10 x0) (k2_pay13 (gradV x0 d x4 x5)) (ix2 o l)
    = tap4 2 (col x0 l) (ys (col x0 l) (col d l) (taps x4 l) (x5 (ix2 0 l))) := by
  rw [pay1_apply, pay13_apply]
  exact Finset.sum_congr rfl fun q _ => by rw [gradV_apply, pay10_apply]; rfl
theorem rows3 (o : Fin 1) : k2_pay2 (k2_pay7 x0) (k2_pay13 (gradV x0 d x4 x5)) (ix2 o l)
    = tap4 3 (col x0 l) (ys (col x0 l) (col d l) (taps x4 l) (x5 (ix2 0 l))) := by
  rw [pay2_apply, pay13_apply]
  exact Finset.sum_congr rfl fun q _ => by rw [gradV_apply, pay7_apply, ← down_zero (fun q => x0 (ix2 q l)) q]; rfl
theorem rowsum (o : Fin 1) : k2_pay12 (gradV x0 d x4 x5) (ix2 o l)
    = ∑ q, ys (col x0 l) (col d l) (taps x4 l) (x5 (ix2 0 l)) q := by
  rw [pay12_apply]
  exact Finset.sum_congr rfl fun q _ => gradV_apply ..
theorem moves (r : Fin 2176) :
    k2_pay3 (iota .tc S2176x1 32 [0] iota_S2176x1_d0_w32) (k2_pay13 (gradV x0 d x4 x5))
      (k2_pay15 (iota .tc S2176x1 32 [0] iota_S2176x1_d0_w32) (gradV x0 d x4 x5)
        (View.ld x4 (Rect.unit (s := S4x256) ![0, 0] ![1, 256] inb_S4x256_S1x256_0_0))
        (View.ld x4 (Rect.unit (s := S4x256) ![1, 0] ![1, 256] inb_S4x256_S1x256_1_0)))
      (View.ld x4 (Rect.unit (s := S4x256) ![2, 0] ![1, 256] inb_S4x256_S1x256_2_0))
      (View.ld x4 (Rect.unit (s := S4x256) ![3, 0] ![1, 256] inb_S4x256_S1x256_3_0)) (ix2 r l)
      = back4 (taps x4 l) (ys (col x0 l) (col d l) (taps x4 l) (x5 (ix2 0 l))) r := by
  rw [pay13_apply, pay3_apply, pay15_apply, ld0, ld1, ld2, ld3, gradV_apply, funext fun q => gradV_apply x0 d x4 x5
    l q]
  rfl
end

section
variable (c : Dev nD) (i : grid2.Coords) (arg1 : Memref sig .tc .vmem S2176x256 .f32) (harg1 : arg1.IsWhole) (arg2 :
  Memref sig .tc .vmem S2176x256 .f32) (harg2 : arg2.IsWhole) (arg3 : Memref sig .tc .vmem S2176x256 .f32) (harg3 :
  arg3.IsWhole) (arg4 : Memref sig .tc .vmem S2176x256 .f32) (harg4 : arg4.IsWhole) (arg5 : Memref sig .tc .vmem
  S4x256 .f32) (harg5 : arg5.IsWhole) (arg6 : Memref sig .tc .vmem S1x256 .f32) (harg6 : arg6.IsWhole) (arg8 : Memref
  sig .tc .vmem S2176x256 .bf16) (harg8 : arg8.IsWhole) (arg9 : Memref sig .tc .vmem S4x256 .f32) (harg9 :
  arg9.IsWhole) (arg10 : Memref sig .tc .vmem S1x256 .f32) (harg10 : arg10.IsWhole) (arg11 : Memref sig .tc .vmem
  S2176x256 .f32) (harg11 : arg11.IsWhole)
    (x0 : Vec Ideal S2176x256 .f32) (x1 : Vec Ideal S2176x256 .f32) (x2 : Vec Ideal S2176x256 .f32) (x3 : Vec Ideal
      S2176x256 .f32) (x4 : Vec Ideal S4x256 .f32) (x5 : Vec Ideal S1x256 .f32)

theorem outA6 (hc0 : cond2_0 i) (hc1 : ¬cond2_1 i) (hc2 : ¬cond2_2 i) (r : Fin 2176) (l : Fin 256) :
    out2_A_6 c i arg1 harg1 arg2 harg2 arg3 harg3 arg4 harg4 arg5 harg5 arg6 harg6 arg8 harg8 arg9 harg9 arg10
      harg10 arg11 harg11 hc0 hc1 hc2 x0 x1 x2 x3 x4 x5 (ix2 r l)
      = back4 (taps x4 l) (ys (col x0 l) (col x1 l) (taps x4 l) (x5 (ix2 0 l))) r := by
  frame_out
  rw [pay4_apply]
  exact moves x0 x1 x4 x5 l r

theorem outA7 (hc0 : cond2_0 i) (hc1 : ¬cond2_1 i) (hc2 : ¬cond2_2 i) (k : Fin 4) (l : Fin 256) :
    out2_A_7 c i arg1 harg1 arg2 harg2 arg3 harg3 arg4 harg4 arg5 harg5 arg6 harg6 arg8 harg8 arg9 harg9 arg10
      harg10 arg11 harg11 hc0 hc1 hc2 x0 x1 x2 x3 x4 x5 (ix2 k l)
      = tap4 k (col x0 l) (ys (col x0 l) (col x1 l) (taps x4 l) (x5 (ix2 0 l))) := by
  frame_out
  canon_tiles z e <;> idx_vars z
  · obtain rfl : k = 3 := Fin.ext (by show k.val = 3; omega)
    obtain rfl : l = z1 := Fin.ext (by omega)
    rw [pay4_apply]
    exact rows3 x0 x1 x4 x5 l z0
  · obtain rfl : k = 2 := Fin.ext (by show k.val = 2; omega)
    obtain rfl : l = z1 := Fin.ext (by omega)
    rw [pay4_apply]
    exact rows2 x0 x1 x4 x5 l z0
  · obtain rfl : k = 1 := Fin.ext (by show k.val = 1; omega)
    obtain rfl : l = z1 := Fin.ext (by omega)
    rw [pay4_apply]
    exact rows1 x0 x1 x4 x5 l z0
  · obtain rfl : k = 0 := Fin.ext (by show k.val = 0; omega)
    obtain rfl : l = z1 := Fin.ext (by omega)
    rw [pay4_apply]
    exact rows0 x0 x1 x4 x5 l z0

theorem outA8 (hc0 : cond2_0 i) (hc1 : ¬cond2_1 i) (hc2 : ¬cond2_2 i) (o : Fin 1) (l : Fin 256) :
    out2_A_8 c i arg1 harg1 arg2 harg2 arg3 harg3 arg4 harg4 arg5 harg5 arg6 harg6 arg8 harg8 arg9 harg9 arg10
      harg10 arg11 harg11 hc0 hc1 hc2 x0 x1 x2 x3 x4 x5 (ix2 o l)
      = ∑ q, (ys (col x0 l) (col x1 l) (taps x4 l) (x5 (ix2 0 l))) q := by
  frame_out
  rw [pay4_apply]
  exact rowsum x0 x1 x4 x5 l o

theorem outB6 (hc0 : ¬cond2_0 i) (hc1 : cond2_1 i) (hc2 : ¬cond2_2 i) (r : Fin 2176) (l : Fin 256) :
    out2_B_6 c i arg1 harg1 arg2 harg2 arg3 harg3 arg4 harg4 arg5 harg5 arg6 harg6 arg8 harg8 arg9 harg9 arg10
      harg10 arg11 harg11 hc0 hc1 hc2 x0 x1 x2 x3 x4 x5 (ix2 r l)
      = back4 (taps x4 l) (ys (col x0 l) (col x2 l) (taps x4 l) (x5 (ix2 0 l))) r := by
  frame_out
  rw [pay5_apply]
  exact moves x0 x2 x4 x5 l r

theorem outB7 (hc0 : ¬cond2_0 i) (hc1 : cond2_1 i) (hc2 : ¬cond2_2 i) (k : Fin 4) (l : Fin 256) :
    out2_B_7 c i arg1 harg1 arg2 harg2 arg3 harg3 arg4 harg4 arg5 harg5 arg6 harg6 arg8 harg8 arg9 harg9 arg10
      harg10 arg11 harg11 hc0 hc1 hc2 x0 x1 x2 x3 x4 x5 (ix2 k l)
      = tap4 k (col x0 l) (ys (col x0 l) (col x2 l) (taps x4 l) (x5 (ix2 0 l))) := by
  frame_out
  canon_tiles z e <;> idx_vars z
  · obtain rfl : k = 3 := Fin.ext (by show k.val = 3; omega)
    obtain rfl : l = z1 := Fin.ext (by omega)
    rw [pay5_apply]
    exact rows3 x0 x2 x4 x5 l z0
  · obtain rfl : k = 2 := Fin.ext (by show k.val = 2; omega)
    obtain rfl : l = z1 := Fin.ext (by omega)
    rw [pay5_apply]
    exact rows2 x0 x2 x4 x5 l z0
  · obtain rfl : k = 1 := Fin.ext (by show k.val = 1; omega)
    obtain rfl : l = z1 := Fin.ext (by omega)
    rw [pay5_apply]
    exact rows1 x0 x2 x4 x5 l z0
  · obtain rfl : k = 0 := Fin.ext (by show k.val = 0; omega)
    obtain rfl : l = z1 := Fin.ext (by omega)
    rw [pay5_apply]
    exact rows0 x0 x2 x4 x5 l z0

theorem outB8 (hc0 : ¬cond2_0 i) (hc1 : cond2_1 i) (hc2 : ¬cond2_2 i) (o : Fin 1) (l : Fin 256) :
    out2_B_8 c i arg1 harg1 arg2 harg2 arg3 harg3 arg4 harg4 arg5 harg5 arg6 harg6 arg8 harg8 arg9 harg9 arg10
      harg10 arg11 harg11 hc0 hc1 hc2 x0 x1 x2 x3 x4 x5 (ix2 o l)
      = ∑ q, (ys (col x0 l) (col x2 l) (taps x4 l) (x5 (ix2 0 l))) q := by
  frame_out
  rw [pay5_apply]
  exact rowsum x0 x2 x4 x5 l o

theorem outC6 (hc0 : ¬cond2_0 i) (hc1 : ¬cond2_1 i) (hc2 : cond2_2 i) (r : Fin 2176) (l : Fin 256) :
    out2_C_6 c i arg1 harg1 arg2 harg2 arg3 harg3 arg4 harg4 arg5 harg5 arg6 harg6 arg8 harg8 arg9 harg9 arg10
      harg10 arg11 harg11 hc0 hc1 hc2 x0 x1 x2 x3 x4 x5 (ix2 r l)
      = back4 (taps x4 l) (ys (col x0 l) (col x3 l) (taps x4 l) (x5 (ix2 0 l))) r := by
  frame_out
  rw [pay6_apply]
  exact moves x0 x3 x4 x5 l r

theorem outC7 (hc0 : ¬cond2_0 i) (hc1 : ¬cond2_1 i) (hc2 : cond2_2 i) (k : Fin 4) (l : Fin 256) :
    out2_C_7 c i arg1 harg1 arg2 harg2 arg3 harg3 arg4 harg4 arg5 harg5 arg6 harg6 arg8 harg8 arg9 harg9 arg10
      harg10 arg11 harg11 hc0 hc1 hc2 x0 x1 x2 x3 x4 x5 (ix2 k l)
      = tap4 k (col x0 l) (ys (col x0 l) (col x3 l) (taps x4 l) (x5 (ix2 0 l))) := by
  frame_out
  canon_tiles z e <;> idx_vars z
  · obtain rfl : k = 3 := Fin.ext (by show k.val = 3; omega)
    obtain rfl : l = z1 := Fin.ext (by omega)
    rw [pay6_apply]
    exact rows3 x0 x3 x4 x5 l z0
  · obtain rfl : k = 2 := Fin.ext (by show k.val = 2; omega)
    obtain rfl : l = z1 := Fin.ext (by omega)
    rw [pay6_apply]
    exact rows2 x0 x3 x4 x5 l z0
  · obtain rfl : k = 1 := Fin.ext (by show k.val = 1; omega)
    obtain rfl : l = z1 := Fin.ext (by omega)
    rw [pay6_apply]
    exact rows1 x0 x3 x4 x5 l z0
  · obtain rfl : k = 0 := Fin.ext (by show k.val = 0; omega)
    obtain rfl : l = z1 := Fin.ext (by omega)
    rw [pay6_apply]
    exact rows0 x0 x3 x4 x5 l z0

theorem outC8 (hc0 : ¬cond2_0 i) (hc1 : ¬cond2_1 i) (hc2 : cond2_2 i) (o : Fin 1) (l : Fin 256) :
    out2_C_8 c i arg1 harg1 arg2 harg2 arg3 harg3 arg4 harg4 arg5 harg5 arg6 harg6 arg8 harg8 arg9 harg9 arg10
      harg10 arg11 harg11 hc0 hc1 hc2 x0 x1 x2 x3 x4 x5 (ix2 o l)
      = ∑ q, (ys (col x0 l) (col x3 l) (taps x4 l) (x5 (ix2 0 l))) q := by
  frame_out
  rw [pay6_apply]
  exact rowsum x0 x3 x4 x5 l o
end

end Cert.InBody

end
-- ==== Proof.In.Array.lean ====
/- The three result arrays of the convolution's backward call, as functions of the arrays it reads. A grid point t owns the
   columns 256 t … 256 t + 255 of the 3072 that are convolved: columns 2048 + 256 t … of the product. The points 0–7 read
   the first outer gradient, 8 and 9 the second, 10 and 11 the third. The gradient of the product is written only at the
   columns 2048 … 5119; the others keep what the array held. -/
module

public import Idealize.ShloMosaic.Lib.Pipeline.ValueKit.Partial
public import proofs.«01_k».proof.Proof.In.Body
public import proofs.«01_k».proof.Proof.In.Columns

@[expose] public section

noncomputable section

namespace Cert.InArray

open Cert.InKernelIdeal Cert.InKernelIdeal.Gen Idealize.ShloMosaic Idealize.ShloMosaic.TcCoe Idealize.SL.Sem
open Idealize.ShloMosaic.Pointwise Cert.ConvGate Cert.ConvSilu Cert.InBody Cert.InColumns
open Idealize.ShloMosaic.Pipeline (Dat)

variable (V : (c : Dev nD) → (b : Ref sig .tc) → Buf (Elt Ideal) ((c : Thread nD τ).loc b)) (c : Dev nD)

theorem e0 : ∀ t : Fin cfg2.N, win2_0.index t = ![0, 8 + t.val] :=
  (by decide +kernel : ∀ t : Fin grid2.N, win2_0.index t = ![0, 8 + t.val])
theorem e1 : ∀ t : Fin cfg2.N, win2_1.index t = ![0, min t.val 7] :=
  (by decide +kernel : ∀ t : Fin grid2.N, win2_1.index t = ![0, min t.val 7])
theorem e2 : ∀ t : Fin cfg2.N, win2_2.index t = ![0, min (t.val - 8) 1] :=
  (by decide +kernel : ∀ t : Fin grid2.N, win2_2.index t = ![0, min (t.val - 8) 1])
theorem e3 : ∀ t : Fin cfg2.N, win2_3.index t = ![0, min (t.val - 10) 1] :=
  (by decide +kernel : ∀ t : Fin grid2.N, win2_3.index t = ![0, min (t.val - 10) 1])
theorem e4 : ∀ t : Fin cfg2.N, win2_4.index t = ![0, t.val] :=
  (by decide +kernel : ∀ t : Fin grid2.N, win2_4.index t = ![0, t.val])
theorem e5 : ∀ t : Fin cfg2.N, win2_5.index t = ![0, t.val] :=
  (by decide +kernel : ∀ t : Fin grid2.N, win2_5.index t = ![0, t.val])
theorem e6 : ∀ t : Fin cfg2.N, win2_6.index t = ![0, 8 + t.val] :=
  (by decide +kernel : ∀ t : Fin grid2.N, win2_6.index t = ![0, 8 + t.val])
theorem e7 : ∀ t : Fin cfg2.N, win2_7.index t = ![0, t.val] :=
  (by decide +kernel : ∀ t : Fin grid2.N, win2_7.index t = ![0, t.val])
theorem e8 : ∀ t : Fin cfg2.N, win2_8.index t = ![0, t.val] :=
  (by decide +kernel : ∀ t : Fin grid2.N, win2_8.index t = ![0, t.val])

/-- Lane `l` of point `t`, among the 3072 columns. -/
def lane (t : Fin cfg2.N) (l : Fin 256) : Fin 3072 := ⟨t.val * 256 + l.val, by have h : t.val < 12 := t.isLt; have := l.isLt; omega⟩

theorem blk0 (t : Fin cfg2.N) (l : Fin 256) : col (iblk2 V c 0 t) l = ucol (V c main_v0) (lane t l) := by
  funext q
  unfold col ucol
  blk_ext [iblk2, e0 t, wide, lane]

theorem blk4 (t : Fin cfg2.N) (l : Fin 256) : taps (iblk2 V c 4 t) l = wcol (V c main_arg2) (lane t l) := by
  funext q
  unfold taps wcol
  blk_ext [iblk2, e4 t, lane]

theorem blk5 (t : Fin cfg2.N) (l : Fin 256) : iblk2 V c 5 t (ix2 0 l : S1x256.Idx) = bcol (V c main_arg3) (lane t l) := by
  unfold bcol
  blk_ext [iblk2, e5 t, lane]

/-- The outer gradient's column, of the three arrays as the call finds them. -/
abbrev D (C : Fin 3072) : Fin 2176 → EReal := dcol (V c main_arg4) (V c main_arg5) (V c main_arg6) C

theorem blk1 (t : Fin cfg2.N) (h : t.val < 8) (l : Fin 256) : col (iblk2 V c 1 t) l = D V c (lane t l) := by
  have hl := l.isLt
  have hc : (lane t l).val < 2048 := by show t.val * 256 + l.val < 2048; omega
  have hm : min t.val 7 = t.val := by omega
  funext q
  unfold col D dcol
  rw [dif_pos hc]
  blk_ext [iblk2, e1 t, lane, hm]

theorem blk2 (t : Fin cfg2.N) (h : 8 ≤ t.val) (h' : t.val < 10) (l : Fin 256) : col (iblk2 V c 2 t) l = D V c (lane t l) := by
  have hl := l.isLt
  have hc : ¬ (lane t l).val < 2048 := by show ¬ t.val * 256 + l.val < 2048; omega
  have hc' : (lane t l).val < 2560 := by show t.val * 256 + l.val < 2560; omega
  have hm : min (t.val - 8) 1 = t.val - 8 := by omega
  funext q
  unfold col D dcol
  rw [dif_neg hc, dif_pos hc']
  blk_ext [iblk2, e2 t, lane, hm]

theorem blk3 (t : Fin cfg2.N) (h : 10 ≤ t.val) (l : Fin 256) : col (iblk2 V c 3 t) l = D V c (lane t l) := by
  have hl := l.isLt
  have ht : t.val < 12 := t.isLt
  have hc : ¬ (lane t l).val < 2048 := by show ¬ t.val * 256 + l.val < 2048; omega
  have hc' : ¬ (lane t l).val < 2560 := by show ¬ t.val * 256 + l.val < 2560; omega
  have hm : min (t.val - 10) 1 = t.val - 10 := by omega
  funext q
  unfold col D dcol
  rw [dif_neg hc, dif_neg hc']
  blk_ext [iblk2, e3 t, lane, hm]

/-- The gradient at the convolution's result, of the arrays as the call finds them. -/
abbrev G (C : Fin 3072) : Fin 2176 → EReal :=
  Y (V c main_v0) (V c main_arg2) (V c main_arg3) (V c main_arg4) (V c main_arg5) (V c main_arg6) dsilu C

theorem ys_eq (t : Fin cfg2.N) (l : Fin 256) (d : Fin 2176 → EReal) (hd : d = D V c (lane t l)) :
    ys (col (iblk2 V c 0 t) l) d (taps (iblk2 V c 4 t) l) (iblk2 V c 5 t (ix2 0 l : S1x256.Idx)) = G V c (lane t l) := by
  rw [blk0, blk4, blk5, hd]
  rfl

theorem at6 (t : Fin cfg2.N) (r : Fin 2176) (l : Fin 256) : (outsAt2 V c t.val t.isLt).1 (ix2 r l : S2176x256.Idx) = back4 (wcol (V c main_arg2) (lane t l)) (G V c (lane t l)) r := by
  have ht : t.val < 12 := t.isLt
  by_cases h0 : t.val < 8
  · rw [outsAt2_A V c t h0 (by omega) (by omega)]
    dsimp only
    rw [outA6, ys_eq V c t l _ (blk1 V c t h0 l), blk4]
  · by_cases h2 : 10 ≤ t.val
    · rw [outsAt2_C V c t h0 (by omega) h2]
      dsimp only
      rw [outC6, ys_eq V c t l _ (blk3 V c t h2 l), blk4]
    · rw [outsAt2_B V c t h0 (by omega) h2]
      dsimp only
      rw [outB6, ys_eq V c t l _ (blk2 V c t (by omega) (by omega) l), blk4]

theorem at7 (t : Fin cfg2.N) (k : Fin 4) (l : Fin 256) : (outsAt2 V c t.val t.isLt).2.1 (ix2 k l : S4x256.Idx) = tap4 k (ucol (V c main_v0) (lane t l)) (G V c (lane t l)) := by
  have ht : t.val < 12 := t.isLt
  by_cases h0 : t.val < 8
  · rw [outsAt2_A V c t h0 (by omega) (by omega)]
    dsimp only
    rw [outA7, ys_eq V c t l _ (blk1 V c t h0 l), blk0]
  · by_cases h2 : 10 ≤ t.val
    · rw [outsAt2_C V c t h0 (by omega) h2]
      dsimp only
      rw [outC7, ys_eq V c t l _ (blk3 V c t h2 l), blk0]
    · rw [outsAt2_B V c t h0 (by omega) h2]
      dsimp only
      rw [outB7, ys_eq V c t l _ (blk2 V c t (by omega) (by omega) l), blk0]

theorem at8 (t : Fin cfg2.N) (o : Fin 1) (l : Fin 256) : (outsAt2 V c t.val t.isLt).2.2 (ix2 o l : S1x256.Idx) = ∑ q, G V c (lane t l) q := by
  have ht : t.val < 12 := t.isLt
  by_cases h0 : t.val < 8
  · rw [outsAt2_A V c t h0 (by omega) (by omega)]
    dsimp only
    rw [outA8, ys_eq V c t l _ (blk1 V c t h0 l)]
  · by_cases h2 : 10 ≤ t.val
    · rw [outsAt2_C V c t h0 (by omega) h2]
      dsimp only
      rw [outC8, ys_eq V c t l _ (blk3 V c t h2 l)]
    · rw [outsAt2_B V c t h0 (by omega) h2]
      dsimp only
      rw [outB8, ys_eq V c t l _ (blk2 V c t (by omega) (by omega) l)]

/-- The gradient of the product, after the run. -/
theorem final6 : (dat2 V c).arrAt 6 cfg2.N
    = inputGrad (V c main_v0) (V c main_arg2) (V c main_arg3) (V c main_arg4) (V c main_arg5) (V c main_arg6) (V c main_v2_0) dsilu := by
  refine ((dat2 V c).arrAt_eq_of_coversWhere 6
    (inputGrad (V c main_v0) (V c main_arg2) (V c main_arg3) (V c main_arg4) (V c main_arg5) (V c main_arg6) (V c main_v2_0) dsilu)
    (fun β => 8 ≤ β (1 : Fin _) ∧ β 1 < 20) (by decide +kernel) (fun t hf y => ?_)
    (P := fun i => 8 ≤ (i 1 : ℕ) / 256 ∧ (i 1 : ℕ) / 256 < 20) (fun j => Iff.rfl)).trans ?_
  · blk_simp
    rw [after2_6]
    obtain ⟨r, l, rfl⟩ : ∃ (r : Fin 2176) (l : Fin 256), y = ix2 r l := ⟨y 0, y 1, by funext a; fin_cases a <;> rfl⟩
    rw [at6]
    have hi : (win2_6.blk t).view.emb (ix2 r l : S2176x256.Idx) = (ix2 r (wide (lane t l)) : S2176x5632.Idx) := by
      blk_point [e6 t, wide, lane]
    rw [hi]
    exact (inputGrad_wide ..).symm
  · funext i
    have hi : (i 1).val < 5632 := (i 1).isLt
    show (if 8 ≤ (i 1).val / 256 ∧ (i 1).val / 256 < 20 then _ else _) = _
    by_cases h : 2048 ≤ (i 1).val ∧ (i 1).val < 5120
    · rw [if_pos (by omega)]
    · rw [if_neg (by omega)]
      unfold inputGrad
      rw [dif_neg h]
      rfl

/-- The gradient of the taps, after the run. -/
theorem final7 : (dat2 V c).arrAt 7 cfg2.N
    = tapGrad (V c main_v0) (V c main_arg2) (V c main_arg3) (V c main_arg4) (V c main_arg5) (V c main_arg6) dsilu := by
  refine (dat2 V c).arrAt_eq_of_covers 7 _ (by decide +kernel) fun t hf y => ?_
  blk_simp
  rw [after2_7]
  obtain ⟨r, l, rfl⟩ : ∃ (r : Fin 4) (l : Fin 256), y = ix2 r l := ⟨y 0, y 1, by funext a; fin_cases a <;> rfl⟩
  rw [at7]
  have hi : (win2_7.blk t).view.emb (ix2 r l : S4x256.Idx) = (ix2 r (lane t l) : S4x3072.Idx) := by
    blk_point [e7 t, lane]
  rw [hi]
  rfl

/-- The gradient of the bias, after the run. -/
theorem final8 : (dat2 V c).arrAt 8 cfg2.N
    = biasGrad (V c main_v0) (V c main_arg2) (V c main_arg3) (V c main_arg4) (V c main_arg5) (V c main_arg6) dsilu := by
  refine (dat2 V c).arrAt_eq_of_covers 8 _ (by decide +kernel) fun t hf y => ?_
  blk_simp
  rw [after2_8]
  obtain ⟨r, l, rfl⟩ : ∃ (r : Fin 1) (l : Fin 256), y = ix2 r l := ⟨y 0, y 1, by funext a; fin_cases a <;> rfl⟩
  rw [at8]
  have hi : (win2_8.blk t).view.emb (ix2 r l : S1x256.Idx) = (ix2 r (lane t l) : S1x3072.Idx) := by
    blk_point [e8 t, lane]
  rw [hi]
  rfl

end Cert.InArray

end
-- ==== Proof.In.Fold.lean ====
/- The run of the mixer's entry followed call by call: each result as one function of the eight arguments. -/
module

public import proofs.«01_k».proof.Proof.In.Run
public import proofs.«01_k».proof.Proof.In.Products
public import proofs.«01_k».proof.Proof.In.Conv
public import proofs.«01_k».proof.Proof.In.Array

@[expose] public section

noncomputable section

namespace Cert.InFold

open Cert.InKernelIdeal Cert.InKernelIdeal.Gen Idealize.ShloMosaic Idealize.ShloMosaic.TcCoe Idealize.SL.Sem
open Cert.ConvSilu Cert.InColumns Cert.InProducts

section
variable (A0 : Vec Ideal S2176x1024 .bf16) (A1 : Vec Ideal S1024x5632 .bf16) (A2 : Vec Ideal S4x3072 .f32) (A3 : Vec Ideal S1x3072 .f32)
  (A4 : Vec Ideal S2176x2048 .f32) (A5 A6 : Vec Ideal S2176x512 .f32) (A7 : Vec Ideal S2176x5632 .bf16)

/-- The product. -/
def zx : Vec Ideal S2176x5632 .f32 := nn A0 A1
/-- The gated convolution. -/
def xbc : Vec Ideal S2176x3072 .f32 := gatedConv (zx A0 A1) A2 A3
/-- The gradient of the product. -/
def dzx : Vec Ideal S2176x5632 .bf16 := inputGrad (zx A0 A1) A2 A3 A4 A5 A6 A7 dsilu
/-- The gradients of the taps and of the bias. -/
def dcw : Vec Ideal S4x3072 .f32 := tapGrad (zx A0 A1) A2 A3 A4 A5 A6 dsilu
def dcb : Vec Ideal S1x3072 .f32 := biasGrad (zx A0 A1) A2 A3 A4 A5 A6 dsilu
/-- The gradient of the weight. -/
def dw_in : Vec Ideal S1024x5632 .bf16 := tn A0 (dzx A0 A1 A2 A3 A4 A5 A6 A7)
/-- The gradient of the entry. -/
def dhn : Vec Ideal S2176x1024 .f32 := nt (dzx A0 A1 A2 A3 A4 A5 A6 A7) A1
end

variable (m : (ℓ : Loc nD τ sig) → Buf (Elt Ideal) ℓ) (ρ : Dev nD → PrngReg) (c : Dev nD)

theorem v0_at1 : V1 m ρ c main_v0 = zx (m ((c : Thread nD τ).loc main_arg0)) (m ((c : Thread nD τ).loc main_arg1)) := by
  refine (W1_arr m ρ c 2).trans ((array0 (V0 m ρ) c).trans ?_)
  rw [show V0 m ρ c main_arg0 = _ from W0_args m ρ c main_arg0 (by decide), show V0 m ρ c main_arg1 = _ from W0_args m ρ c main_arg1 (by decide)]
  rfl
theorem v0_at2 : V2 m ρ c main_v0 = zx (m ((c : Thread nD τ).loc main_arg0)) (m ((c : Thread nD τ).loc main_arg1)) := (W2_of m ρ c main_v0 (by decide)).trans (v0_at1 m ρ c)
theorem v0_at3 : V3 m ρ c main_v0 = zx (m ((c : Thread nD τ).loc main_arg0)) (m ((c : Thread nD τ).loc main_arg1)) := (W3_of m ρ c main_v0 (by decide)).trans (v0_at2 m ρ c)

theorem v1_at2 : V2 m ρ c main_v1 = xbc (m ((c : Thread nD τ).loc main_arg0)) (m ((c : Thread nD τ).loc main_arg1)) (m ((c : Thread nD τ).loc main_arg2)) (m ((c : Thread nD τ).loc main_arg3)) := by
  refine (W2_arr m ρ c 3).trans ((InConv.array1 (V1 m ρ) c).trans ?_)
  rw [v0_at1 m ρ c, show V1 m ρ c main_arg2 = _ from W1_args m ρ c main_arg2 (by decide), show V1 m ρ c main_arg3 = _ from W1_args m ρ c main_arg3 (by decide)]
  rfl
theorem v1_at3 : V3 m ρ c main_v1 = xbc (m ((c : Thread nD τ).loc main_arg0)) (m ((c : Thread nD τ).loc main_arg1)) (m ((c : Thread nD τ).loc main_arg2)) (m ((c : Thread nD τ).loc main_arg3)) := (W3_of m ρ c main_v1 (by decide)).trans (v1_at2 m ρ c)

/-- The one copy between the calls: the array the backward call writes into starts as the last argument. -/
theorem v2_0_at3 : V3 m ρ c main_v2_0 = m ((c : Thread nD τ).loc main_arg7) := by
  show StableHlo.after hostOps2 (W2 m ρ c) main_v2_0 = _
  unfold hostOps2
  rw [StableHlo.after_cons, StableHlo.after_nil]
  exact (StableHlo.unary_result main_arg7 main_v2_0 id ⟨by decide, rfl⟩ ⟨by decide, rfl⟩ (W2 m ρ c)).trans
    (W2_args m ρ c main_arg7 (by decide))

theorem v2_0_at4 : V4 m ρ c main_v2_0 = dzx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((InArray.final6 (V3 m ρ) c).trans ?_)
  rw [v2_0_at3 m ρ c, v0_at3 m ρ c, show V3 m ρ c main_arg2 = _ from W3_args m ρ c main_arg2 (by decide), show V3 m ρ c main_arg3 = _ from W3_args m ρ c main_arg3 (by decide), show V3 m ρ c main_arg4 = _ from W3_args m ρ c main_arg4 (by decide), show V3 m ρ c main_arg5 = _ from W3_args m ρ c main_arg5 (by decide), show V3 m ρ c main_arg6 = _ from W3_args m ρ c main_arg6 (by decide)]
  rfl
theorem v2_1_at4 : V4 m ρ c main_v2_1 = dcw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 7).trans ((InArray.final7 (V3 m ρ) c).trans ?_)
  rw [v0_at3 m ρ c, show V3 m ρ c main_arg2 = _ from W3_args m ρ c main_arg2 (by decide), show V3 m ρ c main_arg3 = _ from W3_args m ρ c main_arg3 (by decide), show V3 m ρ c main_arg4 = _ from W3_args m ρ c main_arg4 (by decide), show V3 m ρ c main_arg5 = _ from W3_args m ρ c main_arg5 (by decide), show V3 m ρ c main_arg6 = _ from W3_args m ρ c main_arg6 (by decide)]
  rfl
theorem v2_2_at4 : V4 m ρ c main_v2_2 = dcb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 8).trans ((InArray.final8 (V3 m ρ) c).trans ?_)
  rw [v0_at3 m ρ c, show V3 m ρ c main_arg2 = _ from W3_args m ρ c main_arg2 (by decide), show V3 m ρ c main_arg3 = _ from W3_args m ρ c main_arg3 (by decide), show V3 m ρ c main_arg4 = _ from W3_args m ρ c main_arg4 (by decide), show V3 m ρ c main_arg5 = _ from W3_args m ρ c main_arg5 (by decide), show V3 m ρ c main_arg6 = _ from W3_args m ρ c main_arg6 (by decide)]
  rfl
theorem v0_at4 : V4 m ρ c main_v0 = zx (m ((c : Thread nD τ).loc main_arg0)) (m ((c : Thread nD τ).loc main_arg1)) := (W4_of m ρ c main_v0 (by decide)).trans (v0_at3 m ρ c)
theorem v1_at4 : V4 m ρ c main_v1 = xbc (m ((c : Thread nD τ).loc main_arg0)) (m ((c : Thread nD τ).loc main_arg1)) (m ((c : Thread nD τ).loc main_arg2)) (m ((c : Thread nD τ).loc main_arg3)) := (W4_of m ρ c main_v1 (by decide)).trans (v1_at3 m ρ c)

theorem v3_at5 : V5 m ρ c main_v3 = dw_in (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 2).trans ((array3 (V4 m ρ) c).trans ?_)
  rw [v2_0_at4 m ρ c, show V4 m ρ c main_arg0 = _ from W4_args m ρ c main_arg0 (by decide)]
  rfl
theorem v0_at5 : V5 m ρ c main_v0 = zx (m ((c : Thread nD τ).loc main_arg0)) (m ((c : Thread nD τ).loc main_arg1)) := (W5_of m ρ c main_v0 (by decide)).trans (v0_at4 m ρ c)
theorem v1_at5 : V5 m ρ c main_v1 = xbc (m ((c : Thread nD τ).loc main_arg0)) (m ((c : Thread nD τ).loc main_arg1)) (m ((c : Thread nD τ).loc main_arg2)) (m ((c : Thread nD τ).loc main_arg3)) := (W5_of m ρ c main_v1 (by decide)).trans (v1_at4 m ρ c)
theorem v2_0_at5 : V5 m ρ c main_v2_0 = dzx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (W5_of m ρ c main_v2_0 (by decide)).trans (v2_0_at4 m ρ c)
theorem v2_1_at5 : V5 m ρ c main_v2_1 = dcw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W5_of m ρ c main_v2_1 (by decide)).trans (v2_1_at4 m ρ c)
theorem v2_2_at5 : V5 m ρ c main_v2_2 = dcb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W5_of m ρ c main_v2_2 (by decide)).trans (v2_2_at4 m ρ c)

theorem v4_at6 : V6 m ρ c main_v4 = dhn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ((array4 (V5 m ρ) c).trans ?_)
  rw [v2_0_at5 m ρ c, show V5 m ρ c main_arg1 = _ from W5_args m ρ c main_arg1 (by decide)]
  rfl
theorem v0_at6 : V6 m ρ c main_v0 = zx (m ((c : Thread nD τ).loc main_arg0)) (m ((c : Thread nD τ).loc main_arg1)) := (W6_of m ρ c main_v0 (by decide)).trans (v0_at5 m ρ c)
theorem v1_at6 : V6 m ρ c main_v1 = xbc (m ((c : Thread nD τ).loc main_arg0)) (m ((c : Thread nD τ).loc main_arg1)) (m ((c : Thread nD τ).loc main_arg2)) (m ((c : Thread nD τ).loc main_arg3)) := (W6_of m ρ c main_v1 (by decide)).trans (v1_at5 m ρ c)
theorem v2_1_at6 : V6 m ρ c main_v2_1 = dcw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W6_of m ρ c main_v2_1 (by decide)).trans (v2_1_at5 m ρ c)
theorem v2_2_at6 : V6 m ρ c main_v2_2 = dcb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W6_of m ρ c main_v2_2 (by decide)).trans (v2_2_at5 m ρ c)
theorem v3_at6 : V6 m ρ c main_v3 = dw_in (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (W6_of m ρ c main_v3 (by decide)).trans (v3_at5 m ρ c)

end Cert.InFold

end
-- ==== Proof.In.Ref.lean ====
/- What the reference of the mixer's entry computes, read at an index: the column functions of Columns.lean over the
   product, with the gated value's gradient by the product rule. -/
module

public import proofs.«01_k».proof.Proof.Gen.InReferenceIdeal.Read
public import proofs.«01_k».proof.Proof.In.Columns

@[expose] public section

noncomputable section

namespace Cert.InRef

open Cert.InReferenceIdeal Cert.InReferenceIdeal.Gen Cert.InReferenceIdeal.Read Idealize.ShloMosaic Idealize.ShloMosaic.TcCoe Idealize.SL.Sem
open Idealize.ShloMosaic.StableHlo Idealize.ShloMosaic.Pointwise Cert.ConvGate Cert.ConvSilu Cert.InColumns

variable (X0 : (⟨S2176x1024, .bf16⟩ : BufTy).Contents (Elt Ideal)) (X1 : (⟨S1024x5632, .bf16⟩ : BufTy).Contents (Elt Ideal))
  (X2 : (⟨S4x3072, .f32⟩ : BufTy).Contents (Elt Ideal)) (X3 : (⟨S1x3072, .f32⟩ : BufTy).Contents (Elt Ideal))
  (X4 : (⟨S2176x2048, .f32⟩ : BufTy).Contents (Elt Ideal)) (X5 X6 : (⟨S2176x512, .f32⟩ : BufTy).Contents (Elt Ideal))
  (X7 : (⟨S2176x5632, .bf16⟩ : BufTy).Contents (Elt Ideal))

/-- The product. -/
abbrev Z : (⟨S2176x5632, .f32⟩ : BufTy).Contents (Elt Ideal) := val_main_v2 (F := Ideal) X0 X1
/-- The gradient at the convolution's result. -/
abbrev y (C : Fin 3072) : Fin 2176 → EReal := Y (Z X0 X1) X2 X3 X4 X5 X6 dsiluSum C

theorem product (q : Fin 2176) (J : Fin 5632) : val_main_v2 (F := Ideal) X0 X1 (ix2 q J) = ∑ k : Fin 1024, X0 (ix2 q k) * X1 (ix2 k J) := by
  unfold val_main_v2 val_main_v0 val_main_v1
  pointwise

theorem middle (q : Fin 2176) (C : Fin 3072) : val_main_v3 (F := Ideal) X0 X1 (ix2 q C) = ucol (Z X0 X1) C q := by
  unfold val_main_v3
  pointwise
  rfl

theorem padded (p : Fin 2179) (C : Fin 3072) :
    val_main_v6 (F := Ideal) X0 X1 (ix2 p C) = if h : p.val < 3 then 0 else ucol (Z X0 X1) C ⟨p.val - 3, by omega⟩ := by
  unfold val_main_v6
  pointwise [val_main_v5, val_main_cst, middle]

theorem row0 (q : Fin 2176) (C : Fin 3072) : val_main_v8 (F := Ideal) X0 X1 (ix2 q C) = down 3 (ucol (Z X0 X1) C) q := by
  unfold val_main_v8
  pointwise [padded]
  unfold down
  by_cases h : q.val < 3
  · rw [dif_pos h, if_neg (by omega)]
  · rw [dif_neg h, if_pos (by omega)]

theorem row1 (q : Fin 2176) (C : Fin 3072) : val_main_v16 (F := Ideal) X0 X1 (ix2 q C) = down 2 (ucol (Z X0 X1) C) q := by
  unfold val_main_v16
  pointwise [padded]
  unfold down
  by_cases h : 1 + q.val < 3
  · rw [dif_pos h, if_neg (by omega)]
  · rw [dif_neg h, if_pos (by omega)]
    refine congrArg (ucol (Z X0 X1) C) (Fin.ext ?_)
    show 1 + q.val - 3 = q.val - 2
    omega

theorem row2 (q : Fin 2176) (C : Fin 3072) : val_main_v23 (F := Ideal) X0 X1 (ix2 q C) = down 1 (ucol (Z X0 X1) C) q := by
  unfold val_main_v23
  pointwise [padded]
  unfold down
  by_cases h : 2 + q.val < 3
  · rw [dif_pos h, if_neg (by omega)]
  · rw [dif_neg h, if_pos (by omega)]
    refine congrArg (ucol (Z X0 X1) C) (Fin.ext ?_)
    show 2 + q.val - 3 = q.val - 1
    omega

theorem row3 (q : Fin 2176) (C : Fin 3072) : val_main_v30 (F := Ideal) X0 X1 (ix2 q C) = ucol (Z X0 X1) C q := by
  unfold val_main_v30
  pointwise [padded]
  try rw [dif_neg (by omega)]

theorem tap0 (o : Fin 1) (C : Fin 3072) : val_main_v11 (F := Ideal) X2 (ix2 o C) = wcol X2 C 0 := by
  unfold val_main_v11 val_main_v10 val_main_v9
  pointwise
  rfl

theorem tap1 (o : Fin 1) (C : Fin 3072) : val_main_v19 (F := Ideal) X2 (ix2 o C) = wcol X2 C 1 := by
  unfold val_main_v19 val_main_v18 val_main_v17
  pointwise
  rfl

theorem tap2 (o : Fin 1) (C : Fin 3072) : val_main_v26 (F := Ideal) X2 (ix2 o C) = wcol X2 C 2 := by
  unfold val_main_v26 val_main_v25 val_main_v24
  pointwise
  rfl

theorem tap3 (o : Fin 1) (C : Fin 3072) : val_main_v33 (F := Ideal) X2 (ix2 o C) = wcol X2 C 3 := by
  unfold val_main_v33 val_main_v32 val_main_v31
  pointwise
  rfl

theorem convolved (q : Fin 2176) (C : Fin 3072) : val_main_v38 (F := Ideal) X0 X1 X2 X3 (ix2 q C) = U (Z X0 X1) X2 X3 C q := by
  unfold val_main_v38 val_main_v37 val_main_v36 val_main_v35 val_main_v34 val_main_v29 val_main_v28 val_main_v27 val_main_v22 val_main_v21 val_main_v20 val_main_v15 val_main_v14 val_main_cst_1 val_main_v13 val_main_v12
  pointwise [tap0, tap1, tap2, tap3, row0, row1, row2, row3]
  unfold U conv4 bcol
  rw [mul_comm (down 3 _ _), mul_comm (down 2 _ _), mul_comm (down 1 _ _), mul_comm (ucol (Z X0 X1) C q)]
  try simp only [zero_add]

theorem sig (q : Fin 2176) (C : Fin 3072) : val_main_v39_2 (F := Ideal) X0 X1 X2 X3 (ix2 q C) = Ideal.logistic (U (Z X0 X1) X2 X3 C q) := by
  unfold val_main_v39_2 val_main_call0_v4 val_main_call0_cst_0 val_main_call0_v3 val_main_call0_v2 val_main_call0_cst val_main_call0_v1 val_main_call0_v0
  pointwise [convolved]
  try rfl

theorem dsig (q : Fin 2176) (C : Fin 3072) : val_main_v39_1 (F := Ideal) X0 X1 X2 X3 (ix2 q C)
    = Ideal.logistic (U (Z X0 X1) X2 X3 C q) * (1 - Ideal.logistic (U (Z X0 X1) X2 X3 C q)) := by
  unfold val_main_v39_1 val_main_call0_v7 val_main_call0_v6 val_main_call0_cst_1
  pointwise [sig]

theorem gated (q : Fin 2176) (C : Fin 3072) : val_main_v39_0 (F := Ideal) X0 X1 X2 X3 (ix2 q C) = silu (U (Z X0 X1) X2 X3 C q) := by
  unfold val_main_v39_0
  pointwise [sig, convolved]
  try rfl

theorem outer (q : Fin 2176) (C : Fin 3072) : val_main_v45 (F := Ideal) X4 X5 X6 (ix2 q C) = dcol X4 X5 X6 C q := by
  unfold val_main_v45
  pointwise
  unfold dcol
  have hC := C.isLt
  by_cases h : C.val < 2048
  · rw [dif_pos h, dif_pos h]
  · rw [dif_neg h, dif_neg h]
    by_cases h' : C.val < 2560
    · rw [dif_pos (by omega), dif_pos h']
    · rw [dif_neg (by omega), dif_neg h']
      refine congrArg (fun j => X6 (ix2 q j)) (Fin.ext ?_)
      show C.val - 2048 - 512 = C.val - 2560
      omega

theorem grad (q : Fin 2176) (C : Fin 3072) : val_main_v47 (F := Ideal) X0 X1 X2 X3 X4 X5 X6 (ix2 q C) = y X0 X1 X2 X3 X4 X5 X6 C q := by
  unfold val_main_v47 val_main_call1_v2 val_main_call1_v1 val_main_call1_v0
  pointwise [sig, dsig, convolved, outer]
  rfl

theorem biasGrad_at (o : Fin 1) (C : Fin 3072) : val_main_v49 (F := Ideal) X0 X1 X2 X3 X4 X5 X6 (ix2 o C) = ∑ q, y X0 X1 X2 X3 X4 X5 X6 C q := by
  unfold val_main_v49 val_main_v48 val_main_cst_3
  pointwise [grad]
  try simp only [zero_add]

theorem tapSum3 (o : Fin 1) (C : Fin 3072) : val_main_v56 (F := Ideal) X0 X1 X2 X3 X4 X5 X6 (ix2 o C)
    = ∑ q, y X0 X1 X2 X3 X4 X5 X6 C q * down 0 (ucol (Z X0 X1) C) q := by
  unfold val_main_v56 val_main_v55 val_main_cst_5 val_main_v52 val_main_v51 val_main_cst_4 val_main_v50
  pointwise [grad, row3]
  simp only [zero_add, down_zero, mul_comm, Finset.univ_unique, Finset.sum_singleton]

theorem tapSum2 (o : Fin 1) (C : Fin 3072) : val_main_v65 (F := Ideal) X0 X1 X2 X3 X4 X5 X6 (ix2 o C)
    = ∑ q, y X0 X1 X2 X3 X4 X5 X6 C q * down 1 (ucol (Z X0 X1) C) q := by
  unfold val_main_v65 val_main_v64 val_main_cst_9 val_main_v61 val_main_v60 val_main_cst_8 val_main_v59
  pointwise [grad, row2]
  simp only [zero_add, down_zero, mul_comm, Finset.univ_unique, Finset.sum_singleton]

theorem tapSum1 (o : Fin 1) (C : Fin 3072) : val_main_v76 (F := Ideal) X0 X1 X2 X3 X4 X5 X6 (ix2 o C)
    = ∑ q, y X0 X1 X2 X3 X4 X5 X6 C q * down 2 (ucol (Z X0 X1) C) q := by
  unfold val_main_v76 val_main_v75 val_main_cst_13 val_main_v72 val_main_v71 val_main_cst_12 val_main_v70
  pointwise [grad, row1]
  simp only [zero_add, down_zero, mul_comm, Finset.univ_unique, Finset.sum_singleton]

theorem tapSum0 (o : Fin 1) (C : Fin 3072) : val_main_v87 (F := Ideal) X0 X1 X2 X3 X4 X5 X6 (ix2 o C)
    = ∑ q, y X0 X1 X2 X3 X4 X5 X6 C q * down 3 (ucol (Z X0 X1) C) q := by
  unfold val_main_v87 val_main_v86 val_main_cst_17 val_main_v83 val_main_v82 val_main_cst_16 val_main_v81
  pointwise [grad, row0]
  simp only [zero_add, down_zero, mul_comm, Finset.univ_unique, Finset.sum_singleton]

theorem tapGrad_at (k : Fin 4) (C : Fin 3072) : val_main_v89 (F := Ideal) X0 X1 X2 X3 X4 X5 X6 (ix2 k C)
    = tap4 k (ucol (Z X0 X1) C) (y X0 X1 X2 X3 X4 X5 X6 C) := by
  unfold val_main_v89 val_main_v88 val_main_cst_18 val_main_v78 val_main_v77 val_main_cst_14 val_main_v67 val_main_v66 val_main_cst_10 val_main_v57 val_main_cst_6
  pointwise [tapSum0, tapSum1, tapSum2, tapSum3]
  unfold tap4
  match k with
  | 0 => simp
  | 1 => simp
  | 2 => simp
  | 3 => simp

theorem convGrad (q : Fin 2176) (C : Fin 3072) : val_main_v93 (F := Ideal) X0 X1 X2 X3 X4 X5 X6 (ix2 q C)
    = back4 (wcol X2 C) (y X0 X1 X2 X3 X4 X5 X6 C) q := by
  unfold val_main_v93 val_main_v91 val_main_v90 val_main_cst_19 val_main_v85 val_main_v84 val_main_v80 val_main_v79 val_main_cst_15 val_main_v74 val_main_v73 val_main_v69 val_main_v68 val_main_cst_11 val_main_v63 val_main_v62 val_main_v58 val_main_cst_7 val_main_v54 val_main_v53
  pointwise [grad, tap0, tap1, tap2, tap3]
  unfold back4
  generalize y X0 X1 X2 X3 X4 X5 X6 C = g
  generalize wcol X2 C = w
  have e2 : ∀ (h : q.val + 1 < 2176) (h' : 3 + q.val - 2 < 2176), (⟨3 + q.val - 2, h'⟩ : Fin 2176) = ⟨q.val + 1, h⟩ := fun h h' =>
    Fin.ext (by show 3 + q.val - 2 = q.val + 1; omega)
  have e1 : ∀ (h : q.val + 2 < 2176) (h' : 3 + q.val - 1 < 2176), (⟨3 + q.val - 1, h'⟩ : Fin 2176) = ⟨q.val + 2, h⟩ := fun h h' =>
    Fin.ext (by show 3 + q.val - 1 = q.val + 2; omega)
  have e0 : ∀ (h : q.val + 3 < 2176) (h' : 3 + q.val < 2176), (⟨3 + q.val, h'⟩ : Fin 2176) = ⟨q.val + 3, h⟩ := fun h h' =>
    Fin.ext (by show 3 + q.val = q.val + 3; omega)
  have f2 : (if h : 2 ≤ 3 + q.val ∧ 3 + q.val - 2 < 2176 then g ⟨3 + q.val - 2, h.2⟩ * w 2 else 0)
      = w 2 * up 1 g q := by
    unfold up
    by_cases h : q.val + 1 < 2176
    · rw [dif_pos h, dif_pos (by omega), e2 h, mul_comm]
    · rw [dif_neg h, dif_neg (by omega), mul_zero]
  have f1 : (if h : 1 ≤ 3 + q.val ∧ 3 + q.val - 1 < 2176 then g ⟨3 + q.val - 1, h.2⟩ * w 1 else 0)
      = w 1 * up 2 g q := by
    unfold up
    by_cases h : q.val + 2 < 2176
    · rw [dif_pos h, dif_pos (by omega), e1 h, mul_comm]
    · rw [dif_neg h, dif_neg (by omega), mul_zero]
  have f0 : (if h : 3 + q.val < 2176 then g ⟨3 + q.val, h⟩ * w 0 else 0)
      = w 0 * up 3 g q := by
    unfold up
    by_cases h : q.val + 3 < 2176
    · rw [dif_pos h, dif_pos (by omega), e0 h, mul_comm]
    · rw [dif_neg h, dif_neg (by omega), mul_zero]
  have key : ∀ a b c d e : EReal, d * e + c + b + a = a + b + c + e * d := fun a b c d e => by
    rw [mul_comm e d]
    ac_rfl
  rw [f0, f1, f2]
  exact key ..

theorem inputGrad_at (q : Fin 2176) (J : Fin 5632) : val_main_v97 (F := Ideal) X0 X1 X2 X3 X4 X5 X6 X7 (ix2 q J)
    = inputGrad (Z X0 X1) X2 X3 X4 X5 X6 X7 dsiluSum (ix2 q J) := by
  unfold val_main_v97 val_main_v96 val_main_cst_21 val_main_v95 val_main_v94 val_main_cst_20 val_main_v46 val_main_cst_2 val_main_v44 val_main_v43 val_main_v42 val_main_v41
  pointwise [convGrad]
  have hJ := J.isLt
  show _ = if h : 2048 ≤ J.val ∧ J.val < 5120
    then back4 (wcol X2 ⟨J.val - 2048, by omega⟩) (y X0 X1 X2 X3 X4 X5 X6 ⟨J.val - 2048, by omega⟩) q else X7 (ix2 q J)
  by_cases h1 : J.val < 2048
  · rw [dif_neg (show ¬ (2048 ≤ J.val ∧ J.val < 5120) by omega)]
    simp [h1, show ¬ 2048 ≤ J.val by omega, show ¬ 5120 ≤ J.val by omega]
  · by_cases h2 : J.val < 5120
    · rw [dif_pos (show 2048 ≤ J.val ∧ J.val < 5120 by omega)]
      simp [h1, h2, show 2048 ≤ J.val by omega, show ¬ 5120 ≤ J.val by omega, show J.val - 2048 < 3072 by omega]
    · rw [dif_neg (show ¬ (2048 ≤ J.val ∧ J.val < 5120) by omega)]
      simp [h1, h2, show 2048 ≤ J.val by omega, show 5120 ≤ J.val by omega, show ¬ J.val - 2048 < 3072 by omega,
        show 5120 + (J.val - 5120) = J.val by omega]
      intro h; omega

theorem weightGrad (p : Fin 1024) (J : Fin 5632) : val_main_v101 (F := Ideal) X0 X1 X2 X3 X4 X5 X6 X7 (ix2 p J)
    = ∑ q : Fin 2176, val_main_v97 (F := Ideal) X0 X1 X2 X3 X4 X5 X6 X7 (ix2 q J) * X0 (ix2 q p) := by
  unfold val_main_v101 val_main_v99 val_main_v98 val_main_v0
  generalize val_main_v97 (F := Ideal) X0 X1 X2 X3 X4 X5 X6 X7 = a
  pointwise

theorem entryGrad (q : Fin 2176) (p : Fin 1024) : val_main_v100 (F := Ideal) X0 X1 X2 X3 X4 X5 X6 X7 (ix2 q p)
    = ∑ J : Fin 5632, val_main_v97 (F := Ideal) X0 X1 X2 X3 X4 X5 X6 X7 (ix2 q J) * X1 (ix2 p J) := by
  unfold val_main_v100 val_main_v1
  generalize val_main_v97 (F := Ideal) X0 X1 X2 X3 X4 X5 X6 X7 = a
  pointwise

end Cert.InRef

end
-- ==== Proof.In.Equation.lean ====
/- At real arguments the six results of the mixer's entry are the reference's. -/
module

public import proofs.«01_k».proof.Proof.In.Fold
public import proofs.«01_k».proof.Proof.In.Ref
public import proofs.«01_k».proof.Proof.Layer.Equation
public import proofs.«01_k».proof.Proof.Gen.Pre_finite4

@[expose] public section

noncomputable section

namespace Cert.InEquation

open Cert.InKernelIdeal Idealize.ShloMosaic Idealize.ShloMosaic.TcCoe Idealize.SL.Sem
open Idealize.ShloMosaic.Pointwise Cert.ConvGate Cert.ConvSilu Cert.InColumns Cert.InProducts Cert.InFold
open Cert.LayerEquation (real_of_bound real_sum)
open Cert.InReferenceIdeal.Read

variable (A0 : Vec Ideal S2176x1024 .bf16) (A1 : Vec Ideal S1024x5632 .bf16) (A2 : Vec Ideal S4x3072 .f32) (A3 : Vec Ideal S1x3072 .f32)
  (A4 : Vec Ideal S2176x2048 .f32) (A5 A6 : Vec Ideal S2176x512 .f32) (A7 : Vec Ideal S2176x5632 .bf16)

/-- The precondition, read: every entry of the first seven arguments is a real number. -/
theorem reals (h : (Cert.Pre_finite4.fn (F := Ideal) A0 A1 A2 A3 A4 A5 A6 A7).1 = (fun _ => 1#1)
      ∧ (Cert.Pre_finite4.fn (F := Ideal) A0 A1 A2 A3 A4 A5 A6 A7).2.1 = (fun _ => 1#1)
      ∧ (Cert.Pre_finite4.fn (F := Ideal) A0 A1 A2 A3 A4 A5 A6 A7).2.2.1 = (fun _ => 1#1)
      ∧ (Cert.Pre_finite4.fn (F := Ideal) A0 A1 A2 A3 A4 A5 A6 A7).2.2.2.1 = (fun _ => 1#1)
      ∧ (Cert.Pre_finite4.fn (F := Ideal) A0 A1 A2 A3 A4 A5 A6 A7).2.2.2.2.1 = (fun _ => 1#1)
      ∧ (Cert.Pre_finite4.fn (F := Ideal) A0 A1 A2 A3 A4 A5 A6 A7).2.2.2.2.2.1 = (fun _ => 1#1)
      ∧ (Cert.Pre_finite4.fn (F := Ideal) A0 A1 A2 A3 A4 A5 A6 A7).2.2.2.2.2.2 = (fun _ => 1#1)) :
    (∀ i, Real' (A0 i)) ∧ (∀ i, Real' (A1 i)) ∧ (∀ i, Real' (A2 i)) ∧ (∀ i, Real' (A3 i)) ∧ (∀ i, Real' (A4 i)) ∧ (∀ i, Real' (A5 i)) ∧ (∀ i, Real' (A6 i)) := by
  have top : Ideal.ofBits .f32 0x7F800000#32 = ⊤ := by
    simp [Ideal.ofBits, Ideal.ieee]
  simp only [Cert.Pre_finite4.fn, Cert.Pre_finite4.fn_part1] at h
  obtain ⟨h0, h1, h2, h3, h4, h5, h6⟩ := h
  refine ⟨fun i => real_of_bound ?_, fun i => real_of_bound ?_, fun i => real_of_bound ?_, fun i => real_of_bound ?_, fun i => real_of_bound ?_, fun i => real_of_bound ?_, fun i => real_of_bound ?_⟩
  · rw [← top]; exact congrFun h0 i
  · rw [← top]; exact congrFun h1 i
  · rw [← top]; exact congrFun h2 i
  · rw [← top]; exact congrFun h3 i
  · rw [← top]; exact congrFun h4 i
  · rw [← top]; exact congrFun h5 i
  · rw [← top]; exact congrFun h6 i

theorem zx_eq : zx A0 A1 = val_main_v2 (F := Ideal) A0 A1 := by
  funext i
  obtain ⟨q, J, rfl⟩ : ∃ (q : Fin 2176) (J : Fin 5632), i = ix2 q J := ⟨i 0, i 1, by funext a; fin_cases a <;> rfl⟩
  rw [InRef.product]
  rfl

theorem xbc_eq : xbc A0 A1 A2 A3 = val_main_v39_0 (F := Ideal) A0 A1 A2 A3 := by
  funext i
  obtain ⟨q, C, rfl⟩ : ∃ (q : Fin 2176) (C : Fin 3072), i = ix2 q C := ⟨i 0, i 1, by funext a; fin_cases a <;> rfl⟩
  rw [InRef.gated]
  unfold xbc
  rw [zx_eq]
  rfl

variable (h0 : ∀ i, Real' (A0 i)) (h1 : ∀ i, Real' (A1 i)) (h2 : ∀ i, Real' (A2 i)) (h3 : ∀ i, Real' (A3 i)) (h4 : ∀ i, Real' (A4 i)) (h5 : ∀ i, Real' (A5 i)) (h6 : ∀ i, Real' (A6 i))

include h4 h5 h6 in
theorem dcol_real (C : Fin 3072) (q : Fin 2176) : Real' (dcol A4 A5 A6 C q) := by
  unfold dcol
  split
  · exact h4 _
  · split
    · exact h5 _
    · exact h6 _

include h0 h1 h2 h3 in
theorem conv_real (C : Fin 3072) (q : Fin 2176) : Real' (U (zx A0 A1) A2 A3 C q) :=
  real_conv4 (fun _ => h2 _) (h3 _) (fun _ => real_sum (fun _ => h0 _) fun _ => h1 _) q

include h0 h1 h2 h3 h4 h5 h6

/-- The kernel's factored gradient is the product rule's. -/
theorem Y_eq (C : Fin 3072) : Y (zx A0 A1) A2 A3 A4 A5 A6 dsilu C = Y (val_main_v2 (F := Ideal) A0 A1) A2 A3 A4 A5 A6 dsiluSum C := by
  rw [← zx_eq]
  funext q
  exact dsilu_eq_sum (dcol_real A4 A5 A6 h4 h5 h6 C q) (conv_real A0 A1 A2 A3 h0 h1 h2 h3 C q)

theorem dzx_eq : dzx A0 A1 A2 A3 A4 A5 A6 A7 = val_main_v97 (F := Ideal) A0 A1 A2 A3 A4 A5 A6 A7 := by
  funext i
  obtain ⟨q, J, rfl⟩ : ∃ (q : Fin 2176) (J : Fin 5632), i = ix2 q J := ⟨i 0, i 1, by funext a; fin_cases a <;> rfl⟩
  rw [InRef.inputGrad_at]
  unfold dzx inputGrad
  simp only [Y_eq A0 A1 A2 A3 A4 A5 A6 h0 h1 h2 h3 h4 h5 h6]

theorem dcw_eq : dcw A0 A1 A2 A3 A4 A5 A6 = val_main_v89 (F := Ideal) A0 A1 A2 A3 A4 A5 A6 := by
  funext i
  obtain ⟨k, C, rfl⟩ : ∃ (k : Fin 4) (C : Fin 3072), i = ix2 k C := ⟨i 0, i 1, by funext a; fin_cases a <;> rfl⟩
  rw [InRef.tapGrad_at]
  refine (congrArg (tap4 k (ucol (zx A0 A1) C)) (Y_eq A0 A1 A2 A3 A4 A5 A6 h0 h1 h2 h3 h4 h5 h6 C)).trans ?_
  rw [zx_eq]

theorem dcb_eq : dcb A0 A1 A2 A3 A4 A5 A6 = val_main_v49 (F := Ideal) A0 A1 A2 A3 A4 A5 A6 := by
  funext i
  obtain ⟨o, C, rfl⟩ : ∃ (o : Fin 1) (C : Fin 3072), i = ix2 o C := ⟨i 0, i 1, by funext a; fin_cases a <;> rfl⟩
  rw [InRef.biasGrad_at]
  exact congrArg (fun y : Fin 2176 → EReal => ∑ r, y r) (Y_eq A0 A1 A2 A3 A4 A5 A6 h0 h1 h2 h3 h4 h5 h6 C)

theorem dhn_eq : dhn A0 A1 A2 A3 A4 A5 A6 A7 = val_main_v100 (F := Ideal) A0 A1 A2 A3 A4 A5 A6 A7 := by
  funext i
  obtain ⟨q, p, rfl⟩ : ∃ (q : Fin 2176) (p : Fin 1024), i = ix2 q p := ⟨i 0, i 1, by funext a; fin_cases a <;> rfl⟩
  rw [InRef.entryGrad, ← dzx_eq A0 A1 A2 A3 A4 A5 A6 A7 h0 h1 h2 h3 h4 h5 h6]
  rfl

theorem dw_in_eq : dw_in A0 A1 A2 A3 A4 A5 A6 A7 = val_main_v101 (F := Ideal) A0 A1 A2 A3 A4 A5 A6 A7 := by
  funext i
  obtain ⟨p, J, rfl⟩ : ∃ (p : Fin 1024) (J : Fin 5632), i = ix2 p J := ⟨i 0, i 1, by funext a; fin_cases a <;> rfl⟩
  rw [InRef.weightGrad, ← dzx_eq A0 A1 A2 A3 A4 A5 A6 A7 h0 h1 h2 h3 h4 h5 h6]
  unfold dw_in tn
  exact Finset.sum_congr rfl fun k _ => mul_comm (G := EReal) _ _

end Cert.InEquation

end
-- ==== Proof.Step.Run.lean ====
/- The run of the nine kernel calls of the step of the large weights: every buffer of the device that outlives a call ends at the
   contents of the last boundary, which is a fold of the calls from the launch memory. Stated over any numbers. -/
module

public import proofs.«01_k».proof.Proof.Gen.StepKernelIdeal.Frame

@[expose] public section

set_option maxRecDepth 16384

noncomputable section

namespace Cert.StepRun

open Cert.StepKernelIdeal Cert.StepKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one
set_option backward.isDefEq.respectTransparency.types false in
/-- Every execution ends, and every buffer holds what the last boundary says. -/
theorem run : θ_run defs (onTc (τ := τ) (main (F := F))) ⟨m, fun _ => 0, ρ⟩
    (fun r => ∀ c : Dev nD, ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

set_option maxHeartbeats 4000000 in
/-- The twenty-eight results and the thirty-one arguments, at the end of the run. -/
theorem results : θ_run defs (onTc (τ := τ) (main (F := F))) ⟨m, fun _ => 0, ρ⟩ (fun r => ∀ c : Dev nD,
      r.2.mem ((c.tc : Thread nD τ).loc main_v32) = W15 m ρ c (Proc.devRef .tc main_v32)
      ∧ r.2.mem ((c.tc : Thread nD τ).loc main_v33) = W15 m ρ c (Proc.devRef .tc main_v33)
      ∧ r.2.mem ((c.tc : Thread nD τ).loc main_v34) = W15 m ρ c (Proc.devRef .tc main_v34)
      ∧ r.2.mem ((c.tc : Thread nD τ).loc main_v35) = W15 m ρ c (Proc.devRef .tc main_v35)
      ∧ r.2.mem ((c.tc : Thread nD τ).loc main_v13_0) = W15 m ρ c (Proc.devRef .tc main_v13_0)
      ∧ r.2.mem ((c.tc : Thread nD τ).loc main_v13_1) = W15 m ρ c (Proc.devRef .tc main_v13_1)
      ∧ r.2.mem ((c.tc : Thread nD τ).loc main_v13_2) = W15 m ρ c (Proc.devRef .tc main_v13_2)
      ∧ r.2.mem ((c.tc : Thread nD τ).loc main_v13_3) = W15 m ρ c (Proc.devRef .tc main_v13_3)
      ∧ r.2.mem ((c.tc : Thread nD τ).loc main_v18) = W15 m ρ c (Proc.devRef .tc main_v18)
      ∧ r.2.mem ((c.tc : Thread nD τ).loc main_v19) = W15 m ρ c (Proc.devRef .tc main_v19)
      ∧ r.2.mem ((c.tc : Thread nD τ).loc main_v20) = W15 m ρ c (Proc.devRef .tc main_v20)
      ∧ r.2.mem ((c.tc : Thread nD τ).loc main_v21) = W15 m ρ c (Proc.devRef .tc main_v21)
      ∧ r.2.mem ((c.tc : Thread nD τ).loc main_v22_0) = W15 m ρ c (Proc.devRef .tc main_v22_0)
      ∧ r.2.mem ((c.tc : Thread nD τ).loc main_v22_1) = W15 m ρ c (Proc.devRef .tc main_v22_1)
      ∧ r.2.mem ((c.tc : Thread nD τ).loc main_v22_2) = W15 m ρ c (Proc.devRef .tc main_v22_2)
      ∧ r.2.mem ((c.tc : Thread nD τ).loc main_v22_3) = W15 m ρ c (Proc.devRef .tc main_v22_3)
      ∧ r.2.mem ((c.tc : Thread nD τ).loc main_v23_0) = W15 m ρ c (Proc.devRef .tc main_v23_0)
      ∧ r.2.mem ((c.tc : Thread nD τ).loc main_v23_1) = W15 m ρ c (Proc.devRef .tc main_v23_1)
      ∧ r.2.mem ((c.tc : Thread nD τ).loc main_v23_2) = W15 m ρ c (Proc.devRef .tc main_v23_2)
      ∧ r.2.mem ((c.tc : Thread nD τ).loc main_v23_3) = W15 m ρ c (Proc.devRef .tc main_v23_3)
      ∧ r.2.mem ((c.tc : Thread nD τ).loc main_v9) = W15 m ρ c (Proc.devRef .tc main_v9)
      ∧ r.2.mem ((c.tc : Thread nD τ).loc main_v10) = W15 m ρ c (Proc.devRef .tc main_v10)
      ∧ r.2.mem ((c.tc : Thread nD τ).loc main_v11) = W15 m ρ c (Proc.devRef .tc main_v11)
      ∧ r.2.mem ((c.tc : Thread nD τ).loc main_v12) = W15 m ρ c (Proc.devRef .tc main_v12)
      ∧ r.2.mem ((c.tc : Thread nD τ).loc main_v24_0) = W15 m ρ c (Proc.devRef .tc main_v24_0)
      ∧ r.2.mem ((c.tc : Thread nD τ).loc main_v24_1) = W15 m ρ c (Proc.devRef .tc main_v24_1)
      ∧ r.2.mem ((c.tc : Thread nD τ).loc main_v24_2) = W15 m ρ c (Proc.devRef .tc main_v24_2)
      ∧ r.2.mem ((c.tc : Thread nD τ).loc main_v24_3) = W15 m ρ c (Proc.devRef .tc main_v24_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c =>
    ⟨h c _ (mem_uc main_v32 (by decide)),
     h c _ (mem_uc main_v33 (by decide)),
     h c _ (mem_uc main_v34 (by decide)),
     h c _ (mem_uc main_v35 (by decide)),
     h c _ (mem_uc main_v13_0 (by decide)),
     h c _ (mem_uc main_v13_1 (by decide)),
     h c _ (mem_uc main_v13_2 (by decide)),
     h c _ (mem_uc main_v13_3 (by decide)),
     h c _ (mem_uc main_v18 (by decide)),
     h c _ (mem_uc main_v19 (by decide)),
     h c _ (mem_uc main_v20 (by decide)),
     h c _ (mem_uc main_v21 (by decide)),
     h c _ (mem_uc main_v22_0 (by decide)),
     h c _ (mem_uc main_v22_1 (by decide)),
     h c _ (mem_uc main_v22_2 (by decide)),
     h c _ (mem_uc main_v22_3 (by decide)),
     h c _ (mem_uc main_v23_0 (by decide)),
     h c _ (mem_uc main_v23_1 (by decide)),
     h c _ (mem_uc main_v23_2 (by decide)),
     h c _ (mem_uc main_v23_3 (by decide)),
     h c _ (mem_uc main_v9 (by decide)),
     h c _ (mem_uc main_v10 (by decide)),
     h c _ (mem_uc main_v11 (by decide)),
     h c _ (mem_uc main_v12 (by decide)),
     h c _ (mem_uc main_v24_0 (by decide)),
     h c _ (mem_uc main_v24_1 (by decide)),
     h c _ (mem_uc main_v24_2 (by decide)),
     h c _ (mem_uc main_v24_3 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c),
     (h c _ (mem_uc main_arg19 (by decide))).trans (W15_main_arg19 m ρ c),
     (h c _ (mem_uc main_arg20 (by decide))).trans (W15_main_arg20 m ρ c),
     (h c _ (mem_uc main_arg21 (by decide))).trans (W15_main_arg21 m ρ c),
     (h c _ (mem_uc main_arg22 (by decide))).trans (W15_main_arg22 m ρ c),
     (h c _ (mem_uc main_arg23 (by decide))).trans (W15_main_arg23 m ρ c),
     (h c _ (mem_uc main_arg24 (by decide))).trans (W15_main_arg24 m ρ c),
     (h c _ (mem_uc main_arg25 (by decide))).trans (W15_main_arg25 m ρ c),
     (h c _ (mem_uc main_arg26 (by decide))).trans (W15_main_arg26 m ρ c),
     (h c _ (mem_uc main_arg27 (by decide))).trans (W15_main_arg27 m ρ c),
     (h c _ (mem_uc main_arg28 (by decide))).trans (W15_main_arg28 m ρ c),
     (h c _ (mem_uc main_arg29 (by decide))).trans (W15_main_arg29 m ρ c),
     (h c _ (mem_uc main_arg30 (by decide))).trans (W15_main_arg30 m ρ c)⟩) (run m ρ)

end Cert.StepRun

end
-- ==== Proof.Step.Spec.lean ====
/- One step of AdamW, element by element, over any shape: the two moments and the change of a weight from its gradient.
   The two bias corrections are products with a constant. -/
module

public import Idealize.ShloMosaic.PureOps.Ideal.Laws
public import Idealize.ShloMosaic.Lib.Pipeline.ValueKit.Point

@[expose] public section

noncomputable section

namespace Cert.AdamW

open Idealize.ShloMosaic

/-- The first moment of an element, moved towards its gradient. -/
def first (m g : EReal) : EReal := Ideal.ofBits .f32 0x3F666666#32 * m + Ideal.ofBits .f32 0x3DCCCCCD#32 * g
/-- The second moment of an element, moved towards the square of its gradient. -/
def second (v g : EReal) : EReal := Ideal.ofBits .f32 0x3F7FBE77#32 * v + Ideal.ofBits .f32 0x3A83126F#32 * (g * g)
/-- The change of an element, from itself and its two new moments. -/
def change (w m v : EReal) : EReal :=
  Ideal.ofBits .f32 0xBA83126F#32
    * (Ideal.div (m * Ideal.ofBits .f32 0x3FC48605#32) (Ideal.sqrt (v * Ideal.ofBits .f32 0x42C8E6D3#32) + Ideal.ofBits .f32 0x322BCC77#32)
      + Ideal.ofBits .f32 0x3C23D70A#32 * w)

theorem first_congr {m m' g g' : EReal} (hm : m = m') (hg : g = g') : first m g = first m' g' := by rw [hm, hg]
theorem second_congr {v v' g g' : EReal} (hv : v = v') (hg : g = g') : second v g = second v' g' := by rw [hv, hg]
theorem change_congr {w w' m m' v v' g g' : EReal} (hw : w = w') (hm : m = m') (hv : v = v') (hg : g = g') :
    change w (first m g) (second v g) = change w' (first m' g') (second v' g') := by rw [hw, hm, hv, hg]

/-- Four parts that agree one by one have the same sum. -/
theorem sum_congr {a b : Fin 4 → EReal} (h : ∀ p, a p = b p) : (∑ p, a p) = ∑ p, b p := Finset.sum_congr rfl fun p _ => h p

variable {s : Shape}

/-- The first moments of an array. -/
def firsts (m g : Vec Ideal s .f32) : Vec Ideal s .f32 := fun i => first (m i) (g i)
/-- The second moments of an array. -/
def seconds (v g : Vec Ideal s .f32) : Vec Ideal s .f32 := fun i => second (v i) (g i)
/-- The changes of an array, from its gradient and its two old moments. -/
def changes (g w m v : Vec Ideal s .f32) : Vec Ideal s .f32 := fun i => change (w i) (first (m i) (g i)) (second (v i) (g i))

end Cert.AdamW

end
-- ==== Proof.Step.Call0.lean ====
/- The gradient of the first product of the feed-forward, layer under layer: what one grid
   point leaves in its block, and the array. -/
module

public import proofs.«01_k».proof.Proof.Gen.StepKernelIdeal.Frame.Region0
public import proofs.«01_k».proof.Proof.Step.Spec
public import Idealize.ShloMosaic.Lib.Pipeline.Value
public import Idealize.ShloMosaic.Lib.Pipeline.ValueKit.Point

@[expose] public section

noncomputable section

namespace Cert.StepCall0

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid0.Coords) (arg2 : Memref sig .tc .vmem S4x512x704 .bf16) (harg2 : arg2.IsWhole) (arg3 : Memref
  sig .tc .vmem S4x512x704 .bf16) (harg3 : arg3.IsWhole) (arg4 : Memref sig .tc .vmem S512x704 .f32) (harg4 :
  arg4.IsWhole)
    (x0 : Vec Ideal S4x512x704 .bf16) (x1 : Vec Ideal S4x512x704 .bf16)

theorem outA (hc0 : cond0_0 i) (hc1 : ¬cond0_1 i) (r : Fin 512) (l : Fin 704) :
    out0_A_2 c i arg2 harg2 arg3 harg3 arg4 harg4 hc0 hc1 x0 x1 (ix2 r l : S512x704.Idx)
      = ∑ p : Fin 4, x0 (ix3 p r l) := by
  frame_out
  rw [Fin.sum_univ_four]
  pointwise [k0_pay1, k0_pay2]

theorem outB (hc0 : ¬cond0_0 i) (hc1 : cond0_1 i) (r : Fin 512) (l : Fin 704) :
    out0_B_2 c i arg2 harg2 arg3 harg3 arg4 harg4 hc0 hc1 x0 x1 (ix2 r l : S512x704.Idx)
      = ∑ p : Fin 4, x1 (ix3 p r l) := by
  frame_out
  rw [Fin.sum_univ_four]
  pointwise [k0_pay1, k0_pay2]

end

/-- The sum over the devices of the two arrays' rows, one array under the other. -/
def sum0 (P Q : Vec Ideal S4x1024x704 .bf16) : Vec Ideal S2048x704 .f32 := fun i =>
  if h : (i 0).val < 1024 then ∑ p : Fin 4, P (ix3 p ⟨(i 0).val, h⟩ (i 1))
  else ∑ p : Fin 4, Q (ix3 p ⟨(i 0).val - 1024, by have : (i 0).val < 2048 := (i 0).isLt; omega⟩ (i 1))

variable (V : (c : Dev nD) → (b : Ref sig .tc) → Buf (Elt Ideal) ((c : Thread nD τ).loc b)) (c : Dev nD)

/-- Row `r` of point `t`'s block, among all rows and among its array's. -/
def row (t : Fin cfg0.N) (r : Fin 512) : Fin 2048 := ⟨t.val * 512 + r.val, by have h : t.val < 4 := t.isLt; have := r.isLt; omega⟩
def part (t : Fin cfg0.N) (r : Fin 512) : Fin 1024 := ⟨t.val % 2 * 512 + r.val, by have := r.isLt; omega⟩

theorem e0 : ∀ t : Fin cfg0.N, t.val < 2 → win0_0.index t = ![0, t.val % 2, 0] :=
  (by decide +kernel : ∀ t : Fin grid0.N, t.val < 2 → win0_0.index t = ![0, t.val % 2, 0])
theorem e1 : ∀ t : Fin cfg0.N, ¬ t.val < 2 → win0_1.index t = ![0, t.val % 2, 0] :=
  (by decide +kernel : ∀ t : Fin grid0.N, ¬ t.val < 2 → win0_1.index t = ![0, t.val % 2, 0])
theorem e2 : ∀ t : Fin cfg0.N, win0_2.index t = ![t.val, 0] :=
  (by decide +kernel : ∀ t : Fin grid0.N, win0_2.index t = ![t.val, 0])

theorem blk0 (t : Fin cfg0.N) (h : t.val < 2) (p : Fin 4) (r : Fin 512) (l : Fin 704) :
    iblk0 V c 0 t (ix3 p r l : S4x512x704.Idx) = V c main_arg6 (ix3 p (part t r) l) := by
  blk_ext [iblk0, e0 t h, part]
theorem blk1 (t : Fin cfg0.N) (h : ¬ t.val < 2) (p : Fin 4) (r : Fin 512) (l : Fin 704) :
    iblk0 V c 1 t (ix3 p r l : S4x512x704.Idx) = V c main_arg7 (ix3 p (part t r) l) := by
  blk_ext [iblk0, e1 t h, part]

theorem array2 : (dat0 V c).arrAt 2 cfg0.N = sum0 (V c main_arg6) (V c main_arg7) := by
  refine (dat0 V c).arrAt_eq_of_covers 2 _ (by decide +kernel) fun t hf y => ?_
  blk_simp
  rw [after0_2]
  have ht : t.val < 4 := t.isLt
  obtain ⟨r, l, rfl⟩ : ∃ (r : Fin 512) (l : Fin 704), y = ix2 r l := ⟨y 0, y 1, by funext a; fin_cases a <;> rfl⟩
  have hr := r.isLt
  have hi : (win0_2.blk t).view.emb (ix2 r l : S512x704.Idx) = (ix2 (row t r) l : S2048x704.Idx) := by
    blk_point [e2 t, row]
  rw [hi]
  by_cases h : t.val < 2
  · have hd : t.val * 512 + r.val < 1024 := by omega
    rw [outsAt0_A V c t (by omega) (by omega), outA]
    refine Eq.trans (AdamW.sum_congr fun p => blk0 V c t h p r l) ?_
    refine Eq.trans ?_ (dif_pos hd).symm
    have he : part t r = ⟨t.val * 512 + r.val, hd⟩ := Fin.ext (by show t.val % 2 * 512 + r.val = t.val * 512 + r.val; omega)
    rw [he] <;> rfl
  · have hd : ¬ t.val * 512 + r.val < 1024 := by omega
    rw [outsAt0_B V c t (by omega) (by omega), outB]
    refine Eq.trans (AdamW.sum_congr fun p => blk1 V c t h p r l) ?_
    refine Eq.trans ?_ (dif_neg hd).symm
    have he : part t r = ⟨t.val * 512 + r.val - 1024, by omega⟩ :=
      Fin.ext (by show t.val % 2 * 512 + r.val = t.val * 512 + r.val - 1024; omega)
    rw [he] <;> rfl

end Cert.StepCall0

end
-- ==== Proof.Step.Call1.lean ====
/- The step of the first product of the feed-forward, which lies transposed: two layers, whose gradients come in two arrays. What one grid
   point leaves in its four blocks, and the four arrays. -/
module

public import proofs.«01_k».proof.Proof.Gen.StepKernelIdeal.Frame.Region1
public import proofs.«01_k».proof.Proof.Step.Spec
public import Idealize.ShloMosaic.Lib.Pipeline.Value
public import Idealize.ShloMosaic.Lib.Pipeline.ValueKit.Point

@[expose] public section

noncomputable section

namespace Cert.StepCall1

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid1.Coords) (arg3 : Memref sig .tc .vmem S1x176x1024 .f32) (harg3 : arg3.IsWhole) (arg4 : Memref
  sig .tc .vmem S1x176x1024 .f32) (harg4 : arg4.IsWhole) (arg5 : Memref sig .tc .vmem S1x176x1024 .f32) (harg5 :
  arg5.IsWhole) (arg6 : Memref sig .tc .vmem S1x176x1024 .f32) (harg6 : arg6.IsWhole) (arg7 : Memref sig .tc .vmem
  S1x176x1024 .f32) (harg7 : arg7.IsWhole) (arg8 : Memref sig .tc .vmem S1x176x1024 .f32) (harg8 : arg8.IsWhole) (arg9
  : Memref sig .tc .vmem S1x176x1024 .f32) (harg9 : arg9.IsWhole) (arg10 : Memref sig .tc .vmem S1x176x1024 .f32)
  (harg10 : arg10.IsWhole) (arg11 : Memref sig .tc .vmem S1x176x1024 .f32) (harg11 : arg11.IsWhole)
    (x0 : Vec Ideal S1x176x1024 .f32) (x1 : Vec Ideal S1x176x1024 .f32) (x2 : Vec Ideal S1x176x1024 .f32) (x3 : Vec
      Ideal S1x176x1024 .f32) (x4 : Vec Ideal S1x176x1024 .f32)

theorem outA5 (hc0 : cond1_0 i) (hc1 : ¬cond1_1 i) (r : Fin 176) (l : Fin 1024) :
    out1_A_5 c i arg3 harg3 arg4 harg4 arg5 harg5 arg6 harg6 arg7 harg7 arg8 harg8 arg9 harg9 arg10 harg10 arg11
      harg11 hc0 hc1 x0 x1 x2 x3 x4 (ix3 0 r l : S1x176x1024.Idx)
      = x0 (ix3 0 r l) := by
  frame_out
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

theorem outA6 (hc0 : cond1_0 i) (hc1 : ¬cond1_1 i) (r : Fin 176) (l : Fin 1024) :
    out1_A_6 c i arg3 harg3 arg4 harg4 arg5 harg5 arg6 harg6 arg7 harg7 arg8 harg8 arg9 harg9 arg10 harg10 arg11
      harg11 hc0 hc1 x0 x1 x2 x3 x4 (ix3 0 r l : S1x176x1024.Idx)
      = change (x2 (ix3 0 r l)) (first (x3 (ix3 0 r l)) (x0 (ix3 0 r l))) (second (x4 (ix3 0 r l)) (x0 (ix3 0 r l)))
        := by
  frame_out
  unfold change first second
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

theorem outA7 (hc0 : cond1_0 i) (hc1 : ¬cond1_1 i) (r : Fin 176) (l : Fin 1024) :
    out1_A_7 c i arg3 harg3 arg4 harg4 arg5 harg5 arg6 harg6 arg7 harg7 arg8 harg8 arg9 harg9 arg10 harg10 arg11
      harg11 hc0 hc1 x0 x1 x2 x3 x4 (ix3 0 r l : S1x176x1024.Idx)
      = first (x3 (ix3 0 r l)) (x0 (ix3 0 r l)) := by
  frame_out
  unfold first
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

theorem outA8 (hc0 : cond1_0 i) (hc1 : ¬cond1_1 i) (r : Fin 176) (l : Fin 1024) :
    out1_A_8 c i arg3 harg3 arg4 harg4 arg5 harg5 arg6 harg6 arg7 harg7 arg8 harg8 arg9 harg9 arg10 harg10 arg11
      harg11 hc0 hc1 x0 x1 x2 x3 x4 (ix3 0 r l : S1x176x1024.Idx)
      = second (x4 (ix3 0 r l)) (x0 (ix3 0 r l)) := by
  frame_out
  unfold second
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

theorem outB5 (hc0 : ¬cond1_0 i) (hc1 : cond1_1 i) (r : Fin 176) (l : Fin 1024) :
    out1_B_5 c i arg3 harg3 arg4 harg4 arg5 harg5 arg6 harg6 arg7 harg7 arg8 harg8 arg9 harg9 arg10 harg10 arg11
      harg11 hc0 hc1 x0 x1 x2 x3 x4 (ix3 0 r l : S1x176x1024.Idx)
      = x1 (ix3 0 r l) := by
  frame_out
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

theorem outB6 (hc0 : ¬cond1_0 i) (hc1 : cond1_1 i) (r : Fin 176) (l : Fin 1024) :
    out1_B_6 c i arg3 harg3 arg4 harg4 arg5 harg5 arg6 harg6 arg7 harg7 arg8 harg8 arg9 harg9 arg10 harg10 arg11
      harg11 hc0 hc1 x0 x1 x2 x3 x4 (ix3 0 r l : S1x176x1024.Idx)
      = change (x2 (ix3 0 r l)) (first (x3 (ix3 0 r l)) (x1 (ix3 0 r l))) (second (x4 (ix3 0 r l)) (x1 (ix3 0 r l)))
        := by
  frame_out
  unfold change first second
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

theorem outB7 (hc0 : ¬cond1_0 i) (hc1 : cond1_1 i) (r : Fin 176) (l : Fin 1024) :
    out1_B_7 c i arg3 harg3 arg4 harg4 arg5 harg5 arg6 harg6 arg7 harg7 arg8 harg8 arg9 harg9 arg10 harg10 arg11
      harg11 hc0 hc1 x0 x1 x2 x3 x4 (ix3 0 r l : S1x176x1024.Idx)
      = first (x3 (ix3 0 r l)) (x1 (ix3 0 r l)) := by
  frame_out
  unfold first
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

theorem outB8 (hc0 : ¬cond1_0 i) (hc1 : cond1_1 i) (r : Fin 176) (l : Fin 1024) :
    out1_B_8 c i arg3 harg3 arg4 harg4 arg5 harg5 arg6 harg6 arg7 harg7 arg8 harg8 arg9 harg9 arg10 harg10 arg11
      harg11 hc0 hc1 x0 x1 x2 x3 x4 (ix3 0 r l : S1x176x1024.Idx)
      = second (x4 (ix3 0 r l)) (x1 (ix3 0 r l)) := by
  frame_out
  unfold second
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]

end

/-- The gradients of the two layers. -/
def grad1 (P Q : Vec Ideal S1x704x1024 .f32) : Vec Ideal S2x704x1024 .f32 := fun i =>
  if (i 0).val = 0 then P (ix3 0 (i 1) (i 2)) else Q (ix3 0 (i 1) (i 2))

theorem grad1_zero (P Q : Vec Ideal S1x704x1024 .f32) (a : Fin 2) (b : Fin 704) (d : Fin 1024) (h : a.val = 0) :
    grad1 P Q (ix3 a b d) = P (ix3 0 b d) := if_pos h
theorem grad1_one (P Q : Vec Ideal S1x704x1024 .f32) (a : Fin 2) (b : Fin 704) (d : Fin 1024) (h : ¬ a.val = 0) :
    grad1 P Q (ix3 a b d) = Q (ix3 0 b d) := if_neg h

variable (V : (c : Dev nD) → (b : Ref sig .tc) → Buf (Elt Ideal) ((c : Thread nD τ).loc b)) (c : Dev nD)

/-- The layer of point `t`, and row `r` of its block. -/
def layer (t : Fin cfg1.N) : Fin 2 := ⟨t.val / 4, by have h : t.val < 8 := t.isLt; omega⟩
def row (t : Fin cfg1.N) (r : Fin 176) : Fin 704 := ⟨t.val % 4 * 176 + r.val, by have := r.isLt; omega⟩

theorem e0 : ∀ t : Fin cfg1.N, t.val < 4 → win1_0.index t = ![0, t.val % 4, 0] :=
  (by decide +kernel : ∀ t : Fin grid1.N, t.val < 4 → win1_0.index t = ![0, t.val % 4, 0])
theorem e1 : ∀ t : Fin cfg1.N, ¬ t.val < 4 → win1_1.index t = ![0, t.val % 4, 0] :=
  (by decide +kernel : ∀ t : Fin grid1.N, ¬ t.val < 4 → win1_1.index t = ![0, t.val % 4, 0])
theorem e2 : ∀ t : Fin cfg1.N, win1_2.index t = ![t.val / 4, t.val % 4, 0] :=
  (by decide +kernel : ∀ t : Fin grid1.N, win1_2.index t = ![t.val / 4, t.val % 4, 0])
theorem e3 : ∀ t : Fin cfg1.N, win1_3.index t = ![t.val / 4, t.val % 4, 0] :=
  (by decide +kernel : ∀ t : Fin grid1.N, win1_3.index t = ![t.val / 4, t.val % 4, 0])
theorem e4 : ∀ t : Fin cfg1.N, win1_4.index t = ![t.val / 4, t.val % 4, 0] :=
  (by decide +kernel : ∀ t : Fin grid1.N, win1_4.index t = ![t.val / 4, t.val % 4, 0])
theorem e5 : ∀ t : Fin cfg1.N, win1_5.index t = ![t.val / 4, t.val % 4, 0] :=
  (by decide +kernel : ∀ t : Fin grid1.N, win1_5.index t = ![t.val / 4, t.val % 4, 0])
theorem e6 : ∀ t : Fin cfg1.N, win1_6.index t = ![t.val / 4, t.val % 4, 0] :=
  (by decide +kernel : ∀ t : Fin grid1.N, win1_6.index t = ![t.val / 4, t.val % 4, 0])
theorem e7 : ∀ t : Fin cfg1.N, win1_7.index t = ![t.val / 4, t.val % 4, 0] :=
  (by decide +kernel : ∀ t : Fin grid1.N, win1_7.index t = ![t.val / 4, t.val % 4, 0])
theorem e8 : ∀ t : Fin cfg1.N, win1_8.index t = ![t.val / 4, t.val % 4, 0] :=
  (by decide +kernel : ∀ t : Fin grid1.N, win1_8.index t = ![t.val / 4, t.val % 4, 0])

theorem blk0 (t : Fin cfg1.N) (h : t.val < 4) (p : Fin 1) (r : Fin 176) (l : Fin 1024) :
    iblk1 V c 0 t (ix3 p r l : S1x176x1024.Idx) = V c main_v3 (ix3 p (row t r) l) := by
  blk_ext [iblk1, e0 t h, row]
theorem blk1 (t : Fin cfg1.N) (h : ¬ t.val < 4) (p : Fin 1) (r : Fin 176) (l : Fin 1024) :
    iblk1 V c 1 t (ix3 p r l : S1x176x1024.Idx) = V c main_v4 (ix3 p (row t r) l) := by
  blk_ext [iblk1, e1 t h, row]
theorem blk2 (t : Fin cfg1.N) (r : Fin 176) (l : Fin 1024) :
    iblk1 V c 2 t (ix3 0 r l : S1x176x1024.Idx) = V c main_v5 (ix3 (layer t) (row t r) l) := by
  blk_ext [iblk1, e2 t, row, layer]
theorem blk3 (t : Fin cfg1.N) (r : Fin 176) (l : Fin 1024) :
    iblk1 V c 3 t (ix3 0 r l : S1x176x1024.Idx) = V c main_v6 (ix3 (layer t) (row t r) l) := by
  blk_ext [iblk1, e3 t, row, layer]
theorem blk4 (t : Fin cfg1.N) (r : Fin 176) (l : Fin 1024) :
    iblk1 V c 4 t (ix3 0 r l : S1x176x1024.Idx) = V c main_v7 (ix3 (layer t) (row t r) l) := by
  blk_ext [iblk1, e4 t, row, layer]

theorem array5 : (dat1 V c).arrAt 5 cfg1.N
    = grad1 (V c main_v3) (V c main_v4) := by
  refine (dat1 V c).arrAt_eq_of_covers 5 _ (by decide +kernel) fun t hf y => ?_
  blk_simp
  rw [after1_5]
  have ht : t.val < 8 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win1_5.blk t).view.emb (ix3 0 r l : S1x176x1024.Idx) = (ix3 (layer t) (row t r) l : S2x704x1024.Idx) := by
    blk_point [e5 t, layer, row]
  rw [hi]
  by_cases h : t.val < 4
  · rw [outsAt1_A V c t h (by omega)]
    dsimp only
    rw [outA5, grad1_zero _ _ _ _ _ (by show t.val / 4 = 0; omega)]
    rw [blk0 V c t h 0 r l]
  · rw [outsAt1_B V c t h (by omega)]
    dsimp only
    rw [outB5, grad1_one _ _ _ _ _ (by show ¬ t.val / 4 = 0; omega)]
    rw [blk1 V c t h 0 r l]

theorem array6 : (dat1 V c).arrAt 6 cfg1.N
    = changes (grad1 (V c main_v3) (V c main_v4)) (V c main_v5) (V c main_v6) (V c main_v7) := by
  refine (dat1 V c).arrAt_eq_of_covers 6 _ (by decide +kernel) fun t hf y => ?_
  blk_simp
  rw [after1_6]
  have ht : t.val < 8 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win1_6.blk t).view.emb (ix3 0 r l : S1x176x1024.Idx) = (ix3 (layer t) (row t r) l : S2x704x1024.Idx) := by
    blk_point [e6 t, layer, row]
  rw [hi]
  unfold changes
  by_cases h : t.val < 4
  · rw [outsAt1_A V c t h (by omega)]
    dsimp only
    rw [outA6, blk2, blk3, blk4, grad1_zero _ _ _ _ _ (by show t.val / 4 = 0; omega)]
    rw [blk0 V c t h 0 r l]
  · rw [outsAt1_B V c t h (by omega)]
    dsimp only
    rw [outB6, blk2, blk3, blk4, grad1_one _ _ _ _ _ (by show ¬ t.val / 4 = 0; omega)]
    rw [blk1 V c t h 0 r l]

theorem array7 : (dat1 V c).arrAt 7 cfg1.N
    = firsts (V c main_v6) (grad1 (V c main_v3) (V c main_v4)) := by
  refine (dat1 V c).arrAt_eq_of_covers 7 _ (by decide +kernel) fun t hf y => ?_
  blk_simp
  rw [after1_7]
  have ht : t.val < 8 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win1_7.blk t).view.emb (ix3 0 r l : S1x176x1024.Idx) = (ix3 (layer t) (row t r) l : S2x704x1024.Idx) := by
    blk_point [e7 t, layer, row]
  rw [hi]
  unfold firsts
  by_cases h : t.val < 4
  · rw [outsAt1_A V c t h (by omega)]
    dsimp only
    rw [outA7, blk3, grad1_zero _ _ _ _ _ (by show t.val / 4 = 0; omega)]
    rw [blk0 V c t h 0 r l]
  · rw [outsAt1_B V c t h (by omega)]
    dsimp only
    rw [outB7, blk3, grad1_one _ _ _ _ _ (by show ¬ t.val / 4 = 0; omega)]
    rw [blk1 V c t h 0 r l]

theorem array8 : (dat1 V c).arrAt 8 cfg1.N
    = seconds (V c main_v7) (grad1 (V c main_v3) (V c main_v4)) := by
  refine (dat1 V c).arrAt_eq_of_covers 8 _ (by decide +kernel) fun t hf y => ?_
  blk_simp
  rw [after1_8]
  have ht : t.val < 8 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win1_8.blk t).view.emb (ix3 0 r l : S1x176x1024.Idx) = (ix3 (layer t) (row t r) l : S2x704x1024.Idx) := by
    blk_point [e8 t, layer, row]
  rw [hi]
  unfold seconds
  by_cases h : t.val < 4
  · rw [outsAt1_A V c t h (by omega)]
    dsimp only
    rw [outA8, blk4, grad1_zero _ _ _ _ _ (by show t.val / 4 = 0; omega)]
    rw [blk0 V c t h 0 r l]
  · rw [outsAt1_B V c t h (by omega)]
    dsimp only
    rw [outB8, blk4, grad1_one _ _ _ _ _ (by show ¬ t.val / 4 = 0; omega)]
    rw [blk1 V c t h 0 r l]

end Cert.StepCall1

end
-- ==== Proof.Step.Call2.lean ====
/- The step of the output projection of the first mixer: what one grid point leaves in its four blocks, and the four arrays. -/
module

public import proofs.«01_k».proof.Proof.Gen.StepKernelIdeal.Frame.Region2
public import proofs.«01_k».proof.Proof.Step.Spec
public import Idealize.ShloMosaic.Lib.Pipeline.Value
public import Idealize.ShloMosaic.Lib.Pipeline.ValueKit.Point

@[expose] public section

noncomputable section

namespace Cert.StepCall2

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid2.Coords) (arg3 : Memref sig .tc .vmem S4x256x1024 .bf16) (harg3 : arg3.IsWhole) (arg4 : Memref
  sig .tc .vmem S1x256x1024 .f32) (harg4 : arg4.IsWhole) (arg5 : Memref sig .tc .vmem S1x256x1024 .f32) (harg5 :
  arg5.IsWhole) (arg6 : Memref sig .tc .vmem S1x256x1024 .f32) (harg6 : arg6.IsWhole) (arg7 : Memref sig .tc .vmem
  S1x256x1024 .f32) (harg7 : arg7.IsWhole) (arg8 : Memref sig .tc .vmem S1x256x1024 .f32) (harg8 : arg8.IsWhole) (arg9
  : Memref sig .tc .vmem S1x256x1024 .f32) (harg9 : arg9.IsWhole) (arg10 : Memref sig .tc .vmem S1x256x1024 .f32)
  (harg10 : arg10.IsWhole) (hc0 : cond2_0 i)
    (x0 : Vec Ideal S4x256x1024 .bf16) (x1 : Vec Ideal S1x256x1024 .f32) (x2 : Vec Ideal S1x256x1024 .f32) (x3 : Vec
      Ideal S1x256x1024 .f32)

theorem out4 (r : Fin 256) (l : Fin 1024) :
    out2_A_4 c i arg3 harg3 arg4 harg4 arg5 harg5 arg6 harg6 arg7 harg7 arg8 harg8 arg9 harg9 arg10 harg10 hc0 x0 x1
      x2 x3 (ix3 0 r l : S1x256x1024.Idx)
      = ∑ p : Fin 4, x0 (ix3 p r l) := by
  frame_out
  rw [Fin.sum_univ_four]
  pointwise [k2_pay1, k2_pay2, k2_pay3, k2_pay4, k2_pay5, k2_pay6, k2_pay7]

theorem out5 (r : Fin 256) (l : Fin 1024) :
    out2_A_5 c i arg3 harg3 arg4 harg4 arg5 harg5 arg6 harg6 arg7 harg7 arg8 harg8 arg9 harg9 arg10 harg10 hc0 x0 x1
      x2 x3 (ix3 0 r l : S1x256x1024.Idx)
      = change (x1 (ix3 0 r l)) (first (x2 (ix3 0 r l)) (∑ p : Fin 4, x0 (ix3 p r l))) (second (x3 (ix3 0 r l)) (∑ p :
        Fin 4, x0 (ix3 p r l))) := by
  frame_out
  unfold change first second
  rw [Fin.sum_univ_four]
  pointwise [k2_pay1, k2_pay2, k2_pay3, k2_pay4, k2_pay5, k2_pay6, k2_pay7]

theorem out6 (r : Fin 256) (l : Fin 1024) :
    out2_A_6 c i arg3 harg3 arg4 harg4 arg5 harg5 arg6 harg6 arg7 harg7 arg8 harg8 arg9 harg9 arg10 harg10 hc0 x0 x1
      x2 x3 (ix3 0 r l : S1x256x1024.Idx)
      = first (x2 (ix3 0 r l)) (∑ p : Fin 4, x0 (ix3 p r l)) := by
  frame_out
  unfold first
  rw [Fin.sum_univ_four]
  pointwise [k2_pay1, k2_pay2, k2_pay3, k2_pay4, k2_pay5, k2_pay6, k2_pay7]

theorem out7 (r : Fin 256) (l : Fin 1024) :
    out2_A_7 c i arg3 harg3 arg4 harg4 arg5 harg5 arg6 harg6 arg7 harg7 arg8 harg8 arg9 harg9 arg10 harg10 hc0 x0 x1
      x2 x3 (ix3 0 r l : S1x256x1024.Idx)
      = second (x3 (ix3 0 r l)) (∑ p : Fin 4, x0 (ix3 p r l)) := by
  frame_out
  unfold second
  rw [Fin.sum_univ_four]
  pointwise [k2_pay1, k2_pay2, k2_pay3, k2_pay4, k2_pay5, k2_pay6, k2_pay7]

end

/-- The gradient: the sum of the devices' parts. -/
def grad2 (P : Vec Ideal S4x256x1024 .bf16) : Vec Ideal S1x256x1024 .f32 := fun i => ∑ p : Fin 4, P (ix3 p (i 1) (i 2))

variable (V : (c : Dev nD) → (b : Ref sig .tc) → Buf (Elt Ideal) ((c : Thread nD τ).loc b)) (c : Dev nD)

theorem e0 : ∀ t : Fin cfg2.N, win2_0.index t = ![0, 0, 0] := (by decide +kernel : ∀ t : Fin grid2.N, win2_0.index t = ![0, 0, 0])
theorem e1 : ∀ t : Fin cfg2.N, win2_1.index t = ![0, 0, 0] := (by decide +kernel : ∀ t : Fin grid2.N, win2_1.index t = ![0, 0, 0])
theorem e2 : ∀ t : Fin cfg2.N, win2_2.index t = ![0, 0, 0] := (by decide +kernel : ∀ t : Fin grid2.N, win2_2.index t = ![0, 0, 0])
theorem e3 : ∀ t : Fin cfg2.N, win2_3.index t = ![0, 0, 0] := (by decide +kernel : ∀ t : Fin grid2.N, win2_3.index t = ![0, 0, 0])
theorem e4 : ∀ t : Fin cfg2.N, win2_4.index t = ![0, 0, 0] := (by decide +kernel : ∀ t : Fin grid2.N, win2_4.index t = ![0, 0, 0])
theorem e5 : ∀ t : Fin cfg2.N, win2_5.index t = ![0, 0, 0] := (by decide +kernel : ∀ t : Fin grid2.N, win2_5.index t = ![0, 0, 0])
theorem e6 : ∀ t : Fin cfg2.N, win2_6.index t = ![0, 0, 0] := (by decide +kernel : ∀ t : Fin grid2.N, win2_6.index t = ![0, 0, 0])
theorem e7 : ∀ t : Fin cfg2.N, win2_7.index t = ![0, 0, 0] := (by decide +kernel : ∀ t : Fin grid2.N, win2_7.index t = ![0, 0, 0])

theorem blk0 (t : Fin cfg2.N) (p : Fin 4) (r : Fin 256) (l : Fin 1024) :
    iblk2 V c 0 t (ix3 p r l : S4x256x1024.Idx) = V c main_arg0 (ix3 p r l) := by
  blk_ext [iblk2, e0 t]
theorem blk1 (t : Fin cfg2.N) (r : Fin 256) (l : Fin 1024) :
    iblk2 V c 1 t (ix3 0 r l : S1x256x1024.Idx) = V c main_arg10 (ix3 0 r l) := by
  blk_ext [iblk2, e1 t]
theorem blk2 (t : Fin cfg2.N) (r : Fin 256) (l : Fin 1024) :
    iblk2 V c 2 t (ix3 0 r l : S1x256x1024.Idx) = V c main_arg11 (ix3 0 r l) := by
  blk_ext [iblk2, e2 t]
theorem blk3 (t : Fin cfg2.N) (r : Fin 256) (l : Fin 1024) :
    iblk2 V c 3 t (ix3 0 r l : S1x256x1024.Idx) = V c main_arg12 (ix3 0 r l) := by
  blk_ext [iblk2, e3 t]

theorem array4 : (dat2 V c).arrAt 4 cfg2.N = grad2 (V c main_arg0) := by
  refine (dat2 V c).arrAt_eq_of_covers 4 _ (by decide +kernel) fun t hf y => ?_
  blk_simp
  rw [after2_4]
  unfold outsAt2
  dsimp only
  obtain ⟨r, l, rfl⟩ : ∃ (r : Fin 256) (l : Fin 1024), y = ix3 0 r l :=
    ⟨y 1, y 2, by funext a; fin_cases a; exacts [Subsingleton.elim (α := Fin 1) _ _, rfl, rfl]⟩
  have hi : (win2_4.blk t).view.emb (ix3 0 r l : S1x256x1024.Idx) = (ix3 0 r l : S1x256x1024.Idx) := by
    blk_point [e4 t]
  rw [hi, out4]
  exact AdamW.sum_congr fun p => blk0 V c t p r l

theorem array5 : (dat2 V c).arrAt 5 cfg2.N = changes (grad2 (V c main_arg0)) (V c main_arg10) (V c main_arg11) (V c main_arg12) := by
  refine (dat2 V c).arrAt_eq_of_covers 5 _ (by decide +kernel) fun t hf y => ?_
  blk_simp
  rw [after2_5]
  unfold outsAt2
  dsimp only
  obtain ⟨r, l, rfl⟩ : ∃ (r : Fin 256) (l : Fin 1024), y = ix3 0 r l :=
    ⟨y 1, y 2, by funext a; fin_cases a; exacts [Subsingleton.elim (α := Fin 1) _ _, rfl, rfl]⟩
  have hi : (win2_5.blk t).view.emb (ix3 0 r l : S1x256x1024.Idx) = (ix3 0 r l : S1x256x1024.Idx) := by
    blk_point [e5 t]
  rw [hi, out5, blk1, blk2, blk3]
  unfold changes
  exact change_congr rfl rfl rfl (AdamW.sum_congr fun p => blk0 V c t p r l)

theorem array6 : (dat2 V c).arrAt 6 cfg2.N = firsts (V c main_arg11) (grad2 (V c main_arg0)) := by
  refine (dat2 V c).arrAt_eq_of_covers 6 _ (by decide +kernel) fun t hf y => ?_
  blk_simp
  rw [after2_6]
  unfold outsAt2
  dsimp only
  obtain ⟨r, l, rfl⟩ : ∃ (r : Fin 256) (l : Fin 1024), y = ix3 0 r l :=
    ⟨y 1, y 2, by funext a; fin_cases a; exacts [Subsingleton.elim (α := Fin 1) _ _, rfl, rfl]⟩
  have hi : (win2_6.blk t).view.emb (ix3 0 r l : S1x256x1024.Idx) = (ix3 0 r l : S1x256x1024.Idx) := by
    blk_point [e6 t]
  rw [hi, out6, blk2]
  unfold firsts
  exact first_congr rfl (AdamW.sum_congr fun p => blk0 V c t p r l)

theorem array7 : (dat2 V c).arrAt 7 cfg2.N = seconds (V c main_arg12) (grad2 (V c main_arg0)) := by
  refine (dat2 V c).arrAt_eq_of_covers 7 _ (by decide +kernel) fun t hf y => ?_
  blk_simp
  rw [after2_7]
  unfold outsAt2
  dsimp only
  obtain ⟨r, l, rfl⟩ : ∃ (r : Fin 256) (l : Fin 1024), y = ix3 0 r l :=
    ⟨y 1, y 2, by funext a; fin_cases a; exacts [Subsingleton.elim (α := Fin 1) _ _, rfl, rfl]⟩
  have hi : (win2_7.blk t).view.emb (ix3 0 r l : S1x256x1024.Idx) = (ix3 0 r l : S1x256x1024.Idx) := by
    blk_point [e7 t]
  rw [hi, out7, blk3]
  unfold seconds
  exact second_congr rfl (AdamW.sum_congr fun p => blk0 V c t p r l)

end Cert.StepCall2

end
-- ==== Proof.Step.Call3.lean ====
/- The step of the keys and values projection: what one grid point leaves in its four blocks, and the four arrays. -/
module

public import proofs.«01_k».proof.Proof.Gen.StepKernelIdeal.Frame.Region3
public import proofs.«01_k».proof.Proof.Step.Spec
public import Idealize.ShloMosaic.Lib.Pipeline.Value
public import Idealize.ShloMosaic.Lib.Pipeline.ValueKit.Point

@[expose] public section

noncomputable section

namespace Cert.StepCall3

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid3.Coords) (arg3 : Memref sig .tc .vmem S4x128x512 .bf16) (harg3 : arg3.IsWhole) (arg4 : Memref
  sig .tc .vmem S1x128x512 .f32) (harg4 : arg4.IsWhole) (arg5 : Memref sig .tc .vmem S1x128x512 .f32) (harg5 :
  arg5.IsWhole) (arg6 : Memref sig .tc .vmem S1x128x512 .f32) (harg6 : arg6.IsWhole) (arg7 : Memref sig .tc .vmem
  S1x128x512 .f32) (harg7 : arg7.IsWhole) (arg8 : Memref sig .tc .vmem S1x128x512 .f32) (harg8 : arg8.IsWhole) (arg9 :
  Memref sig .tc .vmem S1x128x512 .f32) (harg9 : arg9.IsWhole) (arg10 : Memref sig .tc .vmem S1x128x512 .f32) (harg10
  : arg10.IsWhole) (hc0 : cond3_0 i)
    (x0 : Vec Ideal S4x128x512 .bf16) (x1 : Vec Ideal S1x128x512 .f32) (x2 : Vec Ideal S1x128x512 .f32) (x3 : Vec
      Ideal S1x128x512 .f32)

theorem out4 (r : Fin 128) (l : Fin 512) :
    out3_A_4 c i arg3 harg3 arg4 harg4 arg5 harg5 arg6 harg6 arg7 harg7 arg8 harg8 arg9 harg9 arg10 harg10 hc0 x0 x1
      x2 x3 (ix3 0 r l : S1x128x512.Idx)
      = ∑ p : Fin 4, x0 (ix3 p r l) := by
  frame_out
  rw [Fin.sum_univ_four]
  pointwise [k3_pay1, k3_pay2, k3_pay3, k3_pay4, k3_pay5, k3_pay6, k3_pay7]

theorem out5 (r : Fin 128) (l : Fin 512) :
    out3_A_5 c i arg3 harg3 arg4 harg4 arg5 harg5 arg6 harg6 arg7 harg7 arg8 harg8 arg9 harg9 arg10 harg10 hc0 x0 x1
      x2 x3 (ix3 0 r l : S1x128x512.Idx)
      = change (x1 (ix3 0 r l)) (first (x2 (ix3 0 r l)) (∑ p : Fin 4, x0 (ix3 p r l))) (second (x3 (ix3 0 r l)) (∑ p :
        Fin 4, x0 (ix3 p r l))) := by
  frame_out
  unfold change first second
  rw [Fin.sum_univ_four]
  pointwise [k3_pay1, k3_pay2, k3_pay3, k3_pay4, k3_pay5, k3_pay6, k3_pay7]

theorem out6 (r : Fin 128) (l : Fin 512) :
    out3_A_6 c i arg3 harg3 arg4 harg4 arg5 harg5 arg6 harg6 arg7 harg7 arg8 harg8 arg9 harg9 arg10 harg10 hc0 x0 x1
      x2 x3 (ix3 0 r l : S1x128x512.Idx)
      = first (x2 (ix3 0 r l)) (∑ p : Fin 4, x0 (ix3 p r l)) := by
  frame_out
  unfold first
  rw [Fin.sum_univ_four]
  pointwise [k3_pay1, k3_pay2, k3_pay3, k3_pay4, k3_pay5, k3_pay6, k3_pay7]

theorem out7 (r : Fin 128) (l : Fin 512) :
    out3_A_7 c i arg3 harg3 arg4 harg4 arg5 harg5 arg6 harg6 arg7 harg7 arg8 harg8 arg9 harg9 arg10 harg10 hc0 x0 x1
      x2 x3 (ix3 0 r l : S1x128x512.Idx)
      = second (x3 (ix3 0 r l)) (∑ p : Fin 4, x0 (ix3 p r l)) := by
  frame_out
  unfold second
  rw [Fin.sum_univ_four]
  pointwise [k3_pay1, k3_pay2, k3_pay3, k3_pay4, k3_pay5, k3_pay6, k3_pay7]

end

/-- The gradient: the sum of the devices' parts. -/
def grad3 (P : Vec Ideal S4x128x512 .bf16) : Vec Ideal S1x128x512 .f32 := fun i => ∑ p : Fin 4, P (ix3 p (i 1) (i 2))

variable (V : (c : Dev nD) → (b : Ref sig .tc) → Buf (Elt Ideal) ((c : Thread nD τ).loc b)) (c : Dev nD)

theorem e0 : ∀ t : Fin cfg3.N, win3_0.index t = ![0, 0, 0] := (by decide +kernel : ∀ t : Fin grid3.N, win3_0.index t = ![0, 0, 0])
theorem e1 : ∀ t : Fin cfg3.N, win3_1.index t = ![0, 0, 0] := (by decide +kernel : ∀ t : Fin grid3.N, win3_1.index t = ![0, 0, 0])
theorem e2 : ∀ t : Fin cfg3.N, win3_2.index t = ![0, 0, 0] := (by decide +kernel : ∀ t : Fin grid3.N, win3_2.index t = ![0, 0, 0])
theorem e3 : ∀ t : Fin cfg3.N, win3_3.index t = ![0, 0, 0] := (by decide +kernel : ∀ t : Fin grid3.N, win3_3.index t = ![0, 0, 0])
theorem e4 : ∀ t : Fin cfg3.N, win3_4.index t = ![0, 0, 0] := (by decide +kernel : ∀ t : Fin grid3.N, win3_4.index t = ![0, 0, 0])
theorem e5 : ∀ t : Fin cfg3.N, win3_5.index t = ![0, 0, 0] := (by decide +kernel : ∀ t : Fin grid3.N, win3_5.index t = ![0, 0, 0])
theorem e6 : ∀ t : Fin cfg3.N, win3_6.index t = ![0, 0, 0] := (by decide +kernel : ∀ t : Fin grid3.N, win3_6.index t = ![0, 0, 0])
theorem e7 : ∀ t : Fin cfg3.N, win3_7.index t = ![0, 0, 0] := (by decide +kernel : ∀ t : Fin grid3.N, win3_7.index t = ![0, 0, 0])

theorem blk0 (t : Fin cfg3.N) (p : Fin 4) (r : Fin 128) (l : Fin 512) :
    iblk3 V c 0 t (ix3 p r l : S4x128x512.Idx) = V c main_arg1 (ix3 p r l) := by
  blk_ext [iblk3, e0 t]
theorem blk1 (t : Fin cfg3.N) (r : Fin 128) (l : Fin 512) :
    iblk3 V c 1 t (ix3 0 r l : S1x128x512.Idx) = V c main_v14 (ix3 0 r l) := by
  blk_ext [iblk3, e1 t]
theorem blk2 (t : Fin cfg3.N) (r : Fin 128) (l : Fin 512) :
    iblk3 V c 2 t (ix3 0 r l : S1x128x512.Idx) = V c main_v15 (ix3 0 r l) := by
  blk_ext [iblk3, e2 t]
theorem blk3 (t : Fin cfg3.N) (r : Fin 128) (l : Fin 512) :
    iblk3 V c 3 t (ix3 0 r l : S1x128x512.Idx) = V c main_v16 (ix3 0 r l) := by
  blk_ext [iblk3, e3 t]

theorem array4 : (dat3 V c).arrAt 4 cfg3.N = grad3 (V c main_arg1) := by
  refine (dat3 V c).arrAt_eq_of_covers 4 _ (by decide +kernel) fun t hf y => ?_
  blk_simp
  rw [after3_4]
  unfold outsAt3
  dsimp only
  obtain ⟨r, l, rfl⟩ : ∃ (r : Fin 128) (l : Fin 512), y = ix3 0 r l :=
    ⟨y 1, y 2, by funext a; fin_cases a; exacts [Subsingleton.elim (α := Fin 1) _ _, rfl, rfl]⟩
  have hi : (win3_4.blk t).view.emb (ix3 0 r l : S1x128x512.Idx) = (ix3 0 r l : S1x128x512.Idx) := by
    blk_point [e4 t]
  rw [hi, out4]
  exact AdamW.sum_congr fun p => blk0 V c t p r l

theorem array5 : (dat3 V c).arrAt 5 cfg3.N = changes (grad3 (V c main_arg1)) (V c main_v14) (V c main_v15) (V c main_v16) := by
  refine (dat3 V c).arrAt_eq_of_covers 5 _ (by decide +kernel) fun t hf y => ?_
  blk_simp
  rw [after3_5]
  unfold outsAt3
  dsimp only
  obtain ⟨r, l, rfl⟩ : ∃ (r : Fin 128) (l : Fin 512), y = ix3 0 r l :=
    ⟨y 1, y 2, by funext a; fin_cases a; exacts [Subsingleton.elim (α := Fin 1) _ _, rfl, rfl]⟩
  have hi : (win3_5.blk t).view.emb (ix3 0 r l : S1x128x512.Idx) = (ix3 0 r l : S1x128x512.Idx) := by
    blk_point [e5 t]
  rw [hi, out5, blk1, blk2, blk3]
  unfold changes
  exact change_congr rfl rfl rfl (AdamW.sum_congr fun p => blk0 V c t p r l)

theorem array6 : (dat3 V c).arrAt 6 cfg3.N = firsts (V c main_v15) (grad3 (V c main_arg1)) := by
  refine (dat3 V c).arrAt_eq_of_covers 6 _ (by decide +kernel) fun t hf y => ?_
  blk_simp
  rw [after3_6]
  unfold outsAt3
  dsimp only
  obtain ⟨r, l, rfl⟩ : ∃ (r : Fin 128) (l : Fin 512), y = ix3 0 r l :=
    ⟨y 1, y 2, by funext a; fin_cases a; exacts [Subsingleton.elim (α := Fin 1) _ _, rfl, rfl]⟩
  have hi : (win3_6.blk t).view.emb (ix3 0 r l : S1x128x512.Idx) = (ix3 0 r l : S1x128x512.Idx) := by
    blk_point [e6 t]
  rw [hi, out6, blk2]
  unfold firsts
  exact first_congr rfl (AdamW.sum_congr fun p => blk0 V c t p r l)

theorem array7 : (dat3 V c).arrAt 7 cfg3.N = seconds (V c main_v16) (grad3 (V c main_arg1)) := by
  refine (dat3 V c).arrAt_eq_of_covers 7 _ (by decide +kernel) fun t hf y => ?_
  blk_simp
  rw [after3_7]
  unfold outsAt3
  dsimp only
  obtain ⟨r, l, rfl⟩ : ∃ (r : Fin 128) (l : Fin 512), y = ix3 0 r l :=
    ⟨y 1, y 2, by funext a; fin_cases a; exacts [Subsingleton.elim (α := Fin 1) _ _, rfl, rfl]⟩
  have hi : (win3_7.blk t).view.emb (ix3 0 r l : S1x128x512.Idx) = (ix3 0 r l : S1x128x512.Idx) := by
    blk_point [e7 t]
  rw [hi, out7, blk3]
  unfold seconds
  exact second_congr rfl (AdamW.sum_congr fun p => blk0 V c t p r l)

end Cert.StepCall3

end
-- ==== Proof.Step.Call4.lean ====
/- The step of the queries projection: what one grid point leaves in its four blocks, and the four arrays. -/
module

public import proofs.«01_k».proof.Proof.Gen.StepKernelIdeal.Frame.Region4
public import proofs.«01_k».proof.Proof.Step.Spec
public import Idealize.ShloMosaic.Lib.Pipeline.Value
public import Idealize.ShloMosaic.Lib.Pipeline.ValueKit.Point

@[expose] public section

noncomputable section

namespace Cert.StepCall4

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid4.Coords) (arg3 : Memref sig .tc .vmem S4x128x1024 .bf16) (harg3 : arg3.IsWhole) (arg4 : Memref
  sig .tc .vmem S1x128x1024 .f32) (harg4 : arg4.IsWhole) (arg5 : Memref sig .tc .vmem S1x128x1024 .f32) (harg5 :
  arg5.IsWhole) (arg6 : Memref sig .tc .vmem S1x128x1024 .f32) (harg6 : arg6.IsWhole) (arg7 : Memref sig .tc .vmem
  S1x128x1024 .f32) (harg7 : arg7.IsWhole) (arg8 : Memref sig .tc .vmem S1x128x1024 .f32) (harg8 : arg8.IsWhole) (arg9
  : Memref sig .tc .vmem S1x128x1024 .f32) (harg9 : arg9.IsWhole) (arg10 : Memref sig .tc .vmem S1x128x1024 .f32)
  (harg10 : arg10.IsWhole) (hc0 : cond4_0 i)
    (x0 : Vec Ideal S4x128x1024 .bf16) (x1 : Vec Ideal S1x128x1024 .f32) (x2 : Vec Ideal S1x128x1024 .f32) (x3 : Vec
      Ideal S1x128x1024 .f32)

theorem out4 (r : Fin 128) (l : Fin 1024) :
    out4_A_4 c i arg3 harg3 arg4 harg4 arg5 harg5 arg6 harg6 arg7 harg7 arg8 harg8 arg9 harg9 arg10 harg10 hc0 x0 x1
      x2 x3 (ix3 0 r l : S1x128x1024.Idx)
      = ∑ p : Fin 4, x0 (ix3 p r l) := by
  frame_out
  rw [Fin.sum_univ_four]
  pointwise [k4_pay1, k4_pay2, k4_pay3, k4_pay4, k4_pay5, k4_pay6, k4_pay7]

theorem out5 (r : Fin 128) (l : Fin 1024) :
    out4_A_5 c i arg3 harg3 arg4 harg4 arg5 harg5 arg6 harg6 arg7 harg7 arg8 harg8 arg9 harg9 arg10 harg10 hc0 x0 x1
      x2 x3 (ix3 0 r l : S1x128x1024.Idx)
      = change (x1 (ix3 0 r l)) (first (x2 (ix3 0 r l)) (∑ p : Fin 4, x0 (ix3 p r l))) (second (x3 (ix3 0 r l)) (∑ p :
        Fin 4, x0 (ix3 p r l))) := by
  frame_out
  unfold change first second
  rw [Fin.sum_univ_four]
  pointwise [k4_pay1, k4_pay2, k4_pay3, k4_pay4, k4_pay5, k4_pay6, k4_pay7]

theorem out6 (r : Fin 128) (l : Fin 1024) :
    out4_A_6 c i arg3 harg3 arg4 harg4 arg5 harg5 arg6 harg6 arg7 harg7 arg8 harg8 arg9 harg9 arg10 harg10 hc0 x0 x1
      x2 x3 (ix3 0 r l : S1x128x1024.Idx)
      = first (x2 (ix3 0 r l)) (∑ p : Fin 4, x0 (ix3 p r l)) := by
  frame_out
  unfold first
  rw [Fin.sum_univ_four]
  pointwise [k4_pay1, k4_pay2, k4_pay3, k4_pay4, k4_pay5, k4_pay6, k4_pay7]

theorem out7 (r : Fin 128) (l : Fin 1024) :
    out4_A_7 c i arg3 harg3 arg4 harg4 arg5 harg5 arg6 harg6 arg7 harg7 arg8 harg8 arg9 harg9 arg10 harg10 hc0 x0 x1
      x2 x3 (ix3 0 r l : S1x128x1024.Idx)
      = second (x3 (ix3 0 r l)) (∑ p : Fin 4, x0 (ix3 p r l)) := by
  frame_out
  unfold second
  rw [Fin.sum_univ_four]
  pointwise [k4_pay1, k4_pay2, k4_pay3, k4_pay4, k4_pay5, k4_pay6, k4_pay7]

end

/-- The gradient: the sum of the devices' parts. -/
def grad4 (P : Vec Ideal S4x128x1024 .bf16) : Vec Ideal S1x128x1024 .f32 := fun i => ∑ p : Fin 4, P (ix3 p (i 1) (i 2))

variable (V : (c : Dev nD) → (b : Ref sig .tc) → Buf (Elt Ideal) ((c : Thread nD τ).loc b)) (c : Dev nD)

theorem e0 : ∀ t : Fin cfg4.N, win4_0.index t = ![0, 0, 0] := (by decide +kernel : ∀ t : Fin grid4.N, win4_0.index t = ![0, 0, 0])
theorem e1 : ∀ t : Fin cfg4.N, win4_1.index t = ![0, 0, 0] := (by decide +kernel : ∀ t : Fin grid4.N, win4_1.index t = ![0, 0, 0])
theorem e2 : ∀ t : Fin cfg4.N, win4_2.index t = ![0, 0, 0] := (by decide +kernel : ∀ t : Fin grid4.N, win4_2.index t = ![0, 0, 0])
theorem e3 : ∀ t : Fin cfg4.N, win4_3.index t = ![0, 0, 0] := (by decide +kernel : ∀ t : Fin grid4.N, win4_3.index t = ![0, 0, 0])
theorem e4 : ∀ t : Fin cfg4.N, win4_4.index t = ![0, 0, 0] := (by decide +kernel : ∀ t : Fin grid4.N, win4_4.index t = ![0, 0, 0])
theorem e5 : ∀ t : Fin cfg4.N, win4_5.index t = ![0, 0, 0] := (by decide +kernel : ∀ t : Fin grid4.N, win4_5.index t = ![0, 0, 0])
theorem e6 : ∀ t : Fin cfg4.N, win4_6.index t = ![0, 0, 0] := (by decide +kernel : ∀ t : Fin grid4.N, win4_6.index t = ![0, 0, 0])
theorem e7 : ∀ t : Fin cfg4.N, win4_7.index t = ![0, 0, 0] := (by decide +kernel : ∀ t : Fin grid4.N, win4_7.index t = ![0, 0, 0])

theorem blk0 (t : Fin cfg4.N) (p : Fin 4) (r : Fin 128) (l : Fin 1024) :
    iblk4 V c 0 t (ix3 p r l : S4x128x1024.Idx) = V c main_arg2 (ix3 p r l) := by
  blk_ext [iblk4, e0 t]
theorem blk1 (t : Fin cfg4.N) (r : Fin 128) (l : Fin 1024) :
    iblk4 V c 1 t (ix3 0 r l : S1x128x1024.Idx) = V c main_arg16 (ix3 0 r l) := by
  blk_ext [iblk4, e1 t]
theorem blk2 (t : Fin cfg4.N) (r : Fin 128) (l : Fin 1024) :
    iblk4 V c 2 t (ix3 0 r l : S1x128x1024.Idx) = V c main_arg17 (ix3 0 r l) := by
  blk_ext [iblk4, e2 t]
theorem blk3 (t : Fin cfg4.N) (r : Fin 128) (l : Fin 1024) :
    iblk4 V c 3 t (ix3 0 r l : S1x128x1024.Idx) = V c main_arg18 (ix3 0 r l) := by
  blk_ext [iblk4, e3 t]

theorem array4 : (dat4 V c).arrAt 4 cfg4.N = grad4 (V c main_arg2) := by
  refine (dat4 V c).arrAt_eq_of_covers 4 _ (by decide +kernel) fun t hf y => ?_
  blk_simp
  rw [after4_4]
  unfold outsAt4
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win4_4.blk t).view.emb (ix3 0 r l : S1x128x1024.Idx) = (ix3 0 r l : S1x128x1024.Idx) := by
    blk_point [e4 t]
  rw [hi, out4]
  exact AdamW.sum_congr fun p => blk0 V c t p r l

theorem array5 : (dat4 V c).arrAt 5 cfg4.N = changes (grad4 (V c main_arg2)) (V c main_arg16) (V c main_arg17) (V c main_arg18) := by
  refine (dat4 V c).arrAt_eq_of_covers 5 _ (by decide +kernel) fun t hf y => ?_
  blk_simp
  rw [after4_5]
  unfold outsAt4
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win4_5.blk t).view.emb (ix3 0 r l : S1x128x1024.Idx) = (ix3 0 r l : S1x128x1024.Idx) := by
    blk_point [e5 t]
  rw [hi, out5, blk1, blk2, blk3]
  unfold changes
  exact change_congr rfl rfl rfl (AdamW.sum_congr fun p => blk0 V c t p r l)

theorem array6 : (dat4 V c).arrAt 6 cfg4.N = firsts (V c main_arg17) (grad4 (V c main_arg2)) := by
  refine (dat4 V c).arrAt_eq_of_covers 6 _ (by decide +kernel) fun t hf y => ?_
  blk_simp
  rw [after4_6]
  unfold outsAt4
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win4_6.blk t).view.emb (ix3 0 r l : S1x128x1024.Idx) = (ix3 0 r l : S1x128x1024.Idx) := by
    blk_point [e6 t]
  rw [hi, out6, blk2]
  unfold firsts
  exact first_congr rfl (AdamW.sum_congr fun p => blk0 V c t p r l)

theorem array7 : (dat4 V c).arrAt 7 cfg4.N = seconds (V c main_arg18) (grad4 (V c main_arg2)) := by
  refine (dat4 V c).arrAt_eq_of_covers 7 _ (by decide +kernel) fun t hf y => ?_
  blk_simp
  rw [after4_7]
  unfold outsAt4
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win4_7.blk t).view.emb (ix3 0 r l : S1x128x1024.Idx) = (ix3 0 r l : S1x128x1024.Idx) := by
    blk_point [e7 t]
  rw [hi, out7, blk3]
  unfold seconds
  exact second_congr rfl (AdamW.sum_congr fun p => blk0 V c t p r l)

end Cert.StepCall4

end
-- ==== Proof.Step.Call5.lean ====
/- The step of the output projection of the attention: what one grid point leaves in its four blocks, and the four arrays. -/
module

public import proofs.«01_k».proof.Proof.Gen.StepKernelIdeal.Frame.Region5
public import proofs.«01_k».proof.Proof.Step.Spec
public import Idealize.ShloMosaic.Lib.Pipeline.Value
public import Idealize.ShloMosaic.Lib.Pipeline.ValueKit.Point

@[expose] public section

noncomputable section

namespace Cert.StepCall5

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid5.Coords) (arg3 : Memref sig .tc .vmem S4x128x1024 .bf16) (harg3 : arg3.IsWhole) (arg4 : Memref
  sig .tc .vmem S1x128x1024 .f32) (harg4 : arg4.IsWhole) (arg5 : Memref sig .tc .vmem S1x128x1024 .f32) (harg5 :
  arg5.IsWhole) (arg6 : Memref sig .tc .vmem S1x128x1024 .f32) (harg6 : arg6.IsWhole) (arg7 : Memref sig .tc .vmem
  S1x128x1024 .f32) (harg7 : arg7.IsWhole) (arg8 : Memref sig .tc .vmem S1x128x1024 .f32) (harg8 : arg8.IsWhole) (arg9
  : Memref sig .tc .vmem S1x128x1024 .f32) (harg9 : arg9.IsWhole) (arg10 : Memref sig .tc .vmem S1x128x1024 .f32)
  (harg10 : arg10.IsWhole) (hc0 : cond5_0 i)
    (x0 : Vec Ideal S4x128x1024 .bf16) (x1 : Vec Ideal S1x128x1024 .f32) (x2 : Vec Ideal S1x128x1024 .f32) (x3 : Vec
      Ideal S1x128x1024 .f32)

theorem out4 (r : Fin 128) (l : Fin 1024) :
    out5_A_4 c i arg3 harg3 arg4 harg4 arg5 harg5 arg6 harg6 arg7 harg7 arg8 harg8 arg9 harg9 arg10 harg10 hc0 x0 x1
      x2 x3 (ix3 0 r l : S1x128x1024.Idx)
      = ∑ p : Fin 4, x0 (ix3 p r l) := by
  frame_out
  rw [Fin.sum_univ_four]
  pointwise [k5_pay1, k5_pay2, k5_pay3, k5_pay4, k5_pay5, k5_pay6, k5_pay7]

theorem out5 (r : Fin 128) (l : Fin 1024) :
    out5_A_5 c i arg3 harg3 arg4 harg4 arg5 harg5 arg6 harg6 arg7 harg7 arg8 harg8 arg9 harg9 arg10 harg10 hc0 x0 x1
      x2 x3 (ix3 0 r l : S1x128x1024.Idx)
      = change (x1 (ix3 0 r l)) (first (x2 (ix3 0 r l)) (∑ p : Fin 4, x0 (ix3 p r l))) (second (x3 (ix3 0 r l)) (∑ p :
        Fin 4, x0 (ix3 p r l))) := by
  frame_out
  unfold change first second
  rw [Fin.sum_univ_four]
  pointwise [k5_pay1, k5_pay2, k5_pay3, k5_pay4, k5_pay5, k5_pay6, k5_pay7]

theorem out6 (r : Fin 128) (l : Fin 1024) :
    out5_A_6 c i arg3 harg3 arg4 harg4 arg5 harg5 arg6 harg6 arg7 harg7 arg8 harg8 arg9 harg9 arg10 harg10 hc0 x0 x1
      x2 x3 (ix3 0 r l : S1x128x1024.Idx)
      = first (x2 (ix3 0 r l)) (∑ p : Fin 4, x0 (ix3 p r l)) := by
  frame_out
  unfold first
  rw [Fin.sum_univ_four]
  pointwise [k5_pay1, k5_pay2, k5_pay3, k5_pay4, k5_pay5, k5_pay6, k5_pay7]

theorem out7 (r : Fin 128) (l : Fin 1024) :
    out5_A_7 c i arg3 harg3 arg4 harg4 arg5 harg5 arg6 harg6 arg7 harg7 arg8 harg8 arg9 harg9 arg10 harg10 hc0 x0 x1
      x2 x3 (ix3 0 r l : S1x128x1024.Idx)
      = second (x3 (ix3 0 r l)) (∑ p : Fin 4, x0 (ix3 p r l)) := by
  frame_out
  unfold second
  rw [Fin.sum_univ_four]
  pointwise [k5_pay1, k5_pay2, k5_pay3, k5_pay4, k5_pay5, k5_pay6, k5_pay7]

end

/-- The gradient: the sum of the devices' parts. -/
def grad5 (P : Vec Ideal S4x128x1024 .bf16) : Vec Ideal S1x128x1024 .f32 := fun i => ∑ p : Fin 4, P (ix3 p (i 1) (i 2))

variable (V : (c : Dev nD) → (b : Ref sig .tc) → Buf (Elt Ideal) ((c : Thread nD τ).loc b)) (c : Dev nD)

theorem e0 : ∀ t : Fin cfg5.N, win5_0.index t = ![0, 0, 0] := (by decide +kernel : ∀ t : Fin grid5.N, win5_0.index t = ![0, 0, 0])
theorem e1 : ∀ t : Fin cfg5.N, win5_1.index t = ![0, 0, 0] := (by decide +kernel : ∀ t : Fin grid5.N, win5_1.index t = ![0, 0, 0])
theorem e2 : ∀ t : Fin cfg5.N, win5_2.index t = ![0, 0, 0] := (by decide +kernel : ∀ t : Fin grid5.N, win5_2.index t = ![0, 0, 0])
theorem e3 : ∀ t : Fin cfg5.N, win5_3.index t = ![0, 0, 0] := (by decide +kernel : ∀ t : Fin grid5.N, win5_3.index t = ![0, 0, 0])
theorem e4 : ∀ t : Fin cfg5.N, win5_4.index t = ![0, 0, 0] := (by decide +kernel : ∀ t : Fin grid5.N, win5_4.index t = ![0, 0, 0])
theorem e5 : ∀ t : Fin cfg5.N, win5_5.index t = ![0, 0, 0] := (by decide +kernel : ∀ t : Fin grid5.N, win5_5.index t = ![0, 0, 0])
theorem e6 : ∀ t : Fin cfg5.N, win5_6.index t = ![0, 0, 0] := (by decide +kernel : ∀ t : Fin grid5.N, win5_6.index t = ![0, 0, 0])
theorem e7 : ∀ t : Fin cfg5.N, win5_7.index t = ![0, 0, 0] := (by decide +kernel : ∀ t : Fin grid5.N, win5_7.index t = ![0, 0, 0])

theorem blk0 (t : Fin cfg5.N) (p : Fin 4) (r : Fin 128) (l : Fin 1024) :
    iblk5 V c 0 t (ix3 p r l : S4x128x1024.Idx) = V c main_arg3 (ix3 p r l) := by
  blk_ext [iblk5, e0 t]
theorem blk1 (t : Fin cfg5.N) (r : Fin 128) (l : Fin 1024) :
    iblk5 V c 1 t (ix3 0 r l : S1x128x1024.Idx) = V c main_arg19 (ix3 0 r l) := by
  blk_ext [iblk5, e1 t]
theorem blk2 (t : Fin cfg5.N) (r : Fin 128) (l : Fin 1024) :
    iblk5 V c 2 t (ix3 0 r l : S1x128x1024.Idx) = V c main_arg20 (ix3 0 r l) := by
  blk_ext [iblk5, e2 t]
theorem blk3 (t : Fin cfg5.N) (r : Fin 128) (l : Fin 1024) :
    iblk5 V c 3 t (ix3 0 r l : S1x128x1024.Idx) = V c main_arg21 (ix3 0 r l) := by
  blk_ext [iblk5, e3 t]

theorem array4 : (dat5 V c).arrAt 4 cfg5.N = grad5 (V c main_arg3) := by
  refine (dat5 V c).arrAt_eq_of_covers 4 _ (by decide +kernel) fun t hf y => ?_
  blk_simp
  rw [after5_4]
  unfold outsAt5
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win5_4.blk t).view.emb (ix3 0 r l : S1x128x1024.Idx) = (ix3 0 r l : S1x128x1024.Idx) := by
    blk_point [e4 t]
  rw [hi, out4]
  exact AdamW.sum_congr fun p => blk0 V c t p r l

theorem array5 : (dat5 V c).arrAt 5 cfg5.N = changes (grad5 (V c main_arg3)) (V c main_arg19) (V c main_arg20) (V c main_arg21) := by
  refine (dat5 V c).arrAt_eq_of_covers 5 _ (by decide +kernel) fun t hf y => ?_
  blk_simp
  rw [after5_5]
  unfold outsAt5
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win5_5.blk t).view.emb (ix3 0 r l : S1x128x1024.Idx) = (ix3 0 r l : S1x128x1024.Idx) := by
    blk_point [e5 t]
  rw [hi, out5, blk1, blk2, blk3]
  unfold changes
  exact change_congr rfl rfl rfl (AdamW.sum_congr fun p => blk0 V c t p r l)

theorem array6 : (dat5 V c).arrAt 6 cfg5.N = firsts (V c main_arg20) (grad5 (V c main_arg3)) := by
  refine (dat5 V c).arrAt_eq_of_covers 6 _ (by decide +kernel) fun t hf y => ?_
  blk_simp
  rw [after5_6]
  unfold outsAt5
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win5_6.blk t).view.emb (ix3 0 r l : S1x128x1024.Idx) = (ix3 0 r l : S1x128x1024.Idx) := by
    blk_point [e6 t]
  rw [hi, out6, blk2]
  unfold firsts
  exact first_congr rfl (AdamW.sum_congr fun p => blk0 V c t p r l)

theorem array7 : (dat5 V c).arrAt 7 cfg5.N = seconds (V c main_arg21) (grad5 (V c main_arg3)) := by
  refine (dat5 V c).arrAt_eq_of_covers 7 _ (by decide +kernel) fun t hf y => ?_
  blk_simp
  rw [after5_7]
  unfold outsAt5
  dsimp only
  obtain ⟨r, l, rfl⟩ : ∃ (r : Fin 128) (l : Fin 1024), y = ix3 0 r l :=
    ⟨y 1, y 2, by funext a; fin_cases a; exacts [Subsingleton.elim (α := Fin 1) _ _, rfl, rfl]⟩
  have hi : (win5_7.blk t).view.emb (ix3 0 r l : S1x128x1024.Idx) = (ix3 0 r l : S1x128x1024.Idx) := by
    blk_point [e7 t]
  rw [hi, out7, blk3]
  unfold seconds
  exact second_congr rfl (AdamW.sum_congr fun p => blk0 V c t p r l)

end Cert.StepCall5

end
-- ==== Proof.Step.Call6.lean ====
/- The step of the second product of the feed-forward: two layers, whose gradients come in two arrays. What one grid
   point leaves in its four blocks, and the four arrays. -/
module

public import proofs.«01_k».proof.Proof.Gen.StepKernelIdeal.Frame.Region6
public import proofs.«01_k».proof.Proof.Step.Spec
public import Idealize.ShloMosaic.Lib.Pipeline.Value
public import Idealize.ShloMosaic.Lib.Pipeline.ValueKit.Point

@[expose] public section

noncomputable section

namespace Cert.StepCall6

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid6.Coords) (arg3 : Memref sig .tc .vmem S4x176x1024 .bf16) (harg3 : arg3.IsWhole) (arg4 : Memref
  sig .tc .vmem S4x176x1024 .bf16) (harg4 : arg4.IsWhole) (arg5 : Memref sig .tc .vmem S1x176x1024 .f32) (harg5 :
  arg5.IsWhole) (arg6 : Memref sig .tc .vmem S1x176x1024 .f32) (harg6 : arg6.IsWhole) (arg7 : Memref sig .tc .vmem
  S1x176x1024 .f32) (harg7 : arg7.IsWhole) (arg8 : Memref sig .tc .vmem S1x176x1024 .f32) (harg8 : arg8.IsWhole) (arg9
  : Memref sig .tc .vmem S1x176x1024 .f32) (harg9 : arg9.IsWhole) (arg10 : Memref sig .tc .vmem S1x176x1024 .f32)
  (harg10 : arg10.IsWhole) (arg11 : Memref sig .tc .vmem S1x176x1024 .f32) (harg11 : arg11.IsWhole)
    (x0 : Vec Ideal S4x176x1024 .bf16) (x1 : Vec Ideal S4x176x1024 .bf16) (x2 : Vec Ideal S1x176x1024 .f32) (x3 : Vec
      Ideal S1x176x1024 .f32) (x4 : Vec Ideal S1x176x1024 .f32)

theorem outA5 (hc0 : cond6_0 i) (hc1 : ¬cond6_1 i) (r : Fin 176) (l : Fin 1024) :
    out6_A_5 c i arg3 harg3 arg4 harg4 arg5 harg5 arg6 harg6 arg7 harg7 arg8 harg8 arg9 harg9 arg10 harg10 arg11
      harg11 hc0 hc1 x0 x1 x2 x3 x4 (ix3 0 r l : S1x176x1024.Idx)
      = ∑ p : Fin 4, x0 (ix3 p r l) := by
  frame_out
  rw [Fin.sum_univ_four]
  pointwise [k6_pay1, k6_pay2, k6_pay3, k6_pay4, k6_pay5, k6_pay6, k6_pay7, k6_pay8, k6_pay9, k6_pay10, k6_pay11, k6_pay12, k6_pay13, k6_pay14]

theorem outA6 (hc0 : cond6_0 i) (hc1 : ¬cond6_1 i) (r : Fin 176) (l : Fin 1024) :
    out6_A_6 c i arg3 harg3 arg4 harg4 arg5 harg5 arg6 harg6 arg7 harg7 arg8 harg8 arg9 harg9 arg10 harg10 arg11
      harg11 hc0 hc1 x0 x1 x2 x3 x4 (ix3 0 r l : S1x176x1024.Idx)
      = change (x2 (ix3 0 r l)) (first (x3 (ix3 0 r l)) (∑ p : Fin 4, x0 (ix3 p r l))) (second (x4 (ix3 0 r l)) (∑ p :
        Fin 4, x0 (ix3 p r l))) := by
  frame_out
  unfold change first second
  rw [Fin.sum_univ_four]
  pointwise [k6_pay1, k6_pay2, k6_pay3, k6_pay4, k6_pay5, k6_pay6, k6_pay7, k6_pay8, k6_pay9, k6_pay10, k6_pay11, k6_pay12, k6_pay13, k6_pay14]

theorem outA7 (hc0 : cond6_0 i) (hc1 : ¬cond6_1 i) (r : Fin 176) (l : Fin 1024) :
    out6_A_7 c i arg3 harg3 arg4 harg4 arg5 harg5 arg6 harg6 arg7 harg7 arg8 harg8 arg9 harg9 arg10 harg10 arg11
      harg11 hc0 hc1 x0 x1 x2 x3 x4 (ix3 0 r l : S1x176x1024.Idx)
      = first (x3 (ix3 0 r l)) (∑ p : Fin 4, x0 (ix3 p r l)) := by
  frame_out
  unfold first
  rw [Fin.sum_univ_four]
  pointwise [k6_pay1, k6_pay2, k6_pay3, k6_pay4, k6_pay5, k6_pay6, k6_pay7, k6_pay8, k6_pay9, k6_pay10, k6_pay11, k6_pay12, k6_pay13, k6_pay14]

theorem outA8 (hc0 : cond6_0 i) (hc1 : ¬cond6_1 i) (r : Fin 176) (l : Fin 1024) :
    out6_A_8 c i arg3 harg3 arg4 harg4 arg5 harg5 arg6 harg6 arg7 harg7 arg8 harg8 arg9 harg9 arg10 harg10 arg11
      harg11 hc0 hc1 x0 x1 x2 x3 x4 (ix3 0 r l : S1x176x1024.Idx)
      = second (x4 (ix3 0 r l)) (∑ p : Fin 4, x0 (ix3 p r l)) := by
  frame_out
  unfold second
  rw [Fin.sum_univ_four]
  pointwise [k6_pay1, k6_pay2, k6_pay3, k6_pay4, k6_pay5, k6_pay6, k6_pay7, k6_pay8, k6_pay9, k6_pay10, k6_pay11, k6_pay12, k6_pay13, k6_pay14]

theorem outB5 (hc0 : ¬cond6_0 i) (hc1 : cond6_1 i) (r : Fin 176) (l : Fin 1024) :
    out6_B_5 c i arg3 harg3 arg4 harg4 arg5 harg5 arg6 harg6 arg7 harg7 arg8 harg8 arg9 harg9 arg10 harg10 arg11
      harg11 hc0 hc1 x0 x1 x2 x3 x4 (ix3 0 r l : S1x176x1024.Idx)
      = ∑ p : Fin 4, x1 (ix3 p r l) := by
  frame_out
  rw [Fin.sum_univ_four]
  pointwise [k6_pay1, k6_pay2, k6_pay3, k6_pay4, k6_pay5, k6_pay6, k6_pay7, k6_pay8, k6_pay9, k6_pay10, k6_pay11, k6_pay12, k6_pay13, k6_pay14]

theorem outB6 (hc0 : ¬cond6_0 i) (hc1 : cond6_1 i) (r : Fin 176) (l : Fin 1024) :
    out6_B_6 c i arg3 harg3 arg4 harg4 arg5 harg5 arg6 harg6 arg7 harg7 arg8 harg8 arg9 harg9 arg10 harg10 arg11
      harg11 hc0 hc1 x0 x1 x2 x3 x4 (ix3 0 r l : S1x176x1024.Idx)
      = change (x2 (ix3 0 r l)) (first (x3 (ix3 0 r l)) (∑ p : Fin 4, x1 (ix3 p r l))) (second (x4 (ix3 0 r l)) (∑ p :
        Fin 4, x1 (ix3 p r l))) := by
  frame_out
  unfold change first second
  rw [Fin.sum_univ_four]
  pointwise [k6_pay1, k6_pay2, k6_pay3, k6_pay4, k6_pay5, k6_pay6, k6_pay7, k6_pay8, k6_pay9, k6_pay10, k6_pay11, k6_pay12, k6_pay13, k6_pay14]

theorem outB7 (hc0 : ¬cond6_0 i) (hc1 : cond6_1 i) (r : Fin 176) (l : Fin 1024) :
    out6_B_7 c i arg3 harg3 arg4 harg4 arg5 harg5 arg6 harg6 arg7 harg7 arg8 harg8 arg9 harg9 arg10 harg10 arg11
      harg11 hc0 hc1 x0 x1 x2 x3 x4 (ix3 0 r l : S1x176x1024.Idx)
      = first (x3 (ix3 0 r l)) (∑ p : Fin 4, x1 (ix3 p r l)) := by
  frame_out
  unfold first
  rw [Fin.sum_univ_four]
  pointwise [k6_pay1, k6_pay2, k6_pay3, k6_pay4, k6_pay5, k6_pay6, k6_pay7, k6_pay8, k6_pay9, k6_pay10, k6_pay11, k6_pay12, k6_pay13, k6_pay14]

theorem outB8 (hc0 : ¬cond6_0 i) (hc1 : cond6_1 i) (r : Fin 176) (l : Fin 1024) :
    out6_B_8 c i arg3 harg3 arg4 harg4 arg5 harg5 arg6 harg6 arg7 harg7 arg8 harg8 arg9 harg9 arg10 harg10 arg11
      harg11 hc0 hc1 x0 x1 x2 x3 x4 (ix3 0 r l : S1x176x1024.Idx)
      = second (x4 (ix3 0 r l)) (∑ p : Fin 4, x1 (ix3 p r l)) := by
  frame_out
  unfold second
  rw [Fin.sum_univ_four]
  pointwise [k6_pay1, k6_pay2, k6_pay3, k6_pay4, k6_pay5, k6_pay6, k6_pay7, k6_pay8, k6_pay9, k6_pay10, k6_pay11, k6_pay12, k6_pay13, k6_pay14]

end

/-- The gradients of the two layers. -/
def grad6 (P Q : Vec Ideal S4x352x1024 .bf16) : Vec Ideal S2x352x1024 .f32 := fun i =>
  if (i 0).val = 0 then ∑ p : Fin 4, P (ix3 p (i 1) (i 2)) else ∑ p : Fin 4, Q (ix3 p (i 1) (i 2))

theorem grad6_zero (P Q : Vec Ideal S4x352x1024 .bf16) (a : Fin 2) (b : Fin 352) (d : Fin 1024) (h : a.val = 0) :
    grad6 P Q (ix3 a b d) = ∑ p : Fin 4, P (ix3 p b d) := if_pos h
theorem grad6_one (P Q : Vec Ideal S4x352x1024 .bf16) (a : Fin 2) (b : Fin 352) (d : Fin 1024) (h : ¬ a.val = 0) :
    grad6 P Q (ix3 a b d) = ∑ p : Fin 4, Q (ix3 p b d) := if_neg h

variable (V : (c : Dev nD) → (b : Ref sig .tc) → Buf (Elt Ideal) ((c : Thread nD τ).loc b)) (c : Dev nD)

/-- The layer of point `t`, and row `r` of its block. -/
def layer (t : Fin cfg6.N) : Fin 2 := ⟨t.val / 2, by have h : t.val < 4 := t.isLt; omega⟩
def row (t : Fin cfg6.N) (r : Fin 176) : Fin 352 := ⟨t.val % 2 * 176 + r.val, by have := r.isLt; omega⟩

theorem e0 : ∀ t : Fin cfg6.N, t.val < 2 → win6_0.index t = ![0, t.val % 2, 0] :=
  (by decide +kernel : ∀ t : Fin grid6.N, t.val < 2 → win6_0.index t = ![0, t.val % 2, 0])
theorem e1 : ∀ t : Fin cfg6.N, ¬ t.val < 2 → win6_1.index t = ![0, t.val % 2, 0] :=
  (by decide +kernel : ∀ t : Fin grid6.N, ¬ t.val < 2 → win6_1.index t = ![0, t.val % 2, 0])
theorem e2 : ∀ t : Fin cfg6.N, win6_2.index t = ![t.val / 2, t.val % 2, 0] :=
  (by decide +kernel : ∀ t : Fin grid6.N, win6_2.index t = ![t.val / 2, t.val % 2, 0])
theorem e3 : ∀ t : Fin cfg6.N, win6_3.index t = ![t.val / 2, t.val % 2, 0] :=
  (by decide +kernel : ∀ t : Fin grid6.N, win6_3.index t = ![t.val / 2, t.val % 2, 0])
theorem e4 : ∀ t : Fin cfg6.N, win6_4.index t = ![t.val / 2, t.val % 2, 0] :=
  (by decide +kernel : ∀ t : Fin grid6.N, win6_4.index t = ![t.val / 2, t.val % 2, 0])
theorem e5 : ∀ t : Fin cfg6.N, win6_5.index t = ![t.val / 2, t.val % 2, 0] :=
  (by decide +kernel : ∀ t : Fin grid6.N, win6_5.index t = ![t.val / 2, t.val % 2, 0])
theorem e6 : ∀ t : Fin cfg6.N, win6_6.index t = ![t.val / 2, t.val % 2, 0] :=
  (by decide +kernel : ∀ t : Fin grid6.N, win6_6.index t = ![t.val / 2, t.val % 2, 0])
theorem e7 : ∀ t : Fin cfg6.N, win6_7.index t = ![t.val / 2, t.val % 2, 0] :=
  (by decide +kernel : ∀ t : Fin grid6.N, win6_7.index t = ![t.val / 2, t.val % 2, 0])
theorem e8 : ∀ t : Fin cfg6.N, win6_8.index t = ![t.val / 2, t.val % 2, 0] :=
  (by decide +kernel : ∀ t : Fin grid6.N, win6_8.index t = ![t.val / 2, t.val % 2, 0])

theorem blk0 (t : Fin cfg6.N) (h : t.val < 2) (p : Fin 4) (r : Fin 176) (l : Fin 1024) :
    iblk6 V c 0 t (ix3 p r l : S4x176x1024.Idx) = V c main_arg4 (ix3 p (row t r) l) := by
  blk_ext [iblk6, e0 t h, row]
theorem blk1 (t : Fin cfg6.N) (h : ¬ t.val < 2) (p : Fin 4) (r : Fin 176) (l : Fin 1024) :
    iblk6 V c 1 t (ix3 p r l : S4x176x1024.Idx) = V c main_arg5 (ix3 p (row t r) l) := by
  blk_ext [iblk6, e1 t h, row]
theorem blk2 (t : Fin cfg6.N) (r : Fin 176) (l : Fin 1024) :
    iblk6 V c 2 t (ix3 0 r l : S1x176x1024.Idx) = V c main_arg22 (ix3 (layer t) (row t r) l) := by
  blk_ext [iblk6, e2 t, row, layer]
theorem blk3 (t : Fin cfg6.N) (r : Fin 176) (l : Fin 1024) :
    iblk6 V c 3 t (ix3 0 r l : S1x176x1024.Idx) = V c main_arg23 (ix3 (layer t) (row t r) l) := by
  blk_ext [iblk6, e3 t, row, layer]
theorem blk4 (t : Fin cfg6.N) (r : Fin 176) (l : Fin 1024) :
    iblk6 V c 4 t (ix3 0 r l : S1x176x1024.Idx) = V c main_arg24 (ix3 (layer t) (row t r) l) := by
  blk_ext [iblk6, e4 t, row, layer]

theorem array5 : (dat6 V c).arrAt 5 cfg6.N
    = grad6 (V c main_arg4) (V c main_arg5) := by
  refine (dat6 V c).arrAt_eq_of_covers 5 _ (by decide +kernel) fun t hf y => ?_
  blk_simp
  rw [after6_5]
  have ht : t.val < 4 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win6_5.blk t).view.emb (ix3 0 r l : S1x176x1024.Idx) = (ix3 (layer t) (row t r) l : S2x352x1024.Idx) := by
    blk_point [e5 t, layer, row]
  rw [hi]
  by_cases h : t.val < 2
  · rw [outsAt6_A V c t h (by omega)]
    dsimp only
    rw [outA5, grad6_zero _ _ _ _ _ (by show t.val / 2 = 0; omega)]
    exact AdamW.sum_congr fun p => blk0 V c t h p r l
  · rw [outsAt6_B V c t h (by omega)]
    dsimp only
    rw [outB5, grad6_one _ _ _ _ _ (by show ¬ t.val / 2 = 0; omega)]
    exact AdamW.sum_congr fun p => blk1 V c t h p r l

theorem array6 : (dat6 V c).arrAt 6 cfg6.N
    = changes (grad6 (V c main_arg4) (V c main_arg5)) (V c main_arg22) (V c main_arg23) (V c main_arg24) := by
  refine (dat6 V c).arrAt_eq_of_covers 6 _ (by decide +kernel) fun t hf y => ?_
  blk_simp
  rw [after6_6]
  have ht : t.val < 4 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win6_6.blk t).view.emb (ix3 0 r l : S1x176x1024.Idx) = (ix3 (layer t) (row t r) l : S2x352x1024.Idx) := by
    blk_point [e6 t, layer, row]
  rw [hi]
  unfold changes
  by_cases h : t.val < 2
  · rw [outsAt6_A V c t h (by omega)]
    dsimp only
    rw [outA6, blk2, blk3, blk4, grad6_zero _ _ _ _ _ (by show t.val / 2 = 0; omega)]
    exact change_congr rfl rfl rfl (AdamW.sum_congr fun p => blk0 V c t h p r l)
  · rw [outsAt6_B V c t h (by omega)]
    dsimp only
    rw [outB6, blk2, blk3, blk4, grad6_one _ _ _ _ _ (by show ¬ t.val / 2 = 0; omega)]
    exact change_congr rfl rfl rfl (AdamW.sum_congr fun p => blk1 V c t h p r l)

theorem array7 : (dat6 V c).arrAt 7 cfg6.N
    = firsts (V c main_arg23) (grad6 (V c main_arg4) (V c main_arg5)) := by
  refine (dat6 V c).arrAt_eq_of_covers 7 _ (by decide +kernel) fun t hf y => ?_
  blk_simp
  rw [after6_7]
  have ht : t.val < 4 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win6_7.blk t).view.emb (ix3 0 r l : S1x176x1024.Idx) = (ix3 (layer t) (row t r) l : S2x352x1024.Idx) := by
    blk_point [e7 t, layer, row]
  rw [hi]
  unfold firsts
  by_cases h : t.val < 2
  · rw [outsAt6_A V c t h (by omega)]
    dsimp only
    rw [outA7, blk3, grad6_zero _ _ _ _ _ (by show t.val / 2 = 0; omega)]
    exact first_congr rfl (AdamW.sum_congr fun p => blk0 V c t h p r l)
  · rw [outsAt6_B V c t h (by omega)]
    dsimp only
    rw [outB7, blk3, grad6_one _ _ _ _ _ (by show ¬ t.val / 2 = 0; omega)]
    exact first_congr rfl (AdamW.sum_congr fun p => blk1 V c t h p r l)

theorem array8 : (dat6 V c).arrAt 8 cfg6.N
    = seconds (V c main_arg24) (grad6 (V c main_arg4) (V c main_arg5)) := by
  refine (dat6 V c).arrAt_eq_of_covers 8 _ (by decide +kernel) fun t hf y => ?_
  blk_simp
  rw [after6_8]
  have ht : t.val < 4 := t.isLt
  obtain ⟨r, l, rfl⟩ : ∃ (r : Fin 176) (l : Fin 1024), y = ix3 0 r l :=
    ⟨y 1, y 2, by funext a; fin_cases a; exacts [Subsingleton.elim (α := Fin 1) _ _, rfl, rfl]⟩
  have hi : (win6_8.blk t).view.emb (ix3 0 r l : S1x176x1024.Idx) = (ix3 (layer t) (row t r) l : S2x352x1024.Idx) := by
    blk_point [e8 t, layer, row]
  rw [hi]
  unfold seconds
  by_cases h : t.val < 2
  · rw [outsAt6_A V c t h (by omega)]
    dsimp only
    rw [outA8, blk4, grad6_zero _ _ _ _ _ (by show t.val / 2 = 0; omega)]
    exact second_congr rfl (AdamW.sum_congr fun p => blk0 V c t h p r l)
  · rw [outsAt6_B V c t h (by omega)]
    dsimp only
    rw [outB8, blk4, grad6_one _ _ _ _ _ (by show ¬ t.val / 2 = 0; omega)]
    exact second_congr rfl (AdamW.sum_congr fun p => blk1 V c t h p r l)

end Cert.StepCall6

end
-- ==== Proof.Step.Call7.lean ====
/- The gradient of the input projection, one half of its rows under the other: what one grid
   point leaves in its block, and the array. -/
module

public import proofs.«01_k».proof.Proof.Gen.StepKernelIdeal.Frame.Region7
public import proofs.«01_k».proof.Proof.Step.Spec
public import Idealize.ShloMosaic.Lib.Pipeline.Value
public import Idealize.ShloMosaic.Lib.Pipeline.ValueKit.Point

@[expose] public section

noncomputable section

namespace Cert.StepCall7

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid7.Coords) (arg2 : Memref sig .tc .vmem S4x512x644 .bf16) (harg2 : arg2.IsWhole) (arg3 : Memref
  sig .tc .vmem S4x512x644 .bf16) (harg3 : arg3.IsWhole) (arg4 : Memref sig .tc .vmem S512x644 .f32) (harg4 :
  arg4.IsWhole)
    (x0 : Vec Ideal S4x512x644 .bf16) (x1 : Vec Ideal S4x512x644 .bf16)

theorem outA (hc0 : cond7_0 i) (hc1 : ¬cond7_1 i) (r : Fin 512) (l : Fin 644) :
    out7_A_2 c i arg2 harg2 arg3 harg3 arg4 harg4 hc0 hc1 x0 x1 (ix2 r l : S512x644.Idx)
      = ∑ p : Fin 4, x0 (ix3 p r l) := by
  frame_out
  rw [Fin.sum_univ_four]
  pointwise [k7_pay1, k7_pay2]

theorem outB (hc0 : ¬cond7_0 i) (hc1 : cond7_1 i) (r : Fin 512) (l : Fin 644) :
    out7_B_2 c i arg2 harg2 arg3 harg3 arg4 harg4 hc0 hc1 x0 x1 (ix2 r l : S512x644.Idx)
      = ∑ p : Fin 4, x1 (ix3 p r l) := by
  frame_out
  rw [Fin.sum_univ_four]
  pointwise [k7_pay1, k7_pay2]

end

/-- The sum over the devices of the two arrays' rows, one array under the other. -/
def sum7 (P Q : Vec Ideal S4x512x644 .bf16) : Vec Ideal S1024x644 .f32 := fun i =>
  if h : (i 0).val < 512 then ∑ p : Fin 4, P (ix3 p ⟨(i 0).val, h⟩ (i 1))
  else ∑ p : Fin 4, Q (ix3 p ⟨(i 0).val - 512, by have : (i 0).val < 1024 := (i 0).isLt; omega⟩ (i 1))

variable (V : (c : Dev nD) → (b : Ref sig .tc) → Buf (Elt Ideal) ((c : Thread nD τ).loc b)) (c : Dev nD)

/-- Row `r` of point `t`'s block, among all rows and among its array's. -/
def row (t : Fin cfg7.N) (r : Fin 512) : Fin 1024 := ⟨t.val * 512 + r.val, by have h : t.val < 2 := t.isLt; have := r.isLt; omega⟩
def part (t : Fin cfg7.N) (r : Fin 512) : Fin 512 := ⟨t.val % 1 * 512 + r.val, by have := r.isLt; omega⟩

theorem e0 : ∀ t : Fin cfg7.N, t.val < 1 → win7_0.index t = ![0, t.val % 1, 0] :=
  (by decide +kernel : ∀ t : Fin grid7.N, t.val < 1 → win7_0.index t = ![0, t.val % 1, 0])
theorem e1 : ∀ t : Fin cfg7.N, ¬ t.val < 1 → win7_1.index t = ![0, t.val % 1, 0] :=
  (by decide +kernel : ∀ t : Fin grid7.N, ¬ t.val < 1 → win7_1.index t = ![0, t.val % 1, 0])
theorem e2 : ∀ t : Fin cfg7.N, win7_2.index t = ![t.val, 0] :=
  (by decide +kernel : ∀ t : Fin grid7.N, win7_2.index t = ![t.val, 0])

theorem blk0 (t : Fin cfg7.N) (h : t.val < 1) (p : Fin 4) (r : Fin 512) (l : Fin 644) :
    iblk7 V c 0 t (ix3 p r l : S4x512x644.Idx) = V c main_arg8 (ix3 p (part t r) l) := by
  blk_ext [iblk7, e0 t h, part]
theorem blk1 (t : Fin cfg7.N) (h : ¬ t.val < 1) (p : Fin 4) (r : Fin 512) (l : Fin 644) :
    iblk7 V c 1 t (ix3 p r l : S4x512x644.Idx) = V c main_arg9 (ix3 p (part t r) l) := by
  blk_ext [iblk7, e1 t h, part]

theorem array2 : (dat7 V c).arrAt 2 cfg7.N = sum7 (V c main_arg8) (V c main_arg9) := by
  refine (dat7 V c).arrAt_eq_of_covers 2 _ (by decide +kernel) fun t hf y => ?_
  blk_simp
  rw [after7_2]
  have ht : t.val < 2 := t.isLt
  obtain ⟨r, l, rfl⟩ : ∃ (r : Fin 512) (l : Fin 644), y = ix2 r l := ⟨y 0, y 1, by funext a; fin_cases a <;> rfl⟩
  have hr := r.isLt
  have hi : (win7_2.blk t).view.emb (ix2 r l : S512x644.Idx) = (ix2 (row t r) l : S1024x644.Idx) := by
    blk_point [e2 t, row]
  rw [hi]
  by_cases h : t.val < 1
  · have hd : t.val * 512 + r.val < 512 := by omega
    rw [outsAt7_A V c t (by omega) (by omega), outA]
    refine Eq.trans (AdamW.sum_congr fun p => blk0 V c t h p r l) ?_
    refine Eq.trans ?_ (dif_pos hd).symm
    have he : part t r = ⟨t.val * 512 + r.val, hd⟩ := Fin.ext (by show t.val % 1 * 512 + r.val = t.val * 512 + r.val; omega)
    rw [he] <;> rfl
  · have hd : ¬ t.val * 512 + r.val < 512 := by omega
    rw [outsAt7_B V c t (by omega) (by omega), outB]
    refine Eq.trans (AdamW.sum_congr fun p => blk1 V c t h p r l) ?_
    refine Eq.trans ?_ (dif_neg hd).symm
    have he : part t r = ⟨t.val * 512 + r.val - 512, by omega⟩ :=
      Fin.ext (by show t.val % 1 * 512 + r.val = t.val * 512 + r.val - 512; omega)
    rw [he] <;> rfl

end Cert.StepCall7

end
-- ==== Proof.Step.Call8.lean ====
/- The step of the input projection, which lies transposed: what one grid point leaves in its four blocks, and the four arrays. -/
module

public import proofs.«01_k».proof.Proof.Gen.StepKernelIdeal.Frame.Region8
public import proofs.«01_k».proof.Proof.Step.Spec
public import Idealize.ShloMosaic.Lib.Pipeline.Value
public import Idealize.ShloMosaic.Lib.Pipeline.ValueKit.Point

@[expose] public section

noncomputable section

namespace Cert.StepCall8

open Cert.StepKernelIdeal Cert.StepKernelIdeal.Gen Idealize.ShloMosaic Idealize.ShloMosaic.TcCoe Idealize.SL.Sem
open Idealize.ShloMosaic.Pointwise Cert.AdamW
open Idealize.ShloMosaic.Pipeline (Dat)

section
variable (c : Dev nD) (i : grid8.Coords) (arg3 : Memref sig .tc .vmem S1x644x256 .f32) (harg3 : arg3.IsWhole) (arg4 : Memref
  sig .tc .vmem S1x644x256 .f32) (harg4 : arg4.IsWhole) (arg5 : Memref sig .tc .vmem S1x644x256 .f32) (harg5 :
  arg5.IsWhole) (arg6 : Memref sig .tc .vmem S1x644x256 .f32) (harg6 : arg6.IsWhole) (arg7 : Memref sig .tc .vmem
  S1x644x256 .f32) (harg7 : arg7.IsWhole) (arg8 : Memref sig .tc .vmem S1x644x256 .f32) (harg8 : arg8.IsWhole) (arg9 :
  Memref sig .tc .vmem S1x644x256 .f32) (harg9 : arg9.IsWhole) (arg10 : Memref sig .tc .vmem S1x644x256 .f32) (harg10
  : arg10.IsWhole) (hc0 : cond8_0 i)
    (x0 : Vec Ideal S1x644x256 .f32) (x1 : Vec Ideal S1x644x256 .f32) (x2 : Vec Ideal S1x644x256 .f32) (x3 : Vec Ideal
      S1x644x256 .f32)

theorem out4 (r : Fin 644) (l : Fin 256) :
    out8_A_4 c i arg3 harg3 arg4 harg4 arg5 harg5 arg6 harg6 arg7 harg7 arg8 harg8 arg9 harg9 arg10 harg10 hc0 x0 x1
      x2 x3 (ix3 0 r l : S1x644x256.Idx)
      = x0 (ix3 0 r l) := by
  frame_out
  pointwise [k8_pay1, k8_pay2, k8_pay3, k8_pay4, k8_pay5, k8_pay6, k8_pay7, k8_pay8, k8_pay9, k8_pay10]

theorem out5 (r : Fin 644) (l : Fin 256) :
    out8_A_5 c i arg3 harg3 arg4 harg4 arg5 harg5 arg6 harg6 arg7 harg7 arg8 harg8 arg9 harg9 arg10 harg10 hc0 x0 x1
      x2 x3 (ix3 0 r l : S1x644x256.Idx)
      = change (x1 (ix3 0 r l)) (first (x2 (ix3 0 r l)) (x0 (ix3 0 r l))) (second (x3 (ix3 0 r l)) (x0 (ix3 0 r l)))
        := by
  frame_out
  unfold change first second
  pointwise [k8_pay1, k8_pay2, k8_pay3, k8_pay4, k8_pay5, k8_pay6, k8_pay7, k8_pay8, k8_pay9, k8_pay10]

theorem out6 (r : Fin 644) (l : Fin 256) :
    out8_A_6 c i arg3 harg3 arg4 harg4 arg5 harg5 arg6 harg6 arg7 harg7 arg8 harg8 arg9 harg9 arg10 harg10 hc0 x0 x1
      x2 x3 (ix3 0 r l : S1x644x256.Idx)
      = first (x2 (ix3 0 r l)) (x0 (ix3 0 r l)) := by
  frame_out
  unfold first
  pointwise [k8_pay1, k8_pay2, k8_pay3, k8_pay4, k8_pay5, k8_pay6, k8_pay7, k8_pay8, k8_pay9, k8_pay10]

theorem out7 (r : Fin 644) (l : Fin 256) :
    out8_A_7 c i arg3 harg3 arg4 harg4 arg5 harg5 arg6 harg6 arg7 harg7 arg8 harg8 arg9 harg9 arg10 harg10 hc0 x0 x1
      x2 x3 (ix3 0 r l : S1x644x256.Idx)
      = second (x3 (ix3 0 r l)) (x0 (ix3 0 r l)) := by
  frame_out
  unfold second
  pointwise [k8_pay1, k8_pay2, k8_pay3, k8_pay4, k8_pay5, k8_pay6, k8_pay7, k8_pay8, k8_pay9, k8_pay10]

end

/-- The gradient: the sum of the devices' parts. -/
def grad8 (P : Vec Ideal S1x644x1024 .f32) : Vec Ideal S1x644x1024 .f32 := fun i => P (ix3 0 (i 1) (i 2))

variable (V : (c : Dev nD) → (b : Ref sig .tc) → Buf (Elt Ideal) ((c : Thread nD τ).loc b)) (c : Dev nD)

theorem e0 : ∀ t : Fin cfg8.N, win8_0.index t = ![0, 0, t.val] := (by decide +kernel : ∀ t : Fin grid8.N, win8_0.index t = ![0, 0, t.val])
theorem e1 : ∀ t : Fin cfg8.N, win8_1.index t = ![0, 0, t.val] := (by decide +kernel : ∀ t : Fin grid8.N, win8_1.index t = ![0, 0, t.val])
theorem e2 : ∀ t : Fin cfg8.N, win8_2.index t = ![0, 0, t.val] := (by decide +kernel : ∀ t : Fin grid8.N, win8_2.index t = ![0, 0, t.val])
theorem e3 : ∀ t : Fin cfg8.N, win8_3.index t = ![0, 0, t.val] := (by decide +kernel : ∀ t : Fin grid8.N, win8_3.index t = ![0, 0, t.val])
theorem e4 : ∀ t : Fin cfg8.N, win8_4.index t = ![0, 0, t.val] := (by decide +kernel : ∀ t : Fin grid8.N, win8_4.index t = ![0, 0, t.val])
theorem e5 : ∀ t : Fin cfg8.N, win8_5.index t = ![0, 0, t.val] := (by decide +kernel : ∀ t : Fin grid8.N, win8_5.index t = ![0, 0, t.val])
theorem e6 : ∀ t : Fin cfg8.N, win8_6.index t = ![0, 0, t.val] := (by decide +kernel : ∀ t : Fin grid8.N, win8_6.index t = ![0, 0, t.val])
theorem e7 : ∀ t : Fin cfg8.N, win8_7.index t = ![0, 0, t.val] := (by decide +kernel : ∀ t : Fin grid8.N, win8_7.index t = ![0, 0, t.val])

/-- Column `l` of the block of point `t`. -/
def col (t : Fin cfg8.N) (l : Fin 256) : Fin 1024 := ⟨t.val * 256 + l.val, by have h : t.val < 4 := t.isLt; have := l.isLt; omega⟩

theorem blk0 (t : Fin cfg8.N) (p : Fin 1) (r : Fin 644) (l : Fin 256) :
    iblk8 V c 0 t (ix3 p r l : S1x644x256.Idx) = V c main_v27 (ix3 p r (col t l)) := by
  blk_ext [iblk8, e0 t, col]
theorem blk1 (t : Fin cfg8.N) (r : Fin 644) (l : Fin 256) :
    iblk8 V c 1 t (ix3 0 r l : S1x644x256.Idx) = V c main_v28 (ix3 0 r (col t l)) := by
  blk_ext [iblk8, e1 t, col]
theorem blk2 (t : Fin cfg8.N) (r : Fin 644) (l : Fin 256) :
    iblk8 V c 2 t (ix3 0 r l : S1x644x256.Idx) = V c main_v29 (ix3 0 r (col t l)) := by
  blk_ext [iblk8, e2 t, col]
theorem blk3 (t : Fin cfg8.N) (r : Fin 644) (l : Fin 256) :
    iblk8 V c 3 t (ix3 0 r l : S1x644x256.Idx) = V c main_v30 (ix3 0 r (col t l)) := by
  blk_ext [iblk8, e3 t, col]

theorem array4 : (dat8 V c).arrAt 4 cfg8.N = grad8 (V c main_v27) := by
  refine (dat8 V c).arrAt_eq_of_covers 4 _ (by decide +kernel) fun t hf y => ?_
  blk_simp
  rw [after8_4]
  unfold outsAt8
  dsimp only
  obtain ⟨r, l, rfl⟩ : ∃ (r : Fin 644) (l : Fin 256), y = ix3 0 r l :=
    ⟨y 1, y 2, by funext a; fin_cases a; exacts [Subsingleton.elim (α := Fin 1) _ _, rfl, rfl]⟩
  have hi : (win8_4.blk t).view.emb (ix3 0 r l : S1x644x256.Idx) = (ix3 0 r (col t l) : S1x644x1024.Idx) := by
    blk_point [e4 t, col]
  rw [hi, out4]
  exact blk0 V c t 0 r l

theorem array5 : (dat8 V c).arrAt 5 cfg8.N = changes (grad8 (V c main_v27)) (V c main_v28) (V c main_v29) (V c main_v30) := by
  refine (dat8 V c).arrAt_eq_of_covers 5 _ (by decide +kernel) fun t hf y => ?_
  blk_simp
  rw [after8_5]
  unfold outsAt8
  dsimp only
  obtain ⟨r, l, rfl⟩ : ∃ (r : Fin 644) (l : Fin 256), y = ix3 0 r l :=
    ⟨y 1, y 2, by funext a; fin_cases a; exacts [Subsingleton.elim (α := Fin 1) _ _, rfl, rfl]⟩
  have hi : (win8_5.blk t).view.emb (ix3 0 r l : S1x644x256.Idx) = (ix3 0 r (col t l) : S1x644x1024.Idx) := by
    blk_point [e5 t, col]
  rw [hi, out5, blk1, blk2, blk3]
  unfold changes
  exact change_congr rfl rfl rfl (blk0 V c t 0 r l)

theorem array6 : (dat8 V c).arrAt 6 cfg8.N = firsts (V c main_v29) (grad8 (V c main_v27)) := by
  refine (dat8 V c).arrAt_eq_of_covers 6 _ (by decide +kernel) fun t hf y => ?_
  blk_simp
  rw [after8_6]
  unfold outsAt8
  dsimp only
  obtain ⟨r, l, rfl⟩ : ∃ (r : Fin 644) (l : Fin 256), y = ix3 0 r l :=
    ⟨y 1, y 2, by funext a; fin_cases a; exacts [Subsingleton.elim (α := Fin 1) _ _, rfl, rfl]⟩
  have hi : (win8_6.blk t).view.emb (ix3 0 r l : S1x644x256.Idx) = (ix3 0 r (col t l) : S1x644x1024.Idx) := by
    blk_point [e6 t, col]
  rw [hi, out6, blk2]
  unfold firsts
  exact first_congr rfl (blk0 V c t 0 r l)

theorem array7 : (dat8 V c).arrAt 7 cfg8.N = seconds (V c main_v30) (grad8 (V c main_v27)) := by
  refine (dat8 V c).arrAt_eq_of_covers 7 _ (by decide +kernel) fun t hf y => ?_
  blk_simp
  rw [after8_7]
  unfold outsAt8
  dsimp only
  obtain ⟨r, l, rfl⟩ : ∃ (r : Fin 644) (l : Fin 256), y = ix3 0 r l :=
    ⟨y 1, y 2, by funext a; fin_cases a; exacts [Subsingleton.elim (α := Fin 1) _ _, rfl, rfl]⟩
  have hi : (win8_7.blk t).view.emb (ix3 0 r l : S1x644x256.Idx) = (ix3 0 r (col t l) : S1x644x1024.Idx) := by
    blk_point [e7 t, col]
  rw [hi, out7, blk3]
  unfold seconds
  exact second_congr rfl (blk0 V c t 0 r l)

end Cert.StepCall8

end
-- ==== Proof.Step.Fold.lean ====
/- The run of the step followed call by call: each of the twenty-eight results as a function of the thirty-one arguments. -/
module

public import proofs.«01_k».proof.Proof.Step.Run
public import proofs.«01_k».proof.Proof.Step.Call0
public import proofs.«01_k».proof.Proof.Step.Call1
public import proofs.«01_k».proof.Proof.Step.Call2
public import proofs.«01_k».proof.Proof.Step.Call3
public import proofs.«01_k».proof.Proof.Step.Call4
public import proofs.«01_k».proof.Proof.Step.Call5
public import proofs.«01_k».proof.Proof.Step.Call6
public import proofs.«01_k».proof.Proof.Step.Call7
public import proofs.«01_k».proof.Proof.Step.Call8

@[expose] public section

set_option maxHeartbeats 2000000

noncomputable section

namespace Cert.StepFold

open Cert.StepKernelIdeal Cert.StepKernelIdeal.Gen Idealize.ShloMosaic Idealize.ShloMosaic.TcCoe Idealize.SL.Sem
open Idealize.ShloMosaic.Pointwise Cert.AdamW
open Cert.StepCall0 (sum0)
open Cert.StepCall1 (grad1)
open Cert.StepCall2 (grad2)
open Cert.StepCall3 (grad3)
open Cert.StepCall4 (grad4)
open Cert.StepCall5 (grad5)
open Cert.StepCall6 (grad6)
open Cert.StepCall7 (sum7)
open Cert.StepCall8 (grad8)

/-- The changes of rearranged arrays are the rearranged changes. -/
theorem changes_at {s s' : Shape} (e : s'.Idx → s.Idx) {g w m v : Vec Ideal s .f32} {g' w' m' v' : Vec Ideal s' .f32}
    (hg : (fun i => g (e i)) = g') (hw : (fun i => w (e i)) = w') (hm : (fun i => m (e i)) = m')
    (hv : (fun i => v (e i)) = v') : (fun i => changes g w m v (e i)) = changes g' w' m' v' := by
  subst hg hw hm hv
  rfl

/-! ### The layouts the calls of three weights take -/

/-- The key-value projection's sum, without the leading axis its call gives it. -/
def gradKv (P : Vec Ideal S4x128x512 .bf16) : Vec Ideal S128x512 .f32 := fun i => ∑ p : Fin 4, P (ix3 p (i 0) (i 1))
/-- The two layers of the feed-forward's first product, each the sum of its own array. -/
def gradUp (P Q : Vec Ideal S4x1024x704 .bf16) : Vec Ideal S2x1024x704 .f32 := fun i =>
  if (i 0).val = 0 then ∑ p : Fin 4, P (ix3 p (i 1) (i 2)) else ∑ p : Fin 4, Q (ix3 p (i 1) (i 2))
/-- The input projection's two halves of rows, each the sum of its own array. -/
def gradIn (P Q : Vec Ideal S4x512x644 .bf16) : Vec Ideal S1x1024x644 .f32 := fun i =>
  if h : (i 1).val < 512 then ∑ p : Fin 4, P (ix3 p ⟨(i 1).val, h⟩ (i 2))
  else ∑ p : Fin 4, Q (ix3 p ⟨(i 1).val - 512, by have : (i 1).val < 1024 := (i 1).isLt; omega⟩ (i 2))

theorem lift (x : Vec Ideal S128x512 .f32) : shapeCast S1x128x512 x shapeCasts_S128x512_S1x128x512 = fun i => x (ix2 (i 1) (i 2)) := by
  funext i
  refine shapeCast_apply x _ i (ix2 (i 1) (i 2) : S128x512.Idx) ?_
  rw [Shape.rowMajor_val_two, Shape.rowMajor_val_three]
  have h0 : (i 0).val < 1 := (i 0).isLt
  show (i 1).val * 512 + (i 2).val = ((i 0).val * 128 + (i 1).val) * 512 + (i 2).val
  omega
theorem lower (x : Vec Ideal S1x128x512 .f32) : shapeCast S128x512 x shapeCasts_S1x128x512_S128x512 = fun i => x (ix3 0 (i 0) (i 1)) := by
  funext i
  refine shapeCast_apply x _ i (ix3 0 (i 0) (i 1) : S1x128x512.Idx) ?_
  rw [Shape.rowMajor_val_two, Shape.rowMajor_val_three]
  show (0 * 128 + (i 0).val) * 512 + (i 1).val = (i 0).val * 512 + (i 1).val
  omega
theorem lower_lift (x : Vec Ideal S128x512 .f32) :
    (fun i : S128x512.Idx => (fun k : S1x128x512.Idx => x (ix2 (k 1) (k 2))) (ix3 0 (i 0) (i 1))) = x :=
  funext fun i => congrArg x (by funext a; fin_cases a <;> rfl)

theorem turn2 (x : Vec Ideal S2x1024x704 .f32) :
    transpose S2x704x1024 [0, 2, 1] x transposes_S2x1024x704_S2x704x1024_0_2_1 = fun i => x (ix3 (i 0) (i 2) (i 1)) :=
  funext fun i => transpose_apply _ x _ i _ (fun b => by fin_cases b <;> rfl)
theorem back2 (x : Vec Ideal S2x704x1024 .f32) :
    transpose S2x1024x704 [0, 2, 1] x transposes_S2x704x1024_S2x1024x704_0_2_1 = fun i => x (ix3 (i 0) (i 2) (i 1)) :=
  funext fun i => transpose_apply _ x _ i _ (fun b => by fin_cases b <;> rfl)
theorem back2_turn2 (x : Vec Ideal S2x1024x704 .f32) :
    (fun i : S2x1024x704.Idx => (fun k : S2x704x1024.Idx => x (ix3 (k 0) (k 2) (k 1))) (ix3 (i 0) (i 2) (i 1))) = x :=
  funext fun i => congrArg x (by funext a; fin_cases a <;> rfl)

theorem turn1 (x : Vec Ideal S1x1024x644 .f32) :
    transpose S1x644x1024 [0, 2, 1] x transposes_S1x1024x644_S1x644x1024_0_2_1 = fun i => x (ix3 (i 0) (i 2) (i 1)) :=
  funext fun i => transpose_apply _ x _ i _ (fun b => by fin_cases b <;> rfl)
theorem back1 (x : Vec Ideal S1x644x1024 .f32) :
    transpose S1x1024x644 [0, 2, 1] x transposes_S1x644x1024_S1x1024x644_0_2_1 = fun i => x (ix3 (i 0) (i 2) (i 1)) :=
  funext fun i => transpose_apply _ x _ i _ (fun b => by fin_cases b <;> rfl)
theorem back1_turn1 (x : Vec Ideal S1x1024x644 .f32) :
    (fun i : S1x1024x644.Idx => (fun k : S1x644x1024.Idx => x (ix3 (k 0) (k 2) (k 1))) (ix3 (i 0) (i 2) (i 1))) = x :=
  funext fun i => congrArg x (by funext a; fin_cases a <;> rfl)

/-- The layers' sums, as the first call leaves them, split and turned. -/
theorem split (x : Vec Ideal S2048x704 .f32) :
    shapeCast S2x1024x704 x shapeCasts_S2048x704_S2x1024x704
      = fun i => x (ix2 ⟨(i 0).val * 1024 + (i 1).val, by
          have h0 : (i 0).val < 2 := (i 0).isLt; have h1 : (i 1).val < 1024 := (i 1).isLt; omega⟩ (i 2)) := by
  funext i
  refine shapeCast_apply x _ i (ix2 ⟨(i 0).val * 1024 + (i 1).val, _⟩ (i 2) : S2048x704.Idx) ?_
  rw [Shape.rowMajor_val_two, Shape.rowMajor_val_three]
  rfl
theorem layer0 (P Q : Vec Ideal S4x1024x704 .bf16) (b : Fin 704) (d : Fin 1024) :
    extractStridedSlice S1x704x1024 ![0, 0, 0] (transpose S2x704x1024 [0, 2, 1]
        (shapeCast S2x1024x704 (sum0 P Q) shapeCasts_S2048x704_S2x1024x704) transposes_S2x1024x704_S2x704x1024_0_2_1)
        slices_S2x704x1024_S1x704x1024_0_0_0 (ix3 0 b d : S1x704x1024.Idx)
      = ∑ p : Fin 4, P (ix3 p d b) := by
  rw [turn2, split, extractStridedSlice_apply _ _ _ _ (ix3 0 b d : S2x704x1024.Idx) (fun a => by fin_cases a <;> simp)]
  have h : 0 * 1024 + d.val < 1024 := by have := d.isLt; omega
  refine (dif_pos h).trans (Finset.sum_congr rfl fun p _ => congrArg P ?_)
  funext a
  fin_cases a
  exacts [rfl, Fin.ext (show 0 * 1024 + d.val = d.val by omega), rfl]
theorem layer1 (P Q : Vec Ideal S4x1024x704 .bf16) (b : Fin 704) (d : Fin 1024) :
    extractStridedSlice S1x704x1024 ![1, 0, 0] (transpose S2x704x1024 [0, 2, 1]
        (shapeCast S2x1024x704 (sum0 P Q) shapeCasts_S2048x704_S2x1024x704) transposes_S2x1024x704_S2x704x1024_0_2_1)
        slices_S2x704x1024_S1x704x1024_1_0_0 (ix3 0 b d : S1x704x1024.Idx)
      = ∑ p : Fin 4, Q (ix3 p d b) := by
  rw [turn2, split, extractStridedSlice_apply _ _ _ _ (ix3 1 b d : S2x704x1024.Idx) (fun a => by fin_cases a <;> simp)]
  have h : ¬ 1 * 1024 + d.val < 1024 := by omega
  refine (dif_neg h).trans (Finset.sum_congr rfl fun p _ => congrArg Q ?_)
  funext a
  fin_cases a
  exacts [rfl, Fin.ext (show 1 * 1024 + d.val - 1024 = d.val by omega), rfl]
/-- The step's gradient of the feed-forward's first product, turned back. -/
theorem gradUp_eq (P Q : Vec Ideal S4x1024x704 .bf16) :
    (fun i : S2x1024x704.Idx => grad1
      (extractStridedSlice S1x704x1024 ![0, 0, 0] (transpose S2x704x1024 [0, 2, 1]
        (shapeCast S2x1024x704 (sum0 P Q) shapeCasts_S2048x704_S2x1024x704) transposes_S2x1024x704_S2x704x1024_0_2_1)
        slices_S2x704x1024_S1x704x1024_0_0_0)
      (extractStridedSlice S1x704x1024 ![1, 0, 0] (transpose S2x704x1024 [0, 2, 1]
        (shapeCast S2x1024x704 (sum0 P Q) shapeCasts_S2048x704_S2x1024x704) transposes_S2x1024x704_S2x704x1024_0_2_1)
        slices_S2x704x1024_S1x704x1024_1_0_0) (ix3 (i 0) (i 2) (i 1))) = gradUp P Q := by
  funext i
  unfold gradUp
  by_cases h : (i 0).val = 0
  · refine (StepCall1.grad1_zero _ _ (i 0) (i 2) (i 1) h).trans ?_
    exact (layer0 P Q (i 2) (i 1)).trans (if_pos h).symm
  · refine (StepCall1.grad1_one _ _ (i 0) (i 2) (i 1) h).trans ?_
    exact (layer1 P Q (i 2) (i 1)).trans (if_neg h).symm

/-- The step's gradient of the input projection, turned back. -/
theorem gradIn_eq (P Q : Vec Ideal S4x512x644 .bf16) :
    (fun i : S1x1024x644.Idx => grad8 (broadcastInDim S1x644x1024 ![1, 2] bcast_S644x1024_S1x644x1024_1_2
      (transpose S644x1024 [1, 0] (sum7 P Q) transposes_S1024x644_S644x1024_1_0)) (ix3 (i 0) (i 2) (i 1))) = gradIn P Q := by
  funext i
  show broadcastInDim S1x644x1024 ![1, 2] bcast_S644x1024_S1x644x1024_1_2
    (transpose S644x1024 [1, 0] (sum7 P Q) transposes_S1024x644_S644x1024_1_0) (ix3 0 (i 2) (i 1)) = _
  rw [broadcastInDim_apply _ _ _ _ (ix2 (i 2) (i 1) : S644x1024.Idx) (fun a => by fin_cases a <;> rfl),
    transpose_apply _ (sum7 P Q) _ _ (ix2 (i 1) (i 2) : S1024x644.Idx) (fun b => by fin_cases b <;> rfl)]
  rfl

variable (m : (ℓ : Loc nD τ sig) → Buf (Elt Ideal) ℓ) (ρ : Dev nD → PrngReg) (c : Dev nD)

/-! ### The output projection of the first mixer -/

theorem v13_0 : W15 m ρ c main_v13_0 = grad2 (m ((c : Thread nD τ).loc main_arg0)) := by
  refine ((W15_of m ρ c main_v13_0 (by decide)).trans ((W14_of m ρ c main_v13_0 (by decide)).trans ((W13_of m ρ c main_v13_0 (by decide)).trans ((W12_of m ρ c main_v13_0 (by decide)).trans ((W11_of m ρ c main_v13_0 (by decide)).trans ((W10_of m ρ c main_v13_0 (by decide)).trans ((W9_of m ρ c main_v13_0 (by decide)).trans ((W8_of m ρ c main_v13_0 (by decide)).trans ((W7_of m ρ c main_v13_0 (by decide)).trans ((W6_of m ρ c main_v13_0 (by decide)))))))))))).trans ((W5_arr m ρ c 4).trans ((StepCall2.array4 (V4 m ρ) c).trans ?_))
  rw [show V4 m ρ c main_arg0 = _ from W4_args m ρ c main_arg0 (by decide)] <;> rfl
theorem v13_1 : W15 m ρ c main_v13_1 = changes (grad2 (m ((c : Thread nD τ).loc main_arg0))) (m ((c : Thread nD τ).loc main_arg10)) (m ((c : Thread nD τ).loc main_arg11)) (m ((c : Thread nD τ).loc main_arg12)) := by
  refine ((W15_of m ρ c main_v13_1 (by decide)).trans ((W14_of m ρ c main_v13_1 (by decide)).trans ((W13_of m ρ c main_v13_1 (by decide)).trans ((W12_of m ρ c main_v13_1 (by decide)).trans ((W11_of m ρ c main_v13_1 (by decide)).trans ((W10_of m ρ c main_v13_1 (by decide)).trans ((W9_of m ρ c main_v13_1 (by decide)).trans ((W8_of m ρ c main_v13_1 (by decide)).trans ((W7_of m ρ c main_v13_1 (by decide)).trans ((W6_of m ρ c main_v13_1 (by decide)))))))))))).trans ((W5_arr m ρ c 5).trans ((StepCall2.array5 (V4 m ρ) c).trans ?_))
  rw [show V4 m ρ c main_arg0 = _ from W4_args m ρ c main_arg0 (by decide), show V4 m ρ c main_arg10 = _ from W4_args m ρ c main_arg10 (by decide), show V4 m ρ c main_arg11 = _ from W4_args m ρ c main_arg11 (by decide), show V4 m ρ c main_arg12 = _ from W4_args m ρ c main_arg12 (by decide)] <;> rfl
theorem v13_2 : W15 m ρ c main_v13_2 = firsts (m ((c : Thread nD τ).loc main_arg11)) (grad2 (m ((c : Thread nD τ).loc main_arg0))) := by
  refine ((W15_of m ρ c main_v13_2 (by decide)).trans ((W14_of m ρ c main_v13_2 (by decide)).trans ((W13_of m ρ c main_v13_2 (by decide)).trans ((W12_of m ρ c main_v13_2 (by decide)).trans ((W11_of m ρ c main_v13_2 (by decide)).trans ((W10_of m ρ c main_v13_2 (by decide)).trans ((W9_of m ρ c main_v13_2 (by decide)).trans ((W8_of m ρ c main_v13_2 (by decide)).trans ((W7_of m ρ c main_v13_2 (by decide)).trans ((W6_of m ρ c main_v13_2 (by decide)))))))))))).trans ((W5_arr m ρ c 6).trans ((StepCall2.array6 (V4 m ρ) c).trans ?_))
  rw [show V4 m ρ c main_arg0 = _ from W4_args m ρ c main_arg0 (by decide), show V4 m ρ c main_arg11 = _ from W4_args m ρ c main_arg11 (by decide)] <;> rfl
theorem v13_3 : W15 m ρ c main_v13_3 = seconds (m ((c : Thread nD τ).loc main_arg12)) (grad2 (m ((c : Thread nD τ).loc main_arg0))) := by
  refine ((W15_of m ρ c main_v13_3 (by decide)).trans ((W14_of m ρ c main_v13_3 (by decide)).trans ((W13_of m ρ c main_v13_3 (by decide)).trans ((W12_of m ρ c main_v13_3 (by decide)).trans ((W11_of m ρ c main_v13_3 (by decide)).trans ((W10_of m ρ c main_v13_3 (by decide)).trans ((W9_of m ρ c main_v13_3 (by decide)).trans ((W8_of m ρ c main_v13_3 (by decide)).trans ((W7_of m ρ c main_v13_3 (by decide)).trans ((W6_of m ρ c main_v13_3 (by decide)))))))))))).trans ((W5_arr m ρ c 7).trans ((StepCall2.array7 (V4 m ρ) c).trans ?_))
  rw [show V4 m ρ c main_arg0 = _ from W4_args m ρ c main_arg0 (by decide), show V4 m ρ c main_arg12 = _ from W4_args m ρ c main_arg12 (by decide)] <;> rfl

/-! ### The query projection -/

theorem v22_0 : W15 m ρ c main_v22_0 = grad4 (m ((c : Thread nD τ).loc main_arg2)) := by
  refine ((W15_of m ρ c main_v22_0 (by decide)).trans ((W14_of m ρ c main_v22_0 (by decide)).trans ((W13_of m ρ c main_v22_0 (by decide)).trans ((W12_of m ρ c main_v22_0 (by decide)).trans ((W11_of m ρ c main_v22_0 (by decide)).trans ((W10_of m ρ c main_v22_0 (by decide)))))))).trans ((W9_arr m ρ c 4).trans ((StepCall4.array4 (V8 m ρ) c).trans ?_))
  rw [show V8 m ρ c main_arg2 = _ from W8_args m ρ c main_arg2 (by decide)] <;> rfl
theorem v22_1 : W15 m ρ c main_v22_1 = changes (grad4 (m ((c : Thread nD τ).loc main_arg2))) (m ((c : Thread nD τ).loc main_arg16)) (m ((c : Thread nD τ).loc main_arg17)) (m ((c : Thread nD τ).loc main_arg18)) := by
  refine ((W15_of m ρ c main_v22_1 (by decide)).trans ((W14_of m ρ c main_v22_1 (by decide)).trans ((W13_of m ρ c main_v22_1 (by decide)).trans ((W12_of m ρ c main_v22_1 (by decide)).trans ((W11_of m ρ c main_v22_1 (by decide)).trans ((W10_of m ρ c main_v22_1 (by decide)))))))).trans ((W9_arr m ρ c 5).trans ((StepCall4.array5 (V8 m ρ) c).trans ?_))
  rw [show V8 m ρ c main_arg2 = _ from W8_args m ρ c main_arg2 (by decide), show V8 m ρ c main_arg16 = _ from W8_args m ρ c main_arg16 (by decide), show V8 m ρ c main_arg17 = _ from W8_args m ρ c main_arg17 (by decide), show V8 m ρ c main_arg18 = _ from W8_args m ρ c main_arg18 (by decide)] <;> rfl
theorem v22_2 : W15 m ρ c main_v22_2 = firsts (m ((c : Thread nD τ).loc main_arg17)) (grad4 (m ((c : Thread nD τ).loc main_arg2))) := by
  refine ((W15_of m ρ c main_v22_2 (by decide)).trans ((W14_of m ρ c main_v22_2 (by decide)).trans ((W13_of m ρ c main_v22_2 (by decide)).trans ((W12_of m ρ c main_v22_2 (by decide)).trans ((W11_of m ρ c main_v22_2 (by decide)).trans ((W10_of m ρ c main_v22_2 (by decide)))))))).trans ((W9_arr m ρ c 6).trans ((StepCall4.array6 (V8 m ρ) c).trans ?_))
  rw [show V8 m ρ c main_arg2 = _ from W8_args m ρ c main_arg2 (by decide), show V8 m ρ c main_arg17 = _ from W8_args m ρ c main_arg17 (by decide)] <;> rfl
theorem v22_3 : W15 m ρ c main_v22_3 = seconds (m ((c : Thread nD τ).loc main_arg18)) (grad4 (m ((c : Thread nD τ).loc main_arg2))) := by
  refine ((W15_of m ρ c main_v22_3 (by decide)).trans ((W14_of m ρ c main_v22_3 (by decide)).trans ((W13_of m ρ c main_v22_3 (by decide)).trans ((W12_of m ρ c main_v22_3 (by decide)).trans ((W11_of m ρ c main_v22_3 (by decide)).trans ((W10_of m ρ c main_v22_3 (by decide)))))))).trans ((W9_arr m ρ c 7).trans ((StepCall4.array7 (V8 m ρ) c).trans ?_))
  rw [show V8 m ρ c main_arg2 = _ from W8_args m ρ c main_arg2 (by decide), show V8 m ρ c main_arg18 = _ from W8_args m ρ c main_arg18 (by decide)] <;> rfl

/-! ### The output projection of the second mixer -/

theorem v23_0 : W15 m ρ c main_v23_0 = grad5 (m ((c : Thread nD τ).loc main_arg3)) := by
  refine ((W15_of m ρ c main_v23_0 (by decide)).trans ((W14_of m ρ c main_v23_0 (by decide)).trans ((W13_of m ρ c main_v23_0 (by decide)).trans ((W12_of m ρ c main_v23_0 (by decide)).trans ((W11_of m ρ c main_v23_0 (by decide))))))).trans ((W10_arr m ρ c 4).trans ((StepCall5.array4 (V9 m ρ) c).trans ?_))
  rw [show V9 m ρ c main_arg3 = _ from W9_args m ρ c main_arg3 (by decide)] <;> rfl
theorem v23_1 : W15 m ρ c main_v23_1 = changes (grad5 (m ((c : Thread nD τ).loc main_arg3))) (m ((c : Thread nD τ).loc main_arg19)) (m ((c : Thread nD τ).loc main_arg20)) (m ((c : Thread nD τ).loc main_arg21)) := by
  refine ((W15_of m ρ c main_v23_1 (by decide)).trans ((W14_of m ρ c main_v23_1 (by decide)).trans ((W13_of m ρ c main_v23_1 (by decide)).trans ((W12_of m ρ c main_v23_1 (by decide)).trans ((W11_of m ρ c main_v23_1 (by decide))))))).trans ((W10_arr m ρ c 5).trans ((StepCall5.array5 (V9 m ρ) c).trans ?_))
  rw [show V9 m ρ c main_arg3 = _ from W9_args m ρ c main_arg3 (by decide), show V9 m ρ c main_arg19 = _ from W9_args m ρ c main_arg19 (by decide), show V9 m ρ c main_arg20 = _ from W9_args m ρ c main_arg20 (by decide), show V9 m ρ c main_arg21 = _ from W9_args m ρ c main_arg21 (by decide)] <;> rfl
theorem v23_2 : W15 m ρ c main_v23_2 = firsts (m ((c : Thread nD τ).loc main_arg20)) (grad5 (m ((c : Thread nD τ).loc main_arg3))) := by
  refine ((W15_of m ρ c main_v23_2 (by decide)).trans ((W14_of m ρ c main_v23_2 (by decide)).trans ((W13_of m ρ c main_v23_2 (by decide)).trans ((W12_of m ρ c main_v23_2 (by decide)).trans ((W11_of m ρ c main_v23_2 (by decide))))))).trans ((W10_arr m ρ c 6).trans ((StepCall5.array6 (V9 m ρ) c).trans ?_))
  rw [show V9 m ρ c main_arg3 = _ from W9_args m ρ c main_arg3 (by decide), show V9 m ρ c main_arg20 = _ from W9_args m ρ c main_arg20 (by decide)] <;> rfl
theorem v23_3 : W15 m ρ c main_v23_3 = seconds (m ((c : Thread nD τ).loc main_arg21)) (grad5 (m ((c : Thread nD τ).loc main_arg3))) := by
  refine ((W15_of m ρ c main_v23_3 (by decide)).trans ((W14_of m ρ c main_v23_3 (by decide)).trans ((W13_of m ρ c main_v23_3 (by decide)).trans ((W12_of m ρ c main_v23_3 (by decide)).trans ((W11_of m ρ c main_v23_3 (by decide))))))).trans ((W10_arr m ρ c 7).trans ((StepCall5.array7 (V9 m ρ) c).trans ?_))
  rw [show V9 m ρ c main_arg3 = _ from W9_args m ρ c main_arg3 (by decide), show V9 m ρ c main_arg21 = _ from W9_args m ρ c main_arg21 (by decide)] <;> rfl

/-! ### The feed-forward's second product -/

theorem v24_0 : W15 m ρ c main_v24_0 = grad6 (m ((c : Thread nD τ).loc main_arg4)) (m ((c : Thread nD τ).loc main_arg5)) := by
  refine ((W15_of m ρ c main_v24_0 (by decide)).trans ((W14_of m ρ c main_v24_0 (by decide)).trans ((W13_of m ρ c main_v24_0 (by decide)).trans ((W12_of m ρ c main_v24_0 (by decide)))))).trans ((W11_arr m ρ c 5).trans ((StepCall6.array5 (V10 m ρ) c).trans ?_))
  rw [show V10 m ρ c main_arg4 = _ from W10_args m ρ c main_arg4 (by decide), show V10 m ρ c main_arg5 = _ from W10_args m ρ c main_arg5 (by decide)] <;> rfl
theorem v24_1 : W15 m ρ c main_v24_1 = changes (grad6 (m ((c : Thread nD τ).loc main_arg4)) (m ((c : Thread nD τ).loc main_arg5))) (m ((c : Thread nD τ).loc main_arg22)) (m ((c : Thread nD τ).loc main_arg23)) (m ((c : Thread nD τ).loc main_arg24)) := by
  refine ((W15_of m ρ c main_v24_1 (by decide)).trans ((W14_of m ρ c main_v24_1 (by decide)).trans ((W13_of m ρ c main_v24_1 (by decide)).trans ((W12_of m ρ c main_v24_1 (by decide)))))).trans ((W11_arr m ρ c 6).trans ((StepCall6.array6 (V10 m ρ) c).trans ?_))
  rw [show V10 m ρ c main_arg4 = _ from W10_args m ρ c main_arg4 (by decide), show V10 m ρ c main_arg5 = _ from W10_args m ρ c main_arg5 (by decide), show V10 m ρ c main_arg22 = _ from W10_args m ρ c main_arg22 (by decide), show V10 m ρ c main_arg23 = _ from W10_args m ρ c main_arg23 (by decide), show V10 m ρ c main_arg24 = _ from W10_args m ρ c main_arg24 (by decide)] <;> rfl
theorem v24_2 : W15 m ρ c main_v24_2 = firsts (m ((c : Thread nD τ).loc main_arg23)) (grad6 (m ((c : Thread nD τ).loc main_arg4)) (m ((c : Thread nD τ).loc main_arg5))) := by
  refine ((W15_of m ρ c main_v24_2 (by decide)).trans ((W14_of m ρ c main_v24_2 (by decide)).trans ((W13_of m ρ c main_v24_2 (by decide)).trans ((W12_of m ρ c main_v24_2 (by decide)))))).trans ((W11_arr m ρ c 7).trans ((StepCall6.array7 (V10 m ρ) c).trans ?_))
  rw [show V10 m ρ c main_arg4 = _ from W10_args m ρ c main_arg4 (by decide), show V10 m ρ c main_arg5 = _ from W10_args m ρ c main_arg5 (by decide), show V10 m ρ c main_arg23 = _ from W10_args m ρ c main_arg23 (by decide)] <;> rfl
theorem v24_3 : W15 m ρ c main_v24_3 = seconds (m ((c : Thread nD τ).loc main_arg24)) (grad6 (m ((c : Thread nD τ).loc main_arg4)) (m ((c : Thread nD τ).loc main_arg5))) := by
  refine ((W15_of m ρ c main_v24_3 (by decide)).trans ((W14_of m ρ c main_v24_3 (by decide)).trans ((W13_of m ρ c main_v24_3 (by decide)).trans ((W12_of m ρ c main_v24_3 (by decide)))))).trans ((W11_arr m ρ c 8).trans ((StepCall6.array8 (V10 m ρ) c).trans ?_))
  rw [show V10 m ρ c main_arg4 = _ from W10_args m ρ c main_arg4 (by decide), show V10 m ρ c main_arg5 = _ from W10_args m ρ c main_arg5 (by decide), show V10 m ρ c main_arg24 = _ from W10_args m ρ c main_arg24 (by decide)] <;> rfl

/-! ### The key-value projection -/

theorem v14_at : V6 m ρ c main_v14 = fun i => (m ((c : Thread nD τ).loc main_arg13)) (ix2 (i 1) (i 2)) := by
  show StableHlo.after hostOps3 (W5 m ρ c) main_v14 = _
  unfold hostOps3
  after_results
  rw [show W5 m ρ c main_arg13 = _ from W5_args m ρ c main_arg13 (by decide)]
  exact lift _
theorem v15_at : V6 m ρ c main_v15 = fun i => (m ((c : Thread nD τ).loc main_arg14)) (ix2 (i 1) (i 2)) := by
  show StableHlo.after hostOps3 (W5 m ρ c) main_v15 = _
  unfold hostOps3
  after_results
  rw [show W5 m ρ c main_arg14 = _ from W5_args m ρ c main_arg14 (by decide)]
  exact lift _
theorem v16_at : V6 m ρ c main_v16 = fun i => (m ((c : Thread nD τ).loc main_arg15)) (ix2 (i 1) (i 2)) := by
  show StableHlo.after hostOps3 (W5 m ρ c) main_v16 = _
  unfold hostOps3
  after_results
  rw [show W5 m ρ c main_arg15 = _ from W5_args m ρ c main_arg15 (by decide)]
  exact lift _
theorem v18 : W15 m ρ c main_v18 = gradKv (m ((c : Thread nD τ).loc main_arg1)) := by
  refine ((W15_of m ρ c main_v18 (by decide)).trans ((W14_of m ρ c main_v18 (by decide)).trans ((W13_of m ρ c main_v18 (by decide)).trans ((W12_of m ρ c main_v18 (by decide)).trans ((W11_of m ρ c main_v18 (by decide)).trans ((W10_of m ρ c main_v18 (by decide)).trans ((W9_of m ρ c main_v18 (by decide))))))))).trans ?_
  show StableHlo.after hostOps4 (W7 m ρ c) main_v18 = _
  unfold hostOps4
  after_results
  rw [show W7 m ρ c main_v17_0 = _ from (W7_arr m ρ c 4).trans (StepCall3.array4 (V6 m ρ) c)]
  rw [show V6 m ρ c main_arg1 = _ from W6_args m ρ c main_arg1 (by decide)]
  refine (lower _).trans ?_
  rfl
theorem v19 : W15 m ρ c main_v19 = changes (gradKv (m ((c : Thread nD τ).loc main_arg1))) (m ((c : Thread nD τ).loc main_arg13)) (m ((c : Thread nD τ).loc main_arg14)) (m ((c : Thread nD τ).loc main_arg15)) := by
  refine ((W15_of m ρ c main_v19 (by decide)).trans ((W14_of m ρ c main_v19 (by decide)).trans ((W13_of m ρ c main_v19 (by decide)).trans ((W12_of m ρ c main_v19 (by decide)).trans ((W11_of m ρ c main_v19 (by decide)).trans ((W10_of m ρ c main_v19 (by decide)).trans ((W9_of m ρ c main_v19 (by decide))))))))).trans ?_
  show StableHlo.after hostOps4 (W7 m ρ c) main_v19 = _
  unfold hostOps4
  after_results
  rw [show W7 m ρ c main_v17_1 = _ from (W7_arr m ρ c 5).trans (StepCall3.array5 (V6 m ρ) c)]
  rw [show V6 m ρ c main_arg1 = _ from W6_args m ρ c main_arg1 (by decide), v14_at m ρ c, v15_at m ρ c, v16_at m ρ c]
  refine (lower _).trans ?_
  exact congr (congr (congrArg (changes (gradKv (m ((c : Thread nD τ).loc main_arg1)))) (lower_lift (m ((c : Thread nD τ).loc main_arg13)))) (lower_lift (m ((c : Thread nD τ).loc main_arg14)))) (lower_lift (m ((c : Thread nD τ).loc main_arg15)))
theorem v20 : W15 m ρ c main_v20 = firsts (m ((c : Thread nD τ).loc main_arg14)) (gradKv (m ((c : Thread nD τ).loc main_arg1))) := by
  refine ((W15_of m ρ c main_v20 (by decide)).trans ((W14_of m ρ c main_v20 (by decide)).trans ((W13_of m ρ c main_v20 (by decide)).trans ((W12_of m ρ c main_v20 (by decide)).trans ((W11_of m ρ c main_v20 (by decide)).trans ((W10_of m ρ c main_v20 (by decide)).trans ((W9_of m ρ c main_v20 (by decide))))))))).trans ?_
  show StableHlo.after hostOps4 (W7 m ρ c) main_v20 = _
  unfold hostOps4
  after_results
  rw [show W7 m ρ c main_v17_2 = _ from (W7_arr m ρ c 6).trans (StepCall3.array6 (V6 m ρ) c)]
  rw [show V6 m ρ c main_arg1 = _ from W6_args m ρ c main_arg1 (by decide), v15_at m ρ c]
  refine (lower _).trans ?_
  exact congrArg (fun x => firsts x (gradKv (m ((c : Thread nD τ).loc main_arg1)))) (lower_lift (m ((c : Thread nD τ).loc main_arg14)))
theorem v21 : W15 m ρ c main_v21 = seconds (m ((c : Thread nD τ).loc main_arg15)) (gradKv (m ((c : Thread nD τ).loc main_arg1))) := by
  refine ((W15_of m ρ c main_v21 (by decide)).trans ((W14_of m ρ c main_v21 (by decide)).trans ((W13_of m ρ c main_v21 (by decide)).trans ((W12_of m ρ c main_v21 (by decide)).trans ((W11_of m ρ c main_v21 (by decide)).trans ((W10_of m ρ c main_v21 (by decide)).trans ((W9_of m ρ c main_v21 (by decide))))))))).trans ?_
  show StableHlo.after hostOps4 (W7 m ρ c) main_v21 = _
  unfold hostOps4
  after_results
  rw [show W7 m ρ c main_v17_3 = _ from (W7_arr m ρ c 7).trans (StepCall3.array7 (V6 m ρ) c)]
  rw [show V6 m ρ c main_arg1 = _ from W6_args m ρ c main_arg1 (by decide), v16_at m ρ c]
  refine (lower _).trans ?_
  exact congrArg (fun x => seconds x (gradKv (m ((c : Thread nD τ).loc main_arg1)))) (lower_lift (m ((c : Thread nD τ).loc main_arg15)))

/-! ### The feed-forward's first product -/

theorem v0_at : W1 m ρ c main_v0 = sum0 (m ((c : Thread nD τ).loc main_arg6)) (m ((c : Thread nD τ).loc main_arg7)) := by
  refine (W1_arr m ρ c 2).trans ((StepCall0.array2 (V0 m ρ) c).trans ?_)
  rw [show V0 m ρ c main_arg6 = _ from W0_args m ρ c main_arg6 (by decide), show V0 m ρ c main_arg7 = _ from W0_args m ρ c main_arg7 (by decide)]
theorem v3_at : V2 m ρ c main_v3 = extractStridedSlice S1x704x1024 ![0, 0, 0] (transpose S2x704x1024 [0, 2, 1]
        (shapeCast S2x1024x704 (sum0 (m ((c : Thread nD τ).loc main_arg6)) (m ((c : Thread nD τ).loc main_arg7))) shapeCasts_S2048x704_S2x1024x704) transposes_S2x1024x704_S2x704x1024_0_2_1)
        slices_S2x704x1024_S1x704x1024_0_0_0 := by
  show StableHlo.after hostOps1 (W1 m ρ c) main_v3 = _
  unfold hostOps1
  after_results
  rw [v0_at m ρ c]
  rfl
theorem v4_at : V2 m ρ c main_v4 = extractStridedSlice S1x704x1024 ![1, 0, 0] (transpose S2x704x1024 [0, 2, 1]
        (shapeCast S2x1024x704 (sum0 (m ((c : Thread nD τ).loc main_arg6)) (m ((c : Thread nD τ).loc main_arg7))) shapeCasts_S2048x704_S2x1024x704) transposes_S2x1024x704_S2x704x1024_0_2_1)
        slices_S2x704x1024_S1x704x1024_1_0_0 := by
  show StableHlo.after hostOps1 (W1 m ρ c) main_v4 = _
  unfold hostOps1
  after_results
  rw [v0_at m ρ c]
  rfl
theorem v5_at : V2 m ρ c main_v5 = fun i => (m ((c : Thread nD τ).loc main_arg25)) (ix3 (i 0) (i 2) (i 1)) := by
  show StableHlo.after hostOps1 (W1 m ρ c) main_v5 = _
  unfold hostOps1
  after_results
  rw [show W1 m ρ c main_arg25 = _ from W1_args m ρ c main_arg25 (by decide)]
  exact turn2 _
theorem v6_at : V2 m ρ c main_v6 = fun i => (m ((c : Thread nD τ).loc main_arg26)) (ix3 (i 0) (i 2) (i 1)) := by
  show StableHlo.after hostOps1 (W1 m ρ c) main_v6 = _
  unfold hostOps1
  after_results
  rw [show W1 m ρ c main_arg26 = _ from W1_args m ρ c main_arg26 (by decide)]
  exact turn2 _
theorem v7_at : V2 m ρ c main_v7 = fun i => (m ((c : Thread nD τ).loc main_arg27)) (ix3 (i 0) (i 2) (i 1)) := by
  show StableHlo.after hostOps1 (W1 m ρ c) main_v7 = _
  unfold hostOps1
  after_results
  rw [show W1 m ρ c main_arg27 = _ from W1_args m ρ c main_arg27 (by decide)]
  exact turn2 _
theorem v9 : W15 m ρ c main_v9 = gradUp (m ((c : Thread nD τ).loc main_arg6)) (m ((c : Thread nD τ).loc main_arg7)) := by
  refine ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide))))))))))))).trans ?_
  show StableHlo.after hostOps2 (W3 m ρ c) main_v9 = _
  unfold hostOps2
  after_results
  rw [show W3 m ρ c main_v8_0 = _ from (W3_arr m ρ c 5).trans (StepCall1.array5 (V2 m ρ) c)]
  rw [v3_at m ρ c, v4_at m ρ c]
  refine (back2 _).trans ?_
  exact gradUp_eq (m ((c : Thread nD τ).loc main_arg6)) (m ((c : Thread nD τ).loc main_arg7))
theorem v10 : W15 m ρ c main_v10 = changes (gradUp (m ((c : Thread nD τ).loc main_arg6)) (m ((c : Thread nD τ).loc main_arg7))) (m ((c : Thread nD τ).loc main_arg25)) (m ((c : Thread nD τ).loc main_arg26)) (m ((c : Thread nD τ).loc main_arg27)) := by
  refine ((W15_of m ρ c main_v10 (by decide)).trans ((W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide))))))))))))).trans ?_
  show StableHlo.after hostOps2 (W3 m ρ c) main_v10 = _
  unfold hostOps2
  after_results
  rw [show W3 m ρ c main_v8_1 = _ from (W3_arr m ρ c 6).trans (StepCall1.array6 (V2 m ρ) c)]
  rw [v3_at m ρ c, v4_at m ρ c, v5_at m ρ c, v6_at m ρ c, v7_at m ρ c]
  refine (back2 _).trans ?_
  exact changes_at (fun i => ix3 (i 0) (i 2) (i 1)) (gradUp_eq (m ((c : Thread nD τ).loc main_arg6)) (m ((c : Thread nD τ).loc main_arg7)))
    (back2_turn2 (m ((c : Thread nD τ).loc main_arg25)))
    (back2_turn2 (m ((c : Thread nD τ).loc main_arg26)))
    (back2_turn2 (m ((c : Thread nD τ).loc main_arg27)))
theorem v11 : W15 m ρ c main_v11 = firsts (m ((c : Thread nD τ).loc main_arg26)) (gradUp (m ((c : Thread nD τ).loc main_arg6)) (m ((c : Thread nD τ).loc main_arg7))) := by
  refine ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans ((W9_of m ρ c main_v11 (by decide)).trans ((W8_of m ρ c main_v11 (by decide)).trans ((W7_of m ρ c main_v11 (by decide)).trans ((W6_of m ρ c main_v11 (by decide)).trans ((W5_of m ρ c main_v11 (by decide))))))))))))).trans ?_
  show StableHlo.after hostOps2 (W3 m ρ c) main_v11 = _
  unfold hostOps2
  after_results
  rw [show W3 m ρ c main_v8_2 = _ from (W3_arr m ρ c 7).trans (StepCall1.array7 (V2 m ρ) c)]
  rw [v3_at m ρ c, v4_at m ρ c, v6_at m ρ c]
  refine (back2 _).trans ?_
  exact congr (congrArg firsts (back2_turn2 (m ((c : Thread nD τ).loc main_arg26)))) (gradUp_eq (m ((c : Thread nD τ).loc main_arg6)) (m ((c : Thread nD τ).loc main_arg7)))
theorem v12 : W15 m ρ c main_v12 = seconds (m ((c : Thread nD τ).loc main_arg27)) (gradUp (m ((c : Thread nD τ).loc main_arg6)) (m ((c : Thread nD τ).loc main_arg7))) := by
  refine ((W15_of m ρ c main_v12 (by decide)).trans ((W14_of m ρ c main_v12 (by decide)).trans ((W13_of m ρ c main_v12 (by decide)).trans ((W12_of m ρ c main_v12 (by decide)).trans ((W11_of m ρ c main_v12 (by decide)).trans ((W10_of m ρ c main_v12 (by decide)).trans ((W9_of m ρ c main_v12 (by decide)).trans ((W8_of m ρ c main_v12 (by decide)).trans ((W7_of m ρ c main_v12 (by decide)).trans ((W6_of m ρ c main_v12 (by decide)).trans ((W5_of m ρ c main_v12 (by decide))))))))))))).trans ?_
  show StableHlo.after hostOps2 (W3 m ρ c) main_v12 = _
  unfold hostOps2
  after_results
  rw [show W3 m ρ c main_v8_3 = _ from (W3_arr m ρ c 8).trans (StepCall1.array8 (V2 m ρ) c)]
  rw [v3_at m ρ c, v4_at m ρ c, v7_at m ρ c]
  refine (back2 _).trans ?_
  exact congr (congrArg seconds (back2_turn2 (m ((c : Thread nD τ).loc main_arg27)))) (gradUp_eq (m ((c : Thread nD τ).loc main_arg6)) (m ((c : Thread nD τ).loc main_arg7)))

/-! ### The input projection -/

theorem v25_at : W12 m ρ c main_v25 = sum7 (m ((c : Thread nD τ).loc main_arg8)) (m ((c : Thread nD τ).loc main_arg9)) := by
  refine (W12_arr m ρ c 2).trans ((StepCall7.array2 (V11 m ρ) c).trans ?_)
  rw [show V11 m ρ c main_arg8 = _ from W11_args m ρ c main_arg8 (by decide), show V11 m ρ c main_arg9 = _ from W11_args m ρ c main_arg9 (by decide)]
theorem v27_at : V13 m ρ c main_v27 = broadcastInDim S1x644x1024 ![1, 2] bcast_S644x1024_S1x644x1024_1_2
      (transpose S644x1024 [1, 0] (sum7 (m ((c : Thread nD τ).loc main_arg8)) (m ((c : Thread nD τ).loc main_arg9))) transposes_S1024x644_S644x1024_1_0) := by
  show StableHlo.after hostOps8 (W12 m ρ c) main_v27 = _
  unfold hostOps8
  after_results
  rw [v25_at m ρ c]
theorem v28_at : V13 m ρ c main_v28 = fun i => (m ((c : Thread nD τ).loc main_arg28)) (ix3 (i 0) (i 2) (i 1)) := by
  show StableHlo.after hostOps8 (W12 m ρ c) main_v28 = _
  unfold hostOps8
  after_results
  rw [show W12 m ρ c main_arg28 = _ from W12_args m ρ c main_arg28 (by decide)]
  exact turn1 _
theorem v29_at : V13 m ρ c main_v29 = fun i => (m ((c : Thread nD τ).loc main_arg29)) (ix3 (i 0) (i 2) (i 1)) := by
  show StableHlo.after hostOps8 (W12 m ρ c) main_v29 = _
  unfold hostOps8
  after_results
  rw [show W12 m ρ c main_arg29 = _ from W12_args m ρ c main_arg29 (by decide)]
  exact turn1 _
theorem v30_at : V13 m ρ c main_v30 = fun i => (m ((c : Thread nD τ).loc main_arg30)) (ix3 (i 0) (i 2) (i 1)) := by
  show StableHlo.after hostOps8 (W12 m ρ c) main_v30 = _
  unfold hostOps8
  after_results
  rw [show W12 m ρ c main_arg30 = _ from W12_args m ρ c main_arg30 (by decide)]
  exact turn1 _
theorem v32 : W15 m ρ c main_v32 = gradIn (m ((c : Thread nD τ).loc main_arg8)) (m ((c : Thread nD τ).loc main_arg9)) := by
  show StableHlo.after hostOps9 (W14 m ρ c) main_v32 = _
  unfold hostOps9
  after_results
  rw [show W14 m ρ c main_v31_0 = _ from (W14_arr m ρ c 4).trans (StepCall8.array4 (V13 m ρ) c)]
  rw [v27_at m ρ c]
  refine (back1 _).trans ?_
  exact gradIn_eq (m ((c : Thread nD τ).loc main_arg8)) (m ((c : Thread nD τ).loc main_arg9))
theorem v33 : W15 m ρ c main_v33 = changes (gradIn (m ((c : Thread nD τ).loc main_arg8)) (m ((c : Thread nD τ).loc main_arg9))) (m ((c : Thread nD τ).loc main_arg28)) (m ((c : Thread nD τ).loc main_arg29)) (m ((c : Thread nD τ).loc main_arg30)) := by
  show StableHlo.after hostOps9 (W14 m ρ c) main_v33 = _
  unfold hostOps9
  after_results
  rw [show W14 m ρ c main_v31_1 = _ from (W14_arr m ρ c 5).trans (StepCall8.array5 (V13 m ρ) c)]
  rw [v27_at m ρ c, v28_at m ρ c, v29_at m ρ c, v30_at m ρ c]
  refine (back1 _).trans ?_
  exact changes_at (fun i => ix3 (i 0) (i 2) (i 1)) (gradIn_eq (m ((c : Thread nD τ).loc main_arg8)) (m ((c : Thread nD τ).loc main_arg9)))
    (back1_turn1 (m ((c : Thread nD τ).loc main_arg28)))
    (back1_turn1 (m ((c : Thread nD τ).loc main_arg29)))
    (back1_turn1 (m ((c : Thread nD τ).loc main_arg30)))
theorem v34 : W15 m ρ c main_v34 = firsts (m ((c : Thread nD τ).loc main_arg29)) (gradIn (m ((c : Thread nD τ).loc main_arg8)) (m ((c : Thread nD τ).loc main_arg9))) := by
  show StableHlo.after hostOps9 (W14 m ρ c) main_v34 = _
  unfold hostOps9
  after_results
  rw [show W14 m ρ c main_v31_2 = _ from (W14_arr m ρ c 6).trans (StepCall8.array6 (V13 m ρ) c)]
  rw [v27_at m ρ c, v29_at m ρ c]
  refine (back1 _).trans ?_
  exact congr (congrArg firsts (back1_turn1 (m ((c : Thread nD τ).loc main_arg29)))) (gradIn_eq (m ((c : Thread nD τ).loc main_arg8)) (m ((c : Thread nD τ).loc main_arg9)))
theorem v35 : W15 m ρ c main_v35 = seconds (m ((c : Thread nD τ).loc main_arg30)) (gradIn (m ((c : Thread nD τ).loc main_arg8)) (m ((c : Thread nD τ).loc main_arg9))) := by
  show StableHlo.after hostOps9 (W14 m ρ c) main_v35 = _
  unfold hostOps9
  after_results
  rw [show W14 m ρ c main_v31_3 = _ from (W14_arr m ρ c 7).trans (StepCall8.array7 (V13 m ρ) c)]
  rw [v27_at m ρ c, v30_at m ρ c]
  refine (back1 _).trans ?_
  exact congr (congrArg seconds (back1_turn1 (m ((c : Thread nD τ).loc main_arg30)))) (gradIn_eq (m ((c : Thread nD τ).loc main_arg8)) (m ((c : Thread nD τ).loc main_arg9)))

end Cert.StepFold

end
-- ==== Proof.Step.Ref.lean ====
/- The reference of the step, read at an index: each gradient is the sum of the devices' parts, and the two moments and the change of
   each weight are AdamW's from that gradient. -/
module

public import proofs.«01_k».proof.Proof.Gen.StepReferenceIdeal.Read
public import proofs.«01_k».proof.Proof.Step.Spec
public import Idealize.ShloMosaic.Lib.Pipeline.ValueKit.Point

@[expose] public section

noncomputable section

namespace Cert.StepRef

open Cert.StepReferenceIdeal Cert.StepReferenceIdeal.Gen Cert.StepReferenceIdeal.Read Idealize.ShloMosaic Idealize.ShloMosaic.TcCoe
open Idealize.SL.Sem Idealize.ShloMosaic.Pointwise Cert.AdamW

/-! ### The input projection -/

theorem in_sum_a (x8 : Vec Ideal S4x512x644 .bf16) (r : Fin 512) (l : Fin 644) :
    val_main_v1 (F := Ideal) x8 (ix2 r l : S512x644.Idx) = ∑ p : Fin 4, x8 (ix3 p r l) := by
  rw [val_main_v1_apply, val_main_cst_apply]
  show Ideal.ofBits .f32 0x00000000#32 + _ = _
  rw [Ideal.ofBits_zero_f32, zero_add]
  refine Finset.sum_congr rfl fun p _ => ?_
  rw [val_main_v0_apply]
  exact congrArg x8 (by funext a; fin_cases a <;> rfl)

theorem in_sum_b (x9 : Vec Ideal S4x512x644 .bf16) (r : Fin 512) (l : Fin 644) :
    val_main_v3 (F := Ideal) x9 (ix2 r l : S512x644.Idx) = ∑ p : Fin 4, x9 (ix3 p r l) := by
  rw [val_main_v3_apply, val_main_cst_0_apply]
  show Ideal.ofBits .f32 0x00000000#32 + _ = _
  rw [Ideal.ofBits_zero_f32, zero_add]
  refine Finset.sum_congr rfl fun p _ => ?_
  rw [val_main_v2_apply]
  exact congrArg x9 (by funext a; fin_cases a <;> rfl)

theorem in_grad_a (x8 x9 : Vec Ideal S4x512x644 .bf16) (r : Fin 1024) (l : Fin 644) (h : r.val < 512) :
    val_main_v5 (F := Ideal) x8 x9 (ix3 0 r l : S1x1024x644.Idx) = ∑ p : Fin 4, x8 (ix3 p ⟨r.val, h⟩ l) := by
  have hr := r.isLt
  have hl := l.isLt
  have hi : idx_main_v5 (ix3 0 r l : S1x1024x644.Idx) = (ix2 ⟨r.val, by have := r.isLt; omega⟩ l : S1024x644.Idx) := by
    funext a
    fin_cases a
    exacts [Fin.ext (show ((0 * 1024 + r.val) * 644 + l.val) / 644 = r.val by omega),
      Fin.ext (show ((0 * 1024 + r.val) * 644 + l.val) % 644 = l.val by omega)]
  rw [val_main_v5_apply, hi]
  unfold val_main_v4
  refine (concatenate_pair_apply_left (t := S1024x644) (s₁ := S512x644) (s₂ := S512x644) 0 _ _ concatenates_S512x644_S512x644_S1024x644_d0 _ rfl
    (ix2 ⟨r.val, h⟩ l : S512x644.Idx) (fun b => ?_)).trans (in_sum_a _ _ _)
  fin_cases b
  · show r.val = r.val
    omega
  · rfl

theorem in_grad_b (x8 x9 : Vec Ideal S4x512x644 .bf16) (r : Fin 1024) (l : Fin 644) (h : ¬ r.val < 512) :
    val_main_v5 (F := Ideal) x8 x9 (ix3 0 r l : S1x1024x644.Idx) = ∑ p : Fin 4, x9 (ix3 p ⟨r.val - 512, by have := r.isLt; omega⟩ l) := by
  have hr := r.isLt
  have hl := l.isLt
  have hi : idx_main_v5 (ix3 0 r l : S1x1024x644.Idx) = (ix2 ⟨r.val, by have := r.isLt; omega⟩ l : S1024x644.Idx) := by
    funext a
    fin_cases a
    exacts [Fin.ext (show ((0 * 1024 + r.val) * 644 + l.val) / 644 = r.val by omega),
      Fin.ext (show ((0 * 1024 + r.val) * 644 + l.val) % 644 = l.val by omega)]
  rw [val_main_v5_apply, hi]
  unfold val_main_v4
  refine (concatenate_pair_apply_right (t := S1024x644) (s₁ := S512x644) (s₂ := S512x644) 0 _ _ concatenates_S512x644_S512x644_S1024x644_d0 _ rfl rfl
    (ix2 ⟨r.val - 512, by have := r.isLt; omega⟩ l : S512x644.Idx) (fun b hb => ?_) ?_).trans (in_sum_b _ _ _)
  · fin_cases b
    · exact absurd rfl hb
    · rfl
  · show (r.val - 512) + 512 = r.val
    omega

theorem in_first (x8 x9 : Vec Ideal S4x512x644 .bf16) (x29 : Vec Ideal S1x1024x644 .f32) :
    val_main_v10 (F := Ideal) x8 x9 x29 = firsts x29 (val_main_v5 (F := Ideal) x8 x9) := by
  funext i
  unfold firsts first
  simp only [val_main_cst_1_apply, val_main_v6_apply, val_main_v7_apply, val_main_cst_2_apply, val_main_v8_apply, val_main_v9_apply, val_main_v10_apply, val_main_cst_3_apply]
  rfl
theorem in_second (x8 x9 : Vec Ideal S4x512x644 .bf16) (x30 : Vec Ideal S1x1024x644 .f32) :
    val_main_v16 (F := Ideal) x8 x9 x30 = seconds x30 (val_main_v5 (F := Ideal) x8 x9) := by
  funext i
  unfold seconds second
  simp only [val_main_cst_3_apply, val_main_v11_apply, val_main_v12_apply, val_main_v13_apply, val_main_cst_4_apply, val_main_v14_apply, val_main_v15_apply, val_main_v16_apply, val_main_cst_5_apply]
  rfl
theorem in_change (x8 x9 : Vec Ideal S4x512x644 .bf16) (x28 x29 x30 : Vec Ideal S1x1024x644 .f32) :
    val_main_v29 (F := Ideal) x8 x9 x28 x29 x30 = changes (val_main_v5 (F := Ideal) x8 x9) x28 x29 x30 := by
  funext i
  unfold changes change
  simp only [val_main_cst_5_apply, val_main_v17_apply, val_main_v18_apply, val_main_cst_6_apply, val_main_v19_apply, val_main_v20_apply, val_main_v21_apply, val_main_cst_7_apply, val_main_v22_apply, val_main_v23_apply, val_main_v24_apply, val_main_cst_8_apply, val_main_v25_apply, val_main_v26_apply, val_main_v27_apply, val_main_cst_9_apply, val_main_v28_apply, val_main_v29_apply, in_first, in_second]
  rfl

/-! ### The output projection of the first mixer -/

theorem out_sum (x0 : Vec Ideal S4x256x1024 .bf16) (r : Fin 256) (l : Fin 1024) :
    val_main_v31 (F := Ideal) x0 (ix2 r l : S256x1024.Idx) = ∑ p : Fin 4, x0 (ix3 p r l) := by
  rw [val_main_v31_apply, val_main_cst_10_apply]
  show Ideal.ofBits .f32 0x00000000#32 + _ = _
  rw [Ideal.ofBits_zero_f32, zero_add]
  refine Finset.sum_congr rfl fun p _ => ?_
  rw [val_main_v30_apply]
  exact congrArg x0 (by funext a; fin_cases a <;> rfl)

theorem out_grad (x0 : Vec Ideal S4x256x1024 .bf16) (r : Fin 256) (l : Fin 1024) :
    val_main_v32 (F := Ideal) x0 (ix3 0 r l : S1x256x1024.Idx) = ∑ p : Fin 4, x0 (ix3 p r l) := by
  have hr := r.isLt
  have hl := l.isLt
  have hi : idx_main_v32 (ix3 0 r l : S1x256x1024.Idx) = ix2 r l := by
    funext a
    fin_cases a
    exacts [Fin.ext (show ((0 * 256 + r.val) * 1024 + l.val) / 1024 = r.val by omega),
      Fin.ext (show ((0 * 256 + r.val) * 1024 + l.val) % 1024 = l.val by omega)]
  rw [val_main_v32_apply, hi, out_sum]

theorem out_first (x0 : Vec Ideal S4x256x1024 .bf16) (x11 : Vec Ideal S1x256x1024 .f32) :
    val_main_v37 (F := Ideal) x0 x11 = firsts x11 (val_main_v32 (F := Ideal) x0) := by
  funext i
  unfold firsts first
  simp only [val_main_cst_11_apply, val_main_v33_apply, val_main_v34_apply, val_main_cst_12_apply, val_main_v35_apply, val_main_v36_apply, val_main_v37_apply, val_main_cst_13_apply]
  rfl
theorem out_second (x0 : Vec Ideal S4x256x1024 .bf16) (x12 : Vec Ideal S1x256x1024 .f32) :
    val_main_v43 (F := Ideal) x0 x12 = seconds x12 (val_main_v32 (F := Ideal) x0) := by
  funext i
  unfold seconds second
  simp only [val_main_cst_13_apply, val_main_v38_apply, val_main_v39_apply, val_main_v40_apply, val_main_cst_14_apply, val_main_v41_apply, val_main_v42_apply, val_main_v43_apply, val_main_cst_15_apply]
  rfl
theorem out_change (x0 : Vec Ideal S4x256x1024 .bf16) (x10 x11 x12 : Vec Ideal S1x256x1024 .f32) :
    val_main_v56 (F := Ideal) x0 x10 x11 x12 = changes (val_main_v32 (F := Ideal) x0) x10 x11 x12 := by
  funext i
  unfold changes change
  simp only [val_main_cst_15_apply, val_main_v44_apply, val_main_v45_apply, val_main_cst_16_apply, val_main_v46_apply, val_main_v47_apply, val_main_v48_apply, val_main_cst_17_apply, val_main_v49_apply, val_main_v50_apply, val_main_v51_apply, val_main_cst_18_apply, val_main_v52_apply, val_main_v53_apply, val_main_v54_apply, val_main_cst_19_apply, val_main_v55_apply, val_main_v56_apply, out_first, out_second]
  rfl

/-! ### The key-value projection -/

theorem kv_grad (x1 : Vec Ideal S4x128x512 .bf16) (r : Fin 128) (l : Fin 512) :
    val_main_v58 (F := Ideal) x1 (ix2 r l : S128x512.Idx) = ∑ p : Fin 4, x1 (ix3 p r l) := by
  rw [val_main_v58_apply, val_main_cst_20_apply]
  show Ideal.ofBits .f32 0x00000000#32 + _ = _
  rw [Ideal.ofBits_zero_f32, zero_add]
  refine Finset.sum_congr rfl fun p _ => ?_
  rw [val_main_v57_apply]
  exact congrArg x1 (by funext a; fin_cases a <;> rfl)

theorem kv_first (x1 : Vec Ideal S4x128x512 .bf16) (x14 : Vec Ideal S128x512 .f32) :
    val_main_v63 (F := Ideal) x1 x14 = firsts x14 (val_main_v58 (F := Ideal) x1) := by
  funext i
  unfold firsts first
  simp only [val_main_cst_21_apply, val_main_v59_apply, val_main_v60_apply, val_main_cst_22_apply, val_main_v61_apply, val_main_v62_apply, val_main_v63_apply, val_main_cst_23_apply]
  rfl
theorem kv_second (x1 : Vec Ideal S4x128x512 .bf16) (x15 : Vec Ideal S128x512 .f32) :
    val_main_v69 (F := Ideal) x1 x15 = seconds x15 (val_main_v58 (F := Ideal) x1) := by
  funext i
  unfold seconds second
  simp only [val_main_cst_23_apply, val_main_v64_apply, val_main_v65_apply, val_main_v66_apply, val_main_cst_24_apply, val_main_v67_apply, val_main_v68_apply, val_main_v69_apply, val_main_cst_25_apply]
  rfl
theorem kv_change (x1 : Vec Ideal S4x128x512 .bf16) (x13 x14 x15 : Vec Ideal S128x512 .f32) :
    val_main_v82 (F := Ideal) x1 x13 x14 x15 = changes (val_main_v58 (F := Ideal) x1) x13 x14 x15 := by
  funext i
  unfold changes change
  simp only [val_main_cst_25_apply, val_main_v70_apply, val_main_v71_apply, val_main_cst_26_apply, val_main_v72_apply, val_main_v73_apply, val_main_v74_apply, val_main_cst_27_apply, val_main_v75_apply, val_main_v76_apply, val_main_v77_apply, val_main_cst_28_apply, val_main_v78_apply, val_main_v79_apply, val_main_v80_apply, val_main_cst_29_apply, val_main_v81_apply, val_main_v82_apply, kv_first, kv_second]
  rfl

/-! ### The query projection -/

theorem q_sum (x2 : Vec Ideal S4x128x1024 .bf16) (r : Fin 128) (l : Fin 1024) :
    val_main_v84 (F := Ideal) x2 (ix2 r l : S128x1024.Idx) = ∑ p : Fin 4, x2 (ix3 p r l) := by
  rw [val_main_v84_apply, val_main_cst_30_apply]
  show Ideal.ofBits .f32 0x00000000#32 + _ = _
  rw [Ideal.ofBits_zero_f32, zero_add]
  refine Finset.sum_congr rfl fun p _ => ?_
  rw [val_main_v83_apply]
  exact congrArg x2 (by funext a; fin_cases a <;> rfl)

theorem q_grad (x2 : Vec Ideal S4x128x1024 .bf16) (r : Fin 128) (l : Fin 1024) :
    val_main_v85 (F := Ideal) x2 (ix3 0 r l : S1x128x1024.Idx) = ∑ p : Fin 4, x2 (ix3 p r l) := by
  have hr := r.isLt
  have hl := l.isLt
  have hi : idx_main_v85 (ix3 0 r l : S1x128x1024.Idx) = ix2 r l := by
    funext a
    fin_cases a
    exacts [Fin.ext (show ((0 * 128 + r.val) * 1024 + l.val) / 1024 = r.val by omega),
      Fin.ext (show ((0 * 128 + r.val) * 1024 + l.val) % 1024 = l.val by omega)]
  rw [val_main_v85_apply, hi, q_sum]

theorem q_first (x2 : Vec Ideal S4x128x1024 .bf16) (x17 : Vec Ideal S1x128x1024 .f32) :
    val_main_v90 (F := Ideal) x2 x17 = firsts x17 (val_main_v85 (F := Ideal) x2) := by
  funext i
  unfold firsts first
  simp only [val_main_cst_31_apply, val_main_v86_apply, val_main_v87_apply, val_main_cst_32_apply, val_main_v88_apply, val_main_v89_apply, val_main_v90_apply, val_main_cst_33_apply]
  rfl
theorem q_second (x2 : Vec Ideal S4x128x1024 .bf16) (x18 : Vec Ideal S1x128x1024 .f32) :
    val_main_v96 (F := Ideal) x2 x18 = seconds x18 (val_main_v85 (F := Ideal) x2) := by
  funext i
  unfold seconds second
  simp only [val_main_cst_33_apply, val_main_v91_apply, val_main_v92_apply, val_main_v93_apply, val_main_cst_34_apply, val_main_v94_apply, val_main_v95_apply, val_main_v96_apply, val_main_cst_35_apply]
  rfl
theorem q_change (x2 : Vec Ideal S4x128x1024 .bf16) (x16 x17 x18 : Vec Ideal S1x128x1024 .f32) :
    val_main_v109 (F := Ideal) x2 x16 x17 x18 = changes (val_main_v85 (F := Ideal) x2) x16 x17 x18 := by
  funext i
  unfold changes change
  simp only [val_main_cst_35_apply, val_main_v97_apply, val_main_v98_apply, val_main_cst_36_apply, val_main_v99_apply, val_main_v100_apply, val_main_v101_apply, val_main_cst_37_apply, val_main_v102_apply, val_main_v103_apply, val_main_v104_apply, val_main_cst_38_apply, val_main_v105_apply, val_main_v106_apply, val_main_v107_apply, val_main_cst_39_apply, val_main_v108_apply, val_main_v109_apply, q_first, q_second]
  rfl

/-! ### The output projection of the second mixer -/

theorem o_sum (x3 : Vec Ideal S4x128x1024 .bf16) (r : Fin 128) (l : Fin 1024) :
    val_main_v111 (F := Ideal) x3 (ix2 r l : S128x1024.Idx) = ∑ p : Fin 4, x3 (ix3 p r l) := by
  rw [val_main_v111_apply, val_main_cst_40_apply]
  show Ideal.ofBits .f32 0x00000000#32 + _ = _
  rw [Ideal.ofBits_zero_f32, zero_add]
  refine Finset.sum_congr rfl fun p _ => ?_
  rw [val_main_v110_apply]
  exact congrArg x3 (by funext a; fin_cases a <;> rfl)

theorem o_grad (x3 : Vec Ideal S4x128x1024 .bf16) (r : Fin 128) (l : Fin 1024) :
    val_main_v112 (F := Ideal) x3 (ix3 0 r l : S1x128x1024.Idx) = ∑ p : Fin 4, x3 (ix3 p r l) := by
  have hr := r.isLt
  have hl := l.isLt
  have hi : idx_main_v112 (ix3 0 r l : S1x128x1024.Idx) = ix2 r l := by
    funext a
    fin_cases a
    exacts [Fin.ext (show ((0 * 128 + r.val) * 1024 + l.val) / 1024 = r.val by omega),
      Fin.ext (show ((0 * 128 + r.val) * 1024 + l.val) % 1024 = l.val by omega)]
  rw [val_main_v112_apply, hi, o_sum]

theorem o_first (x3 : Vec Ideal S4x128x1024 .bf16) (x20 : Vec Ideal S1x128x1024 .f32) :
    val_main_v117 (F := Ideal) x3 x20 = firsts x20 (val_main_v112 (F := Ideal) x3) := by
  funext i
  unfold firsts first
  simp only [val_main_cst_41_apply, val_main_v113_apply, val_main_v114_apply, val_main_cst_42_apply, val_main_v115_apply, val_main_v116_apply, val_main_v117_apply, val_main_cst_43_apply]
  rfl
theorem o_second (x3 : Vec Ideal S4x128x1024 .bf16) (x21 : Vec Ideal S1x128x1024 .f32) :
    val_main_v123 (F := Ideal) x3 x21 = seconds x21 (val_main_v112 (F := Ideal) x3) := by
  funext i
  unfold seconds second
  simp only [val_main_cst_43_apply, val_main_v118_apply, val_main_v119_apply, val_main_v120_apply, val_main_cst_44_apply, val_main_v121_apply, val_main_v122_apply, val_main_v123_apply, val_main_cst_45_apply]
  rfl
theorem o_change (x3 : Vec Ideal S4x128x1024 .bf16) (x19 x20 x21 : Vec Ideal S1x128x1024 .f32) :
    val_main_v136 (F := Ideal) x3 x19 x20 x21 = changes (val_main_v112 (F := Ideal) x3) x19 x20 x21 := by
  funext i
  unfold changes change
  simp only [val_main_cst_45_apply, val_main_v124_apply, val_main_v125_apply, val_main_cst_46_apply, val_main_v126_apply, val_main_v127_apply, val_main_v128_apply, val_main_cst_47_apply, val_main_v129_apply, val_main_v130_apply, val_main_v131_apply, val_main_cst_48_apply, val_main_v132_apply, val_main_v133_apply, val_main_v134_apply, val_main_cst_49_apply, val_main_v135_apply, val_main_v136_apply, o_first, o_second]
  rfl

/-! ### The feed-forward's first product -/

theorem up_sum_a (x6 : Vec Ideal S4x1024x704 .bf16) (r : Fin 1024) (l : Fin 704) :
    val_main_v138 (F := Ideal) x6 (ix2 r l : S1024x704.Idx) = ∑ p : Fin 4, x6 (ix3 p r l) := by
  rw [val_main_v138_apply, val_main_cst_50_apply]
  show Ideal.ofBits .f32 0x00000000#32 + _ = _
  rw [Ideal.ofBits_zero_f32, zero_add]
  refine Finset.sum_congr rfl fun p _ => ?_
  rw [val_main_v137_apply]
  exact congrArg x6 (by funext a; fin_cases a <;> rfl)

theorem up_sum_b (x7 : Vec Ideal S4x1024x704 .bf16) (r : Fin 1024) (l : Fin 704) :
    val_main_v140 (F := Ideal) x7 (ix2 r l : S1024x704.Idx) = ∑ p : Fin 4, x7 (ix3 p r l) := by
  rw [val_main_v140_apply, val_main_cst_51_apply]
  show Ideal.ofBits .f32 0x00000000#32 + _ = _
  rw [Ideal.ofBits_zero_f32, zero_add]
  refine Finset.sum_congr rfl fun p _ => ?_
  rw [val_main_v139_apply]
  exact congrArg x7 (by funext a; fin_cases a <;> rfl)

theorem up_grad_a (x6 x7 : Vec Ideal S4x1024x704 .bf16) (r : Fin 1024) (l : Fin 704) :
    val_main_v142 (F := Ideal) x6 x7 (ix3 0 r l : S2x1024x704.Idx) = ∑ p : Fin 4, x6 (ix3 p r l) := by
  have hr := r.isLt
  have hl := l.isLt
  have hi : idx_main_v142 (ix3 0 r l : S2x1024x704.Idx) = (ix2 ⟨(0 * 1024 + r.val), by have := r.isLt; omega⟩ l : S2048x704.Idx) := by
    funext a
    fin_cases a
    exacts [Fin.ext (show ((0 * 1024 + r.val) * 704 + l.val) / 704 = (0 * 1024 + r.val) by omega),
      Fin.ext (show ((0 * 1024 + r.val) * 704 + l.val) % 704 = l.val by omega)]
  rw [val_main_v142_apply, hi]
  unfold val_main_v141
  refine (concatenate_pair_apply_left (t := S2048x704) (s₁ := S1024x704) (s₂ := S1024x704) 0 _ _ concatenates_S1024x704_S1024x704_S2048x704_d0 _ rfl
    (ix2 r l : S1024x704.Idx) (fun b => ?_)).trans (up_sum_a _ _ _)
  fin_cases b
  · show r.val = (0 * 1024 + r.val)
    omega
  · rfl

theorem up_grad_b (x6 x7 : Vec Ideal S4x1024x704 .bf16) (r : Fin 1024) (l : Fin 704) :
    val_main_v142 (F := Ideal) x6 x7 (ix3 1 r l : S2x1024x704.Idx) = ∑ p : Fin 4, x7 (ix3 p r l) := by
  have hr := r.isLt
  have hl := l.isLt
  have hi : idx_main_v142 (ix3 1 r l : S2x1024x704.Idx) = (ix2 ⟨(1 * 1024 + r.val), by have := r.isLt; omega⟩ l : S2048x704.Idx) := by
    funext a
    fin_cases a
    exacts [Fin.ext (show ((1 * 1024 + r.val) * 704 + l.val) / 704 = (1 * 1024 + r.val) by omega),
      Fin.ext (show ((1 * 1024 + r.val) * 704 + l.val) % 704 = l.val by omega)]
  rw [val_main_v142_apply, hi]
  unfold val_main_v141
  refine (concatenate_pair_apply_right (t := S2048x704) (s₁ := S1024x704) (s₂ := S1024x704) 0 _ _ concatenates_S1024x704_S1024x704_S2048x704_d0 _ rfl rfl
    (ix2 r l : S1024x704.Idx) (fun b hb => ?_) ?_).trans (up_sum_b _ _ _)
  · fin_cases b
    · exact absurd rfl hb
    · rfl
  · show r.val + 1024 = (1 * 1024 + r.val)
    omega

theorem up_first (x6 x7 : Vec Ideal S4x1024x704 .bf16) (x26 : Vec Ideal S2x1024x704 .f32) :
    val_main_v147 (F := Ideal) x6 x7 x26 = firsts x26 (val_main_v142 (F := Ideal) x6 x7) := by
  funext i
  unfold firsts first
  simp only [val_main_cst_52_apply, val_main_v143_apply, val_main_v144_apply, val_main_cst_53_apply, val_main_v145_apply, val_main_v146_apply, val_main_v147_apply, val_main_cst_54_apply]
  rfl
theorem up_second (x6 x7 : Vec Ideal S4x1024x704 .bf16) (x27 : Vec Ideal S2x1024x704 .f32) :
    val_main_v153 (F := Ideal) x6 x7 x27 = seconds x27 (val_main_v142 (F := Ideal) x6 x7) := by
  funext i
  unfold seconds second
  simp only [val_main_cst_54_apply, val_main_v148_apply, val_main_v149_apply, val_main_v150_apply, val_main_cst_55_apply, val_main_v151_apply, val_main_v152_apply, val_main_v153_apply, val_main_cst_56_apply]
  rfl
theorem up_change (x6 x7 : Vec Ideal S4x1024x704 .bf16) (x25 x26 x27 : Vec Ideal S2x1024x704 .f32) :
    val_main_v166 (F := Ideal) x6 x7 x25 x26 x27 = changes (val_main_v142 (F := Ideal) x6 x7) x25 x26 x27 := by
  funext i
  unfold changes change
  simp only [val_main_cst_56_apply, val_main_v154_apply, val_main_v155_apply, val_main_cst_57_apply, val_main_v156_apply, val_main_v157_apply, val_main_v158_apply, val_main_cst_58_apply, val_main_v159_apply, val_main_v160_apply, val_main_v161_apply, val_main_cst_59_apply, val_main_v162_apply, val_main_v163_apply, val_main_v164_apply, val_main_cst_60_apply, val_main_v165_apply, val_main_v166_apply, up_first, up_second]
  rfl

/-! ### The feed-forward's second product -/

theorem dn_sum_a (x4 : Vec Ideal S4x352x1024 .bf16) (r : Fin 352) (l : Fin 1024) :
    val_main_v168 (F := Ideal) x4 (ix2 r l : S352x1024.Idx) = ∑ p : Fin 4, x4 (ix3 p r l) := by
  rw [val_main_v168_apply, val_main_cst_61_apply]
  show Ideal.ofBits .f32 0x00000000#32 + _ = _
  rw [Ideal.ofBits_zero_f32, zero_add]
  refine Finset.sum_congr rfl fun p _ => ?_
  rw [val_main_v167_apply]
  exact congrArg x4 (by funext a; fin_cases a <;> rfl)

theorem dn_sum_b (x5 : Vec Ideal S4x352x1024 .bf16) (r : Fin 352) (l : Fin 1024) :
    val_main_v170 (F := Ideal) x5 (ix2 r l : S352x1024.Idx) = ∑ p : Fin 4, x5 (ix3 p r l) := by
  rw [val_main_v170_apply, val_main_cst_62_apply]
  show Ideal.ofBits .f32 0x00000000#32 + _ = _
  rw [Ideal.ofBits_zero_f32, zero_add]
  refine Finset.sum_congr rfl fun p _ => ?_
  rw [val_main_v169_apply]
  exact congrArg x5 (by funext a; fin_cases a <;> rfl)

theorem dn_grad_a (x4 x5 : Vec Ideal S4x352x1024 .bf16) (r : Fin 352) (l : Fin 1024) :
    val_main_v172 (F := Ideal) x4 x5 (ix3 0 r l : S2x352x1024.Idx) = ∑ p : Fin 4, x4 (ix3 p r l) := by
  have hr := r.isLt
  have hl := l.isLt
  have hi : idx_main_v172 (ix3 0 r l : S2x352x1024.Idx) = (ix2 ⟨(0 * 352 + r.val), by have := r.isLt; omega⟩ l : S704x1024.Idx) := by
    funext a
    fin_cases a
    exacts [Fin.ext (show ((0 * 352 + r.val) * 1024 + l.val) / 1024 = (0 * 352 + r.val) by omega),
      Fin.ext (show ((0 * 352 + r.val) * 1024 + l.val) % 1024 = l.val by omega)]
  rw [val_main_v172_apply, hi]
  unfold val_main_v171
  refine (concatenate_pair_apply_left (t := S704x1024) (s₁ := S352x1024) (s₂ := S352x1024) 0 _ _ concatenates_S352x1024_S352x1024_S704x1024_d0 _ rfl
    (ix2 r l : S352x1024.Idx) (fun b => ?_)).trans (dn_sum_a _ _ _)
  fin_cases b
  · show r.val = (0 * 352 + r.val)
    omega
  · rfl

theorem dn_grad_b (x4 x5 : Vec Ideal S4x352x1024 .bf16) (r : Fin 352) (l : Fin 1024) :
    val_main_v172 (F := Ideal) x4 x5 (ix3 1 r l : S2x352x1024.Idx) = ∑ p : Fin 4, x5 (ix3 p r l) := by
  have hr := r.isLt
  have hl := l.isLt
  have hi : idx_main_v172 (ix3 1 r l : S2x352x1024.Idx) = (ix2 ⟨(1 * 352 + r.val), by have := r.isLt; omega⟩ l : S704x1024.Idx) := by
    funext a
    fin_cases a
    exacts [Fin.ext (show ((1 * 352 + r.val) * 1024 + l.val) / 1024 = (1 * 352 + r.val) by omega),
      Fin.ext (show ((1 * 352 + r.val) * 1024 + l.val) % 1024 = l.val by omega)]
  rw [val_main_v172_apply, hi]
  unfold val_main_v171
  refine (concatenate_pair_apply_right (t := S704x1024) (s₁ := S352x1024) (s₂ := S352x1024) 0 _ _ concatenates_S352x1024_S352x1024_S704x1024_d0 _ rfl rfl
    (ix2 r l : S352x1024.Idx) (fun b hb => ?_) ?_).trans (dn_sum_b _ _ _)
  · fin_cases b
    · exact absurd rfl hb
    · rfl
  · show r.val + 352 = (1 * 352 + r.val)
    omega

theorem dn_first (x4 x5 : Vec Ideal S4x352x1024 .bf16) (x23 : Vec Ideal S2x352x1024 .f32) :
    val_main_v177 (F := Ideal) x4 x5 x23 = firsts x23 (val_main_v172 (F := Ideal) x4 x5) := by
  funext i
  unfold firsts first
  simp only [val_main_cst_63_apply, val_main_v173_apply, val_main_v174_apply, val_main_cst_64_apply, val_main_v175_apply, val_main_v176_apply, val_main_v177_apply, val_main_cst_65_apply]
  rfl
theorem dn_second (x4 x5 : Vec Ideal S4x352x1024 .bf16) (x24 : Vec Ideal S2x352x1024 .f32) :
    val_main_v183 (F := Ideal) x4 x5 x24 = seconds x24 (val_main_v172 (F := Ideal) x4 x5) := by
  funext i
  unfold seconds second
  simp only [val_main_cst_65_apply, val_main_v178_apply, val_main_v179_apply, val_main_v180_apply, val_main_cst_66_apply, val_main_v181_apply, val_main_v182_apply, val_main_v183_apply, val_main_cst_67_apply]
  rfl
theorem dn_change (x4 x5 : Vec Ideal S4x352x1024 .bf16) (x22 x23 x24 : Vec Ideal S2x352x1024 .f32) :
    val_main_v196 (F := Ideal) x4 x5 x22 x23 x24 = changes (val_main_v172 (F := Ideal) x4 x5) x22 x23 x24 := by
  funext i
  unfold changes change
  simp only [val_main_cst_67_apply, val_main_v184_apply, val_main_v185_apply, val_main_cst_68_apply, val_main_v186_apply, val_main_v187_apply, val_main_v188_apply, val_main_cst_69_apply, val_main_v189_apply, val_main_v190_apply, val_main_v191_apply, val_main_cst_70_apply, val_main_v192_apply, val_main_v193_apply, val_main_v194_apply, val_main_cst_71_apply, val_main_v195_apply, val_main_v196_apply, dn_first, dn_second]
  rfl

end Cert.StepRef

end
-- ==== Proof.Step.Equation.lean ====
/- The twenty-eight results of the step's reference are the ones of its nine calls. -/
module

public import proofs.«01_k».proof.Proof.Step.Fold
public import proofs.«01_k».proof.Proof.Step.Ref

@[expose] public section

noncomputable section

namespace Cert.StepEquation

open Cert.StepKernelIdeal Idealize.ShloMosaic Idealize.ShloMosaic.TcCoe Idealize.SL.Sem Idealize.ShloMosaic.Pointwise
open Cert.AdamW Cert.StepFold Cert.StepReferenceIdeal.Read
open Cert.StepCall2 (grad2)
open Cert.StepCall4 (grad4)
open Cert.StepCall5 (grad5)
open Cert.StepCall6 (grad6)

theorem in_g (x8 x9 : Vec Ideal S4x512x644 .bf16) : val_main_v5 (F := Ideal) x8 x9 = gradIn x8 x9 := by
  funext i
  obtain ⟨r, l, rfl⟩ : ∃ (r : Fin 1024) (l : Fin 644), i = ix3 0 r l :=
    ⟨i 1, i 2, by funext a; fin_cases a; exacts [Subsingleton.elim (α := Fin 1) _ _, rfl, rfl]⟩
  by_cases h : r.val < 512
  · exact (StepRef.in_grad_a x8 x9 r l h).trans (Eq.symm (by unfold gradIn; exact dif_pos h))
  · exact (StepRef.in_grad_b x8 x9 r l h).trans (Eq.symm (by unfold gradIn; exact dif_neg h))
theorem in_d (x8 x9 : Vec Ideal S4x512x644 .bf16) (x28 x29 x30 : Vec Ideal S1x1024x644 .f32) :
    val_main_v29 (F := Ideal) x8 x9 x28 x29 x30 = changes (gradIn x8 x9) x28 x29 x30 := by rw [StepRef.in_change, in_g]
theorem in_m (x8 x9 : Vec Ideal S4x512x644 .bf16) (x29 : Vec Ideal S1x1024x644 .f32) : val_main_v10 (F := Ideal) x8 x9 x29 = firsts x29 (gradIn x8 x9) := by
  rw [StepRef.in_first, in_g]
theorem in_v (x8 x9 : Vec Ideal S4x512x644 .bf16) (x30 : Vec Ideal S1x1024x644 .f32) : val_main_v16 (F := Ideal) x8 x9 x30 = seconds x30 (gradIn x8 x9) := by
  rw [StepRef.in_second, in_g]

theorem out_g (x0 : Vec Ideal S4x256x1024 .bf16) : val_main_v32 (F := Ideal) x0 = grad2 x0 := by
  funext i
  obtain ⟨r, l, rfl⟩ : ∃ (r : Fin 256) (l : Fin 1024), i = ix3 0 r l :=
    ⟨i 1, i 2, by funext a; fin_cases a; exacts [Subsingleton.elim (α := Fin 1) _ _, rfl, rfl]⟩
  exact StepRef.out_grad x0 r l
theorem out_d (x0 : Vec Ideal S4x256x1024 .bf16) (x10 x11 x12 : Vec Ideal S1x256x1024 .f32) :
    val_main_v56 (F := Ideal) x0 x10 x11 x12 = changes (grad2 x0) x10 x11 x12 := by rw [StepRef.out_change, out_g]
theorem out_m (x0 : Vec Ideal S4x256x1024 .bf16) (x11 : Vec Ideal S1x256x1024 .f32) : val_main_v37 (F := Ideal) x0 x11 = firsts x11 (grad2 x0) := by
  rw [StepRef.out_first, out_g]
theorem out_v (x0 : Vec Ideal S4x256x1024 .bf16) (x12 : Vec Ideal S1x256x1024 .f32) : val_main_v43 (F := Ideal) x0 x12 = seconds x12 (grad2 x0) := by
  rw [StepRef.out_second, out_g]

theorem kv_g (x1 : Vec Ideal S4x128x512 .bf16) : val_main_v58 (F := Ideal) x1 = gradKv x1 := by
  funext i
  obtain ⟨r, l, rfl⟩ : ∃ (r : Fin 128) (l : Fin 512), i = ix2 r l := ⟨i 0, i 1, by funext a; fin_cases a <;> rfl⟩
  exact StepRef.kv_grad x1 r l
theorem kv_d (x1 : Vec Ideal S4x128x512 .bf16) (x13 x14 x15 : Vec Ideal S128x512 .f32) :
    val_main_v82 (F := Ideal) x1 x13 x14 x15 = changes (gradKv x1) x13 x14 x15 := by rw [StepRef.kv_change, kv_g]
theorem kv_m (x1 : Vec Ideal S4x128x512 .bf16) (x14 : Vec Ideal S128x512 .f32) : val_main_v63 (F := Ideal) x1 x14 = firsts x14 (gradKv x1) := by
  rw [StepRef.kv_first, kv_g]
theorem kv_v (x1 : Vec Ideal S4x128x512 .bf16) (x15 : Vec Ideal S128x512 .f32) : val_main_v69 (F := Ideal) x1 x15 = seconds x15 (gradKv x1) := by
  rw [StepRef.kv_second, kv_g]

theorem q_g (x2 : Vec Ideal S4x128x1024 .bf16) : val_main_v85 (F := Ideal) x2 = grad4 x2 := by
  funext i
  obtain ⟨r, l, rfl⟩ : ∃ (r : Fin 128) (l : Fin 1024), i = ix3 0 r l :=
    ⟨i 1, i 2, by funext a; fin_cases a; exacts [Subsingleton.elim (α := Fin 1) _ _, rfl, rfl]⟩
  exact StepRef.q_grad x2 r l
theorem q_d (x2 : Vec Ideal S4x128x1024 .bf16) (x16 x17 x18 : Vec Ideal S1x128x1024 .f32) :
    val_main_v109 (F := Ideal) x2 x16 x17 x18 = changes (grad4 x2) x16 x17 x18 := by rw [StepRef.q_change, q_g]
theorem q_m (x2 : Vec Ideal S4x128x1024 .bf16) (x17 : Vec Ideal S1x128x1024 .f32) : val_main_v90 (F := Ideal) x2 x17 = firsts x17 (grad4 x2) := by
  rw [StepRef.q_first, q_g]
theorem q_v (x2 : Vec Ideal S4x128x1024 .bf16) (x18 : Vec Ideal S1x128x1024 .f32) : val_main_v96 (F := Ideal) x2 x18 = seconds x18 (grad4 x2) := by
  rw [StepRef.q_second, q_g]

theorem o_g (x3 : Vec Ideal S4x128x1024 .bf16) : val_main_v112 (F := Ideal) x3 = grad5 x3 := by
  funext i
  obtain ⟨r, l, rfl⟩ : ∃ (r : Fin 128) (l : Fin 1024), i = ix3 0 r l :=
    ⟨i 1, i 2, by funext a; fin_cases a; exacts [Subsingleton.elim (α := Fin 1) _ _, rfl, rfl]⟩
  exact StepRef.o_grad x3 r l
theorem o_d (x3 : Vec Ideal S4x128x1024 .bf16) (x19 x20 x21 : Vec Ideal S1x128x1024 .f32) :
    val_main_v136 (F := Ideal) x3 x19 x20 x21 = changes (grad5 x3) x19 x20 x21 := by rw [StepRef.o_change, o_g]
theorem o_m (x3 : Vec Ideal S4x128x1024 .bf16) (x20 : Vec Ideal S1x128x1024 .f32) : val_main_v117 (F := Ideal) x3 x20 = firsts x20 (grad5 x3) := by
  rw [StepRef.o_first, o_g]
theorem o_v (x3 : Vec Ideal S4x128x1024 .bf16) (x21 : Vec Ideal S1x128x1024 .f32) : val_main_v123 (F := Ideal) x3 x21 = seconds x21 (grad5 x3) := by
  rw [StepRef.o_second, o_g]

theorem up_g (x6 x7 : Vec Ideal S4x1024x704 .bf16) : val_main_v142 (F := Ideal) x6 x7 = gradUp x6 x7 := by
  funext i
  obtain ⟨k, r, l, rfl⟩ : ∃ (k : Fin 2) (r : Fin 1024) (l : Fin 704), i = ix3 k r l := ⟨i 0, i 1, i 2, by funext a; fin_cases a <;> rfl⟩
  fin_cases k
  · exact (StepRef.up_grad_a x6 x7 r l).trans (if_pos rfl).symm
  · exact (StepRef.up_grad_b x6 x7 r l).trans (if_neg (by decide : ¬ (1 : Nat) = 0)).symm
theorem up_d (x6 x7 : Vec Ideal S4x1024x704 .bf16) (x25 x26 x27 : Vec Ideal S2x1024x704 .f32) :
    val_main_v166 (F := Ideal) x6 x7 x25 x26 x27 = changes (gradUp x6 x7) x25 x26 x27 := by rw [StepRef.up_change, up_g]
theorem up_m (x6 x7 : Vec Ideal S4x1024x704 .bf16) (x26 : Vec Ideal S2x1024x704 .f32) : val_main_v147 (F := Ideal) x6 x7 x26 = firsts x26 (gradUp x6 x7) := by
  rw [StepRef.up_first, up_g]
theorem up_v (x6 x7 : Vec Ideal S4x1024x704 .bf16) (x27 : Vec Ideal S2x1024x704 .f32) : val_main_v153 (F := Ideal) x6 x7 x27 = seconds x27 (gradUp x6 x7) := by
  rw [StepRef.up_second, up_g]

theorem dn_g (x4 x5 : Vec Ideal S4x352x1024 .bf16) : val_main_v172 (F := Ideal) x4 x5 = grad6 x4 x5 := by
  funext i
  obtain ⟨k, r, l, rfl⟩ : ∃ (k : Fin 2) (r : Fin 352) (l : Fin 1024), i = ix3 k r l := ⟨i 0, i 1, i 2, by funext a; fin_cases a <;> rfl⟩
  fin_cases k
  · exact (StepRef.dn_grad_a x4 x5 r l).trans (if_pos rfl).symm
  · exact (StepRef.dn_grad_b x4 x5 r l).trans (if_neg (by decide : ¬ (1 : Nat) = 0)).symm
theorem dn_d (x4 x5 : Vec Ideal S4x352x1024 .bf16) (x22 x23 x24 : Vec Ideal S2x352x1024 .f32) :
    val_main_v196 (F := Ideal) x4 x5 x22 x23 x24 = changes (grad6 x4 x5) x22 x23 x24 := by rw [StepRef.dn_change, dn_g]
theorem dn_m (x4 x5 : Vec Ideal S4x352x1024 .bf16) (x23 : Vec Ideal S2x352x1024 .f32) : val_main_v177 (F := Ideal) x4 x5 x23 = firsts x23 (grad6 x4 x5) := by
  rw [StepRef.dn_first, dn_g]
theorem dn_v (x4 x5 : Vec Ideal S4x352x1024 .bf16) (x24 : Vec Ideal S2x352x1024 .f32) : val_main_v183 (F := Ideal) x4 x5 x24 = seconds x24 (grad6 x4 x5) := by
  rw [StepRef.dn_second, dn_g]

end Cert.StepEquation

end
-- ==== Proof.Step.Claim.lean ====
/- The step of the large weights: its nine calls and the reference end with equal results, and the reference leaves its arguments. -/
module

public import proofs.«01_k».proof.Defs
public import proofs.«01_k».proof.Proof.Gen.StepReferenceIdeal
public import proofs.«01_k».proof.Proof.Gen.StepReferenceIdeal.Run
public import proofs.«01_k».proof.Proof.Gen.StepReferenceIdeal.Read
public import proofs.«01_k».proof.Proof.Step.Equation
public import Idealize.ShloMosaic.Adequacy
public import Idealize.ShloMosaic.Init

@[expose] public section

set_option maxHeartbeats 4000000

noncomputable section

namespace Cert.Proof

open Idealize.ShloMosaic Idealize.SL.Sem Cert.Kernel

/-- AdamW's nine calls and the reference end with equal results. -/
theorem step_equal : Cert.algebraic_StepKernelIdeal_StepReferenceIdeal := by
  intro m g m' g' _ hargs
  refine ⟨fun c => Cert.StepFold.gradIn (m ((c.tc : Thread _ _).loc Cert.StepKernelIdeal.main_arg8)) (m ((c.tc : Thread _ _).loc Cert.StepKernelIdeal.main_arg9)),
    fun c => Cert.AdamW.changes (Cert.StepFold.gradIn (m ((c.tc : Thread _ _).loc Cert.StepKernelIdeal.main_arg8)) (m ((c.tc : Thread _ _).loc Cert.StepKernelIdeal.main_arg9))) (m ((c.tc : Thread _ _).loc Cert.StepKernelIdeal.main_arg28)) (m ((c.tc : Thread _ _).loc Cert.StepKernelIdeal.main_arg29)) (m ((c.tc : Thread _ _).loc Cert.StepKernelIdeal.main_arg30)),
    fun c => Cert.AdamW.firsts (m ((c.tc : Thread _ _).loc Cert.StepKernelIdeal.main_arg29)) (Cert.StepFold.gradIn (m ((c.tc : Thread _ _).loc Cert.StepKernelIdeal.main_arg8)) (m ((c.tc : Thread _ _).loc Cert.StepKernelIdeal.main_arg9))),
    fun c => Cert.AdamW.seconds (m ((c.tc : Thread _ _).loc Cert.StepKernelIdeal.main_arg30)) (Cert.StepFold.gradIn (m ((c.tc : Thread _ _).loc Cert.StepKernelIdeal.main_arg8)) (m ((c.tc : Thread _ _).loc Cert.StepKernelIdeal.main_arg9))),
    fun c => Cert.StepCall2.grad2 (m ((c.tc : Thread _ _).loc Cert.StepKernelIdeal.main_arg0)),
    fun c => Cert.AdamW.changes (Cert.StepCall2.grad2 (m ((c.tc : Thread _ _).loc Cert.StepKernelIdeal.main_arg0))) (m ((c.tc : Thread _ _).loc Cert.StepKernelIdeal.main_arg10)) (m ((c.tc : Thread _ _).loc Cert.StepKernelIdeal.main_arg11)) (m ((c.tc : Thread _ _).loc Cert.StepKernelIdeal.main_arg12)),
    fun c => Cert.AdamW.firsts (m ((c.tc : Thread _ _).loc Cert.StepKernelIdeal.main_arg11)) (Cert.StepCall2.grad2 (m ((c.tc : Thread _ _).loc Cert.StepKernelIdeal.main_arg0))),
    fun c => Cert.AdamW.seconds (m ((c.tc : Thread _ _).loc Cert.StepKernelIdeal.main_arg12)) (Cert.StepCall2.grad2 (m ((c.tc : Thread _ _).loc Cert.StepKernelIdeal.main_arg0))),
    fun c => Cert.StepFold.gradKv (m ((c.tc : Thread _ _).loc Cert.StepKernelIdeal.main_arg1)),
    fun c => Cert.AdamW.changes (Cert.StepFold.gradKv (m ((c.tc : Thread _ _).loc Cert.StepKernelIdeal.main_arg1))) (m ((c.tc : Thread _ _).loc Cert.StepKernelIdeal.main_arg13)) (m ((c.tc : Thread _ _).loc Cert.StepKernelIdeal.main_arg14)) (m ((c.tc : Thread _ _).loc Cert.StepKernelIdeal.main_arg15)),
    fun c => Cert.AdamW.firsts (m ((c.tc : Thread _ _).loc Cert.StepKernelIdeal.main_arg14)) (Cert.StepFold.gradKv (m ((c.tc : Thread _ _).loc Cert.StepKernelIdeal.main_arg1))),
    fun c => Cert.AdamW.seconds (m ((c.tc : Thread _ _).loc Cert.StepKernelIdeal.main_arg15)) (Cert.StepFold.gradKv (m ((c.tc : Thread _ _).loc Cert.StepKernelIdeal.main_arg1))),
    fun c => Cert.StepCall4.grad4 (m ((c.tc : Thread _ _).loc Cert.StepKernelIdeal.main_arg2)),
    fun c => Cert.AdamW.changes (Cert.StepCall4.grad4 (m ((c.tc : Thread _ _).loc Cert.StepKernelIdeal.main_arg2))) (m ((c.tc : Thread _ _).loc Cert.StepKernelIdeal.main_arg16)) (m ((c.tc : Thread _ _).loc Cert.StepKernelIdeal.main_arg17)) (m ((c.tc : Thread _ _).loc Cert.StepKernelIdeal.main_arg18)),
    fun c => Cert.AdamW.firsts (m ((c.tc : Thread _ _).loc Cert.StepKernelIdeal.main_arg17)) (Cert.StepCall4.grad4 (m ((c.tc : Thread _ _).loc Cert.StepKernelIdeal.main_arg2))),
    fun c => Cert.AdamW.seconds (m ((c.tc : Thread _ _).loc Cert.StepKernelIdeal.main_arg18)) (Cert.StepCall4.grad4 (m ((c.tc : Thread _ _).loc Cert.StepKernelIdeal.main_arg2))),
    fun c => Cert.StepCall5.grad5 (m ((c.tc : Thread _ _).loc Cert.StepKernelIdeal.main_arg3)),
    fun c => Cert.AdamW.changes (Cert.StepCall5.grad5 (m ((c.tc : Thread _ _).loc Cert.StepKernelIdeal.main_arg3))) (m ((c.tc : Thread _ _).loc Cert.StepKernelIdeal.main_arg19)) (m ((c.tc : Thread _ _).loc Cert.StepKernelIdeal.main_arg20)) (m ((c.tc : Thread _ _).loc Cert.StepKernelIdeal.main_arg21)),
    fun c => Cert.AdamW.firsts (m ((c.tc : Thread _ _).loc Cert.StepKernelIdeal.main_arg20)) (Cert.StepCall5.grad5 (m ((c.tc : Thread _ _).loc Cert.StepKernelIdeal.main_arg3))),
    fun c => Cert.AdamW.seconds (m ((c.tc : Thread _ _).loc Cert.StepKernelIdeal.main_arg21)) (Cert.StepCall5.grad5 (m ((c.tc : Thread _ _).loc Cert.StepKernelIdeal.main_arg3))),
    fun c => Cert.StepFold.gradUp (m ((c.tc : Thread _ _).loc Cert.StepKernelIdeal.main_arg6)) (m ((c.tc : Thread _ _).loc Cert.StepKernelIdeal.main_arg7)),
    fun c => Cert.AdamW.changes (Cert.StepFold.gradUp (m ((c.tc : Thread _ _).loc Cert.StepKernelIdeal.main_arg6)) (m ((c.tc : Thread _ _).loc Cert.StepKernelIdeal.main_arg7))) (m ((c.tc : Thread _ _).loc Cert.StepKernelIdeal.main_arg25)) (m ((c.tc : Thread _ _).loc Cert.StepKernelIdeal.main_arg26)) (m ((c.tc : Thread _ _).loc Cert.StepKernelIdeal.main_arg27)),
    fun c => Cert.AdamW.firsts (m ((c.tc : Thread _ _).loc Cert.StepKernelIdeal.main_arg26)) (Cert.StepFold.gradUp (m ((c.tc : Thread _ _).loc Cert.StepKernelIdeal.main_arg6)) (m ((c.tc : Thread _ _).loc Cert.StepKernelIdeal.main_arg7))),
    fun c => Cert.AdamW.seconds (m ((c.tc : Thread _ _).loc Cert.StepKernelIdeal.main_arg27)) (Cert.StepFold.gradUp (m ((c.tc : Thread _ _).loc Cert.StepKernelIdeal.main_arg6)) (m ((c.tc : Thread _ _).loc Cert.StepKernelIdeal.main_arg7))),
    fun c => Cert.StepCall6.grad6 (m ((c.tc : Thread _ _).loc Cert.StepKernelIdeal.main_arg4)) (m ((c.tc : Thread _ _).loc Cert.StepKernelIdeal.main_arg5)),
    fun c => Cert.AdamW.changes (Cert.StepCall6.grad6 (m ((c.tc : Thread _ _).loc Cert.StepKernelIdeal.main_arg4)) (m ((c.tc : Thread _ _).loc Cert.StepKernelIdeal.main_arg5))) (m ((c.tc : Thread _ _).loc Cert.StepKernelIdeal.main_arg22)) (m ((c.tc : Thread _ _).loc Cert.StepKernelIdeal.main_arg23)) (m ((c.tc : Thread _ _).loc Cert.StepKernelIdeal.main_arg24)),
    fun c => Cert.AdamW.firsts (m ((c.tc : Thread _ _).loc Cert.StepKernelIdeal.main_arg23)) (Cert.StepCall6.grad6 (m ((c.tc : Thread _ _).loc Cert.StepKernelIdeal.main_arg4)) (m ((c.tc : Thread _ _).loc Cert.StepKernelIdeal.main_arg5))),
    fun c => Cert.AdamW.seconds (m ((c.tc : Thread _ _).loc Cert.StepKernelIdeal.main_arg24)) (Cert.StepCall6.grad6 (m ((c.tc : Thread _ _).loc Cert.StepKernelIdeal.main_arg4)) (m ((c.tc : Thread _ _).loc Cert.StepKernelIdeal.main_arg5))), ?_, ?_⟩
  · refine (θ_run Cert.StepKernelIdeal.defs _ _).mono (fun r h c => ?_) (Cert.StepRun.results m g)
    obtain ⟨h1, h2, h3, h4, h5, h6, h7, h8, h9, h10, h11, h12, h13, h14, h15, h16, h17, h18, h19, h20, h21, h22, h23, h24, h25, h26, h27, h28, ha⟩ := h c
    exact ⟨h1.trans (Cert.StepFold.v32 m g c), h2.trans (Cert.StepFold.v33 m g c), h3.trans (Cert.StepFold.v34 m g c), h4.trans (Cert.StepFold.v35 m g c), h5.trans (Cert.StepFold.v13_0 m g c), h6.trans (Cert.StepFold.v13_1 m g c), h7.trans (Cert.StepFold.v13_2 m g c), h8.trans (Cert.StepFold.v13_3 m g c), h9.trans (Cert.StepFold.v18 m g c), h10.trans (Cert.StepFold.v19 m g c), h11.trans (Cert.StepFold.v20 m g c), h12.trans (Cert.StepFold.v21 m g c), h13.trans (Cert.StepFold.v22_0 m g c), h14.trans (Cert.StepFold.v22_1 m g c), h15.trans (Cert.StepFold.v22_2 m g c), h16.trans (Cert.StepFold.v22_3 m g c), h17.trans (Cert.StepFold.v23_0 m g c), h18.trans (Cert.StepFold.v23_1 m g c), h19.trans (Cert.StepFold.v23_2 m g c), h20.trans (Cert.StepFold.v23_3 m g c), h21.trans (Cert.StepFold.v9 m g c), h22.trans (Cert.StepFold.v10 m g c), h23.trans (Cert.StepFold.v11 m g c), h24.trans (Cert.StepFold.v12 m g c), h25.trans (Cert.StepFold.v24_0 m g c), h26.trans (Cert.StepFold.v24_1 m g c), h27.trans (Cert.StepFold.v24_2 m g c), h28.trans (Cert.StepFold.v24_3 m g c), ha⟩
  · refine (θ_run Cert.StepReferenceIdeal.defs _ _).mono (fun r h c => ?_) (Cert.StepReferenceIdeal.Value.run (F := Ideal) m' g')
    obtain ⟨h1, h2, h3, h4, h5, h6, h7, h8, h9, h10, h11, h12, h13, h14, h15, h16, h17, h18, h19, h20, h21, h22, h23, h24, h25, h26, h27, h28, ha⟩ := h c
    obtain ⟨e0, e1, e2, e3, e4, e5, e6, e7, e8, e9, e10, e11, e12, e13, e14, e15, e16, e17, e18, e19, e20, e21, e22, e23, e24, e25, e26, e27, e28, e29, e30⟩ := hargs c
    refine ⟨h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, ha⟩
    · show _ = Cert.StepFold.gradIn _ _
      rw [Cert.StepReferenceIdeal.Read.val_main_v5_eq, Cert.StepEquation.in_g, ← e8, ← e9] <;> rfl
    · show _ = Cert.AdamW.changes _ _ _ _
      rw [Cert.StepReferenceIdeal.Read.val_main_v29_eq, Cert.StepEquation.in_d, ← e8, ← e9, ← e28, ← e29, ← e30] <;> rfl
    · show _ = Cert.AdamW.firsts _ _
      rw [Cert.StepReferenceIdeal.Read.val_main_v10_eq, Cert.StepEquation.in_m, ← e8, ← e9, ← e29] <;> rfl
    · show _ = Cert.AdamW.seconds _ _
      rw [Cert.StepReferenceIdeal.Read.val_main_v16_eq, Cert.StepEquation.in_v, ← e8, ← e9, ← e30] <;> rfl
    · show _ = Cert.StepCall2.grad2 _
      rw [Cert.StepReferenceIdeal.Read.val_main_v32_eq, Cert.StepEquation.out_g, ← e0] <;> rfl
    · show _ = Cert.AdamW.changes _ _ _ _
      rw [Cert.StepReferenceIdeal.Read.val_main_v56_eq, Cert.StepEquation.out_d, ← e0, ← e10, ← e11, ← e12] <;> rfl
    · show _ = Cert.AdamW.firsts _ _
      rw [Cert.StepReferenceIdeal.Read.val_main_v37_eq, Cert.StepEquation.out_m, ← e0, ← e11] <;> rfl
    · show _ = Cert.AdamW.seconds _ _
      rw [Cert.StepReferenceIdeal.Read.val_main_v43_eq, Cert.StepEquation.out_v, ← e0, ← e12] <;> rfl
    · show _ = Cert.StepFold.gradKv _
      rw [Cert.StepReferenceIdeal.Read.val_main_v58_eq, Cert.StepEquation.kv_g, ← e1] <;> rfl
    · show _ = Cert.AdamW.changes _ _ _ _
      rw [Cert.StepReferenceIdeal.Read.val_main_v82_eq, Cert.StepEquation.kv_d, ← e1, ← e13, ← e14, ← e15] <;> rfl
    · show _ = Cert.AdamW.firsts _ _
      rw [Cert.StepReferenceIdeal.Read.val_main_v63_eq, Cert.StepEquation.kv_m, ← e1, ← e14] <;> rfl
    · show _ = Cert.AdamW.seconds _ _
      rw [Cert.StepReferenceIdeal.Read.val_main_v69_eq, Cert.StepEquation.kv_v, ← e1, ← e15] <;> rfl
    · show _ = Cert.StepCall4.grad4 _
      rw [Cert.StepReferenceIdeal.Read.val_main_v85_eq, Cert.StepEquation.q_g, ← e2] <;> rfl
    · show _ = Cert.AdamW.changes _ _ _ _
      rw [Cert.StepReferenceIdeal.Read.val_main_v109_eq, Cert.StepEquation.q_d, ← e2, ← e16, ← e17, ← e18] <;> rfl
    · show _ = Cert.AdamW.firsts _ _
      rw [Cert.StepReferenceIdeal.Read.val_main_v90_eq, Cert.StepEquation.q_m, ← e2, ← e17] <;> rfl
    · show _ = Cert.AdamW.seconds _ _
      rw [Cert.StepReferenceIdeal.Read.val_main_v96_eq, Cert.StepEquation.q_v, ← e2, ← e18] <;> rfl
    · show _ = Cert.StepCall5.grad5 _
      rw [Cert.StepReferenceIdeal.Read.val_main_v112_eq, Cert.StepEquation.o_g, ← e3] <;> rfl
    · show _ = Cert.AdamW.changes _ _ _ _
      rw [Cert.StepReferenceIdeal.Read.val_main_v136_eq, Cert.StepEquation.o_d, ← e3, ← e19, ← e20, ← e21] <;> rfl
    · show _ = Cert.AdamW.firsts _ _
      rw [Cert.StepReferenceIdeal.Read.val_main_v117_eq, Cert.StepEquation.o_m, ← e3, ← e20] <;> rfl
    · show _ = Cert.AdamW.seconds _ _
      rw [Cert.StepReferenceIdeal.Read.val_main_v123_eq, Cert.StepEquation.o_v, ← e3, ← e21] <;> rfl
    · show _ = Cert.StepFold.gradUp _ _
      rw [Cert.StepReferenceIdeal.Read.val_main_v142_eq, Cert.StepEquation.up_g, ← e6, ← e7] <;> rfl
    · show _ = Cert.AdamW.changes _ _ _ _
      rw [Cert.StepReferenceIdeal.Read.val_main_v166_eq, Cert.StepEquation.up_d, ← e6, ← e7, ← e25, ← e26, ← e27] <;> rfl
    · show _ = Cert.AdamW.firsts _ _
      rw [Cert.StepReferenceIdeal.Read.val_main_v147_eq, Cert.StepEquation.up_m, ← e6, ← e7, ← e26] <;> rfl
    · show _ = Cert.AdamW.seconds _ _
      rw [Cert.StepReferenceIdeal.Read.val_main_v153_eq, Cert.StepEquation.up_v, ← e6, ← e7, ← e27] <;> rfl
    · show _ = Cert.StepCall6.grad6 _ _
      rw [Cert.StepReferenceIdeal.Read.val_main_v172_eq, Cert.StepEquation.dn_g, ← e4, ← e5] <;> rfl
    · show _ = Cert.AdamW.changes _ _ _ _
      rw [Cert.StepReferenceIdeal.Read.val_main_v196_eq, Cert.StepEquation.dn_d, ← e4, ← e5, ← e22, ← e23, ← e24] <;> rfl
    · show _ = Cert.AdamW.firsts _ _
      rw [Cert.StepReferenceIdeal.Read.val_main_v177_eq, Cert.StepEquation.dn_m, ← e4, ← e5, ← e23] <;> rfl
    · show _ = Cert.AdamW.seconds _ _
      rw [Cert.StepReferenceIdeal.Read.val_main_v183_eq, Cert.StepEquation.dn_v, ← e4, ← e5, ← e24] <;> rfl

/-- The step's reference runs and leaves its arguments; it has no semaphore. -/
theorem step_reference_frame : Cert.quiescent_StepReferenceIdeal := fun m ρ _ =>
  (θ_run Cert.StepReferenceIdeal.defs _ _).mono (fun r h => ⟨fun c => (h c).2.2.2.2.2.2.2.2.2.2.2.2.2.2.2.2.2.2.2.2.2.2.2.2.2.2.2.2, sem_eq_zero_of_no_sems (by decide) r.2⟩)
    (Cert.StepReferenceIdeal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_finite2
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.StepKernel
public import proofs.«01_k».proof.Proof.Gen.StepKernel.Skeleton
public import proofs.«01_k».proof.Proof.Gen.StepKernel.Launch
public import proofs.«01_k».proof.Proof.Gen.StepKernel.Points
public import proofs.«01_k».proof.Proof.Gen.StepKernel.Frame
public import proofs.«01_k».proof.Proof.Gen.StepKernelIdeal
public import proofs.«01_k».proof.Proof.Gen.StepKernelIdeal.Skeleton
public import proofs.«01_k».proof.Proof.Gen.StepKernelIdeal.Launch
public import proofs.«01_k».proof.Proof.Gen.StepKernelIdeal.Points
public import proofs.«01_k».proof.Proof.Gen.StepKernelIdeal.Frame
public import proofs.«01_k».proof.Proof.Gen.StepReferenceIdeal
public import proofs.«01_k».proof.Proof.Gen.StepReferenceIdeal.Run
public import proofs.«01_k».proof.Proof.Gen.StepReferenceIdeal.Read
public import proofs.«01_k».proof.Proof.Ffn.Equation
public import proofs.«01_k».proof.Proof.Layer.Equation
public import proofs.«01_k».proof.Proof.Mix.Fold
public import proofs.«01_k».proof.Proof.Mix.Equation
public import proofs.«01_k».proof.Proof.Gen.Pre_finite4
public import proofs.«01_k».proof.Proof.In.Fold
public import proofs.«01_k».proof.Proof.In.Equation
public import proofs.«01_k».proof.Proof.Step.Fold
public import proofs.«01_k».proof.Proof.Step.Equation
public import proofs.«01_k».proof.Proof.Step.Claim
public import Idealize.ShloMosaic.Adequacy
public import Idealize.ShloMosaic.Init

@[expose] public section

noncomputable section

namespace Cert.Proof

open Idealize.ShloMosaic Idealize.SL.Sem Cert.Kernel

/-- The kernel and the reference end with equal results, from finite arguments. -/
theorem ffn_equal : Cert.algebraic_KernelIdeal_ReferenceIdeal_pre_finite := by
  intro m g m' g' hpre hargs
  refine ⟨fun c => Cert.FfnArray.G7 (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => Cert.FfnArray.G8 (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => Cert.FfnArray.G9 (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (θ_run Cert.KernelIdeal.defs _ _).mono (fun r h c => ?_) (Cert.KernelIdeal.Value.run_blocks (F := Ideal) m g)
    obtain ⟨h7, h8, h9, ha⟩ := h c
    exact ⟨h7.trans (Cert.FfnArray.final7 m c), h8.trans (Cert.FfnArray.final8 m c), h9.trans (Cert.FfnArray.final9 m c), ha⟩
  · refine (θ_run Cert.ReferenceIdeal.defs _ _).mono (fun r h c => ?_) (Cert.ReferenceIdeal.Value.run (F := Ideal) m' g')
    obtain ⟨h0, h1, h2, ha⟩ := h c
    obtain ⟨e0, e1, e2, e3⟩ := hargs c
    obtain ⟨rU, rD, rW, rB⟩ := Cert.FfnEquation.reals _ _ _ _ (hpre c)
    refine ⟨h0.trans ?_, h1.trans ?_, h2.trans ?_, ha⟩
    · show _ = Cert.FfnArray.G7 _ _ _ _
      rw [Cert.ReferenceIdeal.Read.val_main_v77_eq, Cert.FfnEquation.eq7 _ _ _ _ rU rD rW rB, ← e0, ← e1, ← e2, ← e3]
    · show _ = Cert.FfnArray.G8 _ _ _ _
      rw [Cert.ReferenceIdeal.Read.val_main_v82_eq, Cert.FfnEquation.eq8 _ _ _ _ rU rD rW rB, ← e0, ← e1, ← e2, ← e3]
    · show _ = Cert.FfnArray.G9 _ _ _ _
      rw [Cert.ReferenceIdeal.Read.val_main_v87_eq, Cert.FfnEquation.eq9 _ _ _ _ rU rD rW rB, ← e0, ← e1, ← e2, ← e3]

/-- The reference runs and leaves its arguments; it has no semaphore. -/
theorem ffn_reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The layer's chain of calls and the reference end with equal results, from finite arguments. -/
theorem layer_equal : Cert.algebraic_FfnKernelIdeal_FfnReferenceIdeal_pre_finite2 := by
  intro m g m' g' hpre hargs
  refine ⟨fun c => Cert.LayerFold.y (m ((c.tc : Thread _ _).loc Cert.FfnKernelIdeal.main_arg0)) (m ((c.tc : Thread _ _).loc Cert.FfnKernelIdeal.main_arg1)) (m ((c.tc : Thread _ _).loc Cert.FfnKernelIdeal.main_arg2)) (m ((c.tc : Thread _ _).loc Cert.FfnKernelIdeal.main_arg3)) (m ((c.tc : Thread _ _).loc Cert.FfnKernelIdeal.main_arg4)),
    fun c => Cert.LayerFold.dfn (m ((c.tc : Thread _ _).loc Cert.FfnKernelIdeal.main_arg0)) (m ((c.tc : Thread _ _).loc Cert.FfnKernelIdeal.main_arg1)) (m ((c.tc : Thread _ _).loc Cert.FfnKernelIdeal.main_arg2)) (m ((c.tc : Thread _ _).loc Cert.FfnKernelIdeal.main_arg3)) (m ((c.tc : Thread _ _).loc Cert.FfnKernelIdeal.main_arg4)) (m ((c.tc : Thread _ _).loc Cert.FfnKernelIdeal.main_arg5)),
    fun c => Cert.LayerFold.dwu (m ((c.tc : Thread _ _).loc Cert.FfnKernelIdeal.main_arg0)) (m ((c.tc : Thread _ _).loc Cert.FfnKernelIdeal.main_arg1)) (m ((c.tc : Thread _ _).loc Cert.FfnKernelIdeal.main_arg2)) (m ((c.tc : Thread _ _).loc Cert.FfnKernelIdeal.main_arg3)) (m ((c.tc : Thread _ _).loc Cert.FfnKernelIdeal.main_arg4)) (m ((c.tc : Thread _ _).loc Cert.FfnKernelIdeal.main_arg5)),
    fun c => Cert.LayerFold.dcw (m ((c.tc : Thread _ _).loc Cert.FfnKernelIdeal.main_arg0)) (m ((c.tc : Thread _ _).loc Cert.FfnKernelIdeal.main_arg1)) (m ((c.tc : Thread _ _).loc Cert.FfnKernelIdeal.main_arg2)) (m ((c.tc : Thread _ _).loc Cert.FfnKernelIdeal.main_arg3)) (m ((c.tc : Thread _ _).loc Cert.FfnKernelIdeal.main_arg4)) (m ((c.tc : Thread _ _).loc Cert.FfnKernelIdeal.main_arg5)),
    fun c => Cert.LayerFold.dcb (m ((c.tc : Thread _ _).loc Cert.FfnKernelIdeal.main_arg0)) (m ((c.tc : Thread _ _).loc Cert.FfnKernelIdeal.main_arg1)) (m ((c.tc : Thread _ _).loc Cert.FfnKernelIdeal.main_arg2)) (m ((c.tc : Thread _ _).loc Cert.FfnKernelIdeal.main_arg3)) (m ((c.tc : Thread _ _).loc Cert.FfnKernelIdeal.main_arg4)) (m ((c.tc : Thread _ _).loc Cert.FfnKernelIdeal.main_arg5)),
    fun c => Cert.LayerFold.dwd (m ((c.tc : Thread _ _).loc Cert.FfnKernelIdeal.main_arg0)) (m ((c.tc : Thread _ _).loc Cert.FfnKernelIdeal.main_arg1)) (m ((c.tc : Thread _ _).loc Cert.FfnKernelIdeal.main_arg2)) (m ((c.tc : Thread _ _).loc Cert.FfnKernelIdeal.main_arg3)) (m ((c.tc : Thread _ _).loc Cert.FfnKernelIdeal.main_arg5)), ?_, ?_⟩
  · refine (θ_run Cert.FfnKernelIdeal.defs _ _).mono (fun r h c => ?_) (Cert.LayerRun.results m g)
    obtain ⟨hy, hn, hu, hw, hb, hd, ha⟩ := h c
    exact ⟨hy.trans (Cert.LayerFold.v2_at8 m g c), hn.trans (Cert.LayerFold.v6_at8 m g c), hu.trans (Cert.LayerFold.v7_at8 m g c),
      hw.trans (Cert.LayerFold.v5_1_at8 m g c), hb.trans (Cert.LayerFold.v5_2_at8 m g c), hd.trans (Cert.LayerFold.v4_at8 m g c), ha⟩
  · refine (θ_run Cert.FfnReferenceIdeal.defs _ _).mono (fun r h c => ?_) (Cert.FfnReferenceIdeal.Value.run (F := Ideal) m' g')
    obtain ⟨hy, hn, hu, hw, hb, hd, ha⟩ := h c
    obtain ⟨e0, e1, e2, e3, e4, e5⟩ := hargs c
    obtain ⟨r0, r1, r2, r3, r4, r5⟩ := Cert.LayerEquation.reals _ _ _ _ _ _ (hpre c)
    refine ⟨hy.trans ?_, hn.trans ?_, hu.trans ?_, hw.trans ?_, hb.trans ?_, hd.trans ?_, ha⟩
    · show _ = Cert.LayerFold.y _ _ _ _ _
      rw [Cert.FfnReferenceIdeal.Read.val_main_v35_eq, Cert.LayerEquation.y_eq _ _ _ _ _, ← e0, ← e1, ← e2, ← e3, ← e4]
    · show _ = Cert.LayerFold.dfn _ _ _ _ _ _
      rw [Cert.FfnReferenceIdeal.Read.val_main_v83_eq, Cert.LayerEquation.dfn_eq _ _ _ _ _ _ r0 r1 r2 r3 r4 r5, ← e0, ← e1, ← e2, ← e3, ← e4, ← e5]
    · show _ = Cert.LayerFold.dwu _ _ _ _ _ _
      rw [Cert.FfnReferenceIdeal.Read.val_main_v86_eq, Cert.LayerEquation.dwu_eq _ _ _ _ _ _ r0 r1 r2 r3 r4 r5, ← e0, ← e1, ← e2, ← e3, ← e4, ← e5]
    · show _ = Cert.LayerFold.dcw _ _ _ _ _ _
      rw [Cert.FfnReferenceIdeal.Read.val_main_v91_eq, Cert.LayerEquation.dcw_eq _ _ _ _ _ _ r0 r1 r2 r3 r4 r5, ← e0, ← e1, ← e2, ← e3, ← e4, ← e5]
    · show _ = Cert.LayerFold.dcb _ _ _ _ _ _
      rw [Cert.FfnReferenceIdeal.Read.val_main_v96_eq, Cert.LayerEquation.dcb_eq _ _ _ _ _ _ r0 r1 r2 r3 r4 r5, ← e0, ← e1, ← e2, ← e3, ← e4, ← e5]
    · show _ = Cert.LayerFold.dwd _ _ _ _ _
      rw [Cert.FfnReferenceIdeal.Read.val_main_v97_eq, Cert.LayerEquation.dwd_eq _ _ _ _ _, ← e0, ← e1, ← e2, ← e3, ← e5]

/-- The layer's reference runs and leaves its arguments; it has no semaphore. -/
theorem layer_reference_frame : Cert.quiescent_FfnReferenceIdeal := fun m ρ _ =>
  (θ_run Cert.FfnReferenceIdeal.defs _ _).mono (fun r h => ⟨fun c => (h c).2.2.2.2.2.2, sem_eq_zero_of_no_sems (by decide) r.2⟩)
    (Cert.FfnReferenceIdeal.Value.run (F := Ideal) m ρ)

/-- The projections' calls and the reference end with equal results. -/
theorem mix_equal : Cert.algebraic_MixKernelIdeal_MixReferenceIdeal := by
  intro m g m' g' _ hargs
  refine ⟨fun c => Cert.MixProducts.nn_2048_2048_1024 (Cert.MixFold.yn m c) (m ((c.tc : Thread _ _).loc Cert.MixKernelIdeal.main_arg3)),
    fun c => Cert.MixProducts.nt_1024_2048_1024 (m ((c.tc : Thread _ _).loc Cert.MixKernelIdeal.main_arg4)) (m ((c.tc : Thread _ _).loc Cert.MixKernelIdeal.main_arg3)),
    fun c => Cert.MixProducts.tn_2048_1024 (Cert.MixFold.yn m c) (m ((c.tc : Thread _ _).loc Cert.MixKernelIdeal.main_arg4)),
    fun c => Cert.MixProducts.nn_1024_1024_512 (m ((c.tc : Thread _ _).loc Cert.MixKernelIdeal.main_arg7)) (m ((c.tc : Thread _ _).loc Cert.MixKernelIdeal.main_arg8)),
    fun c => Cert.MixProducts.nn_1024_1024_1024 (m ((c.tc : Thread _ _).loc Cert.MixKernelIdeal.main_arg5)) (m ((c.tc : Thread _ _).loc Cert.MixKernelIdeal.main_arg6)),
    fun c => Cert.MixProducts.nn_1024_1024_1024 (m ((c.tc : Thread _ _).loc Cert.MixKernelIdeal.main_arg9)) (m ((c.tc : Thread _ _).loc Cert.MixKernelIdeal.main_arg10)),
    fun c => Cert.MixProducts.nt_1024_1024_1024 (m ((c.tc : Thread _ _).loc Cert.MixKernelIdeal.main_arg11)) (m ((c.tc : Thread _ _).loc Cert.MixKernelIdeal.main_arg10)),
    fun c => Cert.MixProducts.tn_1024_1024 (m ((c.tc : Thread _ _).loc Cert.MixKernelIdeal.main_arg9)) (m ((c.tc : Thread _ _).loc Cert.MixKernelIdeal.main_arg11)),
    fun c => Cert.MixProducts.nt_1024_1024_1024 (m ((c.tc : Thread _ _).loc Cert.MixKernelIdeal.main_arg12)) (m ((c.tc : Thread _ _).loc Cert.MixKernelIdeal.main_arg6)),
    fun c => Cert.MixProducts.tn_1024_1024 (m ((c.tc : Thread _ _).loc Cert.MixKernelIdeal.main_arg5)) (m ((c.tc : Thread _ _).loc Cert.MixKernelIdeal.main_arg12)),
    fun c => Cert.MixProducts.nt_512_1024_512 (m ((c.tc : Thread _ _).loc Cert.MixKernelIdeal.main_arg13)) (m ((c.tc : Thread _ _).loc Cert.MixKernelIdeal.main_arg8)),
    fun c => Cert.MixProducts.tn_1024_512 (m ((c.tc : Thread _ _).loc Cert.MixKernelIdeal.main_arg7)) (m ((c.tc : Thread _ _).loc Cert.MixKernelIdeal.main_arg13)), ?_, ?_⟩
  · refine (θ_run Cert.MixKernelIdeal.defs _ _).mono (fun r h c => ?_) (Cert.MixRun.results m g)
    obtain ⟨h1, h2, h3, h4, h5, h6, h7, h8, h9, h10, h11, h12, ha⟩ := h c
    exact ⟨h1.trans (Cert.MixFold.v1_end m g c), h2.trans (Cert.MixFold.v2_end m g c), h3.trans (Cert.MixFold.v3_end m g c), h4.trans (Cert.MixFold.v4_end m g c), h5.trans (Cert.MixFold.v5_end m g c), h6.trans (Cert.MixFold.v6_end m g c), h7.trans (Cert.MixFold.v7_end m g c), h8.trans (Cert.MixFold.v8_end m g c), h9.trans (Cert.MixFold.v9_end m g c), h10.trans (Cert.MixFold.v10_end m g c), h11.trans (Cert.MixFold.v11_end m g c), h12.trans (Cert.MixFold.v12_end m g c), ha⟩
  · refine (θ_run Cert.MixReferenceIdeal.defs _ _).mono (fun r h c => ?_) (Cert.MixReferenceIdeal.Value.run (F := Ideal) m' g')
    obtain ⟨h1, h2, h3, h4, h5, h6, h7, h8, h9, h10, h11, h12, ha⟩ := h c
    obtain ⟨e0, e1, e2, e3, e4, e5, e6, e7, e8, e9, e10, e11, e12, e13⟩ := hargs c
    refine ⟨h1.trans ?_, h2.trans ?_, h3.trans ?_, h4.trans ?_, h5.trans ?_, h6.trans ?_, h7.trans ?_, h8.trans ?_, h9.trans ?_, h10.trans ?_, h11.trans ?_, h12.trans ?_, ha⟩
    · show _ = Cert.MixProducts.nn_2048_2048_1024 _ _
      rw [Cert.MixReferenceIdeal.Read.val_main_v15_eq, ← Cert.MixEquation.eq1, e0, e1, e2, e3]
    · show _ = Cert.MixProducts.nt_1024_2048_1024 _ _
      rw [Cert.MixReferenceIdeal.Read.val_main_v19_eq, ← Cert.MixEquation.eq2, e3, e4]
    · show _ = Cert.MixProducts.tn_2048_1024 _ _
      rw [Cert.MixReferenceIdeal.Read.val_main_v20_eq, ← Cert.MixEquation.eq3, e0, e1, e2, e4]
    · show _ = Cert.MixProducts.nn_1024_1024_512 _ _
      rw [Cert.MixReferenceIdeal.Read.val_main_v23_eq, ← Cert.MixEquation.eq4, e7, e8]
    · show _ = Cert.MixProducts.nn_1024_1024_1024 _ _
      rw [Cert.MixReferenceIdeal.Read.val_main_v31_eq, ← Cert.MixEquation.eq5, e5, e6]
    · show _ = Cert.MixProducts.nn_1024_1024_1024 _ _
      rw [Cert.MixReferenceIdeal.Read.val_main_v39_eq, ← Cert.MixEquation.eq6, e9, e10]
    · show _ = Cert.MixProducts.nt_1024_1024_1024 _ _
      rw [Cert.MixReferenceIdeal.Read.val_main_v43_eq, ← Cert.MixEquation.eq7, e10, e11]
    · show _ = Cert.MixProducts.tn_1024_1024 _ _
      rw [Cert.MixReferenceIdeal.Read.val_main_v44_eq, ← Cert.MixEquation.eq8, e9, e11]
    · show _ = Cert.MixProducts.nt_1024_1024_1024 _ _
      rw [Cert.MixReferenceIdeal.Read.val_main_v35_eq, ← Cert.MixEquation.eq9, e6, e12]
    · show _ = Cert.MixProducts.tn_1024_1024 _ _
      rw [Cert.MixReferenceIdeal.Read.val_main_v36_eq, ← Cert.MixEquation.eq10, e5, e12]
    · show _ = Cert.MixProducts.nt_512_1024_512 _ _
      rw [Cert.MixReferenceIdeal.Read.val_main_v27_eq, ← Cert.MixEquation.eq11, e8, e13]
    · show _ = Cert.MixProducts.tn_1024_512 _ _
      rw [Cert.MixReferenceIdeal.Read.val_main_v28_eq, ← Cert.MixEquation.eq12, e7, e13]

/-- The projections' reference runs and leaves its arguments; it has no semaphore. -/
theorem mix_reference_frame : Cert.quiescent_MixReferenceIdeal := fun m ρ _ =>
  (θ_run Cert.MixReferenceIdeal.defs _ _).mono (fun r h => ⟨fun c => (h c).2.2.2.2.2.2.2.2.2.2.2.2, sem_eq_zero_of_no_sems (by decide) r.2⟩)
    (Cert.MixReferenceIdeal.Value.run (F := Ideal) m ρ)

/-- At real arguments the mixer's entry computes the reference's six results. -/
theorem in_equal : Cert.algebraic_InKernelIdeal_InReferenceIdeal_pre_finite4 := by
  intro m g m' g' hpre hargs
  refine ⟨fun c => Cert.InFold.zx (m ((c.tc : Thread _ _).loc Cert.InKernelIdeal.main_arg0)) (m ((c.tc : Thread _ _).loc Cert.InKernelIdeal.main_arg1)),
    fun c => Cert.InFold.xbc (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)),
    fun c => Cert.InFold.dhn (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)) (m ((c.tc : Thread _ _).loc Cert.InKernelIdeal.main_arg4)) (m ((c.tc : Thread _ _).loc Cert.InKernelIdeal.main_arg5)) (m ((c.tc : Thread _ _).loc Cert.InKernelIdeal.main_arg6)) (m ((c.tc : Thread _ _).loc Cert.InKernelIdeal.main_arg7)),
    fun c => Cert.InFold.dw_in (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)) (m ((c.tc : Thread _ _).loc Cert.InKernelIdeal.main_arg4)) (m ((c.tc : Thread _ _).loc Cert.InKernelIdeal.main_arg5)) (m ((c.tc : Thread _ _).loc Cert.InKernelIdeal.main_arg6)) (m ((c.tc : Thread _ _).loc Cert.InKernelIdeal.main_arg7)),
    fun c => Cert.InFold.dcw (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)) (m ((c.tc : Thread _ _).loc Cert.InKernelIdeal.main_arg4)) (m ((c.tc : Thread _ _).loc Cert.InKernelIdeal.main_arg5)) (m ((c.tc : Thread _ _).loc Cert.InKernelIdeal.main_arg6)),
    fun c => Cert.InFold.dcb (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)) (m ((c.tc : Thread _ _).loc Cert.InKernelIdeal.main_arg4)) (m ((c.tc : Thread _ _).loc Cert.InKernelIdeal.main_arg5)) (m ((c.tc : Thread _ _).loc Cert.InKernelIdeal.main_arg6)), ?_, ?_⟩
  · refine (θ_run Cert.InKernelIdeal.defs _ _).mono (fun r h c => ?_) (Cert.InRun.results m g)
    obtain ⟨h1, h2, h3, h4, h5, h6, ha⟩ := h c
    exact ⟨h1.trans (Cert.InFold.v0_at6 m g c), h2.trans (Cert.InFold.v1_at6 m g c), h3.trans (Cert.InFold.v4_at6 m g c), h4.trans (Cert.InFold.v3_at6 m g c), h5.trans (Cert.InFold.v2_1_at6 m g c), h6.trans (Cert.InFold.v2_2_at6 m g c), ha⟩
  · refine (θ_run Cert.InReferenceIdeal.defs _ _).mono (fun r h c => ?_) (Cert.InReferenceIdeal.Value.run (F := Ideal) m' g')
    obtain ⟨h1, h2, h3, h4, h5, h6, ha⟩ := h c
    obtain ⟨e0, e1, e2, e3, e4, e5, e6, e7⟩ := hargs c
    obtain ⟨r0, r1, r2, r3, r4, r5, r6⟩ := Cert.InEquation.reals _ _ _ _ _ _ _ _ (hpre c)
    refine ⟨h1.trans ?_, h2.trans ?_, h3.trans ?_, h4.trans ?_, h5.trans ?_, h6.trans ?_, ha⟩
    · show _ = Cert.InFold.zx _ _
      rw [Cert.InReferenceIdeal.Read.val_main_v2_eq, Cert.InEquation.zx_eq _ _, ← e0, ← e1]
    · show _ = Cert.InFold.xbc _ _ _ _
      rw [Cert.InReferenceIdeal.Read.val_main_v39_0_eq, Cert.InEquation.xbc_eq _ _ _ _, ← e0, ← e1, ← e2, ← e3]
    · show _ = Cert.InFold.dhn _ _ _ _ _ _ _ _
      rw [Cert.InReferenceIdeal.Read.val_main_v100_eq, Cert.InEquation.dhn_eq _ _ _ _ _ _ _ _ r0 r1 r2 r3 r4 r5 r6, ← e0, ← e1, ← e2, ← e3, ← e4, ← e5, ← e6, ← e7]
    · show _ = Cert.InFold.dw_in _ _ _ _ _ _ _ _
      rw [Cert.InReferenceIdeal.Read.val_main_v101_eq, Cert.InEquation.dw_in_eq _ _ _ _ _ _ _ _ r0 r1 r2 r3 r4 r5 r6, ← e0, ← e1, ← e2, ← e3, ← e4, ← e5, ← e6, ← e7]
    · show _ = Cert.InFold.dcw _ _ _ _ _ _ _
      rw [Cert.InReferenceIdeal.Read.val_main_v89_eq, Cert.InEquation.dcw_eq _ _ _ _ _ _ _ r0 r1 r2 r3 r4 r5 r6, ← e0, ← e1, ← e2, ← e3, ← e4, ← e5, ← e6]
    · show _ = Cert.InFold.dcb _ _ _ _ _ _ _
      rw [Cert.InReferenceIdeal.Read.val_main_v49_eq, Cert.InEquation.dcb_eq _ _ _ _ _ _ _ r0 r1 r2 r3 r4 r5 r6, ← e0, ← e1, ← e2, ← e3, ← e4, ← e5, ← e6]

/-- The reference of the mixer's entry runs and leaves its arguments; it has no semaphore. -/
theorem in_reference_frame : Cert.quiescent_InReferenceIdeal := fun m ρ _ =>
  (θ_run Cert.InReferenceIdeal.defs _ _).mono (fun r h => ⟨fun c => (h c).2.2.2.2.2.2, sem_eq_zero_of_no_sems (by decide) r.2⟩)
    (Cert.InReferenceIdeal.Value.run (F := Ideal) m ρ)

theorem claim : Cert.Claim := ⟨Cert.Kernel.Gen.facts, Cert.KernelIdeal.Gen.facts, Cert.ReferenceIdeal.Gen.facts, Cert.FfnKernel.Gen.facts,
  Cert.FfnKernelIdeal.Gen.facts, Cert.FfnReferenceIdeal.Gen.facts, Cert.MixKernel.Gen.facts, Cert.MixKernelIdeal.Gen.facts, Cert.MixReferenceIdeal.Gen.facts,
  Cert.InKernel.Gen.facts, Cert.InKernelIdeal.Gen.facts, Cert.InReferenceIdeal.Gen.facts,
  Cert.StepKernel.Gen.facts, Cert.StepKernelIdeal.Gen.facts, Cert.StepReferenceIdeal.Gen.facts, Cert.Pre_finite.Gen.facts, Cert.Pre_finite2.Gen.facts, Cert.Pre_finite4.Gen.facts,
  fun m ρ _ => Cert.Kernel.Gen.frame m ρ, fun m ρ _ => Cert.KernelIdeal.Gen.frame m ρ, fun m ρ _ => Cert.KernelIdeal.Gen.frame m ρ,
  ffn_reference_frame, fun m ρ _ => ffn_reference_frame m ρ trivial,
  fun m ρ _ => Cert.FfnKernel.Gen.frame m ρ, fun m ρ _ => Cert.FfnKernelIdeal.Gen.frame m ρ, fun m ρ _ => Cert.FfnKernelIdeal.Gen.frame m ρ,
  layer_reference_frame, fun m ρ _ => layer_reference_frame m ρ trivial,
  fun m ρ _ => Cert.MixKernel.Gen.frame m ρ, fun m ρ _ => Cert.MixKernelIdeal.Gen.frame m ρ, mix_reference_frame,
  fun m ρ _ => Cert.InKernel.Gen.frame m ρ, fun m ρ _ => Cert.InKernelIdeal.Gen.frame m ρ, fun m ρ _ => Cert.InKernelIdeal.Gen.frame m ρ,
  in_reference_frame, fun m ρ _ => in_reference_frame m ρ trivial,
  fun m ρ _ => Cert.StepKernel.Gen.frame m ρ, fun m ρ _ => Cert.StepKernelIdeal.Gen.frame m ρ, step_reference_frame,
  trivial, ffn_equal, trivial, layer_equal, trivial, mix_equal, trivial, in_equal, trivial, step_equal⟩

end Cert.Proof

end
